-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v68_0)) (v1 : (c : Dev Cert.KernelIdeal.nD) → Buf (Elt Ideal) ((c.tc : Thread Cert.KernelIdeal.nD Cert.KernelIdeal.τ).loc Cert.KernelIdeal.main_v68_1)) (v2 : (c : Dev Cert.KernelIdeal.nD) → Buf (Elt Ideal) ((c.tc : Thread Cert.KernelIdeal.nD Cert.KernelIdeal.τ).loc Cert.KernelIdeal.main_v68_2)) (v3 : (c : Dev Cert.KernelIdeal.nD) → Buf (Elt Ideal) ((c.tc : Thread Cert.KernelIdeal.nD Cert.KernelIdeal.τ).loc Cert.KernelIdeal.main_v68_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68_0) = v0 c
          ∧ r.2.mem ((c.tc : Thread Cert.KernelIdeal.nD Cert.KernelIdeal.τ).loc Cert.KernelIdeal.main_v68_1) = v1 c
          ∧ r.2.mem ((c.tc : Thread Cert.KernelIdeal.nD Cert.KernelIdeal.τ).loc Cert.KernelIdeal.main_v68_2) = v2 c
          ∧ r.2.mem ((c.tc : Thread Cert.KernelIdeal.nD Cert.KernelIdeal.τ).loc Cert.KernelIdeal.main_v68_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v316) = v0 c
          ∧ r.2.mem ((c.tc : Thread Cert.ReferenceIdeal.nD Cert.ReferenceIdeal.τ).loc Cert.ReferenceIdeal.main_v319) = v1 c
          ∧ r.2.mem ((c.tc : Thread Cert.ReferenceIdeal.nD Cert.ReferenceIdeal.τ).loc Cert.ReferenceIdeal.main_v322) = v2 c
          ∧ r.2.mem ((c.tc : Thread Cert.ReferenceIdeal.nD Cert.ReferenceIdeal.τ).loc Cert.ReferenceIdeal.main_v324) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v6) = v2 c
          ∧ r.2.mem ((c.tc : Thread Cert.Reference21Ideal.nD Cert.Reference21Ideal.τ).loc Cert.Reference21Ideal.main_v12) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v1) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v6) = v2 c
          ∧ r.2.mem ((c.tc : Thread Cert.Reference22Ideal.nD Cert.Reference22Ideal.τ).loc Cert.Reference22Ideal.main_v12) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v6) = v2 c
          ∧ r.2.mem ((c.tc : Thread Cert.Reference23Ideal.nD Cert.Reference23Ideal.τ).loc Cert.Reference23Ideal.main_v12) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_v25) = v1 c
          ∧ r.2.mem ((c.tc : Thread Cert.Reference24Ideal.nD Cert.Reference24Ideal.τ).loc Cert.Reference24Ideal.main_v6) = v2 c
          ∧ r.2.mem ((c.tc : Thread Cert.Reference24Ideal.nD Cert.Reference24Ideal.τ).loc Cert.Reference24Ideal.main_v12) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v1) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v6) = v2 c
          ∧ r.2.mem ((c.tc : Thread Cert.Reference25Ideal.nD Cert.Reference25Ideal.τ).loc Cert.Reference25Ideal.main_v12) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v1) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_v6) = v2 c
          ∧ r.2.mem ((c.tc : Thread Cert.Reference26Ideal.nD Cert.Reference26Ideal.τ).loc Cert.Reference26Ideal.main_v12) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v1) = v0 c
          ∧ r.2.mem ((c.tc : Thread Cert.Reference27Ideal.nD Cert.Reference27Ideal.τ).loc Cert.Reference27Ideal.main_v25) = v1 c
          ∧ r.2.mem ((c.tc : Thread Cert.Reference27Ideal.nD Cert.Reference27Ideal.τ).loc Cert.Reference27Ideal.main_v6) = v2 c
          ∧ r.2.mem ((c.tc : Thread Cert.Reference27Ideal.nD Cert.Reference27Ideal.τ).loc Cert.Reference27Ideal.main_v12) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v1) = v0 c
          ∧ r.2.mem ((c.tc : Thread Cert.Reference28Ideal.nD Cert.Reference28Ideal.τ).loc Cert.Reference28Ideal.main_v25) = v1 c
          ∧ r.2.mem ((c.tc : Thread Cert.Reference28Ideal.nD Cert.Reference28Ideal.τ).loc Cert.Reference28Ideal.main_v6) = v2 c
          ∧ r.2.mem ((c.tc : Thread Cert.Reference28Ideal.nD Cert.Reference28Ideal.τ).loc Cert.Reference28Ideal.main_v12) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v1) = v0 c
          ∧ r.2.mem ((c.tc : Thread Cert.Reference29Ideal.nD Cert.Reference29Ideal.τ).loc Cert.Reference29Ideal.main_v25) = v1 c
          ∧ r.2.mem ((c.tc : Thread Cert.Reference29Ideal.nD Cert.Reference29Ideal.τ).loc Cert.Reference29Ideal.main_v6) = v2 c
          ∧ r.2.mem ((c.tc : Thread Cert.Reference29Ideal.nD Cert.Reference29Ideal.τ).loc Cert.Reference29Ideal.main_v12) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
-- ==== Pre_finite.lean ====
abbrev S8320x3328 : Shape := ⟨2, ![8320, 3328]⟩
abbrev S16 : Shape := ⟨1, ![16]⟩
abbrev S8320x2048 : Shape := ⟨2, ![8320, 2048]⟩
abbrev S8320x1280 : Shape := ⟨2, ![8320, 1280]⟩
abbrev S_ : Shape := ⟨0, ![]⟩
abbrev S8320x1024 : Shape := ⟨2, ![8320, 1024]⟩

class Facts : Prop where
  slices_S8320x3328_S8320x1280_0_2048 : S8320x3328.Slices ![0, 2048] S8320x1280
  bcast_S_S8320x1280 : S_.BroadcastsInDim S8320x1280 (![] : Fin 0 → Fin S8320x1280.rank)
  reducesTo_S8320x1280_S_d0_1 : S8320x1280.ReducesTo [0, 1] S_
  h_S_ : 0 < S_.numel
  bcast_S_S16 : S_.BroadcastsInDim S16 (![] : Fin 0 → Fin S16.rank)
  reducesTo_S16_S_d0 : S16.ReducesTo [0] S_
  slices_S8320x2048_S8320x1024_0_1024 : S8320x2048.Slices ![0, 1024] S8320x1024
  bcast_S_S8320x1024 : S_.BroadcastsInDim S8320x1024 (![] : Fin 0 → Fin S8320x1024.rank)
  reducesTo_S8320x1024_S_d0_1 : S8320x1024.ReducesTo [0, 1] S_

variable [Facts]

def fn {F : FTy → Type} [FloatOps F] (main_arg0 : FVec F S8320x3328 .f32) (main_arg1 : FVec F S16 .f32) (main_arg2 : FVec F S8320x2048 .f32) : IVec S_ 1 :=
  let main_v0 : FVec F S8320x1280 .f32 := (extractStridedSlice S8320x1280 ![0, 2048] · slices_S8320x3328_S8320x1280_0_2048) main_arg0
  let main_v1 : FVec F S8320x1280 .f32 := Host.absf main_v0
  let main_cst : FVec F S_ .f32 := constant S_ .f32 0x7F800000#32
  let main_v2 : FVec F S8320x1280 .f32 := broadcastInDim S8320x1280 ![] bcast_S_S8320x1280 main_cst
  let main_v3 : IVec S8320x1280 1 := cmpf .olt main_v1 main_v2
  let main_c : IVec S_ 1 := constantI S_ 1 1#1
  let main_v4 : IVec S_ 1 := (fun x v => Host.reduce IntOp.andi x v reducesTo_S8320x1280_S_d0_1 h_S_) main_v3 main_c
  let main_v5 : FVec F S16 .f32 := Host.absf main_arg1
  let main_cst_0 : FVec F S_ .f32 := constant S_ .f32 0x7F800000#32
  let main_v6 : FVec F S16 .f32 := broadcastInDim S16 ![] bcast_S_S16 main_cst_0
  let main_v7 : IVec S16 1 := cmpf .olt main_v5 main_v6
  let main_c_1 : IVec S_ 1 := constantI S_ 1 1#1
  let main_v8 : IVec S_ 1 := (fun x v => Host.reduce IntOp.andi x v reducesTo_S16_S_d0 h_S_) main_v7 main_c_1
  let main_v9 : IVec S_ 1 := andi main_v4 main_v8
  let main_v10 : FVec F S8320x1024 .f32 := (extractStridedSlice S8320x1024 ![0, 1024] · slices_S8320x2048_S8320x1024_0_1024) main_arg2
  let main_v11 : FVec F S8320x1024 .f32 := Host.absf main_v10
  let main_cst_2 : FVec F S_ .f32 := constant S_ .f32 0x7F800000#32
  let main_v12 : FVec F S8320x1024 .f32 := broadcastInDim S8320x1024 ![] bcast_S_S8320x1024 main_cst_2
  let main_v13 : IVec S8320x1024 1 := cmpf .olt main_v11 main_v12
  let main_c_3 : IVec S_ 1 := constantI S_ 1 1#1
  let main_v14 : IVec S_ 1 := (fun x v => Host.reduce IntOp.andi x v reducesTo_S8320x1024_S_d0_1 h_S_) main_v13 main_c_3
  let main_v15 : IVec S_ 1 := andi main_v9 main_v14
  main_v15
-- ==== Kernel.lean ====
abbrev S8320x3328 : Shape := ⟨2, ![8320, 3328]⟩
abbrev S16 : Shape := ⟨1, ![16]⟩
abbrev S8320x2048 : Shape := ⟨2, ![8320, 2048]⟩
abbrev S_ : Shape := ⟨0, ![]⟩
abbrev S1x128 : Shape := ⟨2, ![1, 128]⟩
abbrev S1 : Shape := ⟨1, ![1]⟩
abbrev S2 : Shape := ⟨1, ![2]⟩
abbrev S3x2x2x4x128x384 : Shape := ⟨6, ![3, 2, 2, 4, 128, 384]⟩
abbrev S3x4x512x384 : Shape := ⟨4, ![3, 4, 512, 384]⟩
abbrev S8320x1024 : Shape := ⟨2, ![8320, 1024]⟩
abbrev S8320x128 : Shape := ⟨2, ![8320, 128]⟩
abbrev S128x1024 : Shape := ⟨2, ![128, 1024]⟩
abbrev S128x128 : Shape := ⟨2, ![128, 128]⟩
abbrev S1x4x512x384 : Shape := ⟨4, ![1, 4, 512, 384]⟩
abbrev S384x128 : Shape := ⟨2, ![384, 128]⟩
abbrev S512x128 : Shape := ⟨2, ![512, 128]⟩
abbrev S512x384 : Shape := ⟨2, ![512, 384]⟩
abbrev S1x1x512x384 : Shape := ⟨4, ![1, 1, 512, 384]⟩
abbrev S1x1 : Shape := ⟨2, ![1, 1]⟩
abbrev S128x1 : Shape := ⟨2, ![128, 1]⟩
abbrev S512x1 : Shape := ⟨2, ![512, 1]⟩
abbrev S512 : Shape := ⟨1, ![512]⟩
abbrev S384x512 : Shape := ⟨2, ![384, 512]⟩

abbrev nBuf : Space → Nat
  | .hbm => 101
  | .vmem => 28
  | .smem => 0
  | _ => 0

abbrev bufTy : (tb : Table) → Fin (tcTables nBuf tb) → BufTy
  | .hbm, ⟨0, _⟩ => ⟨S8320x3328, .f32⟩
  | .hbm, ⟨1, _⟩ => ⟨S16, .f32⟩
  | .hbm, ⟨2, _⟩ => ⟨S8320x2048, .f32⟩
  | .hbm, ⟨3, _⟩ => ⟨S_, .f32⟩
  | .hbm, ⟨4, _⟩ => ⟨S1x128, .f32⟩
  | .hbm, ⟨5, _⟩ => ⟨S_, .i32⟩
  | .hbm, ⟨6, _⟩ => ⟨S1, .i32⟩
  | .hbm, ⟨7, _⟩ => ⟨S_, .i32⟩
  | .hbm, ⟨8, _⟩ => ⟨S1, .i32⟩
  | .hbm, ⟨9, _⟩ => ⟨S2, .i32⟩
  | .hbm, ⟨10, _⟩ => ⟨S1x128, .f32⟩
  | .hbm, ⟨11, _⟩ => ⟨S3x2x2x4x128x384, .i32⟩
  | .hbm, ⟨12, _⟩ => ⟨S3x2x2x4x128x384, .i32⟩
  | .hbm, ⟨13, _⟩ => ⟨S3x2x2x4x128x384, .i32⟩
  | .hbm, ⟨14, _⟩ => ⟨S3x2x2x4x128x384, .i32⟩
  | .hbm, ⟨15, _⟩ => ⟨S3x2x2x4x128x384, .i32⟩
  | .hbm, ⟨16, _⟩ => ⟨S3x2x2x4x128x384, .i32⟩
  | .hbm, ⟨17, _⟩ => ⟨S_, .i32⟩
  | .hbm, ⟨18, _⟩ => ⟨S3x2x2x4x128x384, .i32⟩
  | .hbm, ⟨19, _⟩ => ⟨S3x2x2x4x128x384, .i32⟩
  | .hbm, ⟨20, _⟩ => ⟨S3x2x2x4x128x384, .i32⟩
  | .hbm, ⟨21, _⟩ => ⟨S_, .i32⟩
  | .hbm, ⟨22, _⟩ => ⟨S3x2x2x4x128x384, .i32⟩
  | .hbm, ⟨23, _⟩ => ⟨S3x2x2x4x128x384, .i32⟩
  | .hbm, ⟨24, _⟩ => ⟨S_, .i32⟩
  | .hbm, ⟨25, _⟩ => ⟨S3x2x2x4x128x384, .i32⟩
  | .hbm, ⟨26, _⟩ => ⟨S3x2x2x4x128x384, .i32⟩
  | .hbm, ⟨27, _⟩ => ⟨S_, .i32⟩
  | .hbm, ⟨28, _⟩ => ⟨S3x2x2x4x128x384, .i32⟩
  | .hbm, ⟨29, _⟩ => ⟨S3x2x2x4x128x384, .i32⟩
  | .hbm, ⟨30, _⟩ => ⟨S3x2x2x4x128x384, .i32⟩
  | .hbm, ⟨31, _⟩ => ⟨S_, .i32⟩
  | .hbm, ⟨32, _⟩ => ⟨S3x2x2x4x128x384, .i32⟩
  | .hbm, ⟨33, _⟩ => ⟨S3x2x2x4x128x384, .i32⟩
  | .hbm, ⟨34, _⟩ => ⟨S3x2x2x4x128x384, .i32⟩
  | .hbm, ⟨35, _⟩ => ⟨S_, .i32⟩
  | .hbm, ⟨36, _⟩ => ⟨S3x2x2x4x128x384, .i32⟩
  | .hbm, ⟨37, _⟩ => ⟨S3x2x2x4x128x384, .i1⟩
  | .hbm, ⟨38, _⟩ => ⟨S_, .i32⟩
  | .hbm, ⟨39, _⟩ => ⟨S3x2x2x4x128x384, .i32⟩
  | .hbm, ⟨40, _⟩ => ⟨S3x2x2x4x128x384, .i1⟩
  | .hbm, ⟨41, _⟩ => ⟨S3x2x2x4x128x384, .i1⟩
  | .hbm, ⟨42, _⟩ => ⟨S_, .i32⟩
  | .hbm, ⟨43, _⟩ => ⟨S3x2x2x4x128x384, .i32⟩
  | .hbm, ⟨44, _⟩ => ⟨S3x2x2x4x128x384, .i1⟩
  | .hbm, ⟨45, _⟩ => ⟨S3x2x2x4x128x384, .i1⟩
  | .hbm, ⟨46, _⟩ => ⟨S_, .i32⟩
  | .hbm, ⟨47, _⟩ => ⟨S3x2x2x4x128x384, .i32⟩
  | .hbm, ⟨48, _⟩ => ⟨S3x2x2x4x128x384, .i32⟩
  | .hbm, ⟨49, _⟩ => ⟨S_, .i32⟩
  | .hbm, ⟨50, _⟩ => ⟨S3x2x2x4x128x384, .i32⟩
  | .hbm, ⟨51, _⟩ => ⟨S3x2x2x4x128x384, .i32⟩
  | .hbm, ⟨52, _⟩ => ⟨S3x2x2x4x128x384, .i32⟩
  | .hbm, ⟨53, _⟩ => ⟨S_, .i32⟩
  | .hbm, ⟨54, _⟩ => ⟨S3x2x2x4x128x384, .i32⟩
  | .hbm, ⟨55, _⟩ => ⟨S3x2x2x4x128x384, .i1⟩
  | .hbm, ⟨56, _⟩ => ⟨S_, .i32⟩
  | .hbm, ⟨57, _⟩ => ⟨S3x2x2x4x128x384, .i32⟩
  | .hbm, ⟨58, _⟩ => ⟨S3x2x2x4x128x384, .i1⟩
  | .hbm, ⟨59, _⟩ => ⟨S3x2x2x4x128x384, .i1⟩
  | .hbm, ⟨60, _⟩ => ⟨S_, .i32⟩
  | .hbm, ⟨61, _⟩ => ⟨S3x2x2x4x128x384, .i32⟩
  | .hbm, ⟨62, _⟩ => ⟨S3x2x2x4x128x384, .i1⟩
  | .hbm, ⟨63, _⟩ => ⟨S3x2x2x4x128x384, .i1⟩
  | .hbm, ⟨64, _⟩ => ⟨S_, .i32⟩
  | .hbm, ⟨65, _⟩ => ⟨S3x2x2x4x128x384, .i32⟩
  | .hbm, ⟨66, _⟩ => ⟨S3x2x2x4x128x384, .i32⟩
  | .hbm, ⟨67, _⟩ => ⟨S3x2x2x4x128x384, .i32⟩
  | .hbm, ⟨68, _⟩ => ⟨S3x2x2x4x128x384, .f32⟩
  | .hbm, ⟨69, _⟩ => ⟨S_, .i32⟩
  | .hbm, ⟨70, _⟩ => ⟨S3x2x2x4x128x384, .i32⟩
  | .hbm, ⟨71, _⟩ => ⟨S3x2x2x4x128x384, .i32⟩
  | .hbm, ⟨72, _⟩ => ⟨S_, .i32⟩
  | .hbm, ⟨73, _⟩ => ⟨S3x2x2x4x128x384, .i32⟩
  | .hbm, ⟨74, _⟩ => ⟨S3x2x2x4x128x384, .i32⟩
  | .hbm, ⟨75, _⟩ => ⟨S3x2x2x4x128x384, .i32⟩
  | .hbm, ⟨76, _⟩ => ⟨S3x2x2x4x128x384, .i32⟩
  | .hbm, ⟨77, _⟩ => ⟨S_, .i32⟩
  | .hbm, ⟨78, _⟩ => ⟨S3x2x2x4x128x384, .i32⟩
  | .hbm, ⟨79, _⟩ => ⟨S3x2x2x4x128x384, .i32⟩
  | .hbm, ⟨80, _⟩ => ⟨S3x2x2x4x128x384, .f32⟩
  | .hbm, ⟨81, _⟩ => ⟨S_, .f32⟩
  | .hbm, ⟨82, _⟩ => ⟨S3x2x2x4x128x384, .f32⟩
  | .hbm, ⟨83, _⟩ => ⟨S3x2x2x4x128x384, .f32⟩
  | .hbm, ⟨84, _⟩ => ⟨S_, .f32⟩
  | .hbm, ⟨85, _⟩ => ⟨S3x2x2x4x128x384, .f32⟩
  | .hbm, ⟨86, _⟩ => ⟨S3x2x2x4x128x384, .f32⟩
  | .hbm, ⟨87, _⟩ => ⟨S_, .f32⟩
  | .hbm, ⟨88, _⟩ => ⟨S3x2x2x4x128x384, .f32⟩
  | .hbm, ⟨89, _⟩ => ⟨S3x2x2x4x128x384, .f32⟩
  | .hbm, ⟨90, _⟩ => ⟨S3x2x2x4x128x384, .f32⟩
  | .hbm, ⟨91, _⟩ => ⟨S3x2x2x4x128x384, .f32⟩
  | .hbm, ⟨92, _⟩ => ⟨S_, .f32⟩
  | .hbm, ⟨93, _⟩ => ⟨S_, .f32⟩
  | .hbm, ⟨94, _⟩ => ⟨S3x2x2x4x128x384, .f32⟩
  | .hbm, ⟨95, _⟩ => ⟨S3x2x2x4x128x384, .f32⟩
  | .hbm, ⟨96, _⟩ => ⟨S3x4x512x384, .f32⟩
  | .hbm, ⟨97, _⟩ => ⟨S8320x1024, .bf16⟩
  | .hbm, ⟨98, _⟩ => ⟨S8320x128, .bf16⟩
  | .hbm, ⟨99, _⟩ => ⟨S8320x128, .bf16⟩
  | .hbm, ⟨100, _⟩ => ⟨S1x128, .f32⟩
  | .local _ .vmem, ⟨0, _⟩ => ⟨S128x1024, .f32⟩
  | .local _ .vmem, ⟨1, _⟩ => ⟨S128x1024, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S1x4x512x384, .f32⟩
  | .local _ .vmem, ⟨14, _⟩ => ⟨S1x4x512x384, .f32⟩
  | .local _ .vmem, ⟨15, _⟩ => ⟨S128x1024, .f32⟩
  | .local _ .vmem, ⟨16, _⟩ => ⟨S128x1024, .f32⟩
  | .local _ .vmem, ⟨17, _⟩ => ⟨S128x1024, .bf16⟩
  | .local _ .vmem, ⟨18, _⟩ => ⟨S128x1024, .bf16⟩
  | .local _ .vmem, ⟨19, _⟩ => ⟨S128x128, .bf16⟩
  | .local _ .vmem, ⟨20, _⟩ => ⟨S128x128, .bf16⟩
  | .local _ .vmem, ⟨21, _⟩ => ⟨S128x128, .bf16⟩
  | .local _ .vmem, ⟨22, _⟩ => ⟨S128x128, .bf16⟩
  | .local _ .vmem, ⟨23, _⟩ => ⟨S1x128, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | _, _ => ⟨S8320x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_v25 : Ref sig .tc := ⟨.hbm, 37, rfl⟩
abbrev main_c_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_9 : Ref sig .tc := ⟨.hbm, 46, rfl⟩
abbrev main_v32 : Ref sig .tc := ⟨.hbm, 47, rfl⟩
abbrev main_v33 : Ref sig .tc := ⟨.hbm, 48, rfl⟩
abbrev main_c_10 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_11 : Ref sig .tc := ⟨.hbm, 53, rfl⟩
abbrev main_v37 : Ref sig .tc := ⟨.hbm, 54, rfl⟩
abbrev main_v38 : Ref sig .tc := ⟨.hbm, 55, rfl⟩
abbrev main_c_12 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_13 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_14 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_15 : Ref sig .tc := ⟨.hbm, 69, rfl⟩
abbrev main_v49 : Ref sig .tc := ⟨.hbm, 70, rfl⟩
abbrev main_v50 : Ref sig .tc := ⟨.hbm, 71, rfl⟩
abbrev main_c_16 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_17 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_18 : Ref sig .tc := ⟨.hbm, 81, rfl⟩
abbrev main_v58 : Ref sig .tc := ⟨.hbm, 82, rfl⟩
abbrev main_v59 : Ref sig .tc := ⟨.hbm, 83, rfl⟩
abbrev main_cst_19 : Ref sig .tc := ⟨.hbm, 84, rfl⟩
abbrev main_v60 : Ref sig .tc := ⟨.hbm, 85, rfl⟩
abbrev main_v61 : Ref sig .tc := ⟨.hbm, 86, rfl⟩
abbrev main_cst_20 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_21 : Ref sig .tc := ⟨.hbm, 92, rfl⟩
abbrev main_call2_v0 : Ref sig .tc := ⟨.hbm, 93, rfl⟩
abbrev main_call2_v1 : Ref sig .tc := ⟨.hbm, 94, rfl⟩
abbrev main_v66 : Ref sig .tc := ⟨.hbm, 95, rfl⟩
abbrev main_v67 : Ref sig .tc := ⟨.hbm, 96, rfl⟩
abbrev main_v68_0 : Ref sig .tc := ⟨.hbm, 97, rfl⟩
abbrev main_v68_1 : Ref sig .tc := ⟨.hbm, 98, rfl⟩
abbrev main_v68_2 : Ref sig .tc := ⟨.hbm, 99, rfl⟩
abbrev main_v68_3 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c64_i32 : BitVec 32 := 64#32
  let v0 : BitVec 32 := Scalar.subi c64_i32 arg0
  let c2_i32 : BitVec 32 := 2#32
  let c0_i32 : BitVec 32 := 0#32
  ![v0.toNat, c2_i32.toNat]

def cc0_transform_1 (i : grid0.Coords) : Fin 2 → Nat :=
  let arg0 : BitVec 32 := BitVec.ofNat 32 (i 0).val
  let c64_i32 : BitVec 32 := 64#32
  let v0 : BitVec 32 := Scalar.subi c64_i32 arg0
  let c24_i32 : BitVec 32 := 24#32
  let c0_i32 : BitVec 32 := 0#32
  ![v0.toNat, c24_i32.toNat]

def cc0_transform_2 (i : grid0.Coords) : Fin 2 → Nat :=
  let arg0 : BitVec 32 := BitVec.ofNat 32 (i 0).val
  let c64_i32 : BitVec 32 := 64#32
  let v0 : BitVec 32 := Scalar.subi c64_i32 arg0
  let c25_i32 : BitVec 32 := 25#32
  let c0_i32 : BitVec 32 := 0#32
  ![v0.toNat, c25_i32.toNat]

def cc0_transform_3 (i : grid0.Coords) : Fin 2 → Nat :=
  let arg0 : BitVec 32 := BitVec.ofNat 32 (i 0).val
  let c64_i32 : BitVec 32 := 64#32
  let v0 : BitVec 32 := Scalar.subi c64_i32 arg0
  let c1_i32 : BitVec 32 := 1#32
  let v1 : BitVec 32 := Scalar.subi v0 c1_i32
  let c0_i32 : BitVec 32 := 0#32
  let v2 : BitVec 32 := Scalar.maxsi v1 c0_i32
  let c24_i32 : BitVec 32 := 24#32
  let c0_i32_0 : BitVec 32 := 0#32
  ![v2.toNat, c24_i32.toNat]

def cc0_transform_4 (i : grid0.Coords) : Fin 2 → Nat :=
  let arg0 : BitVec 32 := BitVec.ofNat 32 (i 0).val
  let c64_i32 : BitVec 32 := 64#32
  let v0 : BitVec 32 := Scalar.subi c64_i32 arg0
  let c1_i32 : BitVec 32 := 1#32
  let v1 : BitVec 32 := Scalar.subi v0 c1_i32
  let c0_i32 : BitVec 32 := 0#32
  let v2 : BitVec 32 := Scalar.maxsi v1 c0_i32
  let c25_i32 : BitVec 32 := 25#32
  let c0_i32_0 : BitVec 32 := 0#32
  ![v2.toNat, c25_i32.toNat]

def cc0_transform_5 (i : grid0.Coords) : Fin 2 → Nat :=
  let arg0 : BitVec 32 := BitVec.ofNat 32 (i 0).val
  let c0_i32 : BitVec 32 := 0#32
  let c24_i32 : BitVec 32 := 24#32
  let c0_i32_0 : BitVec 32 := 0#32
  ![c0_i32.toNat, c24_i32.toNat]

def cc0_transform_6 (i : grid0.Coords) : Fin 2 → Nat :=
  let arg0 : BitVec 32 := BitVec.ofNat 32 (i 0).val
  let c0_i32 : BitVec 32 := 0#32
  let c25_i32 : BitVec 32 := 25#32
  let c0_i32_0 : BitVec 32 := 0#32
  ![c0_i32.toNat, c25_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c64_i32 : BitVec 32 := 64#32
  let v0 : BitVec 32 := Scalar.subi c64_i32 arg0
  let c2_i32 : BitVec 32 := 2#32
  let v1 : BitVec 32 := Scalar.minsi v0 c2_i32
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_9 (i : grid0.Coords) : Fin 2 → Nat :=
  let arg0 : BitVec 32 := BitVec.ofNat 32 (i 0).val
  let c64_i32 : BitVec 32 := 64#32
  let v0 : BitVec 32 := Scalar.subi c64_i32 arg0
  let c1_i32 : BitVec 32 := 1#32
  let c0_i32 : BitVec 32 := 0#32
  ![v0.toNat, c1_i32.toNat]

def cc0_transform_10 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x4x512x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S8320x3328 : Shape := ⟨2, ![8320, 3328]⟩
abbrev S16 : Shape := ⟨1, ![16]⟩
abbrev S8320x2048 : Shape := ⟨2, ![8320, 2048]⟩
abbrev S8208x1024 : Shape := ⟨2, ![8208, 1024]⟩
abbrev S8208x128 : Shape := ⟨2, ![8208, 128]⟩
abbrev S8208x16x64 : Shape := ⟨3, ![8208, 16, 64]⟩
abbrev S8208x2x64 : Shape := ⟨3, ![8208, 2, 64]⟩
abbrev S_ : Shape := ⟨0, ![]⟩
abbrev S112x16x64 : Shape := ⟨3, ![112, 16, 64]⟩
abbrev S8320x16x64 : Shape := ⟨3, ![8320, 16, 64]⟩
abbrev S65x128x2x8x64 : Shape := ⟨5, ![65, 128, 2, 8, 64]⟩
abbrev S112x2x64 : Shape := ⟨3, ![112, 2, 64]⟩
abbrev S8320x2x64 : Shape := ⟨3, ![8320, 2, 64]⟩
abbrev S65x128x2x64 : Shape := ⟨4, ![65, 128, 2, 64]⟩
abbrev S64x128x2x64 : Shape := ⟨4, ![64, 128, 2, 64]⟩
abbrev S1x128x2x64 : Shape := ⟨4, ![1, 128, 2, 64]⟩
abbrev S65x256x2x64 : Shape := ⟨4, ![65, 256, 2, 64]⟩
abbrev S16x2x64 : Shape := ⟨3, ![16, 2, 64]⟩
abbrev S65x2x256x128x8 : Shape := ⟨5, ![65, 2, 256, 128, 8]⟩
abbrev S65x2x8x128x256 : Shape := ⟨5, ![65, 2, 8, 128, 256]⟩
abbrev S2x16x65x128x8 : Shape := ⟨5, ![2, 16, 65, 128, 8]⟩
abbrev S65x2x8x128x16 : Shape := ⟨5, ![65, 2, 8, 128, 16]⟩
abbrev S65 : Shape := ⟨1, ![65]⟩
abbrev S65x1 : Shape := ⟨2, ![65, 1]⟩
abbrev S128 : Shape := ⟨1, ![128]⟩
abbrev S1x128 : Shape := ⟨2, ![1, 128]⟩
abbrev S65x128 : Shape := ⟨2, ![65, 128]⟩
abbrev S256 : Shape := ⟨1, ![256]⟩
abbrev S1x256 : Shape := ⟨2, ![1, 256]⟩
abbrev S65x256 : Shape := ⟨2, ![65, 256]⟩
abbrev S65x128x1 : Shape := ⟨3, ![65, 128, 1]⟩
abbrev S65x1x256 : Shape := ⟨3, ![65, 1, 256]⟩
abbrev S65x128x256 : Shape := ⟨3, ![65, 128, 256]⟩
abbrev S1x1x16 : Shape := ⟨3, ![1, 1, 16]⟩
abbrev S65x128x16 : Shape := ⟨3, ![65, 128, 16]⟩
abbrev S2x8 : Shape := ⟨2, ![2, 8]⟩
abbrev S2x8x1x1 : Shape := ⟨4, ![2, 8, 1, 1]⟩
abbrev S65x1x1x128x256 : Shape := ⟨5, ![65, 1, 1, 128, 256]⟩
abbrev S1x2x8x1x1 : Shape := ⟨5, ![1, 2, 8, 1, 1]⟩
abbrev S65x1x1x128x16 : Shape := ⟨5, ![65, 1, 1, 128, 16]⟩
abbrev S65x2x8x128 : Shape := ⟨4, ![65, 2, 8, 128]⟩
abbrev S65x2x8x128x1 : Shape := ⟨5, ![65, 2, 8, 128, 1]⟩
abbrev S65x2x64x8x128 : Shape := ⟨5, ![65, 2, 64, 8, 128]⟩
abbrev S2x64x65x8x128 : Shape := ⟨5, ![2, 64, 65, 8, 128]⟩
abbrev S8320x1024 : Shape := ⟨2, ![8320, 1024]⟩
abbrev S2x65x8x128x16 : Shape := ⟨5, ![2, 65, 8, 128, 16]⟩
abbrev S2x64x16 : Shape := ⟨3, ![2, 64, 16]⟩
abbrev S65x2x64x256 : Shape := ⟨4, ![65, 2, 64, 256]⟩
abbrev S2x8x1 : Shape := ⟨3, ![2, 8, 1]⟩
abbrev S2x65x128x8x64 : Shape := ⟨5, ![2, 65, 128, 8, 64]⟩
abbrev S2x16x64 : Shape := ⟨3, ![2, 16, 64]⟩
abbrev S65x2x128x8x64 : Shape := ⟨5, ![65, 2, 128, 8, 64]⟩
abbrev S65x2x256x64 : Shape := ⟨4, ![65, 2, 256, 64]⟩
abbrev S8320x128 : Shape := ⟨2, ![8320, 128]⟩

abbrev nBuf : Space → Nat
  | .hbm => 418
  | .vmem => 0
  | .smem => 0
  | _ => 0

abbrev hbmTy0_0 (i : Nat) : BufTy := match i % 128 with
  | 0 => ⟨S8320x3328, .f32⟩
  | 1 => ⟨S16, .f32⟩
  | 2 => ⟨S8320x2048, .f32⟩
  | 3 => ⟨S8208x1024, .f32⟩
  | 4 => ⟨S8208x128, .f32⟩
  | 5 => ⟨S8208x128, .f32⟩
  | 6 => ⟨S8208x16x64, .f32⟩
  | 7 => ⟨S8208x2x64, .f32⟩
  | 8 => ⟨S8208x2x64, .f32⟩
  | 9 => ⟨S_, .f32⟩
  | 10 => ⟨S112x16x64, .f32⟩
  | 11 => ⟨S8320x16x64, .f32⟩
  | 12 => ⟨S_, .f32⟩
  | 13 => ⟨S112x16x64, .f32⟩
  | 14 => ⟨S65x128x2x8x64, .f32⟩
  | 15 => ⟨S_, .f32⟩
  | 16 => ⟨S112x2x64, .f32⟩
  | 17 => ⟨S8320x2x64, .f32⟩
  | 18 => ⟨S_, .f32⟩
  | 19 => ⟨S112x2x64, .f32⟩
  | 20 => ⟨S65x128x2x64, .f32⟩
  | 21 => ⟨S_, .f32⟩
  | 22 => ⟨S112x2x64, .f32⟩
  | 23 => ⟨S8320x2x64, .f32⟩
  | 24 => ⟨S_, .f32⟩
  | 25 => ⟨S112x2x64, .f32⟩
  | 26 => ⟨S65x128x2x64, .f32⟩
  | 27 => ⟨S64x128x2x64, .f32⟩
  | 28 => ⟨S_, .f32⟩
  | 29 => ⟨S1x128x2x64, .f32⟩
  | 30 => ⟨S65x128x2x64, .f32⟩
  | 31 => ⟨S_, .f32⟩
  | 32 => ⟨S1x128x2x64, .f32⟩
  | 33 => ⟨S65x256x2x64, .f32⟩
  | 34 => ⟨S64x128x2x64, .f32⟩
  | 35 => ⟨S_, .f32⟩
  | 36 => ⟨S1x128x2x64, .f32⟩
  | 37 => ⟨S65x128x2x64, .f32⟩
  | 38 => ⟨S_, .f32⟩
  | 39 => ⟨S1x128x2x64, .f32⟩
  | 40 => ⟨S65x256x2x64, .f32⟩
  | 41 => ⟨S16x2x64, .f32⟩
  | 42 => ⟨S16x2x64, .f32⟩
  | 43 => ⟨S65x2x256x128x8, .f32⟩
  | 44 => ⟨S65x2x8x128x256, .f32⟩
  | 45 => ⟨S_, .f32⟩
  | 46 => ⟨S65x2x8x128x256, .f32⟩
  | 47 => ⟨S65x2x8x128x256, .f32⟩
  | 48 => ⟨S2x16x65x128x8, .f32⟩
  | 49 => ⟨S65x2x8x128x16, .f32⟩
  | 50 => ⟨S_, .f32⟩
  | 51 => ⟨S65x2x8x128x16, .f32⟩
  | 52 => ⟨S65x2x8x128x16, .f32⟩
  | 53 => ⟨S65, .i32⟩
  | 54 => ⟨S65x1, .i32⟩
  | 55 => ⟨S_, .i32⟩
  | 56 => ⟨S65x1, .i32⟩
  | 57 => ⟨S65x1, .i32⟩
  | 58 => ⟨S128, .i32⟩
  | 59 => ⟨S1x128, .i32⟩
  | 60 => ⟨S65x128, .i32⟩
  | 61 => ⟨S65x128, .i32⟩
  | 62 => ⟨S65x128, .i32⟩
  | 63 => ⟨S_, .i32⟩
  | 64 => ⟨S65x128, .i32⟩
  | 65 => ⟨S65x128, .i32⟩
  | 66 => ⟨S65x1, .i32⟩
  | 67 => ⟨S_, .i32⟩
  | 68 => ⟨S65x1, .i32⟩
  | 69 => ⟨S65x1, .i32⟩
  | 70 => ⟨S_, .i32⟩
  | 71 => ⟨S65x1, .i32⟩
  | 72 => ⟨S65x1, .i32⟩
  | 73 => ⟨S256, .i32⟩
  | 74 => ⟨S1x256, .i32⟩
  | 75 => ⟨S65x256, .i32⟩
  | 76 => ⟨S65x256, .i32⟩
  | 77 => ⟨S65x256, .i32⟩
  | 78 => ⟨S_, .i32⟩
  | 79 => ⟨S65x256, .i32⟩
  | 80 => ⟨S65x256, .i32⟩
  | 81 => ⟨S65x128x1, .i32⟩
  | 82 => ⟨S65x1x256, .i32⟩
  | 83 => ⟨S65x128x256, .i32⟩
  | 84 => ⟨S65x128x256, .i32⟩
  | 85 => ⟨S65x128x256, .i32⟩
  | 86 => ⟨S65x1x256, .i32⟩
  | 87 => ⟨S_, .i32⟩
  | 88 => ⟨S65x1x256, .i32⟩
  | 89 => ⟨S65x1x256, .i1⟩
  | 90 => ⟨S_, .i32⟩
  | 91 => ⟨S65x128x256, .i32⟩
  | 92 => ⟨S65x128x256, .i1⟩
  | 93 => ⟨S65x128x256, .i1⟩
  | 94 => ⟨S65x128x256, .i1⟩
  | 95 => ⟨S_, .i32⟩
  | 96 => ⟨S65x128x256, .i32⟩
  | 97 => ⟨S65x128x256, .i1⟩
  | 98 => ⟨S65x128x256, .i1⟩
  | 99 => ⟨S65x128x1, .i32⟩
  | 100 => ⟨S16, .i32⟩
  | 101 => ⟨S1x1x16, .i32⟩
  | 102 => ⟨S65x128x16, .i32⟩
  | 103 => ⟨S65x128x16, .i32⟩
  | 104 => ⟨S65x128x16, .i32⟩
  | 105 => ⟨S_, .i32⟩
  | 106 => ⟨S65x128x16, .i32⟩
  | 107 => ⟨S65x128x16, .i1⟩
  | 108 => ⟨S16, .f32⟩
  | 109 => ⟨S_, .f32⟩
  | 110 => ⟨S16, .f32⟩
  | 111 => ⟨S16, .f32⟩
  | 112 => ⟨S_, .f32⟩
  | 113 => ⟨S16, .f32⟩
  | 114 => ⟨S16, .f32⟩
  | 115 => ⟨S_, .f32⟩
  | 116 => ⟨S16, .f32⟩
  | 117 => ⟨S16, .f32⟩
  | 118 => ⟨S_, .f32⟩
  | 119 => ⟨S16, .f32⟩
  | 120 => ⟨S16, .f32⟩
  | 121 => ⟨S2x8, .f32⟩
  | 122 => ⟨S2x8x1x1, .f32⟩
  | 123 => ⟨S65x1x1x128x256, .i32⟩
  | 124 => ⟨S65x1x1x128x256, .f32⟩
  | 125 => ⟨S1x2x8x1x1, .f32⟩
  | 126 => ⟨S65x2x8x128x256, .f32⟩
  | 127 => ⟨S65x2x8x128x256, .f32⟩
  | _ => ⟨S8320x3328, .f32⟩

abbrev hbmTy0_1 (i : Nat) : BufTy := match i % 128 with
  | 0 => ⟨S65x2x8x128x256, .f32⟩
  | 1 => ⟨S_, .i32⟩
  | 2 => ⟨S65x128x16, .i32⟩
  | 3 => ⟨S65x128x16, .i32⟩
  | 4 => ⟨S65x1x1x128x16, .i32⟩
  | 5 => ⟨S65x1x1x128x16, .f32⟩
  | 6 => ⟨S1x2x8x1x1, .f32⟩
  | 7 => ⟨S65x2x8x128x16, .f32⟩
  | 8 => ⟨S65x2x8x128x16, .f32⟩
  | 9 => ⟨S65x2x8x128x16, .f32⟩
  | 10 => ⟨S65x1x1x128x256, .i1⟩
  | 11 => ⟨S65x2x8x128x256, .f32⟩
  | 12 => ⟨S_, .f32⟩
  | 13 => ⟨S_, .f32⟩
  | 14 => ⟨S65x2x8x128x256, .i1⟩
  | 15 => ⟨S65x2x8x128x256, .f32⟩
  | 16 => ⟨S65x2x8x128x256, .f32⟩
  | 17 => ⟨S_, .f32⟩
  | 18 => ⟨S65x2x8x128x256, .f32⟩
  | 19 => ⟨S65x1x1x128x16, .i1⟩
  | 20 => ⟨S65x2x8x128x16, .f32⟩
  | 21 => ⟨S_, .f32⟩
  | 22 => ⟨S_, .f32⟩
  | 23 => ⟨S65x2x8x128x16, .i1⟩
  | 24 => ⟨S65x2x8x128x16, .f32⟩
  | 25 => ⟨S65x2x8x128x16, .f32⟩
  | 26 => ⟨S_, .f32⟩
  | 27 => ⟨S65x2x8x128x16, .f32⟩
  | 28 => ⟨S2x8, .f32⟩
  | 29 => ⟨S2x8x1x1, .f32⟩
  | 30 => ⟨S_, .f32⟩
  | 31 => ⟨S65x2x8x128, .f32⟩
  | 32 => ⟨S65x2x8x128x1, .f32⟩
  | 33 => ⟨S65x2x8x128x256, .f32⟩
  | 34 => ⟨S65x2x8x128x256, .i1⟩
  | 35 => ⟨S65x2x8x128x256, .f32⟩
  | 36 => ⟨S_, .f32⟩
  | 37 => ⟨S65x2x8x128, .f32⟩
  | 38 => ⟨S65x2x8x128x1, .f32⟩
  | 39 => ⟨S_, .f32⟩
  | 40 => ⟨S65x2x8x128, .f32⟩
  | 41 => ⟨S65x2x8x128x1, .f32⟩
  | 42 => ⟨S65x2x8x128x16, .f32⟩
  | 43 => ⟨S65x2x8x128x16, .i1⟩
  | 44 => ⟨S65x2x8x128x16, .f32⟩
  | 45 => ⟨S_, .f32⟩
  | 46 => ⟨S65x2x8x128, .f32⟩
  | 47 => ⟨S65x2x8x128x1, .f32⟩
  | 48 => ⟨S65x2x8x128x1, .f32⟩
  | 49 => ⟨S65x2x8x128x1, .i1⟩
  | 50 => ⟨S65x2x8x128x1, .i1⟩
  | 51 => ⟨S_, .f32⟩
  | 52 => ⟨S65x2x8x128x1, .f32⟩
  | 53 => ⟨S_, .f32⟩
  | 54 => ⟨S65x2x8x128x1, .f32⟩
  | 55 => ⟨S_, .f32⟩
  | 56 => ⟨S65x2x8x128x1, .f32⟩
  | 57 => ⟨S65x2x8x128x1, .f32⟩
  | 58 => ⟨S65x2x8x128x1, .f32⟩
  | 59 => ⟨S65x2x8x128x1, .i1⟩
  | 60 => ⟨S65x2x8x128x1, .i1⟩
  | 61 => ⟨S_, .f32⟩
  | 62 => ⟨S65x2x8x128x1, .f32⟩
  | 63 => ⟨S_, .f32⟩
  | 64 => ⟨S65x2x8x128x1, .f32⟩
  | 65 => ⟨S_, .f32⟩
  | 66 => ⟨S65x2x8x128x1, .f32⟩
  | 67 => ⟨S65x2x8x128x1, .f32⟩
  | 68 => ⟨S65x2x8x128x1, .f32⟩
  | 69 => ⟨S1x2x8x1x1, .f32⟩
  | 70 => ⟨S65x2x8x128x1, .f32⟩
  | 71 => ⟨S65x2x8x128x1, .f32⟩
  | 72 => ⟨S65x2x8x128x1, .f32⟩
  | 73 => ⟨S65x2x8x128x1, .i1⟩
  | 74 => ⟨S65x2x8x128x1, .f32⟩
  | 75 => ⟨S65x2x8x128x1, .i1⟩
  | 76 => ⟨S_, .f32⟩
  | 77 => ⟨S65x2x8x128x1, .f32⟩
  | 78 => ⟨S_, .f32⟩
  | 79 => ⟨S65x2x8x128x1, .f32⟩
  | 80 => ⟨S_, .f32⟩
  | 81 => ⟨S65x2x8x128x1, .f32⟩
  | 82 => ⟨S65x2x8x128x1, .f32⟩
  | 83 => ⟨S65x2x8x128x1, .f32⟩
  | 84 => ⟨S65x2x8x128x1, .f32⟩
  | 85 => ⟨S65x2x8x128x1, .i1⟩
  | 86 => ⟨S65x2x8x128x1, .f32⟩
  | 87 => ⟨S65x2x8x128x1, .i1⟩
  | 88 => ⟨S_, .f32⟩
  | 89 => ⟨S65x2x8x128x1, .f32⟩
  | 90 => ⟨S_, .f32⟩
  | 91 => ⟨S65x2x8x128x1, .f32⟩
  | 92 => ⟨S_, .f32⟩
  | 93 => ⟨S65x2x8x128x1, .f32⟩
  | 94 => ⟨S65x2x8x128x1, .f32⟩
  | 95 => ⟨S65x2x8x128x1, .f32⟩
  | 96 => ⟨S65x2x8x128x256, .f32⟩
  | 97 => ⟨S65x2x8x128x256, .f32⟩
  | 98 => ⟨S65x2x8x128x256, .f32⟩
  | 99 => ⟨S65x2x8x128x16, .f32⟩
  | 100 => ⟨S65x2x8x128x16, .f32⟩
  | 101 => ⟨S65x2x8x128x16, .f32⟩
  | 102 => ⟨S_, .f32⟩
  | 103 => ⟨S65x2x8x128, .f32⟩
  | 104 => ⟨S65x2x8x128x1, .f32⟩
  | 105 => ⟨S_, .f32⟩
  | 106 => ⟨S65x2x8x128, .f32⟩
  | 107 => ⟨S65x2x8x128x1, .f32⟩
  | 108 => ⟨S65x2x8x128x1, .f32⟩
  | 109 => ⟨S1x2x8x1x1, .f32⟩
  | 110 => ⟨S65x2x8x128x1, .f32⟩
  | 111 => ⟨S65x2x8x128x1, .f32⟩
  | 112 => ⟨S65x2x8x128x1, .f32⟩
  | 113 => ⟨S65x2x8x128x1, .f32⟩
  | 114 => ⟨S65x2x8x128x256, .f32⟩
  | 115 => ⟨S65x2x8x128x256, .f32⟩
  | 116 => ⟨S65x2x8x128x1, .f32⟩
  | 117 => ⟨S_, .f32⟩
  | 118 => ⟨S65x2x8x128x1, .f32⟩
  | 119 => ⟨S65x2x8x128x1, .f32⟩
  | 120 => ⟨S65x2x8x128x16, .f32⟩
  | 121 => ⟨S65x2x8x128x16, .f32⟩
  | 122 => ⟨S65x2x8x128x1, .f32⟩
  | 123 => ⟨S_, .f32⟩
  | 124 => ⟨S65x2x8x128x1, .f32⟩
  | 125 => ⟨S65x2x8x128x1, .f32⟩
  | 126 => ⟨S65x2x64x8x128, .f32⟩
  | 127 => ⟨S65x128x2x8x64, .f32⟩
  | _ => ⟨S8320x3328, .f32⟩

abbrev hbmTy0_2 (i : Nat) : BufTy := match i % 128 with
  | 0 => ⟨S2x64x65x8x128, .f32⟩
  | 1 => ⟨S65x128x2x8x64, .f32⟩
  | 2 => ⟨S65x128x2x8x64, .f32⟩
  | 3 => ⟨S8320x1024, .f32⟩
  | 4 => ⟨S8208x1024, .f32⟩
  | 5 => ⟨S8208x1024, .f32⟩
  | 6 => ⟨S_, .f32⟩
  | 7 => ⟨S8320x1024, .f32⟩
  | 8 => ⟨S65x128x2x8x64, .f32⟩
  | 9 => ⟨S2x64x65x8x128, .f32⟩
  | 10 => ⟨S2x65x8x128x16, .f32⟩
  | 11 => ⟨S65x2x8x128x16, .f32⟩
  | 12 => ⟨S2x64x16, .f32⟩
  | 13 => ⟨S16x2x64, .f32⟩
  | 14 => ⟨S65x2x64x8x128, .f32⟩
  | 15 => ⟨S65x2x8x128x256, .f32⟩
  | 16 => ⟨S65x2x64x256, .f32⟩
  | 17 => ⟨S65x256x2x64, .f32⟩
  | 18 => ⟨S65x2x8x128x16, .f32⟩
  | 19 => ⟨S65x2x8x128x16, .f32⟩
  | 20 => ⟨S65x2x8x128x16, .f32⟩
  | 21 => ⟨S_, .f32⟩
  | 22 => ⟨S65x2x8x128, .f32⟩
  | 23 => ⟨S65x2x8x128x1, .f32⟩
  | 24 => ⟨S65x2x8x128x1, .f32⟩
  | 25 => ⟨S65x2x8x128x16, .f32⟩
  | 26 => ⟨S65x2x8x128x16, .f32⟩
  | 27 => ⟨S65x2x8x128x256, .f32⟩
  | 28 => ⟨S65x2x8x128x256, .f32⟩
  | 29 => ⟨S65x2x8x128x256, .f32⟩
  | 30 => ⟨S_, .f32⟩
  | 31 => ⟨S65x2x8x128, .f32⟩
  | 32 => ⟨S65x2x8x128x1, .f32⟩
  | 33 => ⟨S65x2x8x128x1, .f32⟩
  | 34 => ⟨S65x2x8x128x1, .f32⟩
  | 35 => ⟨S65x2x8x128x256, .f32⟩
  | 36 => ⟨S65x2x8x128x256, .f32⟩
  | 37 => ⟨S65x2x8x128x1, .f32⟩
  | 38 => ⟨S_, .f32⟩
  | 39 => ⟨S2x8x1, .f32⟩
  | 40 => ⟨S1x2x8x1x1, .f32⟩
  | 41 => ⟨S65x2x8x128x1, .f32⟩
  | 42 => ⟨S_, .f32⟩
  | 43 => ⟨S2x8, .f32⟩
  | 44 => ⟨S2x8x1x1, .f32⟩
  | 45 => ⟨S_, .f32⟩
  | 46 => ⟨S65x2x8x128, .f32⟩
  | 47 => ⟨S65x2x8x128x16, .f32⟩
  | 48 => ⟨S65x2x8x128x16, .f32⟩
  | 49 => ⟨S_, .f32⟩
  | 50 => ⟨S65x2x8x128, .f32⟩
  | 51 => ⟨S65x2x8x128x256, .f32⟩
  | 52 => ⟨S65x2x8x128x256, .f32⟩
  | 53 => ⟨S65x2x8x128x16, .f32⟩
  | 54 => ⟨S65x2x8x128x16, .f32⟩
  | 55 => ⟨S_, .f32⟩
  | 56 => ⟨S65x2x8x128, .f32⟩
  | 57 => ⟨S65x2x8x128x1, .f32⟩
  | 58 => ⟨S65x2x8x128x1, .f32⟩
  | 59 => ⟨S65x2x8x128x256, .f32⟩
  | 60 => ⟨S65x2x8x128x256, .f32⟩
  | 61 => ⟨S_, .f32⟩
  | 62 => ⟨S65x2x8x128, .f32⟩
  | 63 => ⟨S65x2x8x128x1, .f32⟩
  | 64 => ⟨S65x2x8x128x1, .f32⟩
  | 65 => ⟨S65x2x8x128x1, .f32⟩
  | 66 => ⟨S_, .f32⟩
  | 67 => ⟨S2x8x1, .f32⟩
  | 68 => ⟨S1x2x8x1x1, .f32⟩
  | 69 => ⟨S65x2x8x128x1, .f32⟩
  | 70 => ⟨S_, .f32⟩
  | 71 => ⟨S2x8, .f32⟩
  | 72 => ⟨S2x8x1x1, .f32⟩
  | 73 => ⟨S2x8x1x1, .f32⟩
  | 74 => ⟨S65x2x8x128x1, .f32⟩
  | 75 => ⟨S65x2x8x128x1, .f32⟩
  | 76 => ⟨S_, .f32⟩
  | 77 => ⟨S65x2x8x128, .f32⟩
  | 78 => ⟨S65x2x8x128, .f32⟩
  | 79 => ⟨S65x2x8x128x16, .f32⟩
  | 80 => ⟨S65x2x8x128x16, .f32⟩
  | 81 => ⟨S65x2x8x128x16, .f32⟩
  | 82 => ⟨S_, .f32⟩
  | 83 => ⟨S65x2x8x128, .f32⟩
  | 84 => ⟨S65x2x8x128, .f32⟩
  | 85 => ⟨S65x2x8x128x256, .f32⟩
  | 86 => ⟨S65x2x8x128x256, .f32⟩
  | 87 => ⟨S65x2x8x128x256, .f32⟩
  | 88 => ⟨S_, .f32⟩
  | 89 => ⟨S2x8, .f32⟩
  | 90 => ⟨S16, .f32⟩
  | 91 => ⟨S_, .f32⟩
  | 92 => ⟨S65x2x8x128x16, .f32⟩
  | 93 => ⟨S65x2x8x128x16, .f32⟩
  | 94 => ⟨S_, .f32⟩
  | 95 => ⟨S65x2x8x128x256, .f32⟩
  | 96 => ⟨S65x2x8x128x256, .f32⟩
  | 97 => ⟨S_, .f32⟩
  | 98 => ⟨S65x2x8x128x16, .f32⟩
  | 99 => ⟨S65x2x8x128x16, .f32⟩
  | 100 => ⟨S2x16x65x128x8, .f32⟩
  | 101 => ⟨S2x65x128x8x64, .f32⟩
  | 102 => ⟨S65x128x2x8x64, .f32⟩
  | 103 => ⟨S2x16x64, .f32⟩
  | 104 => ⟨S16x2x64, .f32⟩
  | 105 => ⟨S_, .f32⟩
  | 106 => ⟨S65x2x8x128x256, .f32⟩
  | 107 => ⟨S65x2x8x128x256, .f32⟩
  | 108 => ⟨S65x2x256x128x8, .f32⟩
  | 109 => ⟨S65x2x128x8x64, .f32⟩
  | 110 => ⟨S65x128x2x8x64, .f32⟩
  | 111 => ⟨S65x128x2x8x64, .f32⟩
  | 112 => ⟨S65x2x256x64, .f32⟩
  | 113 => ⟨S65x256x2x64, .f32⟩
  | 114 => ⟨S_, .f32⟩
  | 115 => ⟨S8208x2x64, .f32⟩
  | 116 => ⟨S_, .f32⟩
  | 117 => ⟨S8208x2x64, .f32⟩
  | 118 => ⟨S65x128x2x64, .f32⟩
  | 119 => ⟨S65x128x2x64, .f32⟩
  | 120 => ⟨S1x128x2x64, .f32⟩
  | 121 => ⟨S64x128x2x64, .f32⟩
  | 122 => ⟨S_, .f32⟩
  | 123 => ⟨S65x128x2x64, .f32⟩
  | 124 => ⟨S65x128x2x64, .f32⟩
  | 125 => ⟨S65x128x2x64, .f32⟩
  | 126 => ⟨S65x128x2x64, .f32⟩
  | 127 => ⟨S1x128x2x64, .f32⟩
  | _ => ⟨S8320x3328, .f32⟩

abbrev hbmTy0_3 (i : Nat) : BufTy := match i % 128 with
  | 0 => ⟨S64x128x2x64, .f32⟩
  | 1 => ⟨S_, .f32⟩
  | 2 => ⟨S65x128x2x64, .f32⟩
  | 3 => ⟨S65x128x2x64, .f32⟩
  | 4 => ⟨S8320x2x64, .f32⟩
  | 5 => ⟨S112x2x64, .f32⟩
  | 6 => ⟨S8208x2x64, .f32⟩
  | 7 => ⟨S8208x2x64, .f32⟩
  | 8 => ⟨S8320x2x64, .f32⟩
  | 9 => ⟨S112x2x64, .f32⟩
  | 10 => ⟨S8208x2x64, .f32⟩
  | 11 => ⟨S8208x2x64, .f32⟩
  | 12 => ⟨S8320x16x64, .f32⟩
  | 13 => ⟨S112x16x64, .f32⟩
  | 14 => ⟨S8208x16x64, .f32⟩
  | 15 => ⟨S8208x1024, .f32⟩
  | 16 => ⟨S_, .i32⟩
  | 17 => ⟨S_, .f32⟩
  | 18 => ⟨S8320x1024, .f32⟩
  | 19 => ⟨S8320x1024, .bf16⟩
  | 20 => ⟨S8208x128, .f32⟩
  | 21 => ⟨S_, .i32⟩
  | 22 => ⟨S_, .f32⟩
  | 23 => ⟨S8320x128, .f32⟩
  | 24 => ⟨S8320x128, .bf16⟩
  | 25 => ⟨S8208x128, .f32⟩
  | 26 => ⟨S_, .i32⟩
  | 27 => ⟨S_, .f32⟩
  | 28 => ⟨S8320x128, .f32⟩
  | 29 => ⟨S8320x128, .bf16⟩
  | 30 => ⟨S_, .i32⟩
  | 31 => ⟨S_, .f32⟩
  | 32 => ⟨S128, .f32⟩
  | 33 => ⟨S1x128, .f32⟩
  | _ => ⟨S8320x3328, .f32⟩

abbrev hbmTy (i : Nat) : BufTy := match i / 128 with
  | 0 => hbmTy0_0 i
  | 1 => hbmTy0_1 i
  | 2 => hbmTy0_2 i
  | 3 => hbmTy0_3 i
  | _ => ⟨S8320x3328, .f32⟩

abbrev bufTy : (tb : Table) → Fin (tcTables nBuf tb) → BufTy
  | .hbm, ⟨i, _⟩ => hbmTy i
  | _, _ => ⟨S8320x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_9 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_10 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_11 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_12 : Ref sig .tc := ⟨.hbm, 67, rfl⟩
abbrev main_v50 : Ref sig .tc := ⟨.hbm, 68, rfl⟩
abbrev main_v51 : Ref sig .tc := ⟨.hbm, 69, rfl⟩
abbrev main_c_13 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c_14 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_c_15 : Ref sig .tc := ⟨.hbm, 87, rfl⟩
abbrev main_v67 : Ref sig .tc := ⟨.hbm, 88, rfl⟩
abbrev main_v68 : Ref sig .tc := ⟨.hbm, 89, rfl⟩
abbrev main_c_16 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_c_17 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_c_18 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_19 : Ref sig .tc := ⟨.hbm, 109, rfl⟩
abbrev main_v85 : Ref sig .tc := ⟨.hbm, 110, rfl⟩
abbrev main_v86 : Ref sig .tc := ⟨.hbm, 111, rfl⟩
abbrev main_cst_20 : Ref sig .tc := ⟨.hbm, 112, rfl⟩
abbrev main_v87 : Ref sig .tc := ⟨.hbm, 113, rfl⟩
abbrev main_v88 : Ref sig .tc := ⟨.hbm, 114, rfl⟩
abbrev main_cst_21 : Ref sig .tc := ⟨.hbm, 115, rfl⟩
abbrev main_v89 : Ref sig .tc := ⟨.hbm, 116, rfl⟩
abbrev main_v90 : Ref sig .tc := ⟨.hbm, 117, rfl⟩
abbrev main_cst_22 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_c_23 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_cst_24 : Ref sig .tc := ⟨.hbm, 140, rfl⟩
abbrev main_call0_v0 : Ref sig .tc := ⟨.hbm, 141, rfl⟩
abbrev main_v111_1 : Ref sig .tc := ⟨.hbm, 142, rfl⟩
abbrev main_call0_v2 : Ref sig .tc := ⟨.hbm, 143, rfl⟩
abbrev main_v111_0 : Ref sig .tc := ⟨.hbm, 144, rfl⟩
abbrev main_call0_cst : Ref sig .tc := ⟨.hbm, 145, rfl⟩
abbrev main_v111_2 : Ref sig .tc := ⟨.hbm, 146, rfl⟩
abbrev main_v112 : Ref sig .tc := ⟨.hbm, 147, rfl⟩
abbrev main_v113 : Ref sig .tc := ⟨.hbm, 148, rfl⟩
abbrev main_cst_25 : Ref sig .tc := ⟨.hbm, 149, rfl⟩
abbrev main_call1_v0 : Ref sig .tc := ⟨.hbm, 150, rfl⟩
abbrev main_v114_1 : Ref sig .tc := ⟨.hbm, 151, rfl⟩
abbrev main_call1_v2 : Ref sig .tc := ⟨.hbm, 152, rfl⟩
abbrev main_v114_0 : Ref sig .tc := ⟨.hbm, 153, rfl⟩
abbrev main_call1_cst : Ref sig .tc := ⟨.hbm, 154, rfl⟩
abbrev main_v114_2 : Ref sig .tc := ⟨.hbm, 155, rfl⟩
abbrev main_v115 : Ref sig .tc := ⟨.hbm, 156, rfl⟩
abbrev main_v116 : Ref sig .tc := ⟨.hbm, 157, rfl⟩
abbrev main_cst_26 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_cst_27 : Ref sig .tc := ⟨.hbm, 164, rfl⟩
abbrev main_v122 : Ref sig .tc := ⟨.hbm, 165, rfl⟩
abbrev main_v123 : Ref sig .tc := ⟨.hbm, 166, rfl⟩
abbrev main_cst_28 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_cst_29 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_cst_30 : Ref sig .tc := ⟨.hbm, 179, rfl⟩
abbrev main_v134 : Ref sig .tc := ⟨.hbm, 180, rfl⟩
abbrev main_cst_31 : Ref sig .tc := ⟨.hbm, 181, rfl⟩
abbrev main_v135 : Ref sig .tc := ⟨.hbm, 182, rfl⟩
abbrev main_cst_32 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_cst_33 : Ref sig .tc := ⟨.hbm, 189, rfl⟩
abbrev main_v141 : Ref sig .tc := ⟨.hbm, 190, rfl⟩
abbrev main_cst_34 : Ref sig .tc := ⟨.hbm, 191, rfl⟩
abbrev main_v142 : Ref sig .tc := ⟨.hbm, 192, rfl⟩
abbrev main_cst_35 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_cst_36 : Ref sig .tc := ⟨.hbm, 204, rfl⟩
abbrev main_v153 : Ref sig .tc := ⟨.hbm, 205, rfl⟩
abbrev main_cst_37 : Ref sig .tc := ⟨.hbm, 206, rfl⟩
abbrev main_v154 : Ref sig .tc := ⟨.hbm, 207, rfl⟩
abbrev main_cst_38 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_cst_39 : Ref sig .tc := ⟨.hbm, 216, rfl⟩
abbrev main_v162 : Ref sig .tc := ⟨.hbm, 217, rfl⟩
abbrev main_cst_40 : Ref sig .tc := ⟨.hbm, 218, rfl⟩
abbrev main_v163 : Ref sig .tc := ⟨.hbm, 219, rfl⟩
abbrev main_cst_41 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_cst_42 : Ref sig .tc := ⟨.hbm, 230, rfl⟩
abbrev main_v173 : Ref sig .tc := ⟨.hbm, 231, rfl⟩
abbrev main_v174 : Ref sig .tc := ⟨.hbm, 232, rfl⟩
abbrev main_cst_43 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_cst_44 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_cst_45 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_cst_46 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩
abbrev main_cst_47 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_v222 : Ref sig .tc := ⟨.hbm, 285, rfl⟩
abbrev main_cst_48 : Ref sig .tc := ⟨.hbm, 286, rfl⟩
abbrev main_v223 : Ref sig .tc := ⟨.hbm, 287, rfl⟩
abbrev main_v224 : Ref sig .tc := ⟨.hbm, 288, rfl⟩
abbrev main_v225 : Ref sig .tc := ⟨.hbm, 289, rfl⟩
abbrev main_v226 : Ref sig .tc := ⟨.hbm, 290, rfl⟩
abbrev main_v227 : Ref sig .tc := ⟨.hbm, 291, rfl⟩
abbrev main_v228 : Ref sig .tc := ⟨.hbm, 292, rfl⟩
abbrev main_v229 : Ref sig .tc := ⟨.hbm, 293, rfl⟩
abbrev main_cst_49 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_cst_50 : Ref sig .tc := ⟨.hbm, 298, rfl⟩
abbrev main_v233 : Ref sig .tc := ⟨.hbm, 299, rfl⟩
abbrev main_v234 : Ref sig .tc := ⟨.hbm, 300, rfl⟩
abbrev main_cst_51 : Ref sig .tc := ⟨.hbm, 301, rfl⟩
abbrev main_v235 : Ref sig .tc := ⟨.hbm, 302, rfl⟩
abbrev main_v236 : Ref sig .tc := ⟨.hbm, 303, rfl⟩
abbrev main_v237 : Ref sig .tc := ⟨.hbm, 304, rfl⟩
abbrev main_cst_52 : Ref sig .tc := ⟨.hbm, 305, rfl⟩
abbrev main_v238 : Ref sig .tc := ⟨.hbm, 306, rfl⟩
abbrev main_v239 : Ref sig .tc := ⟨.hbm, 307, rfl⟩
abbrev main_v240 : Ref sig .tc := ⟨.hbm, 308, rfl⟩
abbrev main_v241 : Ref sig .tc := ⟨.hbm, 309, rfl⟩
abbrev main_v242 : Ref sig .tc := ⟨.hbm, 310, rfl⟩
abbrev main_cst_53 : Ref sig .tc := ⟨.hbm, 311, rfl⟩
abbrev main_v243 : Ref sig .tc := ⟨.hbm, 312, rfl⟩
abbrev main_v244 : Ref sig .tc := ⟨.hbm, 313, rfl⟩
abbrev main_v245 : Ref sig .tc := ⟨.hbm, 314, rfl⟩
abbrev main_v246 : Ref sig .tc := ⟨.hbm, 315, rfl⟩
abbrev main_v247 : Ref sig .tc := ⟨.hbm, 316, rfl⟩
abbrev main_cst_54 : Ref sig .tc := ⟨.hbm, 317, rfl⟩
abbrev main_v248 : Ref sig .tc := ⟨.hbm, 318, rfl⟩
abbrev main_v249 : Ref sig .tc := ⟨.hbm, 319, rfl⟩
abbrev main_v250 : Ref sig .tc := ⟨.hbm, 320, rfl⟩
abbrev main_v251 : Ref sig .tc := ⟨.hbm, 321, rfl⟩
abbrev main_cst_55 : Ref sig .tc := ⟨.hbm, 322, rfl⟩
abbrev main_v252 : Ref sig .tc := ⟨.hbm, 323, rfl⟩
abbrev main_v253 : Ref sig .tc := ⟨.hbm, 324, rfl⟩
abbrev main_v254 : Ref sig .tc := ⟨.hbm, 325, rfl⟩
abbrev main_cst_56 : Ref sig .tc := ⟨.hbm, 326, rfl⟩
abbrev main_v255 : Ref sig .tc := ⟨.hbm, 327, rfl⟩
abbrev main_v256 : Ref sig .tc := ⟨.hbm, 328, rfl⟩
abbrev main_v257 : Ref sig .tc := ⟨.hbm, 329, rfl⟩
abbrev main_v258 : Ref sig .tc := ⟨.hbm, 330, rfl⟩
abbrev main_v259 : Ref sig .tc := ⟨.hbm, 331, rfl⟩
abbrev main_cst_57 : Ref sig .tc := ⟨.hbm, 332, rfl⟩
abbrev main_v260 : Ref sig .tc := ⟨.hbm, 333, rfl⟩
abbrev main_v261 : Ref sig .tc := ⟨.hbm, 334, rfl⟩
abbrev main_v262 : Ref sig .tc := ⟨.hbm, 335, rfl⟩
abbrev main_v263 : Ref sig .tc := ⟨.hbm, 336, rfl⟩
abbrev main_v264 : Ref sig .tc := ⟨.hbm, 337, rfl⟩
abbrev main_cst_58 : Ref sig .tc := ⟨.hbm, 338, rfl⟩
abbrev main_v265 : Ref sig .tc := ⟨.hbm, 339, rfl⟩
abbrev main_v266 : Ref sig .tc := ⟨.hbm, 340, rfl⟩
abbrev main_v267 : Ref sig .tc := ⟨.hbm, 341, rfl⟩
abbrev main_v268 : Ref sig .tc := ⟨.hbm, 342, rfl⟩
abbrev main_v269 : Ref sig .tc := ⟨.hbm, 343, rfl⟩
abbrev main_cst_59 : Ref sig .tc := ⟨.hbm, 344, rfl⟩
abbrev main_v270 : Ref sig .tc := ⟨.hbm, 345, rfl⟩
abbrev main_v271 : Ref sig .tc := ⟨.hbm, 346, rfl⟩
abbrev main_call2_cst : Ref sig .tc := ⟨.hbm, 347, rfl⟩
abbrev main_call2_v0 : Ref sig .tc := ⟨.hbm, 348, rfl⟩
abbrev main_v272 : Ref sig .tc := ⟨.hbm, 349, rfl⟩
abbrev main_call3_cst : Ref sig .tc := ⟨.hbm, 350, rfl⟩
abbrev main_call3_v0 : Ref sig .tc := ⟨.hbm, 351, rfl⟩
abbrev main_v273 : Ref sig .tc := ⟨.hbm, 352, rfl⟩
abbrev main_cst_60 : Ref sig .tc := ⟨.hbm, 353, rfl⟩
abbrev main_v274 : Ref sig .tc := ⟨.hbm, 354, rfl⟩
abbrev main_v275 : Ref sig .tc := ⟨.hbm, 355, rfl⟩
abbrev main_v276 : Ref sig .tc := ⟨.hbm, 356, rfl⟩
abbrev main_v277 : Ref sig .tc := ⟨.hbm, 357, rfl⟩
abbrev main_v278 : Ref sig .tc := ⟨.hbm, 358, rfl⟩
abbrev main_v279 : Ref sig .tc := ⟨.hbm, 359, rfl⟩
abbrev main_v280 : Ref sig .tc := ⟨.hbm, 360, rfl⟩
abbrev main_cst_61 : Ref sig .tc := ⟨.hbm, 361, rfl⟩
abbrev main_v281 : Ref sig .tc := ⟨.hbm, 362, rfl⟩
abbrev main_v282 : Ref sig .tc := ⟨.hbm, 363, rfl⟩
abbrev main_v283 : Ref sig .tc := ⟨.hbm, 364, rfl⟩
abbrev main_v284 : Ref sig .tc := ⟨.hbm, 365, rfl⟩
abbrev main_v285 : Ref sig .tc := ⟨.hbm, 366, rfl⟩
abbrev main_v286 : Ref sig .tc := ⟨.hbm, 367, rfl⟩
abbrev main_v287 : Ref sig .tc := ⟨.hbm, 368, rfl⟩
abbrev main_v288 : Ref sig .tc := ⟨.hbm, 369, rfl⟩
abbrev main_cst_62 : Ref sig .tc := ⟨.hbm, 370, rfl⟩
abbrev main_v289 : Ref sig .tc := ⟨.hbm, 371, rfl⟩
abbrev main_cst_63 : Ref sig .tc := ⟨.hbm, 372, rfl⟩
abbrev main_v290 : Ref sig .tc := ⟨.hbm, 373, rfl⟩
abbrev main_v291 : Ref sig .tc := ⟨.hbm, 374, rfl⟩
abbrev main_v292 : Ref sig .tc := ⟨.hbm, 375, rfl⟩
abbrev main_v293 : Ref sig .tc := ⟨.hbm, 376, rfl⟩
abbrev main_v294 : Ref sig .tc := ⟨.hbm, 377, rfl⟩
abbrev main_cst_64 : Ref sig .tc := ⟨.hbm, 378, rfl⟩
abbrev main_v295 : Ref sig .tc := ⟨.hbm, 379, rfl⟩
abbrev main_v296 : Ref sig .tc := ⟨.hbm, 380, rfl⟩
abbrev main_v297 : Ref sig .tc := ⟨.hbm, 381, rfl⟩
abbrev main_v298 : Ref sig .tc := ⟨.hbm, 382, rfl⟩
abbrev main_v299 : Ref sig .tc := ⟨.hbm, 383, rfl⟩
abbrev main_v300 : Ref sig .tc := ⟨.hbm, 384, rfl⟩
abbrev main_cst_65 : Ref sig .tc := ⟨.hbm, 385, rfl⟩
abbrev main_v301 : Ref sig .tc := ⟨.hbm, 386, rfl⟩
abbrev main_v302 : Ref sig .tc := ⟨.hbm, 387, rfl⟩
abbrev main_v303 : Ref sig .tc := ⟨.hbm, 388, rfl⟩
abbrev main_v304 : Ref sig .tc := ⟨.hbm, 389, rfl⟩
abbrev main_v305 : Ref sig .tc := ⟨.hbm, 390, rfl⟩
abbrev main_v306 : Ref sig .tc := ⟨.hbm, 391, rfl⟩
abbrev main_v307 : Ref sig .tc := ⟨.hbm, 392, rfl⟩
abbrev main_v308 : Ref sig .tc := ⟨.hbm, 393, rfl⟩
abbrev main_v309 : Ref sig .tc := ⟨.hbm, 394, rfl⟩
abbrev main_v310 : Ref sig .tc := ⟨.hbm, 395, rfl⟩
abbrev main_v311 : Ref sig .tc := ⟨.hbm, 396, rfl⟩
abbrev main_v312 : Ref sig .tc := ⟨.hbm, 397, rfl⟩
abbrev main_v313 : Ref sig .tc := ⟨.hbm, 398, rfl⟩
abbrev main_v314 : Ref sig .tc := ⟨.hbm, 399, rfl⟩
abbrev main_c_66 : Ref sig .tc := ⟨.hbm, 400, rfl⟩
abbrev main_call4_v0 : Ref sig .tc := ⟨.hbm, 401, rfl⟩
abbrev main_v315 : Ref sig .tc := ⟨.hbm, 402, rfl⟩
abbrev main_v316 : Ref sig .tc := ⟨.hbm, 403, rfl⟩
abbrev main_v317 : Ref sig .tc := ⟨.hbm, 404, rfl⟩
abbrev main_c_67 : Ref sig .tc := ⟨.hbm, 405, rfl⟩
abbrev main_call5_v0 : Ref sig .tc := ⟨.hbm, 406, rfl⟩
abbrev main_v318 : Ref sig .tc := ⟨.hbm, 407, rfl⟩
abbrev main_v319 : Ref sig .tc := ⟨.hbm, 408, rfl⟩
abbrev main_v320 : Ref sig .tc := ⟨.hbm, 409, rfl⟩
abbrev main_c_68 : Ref sig .tc := ⟨.hbm, 410, rfl⟩
abbrev main_call6_v0 : Ref sig .tc := ⟨.hbm, 411, rfl⟩
abbrev main_v321 : Ref sig .tc := ⟨.hbm, 412, rfl⟩
abbrev main_v322 : Ref sig .tc := ⟨.hbm, 413, rfl⟩
abbrev main_c_69 : Ref sig .tc := ⟨.hbm, 414, rfl⟩
abbrev main_call7_v0 : Ref sig .tc := ⟨.hbm, 415, rfl⟩
abbrev main_v323 : Ref sig .tc := ⟨.hbm, 416, rfl⟩
abbrev main_v324 : Ref sig .tc := ⟨.hbm, 417, rfl⟩

abbrev nD : Nat := 1
abbrev τ : Topo := Topo.v7x

variable {F : FTy → Type} [FloatOps F]
-- ==== Kernel2.lean ====
abbrev S1024x8320 : Shape := ⟨2, ![1024, 8320]⟩
abbrev S8320x2816 : Shape := ⟨2, ![8320, 2816]⟩
abbrev S1024x2816 : Shape := ⟨2, ![1024, 2816]⟩
abbrev S1024x1664 : Shape := ⟨2, ![1024, 1664]⟩
abbrev S1664x1408 : Shape := ⟨2, ![1664, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S1024x8320, .bf16⟩
  | .hbm, ⟨1, _⟩ => ⟨S8320x2816, .bf16⟩
  | .hbm, ⟨2, _⟩ => ⟨S1024x2816, .f32⟩
  | .local _ .vmem, ⟨0, _⟩ => ⟨S1024x1664, .bf16⟩
  | .local _ .vmem, ⟨1, _⟩ => ⟨S1024x1664, .bf16⟩
  | .local _ .vmem, ⟨2, _⟩ => ⟨S1664x1408, .bf16⟩
  | .local _ .vmem, ⟨3, _⟩ => ⟨S1664x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S1024x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 5], ![false, false, false]⟩

def k0_cond3 (i : grid0.Coords) : BitVec 1 :=
  let arg2 : BitVec 32 := BitVec.ofNat 32 (i 2).val
  let c4_i32 : BitVec 32 := 4#32
  let v6 : BitVec 1 := Scalar.cmpi .eq arg2 c4_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S1024x8320 : Shape := ⟨2, ![1024, 8320]⟩
abbrev S8320x2816 : Shape := ⟨2, ![8320, 2816]⟩
abbrev S8320x1024 : Shape := ⟨2, ![8320, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x8320, .bf16⟩
  | .hbm, ⟨1, _⟩ => ⟨S8320x2816, .bf16⟩
  | .hbm, ⟨2, _⟩ => ⟨S8320x1024, .bf16⟩
  | .hbm, ⟨3, _⟩ => ⟨S_, .f32⟩
  | .hbm, ⟨4, _⟩ => ⟨S1024x2816, .f32⟩
  | .hbm, ⟨5, _⟩ => ⟨S8320x1024, .f32⟩
  | .hbm, ⟨6, _⟩ => ⟨S8320x2816, .f32⟩
  | .hbm, ⟨7, _⟩ => ⟨S8320x2816, .f32⟩
  | .hbm, ⟨8, _⟩ => ⟨S2816x1024, .f32⟩
  | .hbm, ⟨9, _⟩ => ⟨S1024x2816, .f32⟩
  | _, _ => ⟨S1024x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S2816x8320 : Shape := ⟨2, ![2816, 8320]⟩
abbrev S8320x1024 : Shape := ⟨2, ![8320, 1024]⟩
abbrev S2816x1024 : Shape := ⟨2, ![2816, 1024]⟩
abbrev S1408x1664 : Shape := ⟨2, ![1408, 1664]⟩
abbrev S1664x1024 : Shape := ⟨2, ![1664, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2816x8320, .bf16⟩
  | .hbm, ⟨1, _⟩ => ⟨S8320x1024, .bf16⟩
  | .hbm, ⟨2, _⟩ => ⟨S2816x1024, .f32⟩
  | .local _ .vmem, ⟨0, _⟩ => ⟨S1408x1664, .bf16⟩
  | .local _ .vmem, ⟨1, _⟩ => ⟨S1408x1664, .bf16⟩
  | .local _ .vmem, ⟨2, _⟩ => ⟨S1664x1024, .bf16⟩
  | .local _ .vmem, ⟨3, _⟩ => ⟨S1664x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S2816x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 5], ![false, false, false]⟩

def k0_cond3 (i : grid0.Coords) : BitVec 1 :=
  let arg2 : BitVec 32 := BitVec.ofNat 32 (i 2).val
  let c4_i32 : BitVec 32 := 4#32
  let v6 : BitVec 1 := Scalar.cmpi .eq arg2 c4_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2816x8320 : Shape := ⟨2, ![2816, 8320]⟩
abbrev S8320x1024 : Shape := ⟨2, ![8320, 1024]⟩
abbrev S8320x2816 : Shape := ⟨2, ![8320, 2816]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2816x8320, .bf16⟩
  | .hbm, ⟨1, _⟩ => ⟨S8320x1024, .bf16⟩
  | .hbm, ⟨2, _⟩ => ⟨S8320x2816, .bf16⟩
  | .hbm, ⟨3, _⟩ => ⟨S_, .f32⟩
  | .hbm, ⟨4, _⟩ => ⟨S2816x1024, .f32⟩
  | .hbm, ⟨5, _⟩ => ⟨S8320x2816, .f32⟩
  | .hbm, ⟨6, _⟩ => ⟨S8320x1024, .f32⟩
  | .hbm, ⟨7, _⟩ => ⟨S8320x1024, .f32⟩
  | .hbm, ⟨8, _⟩ => ⟨S1024x2816, .f32⟩
  | .hbm, ⟨9, _⟩ => ⟨S2816x1024, .f32⟩
  | _, _ => ⟨S2816x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8320x1024 : Shape := ⟨2, ![8320, 1024]⟩
abbrev S2816x1024 : Shape := ⟨2, ![2816, 1024]⟩
abbrev S8320x2816 : Shape := ⟨2, ![8320, 2816]⟩
abbrev S1664x1024 : Shape := ⟨2, ![1664, 1024]⟩
abbrev S1408x1024 : Shape := ⟨2, ![1408, 1024]⟩
abbrev S1664x1408 : Shape := ⟨2, ![1664, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S2816x1024, .bf16⟩
  | .hbm, ⟨2, _⟩ => ⟨S8320x2816, .f32⟩
  | .local _ .vmem, ⟨0, _⟩ => ⟨S1664x1024, .bf16⟩
  | .local _ .vmem, ⟨1, _⟩ => ⟨S1664x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1664x1408, .f32⟩
  | .local _ .vmem, ⟨5, _⟩ => ⟨S1664x1408, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8320x1024 : Shape := ⟨2, ![8320, 1024]⟩
abbrev S2816x1024 : Shape := ⟨2, ![2816, 1024]⟩
abbrev S_ : Shape := ⟨0, ![]⟩
abbrev S8320x2816 : Shape := ⟨2, ![8320, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S2816x1024, .bf16⟩
  | .hbm, ⟨2, _⟩ => ⟨S_, .f32⟩
  | .hbm, ⟨3, _⟩ => ⟨S8320x2816, .f32⟩
  | .hbm, ⟨4, _⟩ => ⟨S2816x1024, .f32⟩
  | .hbm, ⟨5, _⟩ => ⟨S8320x1024, .f32⟩
  | .hbm, ⟨6, _⟩ => ⟨S8320x1024, .f32⟩
  | .hbm, ⟨7, _⟩ => ⟨S8320x2816, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8320x2816 : Shape := ⟨2, ![8320, 2816]⟩
abbrev S1024x5632 : Shape := ⟨2, ![1024, 5632]⟩
abbrev S8320x1024 : Shape := ⟨2, ![8320, 1024]⟩
abbrev S640x2816 : Shape := ⟨2, ![640, 2816]⟩
abbrev S512x5632 : Shape := ⟨2, ![512, 5632]⟩
abbrev S640x512 : Shape := ⟨2, ![640, 512]⟩
abbrev S512x2816 : Shape := ⟨2, ![512, 2816]⟩

abbrev nBuf : Space → Nat
  | .hbm => 4
  | .vmem => 8
  | .smem => 0
  | _ => 0

abbrev bufTy : (tb : Table) → Fin (tcTables nBuf tb) → BufTy
  | .hbm, ⟨0, _⟩ => ⟨S8320x2816, .bf16⟩
  | .hbm, ⟨1, _⟩ => ⟨S8320x2816, .bf16⟩
  | .hbm, ⟨2, _⟩ => ⟨S1024x5632, .bf16⟩
  | .hbm, ⟨3, _⟩ => ⟨S8320x1024, .f32⟩
  | .local _ .vmem, ⟨0, _⟩ => ⟨S640x2816, .bf16⟩
  | .local _ .vmem, ⟨1, _⟩ => ⟨S640x2816, .bf16⟩
  | .local _ .vmem, ⟨2, _⟩ => ⟨S640x2816, .bf16⟩
  | .local _ .vmem, ⟨3, _⟩ => ⟨S640x2816, .bf16⟩
  | .local _ .vmem, ⟨4, _⟩ => ⟨S512x5632, .bf16⟩
  | .local _ .vmem, ⟨5, _⟩ => ⟨S512x5632, .bf16⟩
  | .local _ .vmem, ⟨6, _⟩ => ⟨S640x512, .f32⟩
  | .local _ .vmem, ⟨7, _⟩ => ⟨S640x512, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![13, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S640x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S640x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8320x2816 : Shape := ⟨2, ![8320, 2816]⟩
abbrev S1024x5632 : Shape := ⟨2, ![1024, 5632]⟩
abbrev S8320x5632 : Shape := ⟨2, ![8320, 5632]⟩
abbrev S_ : Shape := ⟨0, ![]⟩
abbrev S8320x1024 : Shape := ⟨2, ![8320, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S8320x2816, .bf16⟩
  | .hbm, ⟨2, _⟩ => ⟨S1024x5632, .bf16⟩
  | .hbm, ⟨3, _⟩ => ⟨S8320x5632, .bf16⟩
  | .hbm, ⟨4, _⟩ => ⟨S_, .f32⟩
  | .hbm, ⟨5, _⟩ => ⟨S8320x1024, .f32⟩
  | .hbm, ⟨6, _⟩ => ⟨S1024x5632, .f32⟩
  | .hbm, ⟨7, _⟩ => ⟨S8320x5632, .f32⟩
  | .hbm, ⟨8, _⟩ => ⟨S8320x5632, .f32⟩
  | .hbm, ⟨9, _⟩ => ⟨S8320x1024, .f32⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel6.lean ====
abbrev S8320x2048 : Shape := ⟨2, ![8320, 2048]⟩
abbrev S8320x4096 : Shape := ⟨2, ![8320, 4096]⟩
abbrev S8320x128 : Shape := ⟨2, ![8320, 128]⟩
abbrev S1024x6272 : Shape := ⟨2, ![1024, 6272]⟩
abbrev S8320x1024 : Shape := ⟨2, ![8320, 1024]⟩
abbrev S640x2048 : Shape := ⟨2, ![640, 2048]⟩
abbrev S640x4096 : Shape := ⟨2, ![640, 4096]⟩
abbrev S640x128 : Shape := ⟨2, ![640, 128]⟩
abbrev S512x6272 : Shape := ⟨2, ![512, 6272]⟩
abbrev S640x512 : Shape := ⟨2, ![640, 512]⟩
abbrev S512x2048 : Shape := ⟨2, ![512, 2048]⟩
abbrev S512x4096 : Shape := ⟨2, ![512, 4096]⟩
abbrev S512x128 : Shape := ⟨2, ![512, 128]⟩

abbrev nBuf : Space → Nat
  | .hbm => 5
  | .vmem => 10
  | .smem => 0
  | _ => 0

abbrev bufTy : (tb : Table) → Fin (tcTables nBuf tb) → BufTy
  | .hbm, ⟨0, _⟩ => ⟨S8320x2048, .bf16⟩
  | .hbm, ⟨1, _⟩ => ⟨S8320x4096, .bf16⟩
  | .hbm, ⟨2, _⟩ => ⟨S8320x128, .bf16⟩
  | .hbm, ⟨3, _⟩ => ⟨S1024x6272, .bf16⟩
  | .hbm, ⟨4, _⟩ => ⟨S8320x1024, .f32⟩
  | .local _ .vmem, ⟨0, _⟩ => ⟨S640x2048, .bf16⟩
  | .local _ .vmem, ⟨1, _⟩ => ⟨S640x2048, .bf16⟩
  | .local _ .vmem, ⟨2, _⟩ => ⟨S640x4096, .bf16⟩
  | .local _ .vmem, ⟨3, _⟩ => ⟨S640x4096, .bf16⟩
  | .local _ .vmem, ⟨4, _⟩ => ⟨S640x128, .bf16⟩
  | .local _ .vmem, ⟨5, _⟩ => ⟨S640x128, .bf16⟩
  | .local _ .vmem, ⟨6, _⟩ => ⟨S512x6272, .bf16⟩
  | .local _ .vmem, ⟨7, _⟩ => ⟨S512x6272, .bf16⟩
  | .local _ .vmem, ⟨8, _⟩ => ⟨S640x512, .f32⟩
  | .local _ .vmem, ⟨9, _⟩ => ⟨S640x512, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![13, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S640x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x6272 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S640x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S8320x2048 : Shape := ⟨2, ![8320, 2048]⟩
abbrev S8320x4096 : Shape := ⟨2, ![8320, 4096]⟩
abbrev S8320x128 : Shape := ⟨2, ![8320, 128]⟩
abbrev S1024x6272 : Shape := ⟨2, ![1024, 6272]⟩
abbrev S8320x6272 : Shape := ⟨2, ![8320, 6272]⟩
abbrev S_ : Shape := ⟨0, ![]⟩
abbrev S8320x1024 : Shape := ⟨2, ![8320, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x4096, .bf16⟩
  | .hbm, ⟨2, _⟩ => ⟨S8320x128, .bf16⟩
  | .hbm, ⟨3, _⟩ => ⟨S1024x6272, .bf16⟩
  | .hbm, ⟨4, _⟩ => ⟨S8320x6272, .bf16⟩
  | .hbm, ⟨5, _⟩ => ⟨S_, .f32⟩
  | .hbm, ⟨6, _⟩ => ⟨S8320x1024, .f32⟩
  | .hbm, ⟨7, _⟩ => ⟨S1024x6272, .f32⟩
  | .hbm, ⟨8, _⟩ => ⟨S8320x6272, .f32⟩
  | .hbm, ⟨9, _⟩ => ⟨S8320x6272, .f32⟩
  | .hbm, ⟨10, _⟩ => ⟨S8320x1024, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel7.lean ====
abbrev S1024x8320 : Shape := ⟨2, ![1024, 8320]⟩
abbrev S8320x4096 : Shape := ⟨2, ![8320, 4096]⟩
abbrev S1024x4096 : Shape := ⟨2, ![1024, 4096]⟩
abbrev S1024x1664 : Shape := ⟨2, ![1024, 1664]⟩
abbrev S1664x1024 : Shape := ⟨2, ![1664, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x8320, .bf16⟩
  | .hbm, ⟨1, _⟩ => ⟨S8320x4096, .bf16⟩
  | .hbm, ⟨2, _⟩ => ⟨S1024x4096, .f32⟩
  | .local _ .vmem, ⟨0, _⟩ => ⟨S1024x1664, .bf16⟩
  | .local _ .vmem, ⟨1, _⟩ => ⟨S1024x1664, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 5], ![false, false, false]⟩

def k0_cond3 (i : grid0.Coords) : BitVec 1 :=
  let arg2 : BitVec 32 := BitVec.ofNat 32 (i 2).val
  let c4_i32 : BitVec 32 := 4#32
  let v6 : BitVec 1 := Scalar.cmpi .eq arg2 c4_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S1024x8320 : Shape := ⟨2, ![1024, 8320]⟩
abbrev S8320x4096 : Shape := ⟨2, ![8320, 4096]⟩
abbrev S8320x1024 : Shape := ⟨2, ![8320, 1024]⟩
abbrev S_ : Shape := ⟨0, ![]⟩
abbrev S1024x4096 : Shape := ⟨2, ![1024, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x8320, .bf16⟩
  | .hbm, ⟨1, _⟩ => ⟨S8320x4096, .bf16⟩
  | .hbm, ⟨2, _⟩ => ⟨S8320x1024, .bf16⟩
  | .hbm, ⟨3, _⟩ => ⟨S_, .f32⟩
  | .hbm, ⟨4, _⟩ => ⟨S1024x4096, .f32⟩
  | .hbm, ⟨5, _⟩ => ⟨S8320x1024, .f32⟩
  | .hbm, ⟨6, _⟩ => ⟨S8320x4096, .f32⟩
  | .hbm, ⟨7, _⟩ => ⟨S8320x4096, .f32⟩
  | .hbm, ⟨8, _⟩ => ⟨S4096x1024, .f32⟩
  | .hbm, ⟨9, _⟩ => ⟨S1024x4096, .f32⟩
  | _, _ => ⟨S1024x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S1024x8320 : Shape := ⟨2, ![1024, 8320]⟩
abbrev S8320x2048 : Shape := ⟨2, ![8320, 2048]⟩
abbrev S1024x2048 : Shape := ⟨2, ![1024, 2048]⟩
abbrev S1024x1664 : Shape := ⟨2, ![1024, 1664]⟩
abbrev S1664x1024 : Shape := ⟨2, ![1664, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x8320, .bf16⟩
  | .hbm, ⟨1, _⟩ => ⟨S8320x2048, .bf16⟩
  | .hbm, ⟨2, _⟩ => ⟨S1024x2048, .f32⟩
  | .local _ .vmem, ⟨0, _⟩ => ⟨S1024x1664, .bf16⟩
  | .local _ .vmem, ⟨1, _⟩ => ⟨S1024x1664, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 5], ![false, false, false]⟩

def k0_cond3 (i : grid0.Coords) : BitVec 1 :=
  let arg2 : BitVec 32 := BitVec.ofNat 32 (i 2).val
  let c4_i32 : BitVec 32 := 4#32
  let v6 : BitVec 1 := Scalar.cmpi .eq arg2 c4_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S1024x8320 : Shape := ⟨2, ![1024, 8320]⟩
abbrev S8320x2048 : Shape := ⟨2, ![8320, 2048]⟩
abbrev S8320x1024 : Shape := ⟨2, ![8320, 1024]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x8320, .bf16⟩
  | .hbm, ⟨1, _⟩ => ⟨S8320x2048, .bf16⟩
  | .hbm, ⟨2, _⟩ => ⟨S8320x1024, .bf16⟩
  | .hbm, ⟨3, _⟩ => ⟨S_, .f32⟩
  | .hbm, ⟨4, _⟩ => ⟨S1024x2048, .f32⟩
  | .hbm, ⟨5, _⟩ => ⟨S8320x1024, .f32⟩
  | .hbm, ⟨6, _⟩ => ⟨S8320x2048, .f32⟩
  | .hbm, ⟨7, _⟩ => ⟨S8320x2048, .f32⟩
  | .hbm, ⟨8, _⟩ => ⟨S2048x1024, .f32⟩
  | .hbm, ⟨9, _⟩ => ⟨S1024x2048, .f32⟩
  | _, _ => ⟨S1024x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S1024x8320 : Shape := ⟨2, ![1024, 8320]⟩
abbrev S8320x128 : Shape := ⟨2, ![8320, 128]⟩
abbrev S1024x128 : Shape := ⟨2, ![1024, 128]⟩
abbrev S1024x1664 : Shape := ⟨2, ![1024, 1664]⟩
abbrev S1664x128 : Shape := ⟨2, ![1664, 128]⟩

abbrev nBuf : Space → Nat
  | .hbm => 3
  | .vmem => 6
  | .smem => 0
  | _ => 0

abbrev bufTy : (tb : Table) → Fin (tcTables nBuf tb) → BufTy
  | .hbm, ⟨0, _⟩ => ⟨S1024x8320, .bf16⟩
  | .hbm, ⟨1, _⟩ => ⟨S8320x128, .bf16⟩
  | .hbm, ⟨2, _⟩ => ⟨S1024x128, .f32⟩
  | .local _ .vmem, ⟨0, _⟩ => ⟨S1024x1664, .bf16⟩
  | .local _ .vmem, ⟨1, _⟩ => ⟨S1024x1664, .bf16⟩
  | .local _ .vmem, ⟨2, _⟩ => ⟨S1664x128, .bf16⟩
  | .local _ .vmem, ⟨3, _⟩ => ⟨S1664x128, .bf16⟩
  | .local _ .vmem, ⟨4, _⟩ => ⟨S1024x128, .f32⟩
  | .local _ .vmem, ⟨5, _⟩ => ⟨S1024x128, .f32⟩
  | _, _ => ⟨S1024x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 5], ![false, false, false]⟩

def k0_cond3 (i : grid0.Coords) : BitVec 1 :=
  let arg2 : BitVec 32 := BitVec.ofNat 32 (i 2).val
  let c4_i32 : BitVec 32 := 4#32
  let v6 : BitVec 1 := Scalar.cmpi .eq arg2 c4_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S1024x8320 : Shape := ⟨2, ![1024, 8320]⟩
abbrev S8320x128 : Shape := ⟨2, ![8320, 128]⟩
abbrev S8320x1024 : Shape := ⟨2, ![8320, 1024]⟩
abbrev S_ : Shape := ⟨0, ![]⟩
abbrev S1024x128 : Shape := ⟨2, ![1024, 128]⟩
abbrev S128x1024 : Shape := ⟨2, ![128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x8320, .bf16⟩
  | .hbm, ⟨1, _⟩ => ⟨S8320x128, .bf16⟩
  | .hbm, ⟨2, _⟩ => ⟨S8320x1024, .bf16⟩
  | .hbm, ⟨3, _⟩ => ⟨S_, .f32⟩
  | .hbm, ⟨4, _⟩ => ⟨S1024x128, .f32⟩
  | .hbm, ⟨5, _⟩ => ⟨S8320x1024, .f32⟩
  | .hbm, ⟨6, _⟩ => ⟨S8320x128, .f32⟩
  | .hbm, ⟨7, _⟩ => ⟨S8320x128, .f32⟩
  | .hbm, ⟨8, _⟩ => ⟨S128x1024, .f32⟩
  | .hbm, ⟨9, _⟩ => ⟨S1024x128, .f32⟩
  | _, _ => ⟨S1024x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S8320x1024 : Shape := ⟨2, ![8320, 1024]⟩
abbrev S2048x1024 : Shape := ⟨2, ![2048, 1024]⟩
abbrev S8320x2048 : Shape := ⟨2, ![8320, 2048]⟩
abbrev S1040x1024 : Shape := ⟨2, ![1040, 1024]⟩
abbrev S1040x2048 : Shape := ⟨2, ![1040, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .bf16⟩
  | .hbm, ⟨1, _⟩ => ⟨S2048x1024, .bf16⟩
  | .hbm, ⟨2, _⟩ => ⟨S8320x2048, .f32⟩
  | .local _ .vmem, ⟨0, _⟩ => ⟨S1040x1024, .bf16⟩
  | .local _ .vmem, ⟨1, _⟩ => ⟨S1040x1024, .bf16⟩
  | .local _ .vmem, ⟨2, _⟩ => ⟨S2048x1024, .bf16⟩
  | .local _ .vmem, ⟨3, _⟩ => ⟨S1040x2048, .f32⟩
  | .local _ .vmem, ⟨4, _⟩ => ⟨S1040x2048, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1040x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8320x1024 : Shape := ⟨2, ![8320, 1024]⟩
abbrev S2048x1024 : Shape := ⟨2, ![2048, 1024]⟩
abbrev S_ : Shape := ⟨0, ![]⟩
abbrev S8320x2048 : Shape := ⟨2, ![8320, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S2048x1024, .bf16⟩
  | .hbm, ⟨2, _⟩ => ⟨S_, .f32⟩
  | .hbm, ⟨3, _⟩ => ⟨S8320x2048, .f32⟩
  | .hbm, ⟨4, _⟩ => ⟨S2048x1024, .f32⟩
  | .hbm, ⟨5, _⟩ => ⟨S8320x1024, .f32⟩
  | .hbm, ⟨6, _⟩ => ⟨S8320x1024, .f32⟩
  | .hbm, ⟨7, _⟩ => ⟨S8320x2048, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S2048x8320 : Shape := ⟨2, ![2048, 8320]⟩
abbrev S8320x1024 : Shape := ⟨2, ![8320, 1024]⟩
abbrev S2048x1024 : Shape := ⟨2, ![2048, 1024]⟩
abbrev S1024x1664 : Shape := ⟨2, ![1024, 1664]⟩
abbrev S1664x1024 : Shape := ⟨2, ![1664, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8320, .bf16⟩
  | .hbm, ⟨1, _⟩ => ⟨S8320x1024, .bf16⟩
  | .hbm, ⟨2, _⟩ => ⟨S2048x1024, .f32⟩
  | .local _ .vmem, ⟨0, _⟩ => ⟨S1024x1664, .bf16⟩
  | .local _ .vmem, ⟨1, _⟩ => ⟨S1024x1664, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 5], ![false, false, false]⟩

def k0_cond3 (i : grid0.Coords) : BitVec 1 :=
  let arg2 : BitVec 32 := BitVec.ofNat 32 (i 2).val
  let c4_i32 : BitVec 32 := 4#32
  let v6 : BitVec 1 := Scalar.cmpi .eq arg2 c4_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x8320 : Shape := ⟨2, ![2048, 8320]⟩
abbrev S8320x1024 : Shape := ⟨2, ![8320, 1024]⟩
abbrev S8320x2048 : Shape := ⟨2, ![8320, 2048]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x8320, .bf16⟩
  | .hbm, ⟨1, _⟩ => ⟨S8320x1024, .bf16⟩
  | .hbm, ⟨2, _⟩ => ⟨S8320x2048, .bf16⟩
  | .hbm, ⟨3, _⟩ => ⟨S_, .f32⟩
  | .hbm, ⟨4, _⟩ => ⟨S2048x1024, .f32⟩
  | .hbm, ⟨5, _⟩ => ⟨S8320x2048, .f32⟩
  | .hbm, ⟨6, _⟩ => ⟨S8320x1024, .f32⟩
  | .hbm, ⟨7, _⟩ => ⟨S8320x1024, .f32⟩
  | .hbm, ⟨8, _⟩ => ⟨S1024x2048, .f32⟩
  | .hbm, ⟨9, _⟩ => ⟨S2048x1024, .f32⟩
  | _, _ => ⟨S2048x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8320x1024 : Shape := ⟨2, ![8320, 1024]⟩
abbrev S8320x128 : Shape := ⟨2, ![8320, 128]⟩
abbrev S1024x3328 : Shape := ⟨2, ![1024, 3328]⟩
abbrev S1040x1024 : Shape := ⟨2, ![1040, 1024]⟩
abbrev S1040x128 : Shape := ⟨2, ![1040, 128]⟩
abbrev S512x3328 : Shape := ⟨2, ![512, 3328]⟩
abbrev S1040x512 : Shape := ⟨2, ![1040, 512]⟩
abbrev S512x1024 : Shape := ⟨2, ![512, 1024]⟩
abbrev S512x128 : Shape := ⟨2, ![512, 128]⟩

abbrev nBuf : Space → Nat
  | .hbm => 7
  | .vmem => 14
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S8320x1024, .bf16⟩
  | .hbm, ⟨3, _⟩ => ⟨S8320x128, .bf16⟩
  | .hbm, ⟨4, _⟩ => ⟨S8320x128, .bf16⟩
  | .hbm, ⟨5, _⟩ => ⟨S1024x3328, .bf16⟩
  | .hbm, ⟨6, _⟩ => ⟨S8320x1024, .f32⟩
  | .local _ .vmem, ⟨0, _⟩ => ⟨S1040x1024, .bf16⟩
  | .local _ .vmem, ⟨1, _⟩ => ⟨S1040x1024, .bf16⟩
  | .local _ .vmem, ⟨2, _⟩ => ⟨S1040x1024, .bf16⟩
  | .local _ .vmem, ⟨3, _⟩ => ⟨S1040x1024, .bf16⟩
  | .local _ .vmem, ⟨4, _⟩ => ⟨S1040x1024, .bf16⟩
  | .local _ .vmem, ⟨5, _⟩ => ⟨S1040x1024, .bf16⟩
  | .local _ .vmem, ⟨6, _⟩ => ⟨S1040x128, .bf16⟩
  | .local _ .vmem, ⟨7, _⟩ => ⟨S1040x128, .bf16⟩
  | .local _ .vmem, ⟨8, _⟩ => ⟨S1040x128, .bf16⟩
  | .local _ .vmem, ⟨9, _⟩ => ⟨S1040x128, .bf16⟩
  | .local _ .vmem, ⟨10, _⟩ => ⟨S512x3328, .bf16⟩
  | .local _ .vmem, ⟨11, _⟩ => ⟨S512x3328, .bf16⟩
  | .local _ .vmem, ⟨12, _⟩ => ⟨S1040x512, .f32⟩
  | .local _ .vmem, ⟨13, _⟩ => ⟨S1040x512, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1040x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1040x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1040x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1040x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x3328 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1040x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference12Ideal.lean ====
abbrev S8320x1024 : Shape := ⟨2, ![8320, 1024]⟩
abbrev S8320x128 : Shape := ⟨2, ![8320, 128]⟩
abbrev S1024x3328 : Shape := ⟨2, ![1024, 3328]⟩
abbrev S8320x3328 : Shape := ⟨2, ![8320, 3328]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S8320x1024, .bf16⟩
  | .hbm, ⟨3, _⟩ => ⟨S8320x128, .bf16⟩
  | .hbm, ⟨4, _⟩ => ⟨S8320x128, .bf16⟩
  | .hbm, ⟨5, _⟩ => ⟨S1024x3328, .bf16⟩
  | .hbm, ⟨6, _⟩ => ⟨S8320x3328, .bf16⟩
  | .hbm, ⟨7, _⟩ => ⟨S_, .f32⟩
  | .hbm, ⟨8, _⟩ => ⟨S8320x1024, .f32⟩
  | .hbm, ⟨9, _⟩ => ⟨S1024x3328, .f32⟩
  | .hbm, ⟨10, _⟩ => ⟨S8320x3328, .f32⟩
  | .hbm, ⟨11, _⟩ => ⟨S8320x3328, .f32⟩
  | .hbm, ⟨12, _⟩ => ⟨S8320x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩

abbrev nD : Nat := 1
abbrev τ : Topo := Topo.v7x

variable {F : FTy → Type} [FloatOps F]
-- ==== Kernel13.lean ====
abbrev S1024x8320 : Shape := ⟨2, ![1024, 8320]⟩
abbrev S8320x1024 : Shape := ⟨2, ![8320, 1024]⟩
abbrev S1024x1024 : Shape := ⟨2, ![1024, 1024]⟩
abbrev S1024x1664 : Shape := ⟨2, ![1024, 1664]⟩
abbrev S1664x1024 : Shape := ⟨2, ![1664, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x8320, .bf16⟩
  | .hbm, ⟨1, _⟩ => ⟨S8320x1024, .bf16⟩
  | .hbm, ⟨2, _⟩ => ⟨S1024x1024, .f32⟩
  | .local _ .vmem, ⟨0, _⟩ => ⟨S1024x1664, .bf16⟩
  | .local _ .vmem, ⟨1, _⟩ => ⟨S1024x1664, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .f32⟩
  | .local _ .vmem, ⟨5, _⟩ => ⟨S1024x1024, .f32⟩
  | _, _ => ⟨S1024x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 5], ![false, false, false]⟩

def k0_cond3 (i : grid0.Coords) : BitVec 1 :=
  let arg2 : BitVec 32 := BitVec.ofNat 32 (i 2).val
  let c4_i32 : BitVec 32 := 4#32
  let v6 : BitVec 1 := Scalar.cmpi .eq arg2 c4_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S1024x8320 : Shape := ⟨2, ![1024, 8320]⟩
abbrev S8320x1024 : Shape := ⟨2, ![8320, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x8320, .bf16⟩
  | .hbm, ⟨1, _⟩ => ⟨S8320x1024, .bf16⟩
  | .hbm, ⟨2, _⟩ => ⟨S8320x1024, .bf16⟩
  | .hbm, ⟨3, _⟩ => ⟨S_, .f32⟩
  | .hbm, ⟨4, _⟩ => ⟨S1024x1024, .f32⟩
  | .hbm, ⟨5, _⟩ => ⟨S8320x1024, .f32⟩
  | .hbm, ⟨6, _⟩ => ⟨S8320x1024, .f32⟩
  | .hbm, ⟨7, _⟩ => ⟨S8320x1024, .f32⟩
  | .hbm, ⟨8, _⟩ => ⟨S1024x1024, .f32⟩
  | .hbm, ⟨9, _⟩ => ⟨S1024x1024, .f32⟩
  | _, _ => ⟨S1024x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S8320x1024 : Shape := ⟨2, ![8320, 1024]⟩
abbrev S2048x1024 : Shape := ⟨2, ![2048, 1024]⟩
abbrev S8320x2048 : Shape := ⟨2, ![8320, 2048]⟩
abbrev S1664x1024 : Shape := ⟨2, ![1664, 1024]⟩
abbrev S512x1024 : Shape := ⟨2, ![512, 1024]⟩
abbrev S1664x512 : Shape := ⟨2, ![1664, 512]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S2048x1024, .bf16⟩
  | .hbm, ⟨2, _⟩ => ⟨S8320x2048, .f32⟩
  | .local _ .vmem, ⟨0, _⟩ => ⟨S1664x1024, .bf16⟩
  | .local _ .vmem, ⟨1, _⟩ => ⟨S1664x1024, .bf16⟩
  | .local _ .vmem, ⟨2, _⟩ => ⟨S512x1024, .bf16⟩
  | .local _ .vmem, ⟨3, _⟩ => ⟨S512x1024, .bf16⟩
  | .local _ .vmem, ⟨4, _⟩ => ⟨S1664x512, .f32⟩
  | .local _ .vmem, ⟨5, _⟩ => ⟨S1664x512, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1664x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S8320x1024 : Shape := ⟨2, ![8320, 1024]⟩
abbrev S2048x1024 : Shape := ⟨2, ![2048, 1024]⟩
abbrev S_ : Shape := ⟨0, ![]⟩
abbrev S8320x2048 : Shape := ⟨2, ![8320, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S2048x1024, .bf16⟩
  | .hbm, ⟨2, _⟩ => ⟨S_, .f32⟩
  | .hbm, ⟨3, _⟩ => ⟨S8320x2048, .f32⟩
  | .hbm, ⟨4, _⟩ => ⟨S2048x1024, .f32⟩
  | .hbm, ⟨5, _⟩ => ⟨S8320x1024, .f32⟩
  | .hbm, ⟨6, _⟩ => ⟨S8320x1024, .f32⟩
  | .hbm, ⟨7, _⟩ => ⟨S8320x2048, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S8320x1024 : Shape := ⟨2, ![8320, 1024]⟩
abbrev S1024x5632 : Shape := ⟨2, ![1024, 5632]⟩
abbrev S8320x5632 : Shape := ⟨2, ![8320, 5632]⟩
abbrev S1664x1024 : Shape := ⟨2, ![1664, 1024]⟩
abbrev S1024x1408 : Shape := ⟨2, ![1024, 1408]⟩
abbrev S1664x1408 : Shape := ⟨2, ![1664, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S1024x5632, .bf16⟩
  | .hbm, ⟨2, _⟩ => ⟨S8320x5632, .f32⟩
  | .local _ .vmem, ⟨0, _⟩ => ⟨S1664x1024, .bf16⟩
  | .local _ .vmem, ⟨1, _⟩ => ⟨S1664x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1664x1408, .f32⟩
  | .local _ .vmem, ⟨5, _⟩ => ⟨S1664x1408, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8320x1024 : Shape := ⟨2, ![8320, 1024]⟩
abbrev S1024x5632 : Shape := ⟨2, ![1024, 5632]⟩
abbrev S8320x5632 : Shape := ⟨2, ![8320, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x5632, .bf16⟩
  | .hbm, ⟨2, _⟩ => ⟨S8320x1024, .f32⟩
  | .hbm, ⟨3, _⟩ => ⟨S1024x5632, .f32⟩
  | .hbm, ⟨4, _⟩ => ⟨S8320x5632, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S8320x2816 : Shape := ⟨2, ![8320, 2816]⟩
abbrev S2816x1024 : Shape := ⟨2, ![2816, 1024]⟩
abbrev S8320x1024 : Shape := ⟨2, ![8320, 1024]⟩
abbrev S1664x1408 : Shape := ⟨2, ![1664, 1408]⟩
abbrev S1408x1024 : Shape := ⟨2, ![1408, 1024]⟩
abbrev S1664x1024 : Shape := ⟨2, ![1664, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x2816, .bf16⟩
  | .hbm, ⟨1, _⟩ => ⟨S2816x1024, .bf16⟩
  | .hbm, ⟨2, _⟩ => ⟨S8320x1024, .f32⟩
  | .local _ .vmem, ⟨0, _⟩ => ⟨S1664x1408, .bf16⟩
  | .local _ .vmem, ⟨1, _⟩ => ⟨S1664x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1664x1024, .f32⟩
  | .local _ .vmem, ⟨5, _⟩ => ⟨S1664x1024, .f32⟩
  | .local _ .vmem, ⟨6, _⟩ => ⟨S1664x1024, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8320x2816 : Shape := ⟨2, ![8320, 2816]⟩
abbrev S2816x1024 : Shape := ⟨2, ![2816, 1024]⟩
abbrev S8320x1024 : Shape := ⟨2, ![8320, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S2816x1024, .bf16⟩
  | .hbm, ⟨2, _⟩ => ⟨S8320x2816, .f32⟩
  | .hbm, ⟨3, _⟩ => ⟨S2816x1024, .f32⟩
  | .hbm, ⟨4, _⟩ => ⟨S8320x1024, .f32⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S8320x1024 : Shape := ⟨2, ![8320, 1024]⟩
abbrev S1024x6272 : Shape := ⟨2, ![1024, 6272]⟩
abbrev S8320x6272 : Shape := ⟨2, ![8320, 6272]⟩
abbrev S1664x1024 : Shape := ⟨2, ![1664, 1024]⟩
abbrev S1024x896 : Shape := ⟨2, ![1024, 896]⟩
abbrev S1664x896 : Shape := ⟨2, ![1664, 896]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S1024x6272, .bf16⟩
  | .hbm, ⟨2, _⟩ => ⟨S8320x6272, .f32⟩
  | .local _ .vmem, ⟨0, _⟩ => ⟨S1664x1024, .bf16⟩
  | .local _ .vmem, ⟨1, _⟩ => ⟨S1664x1024, .bf16⟩
  | .local _ .vmem, ⟨2, _⟩ => ⟨S1024x896, .bf16⟩
  | .local _ .vmem, ⟨3, _⟩ => ⟨S1024x896, .bf16⟩
  | .local _ .vmem, ⟨4, _⟩ => ⟨S1664x896, .f32⟩
  | .local _ .vmem, ⟨5, _⟩ => ⟨S1664x896, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8320x1024 : Shape := ⟨2, ![8320, 1024]⟩
abbrev S1024x6272 : Shape := ⟨2, ![1024, 6272]⟩
abbrev S8320x6272 : Shape := ⟨2, ![8320, 6272]⟩

abbrev nBuf : Space → Nat
  | .hbm => 5
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x6272, .bf16⟩
  | .hbm, ⟨2, _⟩ => ⟨S8320x1024, .f32⟩
  | .hbm, ⟨3, _⟩ => ⟨S1024x6272, .f32⟩
  | .hbm, ⟨4, _⟩ => ⟨S8320x6272, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S8320x2048 : Shape := ⟨2, ![8320, 2048]⟩
abbrev S2048x1024 : Shape := ⟨2, ![2048, 1024]⟩
abbrev S8320x1024 : Shape := ⟨2, ![8320, 1024]⟩
abbrev S1664x2048 : Shape := ⟨2, ![1664, 2048]⟩
abbrev S1664x1024 : Shape := ⟨2, ![1664, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x2048, .bf16⟩
  | .hbm, ⟨1, _⟩ => ⟨S2048x1024, .bf16⟩
  | .hbm, ⟨2, _⟩ => ⟨S8320x1024, .f32⟩
  | .local _ .vmem, ⟨0, _⟩ => ⟨S1664x2048, .bf16⟩
  | .local _ .vmem, ⟨1, _⟩ => ⟨S1664x2048, .bf16⟩
  | .local _ .vmem, ⟨2, _⟩ => ⟨S2048x1024, .bf16⟩
  | .local _ .vmem, ⟨3, _⟩ => ⟨S1664x1024, .f32⟩
  | .local _ .vmem, ⟨4, _⟩ => ⟨S1664x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![5, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8320x2048 : Shape := ⟨2, ![8320, 2048]⟩
abbrev S2048x1024 : Shape := ⟨2, ![2048, 1024]⟩
abbrev S8320x1024 : Shape := ⟨2, ![8320, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x1024, .bf16⟩
  | .hbm, ⟨2, _⟩ => ⟨S8320x2048, .f32⟩
  | .hbm, ⟨3, _⟩ => ⟨S2048x1024, .f32⟩
  | .hbm, ⟨4, _⟩ => ⟨S8320x1024, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel19.lean ====
abbrev S8320x1024 : Shape := ⟨2, ![8320, 1024]⟩
abbrev S1024x3328 : Shape := ⟨2, ![1024, 3328]⟩
abbrev S8320x3328 : Shape := ⟨2, ![8320, 3328]⟩
abbrev S1664x1024 : Shape := ⟨2, ![1664, 1024]⟩
abbrev S1024x1664 : Shape := ⟨2, ![1024, 1664]⟩
abbrev S1664x1664 : Shape := ⟨2, ![1664, 1664]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S1024x3328, .bf16⟩
  | .hbm, ⟨2, _⟩ => ⟨S8320x3328, .f32⟩
  | .local _ .vmem, ⟨0, _⟩ => ⟨S1664x1024, .bf16⟩
  | .local _ .vmem, ⟨1, _⟩ => ⟨S1664x1024, .bf16⟩
  | .local _ .vmem, ⟨2, _⟩ => ⟨S1024x1664, .bf16⟩
  | .local _ .vmem, ⟨3, _⟩ => ⟨S1024x1664, .bf16⟩
  | .local _ .vmem, ⟨4, _⟩ => ⟨S1664x1664, .f32⟩
  | .local _ .vmem, ⟨5, _⟩ => ⟨S1664x1664, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8320x1024 : Shape := ⟨2, ![8320, 1024]⟩
abbrev S1024x3328 : Shape := ⟨2, ![1024, 3328]⟩
abbrev S8320x3328 : Shape := ⟨2, ![8320, 3328]⟩

abbrev nBuf : Space → Nat
  | .hbm => 5
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x3328, .bf16⟩
  | .hbm, ⟨2, _⟩ => ⟨S8320x1024, .f32⟩
  | .hbm, ⟨3, _⟩ => ⟨S1024x3328, .f32⟩
  | .hbm, ⟨4, _⟩ => ⟨S8320x3328, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel20.lean ====
abbrev S8320x1024 : Shape := ⟨2, ![8320, 1024]⟩
abbrev S2048x1024 : Shape := ⟨2, ![2048, 1024]⟩
abbrev S1664x1024 : Shape := ⟨2, ![1664, 1024]⟩
abbrev S2048x512 : Shape := ⟨2, ![2048, 512]⟩
abbrev S1664x512 : Shape := ⟨2, ![1664, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S2048x1024, .bf16⟩
  | .hbm, ⟨3, _⟩ => ⟨S8320x1024, .f32⟩
  | .local _ .vmem, ⟨0, _⟩ => ⟨S1664x1024, .bf16⟩
  | .local _ .vmem, ⟨1, _⟩ => ⟨S1664x1024, .bf16⟩
  | .local _ .vmem, ⟨2, _⟩ => ⟨S1664x1024, .bf16⟩
  | .local _ .vmem, ⟨3, _⟩ => ⟨S1664x1024, .bf16⟩
  | .local _ .vmem, ⟨4, _⟩ => ⟨S2048x512, .bf16⟩
  | .local _ .vmem, ⟨5, _⟩ => ⟨S2048x512, .bf16⟩
  | .local _ .vmem, ⟨6, _⟩ => ⟨S1664x512, .f32⟩
  | .local _ .vmem, ⟨7, _⟩ => ⟨S1664x512, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![5, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1664x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference20Ideal.lean ====
abbrev S8320x1024 : Shape := ⟨2, ![8320, 1024]⟩
abbrev S2048x1024 : Shape := ⟨2, ![2048, 1024]⟩
abbrev S8320x2048 : Shape := ⟨2, ![8320, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S2048x1024, .bf16⟩
  | .hbm, ⟨3, _⟩ => ⟨S8320x2048, .bf16⟩
  | .hbm, ⟨4, _⟩ => ⟨S8320x2048, .f32⟩
  | .hbm, ⟨5, _⟩ => ⟨S2048x1024, .f32⟩
  | .hbm, ⟨6, _⟩ => ⟨S8320x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel21.lean ====
abbrev S4x1024x416 : Shape := ⟨3, ![4, 1024, 416]⟩
abbrev S1024x416 : Shape := ⟨2, ![1024, 416]⟩
abbrev S4x512x416 : Shape := ⟨3, ![4, 512, 416]⟩
abbrev S512x416 : Shape := ⟨2, ![512, 416]⟩
abbrev S1x512x416 : Shape := ⟨3, ![1, 512, 416]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x416, .bf16⟩
  | .hbm, ⟨1, _⟩ => ⟨S1024x416, .f32⟩
  | .hbm, ⟨2, _⟩ => ⟨S1024x416, .f32⟩
  | .hbm, ⟨3, _⟩ => ⟨S1024x416, .f32⟩
  | .hbm, ⟨4, _⟩ => ⟨S1024x416, .f32⟩
  | .hbm, ⟨5, _⟩ => ⟨S1024x416, .f32⟩
  | .hbm, ⟨6, _⟩ => ⟨S1024x416, .f32⟩
  | .hbm, ⟨7, _⟩ => ⟨S1024x416, .f32⟩
  | .local _ .vmem, ⟨0, _⟩ => ⟨S4x512x416, .bf16⟩
  | .local _ .vmem, ⟨1, _⟩ => ⟨S4x512x416, .bf16⟩
  | .local _ .vmem, ⟨2, _⟩ => ⟨S512x416, .f32⟩
  | .local _ .vmem, ⟨3, _⟩ => ⟨S512x416, .f32⟩
  | .local _ .vmem, ⟨4, _⟩ => ⟨S512x416, .f32⟩
  | .local _ .vmem, ⟨5, _⟩ => ⟨S512x416, .f32⟩
  | .local _ .vmem, ⟨6, _⟩ => ⟨S512x416, .f32⟩
  | .local _ .vmem, ⟨7, _⟩ => ⟨S512x416, .f32⟩
  | .local _ .vmem, ⟨8, _⟩ => ⟨S512x416, .f32⟩
  | .local _ .vmem, ⟨9, _⟩ => ⟨S512x416, .f32⟩
  | .local _ .vmem, ⟨10, _⟩ => ⟨S512x416, .f32⟩
  | .local _ .vmem, ⟨11, _⟩ => ⟨S512x416, .f32⟩
  | .local _ .vmem, ⟨12, _⟩ => ⟨S512x416, .f32⟩
  | .local _ .vmem, ⟨13, _⟩ => ⟨S512x416, .f32⟩
  | .local _ .vmem, ⟨14, _⟩ => ⟨S512x416, .f32⟩
  | .local _ .vmem, ⟨15, _⟩ => ⟨S512x416, .f32⟩
  | _, _ => ⟨S4x1024x416, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x416 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x416 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x416 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x416 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x416 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x416 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x416 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x416 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S4x1024x416 : Shape := ⟨3, ![4, 1024, 416]⟩
abbrev S1024x416 : Shape := ⟨2, ![1024, 416]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x416, .bf16⟩
  | .hbm, ⟨1, _⟩ => ⟨S1024x416, .f32⟩
  | .hbm, ⟨2, _⟩ => ⟨S1024x416, .f32⟩
  | .hbm, ⟨3, _⟩ => ⟨S1024x416, .f32⟩
  | .hbm, ⟨4, _⟩ => ⟨S4x1024x416, .f32⟩
  | .hbm, ⟨5, _⟩ => ⟨S_, .f32⟩
  | .hbm, ⟨6, _⟩ => ⟨S1024x416, .f32⟩
  | .hbm, ⟨7, _⟩ => ⟨S_, .f32⟩
  | .hbm, ⟨8, _⟩ => ⟨S1024x416, .f32⟩
  | .hbm, ⟨9, _⟩ => ⟨S1024x416, .f32⟩
  | .hbm, ⟨10, _⟩ => ⟨S_, .f32⟩
  | .hbm, ⟨11, _⟩ => ⟨S1024x416, .f32⟩
  | .hbm, ⟨12, _⟩ => ⟨S1024x416, .f32⟩
  | .hbm, ⟨13, _⟩ => ⟨S1024x416, .f32⟩
  | .hbm, ⟨14, _⟩ => ⟨S_, .f32⟩
  | .hbm, ⟨15, _⟩ => ⟨S1024x416, .f32⟩
  | .hbm, ⟨16, _⟩ => ⟨S1024x416, .f32⟩
  | .hbm, ⟨17, _⟩ => ⟨S1024x416, .f32⟩
  | .hbm, ⟨18, _⟩ => ⟨S_, .f32⟩
  | .hbm, ⟨19, _⟩ => ⟨S1024x416, .f32⟩
  | .hbm, ⟨20, _⟩ => ⟨S1024x416, .f32⟩
  | .hbm, ⟨21, _⟩ => ⟨S1024x416, .f32⟩
  | .hbm, ⟨22, _⟩ => ⟨S_, .f32⟩
  | .hbm, ⟨23, _⟩ => ⟨S1024x416, .f32⟩
  | .hbm, ⟨24, _⟩ => ⟨S1024x416, .f32⟩
  | .hbm, ⟨25, _⟩ => ⟨S_, .f32⟩
  | .hbm, ⟨26, _⟩ => ⟨S1024x416, .f32⟩
  | .hbm, ⟨27, _⟩ => ⟨S1024x416, .f32⟩
  | .hbm, ⟨28, _⟩ => ⟨S1024x416, .f32⟩
  | .hbm, ⟨29, _⟩ => ⟨S_, .f32⟩
  | .hbm, ⟨30, _⟩ => ⟨S1024x416, .f32⟩
  | .hbm, ⟨31, _⟩ => ⟨S1024x416, .f32⟩
  | .hbm, ⟨32, _⟩ => ⟨S1024x416, .f32⟩
  | .hbm, ⟨33, _⟩ => ⟨S_, .f32⟩
  | .hbm, ⟨34, _⟩ => ⟨S1024x416, .f32⟩
  | .hbm, ⟨35, _⟩ => ⟨S1024x416, .f32⟩
  | .hbm, ⟨36, _⟩ => ⟨S1024x416, .f32⟩
  | .hbm, ⟨37, _⟩ => ⟨S_, .f32⟩
  | .hbm, ⟨38, _⟩ => ⟨S1024x416, .f32⟩
  | .hbm, ⟨39, _⟩ => ⟨S1024x416, .f32⟩
  | _, _ => ⟨S4x1024x416, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel22.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S4x256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference22Ideal.lean ====
abbrev S4x256x1024 : Shape := ⟨3, ![4, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S4x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel23.lean ====
abbrev S4x1024x704 : Shape := ⟨3, ![4, 1024, 704]⟩
abbrev S1024x704 : Shape := ⟨2, ![1024, 704]⟩
abbrev S4x256x704 : Shape := ⟨3, ![4, 256, 704]⟩
abbrev S256x704 : Shape := ⟨2, ![256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S4x256x704, .bf16⟩
  | .local _ .vmem, ⟨1, _⟩ => ⟨S4x256x704, .bf16⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S4x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S4x1024x704 : Shape := ⟨3, ![4, 1024, 704]⟩
abbrev S1024x704 : Shape := ⟨2, ![1024, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S4x1024x704, .f32⟩
  | .hbm, ⟨5, _⟩ => ⟨S_, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S_, .f32⟩
  | .hbm, ⟨11, _⟩ => ⟨S1024x704, .f32⟩
  | .hbm, ⟨12, _⟩ => ⟨S1024x704, .f32⟩
  | .hbm, ⟨13, _⟩ => ⟨S1024x704, .f32⟩
  | .hbm, ⟨14, _⟩ => ⟨S_, .f32⟩
  | .hbm, ⟨15, _⟩ => ⟨S1024x704, .f32⟩
  | .hbm, ⟨16, _⟩ => ⟨S1024x704, .f32⟩
  | .hbm, ⟨17, _⟩ => ⟨S1024x704, .f32⟩
  | .hbm, ⟨18, _⟩ => ⟨S_, .f32⟩
  | .hbm, ⟨19, _⟩ => ⟨S1024x704, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S_, .f32⟩
  | .hbm, ⟨26, _⟩ => ⟨S1024x704, .f32⟩
  | .hbm, ⟨27, _⟩ => ⟨S1024x704, .f32⟩
  | .hbm, ⟨28, _⟩ => ⟨S1024x704, .f32⟩
  | .hbm, ⟨29, _⟩ => ⟨S_, .f32⟩
  | .hbm, ⟨30, _⟩ => ⟨S1024x704, .f32⟩
  | .hbm, ⟨31, _⟩ => ⟨S1024x704, .f32⟩
  | .hbm, ⟨32, _⟩ => ⟨S1024x704, .f32⟩
  | .hbm, ⟨33, _⟩ => ⟨S_, .f32⟩
  | .hbm, ⟨34, _⟩ => ⟨S1024x704, .f32⟩
  | .hbm, ⟨35, _⟩ => ⟨S1024x704, .f32⟩
  | .hbm, ⟨36, _⟩ => ⟨S1024x704, .f32⟩
  | .hbm, ⟨37, _⟩ => ⟨S_, .f32⟩
  | .hbm, ⟨38, _⟩ => ⟨S1024x704, .f32⟩
  | .hbm, ⟨39, _⟩ => ⟨S1024x704, .f32⟩
  | _, _ => ⟨S4x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel24.lean ====
abbrev S4x352x1024 : Shape := ⟨3, ![4, 352, 1024]⟩
abbrev S352x1024 : Shape := ⟨2, ![352, 1024]⟩
abbrev S4x176x1024 : Shape := ⟨3, ![4, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S4x176x1024, .bf16⟩
  | .local _ .vmem, ⟨1, _⟩ => ⟨S4x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S4x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference24Ideal.lean ====
abbrev S4x352x1024 : Shape := ⟨3, ![4, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S4x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S4x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel25.lean ====
abbrev S4x1024x772 : Shape := ⟨3, ![4, 1024, 772]⟩
abbrev S1024x772 : Shape := ⟨2, ![1024, 772]⟩
abbrev S4x256x772 : Shape := ⟨3, ![4, 256, 772]⟩
abbrev S256x772 : Shape := ⟨2, ![256, 772]⟩
abbrev S1x256x772 : Shape := ⟨3, ![1, 256, 772]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x772, .bf16⟩
  | .hbm, ⟨1, _⟩ => ⟨S1024x772, .f32⟩
  | .hbm, ⟨2, _⟩ => ⟨S1024x772, .f32⟩
  | .hbm, ⟨3, _⟩ => ⟨S1024x772, .f32⟩
  | .hbm, ⟨4, _⟩ => ⟨S1024x772, .f32⟩
  | .hbm, ⟨5, _⟩ => ⟨S1024x772, .f32⟩
  | .hbm, ⟨6, _⟩ => ⟨S1024x772, .f32⟩
  | .hbm, ⟨7, _⟩ => ⟨S1024x772, .f32⟩
  | .local _ .vmem, ⟨0, _⟩ => ⟨S4x256x772, .bf16⟩
  | .local _ .vmem, ⟨1, _⟩ => ⟨S4x256x772, .bf16⟩
  | .local _ .vmem, ⟨2, _⟩ => ⟨S256x772, .f32⟩
  | .local _ .vmem, ⟨3, _⟩ => ⟨S256x772, .f32⟩
  | .local _ .vmem, ⟨4, _⟩ => ⟨S256x772, .f32⟩
  | .local _ .vmem, ⟨5, _⟩ => ⟨S256x772, .f32⟩
  | .local _ .vmem, ⟨6, _⟩ => ⟨S256x772, .f32⟩
  | .local _ .vmem, ⟨7, _⟩ => ⟨S256x772, .f32⟩
  | .local _ .vmem, ⟨8, _⟩ => ⟨S256x772, .f32⟩
  | .local _ .vmem, ⟨9, _⟩ => ⟨S256x772, .f32⟩
  | .local _ .vmem, ⟨10, _⟩ => ⟨S256x772, .f32⟩
  | .local _ .vmem, ⟨11, _⟩ => ⟨S256x772, .f32⟩
  | .local _ .vmem, ⟨12, _⟩ => ⟨S256x772, .f32⟩
  | .local _ .vmem, ⟨13, _⟩ => ⟨S256x772, .f32⟩
  | .local _ .vmem, ⟨14, _⟩ => ⟨S256x772, .f32⟩
  | .local _ .vmem, ⟨15, _⟩ => ⟨S256x772, .f32⟩
  | _, _ => ⟨S4x1024x772, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x772 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x772 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x772 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x772 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x772 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x772 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x772 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x772 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference25Ideal.lean ====
abbrev S4x1024x772 : Shape := ⟨3, ![4, 1024, 772]⟩
abbrev S1024x772 : Shape := ⟨2, ![1024, 772]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x772, .bf16⟩
  | .hbm, ⟨1, _⟩ => ⟨S1024x772, .f32⟩
  | .hbm, ⟨2, _⟩ => ⟨S1024x772, .f32⟩
  | .hbm, ⟨3, _⟩ => ⟨S1024x772, .f32⟩
  | .hbm, ⟨4, _⟩ => ⟨S4x1024x772, .f32⟩
  | .hbm, ⟨5, _⟩ => ⟨S_, .f32⟩
  | .hbm, ⟨6, _⟩ => ⟨S1024x772, .f32⟩
  | .hbm, ⟨7, _⟩ => ⟨S_, .f32⟩
  | .hbm, ⟨8, _⟩ => ⟨S1024x772, .f32⟩
  | .hbm, ⟨9, _⟩ => ⟨S1024x772, .f32⟩
  | .hbm, ⟨10, _⟩ => ⟨S_, .f32⟩
  | .hbm, ⟨11, _⟩ => ⟨S1024x772, .f32⟩
  | .hbm, ⟨12, _⟩ => ⟨S1024x772, .f32⟩
  | .hbm, ⟨13, _⟩ => ⟨S1024x772, .f32⟩
  | .hbm, ⟨14, _⟩ => ⟨S_, .f32⟩
  | .hbm, ⟨15, _⟩ => ⟨S1024x772, .f32⟩
  | .hbm, ⟨16, _⟩ => ⟨S1024x772, .f32⟩
  | .hbm, ⟨17, _⟩ => ⟨S1024x772, .f32⟩
  | .hbm, ⟨18, _⟩ => ⟨S_, .f32⟩
  | .hbm, ⟨19, _⟩ => ⟨S1024x772, .f32⟩
  | .hbm, ⟨20, _⟩ => ⟨S1024x772, .f32⟩
  | .hbm, ⟨21, _⟩ => ⟨S1024x772, .f32⟩
  | .hbm, ⟨22, _⟩ => ⟨S_, .f32⟩
  | .hbm, ⟨23, _⟩ => ⟨S1024x772, .f32⟩
  | .hbm, ⟨24, _⟩ => ⟨S1024x772, .f32⟩
  | .hbm, ⟨25, _⟩ => ⟨S_, .f32⟩
  | .hbm, ⟨26, _⟩ => ⟨S1024x772, .f32⟩
  | .hbm, ⟨27, _⟩ => ⟨S1024x772, .f32⟩
  | .hbm, ⟨28, _⟩ => ⟨S1024x772, .f32⟩
  | .hbm, ⟨29, _⟩ => ⟨S_, .f32⟩
  | .hbm, ⟨30, _⟩ => ⟨S1024x772, .f32⟩
  | .hbm, ⟨31, _⟩ => ⟨S1024x772, .f32⟩
  | .hbm, ⟨32, _⟩ => ⟨S1024x772, .f32⟩
  | .hbm, ⟨33, _⟩ => ⟨S_, .f32⟩
  | .hbm, ⟨34, _⟩ => ⟨S1024x772, .f32⟩
  | .hbm, ⟨35, _⟩ => ⟨S1024x772, .f32⟩
  | .hbm, ⟨36, _⟩ => ⟨S1024x772, .f32⟩
  | .hbm, ⟨37, _⟩ => ⟨S_, .f32⟩
  | .hbm, ⟨38, _⟩ => ⟨S1024x772, .f32⟩
  | .hbm, ⟨39, _⟩ => ⟨S1024x772, .f32⟩
  | _, _ => ⟨S4x1024x772, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel26.lean ====
abbrev S4x16x128 : Shape := ⟨3, ![4, 16, 128]⟩
abbrev S16x128 : Shape := ⟨2, ![16, 128]⟩
abbrev S1x16x128 : Shape := ⟨3, ![1, 16, 128]⟩

abbrev nBuf : Space → Nat
  | .hbm => 8
  | .vmem => 8
  | .smem => 0
  | _ => 0

abbrev bufTy : (tb : Table) → Fin (tcTables nBuf tb) → BufTy
  | .hbm, ⟨0, _⟩ => ⟨S4x16x128, .bf16⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .local _ .vmem, ⟨0, _⟩ => ⟨S4x16x128, .bf16⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | _, _ => ⟨S4x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x16x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference26Ideal.lean ====
abbrev S4x16x128 : Shape := ⟨3, ![4, 16, 128]⟩
abbrev S16x128 : Shape := ⟨2, ![16, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x16x128, .bf16⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S4x16x128, .f32⟩
  | .hbm, ⟨5, _⟩ => ⟨S_, .f32⟩
  | .hbm, ⟨6, _⟩ => ⟨S16x128, .f32⟩
  | .hbm, ⟨7, _⟩ => ⟨S_, .f32⟩
  | .hbm, ⟨8, _⟩ => ⟨S16x128, .f32⟩
  | .hbm, ⟨9, _⟩ => ⟨S16x128, .f32⟩
  | .hbm, ⟨10, _⟩ => ⟨S_, .f32⟩
  | .hbm, ⟨11, _⟩ => ⟨S16x128, .f32⟩
  | .hbm, ⟨12, _⟩ => ⟨S16x128, .f32⟩
  | .hbm, ⟨13, _⟩ => ⟨S16x128, .f32⟩
  | .hbm, ⟨14, _⟩ => ⟨S_, .f32⟩
  | .hbm, ⟨15, _⟩ => ⟨S16x128, .f32⟩
  | .hbm, ⟨16, _⟩ => ⟨S16x128, .f32⟩
  | .hbm, ⟨17, _⟩ => ⟨S16x128, .f32⟩
  | .hbm, ⟨18, _⟩ => ⟨S_, .f32⟩
  | .hbm, ⟨19, _⟩ => ⟨S16x128, .f32⟩
  | .hbm, ⟨20, _⟩ => ⟨S16x128, .f32⟩
  | .hbm, ⟨21, _⟩ => ⟨S16x128, .f32⟩
  | .hbm, ⟨22, _⟩ => ⟨S_, .f32⟩
  | .hbm, ⟨23, _⟩ => ⟨S16x128, .f32⟩
  | .hbm, ⟨24, _⟩ => ⟨S16x128, .f32⟩
  | .hbm, ⟨25, _⟩ => ⟨S_, .f32⟩
  | .hbm, ⟨26, _⟩ => ⟨S16x128, .f32⟩
  | .hbm, ⟨27, _⟩ => ⟨S16x128, .f32⟩
  | .hbm, ⟨28, _⟩ => ⟨S16x128, .f32⟩
  | .hbm, ⟨29, _⟩ => ⟨S_, .f32⟩
  | .hbm, ⟨30, _⟩ => ⟨S16x128, .f32⟩
  | .hbm, ⟨31, _⟩ => ⟨S16x128, .f32⟩
  | .hbm, ⟨32, _⟩ => ⟨S16x128, .f32⟩
  | .hbm, ⟨33, _⟩ => ⟨S_, .f32⟩
  | .hbm, ⟨34, _⟩ => ⟨S16x128, .f32⟩
  | .hbm, ⟨35, _⟩ => ⟨S16x128, .f32⟩
  | .hbm, ⟨36, _⟩ => ⟨S16x128, .f32⟩
  | .hbm, ⟨37, _⟩ => ⟨S_, .f32⟩
  | .hbm, ⟨38, _⟩ => ⟨S16x128, .f32⟩
  | .hbm, ⟨39, _⟩ => ⟨S16x128, .f32⟩
  | _, _ => ⟨S4x16x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel27.lean ====
abbrev S4x4x128 : Shape := ⟨3, ![4, 4, 128]⟩
abbrev S4x128 : Shape := ⟨2, ![4, 128]⟩
abbrev S1x4x128 : Shape := ⟨3, ![1, 4, 128]⟩

abbrev nBuf : Space → Nat
  | .hbm => 8
  | .vmem => 8
  | .smem => 0
  | _ => 0

abbrev bufTy : (tb : Table) → Fin (tcTables nBuf tb) → BufTy
  | .hbm, ⟨0, _⟩ => ⟨S4x4x128, .bf16⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .hbm, ⟨7, _⟩ => ⟨S4x128, .f32⟩
  | .local _ .vmem, ⟨0, _⟩ => ⟨S4x4x128, .bf16⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | .local _ .vmem, ⟨7, _⟩ => ⟨S4x128, .f32⟩
  | _, _ => ⟨S4x4x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x4x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference27Ideal.lean ====
abbrev S4x4x128 : Shape := ⟨3, ![4, 4, 128]⟩
abbrev S4x128 : Shape := ⟨2, ![4, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x4x128, .bf16⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x4x128, .f32⟩
  | .hbm, ⟨5, _⟩ => ⟨S_, .f32⟩
  | .hbm, ⟨6, _⟩ => ⟨S4x128, .f32⟩
  | .hbm, ⟨7, _⟩ => ⟨S_, .f32⟩
  | .hbm, ⟨8, _⟩ => ⟨S4x128, .f32⟩
  | .hbm, ⟨9, _⟩ => ⟨S4x128, .f32⟩
  | .hbm, ⟨10, _⟩ => ⟨S_, .f32⟩
  | .hbm, ⟨11, _⟩ => ⟨S4x128, .f32⟩
  | .hbm, ⟨12, _⟩ => ⟨S4x128, .f32⟩
  | .hbm, ⟨13, _⟩ => ⟨S4x128, .f32⟩
  | .hbm, ⟨14, _⟩ => ⟨S_, .f32⟩
  | .hbm, ⟨15, _⟩ => ⟨S4x128, .f32⟩
  | .hbm, ⟨16, _⟩ => ⟨S4x128, .f32⟩
  | .hbm, ⟨17, _⟩ => ⟨S4x128, .f32⟩
  | .hbm, ⟨18, _⟩ => ⟨S_, .f32⟩
  | .hbm, ⟨19, _⟩ => ⟨S4x128, .f32⟩
  | .hbm, ⟨20, _⟩ => ⟨S4x128, .f32⟩
  | .hbm, ⟨21, _⟩ => ⟨S4x128, .f32⟩
  | .hbm, ⟨22, _⟩ => ⟨S_, .f32⟩
  | .hbm, ⟨23, _⟩ => ⟨S4x128, .f32⟩
  | .hbm, ⟨24, _⟩ => ⟨S4x128, .f32⟩
  | .hbm, ⟨25, _⟩ => ⟨S_, .f32⟩
  | .hbm, ⟨26, _⟩ => ⟨S4x128, .f32⟩
  | .hbm, ⟨27, _⟩ => ⟨S4x128, .f32⟩
  | .hbm, ⟨28, _⟩ => ⟨S4x128, .f32⟩
  | .hbm, ⟨29, _⟩ => ⟨S_, .f32⟩
  | .hbm, ⟨30, _⟩ => ⟨S4x128, .f32⟩
  | .hbm, ⟨31, _⟩ => ⟨S4x128, .f32⟩
  | .hbm, ⟨32, _⟩ => ⟨S4x128, .f32⟩
  | .hbm, ⟨33, _⟩ => ⟨S_, .f32⟩
  | .hbm, ⟨34, _⟩ => ⟨S4x128, .f32⟩
  | .hbm, ⟨35, _⟩ => ⟨S4x128, .f32⟩
  | .hbm, ⟨36, _⟩ => ⟨S4x128, .f32⟩
  | .hbm, ⟨37, _⟩ => ⟨S_, .f32⟩
  | .hbm, ⟨38, _⟩ => ⟨S4x128, .f32⟩
  | .hbm, ⟨39, _⟩ => ⟨S4x128, .f32⟩
  | _, _ => ⟨S4x4x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel28.lean ====
abbrev S4x3x704 : Shape := ⟨3, ![4, 3, 704]⟩
abbrev S3x704 : Shape := ⟨2, ![3, 704]⟩
abbrev S1x3x704 : Shape := ⟨3, ![1, 3, 704]⟩

abbrev nBuf : Space → Nat
  | .hbm => 8
  | .vmem => 8
  | .smem => 0
  | _ => 0

abbrev bufTy : (tb : Table) → Fin (tcTables nBuf tb) → BufTy
  | .hbm, ⟨0, _⟩ => ⟨S4x3x704, .bf16⟩
  | .hbm, ⟨1, _⟩ => ⟨S3x704, .f32⟩
  | .hbm, ⟨2, _⟩ => ⟨S3x704, .f32⟩
  | .hbm, ⟨3, _⟩ => ⟨S3x704, .f32⟩
  | .hbm, ⟨4, _⟩ => ⟨S3x704, .f32⟩
  | .hbm, ⟨5, _⟩ => ⟨S3x704, .f32⟩
  | .hbm, ⟨6, _⟩ => ⟨S3x704, .f32⟩
  | .hbm, ⟨7, _⟩ => ⟨S3x704, .f32⟩
  | .local _ .vmem, ⟨0, _⟩ => ⟨S4x3x704, .bf16⟩
  | .local _ .vmem, ⟨1, _⟩ => ⟨S3x704, .f32⟩
  | .local _ .vmem, ⟨2, _⟩ => ⟨S3x704, .f32⟩
  | .local _ .vmem, ⟨3, _⟩ => ⟨S3x704, .f32⟩
  | .local _ .vmem, ⟨4, _⟩ => ⟨S3x704, .f32⟩
  | .local _ .vmem, ⟨5, _⟩ => ⟨S3x704, .f32⟩
  | .local _ .vmem, ⟨6, _⟩ => ⟨S3x704, .f32⟩
  | .local _ .vmem, ⟨7, _⟩ => ⟨S3x704, .f32⟩
  | _, _ => ⟨S4x3x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x3x704 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference28Ideal.lean ====
abbrev S4x3x704 : Shape := ⟨3, ![4, 3, 704]⟩
abbrev S3x704 : Shape := ⟨2, ![3, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x3x704, .bf16⟩
  | .hbm, ⟨1, _⟩ => ⟨S3x704, .f32⟩
  | .hbm, ⟨2, _⟩ => ⟨S3x704, .f32⟩
  | .hbm, ⟨3, _⟩ => ⟨S3x704, .f32⟩
  | .hbm, ⟨4, _⟩ => ⟨S4x3x704, .f32⟩
  | .hbm, ⟨5, _⟩ => ⟨S_, .f32⟩
  | .hbm, ⟨6, _⟩ => ⟨S3x704, .f32⟩
  | .hbm, ⟨7, _⟩ => ⟨S_, .f32⟩
  | .hbm, ⟨8, _⟩ => ⟨S3x704, .f32⟩
  | .hbm, ⟨9, _⟩ => ⟨S3x704, .f32⟩
  | .hbm, ⟨10, _⟩ => ⟨S_, .f32⟩
  | .hbm, ⟨11, _⟩ => ⟨S3x704, .f32⟩
  | .hbm, ⟨12, _⟩ => ⟨S3x704, .f32⟩
  | .hbm, ⟨13, _⟩ => ⟨S3x704, .f32⟩
  | .hbm, ⟨14, _⟩ => ⟨S_, .f32⟩
  | .hbm, ⟨15, _⟩ => ⟨S3x704, .f32⟩
  | .hbm, ⟨16, _⟩ => ⟨S3x704, .f32⟩
  | .hbm, ⟨17, _⟩ => ⟨S3x704, .f32⟩
  | .hbm, ⟨18, _⟩ => ⟨S_, .f32⟩
  | .hbm, ⟨19, _⟩ => ⟨S3x704, .f32⟩
  | .hbm, ⟨20, _⟩ => ⟨S3x704, .f32⟩
  | .hbm, ⟨21, _⟩ => ⟨S3x704, .f32⟩
  | .hbm, ⟨22, _⟩ => ⟨S_, .f32⟩
  | .hbm, ⟨23, _⟩ => ⟨S3x704, .f32⟩
  | .hbm, ⟨24, _⟩ => ⟨S3x704, .f32⟩
  | .hbm, ⟨25, _⟩ => ⟨S_, .f32⟩
  | .hbm, ⟨26, _⟩ => ⟨S3x704, .f32⟩
  | .hbm, ⟨27, _⟩ => ⟨S3x704, .f32⟩
  | .hbm, ⟨28, _⟩ => ⟨S3x704, .f32⟩
  | .hbm, ⟨29, _⟩ => ⟨S_, .f32⟩
  | .hbm, ⟨30, _⟩ => ⟨S3x704, .f32⟩
  | .hbm, ⟨31, _⟩ => ⟨S3x704, .f32⟩
  | .hbm, ⟨32, _⟩ => ⟨S3x704, .f32⟩
  | .hbm, ⟨33, _⟩ => ⟨S_, .f32⟩
  | .hbm, ⟨34, _⟩ => ⟨S3x704, .f32⟩
  | .hbm, ⟨35, _⟩ => ⟨S3x704, .f32⟩
  | .hbm, ⟨36, _⟩ => ⟨S3x704, .f32⟩
  | .hbm, ⟨37, _⟩ => ⟨S_, .f32⟩
  | .hbm, ⟨38, _⟩ => ⟨S3x704, .f32⟩
  | .hbm, ⟨39, _⟩ => ⟨S3x704, .f32⟩
  | _, _ => ⟨S4x3x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel29.lean ====
abbrev S4x4x512 : Shape := ⟨3, ![4, 4, 512]⟩
abbrev S4x512 : Shape := ⟨2, ![4, 512]⟩
abbrev S1x4x512 : Shape := ⟨3, ![1, 4, 512]⟩

abbrev nBuf : Space → Nat
  | .hbm => 8
  | .vmem => 8
  | .smem => 0
  | _ => 0

abbrev bufTy : (tb : Table) → Fin (tcTables nBuf tb) → BufTy
  | .hbm, ⟨0, _⟩ => ⟨S4x4x512, .bf16⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .hbm, ⟨7, _⟩ => ⟨S4x512, .f32⟩
  | .local _ .vmem, ⟨0, _⟩ => ⟨S4x4x512, .bf16⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | .local _ .vmem, ⟨7, _⟩ => ⟨S4x512, .f32⟩
  | _, _ => ⟨S4x4x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x4x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference29Ideal.lean ====
abbrev S4x4x512 : Shape := ⟨3, ![4, 4, 512]⟩
abbrev S4x512 : Shape := ⟨2, ![4, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x4x512, .bf16⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x4x512, .f32⟩
  | .hbm, ⟨5, _⟩ => ⟨S_, .f32⟩
  | .hbm, ⟨6, _⟩ => ⟨S4x512, .f32⟩
  | .hbm, ⟨7, _⟩ => ⟨S_, .f32⟩
  | .hbm, ⟨8, _⟩ => ⟨S4x512, .f32⟩
  | .hbm, ⟨9, _⟩ => ⟨S4x512, .f32⟩
  | .hbm, ⟨10, _⟩ => ⟨S_, .f32⟩
  | .hbm, ⟨11, _⟩ => ⟨S4x512, .f32⟩
  | .hbm, ⟨12, _⟩ => ⟨S4x512, .f32⟩
  | .hbm, ⟨13, _⟩ => ⟨S4x512, .f32⟩
  | .hbm, ⟨14, _⟩ => ⟨S_, .f32⟩
  | .hbm, ⟨15, _⟩ => ⟨S4x512, .f32⟩
  | .hbm, ⟨16, _⟩ => ⟨S4x512, .f32⟩
  | .hbm, ⟨17, _⟩ => ⟨S4x512, .f32⟩
  | .hbm, ⟨18, _⟩ => ⟨S_, .f32⟩
  | .hbm, ⟨19, _⟩ => ⟨S4x512, .f32⟩
  | .hbm, ⟨20, _⟩ => ⟨S4x512, .f32⟩
  | .hbm, ⟨21, _⟩ => ⟨S4x512, .f32⟩
  | .hbm, ⟨22, _⟩ => ⟨S_, .f32⟩
  | .hbm, ⟨23, _⟩ => ⟨S4x512, .f32⟩
  | .hbm, ⟨24, _⟩ => ⟨S4x512, .f32⟩
  | .hbm, ⟨25, _⟩ => ⟨S_, .f32⟩
  | .hbm, ⟨26, _⟩ => ⟨S4x512, .f32⟩
  | .hbm, ⟨27, _⟩ => ⟨S4x512, .f32⟩
  | .hbm, ⟨28, _⟩ => ⟨S4x512, .f32⟩
  | .hbm, ⟨29, _⟩ => ⟨S_, .f32⟩
  | .hbm, ⟨30, _⟩ => ⟨S4x512, .f32⟩
  | .hbm, ⟨31, _⟩ => ⟨S4x512, .f32⟩
  | .hbm, ⟨32, _⟩ => ⟨S4x512, .f32⟩
  | .hbm, ⟨33, _⟩ => ⟨S_, .f32⟩
  | .hbm, ⟨34, _⟩ => ⟨S4x512, .f32⟩
  | .hbm, ⟨35, _⟩ => ⟨S4x512, .f32⟩
  | .hbm, ⟨36, _⟩ => ⟨S4x512, .f32⟩
  | .hbm, ⟨37, _⟩ => ⟨S_, .f32⟩
  | .hbm, ⟨38, _⟩ => ⟨S4x512, .f32⟩
  | .hbm, ⟨39, _⟩ => ⟨S4x512, .f32⟩
  | _, _ => ⟨S4x4x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.KFrame.lean ====
/- The frame of the kernel over the reals (at any float type), with what every output block and every carried scratch
   holds after each grid point: per case of the kernel's one conditional (`out0_A_w`, `out0_B_w`, `sout0_A_j`, `sout0_B_j`),
   point by point (`outsAt0`), then the proof data, the body obligation, the run (`run_main`) and the frame.
   The generated module of this name does not compile within the default budget at `outsAt0_A` and `outsAt0_B`, so it is
   taken over here. -/
module

public import proofs.«01_k».proof.Proof.Gen.KernelIdeal.Frame.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 10 tile its block (8 stores of `S128x128`, checked by the kernel's evaluation: Lib/Ring.lean `Piece.tiledL`, linear in the pieces, through a loop's `@[irreducible]` trip theorem too), so they cover it. -/
theorem cover0_A_10 (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) (y : S128x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).1 S128x128.size (by sl_kernel_rfl) y

/-- What case A leaves in output 10's staging buffer: its pieces read back over junk. -/
def out0_A_10 (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) : Vec F S128x1024 .bf16 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).1)

/-- Case A's pieces for output 11 tile its block (1 store of `S128x128`, checked by the kernel's evaluation: Lib/Ring.lean `Piece.tiledL`, linear in the pieces, through a loop's `@[irreducible]` trip theorem too), so they cover it. -/
theorem cover0_A_11 (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) (y : S128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.1 S128x128.size (by sl_kernel_rfl) y

/-- What case A leaves in output 11's staging buffer: its pieces read back over junk. -/
def out0_A_11 (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) : Vec F S128x128 .bf16 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.1)

/-- Case A's pieces for output 12 tile its block (1 store of `S128x128`, checked by the kernel's evaluation: Lib/Ring.lean `Piece.tiledL`, linear in the pieces, through a loop's `@[irreducible]` trip theorem too), so they cover it. -/
theorem cover0_A_12 (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) (y : S128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.1 S128x128.size (by sl_kernel_rfl) y

/-- What case A leaves in output 12's staging buffer: its pieces read back over junk. -/
def out0_A_12 (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) : Vec F S128x128 .bf16 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.1)

/-- Case A's pieces for output 13 tile its block (2 stores of `S1x128`, checked by the kernel's evaluation: Lib/Ring.lean `Piece.tiledL`, linear in the pieces, through a loop's `@[irreducible]` trip theorem too), so they cover it. -/
theorem cover0_A_13 (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.1 S1x128.size (by sl_kernel_rfl) y

/-- What case A leaves in output 13's staging buffer: its pieces read back over junk. -/
def out0_A_13 (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) : Vec F S1x128 .f32 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.1)

/-- Case A's pieces for scratch `arg15`, which the kernel carries between points, cover it: 2 pieces of `S128x128` tiling it (Lib/Ring.lean `Piece.tiledL`). -/
theorem scover0_A_0 (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) (y : S128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.2.1 S128x128.size (by sl_kernel_rfl) y

/-- What case A leaves in scratch `arg15`: its pieces read back over junk. -/
def sout0_A_0 (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) : Vec F S128x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.2.1)

/-- Case A's pieces for scratch `arg16`, which the kernel carries between points, cover it: 2 pieces of `S128x128` tiling it (Lib/Ring.lean `Piece.tiledL`). -/
theorem scover0_A_1 (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) (y : S128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.2.2.1 S128x128.size (by sl_kernel_rfl) y

/-- What case A leaves in scratch `arg16`: its pieces read back over junk. -/
def sout0_A_1 (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) : Vec F S128x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.2.2.1)

/-- Case A's pieces for scratch `arg17`, which the kernel carries between points, cover it: 2 pieces of `S128x128` tiling it (Lib/Ring.lean `Piece.tiledL`). -/
theorem scover0_A_2 (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) (y : S128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.2.2.2.1 S128x128.size (by sl_kernel_rfl) y

/-- What case A leaves in scratch `arg17`: its pieces read back over junk. -/
def sout0_A_2 (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) : Vec F S128x128 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.2.2.2.1)

/-- Case A's pieces for scratch `arg18`, which the kernel carries between points, cover it: 2 pieces of `S128x128` tiling it (Lib/Ring.lean `Piece.tiledL`). -/
theorem scover0_A_3 (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) (y : S128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.2.2.2.2.1 S128x128.size (by sl_kernel_rfl) y

/-- What case A leaves in scratch `arg18`: its pieces read back over junk. -/
def sout0_A_3 (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) : Vec F S128x128 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).2.2.2.2.2.2.2.1)

/-- Case B's pieces for output 10 tile its block (8 stores of `S128x128`, checked by the kernel's evaluation: Lib/Ring.lean `Piece.tiledL`, linear in the pieces, through a loop's `@[irreducible]` trip theorem too), so they cover it. -/
theorem cover0_B_10 (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) (xo13 : Vec F S1x128 .f32) (xs0 : Vec F S128x128 .f32) (xs1 : Vec F S128x128 .f32) (xs2 : Vec F S128x128 .f32) (xs3 : Vec F S128x128 .f32) (y : S128x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3).1 S128x128.size (by sl_kernel_rfl) y

/-- What case B leaves in output 10's staging buffer: its pieces read back over junk. -/
def out0_B_10 (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) (xo13 : Vec F S1x128 .f32) (xs0 : Vec F S128x128 .f32) (xs1 : Vec F S128x128 .f32) (xs2 : Vec F S128x128 .f32) (xs3 : Vec F S128x128 .f32) : Vec F S128x1024 .bf16 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3).1)

/-- Case B's pieces for output 11 tile its block (1 store of `S128x128`, checked by the kernel's evaluation: Lib/Ring.lean `Piece.tiledL`, linear in the pieces, through a loop's `@[irreducible]` trip theorem too), so they cover it. -/
theorem cover0_B_11 (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) (xo13 : Vec F S1x128 .f32) (xs0 : Vec F S128x128 .f32) (xs1 : Vec F S128x128 .f32) (xs2 : Vec F S128x128 .f32) (xs3 : Vec F S128x128 .f32) (y : S128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3).2.1 S128x128.size (by sl_kernel_rfl) y

/-- What case B leaves in output 11's staging buffer: its pieces read back over junk. -/
def out0_B_11 (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) (xo13 : Vec F S1x128 .f32) (xs0 : Vec F S128x128 .f32) (xs1 : Vec F S128x128 .f32) (xs2 : Vec F S128x128 .f32) (xs3 : Vec F S128x128 .f32) : Vec F S128x128 .bf16 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3).2.1)

/-- Case B's pieces for output 12 tile its block (1 store of `S128x128`, checked by the kernel's evaluation: Lib/Ring.lean `Piece.tiledL`, linear in the pieces, through a loop's `@[irreducible]` trip theorem too), so they cover it. -/
theorem cover0_B_12 (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) (xo13 : Vec F S1x128 .f32) (xs0 : Vec F S128x128 .f32) (xs1 : Vec F S128x128 .f32) (xs2 : Vec F S128x128 .f32) (xs3 : Vec F S128x128 .f32) (y : S128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3).2.2.1 S128x128.size (by sl_kernel_rfl) y

/-- What case B leaves in output 12's staging buffer: its pieces read back over junk. -/
def out0_B_12 (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) (xo13 : Vec F S1x128 .f32) (xs0 : Vec F S128x128 .f32) (xs1 : Vec F S128x128 .f32) (xs2 : Vec F S128x128 .f32) (xs3 : Vec F S128x128 .f32) : Vec F S128x128 .bf16 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3).2.2.1)

/-- Case B's pieces for output 13 tile its block (1 store of `S1x128`, checked by the kernel's evaluation: Lib/Ring.lean `Piece.tiledL`, linear in the pieces, through a loop's `@[irreducible]` trip theorem too), so they cover it. -/
theorem cover0_B_13 (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) (xo13 : Vec F S1x128 .f32) (xs0 : Vec F S128x128 .f32) (xs1 : Vec F S128x128 .f32) (xs2 : Vec F S128x128 .f32) (xs3 : Vec F S128x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3).2.2.2.1 S1x128.size (by sl_kernel_rfl) y

/-- What case B leaves in output 13's staging buffer: its pieces read back over junk. -/
def out0_B_13 (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) (xo13 : Vec F S1x128 .f32) (xs0 : Vec F S128x128 .f32) (xs1 : Vec F S128x128 .f32) (xs2 : Vec F S128x128 .f32) (xs3 : Vec F S128x128 .f32) : Vec F S1x128 .f32 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3).2.2.2.1)

/-- Case B's pieces for scratch `arg15`, which the kernel carries between points, cover it: 1 piece of `S128x128` tiling it (Lib/Ring.lean `Piece.tiledL`). -/
theorem scover0_B_0 (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) (xo13 : Vec F S1x128 .f32) (xs0 : Vec F S128x128 .f32) (xs1 : Vec F S128x128 .f32) (xs2 : Vec F S128x128 .f32) (xs3 : Vec F S128x128 .f32) (y : S128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3).2.2.2.2.1 S128x128.size (by sl_kernel_rfl) y

/-- What case B leaves in scratch `arg15`: its pieces read back over junk. -/
def sout0_B_0 (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) (xo13 : Vec F S1x128 .f32) (xs0 : Vec F S128x128 .f32) (xs1 : Vec F S128x128 .f32) (xs2 : Vec F S128x128 .f32) (xs3 : Vec F S128x128 .f32) : Vec F S128x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3).2.2.2.2.1)

/-- Case B's pieces for scratch `arg16`, which the kernel carries between points, cover it: 1 piece of `S128x128` tiling it (Lib/Ring.lean `Piece.tiledL`). -/
theorem scover0_B_1 (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) (xo13 : Vec F S1x128 .f32) (xs0 : Vec F S128x128 .f32) (xs1 : Vec F S128x128 .f32) (xs2 : Vec F S128x128 .f32) (xs3 : Vec F S128x128 .f32) (y : S128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3).2.2.2.2.2.1 S128x128.size (by sl_kernel_rfl) y

/-- What case B leaves in scratch `arg16`: its pieces read back over junk. -/
def sout0_B_1 (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) (xo13 : Vec F S1x128 .f32) (xs0 : Vec F S128x128 .f32) (xs1 : Vec F S128x128 .f32) (xs2 : Vec F S128x128 .f32) (xs3 : Vec F S128x128 .f32) : Vec F S128x128 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3).2.2.2.2.2.1)

/-- Case B's pieces for scratch `arg17`, which the kernel carries between points, cover it: 1 piece of `S128x128` tiling it (Lib/Ring.lean `Piece.tiledL`). -/
theorem scover0_B_2 (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) (xo13 : Vec F S1x128 .f32) (xs0 : Vec F S128x128 .f32) (xs1 : Vec F S128x128 .f32) (xs2 : Vec F S128x128 .f32) (xs3 : Vec F S128x128 .f32) (y : S128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3).2.2.2.2.2.2.1 S128x128.size (by sl_kernel_rfl) y

/-- What case B leaves in scratch `arg17`: its pieces read back over junk. -/
def sout0_B_2 (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) (xo13 : Vec F S1x128 .f32) (xs0 : Vec F S128x128 .f32) (xs1 : Vec F S128x128 .f32) (xs2 : Vec F S128x128 .f32) (xs3 : Vec F S128x128 .f32) : Vec F S128x128 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3).2.2.2.2.2.2.1)

/-- Case B's pieces for scratch `arg18`, which the kernel carries between points, cover it: 1 piece of `S128x128` tiling it (Lib/Ring.lean `Piece.tiledL`). -/
theorem scover0_B_3 (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) (xo13 : Vec F S1x128 .f32) (xs0 : Vec F S128x128 .f32) (xs1 : Vec F S128x128 .f32) (xs2 : Vec F S128x128 .f32) (xs3 : Vec F S128x128 .f32) (y : S128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3).2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3).2.2.2.2.2.2.2.1 S128x128.size (by sl_kernel_rfl) y

/-- What case B leaves in scratch `arg18`: its pieces read back over junk. -/
def sout0_B_3 (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) (xo13 : Vec F S1x128 .f32) (xs0 : Vec F S128x128 .f32) (xs1 : Vec F S128x128 .f32) (xs2 : Vec F S128x128 .f32) (xs3 : Vec F S128x128 .f32) : Vec F S128x128 .f32 :=
  VS0_3.read (Elt F) (VS0_3.writes (Elt F) VS0_3.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3).2.2.2.2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S128x1024 .bf16 × Vec F S128x128 .bf16 × Vec F S128x128 .bf16 × Vec F S1x128 .f32 × Vec F S128x128 .f32 × Vec F S128x128 .f32 × Vec F S128x128 .f32 × Vec F S128x128 .f32
  | 0, hn => (out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (X0_0 m c ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (X0_0 m c ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (X0_0 m c ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (X0_0 m c ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (X0_0 m c ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (X0_0 m c ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (X0_0 m c ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (X0_0 m c ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩))
  | n + 1, hn =>
    if h0 : (n + 1) % 65 = 0 then
      (out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩))
    else
      (out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2)

set_option maxHeartbeats 2000000 in
/-- `outsAt0` at a point of case A: that case's contents. -/
theorem outsAt0_A (c : Dev nD) (t : Fin cfg0.N) (h0 : t.val % 65 = 0) :
    outsAt0 m c t.val t.isLt = (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (X0_0 m c t) (iblk m c 1 t) (iblk m c 2 t) (iblk m c 3 t) (iblk m c 4 t) (iblk m c 5 t) (iblk m c 6 t) (iblk m c 7 t) (iblk m c 8 t) (iblk m c 9 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (X0_0 m c t) (iblk m c 1 t) (iblk m c 2 t) (iblk m c 3 t) (iblk m c 4 t) (iblk m c 5 t) (iblk m c 6 t) (iblk m c 7 t) (iblk m c 8 t) (iblk m c 9 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (X0_0 m c t) (iblk m c 1 t) (iblk m c 2 t) (iblk m c 3 t) (iblk m c 4 t) (iblk m c 5 t) (iblk m c 6 t) (iblk m c 7 t) (iblk m c 8 t) (iblk m c 9 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (X0_0 m c t) (iblk m c 1 t) (iblk m c 2 t) (iblk m c 3 t) (iblk m c 4 t) (iblk m c 5 t) (iblk m c 6 t) (iblk m c 7 t) (iblk m c 8 t) (iblk m c 9 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (X0_0 m c t) (iblk m c 1 t) (iblk m c 2 t) (iblk m c 3 t) (iblk m c 4 t) (iblk m c 5 t) (iblk m c 6 t) (iblk m c 7 t) (iblk m c 8 t) (iblk m c 9 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (X0_0 m c t) (iblk m c 1 t) (iblk m c 2 t) (iblk m c 3 t) (iblk m c 4 t) (iblk m c 5 t) (iblk m c 6 t) (iblk m c 7 t) (iblk m c 8 t) (iblk m c 9 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (X0_0 m c t) (iblk m c 1 t) (iblk m c 2 t) (iblk m c 3 t) (iblk m c 4 t) (iblk m c 5 t) (iblk m c 6 t) (iblk m c 7 t) (iblk m c 8 t) (iblk m c 9 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (X0_0 m c t) (iblk m c 1 t) (iblk m c 2 t) (iblk m c 3 t) (iblk m c 4 t) (iblk m c 5 t) (iblk m c 6 t) (iblk m c 7 t) (iblk m c 8 t) (iblk m c 9 t)) := by
  obtain ⟨n, hn⟩ := t
  cases n with
  | zero => exact rfl
  | succ n => exact (dif_pos h0).trans rfl

set_option maxHeartbeats 2000000 in
/-- `outsAt0` at a point of case B: that case's contents, over what the point before left. -/
theorem outsAt0_B (c : Dev nD) (t : Fin cfg0.N) (h0 : ¬t.val % 65 = 0) :
    outsAt0 m c t.val t.isLt = (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) (X0_0 m c t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) (X0_0 m c t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) (X0_0 m c t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) (X0_0 m c t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) (X0_0 m c t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) (X0_0 m c t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) (X0_0 m c t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) (X0_0 m c t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.1) ∗ owns (c : Thread nD τ) scM0_1 fullShare ((outsAt0 m c n hn).2.2.2.2.2.1) ∗ owns (c : Thread nD τ) scM0_2 fullShare ((outsAt0 m c n hn).2.2.2.2.2.2.1) ∗ owns (c : Thread nD τ) scM0_3 fullShare ((outsAt0 m c n hn).2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2.1) ∗ owns (c : Thread nD τ) scM0_2 fullShare ((outsAt0 m c n hn).2.2.2.2.2.2.1) ∗ owns (c : Thread nD τ) scM0_3 fullShare ((outsAt0 m c n hn).2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2.1) ∗ owns (c : Thread nD τ) scM0_2 fullShare ((outsAt0 m c (n - 1) (by omega)).2.2.2.2.2.2.1) ∗ owns (c : Thread nD τ) scM0_3 fullShare ((outsAt0 m c (n - 1) (by omega)).2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
    | ⟨11, _⟩ => (outsAt0 m c t.val t.isLt).2.1
    | ⟨12, _⟩ => (outsAt0 m c t.val t.isLt).2.2.1
    | ⟨13, _⟩ => (outsAt0 m c t.val t.isLt).2.2.2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]
theorem after0_11 (c : Dev nD) (t : Fin cfg0.N) : (dats m 0 c).after 11 t = (outsAt0 m c t.val t.isLt).2.1 := by dsimp only [dats]
theorem after0_12 (c : Dev nD) (t : Fin cfg0.N) : (dats m 0 c).after 12 t = (outsAt0 m c t.val t.isLt).2.2.1 := by dsimp only [dats]
theorem after0_13 (c : Dev nD) (t : Fin cfg0.N) : (dats m 0 c).after 13 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
/-- At a point of case B output 13's current staging buffer holds what the body left at the point before: the point is
    not the first, the buffer was not written back between (`flush0_13`), the window is live and uncut (Lib/Pipeline/Frame.lean
    `Dat.before_out_kept`). -/
theorem before0_13_B (c : Dev nD) (t : Fin cfg0.N) (h0 : ¬t.val % 65 = 0) (d) :
    (dats m 0 c).before 13 t d = (outsAt0 m c (t.val - 1) (Nat.lt_of_le_of_lt (Nat.sub_le _ _) t.isLt)).2.2.2.1 := by
  have hN : t.val < 65 := lt_of_lt_of_eq t.isLt (show cfg0.N = 65 from N_0)
  rw [Dat.before_out_kept _ 13 rfl t (by omega) (Bool.eq_false_iff.mpr fun h => by have := (flush0_13 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.succ = PhiS m c (t.val + 1) t.isLt from rfl, PhiS_succ]
  have hN : t.val < 65 := lt_of_lt_of_eq t.isLt (show cfg0.N = 65 from N_0)
  by_cases h0 : t.val % 65 = 0
  · by_cases hz : t.val = 0
    · rw [PhiS_castSucc m c t, PhiS_zero m c _ _ hz, PhiA0_eq]
      rw [outsAt0_A m c t h0]
      unfold out0_A_10 out0_A_11 out0_A_12 out0_A_13 sout0_A_0 sout0_A_1 sout0_A_2 sout0_A_3; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_A c (grid0.coords t) _ _ _ _ _ _ _ _ _ _ _ _ _ _ _ _ _ _ _ _ _ _ _ _ _ _ _ _ _ _ _ _ _ _ _ _ ((hcond0_0 t).mpr h0) (X0_0 m c t) (iblk m c 1 t) (iblk m c 2 t) (iblk m c 3 t) (iblk m c 4 t) (iblk m c 5 t) (iblk m c 6 t) (iblk m c 7 t) (iblk m c 8 t) (iblk m c 9 t)).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [HS0]; · iexact HS0
      isplitl [HS1]; · iexact HS1
      isplitl [HS2]; · iexact HS2
      isplitl [HS3]; · iexact HS3
      iintro ⟨H0, H1, H2, H3, H4, H5, H6, H7, H8, H9, ⟨%e10, H10⟩, ⟨%e11, H11⟩, ⟨%e12, H12⟩, ⟨%e13, H13⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _)
    · exfalso; have hN : t.val < 65 := lt_of_lt_of_eq t.isLt (show cfg0.N = 65 from N_0); omega
  · by_cases hz : t.val = 0
    · exfalso; have hN : t.val < 65 := lt_of_lt_of_eq t.isLt (show cfg0.N = 65 from N_0); omega
    · rw [PhiS_castSucc m c t, PhiS_pos m c _ _ hz]
      rw [outsAt0_B m c t h0]
      simp only [before0_13_B m c t h0]
      unfold out0_B_10 out0_B_11 out0_B_12 out0_B_13 sout0_B_0 sout0_B_1 sout0_B_2 sout0_B_3; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_B c (grid0.coords t) _ _ _ _ _ _ _ _ _ _ _ _ _ _ _ _ _ _ _ _ _ _ _ _ _ _ _ _ _ _ _ _ _ _ _ _ (fun h => h0 ((hcond0_0 t).mp h)) (X0_0 m c t) (iblk m c 1 t) (iblk m c 2 t) (iblk m c 3 t) (iblk m c 4 t) (iblk m c 5 t) (iblk m c 6 t) (iblk m c 7 t) (iblk m c 8 t) (iblk m c 9 t) _ _ _ _ _).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexact H13
      isplitl [HS0]; · iexact HS0
      isplitl [HS1]; · iexact HS1
      isplitl [HS2]; · iexact HS2
      isplitl [HS3]; · iexact HS3
      iintro ⟨H0, H1, H2, H3, H4, H5, H6, H7, H8, H9, ⟨%e10, H10⟩, ⟨%e11, H11⟩, ⟨%e12, H12⟩, ⟨%e13, H13⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 65 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.KernelFrame.lean ====
/- The frame of `Kernel`: `Kernel` and `KernelIdeal` are printed from one text (no operation was rewritten), so they have the
   same body table and the same @main, and `Kernel`'s frame is the frame proved of that text, read at the machine's bits. -/
module

public import proofs.«01_k».proof.Proof.Gen.Kernel
public import proofs.«01_k».proof.Proof.KFrame

@[expose] public section

open Idealize.ShloMosaic

set_option maxRecDepth 100000

namespace Cert.Kernel

attribute [local instance] Kernel.Gen.facts KernelIdeal.Gen.facts

variable {F : FTy → Type} [FloatOps F]

set_option maxHeartbeats 1000000 in
theorem defs₀_eq : Kernel.defs₀ (F := F) = KernelIdeal.defs₀ (F := F) := by
  unfold Kernel.defs₀ KernelIdeal.defs₀
  refine congrArg Defs.onTc ?_
  funext l x
  match l, x with
  | 0, (t, s) => exact rfl
  | ⟨n + 1, h⟩, _ => exact absurd h (Nat.not_lt.2 (Nat.le_add_left _ _))

set_option maxHeartbeats 1000000 in
theorem defs_eq : Kernel.defs (F := F) = KernelIdeal.defs (F := F) :=
  congrArg (Pipeline.defs (KernelIdeal.pcfgs (F := F))) defs₀_eq

set_option maxHeartbeats 1000000 in
theorem main_eq : Kernel.main (F := F) = KernelIdeal.main (F := F) := rfl

set_option maxHeartbeats 2000000 in
theorem frame (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq]
  exact KernelIdeal.Gen.frame (F := F) m g

end Cert.Kernel
-- ==== Proof.KVal.lean ====
/- What one grid point of the kernel computes, in a uniform vocabulary: one definition per stage of the body, with the printed
   body's values (`Gen.k0_pay…`) as instances of them. -/
module

public import proofs.«01_k».proof.Proof.Gen.KernelIdeal.Skeleton
public import Idealize.ShloMosaic.Lib.Pipeline.Value

@[expose] public section

noncomputable section

namespace Cert.KernelIdeal.Val

open Idealize.ShloMosaic Cert.KernelIdeal.Gen

variable {F : FTy → Type} [FloatOps F]

/-- The lanes of head parity 0, and those of head parity 1. -/
def sel0 : IVec S128x128 1 := k0_pay21 k0_pay13
def sel1 : IVec S128x128 1 :=
  xori (xori k0_pay13 (broadcastTo S128x128 (broadcast S128x128 0#1) broadcasts_S128x128_S128x128)) (constantI S128x128 1 1#1)

/-- A 128 × 128 tile with the lanes outside `sel` zero. -/
def maskT (sel : IVec S128x128 1) (X : Vec F S128x128 .f32) : Vec F S128x128 .f32 :=
  select sel X (broadcast S128x128 (Scalar.ofBits .f32 0x00000000#32) : FVec F S128x128 .f32)

/-- Four masked tiles, stacked. -/
def stackT (sel : IVec S128x128 1) (X0 X1 X2 X3 : Vec F S128x128 .f32) : FVec F S512x128 .f32 :=
  concatenate S512x128 0 [⟨S128x128, maskT sel X0⟩, ⟨S128x128, maskT sel X1⟩, ⟨S128x128, maskT sel X2⟩, ⟨S128x128, maskT sel X3⟩] concatenates_S128x128_S128x128_S128x128_S128x128_S512x128_d0

/-- The four stacks of a block of 1024 columns: head group `g`, head parity `e`. -/
def st00 (x : Vec F S128x1024 .f32) : FVec F S512x128 .f32 :=
  stackT sel0 (View.ld x (Rect.unit ![0, 0] ![128, 128] inb_S128x1024_S128x128_0_0)) (View.ld x (Rect.unit ![0, 128] ![128, 128] inb_S128x1024_S128x128_0_128))
    (View.ld x (Rect.unit ![0, 256] ![128, 128] inb_S128x1024_S128x128_0_256)) (View.ld x (Rect.unit ![0, 384] ![128, 128] inb_S128x1024_S128x128_0_384))
def st01 (x : Vec F S128x1024 .f32) : FVec F S512x128 .f32 :=
  stackT sel1 (View.ld x (Rect.unit ![0, 0] ![128, 128] inb_S128x1024_S128x128_0_0)) (View.ld x (Rect.unit ![0, 128] ![128, 128] inb_S128x1024_S128x128_0_128))
    (View.ld x (Rect.unit ![0, 256] ![128, 128] inb_S128x1024_S128x128_0_256)) (View.ld x (Rect.unit ![0, 384] ![128, 128] inb_S128x1024_S128x128_0_384))
def st10 (x : Vec F S128x1024 .f32) : FVec F S512x128 .f32 :=
  stackT sel0 (View.ld x (Rect.unit ![0, 512] ![128, 128] inb_S128x1024_S128x128_0_512)) (View.ld x (Rect.unit ![0, 640] ![128, 128] inb_S128x1024_S128x128_0_640))
    (View.ld x (Rect.unit ![0, 768] ![128, 128] inb_S128x1024_S128x128_0_768)) (View.ld x (Rect.unit ![0, 896] ![128, 128] inb_S128x1024_S128x128_0_896))
def st11 (x : Vec F S128x1024 .f32) : FVec F S512x128 .f32 :=
  stackT sel1 (View.ld x (Rect.unit ![0, 512] ![128, 128] inb_S128x1024_S128x128_0_512)) (View.ld x (Rect.unit ![0, 640] ![128, 128] inb_S128x1024_S128x128_0_640))
    (View.ld x (Rect.unit ![0, 768] ![128, 128] inb_S128x1024_S128x128_0_768)) (View.ld x (Rect.unit ![0, 896] ![128, 128] inb_S128x1024_S128x128_0_896))

/-- The keys (or values) of a block, and the same with the two heads' halves exchanged. -/
def kAll (xp xc xm : Vec F S128x128 .f32) : FVec F S384x128 .f32 := k0_pay9 xp xc xm
def rot (K : FVec F S384x128 .f32) : FVec F S384x128 .f32 := dynamicRotate 1 64#32 none K rotates_S384x128_d1

/-- `Q Kᵀ`, the table's entry, the sinks' column. -/
def dotNT (Q : FVec F S512x128 .f32) (K : FVec F S384x128 .f32) : FVec F S512x384 .f32 := k0_pay32 K Q
def sinkT (X : Vec F S1x128 .f32) (h : BitVec 32) : FVec F S128x1 .f32 :=
  broadcastTo S128x1 (shapeCast S1x1 (shapeCast S1x1 (multiReduction .add [1] S1
    (select (cmpi .eq (iota .tc S1x128 32 [1] iota_S1x128_d1_w32) (broadcast S1x128 h)) (shapeCast S1x128 X shapeCasts_S1x128_S1x128)
      (broadcast S1x128 (Scalar.ofBits .f32 0x00000000#32) : FVec F S1x128 .f32)) 0x00000000#32 reduces_S1x128_S1 (.inl rfl) rfl)
    shapeCasts_S1_S1x1) shapeCasts_S1x1_S1x1) broadcasts_S1x1_S128x1
def sinkS (X : Vec F S1x128 .f32) (h0 h1 h2 h3 : BitVec 32) : FVec F S512x1 .f32 :=
  concatenate S512x1 0 [⟨S128x1, sinkT X h0⟩, ⟨S128x1, sinkT X h1⟩, ⟨S128x1, sinkT X h2⟩, ⟨S128x1, sinkT X h3⟩] concatenates_S128x1_S128x1_S128x1_S128x1_S512x1_d0

/-- The probabilities, the scores' gradient and the sinks' part, of one stack: `S` the products `Q Kᵀ`, `D` the products
    with the output's gradient, `B` the table's entry, `K` the sinks' column. -/
def pr (S B : FVec F S512x384 .f32) (K : FVec F S512x1 .f32) : FVec F S512x384 .f32 := k0_pay65 S B K
def dsc (S D B : FVec F S512x384 .f32) (K : FVec F S512x1 .f32) : FVec F S512x384 .f32 := k0_pay67 S D B K
def psd (S D B : FVec F S512x384 .f32) (K : FVec F S512x1 .f32) : FVec F S512x1 .f32 := k0_pay68 S D B K

/-- `A B` and `Aᵀ B`. -/
def dotN (A : FVec F S512x384 .f32) (K : FVec F S384x128 .f32) : FVec F S512x128 .f32 := k0_pay107 K A
def dotTN (A : FVec F S512x384 .f32) (Q : FVec F S512x128 .f32) : FVec F S384x128 .f32 := k0_pay113 Q A

/-- The four stacks' parts of a keys' gradient. -/
def acc4 (A00 A01 A10 A11 : FVec F S512x384 .f32) (Q00 Q01 Q10 Q11 : FVec F S512x128 .f32) : FVec F S384x128 .f32 :=
  addf (addf (addf (addf (broadcast S384x128 (Scalar.ofBits .f32 0x00000000#32)) (dotTN A00 Q00)) (rot (dotTN A01 Q01))) (rot (dotTN A10 Q10))) (dotTN A11 Q11)

/-- One head's part of the sinks' gradient: rows `128 i …` of a stack, on lane `h`. -/
def headT (P : FVec F S128x1 .f32) (h : BitVec 32) : FVec F S1x128 .f32 :=
  select (cmpi .eq (iota .tc S1x128 32 [1] iota_S1x128_d1_w32) (broadcast S1x128 h))
    (broadcastTo S1x128 (shapeCast S1x1 (subf (broadcast S1x1 (Scalar.ofBits .f32 0x00000000#32))
      (shapeCast S1x1 (multiReduction .add [0] S1 P 0x00000000#32 reduces_S128x1_S1 (.inl rfl) rfl) shapeCasts_S1_S1x1)) shapeCasts_S1x1_S1x1) broadcasts_S1x1_S1x128)
    (broadcast S1x128 (Scalar.ofBits .f32 0x00000000#32) : FVec F S1x128 .f32)
def addHeads (A : FVec F S1x128 .f32) (P : FVec F S512x1 .f32) (h0 h1 h2 h3 : BitVec 32) : FVec F S1x128 .f32 :=
  addf (addf (addf (addf A (headT (extractStridedSlice S128x1 ![0, 0] P slices_S512x1_o0_0_S128x1) h0)) (headT (extractStridedSlice S128x1 ![128, 0] P slices_S512x1_o128_0_S128x1) h1))
    (headT (extractStridedSlice S128x1 ![256, 0] P slices_S512x1_o256_0_S128x1) h2)) (headT (extractStridedSlice S128x1 ![384, 0] P slices_S512x1_o384_0_S128x1) h3)

section Point

variable (x0 : Vec F S128x1024 .f32) (x1 x2 x3 x4 x5 x6 : Vec F S128x128 .f32) (x7 : Vec F S1x128 .f32)
  (x8 : Vec F S1x4x512x384 .f32) (x9 : Vec F S128x1024 .f32)

def bias0 : FVec F S512x384 .f32 := k0_pay40 (View.ld x8 (Rect.unit ![0, 0, 0, 0] ![1, 1, 512, 384] inb_S1x4x512x384_S1x1x512x384_0_0_0_0))
def bias1 : FVec F S512x384 .f32 := k0_pay40 (View.ld x8 (Rect.unit ![0, 1, 0, 0] ![1, 1, 512, 384] inb_S1x4x512x384_S1x1x512x384_0_1_0_0))
def bias2 : FVec F S512x384 .f32 := k0_pay40 (View.ld x8 (Rect.unit ![0, 2, 0, 0] ![1, 1, 512, 384] inb_S1x4x512x384_S1x1x512x384_0_2_0_0))
def bias3 : FVec F S512x384 .f32 := k0_pay40 (View.ld x8 (Rect.unit ![0, 3, 0, 0] ![1, 1, 512, 384] inb_S1x4x512x384_S1x1x512x384_0_3_0_0))

/-- The stacks' products, probabilities and gradients at one point. -/
def S00 : FVec F S512x384 .f32 := dotNT (st00 x0) (kAll x3 x1 x5)
def S01 : FVec F S512x384 .f32 := dotNT (st01 x0) (rot (kAll x3 x1 x5))
def S10 : FVec F S512x384 .f32 := dotNT (st10 x0) (rot (kAll x3 x1 x5))
def S11 : FVec F S512x384 .f32 := dotNT (st11 x0) (kAll x3 x1 x5)
def D00 : FVec F S512x384 .f32 := dotNT (st00 x9) (kAll x4 x2 x6)
def D01 : FVec F S512x384 .f32 := dotNT (st01 x9) (rot (kAll x4 x2 x6))
def D10 : FVec F S512x384 .f32 := dotNT (st10 x9) (rot (kAll x4 x2 x6))
def D11 : FVec F S512x384 .f32 := dotNT (st11 x9) (kAll x4 x2 x6)
def K00 : FVec F S512x1 .f32 := sinkS x7 0#32 2#32 4#32 6#32
def K01 : FVec F S512x1 .f32 := sinkS x7 1#32 3#32 5#32 7#32
def K10 : FVec F S512x1 .f32 := sinkS x7 8#32 10#32 12#32 14#32
def K11 : FVec F S512x1 .f32 := sinkS x7 9#32 11#32 13#32 15#32
def P00 : FVec F S512x384 .f32 := pr (S00 x0 x1 x3 x5) (bias0 x8) (K00 x7)
def P01 : FVec F S512x384 .f32 := pr (S01 x0 x1 x3 x5) (bias1 x8) (K01 x7)
def P10 : FVec F S512x384 .f32 := pr (S10 x0 x1 x3 x5) (bias2 x8) (K10 x7)
def P11 : FVec F S512x384 .f32 := pr (S11 x0 x1 x3 x5) (bias3 x8) (K11 x7)
def G00 : FVec F S512x384 .f32 := dsc (S00 x0 x1 x3 x5) (D00 x2 x4 x6 x9) (bias0 x8) (K00 x7)
def G01 : FVec F S512x384 .f32 := dsc (S01 x0 x1 x3 x5) (D01 x2 x4 x6 x9) (bias1 x8) (K01 x7)
def G10 : FVec F S512x384 .f32 := dsc (S10 x0 x1 x3 x5) (D10 x2 x4 x6 x9) (bias2 x8) (K10 x7)
def G11 : FVec F S512x384 .f32 := dsc (S11 x0 x1 x3 x5) (D11 x2 x4 x6 x9) (bias3 x8) (K11 x7)
def Z00 : FVec F S512x1 .f32 := psd (S00 x0 x1 x3 x5) (D00 x2 x4 x6 x9) (bias0 x8) (K00 x7)
def Z01 : FVec F S512x1 .f32 := psd (S01 x0 x1 x3 x5) (D01 x2 x4 x6 x9) (bias1 x8) (K01 x7)
def Z10 : FVec F S512x1 .f32 := psd (S10 x0 x1 x3 x5) (D10 x2 x4 x6 x9) (bias2 x8) (K10 x7)
def Z11 : FVec F S512x1 .f32 := psd (S11 x0 x1 x3 x5) (D11 x2 x4 x6 x9) (bias3 x8) (K11 x7)
def T00 : FVec F S512x128 .f32 := dotN (G00 x0 x1 x2 x3 x4 x5 x6 x7 x8 x9) (kAll x3 x1 x5)
def T01 : FVec F S512x128 .f32 := dotN (G01 x0 x1 x2 x3 x4 x5 x6 x7 x8 x9) (rot (kAll x3 x1 x5))
def T10 : FVec F S512x128 .f32 := dotN (G10 x0 x1 x2 x3 x4 x5 x6 x7 x8 x9) (rot (kAll x3 x1 x5))
def T11 : FVec F S512x128 .f32 := dotN (G11 x0 x1 x2 x3 x4 x5 x6 x7 x8 x9) (kAll x3 x1 x5)

/-- The gradients of the point's 384 keys and values, and of the sinks. -/
def DK : FVec F S384x128 .f32 :=
  acc4 (G00 x0 x1 x2 x3 x4 x5 x6 x7 x8 x9) (G01 x0 x1 x2 x3 x4 x5 x6 x7 x8 x9) (G10 x0 x1 x2 x3 x4 x5 x6 x7 x8 x9) (G11 x0 x1 x2 x3 x4 x5 x6 x7 x8 x9)
    (st00 x0) (st01 x0) (st10 x0) (st11 x0)
def DV : FVec F S384x128 .f32 :=
  acc4 (P00 x0 x1 x3 x5 x7 x8) (P01 x0 x1 x3 x5 x7 x8) (P10 x0 x1 x3 x5 x7 x8) (P11 x0 x1 x3 x5 x7 x8)
    (st00 x9) (st01 x9) (st10 x9) (st11 x9)
def DSK : FVec F S1x128 .f32 :=
  addHeads (addHeads (addHeads (addHeads (broadcast S1x128 (Scalar.ofBits .f32 0x00000000#32)) (Z00 x0 x1 x2 x3 x4 x5 x6 x7 x8 x9) 0#32 2#32 4#32 6#32)
    (Z01 x0 x1 x2 x3 x4 x5 x6 x7 x8 x9) 1#32 3#32 5#32 7#32) (Z10 x0 x1 x2 x3 x4 x5 x6 x7 x8 x9) 8#32 10#32 12#32 14#32) (Z11 x0 x1 x2 x3 x4 x5 x6 x7 x8 x9) 9#32 11#32 13#32 15#32

/-- What the point stores in the queries' gradient. -/
def DQ : Vec F S128x1024 .bf16 :=
  View.canon [
    ⟨Rect.unit ![0, 896] ![128, 128] inb_S128x1024_S128x128_0_896, k0_pay125 k0_pay13 (T10 x0 x1 x2 x3 x4 x5 x6 x7 x8 x9) (T11 x0 x1 x2 x3 x4 x5 x6 x7 x8 x9)⟩,
    ⟨Rect.unit ![0, 768] ![128, 128] inb_S128x1024_S128x128_0_768, k0_pay124 k0_pay13 (T10 x0 x1 x2 x3 x4 x5 x6 x7 x8 x9) (T11 x0 x1 x2 x3 x4 x5 x6 x7 x8 x9)⟩,
    ⟨Rect.unit ![0, 640] ![128, 128] inb_S128x1024_S128x128_0_640, k0_pay123 k0_pay13 (T10 x0 x1 x2 x3 x4 x5 x6 x7 x8 x9) (T11 x0 x1 x2 x3 x4 x5 x6 x7 x8 x9)⟩,
    ⟨Rect.unit ![0, 512] ![128, 128] inb_S128x1024_S128x128_0_512, k0_pay122 k0_pay13 (T10 x0 x1 x2 x3 x4 x5 x6 x7 x8 x9) (T11 x0 x1 x2 x3 x4 x5 x6 x7 x8 x9)⟩,
    ⟨Rect.unit ![0, 384] ![128, 128] inb_S128x1024_S128x128_0_384, k0_pay121 k0_pay13 (T00 x0 x1 x2 x3 x4 x5 x6 x7 x8 x9) (T01 x0 x1 x2 x3 x4 x5 x6 x7 x8 x9)⟩,
    ⟨Rect.unit ![0, 256] ![128, 128] inb_S128x1024_S128x128_0_256, k0_pay120 k0_pay13 (T00 x0 x1 x2 x3 x4 x5 x6 x7 x8 x9) (T01 x0 x1 x2 x3 x4 x5 x6 x7 x8 x9)⟩,
    ⟨Rect.unit ![0, 128] ![128, 128] inb_S128x1024_S128x128_0_128, k0_pay119 k0_pay13 (T00 x0 x1 x2 x3 x4 x5 x6 x7 x8 x9) (T01 x0 x1 x2 x3 x4 x5 x6 x7 x8 x9)⟩,
    ⟨Rect.unit ![0, 0] ![128, 128] inb_S128x1024_S128x128_0_0, k0_pay118 k0_pay13 (T00 x0 x1 x2 x3 x4 x5 x6 x7 x8 x9) (T01 x0 x1 x2 x3 x4 x5 x6 x7 x8 x9)⟩]

end Point

/-- What the point stores besides: `ck`, `mk`, the keys' gradient (`cv`, `mv` and the values' gradient likewise), the sinks' sum. -/
def ckOut (A : FVec F S384x128 .f32) : FVec F S128x128 .f32 := k0_pay2 A
def mkOut (A : FVec F S384x128 .f32) (mk : Vec F S128x128 .f32) : FVec F S128x128 .f32 := k0_pay127 A mk
def dkOut (b : BitVec 32) (A : FVec F S384x128 .f32) (ck mk : Vec F S128x128 .f32) : FVec F S128x128 .bf16 := k0_pay129 b A ck mk
def skOut (A : FVec F S1x128 .f32) (o : Vec F S1x128 .f32) : FVec F S1x128 .f32 := k0_pay126 A o

end Cert.KernelIdeal.Val

end
-- ==== Proof.Row.lean ====
/- One row of attention with a sink, over the extended reals: a masked score is −∞, the row is shifted by its
   maximum before the exponentials, and the shift cancels. Nothing here names a program. -/
module

public import Idealize.ShloMosaic.PureOps.Ideal

@[expose] public section

noncomputable section

namespace Cert.Row

open Idealize.ShloMosaic

/-- A finite sum of reals, read among the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A quotient of reals by a real that is not zero. -/
theorem div_real (x : ℝ) {y : ℝ} (hy : y ≠ 0) : Ideal.div (x : EReal) (y : EReal) = ((x / y : ℝ) : EReal) := by
  rw [Ideal.div_coe hy, ← EReal.coe_mul]; congr 1; ring

/-- A score: the real `x` where the key is seen, −∞ where it is not. -/
def sc (ok : Prop) [Decidable ok] (x : ℝ) : EReal := if ok then (x : EReal) else ⊥

/-- Its exponential. -/
def ex (ok : Prop) [Decidable ok] (x : ℝ) : ℝ := if ok then Real.exp x else 0

theorem sc_ne_top (ok : Prop) [Decidable ok] (x : ℝ) : sc ok x ≠ ⊤ := by
  unfold sc; split
  · exact EReal.coe_ne_top x
  · exact bot_ne_top

theorem ex_nonneg (ok : Prop) [Decidable ok] (x : ℝ) : 0 ≤ ex ok x := by
  unfold ex; split
  · exact (Real.exp_pos x).le
  · exact le_rfl

/-- The exponential of a shifted score. -/
theorem exp_sc (ok : Prop) [Decidable ok] (x M : ℝ) :
    Ideal.exp (sc ok x - (M : EReal)) = ((ex ok x * Real.exp (-M) : ℝ) : EReal) := by
  unfold sc ex; split
  · rw [← EReal.coe_sub, Ideal.exp_coe, sub_eq_add_neg, Real.exp_add]
  · rw [EReal.bot_sub]; simp

theorem exp_shift (x M : ℝ) : Ideal.exp ((x : EReal) - (M : EReal)) = ((Real.exp x * Real.exp (-M) : ℝ) : EReal) := by
  rw [← EReal.coe_sub, Ideal.exp_coe, sub_eq_add_neg, Real.exp_add]

/-- The maximum of finitely many values none of which is `+∞` is not `+∞`. -/
theorem fold_max_ne_top {ι : Type} (s : Finset ι) (f : ι → EReal) (h : ∀ i, f i ≠ ⊤) : s.fold max ⊥ f ≠ ⊤ := by
  classical
  induction s using Finset.induction_on with
  | empty => simp
  | insert a s ha ih =>
    rw [Finset.fold_insert ha]
    rcases max_choice (f a) (s.fold max ⊥ f) with e | e <;> rw [e]
    · exact h a
    · exact ih

/-- The maximum of such a value and a real is a real. -/
theorem max_real {x : EReal} (hx : x ≠ ⊤) (σ : ℝ) : ∃ M : ℝ, max x (σ : EReal) = (M : EReal) := by
  induction x with
  | bot => exact ⟨σ, by simp⟩
  | top => exact absurd rfl hx
  | coe x => exact ⟨max x σ, by exact_mod_cast rfl⟩

theorem max_ne_top {x y : EReal} (hx : x ≠ ⊤) (hy : y ≠ ⊤) : max x y ≠ ⊤ := by
  rcases max_choice x y with e | e <;> rw [e] <;> assumption

section Sum

variable {n : ℕ} (ok : Fin n → Prop) [∀ c, Decidable (ok c)] (x : Fin n → ℝ) (σ : ℝ)

/-- The row's sum with the sink, unshifted. -/
def rz : ℝ := ∑ c, ex (ok c) (x c) + Real.exp σ

theorem rz_pos : 0 < rz ok x σ := add_pos_of_nonneg_of_pos (Finset.sum_nonneg fun c _ => ex_nonneg _ _) (Real.exp_pos _)

theorem shifted_sum (M : ℝ) :
    (∑ c, Ideal.exp (sc (ok c) (x c) - (M : EReal))) + Ideal.exp ((σ : EReal) - (M : EReal)) = ((rz ok x σ * Real.exp (-M) : ℝ) : EReal) := by
  simp only [exp_sc, exp_shift, coe_sum, ← EReal.coe_add]
  rw [← Finset.sum_mul, rz, add_mul]

theorem shifted_ne (M : ℝ) : rz ok x σ * Real.exp (-M) ≠ 0 := mul_ne_zero (rz_pos ok x σ).ne' (Real.exp_ne_zero _)

theorem div_shifted (y M : ℝ) : y * Real.exp (-M) * (1 / (rz ok x σ * Real.exp (-M))) = y / rz ok x σ := by
  have h := (rz_pos ok x σ).ne'
  have := Real.exp_ne_zero (-M)
  field_simp

/-- The shift, whatever it is, is a real. -/
theorem shift_real : ∃ M : ℝ, max (Finset.univ.fold max ⊥ fun c => sc (ok c) (x c)) (σ : EReal) = (M : EReal) :=
  max_real (fold_max_ne_top _ _ fun c => sc_ne_top _ _) σ

end Sum

end Cert.Row

end
-- ==== Proof.KRead.lean ====
/- The stages of the kernel's body, read entry by entry over the extended reals: where the operands are real, so is the result, and
   it is the real expression one expects. -/
module

public import proofs.«01_k».proof.Proof.KVal
public import proofs.«01_k».proof.Proof.Row
public import Idealize.ShloMosaic.Lib.Pointwise
public import Idealize.ShloMosaic.Lib.KernelVsHost

@[expose] public section

set_option maxRecDepth 16384

noncomputable section

namespace Cert.KernelIdeal.Val

open Idealize.ShloMosaic Cert.KernelIdeal.Gen Cert.Row

/-- The matrix `A` has the real entries `f`. -/
def R2 {n m : ℕ} (A : (⟨2, ![n, m]⟩ : Shape).Idx → EReal) (f : ℕ → ℕ → ℝ) : Prop :=
  ∀ (r : Fin n) (l : Fin m), A (ix2 r l) = ((f r l : ℝ) : EReal)

theorem R2.congr {n m : ℕ} {A : (⟨2, ![n, m]⟩ : Shape).Idx → EReal} {f g : ℕ → ℕ → ℝ} (h : R2 A f)
    (e : ∀ r < n, ∀ l < m, f r l = g r l) : R2 A g := fun r l => by rw [h r l, e r r.2 l l.2]

theorem eighth : Ideal.ofBits FTy.f32 0x3E000000#32 = ((1 / 8 : ℝ) : EReal) := by
  simp [Ideal.ofBits, Ideal.ieee, -EReal.coe_mul]; norm_num

theorem neg_inf : Ideal.ofBits FTy.f32 0xFF800000#32 = ⊥ := by
  simp [Ideal.ofBits, Ideal.ieee]

/-- The comparison that tells the two halves of 128 lanes apart. -/
theorem low_lane : ∀ l : Fin 128, IntOp.cmpi .slt (BitVec.ofNat 32 l.val) 64#32 = if l.val / 64 = 0 then 1#1 else 0#1 := by decide
theorem high_lane : ∀ l : Fin 128, (l.val / 64 = 1) = ¬ (l.val / 64 = 0) := fun l => by
  have := l.2; apply propext; omega
theorem lane_eq : ∀ (h : Fin 16) (l : Fin 128), IntOp.cmpi .eq (BitVec.ofNat 32 l.val) (BitVec.ofNat 32 h.val) = if l.val = h.val then 1#1 else 0#1 := by decide

theorem pick (c : Prop) [Decidable c] {α : Type} (x y : α) : Scalar.select (if c then 1#1 else 0#1) x y = if c then x else y := by
  by_cases h : c <;> simp [h, Scalar.select]
theorem pick_xor (c : Prop) [Decidable c] {α : Type} (x y : α) :
    Scalar.select (IntOp.xori (IntOp.xori (if c then 1#1 else 0#1) 1#1) 1#1) x y = if c then x else y := by
  by_cases h : c <;> simp [h, Scalar.select, IntOp.xori]
theorem pick_xor0 (c : Prop) [Decidable c] {α : Type} (x y : α) :
    Scalar.select (IntOp.xori (IntOp.xori (if c then 1#1 else 0#1) 0#1) 1#1) x y = if c then y else x := by
  by_cases h : c <;> simp [h, Scalar.select, IntOp.xori]

/-- A value chosen by the part of a concatenation an index falls in, all choices giving the same. -/
theorem chain3 {α : Type} {n : ℕ} {a : n < 128 → α} {b : ¬ n < 128 → n - 128 < 128 → α} {c : ¬ n < 128 → ¬ n - 128 < 128 → α} {v : α}
    (ha : ∀ h, a h = v) (hb : ∀ h1 h2, b h1 h2 = v) (hc : ∀ h1 h2, c h1 h2 = v) :
    (if h : n < 128 then a h else if h' : n - 128 < 128 then b h h' else c h h') = v := by
  split_ifs <;> simp [*]
theorem chain4 {α : Type} {n : ℕ} {a : n < 128 → α} {b : ¬ n < 128 → n - 128 < 128 → α}
    {c : ¬ n < 128 → ¬ n - 128 < 128 → n - 128 - 128 < 128 → α} {d : ¬ n < 128 → ¬ n - 128 < 128 → ¬ n - 128 - 128 < 128 → α} {v : α}
    (ha : ∀ h, a h = v) (hb : ∀ h1 h2, b h1 h2 = v) (hc : ∀ h1 h2 h3, c h1 h2 h3 = v) (hd : ∀ h1 h2 h3, d h1 h2 h3 = v) :
    (if h : n < 128 then a h else if h' : n - 128 < 128 then b h h' else if h'' : n - 128 - 128 < 128 then c h h' h'' else d h h' h'') = v := by
  split_ifs <;> simp [*]

/-- A stack's row: the tile it is in, its row there, the lanes of the other parity zero. -/
def stackF (X : ℕ → ℕ → ℝ) (g e ρ l : ℕ) : ℝ := if l / 64 = e then X (ρ % 128) (g * 512 + ρ / 128 * 128 + l) else 0

theorem stackF_at (X : ℕ → ℕ → ℝ) (g e i r l : ℕ) (hr : r < 128) :
    (if l / 64 = e then X r (g * 512 + i * 128 + l) else 0) = stackF X g e (r + i * 128) l := by
  unfold stackF
  rw [show (r + i * 128) % 128 = r by omega, show (r + i * 128) / 128 = i by omega]

theorem mask0_read {T : Vec Ideal S128x128 .f32} {f : ℕ → ℕ → ℝ} (hT : R2 T f) : R2 (maskT sel0 T) (fun r l => if l / 64 = 0 then f r l else 0) := by
  intro r l
  have e : sel0 (ix2 r l) = IntOp.xori (IntOp.xori (IntOp.cmpi .slt (BitVec.ofNat 32 l.val) 64#32) 1#1) 1#1 := by
    pointwise [sel0, k0_pay21, k0_pay13]
  have e' : maskT sel0 T (ix2 r l) = Scalar.select (sel0 (ix2 r l)) (T (ix2 r l)) (Ideal.ofBits FTy.f32 0x00000000#32) := rfl
  rw [e', e, low_lane, pick_xor, hT r l, Ideal.ofBits_zero_f32]
  show _ = (((if l.val / 64 = 0 then f r l else 0 : ℝ)) : EReal)
  split_ifs <;> rfl

theorem mask1_read {T : Vec Ideal S128x128 .f32} {f : ℕ → ℕ → ℝ} (hT : R2 T f) : R2 (maskT sel1 T) (fun r l => if l / 64 = 1 then f r l else 0) := by
  intro r l
  have e : sel1 (ix2 r l) = IntOp.xori (IntOp.xori (IntOp.cmpi .slt (BitVec.ofNat 32 l.val) 64#32) 0#1) 1#1 := by
    pointwise [sel1, k0_pay13]
  have e' : maskT sel1 T (ix2 r l) = Scalar.select (sel1 (ix2 r l)) (T (ix2 r l)) (Ideal.ofBits FTy.f32 0x00000000#32) := rfl
  rw [e', e, low_lane, pick_xor0, hT r l, Ideal.ofBits_zero_f32]
  show _ = (((if l.val / 64 = 1 then f r l else 0 : ℝ)) : EReal)
  have h := high_lane l
  by_cases h0 : l.val / 64 = 0
  · rw [if_pos h0, if_neg (by omega)]; rfl
  · rw [if_neg h0, if_pos (by rw [h]; exact h0)]

theorem stack_read {T0 T1 T2 T3 : Vec Ideal S128x128 .f32} {f0 f1 f2 f3 : ℕ → ℕ → ℝ} (h0 : R2 T0 f0) (h1 : R2 T1 f1) (h2 : R2 T2 f2) (h3 : R2 T3 f3)
    {f : ℕ → ℕ → ℝ} (e0 : ∀ r < 128, ∀ l, f0 r l = f r l) (e1 : ∀ r < 128, ∀ l, f1 r l = f (r + 128) l) (e2 : ∀ r < 128, ∀ l, f2 r l = f (r + 256) l)
    (e3 : ∀ r < 128, ∀ l, f3 r l = f (r + 384) l) :
    R2 (concatenate S512x128 0 [⟨S128x128, T0⟩, ⟨S128x128, T1⟩, ⟨S128x128, T2⟩, ⟨S128x128, T3⟩] concatenates_S128x128_S128x128_S128x128_S128x128_S512x128_d0) f := by
  intro r l
  have hr := r.2
  pointwise []
  refine chain4 (fun c0 => (h0 _ _).trans ?_) (fun c0 c1 => (h1 _ _).trans ?_) (fun c0 c1 c2 => (h2 _ _).trans ?_) (fun c0 c1 c2 => (h3 _ _).trans ?_)
  · rw [e0 _ (by simp only; omega)]
  · rw [e1 _ (by simp only; omega)]; congr 2; simp only; omega
  · rw [e2 _ (by simp only; omega)]; congr 2; simp only; omega
  · rw [e3 _ (by simp only; omega)]; congr 2; simp only; omega

theorem tile_read {x : Vec Ideal S128x1024 .f32} {X : ℕ → ℕ → ℝ} (hx : R2 x X) (o : ℕ) (inb : ∀ a, (![0, o] : Fin 2 → ℕ) a + S128x128.size a ≤ S128x1024.size a) :
    R2 (View.ld x (Rect.unit ![0, o] ![128, 128] inb)) (fun r l => X r (o + l)) := by
  intro r l
  have e : View.ld x (Rect.unit ![0, o] ![128, 128] inb) (ix2 r l) = x (ix2 r ⟨o + l.val, by have := inb 1; have := l.2; simp at *; omega⟩) := by
    show x _ = x _
    congr 1
    funext a
    fin_cases a
    · apply Fin.ext; show 0 + 1 * r.val = r.val; omega
    · apply Fin.ext; show o + 1 * l.val = o + l.val; omega
  rw [e, hx]

theorem st00_read {x : Vec Ideal S128x1024 .f32} {X : ℕ → ℕ → ℝ} (hx : R2 x X) : R2 (st00 x) (stackF X 0 0) :=
  stack_read (mask0_read (tile_read hx 0 _)) (mask0_read (tile_read hx 128 _)) (mask0_read (tile_read hx 256 _)) (mask0_read (tile_read hx 384 _))
    (fun r hr l => stackF_at X 0 0 0 r l hr) (fun r hr l => stackF_at X 0 0 1 r l hr) (fun r hr l => stackF_at X 0 0 2 r l hr) (fun r hr l => stackF_at X 0 0 3 r l hr)

theorem st01_read {x : Vec Ideal S128x1024 .f32} {X : ℕ → ℕ → ℝ} (hx : R2 x X) : R2 (st01 x) (stackF X 0 1) :=
  stack_read (mask1_read (tile_read hx 0 _)) (mask1_read (tile_read hx 128 _)) (mask1_read (tile_read hx 256 _)) (mask1_read (tile_read hx 384 _))
    (fun r hr l => stackF_at X 0 1 0 r l hr) (fun r hr l => stackF_at X 0 1 1 r l hr) (fun r hr l => stackF_at X 0 1 2 r l hr) (fun r hr l => stackF_at X 0 1 3 r l hr)

theorem st10_read {x : Vec Ideal S128x1024 .f32} {X : ℕ → ℕ → ℝ} (hx : R2 x X) : R2 (st10 x) (stackF X 1 0) :=
  stack_read (mask0_read (tile_read hx 512 _)) (mask0_read (tile_read hx 640 _)) (mask0_read (tile_read hx 768 _)) (mask0_read (tile_read hx 896 _))
    (fun r hr l => stackF_at X 1 0 0 r l hr) (fun r hr l => stackF_at X 1 0 1 r l hr) (fun r hr l => stackF_at X 1 0 2 r l hr) (fun r hr l => stackF_at X 1 0 3 r l hr)

theorem st11_read {x : Vec Ideal S128x1024 .f32} {X : ℕ → ℕ → ℝ} (hx : R2 x X) : R2 (st11 x) (stackF X 1 1) :=
  stack_read (mask1_read (tile_read hx 512 _)) (mask1_read (tile_read hx 640 _)) (mask1_read (tile_read hx 768 _)) (mask1_read (tile_read hx 896 _))
    (fun r hr l => stackF_at X 1 1 0 r l hr) (fun r hr l => stackF_at X 1 1 1 r l hr) (fun r hr l => stackF_at X 1 1 2 r l hr) (fun r hr l => stackF_at X 1 1 3 r l hr)

/-- The keys' columns: the block before, the block, the first block. -/
theorem kAll_read {a b c : Vec Ideal S128x128 .f32} {f : ℕ → ℕ → ℝ}
    (ha : R2 a f) (hb : R2 b (fun r l => f (128 + r) l)) (hc : R2 c (fun r l => f (256 + r) l)) : R2 (kAll a b c) f := by
  intro r l
  have hr := r.2
  pointwise [kAll, k0_pay9]
  refine chain3 (fun h => ha _ _) (fun h1 h2 => (hb _ _).trans ?_) (fun h1 h2 => (hc _ _).trans ?_)
  · exact congrArg (fun t => ((f t l.val : ℝ) : EReal)) (show 128 + (r.val - 128) = r.val by omega)
  · exact congrArg (fun t => ((f t l.val : ℝ) : EReal)) (show 256 + (r.val - 128 - 128) = r.val by omega)

theorem rot_read {K : FVec Ideal S384x128 .f32} {f : ℕ → ℕ → ℝ} (hK : R2 K f) : R2 (rot K) (fun c l => f c ((l + 64) % 128)) := by
  intro r l
  pointwise [rot]
  refine (hK _ _).trans ?_
  exact congrArg (fun t => ((f r.val t : ℝ) : EReal)) (show (l.val + 128 - 64) % 128 = (l.val + 64) % 128 by omega)

theorem dotNT_read {Q : FVec Ideal S512x128 .f32} {K : FVec Ideal S384x128 .f32} {f g : ℕ → ℕ → ℝ} (hQ : R2 Q f) (hK : R2 K g) :
    R2 (dotNT Q K) (fun ρ c => ∑ l : Fin 128, f ρ l * g c l) := by
  intro r c
  pointwise [dotNT, k0_pay32]
  simp only [hQ r _, hK c _, ← EReal.coe_mul, coe_sum]

theorem dotN_read {A : FVec Ideal S512x384 .f32} {K : FVec Ideal S384x128 .f32} {f g : ℕ → ℕ → ℝ} (hA : R2 A f) (hK : R2 K g) :
    R2 (dotN A K) (fun ρ l => ∑ c : Fin 384, f ρ c * g c l) := by
  intro r c
  pointwise [dotN, k0_pay107]
  simp only [hA r _, hK _ c, ← EReal.coe_mul, coe_sum]

theorem dotTN_read {A : FVec Ideal S512x384 .f32} {Q : FVec Ideal S512x128 .f32} {f g : ℕ → ℕ → ℝ} (hA : R2 A f) (hQ : R2 Q g) :
    R2 (dotTN A Q) (fun c l => ∑ ρ : Fin 512, f ρ c * g ρ l) := by
  intro r c
  pointwise [dotTN, k0_pay113]
  simp only [hA _ r, hQ _ c, ← EReal.coe_mul, coe_sum]

theorem acc4_read {A00 A01 A10 A11 : FVec Ideal S512x384 .f32} {Q00 Q01 Q10 Q11 : FVec Ideal S512x128 .f32}
    {f : ℕ → ℕ → ℕ → ℕ → ℝ} {g : ℕ → ℕ → ℕ → ℕ → ℝ}
    (h00 : R2 A00 (f 0 0)) (h01 : R2 A01 (f 0 1)) (h10 : R2 A10 (f 1 0)) (h11 : R2 A11 (f 1 1))
    (q00 : R2 Q00 (g 0 0)) (q01 : R2 Q01 (g 0 1)) (q10 : R2 Q10 (g 1 0)) (q11 : R2 Q11 (g 1 1)) :
    R2 (acc4 A00 A01 A10 A11 Q00 Q01 Q10 Q11) (fun c l =>
      (∑ ρ : Fin 512, f 0 0 ρ c * g 0 0 ρ l) + (∑ ρ : Fin 512, f 0 1 ρ c * g 0 1 ρ ((l + 64) % 128)) +
      (∑ ρ : Fin 512, f 1 0 ρ c * g 1 0 ρ ((l + 64) % 128)) + (∑ ρ : Fin 512, f 1 1 ρ c * g 1 1 ρ l)) := by
  intro c l
  have e00 := dotTN_read h00 q00 c l
  have e01 := rot_read (dotTN_read h01 q01) c l
  have e10 := rot_read (dotTN_read h10 q10) c l
  have e11 := dotTN_read h11 q11 c l
  show ((((Ideal.ofBits FTy.f32 0x00000000#32) + dotTN A00 Q00 (ix2 c l)) + rot (dotTN A01 Q01) (ix2 c l)) + rot (dotTN A10 Q10) (ix2 c l)) + dotTN A11 Q11 (ix2 c l) = _
  rw [e00, e01, e10, e11, Ideal.ofBits_zero_f32, zero_add]
  simp only [← EReal.coe_add]

/-- The sinks' column of a stack. -/
theorem sinkT_read {X : Vec Ideal S1x128 .f32} {σ : ℕ → ℝ} (hX : ∀ l : Fin 128, l.val < 16 → X (ix2 0 l) = ((σ l : ℝ) : EReal)) (h : Fin 16)
    (r : Fin 128) : sinkT X (BitVec.ofNat 32 h.val) (ix2 r 0) = ((σ h : ℝ) : EReal) := by
  have e : ∀ l : Fin 128, Scalar.select (IntOp.cmpi .eq (BitVec.ofNat 32 l.val) (BitVec.ofNat 32 h.val)) (X (ix2 0 l)) (0 : EReal) =
      if l = (⟨h.val, by have := h.2; omega⟩ : Fin 128) then ((σ h : ℝ) : EReal) else 0 := by
    intro l
    rw [lane_eq, pick]
    by_cases hl : l.val = h.val
    · rw [if_pos hl, if_pos (Fin.ext hl), hX l (by have := h.2; omega), hl]
    · rw [if_neg hl, if_neg (fun e => hl (congrArg Fin.val e))]
  pointwise [sinkT]
  refine (Finset.sum_congr rfl fun l _ => e l).trans ?_
  simp

theorem sinkS_read {X : Vec Ideal S1x128 .f32} {σ : ℕ → ℝ} (hX : ∀ l : Fin 128, l.val < 16 → X (ix2 0 l) = ((σ l : ℝ) : EReal))
    (h0 h1 h2 h3 : Fin 16) (r : Fin 512) :
    sinkS X (BitVec.ofNat 32 h0.val) (BitVec.ofNat 32 h1.val) (BitVec.ofNat 32 h2.val) (BitVec.ofNat 32 h3.val) (ix2 r 0) =
      ((σ (if r.val / 128 = 0 then h0 else if r.val / 128 = 1 then h1 else if r.val / 128 = 2 then h2 else h3) : ℝ) : EReal) := by
  have hr := r.2
  have gen : ∀ l : Fin 1, sinkS X (BitVec.ofNat 32 h0.val) (BitVec.ofNat 32 h1.val) (BitVec.ofNat 32 h2.val) (BitVec.ofNat 32 h3.val) (ix2 r l) =
      ((σ (if r.val / 128 = 0 then h0 else if r.val / 128 = 1 then h1 else if r.val / 128 = 2 then h2 else h3) : ℝ) : EReal) := by
    intro l
    have k0 := fun q : Fin 128 => sinkT_read hX h0 q
    have k1 := fun q : Fin 128 => sinkT_read hX h1 q
    have k2 := fun q : Fin 128 => sinkT_read hX h2 q
    have k3 := fun q : Fin 128 => sinkT_read hX h3 q
    have hl : l = 0 := Fin.ext (by have := l.2; omega)
    unfold sinkS
    generalize sinkT X (BitVec.ofNat 32 h0.val) = T0 at *
    generalize sinkT X (BitVec.ofNat 32 h1.val) = T1 at *
    generalize sinkT X (BitVec.ofNat 32 h2.val) = T2 at *
    generalize sinkT X (BitVec.ofNat 32 h3.val) = T3 at *
    pointwise []
    subst hl
    refine chain4 (fun c0 => (k0 _).trans ?_) (fun c0 c1 => (k1 _).trans ?_) (fun c0 c1 c2 => (k2 _).trans ?_) (fun c0 c1 c2 => (k3 _).trans ?_)
    · rw [if_pos (show r.val / 128 = 0 by omega)]
    · rw [if_neg (show ¬ r.val / 128 = 0 by omega), if_pos (show r.val / 128 = 1 by omega)]
    · rw [if_neg (show ¬ r.val / 128 = 0 by omega), if_neg (show ¬ r.val / 128 = 1 by omega), if_pos (show r.val / 128 = 2 by omega)]
    · rw [if_neg (show ¬ r.val / 128 = 0 by omega), if_neg (show ¬ r.val / 128 = 1 by omega), if_neg (show ¬ r.val / 128 = 2 by omega)]
  exact gen 0

end Cert.KernelIdeal.Val

end
-- ==== Proof.KRow.lean ====
/- The kernel's probabilities and their gradients, one row of one stack: the real expressions. -/
module

public import proofs.«01_k».proof.Proof.KRead

@[expose] public section

set_option maxRecDepth 16384

noncomputable section

namespace Cert.KernelIdeal.Val

open Idealize.ShloMosaic Cert.KernelIdeal.Gen Cert.Row

section

variable {S D B : FVec Ideal S512x384 .f32} {K : FVec Ideal S512x1 .f32} {f d x : ℕ → ℕ → ℝ} {σ : ℕ → ℝ} {ok : ℕ → ℕ → Prop} [∀ r c, Decidable (ok r c)]

/-- A row's sum, probabilities, sink's probability, mean gradient. -/
def zr (ok : ℕ → ℕ → Prop) [∀ r c, Decidable (ok r c)] (x : ℕ → ℕ → ℝ) (σ : ℕ → ℝ) (ρ : ℕ) : ℝ := rz (fun c : Fin 384 => ok ρ c) (fun c => x ρ c) (σ ρ)
def pF (ok : ℕ → ℕ → Prop) [∀ r c, Decidable (ok r c)] (x : ℕ → ℕ → ℝ) (σ : ℕ → ℝ) (ρ c : ℕ) : ℝ := ex (ok ρ c) (x ρ c) / zr ok x σ ρ
def sF (ok : ℕ → ℕ → Prop) [∀ r c, Decidable (ok r c)] (x : ℕ → ℕ → ℝ) (σ : ℕ → ℝ) (ρ : ℕ) : ℝ := Real.exp (σ ρ) / zr ok x σ ρ
def mF (ok : ℕ → ℕ → Prop) [∀ r c, Decidable (ok r c)] (x d : ℕ → ℕ → ℝ) (σ : ℕ → ℝ) (ρ : ℕ) : ℝ := ∑ c : Fin 384, pF ok x σ ρ c * d ρ c

theorem score_eq (hS : R2 S f) (hB : ∀ (r : Fin 512) (c : Fin 384), B (ix2 r c) = sc (ok r c) (x r c - f r c * (1 / 8))) (r : Fin 512) (c : Fin 384) :
    S (ix2 r c) * Ideal.ofBits FTy.f32 0x3E000000#32 + B (ix2 r c) = sc (ok r c) (x r c) := by
  rw [hS r c, hB r c, eighth, ← EReal.coe_mul]
  unfold sc; split
  · rw [← EReal.coe_add]; congr 1; ring
  · simp

theorem inv_eq (r : ℕ) (M : ℝ) :
    Ideal.div 1 (((rz (fun c : Fin 384 => ok r c) (fun c => x r c) (σ r) * Real.exp (-M) : ℝ)) : EReal) = ((1 / (zr ok x σ r * Real.exp (-M)) : ℝ) : EReal) := by
  have := div_real 1 (shifted_ne (fun c : Fin 384 => ok r c) (fun c => x r c) (σ r) M)
  rw [EReal.coe_one] at this
  exact this

theorem pr_read (hS : R2 S f) (hB : ∀ (r : Fin 512) (c : Fin 384), B (ix2 r c) = sc (ok r c) (x r c - f r c * (1 / 8)))
    (hK : ∀ r : Fin 512, K (ix2 r 0) = ((σ r : ℝ) : EReal)) : R2 (pr S B K) (pF ok x σ) := by
  intro r c
  pointwise [pr, k0_pay65, k0_pay64, k0_pay63, k0_pay62, k0_pay61, k0_pay60]
  simp only [score_eq hS hB r, hK r, neg_inf]
  obtain ⟨M, hM⟩ := shift_real (fun c : Fin 384 => ok r c) (fun c => x r c) (σ r)
  rw [hM, shifted_sum, exp_sc, inv_eq, ← EReal.coe_mul]
  exact congrArg _ (div_shifted (fun c : Fin 384 => ok r c) (fun c => x r c) (σ r) (ex (ok r c) (x r c)) M)

theorem sink_read (hS : R2 S f) (hB : ∀ (r : Fin 512) (c : Fin 384), B (ix2 r c) = sc (ok r c) (x r c - f r c * (1 / 8)))
    (hK : ∀ r : Fin 512, K (ix2 r 0) = ((σ r : ℝ) : EReal)) (r : Fin 512) : mulf (k0_pay63 S B K) (k0_pay64 S B K) (ix2 r 0) = ((sF ok x σ r : ℝ) : EReal) := by
  have key : ∀ l : Fin 1, mulf (k0_pay63 S B K) (k0_pay64 S B K) (ix2 r l) = ((sF ok x σ r : ℝ) : EReal) := by
    intro l
    have hl : l = 0 := Fin.ext (by have := l.2; omega)
    pointwise [k0_pay64, k0_pay63, k0_pay62, k0_pay61, k0_pay60]
    subst hl
    simp only [score_eq hS hB r, hK r, neg_inf]
    obtain ⟨M, hM⟩ := shift_real (fun c : Fin 384 => ok r c) (fun c => x r c) (σ r)
    rw [hM, shifted_sum, exp_shift, inv_eq, ← EReal.coe_mul]
    exact congrArg _ (div_shifted (fun c : Fin 384 => ok r c) (fun c => x r c) (σ r) (Real.exp (σ r)) M)
  exact key 0

theorem mean_read (hS : R2 S f) (hD : R2 D d) (hB : ∀ (r : Fin 512) (c : Fin 384), B (ix2 r c) = sc (ok r c) (x r c - f r c * (1 / 8)))
    (hK : ∀ r : Fin 512, K (ix2 r 0) = ((σ r : ℝ) : EReal)) : R2 (k0_pay66 S D B K) (fun ρ _ => mF ok x d σ ρ) := by
  intro r l
  have h := pr_read hS hB hK
  unfold pr at h
  have e : k0_pay66 S D B K (ix2 r l) = ∑ c : Fin 384, k0_pay65 S B K (ix2 r c) * D (ix2 r c) := by
    unfold k0_pay66
    generalize k0_pay65 S B K = P
    pointwise []
  rw [e]
  simp only [h r _, hD r _, ← EReal.coe_mul, coe_sum]
  rfl

theorem dsc_read (hS : R2 S f) (hD : R2 D d) (hB : ∀ (r : Fin 512) (c : Fin 384), B (ix2 r c) = sc (ok r c) (x r c - f r c * (1 / 8)))
    (hK : ∀ r : Fin 512, K (ix2 r 0) = ((σ r : ℝ) : EReal)) : R2 (dsc S D B K) (fun ρ c => pF ok x σ ρ c * (d ρ c - mF ok x d σ ρ) * (1 / 8)) := by
  intro r c
  have h := pr_read hS hB hK
  have hm := mean_read hS hD hB hK
  unfold pr at h
  have e : dsc S D B K (ix2 r c) = k0_pay65 S B K (ix2 r c) * (D (ix2 r c) - k0_pay66 S D B K (ix2 r 0)) * Ideal.ofBits FTy.f32 0x3E000000#32 := by
    unfold dsc k0_pay67
    generalize k0_pay65 S B K = P
    generalize k0_pay66 S D B K = Q
    pointwise []
  rw [e, h r c, hD r c, hm r 0, eighth, ← EReal.coe_sub, ← EReal.coe_mul, ← EReal.coe_mul]

theorem psd_read (hS : R2 S f) (hD : R2 D d) (hB : ∀ (r : Fin 512) (c : Fin 384), B (ix2 r c) = sc (ok r c) (x r c - f r c * (1 / 8)))
    (hK : ∀ r : Fin 512, K (ix2 r 0) = ((σ r : ℝ) : EReal)) : R2 (psd S D B K) (fun ρ _ => sF ok x σ ρ * mF ok x d σ ρ) := by
  intro r l
  obtain rfl : l = 0 := Fin.ext (by have := l.2; omega)
  have e : psd S D B K (ix2 r 0) = mulf (k0_pay63 S B K) (k0_pay64 S B K) (ix2 r 0) * k0_pay66 S D B K (ix2 r 0) := rfl
  rw [e, sink_read hS hB hK r, mean_read hS hD hB hK r 0, ← EReal.coe_mul]

end

/-- One head's part of the sinks' gradient. -/
theorem addHeads_read {A : FVec Ideal S1x128 .f32} {P : FVec Ideal S512x1 .f32} {a : ℕ → ℝ} {f : ℕ → ℝ} (hA : ∀ l : Fin 128, A (ix2 0 l) = ((a l : ℝ) : EReal))
    (hP : R2 P (fun ρ _ => f ρ)) (h0 h1 h2 h3 : Fin 16) (l : Fin 128) :
    addHeads A P (BitVec.ofNat 32 h0.val) (BitVec.ofNat 32 h1.val) (BitVec.ofNat 32 h2.val) (BitVec.ofNat 32 h3.val) (ix2 0 l) =
      ((a l + (if l.val = h0.val then -(∑ r : Fin 128, f r) else 0) + (if l.val = h1.val then -(∑ r : Fin 128, f (128 + r)) else 0)
        + (if l.val = h2.val then -(∑ r : Fin 128, f (256 + r)) else 0) + (if l.val = h3.val then -(∑ r : Fin 128, f (384 + r)) else 0) : ℝ) : EReal) := by
  have key : ∀ q : Fin 1, addHeads A P (BitVec.ofNat 32 h0.val) (BitVec.ofNat 32 h1.val) (BitVec.ofNat 32 h2.val) (BitVec.ofNat 32 h3.val) (ix2 q l) =
      ((a l + (if l.val = h0.val then -(∑ r : Fin 128, f r) else 0) + (if l.val = h1.val then -(∑ r : Fin 128, f (128 + r)) else 0)
        + (if l.val = h2.val then -(∑ r : Fin 128, f (256 + r)) else 0) + (if l.val = h3.val then -(∑ r : Fin 128, f (384 + r)) else 0) : ℝ) : EReal) := by
    intro q
    have hq : q = 0 := Fin.ext (by have := q.2; omega)
    pointwise [addHeads, headT]
    subst hq
    have hP' : ∀ r : Fin 512, P (ix2 r 0) = ((f r : ℝ) : EReal) := fun r => hP r 0
    simp only [lane_eq, pick, hA l, hP', coe_sum, zero_sub, ← EReal.coe_neg]
    simp only [← EReal.coe_zero, ← apply_ite (fun t : ℝ => (t : EReal)), ← EReal.coe_add]
  exact key 0

end Cert.KernelIdeal.Val

end
-- ==== Proof.Spec.lean ====
/- The gradient of one attention call as a function of real arrays: blocks of 128 rows; row `r` of block `b` sees, of the
   block before and its own, the 128 rows up to itself that are sequence rows, and the sixteen leading rows up to itself.
   The keys of block `b` are numbered by columns `c`: 0–127 the block before, 128–255 the block itself, 256–383 the first block, whose
   last sixteen rows are the leading ones. Nothing here names a program. -/
module

public import Mathlib.Analysis.SpecialFunctions.Pow.Real

@[expose] public section

noncomputable section

namespace Cert.Spec

/-- Row `r` of block `b` sees column `c`. -/
def seen (b r c : ℕ) : Prop := (c < 256 ∧ 256 ≤ b * 128 + c ∧ c ≤ 128 + r ∧ r < c) ∨ (368 ≤ c ∧ c ≤ 256 + b * 128 + r)

instance (b r c : ℕ) : Decidable (seen b r c) := by unfold seen; infer_instance

/-- The distance the penalty multiplies. -/
def dist (b r c : ℕ) : ℕ := if c < 256 then 128 + r - c else min (b * 128 + r - (c - 256)) 128

/-- The penalty of head `h` per unit of distance. -/
def slope (h : ℕ) : ℝ := Real.rpow 2 (-8 * (1 + (h : ℝ)) / 16)

/-- The row of the arrays that column `c` of block `b` is. -/
def key (b c : ℕ) : ℕ := if c < 128 then (b - 1) * 128 + c else if c < 256 then b * 128 + (c - 128) else c - 256

variable (P D : ℕ → ℕ → ℝ) (σ : ℕ → ℝ)

/-- The query, the key, the value and the output's gradient. -/
def q (b h r d : ℕ) : ℝ := P (b * 128 + r) (2048 + (h * 64 + d))
def k (row kv d : ℕ) : ℝ := P row (3072 + (kv * 64 + d))
def v (row kv d : ℕ) : ℝ := P row (3200 + (kv * 64 + d))
def o (b h r d : ℕ) : ℝ := D (b * 128 + r) (1024 + (h * 64 + d))

/-- The score, its exponential, the row's sum with the sink, the probabilities. -/
def s (b h r c : ℕ) : ℝ := (∑ d : Fin 64, q P b h r d * k P (key b c) (h / 8) d) * (1 / 8) + -(slope h * dist b r c)
def E (b h r c : ℕ) : ℝ := if seen b r c then Real.exp (s P b h r c) else 0
def Z (b h r : ℕ) : ℝ := ∑ c : Fin 384, E P b h r c + Real.exp (σ h)
def p (b h r c : ℕ) : ℝ := E P b h r c / Z P σ b h r
def ps (b h r : ℕ) : ℝ := Real.exp (σ h) / Z P σ b h r

/-- The probabilities' gradient, its mean under them, the scores' gradient. -/
def dp (b h r c : ℕ) : ℝ := ∑ d : Fin 64, o D b h r d * v P (key b c) (h / 8) d
def δ (b h r : ℕ) : ℝ := ∑ c : Fin 384, p P σ b h r c * dp P D b h r c
def ds (b h r c : ℕ) : ℝ := p P σ b h r c * (dp P D b h r c - δ P D σ b h r) * (1 / 8)

/-- The four gradients. `dkc` and `dvc` are what block `b` gives to its column `c`. -/
def dq (b r h d : ℕ) : ℝ := ∑ c : Fin 384, ds P D σ b h r c * k P (key b c) (h / 8) d
def dkc (b kv c d : ℕ) : ℝ := ∑ g : Fin 8, ∑ r : Fin 128, ds P D σ b (8 * kv + g) r c * q P b (8 * kv + g) r d
def dvc (b kv c d : ℕ) : ℝ := ∑ g : Fin 8, ∑ r : Fin 128, p P σ b (8 * kv + g) r c * o D b (8 * kv + g) r d
def gather (f : ℕ → ℕ → ℕ → ℕ → ℝ) (b r kv d : ℕ) : ℝ :=
  f b kv (128 + r) d + (if b < 64 then f (b + 1) kv r d else 0) + (if b = 0 then ∑ b' : Fin 65, f b' kv (256 + r) d else 0)
def dk (b r kv d : ℕ) : ℝ := gather (dkc P D σ) b r kv d
def dv (b r kv d : ℕ) : ℝ := gather (dvc P D σ) b r kv d
def dsink (h : ℕ) : ℝ := ∑ b : Fin 65, -(∑ r : Fin 128, ps P σ b h r * δ P D σ b h r)

theorem E_nonneg (b h r c : ℕ) : 0 ≤ E P b h r c := by
  unfold E; split
  · exact (Real.exp_pos _).le
  · exact le_rfl

theorem Z_pos (b h r : ℕ) : 0 < Z P σ b h r :=
  add_pos_of_nonneg_of_pos (Finset.sum_nonneg fun c _ => E_nonneg P b h r c) (Real.exp_pos _)

theorem Z_ne (b h r : ℕ) : Z P σ b h r ≠ 0 := (Z_pos P σ b h r).ne'

theorem E_unseen {b r c : ℕ} (h : ℕ) (hs : ¬ seen b r c) : E P b h r c = 0 := if_neg hs

theorem p_unseen {b r c : ℕ} (h : ℕ) (hs : ¬ seen b r c) : p P σ b h r c = 0 := by
  unfold p; rw [E_unseen P h hs, zero_div]

theorem ds_unseen {b r c : ℕ} (h : ℕ) (hs : ¬ seen b r c) : ds P D σ b h r c = 0 := by
  unfold ds; rw [p_unseen P σ h hs]; ring

end Cert.Spec

end
-- ==== Proof.KPoint.lean ====
/- One grid point of the kernel, block `b`: where its windows hold block `b`'s rows, every stage is the specification's. -/
module

public import proofs.«01_k».proof.Proof.KRow
public import proofs.«01_k».proof.Proof.Spec

@[expose] public section

set_option maxRecDepth 16384

noncomputable section

namespace Cert.KernelIdeal.Val

open Idealize.ShloMosaic Cert.KernelIdeal.Gen Cert.Row Cert.Spec

/-- The head of a stack's row. -/
def hd (g e ρ : ℕ) : ℕ := 8 * g + 2 * (ρ / 128) + e

theorem sum_halves (f : ℕ → ℝ) : (∑ l : Fin 128, f l) = (∑ d : Fin 64, f d) + ∑ d : Fin 64, f (64 + d) := by
  rw [Fin.sum_univ_eq_sum_range f 128, Fin.sum_univ_eq_sum_range f 64, Fin.sum_univ_eq_sum_range (fun d => f (64 + d)) 64]
  exact Finset.sum_range_add f 64 64

theorem sum_quarters (f : ℕ → ℝ) : (∑ ρ : Fin 512, f ρ) =
    (∑ r : Fin 128, f r) + (∑ r : Fin 128, f (128 + r)) + (∑ r : Fin 128, f (256 + r)) + ∑ r : Fin 128, f (384 + r) := by
  rw [Fin.sum_univ_eq_sum_range f 512, Fin.sum_univ_eq_sum_range f 128, Fin.sum_univ_eq_sum_range (fun d => f (128 + d)) 128,
    Fin.sum_univ_eq_sum_range (fun d => f (256 + d)) 128, Fin.sum_univ_eq_sum_range (fun d => f (384 + d)) 128]
  rw [← Finset.sum_range_add f 128 128, ← Finset.sum_range_add f 256 128, ← Finset.sum_range_add f 384 128]

theorem half0 (a k : ℕ → ℝ) : (∑ l : Fin 128, (if l.val / 64 = 0 then a l else 0) * k l) = ∑ d : Fin 64, a d * k d := by
  rw [sum_halves (fun l => (if l / 64 = 0 then a l else 0) * k l)]
  have e : (∑ d : Fin 64, (if (64 + d.val) / 64 = 0 then a (64 + d) else 0) * k (64 + d)) = 0 :=
    Finset.sum_eq_zero fun d _ => by rw [if_neg (by omega), zero_mul]
  rw [e, add_zero]
  exact Finset.sum_congr rfl fun d _ => by rw [if_pos (by have := d.2; omega)]

theorem half1 (a k : ℕ → ℝ) : (∑ l : Fin 128, (if l.val / 64 = 1 then a l else 0) * k l) = ∑ d : Fin 64, a (64 + d) * k (64 + d) := by
  rw [sum_halves (fun l => (if l / 64 = 1 then a l else 0) * k l)]
  have e : (∑ d : Fin 64, (if d.val / 64 = 1 then a d else 0) * k d) = 0 :=
    Finset.sum_eq_zero fun d _ => by rw [if_neg (by have := d.2; omega), zero_mul]
  rw [e, zero_add]
  exact Finset.sum_congr rfl fun d _ => by rw [if_pos (by have := d.2; omega)]

/-- A stack's part of the keys' gradient: a sum over its four heads. -/
theorem stack_sum (F : ℕ → ℕ → ℝ) (X : ℕ → ℕ → ℝ) (g e l : ℕ) :
    (∑ ρ : Fin 512, F (hd g e ρ) (ρ.val % 128) * stackF X g e ρ l) =
      if l / 64 = e then (∑ r : Fin 128, F (8 * g + e) r * X r (g * 512 + l)) + (∑ r : Fin 128, F (8 * g + 2 + e) r * X r (g * 512 + 128 + l))
        + (∑ r : Fin 128, F (8 * g + 4 + e) r * X r (g * 512 + 256 + l)) + ∑ r : Fin 128, F (8 * g + 6 + e) r * X r (g * 512 + 384 + l) else 0 := by
  unfold stackF hd
  split_ifs with h
  · rw [sum_quarters (fun ρ => F (8 * g + 2 * (ρ / 128) + e) (ρ % 128) * X (ρ % 128) (g * 512 + ρ / 128 * 128 + l))]
    refine congrArg₂ (· + ·) (congrArg₂ (· + ·) (congrArg₂ (· + ·) ?_ ?_) ?_) ?_
    all_goals
      refine Finset.sum_congr rfl fun r _ => ?_
      have := r.2
    · rw [show r.val / 128 = 0 by omega, show r.val % 128 = r by omega]; simp only [Nat.mul_zero, Nat.zero_mul, Nat.add_zero]
    · rw [show (128 + r.val) / 128 = 1 by omega, show (128 + r.val) % 128 = r by omega]
    · rw [show (256 + r.val) / 128 = 2 by omega, show (256 + r.val) % 128 = r by omega]
    · rw [show (384 + r.val) / 128 = 3 by omega, show (384 + r.val) % 128 = r by omega]
  · simp

/-- The two parities' heads are the group's eight. -/
theorem eight (f : ℕ → ℝ) : (∑ g : Fin 8, f g) = (f 0 + f 2 + f 4 + f 6) + (f 1 + f 3 + f 5 + f 7) := by
  rw [Fin.sum_univ_eight]
  simp only [Fin.isValue, Fin.val_zero, Fin.val_one, Fin.val_two]
  show f 0 + f 1 + f 2 + f 3 + f 4 + f 5 + f 6 + f 7 = _
  ring

variable (P D : ℕ → ℕ → ℝ) (σ : ℕ → ℝ) (b : ℕ)

/-- The windows of block `b`. -/
structure Ins (x0 : Vec Ideal S128x1024 .f32) (x1 x2 x3 x4 x5 x6 : Vec Ideal S128x128 .f32) (x7 : Vec Ideal S1x128 .f32)
    (x8 : Vec Ideal S1x4x512x384 .f32) (x9 : Vec Ideal S128x1024 .f32) : Prop where
  h0 : R2 x0 (fun r j => P (b * 128 + r) (2048 + j))
  hK : R2 (kAll x3 x1 x5) (fun c l => P (key b c) (3072 + l))
  hV : R2 (kAll x4 x2 x6) (fun c l => P (key b c) (3200 + l))
  h9 : R2 x9 (fun r j => D (b * 128 + r) (1024 + j))
  h7 : ∀ l : Fin 128, l.val < 16 → x7 (ix2 0 l) = ((σ l : ℝ) : EReal)
  hb0 : ∀ (ρ : Fin 512) (c : Fin 384), bias0 x8 (ix2 ρ c) = sc (seen b (ρ.val % 128) c) (-(slope (hd 0 0 ρ) * dist b (ρ.val % 128) c))
  hb1 : ∀ (ρ : Fin 512) (c : Fin 384), bias1 x8 (ix2 ρ c) = sc (seen b (ρ.val % 128) c) (-(slope (hd 0 1 ρ) * dist b (ρ.val % 128) c))
  hb2 : ∀ (ρ : Fin 512) (c : Fin 384), bias2 x8 (ix2 ρ c) = sc (seen b (ρ.val % 128) c) (-(slope (hd 1 0 ρ) * dist b (ρ.val % 128) c))
  hb3 : ∀ (ρ : Fin 512) (c : Fin 384), bias3 x8 (ix2 ρ c) = sc (seen b (ρ.val % 128) c) (-(slope (hd 1 1 ρ) * dist b (ρ.val % 128) c))

variable {P D σ b} {x0 : Vec Ideal S128x1024 .f32} {x1 x2 x3 x4 x5 x6 : Vec Ideal S128x128 .f32} {x7 : Vec Ideal S1x128 .f32}
  {x8 : Vec Ideal S1x4x512x384 .f32} {x9 : Vec Ideal S128x1024 .f32} (H : Ins P D σ b x0 x1 x2 x3 x4 x5 x6 x7 x8 x9)

include H in
theorem S00_read : R2 (S00 x0 x1 x3 x5) (fun ρ c => ∑ d : Fin 64, q P b (hd 0 0 ρ) (ρ % 128) d * k P (key b c) (hd 0 0 ρ / 8) d) := by
  refine (dotNT_read (st00_read H.h0) H.hK).congr fun ρ hρ c hc => ?_
  unfold stackF
  refine (half0 (fun l => P (b * 128 + ρ % 128) (2048 + (0 * 512 + ρ / 128 * 128 + l))) (fun l => P (key b c) (3072 + l))).trans (Finset.sum_congr rfl fun d _ => ?_)
  have hd2 := d.2
  unfold q k hd
  rw [show 2048 + (0 * 512 + ρ / 128 * 128 + (d.val)) = 2048 + ((8 * 0 + 2 * (ρ / 128) + 0) * 64 + d.val) by omega,
    show 3072 + (d.val) = 3072 + ((8 * 0 + 2 * (ρ / 128) + 0) / 8 * 64 + d.val) by omega]

include H in
theorem D00_read : R2 (D00 x2 x4 x6 x9) (fun ρ c => dp P D b (hd 0 0 ρ) (ρ % 128) c) := by
  refine (dotNT_read (st00_read H.h9) H.hV).congr fun ρ hρ c hc => ?_
  unfold stackF
  refine (half0 (fun l => D (b * 128 + ρ % 128) (1024 + (0 * 512 + ρ / 128 * 128 + l))) (fun l => P (key b c) (3200 + l))).trans (Finset.sum_congr rfl fun d _ => ?_)
  have hd2 := d.2
  unfold o v hd
  rw [show 1024 + (0 * 512 + ρ / 128 * 128 + (d.val)) = 1024 + ((8 * 0 + 2 * (ρ / 128) + 0) * 64 + d.val) by omega,
    show 3200 + (d.val) = 3200 + ((8 * 0 + 2 * (ρ / 128) + 0) / 8 * 64 + d.val) by omega]

include H in
theorem K00_read (r : Fin 512) : K00 x7 (ix2 r 0) = ((σ (hd 0 0 r) : ℝ) : EReal) := by
  have hr := r.2
  refine (sinkS_read H.h7 0 2 4 6 r).trans ?_
  congr 2
  unfold hd
  split_ifs <;> simp <;> omega

include H in
theorem bias0_score (ρ : Fin 512) (c : Fin 384) : bias0 x8 (ix2 ρ c) = sc (seen b (ρ.val % 128) c)
    (s P b (hd 0 0 ρ) (ρ.val % 128) c - (∑ d : Fin 64, q P b (hd 0 0 ρ) (ρ.val % 128) d * k P (key b c) (hd 0 0 ρ / 8) d) * (1 / 8)) := by
  rw [H.hb0 ρ c]
  congr 1
  unfold s
  ring

include H in
theorem P00_read : R2 (P00 x0 x1 x3 x5 x7 x8) (fun ρ c => p P σ b (hd 0 0 ρ) (ρ % 128) c) :=
  pr_read (ok := fun ρ c => seen b (ρ % 128) c) (x := fun ρ c => s P b (hd 0 0 ρ) (ρ % 128) c) (σ := fun ρ => σ (hd 0 0 ρ))
    (S00_read H) (bias0_score H) (K00_read H)

include H in
theorem G00_read : R2 (G00 x0 x1 x2 x3 x4 x5 x6 x7 x8 x9) (fun ρ c => ds P D σ b (hd 0 0 ρ) (ρ % 128) c) :=
  dsc_read (ok := fun ρ c => seen b (ρ % 128) c) (x := fun ρ c => s P b (hd 0 0 ρ) (ρ % 128) c) (σ := fun ρ => σ (hd 0 0 ρ))
    (S00_read H) (D00_read H) (bias0_score H) (K00_read H)

include H in
theorem Z00_read : R2 (Z00 x0 x1 x2 x3 x4 x5 x6 x7 x8 x9) (fun ρ _ => ps P σ b (hd 0 0 ρ) (ρ % 128) * δ P D σ b (hd 0 0 ρ) (ρ % 128)) :=
  psd_read (ok := fun ρ c => seen b (ρ % 128) c) (x := fun ρ c => s P b (hd 0 0 ρ) (ρ % 128) c) (σ := fun ρ => σ (hd 0 0 ρ))
    (S00_read H) (D00_read H) (bias0_score H) (K00_read H)

include H in
theorem T00_read : R2 (T00 x0 x1 x2 x3 x4 x5 x6 x7 x8 x9)
    (fun ρ l => ∑ c : Fin 384, ds P D σ b (hd 0 0 ρ) (ρ % 128) c * P (key b c) (3072 + l)) :=
  dotN_read (G00_read H) H.hK

include H in
theorem S01_read : R2 (S01 x0 x1 x3 x5) (fun ρ c => ∑ d : Fin 64, q P b (hd 0 1 ρ) (ρ % 128) d * k P (key b c) (hd 0 1 ρ / 8) d) := by
  refine (dotNT_read (st01_read H.h0) (rot_read H.hK)).congr fun ρ hρ c hc => ?_
  unfold stackF
  refine (half1 (fun l => P (b * 128 + ρ % 128) (2048 + (0 * 512 + ρ / 128 * 128 + l))) (fun l => P (key b c) (3072 + (l + 64) % 128))).trans (Finset.sum_congr rfl fun d _ => ?_)
  have hd2 := d.2
  unfold q k hd
  rw [show 2048 + (0 * 512 + ρ / 128 * 128 + (64 + d.val)) = 2048 + ((8 * 0 + 2 * (ρ / 128) + 1) * 64 + d.val) by omega,
    show 3072 + ((64 + d.val + 64) % 128) = 3072 + ((8 * 0 + 2 * (ρ / 128) + 1) / 8 * 64 + d.val) by omega]

include H in
theorem D01_read : R2 (D01 x2 x4 x6 x9) (fun ρ c => dp P D b (hd 0 1 ρ) (ρ % 128) c) := by
  refine (dotNT_read (st01_read H.h9) (rot_read H.hV)).congr fun ρ hρ c hc => ?_
  unfold stackF
  refine (half1 (fun l => D (b * 128 + ρ % 128) (1024 + (0 * 512 + ρ / 128 * 128 + l))) (fun l => P (key b c) (3200 + (l + 64) % 128))).trans (Finset.sum_congr rfl fun d _ => ?_)
  have hd2 := d.2
  unfold o v hd
  rw [show 1024 + (0 * 512 + ρ / 128 * 128 + (64 + d.val)) = 1024 + ((8 * 0 + 2 * (ρ / 128) + 1) * 64 + d.val) by omega,
    show 3200 + ((64 + d.val + 64) % 128) = 3200 + ((8 * 0 + 2 * (ρ / 128) + 1) / 8 * 64 + d.val) by omega]

include H in
theorem K01_read (r : Fin 512) : K01 x7 (ix2 r 0) = ((σ (hd 0 1 r) : ℝ) : EReal) := by
  have hr := r.2
  refine (sinkS_read H.h7 1 3 5 7 r).trans ?_
  congr 2
  unfold hd
  split_ifs <;> simp <;> omega

include H in
theorem bias1_score (ρ : Fin 512) (c : Fin 384) : bias1 x8 (ix2 ρ c) = sc (seen b (ρ.val % 128) c)
    (s P b (hd 0 1 ρ) (ρ.val % 128) c - (∑ d : Fin 64, q P b (hd 0 1 ρ) (ρ.val % 128) d * k P (key b c) (hd 0 1 ρ / 8) d) * (1 / 8)) := by
  rw [H.hb1 ρ c]
  congr 1
  unfold s
  ring

include H in
theorem P01_read : R2 (P01 x0 x1 x3 x5 x7 x8) (fun ρ c => p P σ b (hd 0 1 ρ) (ρ % 128) c) :=
  pr_read (ok := fun ρ c => seen b (ρ % 128) c) (x := fun ρ c => s P b (hd 0 1 ρ) (ρ % 128) c) (σ := fun ρ => σ (hd 0 1 ρ))
    (S01_read H) (bias1_score H) (K01_read H)

include H in
theorem G01_read : R2 (G01 x0 x1 x2 x3 x4 x5 x6 x7 x8 x9) (fun ρ c => ds P D σ b (hd 0 1 ρ) (ρ % 128) c) :=
  dsc_read (ok := fun ρ c => seen b (ρ % 128) c) (x := fun ρ c => s P b (hd 0 1 ρ) (ρ % 128) c) (σ := fun ρ => σ (hd 0 1 ρ))
    (S01_read H) (D01_read H) (bias1_score H) (K01_read H)

include H in
theorem Z01_read : R2 (Z01 x0 x1 x2 x3 x4 x5 x6 x7 x8 x9) (fun ρ _ => ps P σ b (hd 0 1 ρ) (ρ % 128) * δ P D σ b (hd 0 1 ρ) (ρ % 128)) :=
  psd_read (ok := fun ρ c => seen b (ρ % 128) c) (x := fun ρ c => s P b (hd 0 1 ρ) (ρ % 128) c) (σ := fun ρ => σ (hd 0 1 ρ))
    (S01_read H) (D01_read H) (bias1_score H) (K01_read H)

include H in
theorem T01_read : R2 (T01 x0 x1 x2 x3 x4 x5 x6 x7 x8 x9)
    (fun ρ l => ∑ c : Fin 384, ds P D σ b (hd 0 1 ρ) (ρ % 128) c * P (key b c) (3072 + (l + 64) % 128)) :=
  dotN_read (G01_read H) (rot_read H.hK)

include H in
theorem S10_read : R2 (S10 x0 x1 x3 x5) (fun ρ c => ∑ d : Fin 64, q P b (hd 1 0 ρ) (ρ % 128) d * k P (key b c) (hd 1 0 ρ / 8) d) := by
  refine (dotNT_read (st10_read H.h0) (rot_read H.hK)).congr fun ρ hρ c hc => ?_
  unfold stackF
  refine (half0 (fun l => P (b * 128 + ρ % 128) (2048 + (1 * 512 + ρ / 128 * 128 + l))) (fun l => P (key b c) (3072 + (l + 64) % 128))).trans (Finset.sum_congr rfl fun d _ => ?_)
  have hd2 := d.2
  unfold q k hd
  rw [show 2048 + (1 * 512 + ρ / 128 * 128 + (d.val)) = 2048 + ((8 * 1 + 2 * (ρ / 128) + 0) * 64 + d.val) by omega,
    show 3072 + ((d.val + 64) % 128) = 3072 + ((8 * 1 + 2 * (ρ / 128) + 0) / 8 * 64 + d.val) by omega]

include H in
theorem D10_read : R2 (D10 x2 x4 x6 x9) (fun ρ c => dp P D b (hd 1 0 ρ) (ρ % 128) c) := by
  refine (dotNT_read (st10_read H.h9) (rot_read H.hV)).congr fun ρ hρ c hc => ?_
  unfold stackF
  refine (half0 (fun l => D (b * 128 + ρ % 128) (1024 + (1 * 512 + ρ / 128 * 128 + l))) (fun l => P (key b c) (3200 + (l + 64) % 128))).trans (Finset.sum_congr rfl fun d _ => ?_)
  have hd2 := d.2
  unfold o v hd
  rw [show 1024 + (1 * 512 + ρ / 128 * 128 + (d.val)) = 1024 + ((8 * 1 + 2 * (ρ / 128) + 0) * 64 + d.val) by omega,
    show 3200 + ((d.val + 64) % 128) = 3200 + ((8 * 1 + 2 * (ρ / 128) + 0) / 8 * 64 + d.val) by omega]

include H in
theorem K10_read (r : Fin 512) : K10 x7 (ix2 r 0) = ((σ (hd 1 0 r) : ℝ) : EReal) := by
  have hr := r.2
  refine (sinkS_read H.h7 8 10 12 14 r).trans ?_
  congr 2
  unfold hd
  split_ifs <;> simp <;> omega

include H in
theorem bias2_score (ρ : Fin 512) (c : Fin 384) : bias2 x8 (ix2 ρ c) = sc (seen b (ρ.val % 128) c)
    (s P b (hd 1 0 ρ) (ρ.val % 128) c - (∑ d : Fin 64, q P b (hd 1 0 ρ) (ρ.val % 128) d * k P (key b c) (hd 1 0 ρ / 8) d) * (1 / 8)) := by
  rw [H.hb2 ρ c]
  congr 1
  unfold s
  ring

include H in
theorem P10_read : R2 (P10 x0 x1 x3 x5 x7 x8) (fun ρ c => p P σ b (hd 1 0 ρ) (ρ % 128) c) :=
  pr_read (ok := fun ρ c => seen b (ρ % 128) c) (x := fun ρ c => s P b (hd 1 0 ρ) (ρ % 128) c) (σ := fun ρ => σ (hd 1 0 ρ))
    (S10_read H) (bias2_score H) (K10_read H)

include H in
theorem G10_read : R2 (G10 x0 x1 x2 x3 x4 x5 x6 x7 x8 x9) (fun ρ c => ds P D σ b (hd 1 0 ρ) (ρ % 128) c) :=
  dsc_read (ok := fun ρ c => seen b (ρ % 128) c) (x := fun ρ c => s P b (hd 1 0 ρ) (ρ % 128) c) (σ := fun ρ => σ (hd 1 0 ρ))
    (S10_read H) (D10_read H) (bias2_score H) (K10_read H)

include H in
theorem Z10_read : R2 (Z10 x0 x1 x2 x3 x4 x5 x6 x7 x8 x9) (fun ρ _ => ps P σ b (hd 1 0 ρ) (ρ % 128) * δ P D σ b (hd 1 0 ρ) (ρ % 128)) :=
  psd_read (ok := fun ρ c => seen b (ρ % 128) c) (x := fun ρ c => s P b (hd 1 0 ρ) (ρ % 128) c) (σ := fun ρ => σ (hd 1 0 ρ))
    (S10_read H) (D10_read H) (bias2_score H) (K10_read H)

include H in
theorem T10_read : R2 (T10 x0 x1 x2 x3 x4 x5 x6 x7 x8 x9)
    (fun ρ l => ∑ c : Fin 384, ds P D σ b (hd 1 0 ρ) (ρ % 128) c * P (key b c) (3072 + (l + 64) % 128)) :=
  dotN_read (G10_read H) (rot_read H.hK)

include H in
theorem S11_read : R2 (S11 x0 x1 x3 x5) (fun ρ c => ∑ d : Fin 64, q P b (hd 1 1 ρ) (ρ % 128) d * k P (key b c) (hd 1 1 ρ / 8) d) := by
  refine (dotNT_read (st11_read H.h0) H.hK).congr fun ρ hρ c hc => ?_
  unfold stackF
  refine (half1 (fun l => P (b * 128 + ρ % 128) (2048 + (1 * 512 + ρ / 128 * 128 + l))) (fun l => P (key b c) (3072 + l))).trans (Finset.sum_congr rfl fun d _ => ?_)
  have hd2 := d.2
  unfold q k hd
  rw [show 2048 + (1 * 512 + ρ / 128 * 128 + (64 + d.val)) = 2048 + ((8 * 1 + 2 * (ρ / 128) + 1) * 64 + d.val) by omega,
    show 3072 + (64 + d.val) = 3072 + ((8 * 1 + 2 * (ρ / 128) + 1) / 8 * 64 + d.val) by omega]

include H in
theorem D11_read : R2 (D11 x2 x4 x6 x9) (fun ρ c => dp P D b (hd 1 1 ρ) (ρ % 128) c) := by
  refine (dotNT_read (st11_read H.h9) H.hV).congr fun ρ hρ c hc => ?_
  unfold stackF
  refine (half1 (fun l => D (b * 128 + ρ % 128) (1024 + (1 * 512 + ρ / 128 * 128 + l))) (fun l => P (key b c) (3200 + l))).trans (Finset.sum_congr rfl fun d _ => ?_)
  have hd2 := d.2
  unfold o v hd
  rw [show 1024 + (1 * 512 + ρ / 128 * 128 + (64 + d.val)) = 1024 + ((8 * 1 + 2 * (ρ / 128) + 1) * 64 + d.val) by omega,
    show 3200 + (64 + d.val) = 3200 + ((8 * 1 + 2 * (ρ / 128) + 1) / 8 * 64 + d.val) by omega]

include H in
theorem K11_read (r : Fin 512) : K11 x7 (ix2 r 0) = ((σ (hd 1 1 r) : ℝ) : EReal) := by
  have hr := r.2
  refine (sinkS_read H.h7 9 11 13 15 r).trans ?_
  congr 2
  unfold hd
  split_ifs <;> simp <;> omega

include H in
theorem bias3_score (ρ : Fin 512) (c : Fin 384) : bias3 x8 (ix2 ρ c) = sc (seen b (ρ.val % 128) c)
    (s P b (hd 1 1 ρ) (ρ.val % 128) c - (∑ d : Fin 64, q P b (hd 1 1 ρ) (ρ.val % 128) d * k P (key b c) (hd 1 1 ρ / 8) d) * (1 / 8)) := by
  rw [H.hb3 ρ c]
  congr 1
  unfold s
  ring

include H in
theorem P11_read : R2 (P11 x0 x1 x3 x5 x7 x8) (fun ρ c => p P σ b (hd 1 1 ρ) (ρ % 128) c) :=
  pr_read (ok := fun ρ c => seen b (ρ % 128) c) (x := fun ρ c => s P b (hd 1 1 ρ) (ρ % 128) c) (σ := fun ρ => σ (hd 1 1 ρ))
    (S11_read H) (bias3_score H) (K11_read H)

include H in
theorem G11_read : R2 (G11 x0 x1 x2 x3 x4 x5 x6 x7 x8 x9) (fun ρ c => ds P D σ b (hd 1 1 ρ) (ρ % 128) c) :=
  dsc_read (ok := fun ρ c => seen b (ρ % 128) c) (x := fun ρ c => s P b (hd 1 1 ρ) (ρ % 128) c) (σ := fun ρ => σ (hd 1 1 ρ))
    (S11_read H) (D11_read H) (bias3_score H) (K11_read H)

include H in
theorem Z11_read : R2 (Z11 x0 x1 x2 x3 x4 x5 x6 x7 x8 x9) (fun ρ _ => ps P σ b (hd 1 1 ρ) (ρ % 128) * δ P D σ b (hd 1 1 ρ) (ρ % 128)) :=
  psd_read (ok := fun ρ c => seen b (ρ % 128) c) (x := fun ρ c => s P b (hd 1 1 ρ) (ρ % 128) c) (σ := fun ρ => σ (hd 1 1 ρ))
    (S11_read H) (D11_read H) (bias3_score H) (K11_read H)

include H in
theorem T11_read : R2 (T11 x0 x1 x2 x3 x4 x5 x6 x7 x8 x9)
    (fun ρ l => ∑ c : Fin 384, ds P D σ b (hd 1 1 ρ) (ρ % 128) c * P (key b c) (3072 + l)) :=
  dotN_read (G11_read H) H.hK

include H in
theorem DK_read : R2 (DK x0 x1 x2 x3 x4 x5 x6 x7 x8 x9) (fun c l => dkc P D σ b (l / 64) c (l % 64)) := by
  refine (acc4_read (f := fun g e ρ c => ds P D σ b (hd g e ρ) (ρ % 128) c) (g := fun g e ρ l => stackF (fun r j => P (b * 128 + r) (2048 + j)) g e ρ l)
    (G00_read H) (G01_read H) (G10_read H) (G11_read H) (st00_read H.h0) (st01_read H.h0) (st10_read H.h0) (st11_read H.h0)).congr fun c hc l hl => ?_
  have e := stack_sum (fun h r => ds P D σ b h r c) (fun r j => P (b * 128 + r) (2048 + j))
  refine (congrArg₂ (· + ·) (congrArg₂ (· + ·) (congrArg₂ (· + ·) (e 0 0 l) (e 0 1 ((l + 64) % 128))) (e 1 0 ((l + 64) % 128))) (e 1 1 l)).trans ?_
  clear e
  by_cases h0 : l / 64 = 0
  · rw [if_pos h0, if_pos (show (l + 64) % 128 / 64 = 1 by omega), if_neg (show ¬ (l + 64) % 128 / 64 = 0 by omega), if_neg (show ¬ l / 64 = 1 by omega), h0]
    unfold dkc
    rw [eight (fun g => ∑ r : Fin 128, ds P D σ b (8 * 0 + g) r c * q P b (8 * 0 + g) r (l % 64)), add_zero, add_zero]
    unfold q
    refine congrArg₂ (· + ·) (congrArg₂ (· + ·) (congrArg₂ (· + ·) (congrArg₂ (· + ·) ?_ ?_) ?_) ?_) (congrArg₂ (· + ·) (congrArg₂ (· + ·) (congrArg₂ (· + ·) ?_ ?_) ?_) ?_)
    all_goals
      refine Finset.sum_congr rfl fun r _ => congrArg₂ (· * ·) rfl (congrArg _ ?_)
      omega
  · have h1 : l / 64 = 1 := by omega
    rw [if_neg h0, if_neg (show ¬ (l + 64) % 128 / 64 = 1 by omega), if_pos (show (l + 64) % 128 / 64 = 0 by omega), if_pos h1, h1]
    unfold dkc
    rw [eight (fun g => ∑ r : Fin 128, ds P D σ b (8 * 1 + g) r c * q P b (8 * 1 + g) r (l % 64)), add_zero, zero_add]
    unfold q
    refine congrArg₂ (· + ·) (congrArg₂ (· + ·) (congrArg₂ (· + ·) (congrArg₂ (· + ·) ?_ ?_) ?_) ?_) (congrArg₂ (· + ·) (congrArg₂ (· + ·) (congrArg₂ (· + ·) ?_ ?_) ?_) ?_)
    all_goals
      refine Finset.sum_congr rfl fun r _ => congrArg₂ (· * ·) rfl (congrArg _ ?_)
      omega

include H in
theorem DV_read : R2 (DV x0 x1 x3 x5 x7 x8 x9) (fun c l => dvc P D σ b (l / 64) c (l % 64)) := by
  refine (acc4_read (f := fun g e ρ c => p P σ b (hd g e ρ) (ρ % 128) c) (g := fun g e ρ l => stackF (fun r j => D (b * 128 + r) (1024 + j)) g e ρ l)
    (P00_read H) (P01_read H) (P10_read H) (P11_read H) (st00_read H.h9) (st01_read H.h9) (st10_read H.h9) (st11_read H.h9)).congr fun c hc l hl => ?_
  have e := stack_sum (fun h r => p P σ b h r c) (fun r j => D (b * 128 + r) (1024 + j))
  refine (congrArg₂ (· + ·) (congrArg₂ (· + ·) (congrArg₂ (· + ·) (e 0 0 l) (e 0 1 ((l + 64) % 128))) (e 1 0 ((l + 64) % 128))) (e 1 1 l)).trans ?_
  clear e
  by_cases h0 : l / 64 = 0
  · rw [if_pos h0, if_pos (show (l + 64) % 128 / 64 = 1 by omega), if_neg (show ¬ (l + 64) % 128 / 64 = 0 by omega), if_neg (show ¬ l / 64 = 1 by omega), h0]
    unfold dvc
    rw [eight (fun g => ∑ r : Fin 128, p P σ b (8 * 0 + g) r c * o D b (8 * 0 + g) r (l % 64)), add_zero, add_zero]
    unfold o
    refine congrArg₂ (· + ·) (congrArg₂ (· + ·) (congrArg₂ (· + ·) (congrArg₂ (· + ·) ?_ ?_) ?_) ?_) (congrArg₂ (· + ·) (congrArg₂ (· + ·) (congrArg₂ (· + ·) ?_ ?_) ?_) ?_)
    all_goals
      refine Finset.sum_congr rfl fun r _ => congrArg₂ (· * ·) rfl (congrArg _ ?_)
      omega
  · have h1 : l / 64 = 1 := by omega
    rw [if_neg h0, if_neg (show ¬ (l + 64) % 128 / 64 = 1 by omega), if_pos (show (l + 64) % 128 / 64 = 0 by omega), if_pos h1, h1]
    unfold dvc
    rw [eight (fun g => ∑ r : Fin 128, p P σ b (8 * 1 + g) r c * o D b (8 * 1 + g) r (l % 64)), add_zero, zero_add]
    unfold o
    refine congrArg₂ (· + ·) (congrArg₂ (· + ·) (congrArg₂ (· + ·) (congrArg₂ (· + ·) ?_ ?_) ?_) ?_) (congrArg₂ (· + ·) (congrArg₂ (· + ·) (congrArg₂ (· + ·) ?_ ?_) ?_) ?_)
    all_goals
      refine Finset.sum_congr rfl fun r _ => congrArg₂ (· * ·) rfl (congrArg _ ?_)
      omega

end Cert.KernelIdeal.Val

end
-- ==== Proof.KTable.lean ====
/- What the host code prepares for the kernel: the row of sinks, and the table of penalties. -/
module

public import proofs.«01_k».proof.Proof.KPoint
public import proofs.«01_k».proof.Proof.KFrame
public import Idealize.ShloMosaic.Lib.StableHlo.ReadAt
public import Idealize.ShloMosaic.Lib.Routing.OpsSet

@[expose] public section

set_option maxRecDepth 16384

noncomputable section

namespace Cert.KernelIdeal.Val

open Idealize.ShloMosaic Cert.KernelIdeal.Gen Cert.Row Cert.Spec

theorem ofInt_add (a b : ℤ) : IntOp.addi (BitVec.ofInt 32 a) (BitVec.ofInt 32 b) = BitVec.ofInt 32 (a + b) := (BitVec.ofInt_add (n := 32) a b).symm
theorem ofInt_mul (a b : ℤ) : IntOp.muli (BitVec.ofInt 32 a) (BitVec.ofInt 32 b) = BitVec.ofInt 32 (a * b) := (BitVec.ofInt_mul (n := 32) a b).symm
theorem ofInt_sub (a b : ℤ) : IntOp.subi (BitVec.ofInt 32 a) (BitVec.ofInt 32 b) = BitVec.ofInt 32 (a - b) := by
  show BitVec.ofInt 32 a - BitVec.ofInt 32 b = _
  apply BitVec.eq_of_toInt_eq
  simp [BitVec.toInt_sub]
theorem toInt_small (a : ℤ) (h : -100000 < a) (h' : a < 100000) : (BitVec.ofInt 32 a).toInt = a := by
  rw [BitVec.toInt_ofInt]
  exact Int.bmod_eq_of_le (by norm_num; omega) (by norm_num; omega)
theorem sge_small (a b : ℤ) (h : -100000 < a) (h' : a < 100000) (k : -100000 < b) (k' : b < 100000) :
    IntOp.cmpi .sge (BitVec.ofInt 32 a) (BitVec.ofInt 32 b) = BitVec.ofBool (decide (b ≤ a)) := by
  show BitVec.ofBool (BitVec.sle _ _) = _
  rw [BitVec.sle, toInt_small a h h', toInt_small b k k']
theorem slt_small (a b : ℤ) (h : -100000 < a) (h' : a < 100000) (k : -100000 < b) (k' : b < 100000) :
    IntOp.cmpi .slt (BitVec.ofInt 32 a) (BitVec.ofInt 32 b) = BitVec.ofBool (decide (a < b)) := by
  show BitVec.ofBool (BitVec.slt _ _) = _
  rw [BitVec.slt, toInt_small a h h', toInt_small b k k']
theorem min_small (a b : ℤ) (h : -100000 < a) (h' : a < 100000) (k : -100000 < b) (k' : b < 100000) :
    IntOp.minsi (BitVec.ofInt 32 a) (BitVec.ofInt 32 b) = BitVec.ofInt 32 (min a b) := by
  unfold IntOp.minsi
  rw [BitVec.slt, toInt_small a h h', toInt_small b k k']
  by_cases q : a < b <;> simp [q, le_of_lt, min_eq_left, min_eq_right, not_lt.mp]
theorem and_bool (p q : Prop) [Decidable p] [Decidable q] : IntOp.andi (BitVec.ofBool (decide p)) (BitVec.ofBool (decide q)) = BitVec.ofBool (decide (p ∧ q)) := by
  by_cases p <;> by_cases q <;> simp [*] <;> rfl
theorem select_bool {α : Type} (p : Prop) [Decidable p] (x y : α) : Scalar.select (BitVec.ofBool (decide p)) x y = if p then x else y := by
  by_cases p <;> simp [*] <;> rfl
theorem sitofp_small (a : ℤ) (h : -100000 < a) (h' : a < 100000) : (FloatOps.sitofp .f32 (BitVec.ofInt 32 a) : Ideal .f32) = ((a : ℝ) : EReal) := by
  show (((BitVec.ofInt 32 a).toInt : ℝ) : EReal) = _
  rw [toInt_small a h h']
theorem b2 : Ideal.ofBits FTy.f32 1073741824#32 = ((2 : ℝ) : EReal) := by simp [Ideal.ofBits, Ideal.ieee, -EReal.coe_mul]; norm_num
theorem bm8 : Ideal.ofBits FTy.f32 3238002688#32 = ((-8 : ℝ) : EReal) := by simp [Ideal.ofBits, Ideal.ieee, -EReal.coe_mul]; norm_num
theorem b16 : Ideal.ofBits FTy.f32 1098907648#32 = ((16 : ℝ) : EReal) := by simp [Ideal.ofBits, Ideal.ieee, -EReal.coe_mul]; norm_num

variable (m : (ℓ : Loc nD τ sig) → Buf (Elt Ideal) ℓ)

theorem lands_all : ∀ k : Fin 16, scatter_S1x128_S2_S16_0_0_01_0.resultIdx? (ix1 k) (fun _ => 0#32) = some (ix2 0 ⟨k.val, by omega⟩) := by
  decide +kernel

theorem sinks_at (c : Dev nD) (l : Fin 128) (hl : l.val < 16) :
    (V m c main_v4 : Vec Ideal S1x128 .f32) (ix2 0 l) = (m (c.tc.loc main_arg1) : Vec Ideal S16 .f32) (ix1 ⟨l.val, hl⟩) := by
  unfold V
  after_reads_at
  have e : ∀ A B : IVec S1 32, (∀ i, A i = 0#32) → (∀ i, B i = 0#32) → ∀ j, concatenate S2 0 [⟨S1, A⟩, ⟨S1, B⟩] concatenates_S1_S1_S2_d0 j = 0#32 := by
    intro A B hA hB j
    pointwise
    simp [hA, hB]
  refine (congrArg (fun idx => Host.scatter scatter_S1x128_S2_S16_0_0_01_0 (fun x b => b) _ idx _ (ix2 0 l)) (funext (e _ _ (fun i => ?_) (fun i => ?_)))).trans ?_
  · after_reads_at
  · after_reads_at
  · have hu : ∀ (x0 : Vec Ideal S1x128 .f32) (u : Vec Ideal S16 .f32),
        Host.scatter scatter_S1x128_S2_S16_0_0_01_0 (fun x b => b) x0 (fun _ => 0#32) u (ix2 0 l) = u (ix1 ⟨l.val, hl⟩) := by
      intro x0 u
      refine Routing.scatter_set_hit _ x0 _ u _ _ (fun k hk => ?_) (ix1 ⟨l.val, hl⟩) (lands_all ⟨l.val, hl⟩)
      have hk' : k = ix1 (k 0) := by funext a; match a with | 0 => rfl
      have h1 := lands_all (k 0)
      have h0 : scatter_S1x128_S2_S16_0_0_01_0.resultIdx? k (fun _ => 0#32) = some (ix2 0 ⟨(k 0).val, by have h16 : (k 0).val < 16 := (k 0).2; omega⟩) :=
        (congrArg (fun j => scatter_S1x128_S2_S16_0_0_01_0.resultIdx? j (fun _ => 0#32)) hk').trans h1
      rw [hk] at h0
      have h2 := congrFun (Option.some.inj h0) 1
      exact congrArg u (hk'.trans (congrArg ix1 (Fin.ext (congrArg Fin.val h2).symm)))
    exact hu _ _

/-- An entry of the table: the penalty where the key is seen, −∞ where it is not. -/
theorem entry (ok ok' : Prop) [Decidable ok] [Decidable ok'] (h : ok ↔ ok') (z : ℤ) (d : ℕ) (h0 : -100000 < z) (h1 : z < 100000) (hd : ok' → z = d) (a : ℤ) (y : ℕ) (ha : a = y + 1) :
    (Scalar.select (BitVec.ofBool (decide ok)) (-(Ideal.pow ((2 : ℝ) : EReal) (Ideal.div (((-8 : ℝ) : EReal) * ((a : ℝ) : EReal)) ((16 : ℝ) : EReal)) * (FloatOps.sitofp .f32 (BitVec.ofInt 32 z) : Ideal .f32))) (⊥ : EReal) : EReal)
      = sc ok' (-(Real.rpow 2 (-8 * (1 + (y : ℝ)) / 16) * (d : ℝ))) := by
  rw [select_bool, sitofp_small z h0 h1, Ideal.div_coe (by norm_num), ← EReal.coe_mul, ← EReal.coe_mul, Ideal.pow_coe_coe, ha]
  unfold sc
  by_cases q : ok'
  · rw [if_pos (h.mpr q), if_pos q, hd q]
    have e : ((-8 : ℝ) * (((y : ℤ) + 1 : ℤ) : ℝ) * (1 / 16 : ℝ)) = -8 * (1 + (y : ℝ)) / 16 := by push_cast; ring
    rw [e, ← EReal.coe_mul, ← EReal.coe_neg]
    norm_cast
  · rw [if_neg (fun t => q (h.mp t)), if_neg q]

theorem table_at (c : Dev nD) (n : Fin 3) (w : Fin 4) (r : Fin 512) (k : Fin 384) :
    (V m c main_v67 : Vec Ideal S3x4x512x384 .f32) (ix4 n w r k)
      = sc (seen n (r.val % 128) k) (-(Spec.slope (hd (w.val / 2) (w.val % 2) r) * dist n (r.val % 128) k)) := by
  unfold V
  after_reads_at
  have hr := Nat.mod_lt r.val (show 0 < 128 by norm_num)
  have hr4 : r.val / 128 < 4 := by omega
  have hw2 : w.val / 2 < 2 := by omega
  have hwm : w.val % 2 < 2 := by omega
  have hn := n.2
  have hk := k.2
  have o : ∀ x : ℕ, BitVec.ofNat 32 x = BitVec.ofInt 32 (x : ℤ) := fun x => (BitVec.ofInt_natCast 32 x).symm
  generalize r.val % 128 = r' at *
  unfold hd Spec.slope
  generalize r.val / 128 = i at *
  generalize w.val / 2 = g at *
  generalize w.val % 2 = e at *
  have hb : (id (constant S_ FTy.f32 4286578688#32 : FVec Ideal S_ .f32) ix0 : EReal) = ⊥ := neg_inf
  rw [b2, bm8, b16]
  refine (congrArg (fun z => Scalar.select _ _ z) hb).trans ?_
  rw [show (1#32) = BitVec.ofInt 32 1 from rfl, show (2#32) = BitVec.ofInt 32 2 from rfl, show (8#32) = BitVec.ofInt 32 8 from rfl,
    show (16#32) = BitVec.ofInt 32 16 from rfl, show (112#32) = BitVec.ofInt 32 112 from rfl, show (128#32) = BitVec.ofInt 32 128 from rfl,
    show (256#32) = BitVec.ofInt 32 256 from rfl, show (0#32) = BitVec.ofInt 32 0 from rfl]
  simp only [o, ofInt_add, ofInt_sub, ofInt_mul]
  rw [slt_small _ _ (by omega) (by omega) (by omega) (by omega), sge_small _ 16 (by omega) (by omega) (by omega) (by omega),
    sge_small _ 0 (by omega) (by omega) (by omega) (by omega), slt_small _ 128 (by omega) (by omega) (by omega) (by omega),
    sge_small _ 112 (by omega) (by omega) (by omega) (by omega), sge_small _ 0 (by omega) (by omega) (by omega) (by omega),
    min_small _ _ (by omega) (by omega) (by omega) (by omega),
    and_bool, and_bool, and_bool, select_bool, select_bool, sitofp_small _ (by omega) (by omega)]
  by_cases h : k.val < 256
  · have h' : ((k.val : ℤ) < 256) := by omega
    simp only [if_pos h']
    exact entry _ (seen n r' k) (by unfold seen; omega) _ (Spec.dist n r' k) (by omega) (by omega)
      (by unfold seen Spec.dist; rw [if_pos h]; omega) _ (8 * g + 2 * i + e) (by push_cast; ring)
  · have h' : ¬ ((k.val : ℤ) < 256) := by omega
    simp only [if_neg h']
    exact entry _ (seen n r' k) (by unfold seen; omega) _ (Spec.dist n r' k) (by omega) (by omega)
      (by unfold seen Spec.dist; rw [if_neg h]; omega) _ (8 * g + 2 * i + e) (by push_cast; ring)

end Cert.KernelIdeal.Val
end
-- ==== Proof.KWin.lean ====
/- What each window of the kernel holds at a grid point, in the entries of the arguments. -/
module

public import proofs.«01_k».proof.Proof.KTable
public import Idealize.ShloMosaic.Lib.Pipeline.ValueKit

@[expose] public section

set_option maxRecDepth 16384

noncomputable section

namespace Cert.KernelIdeal.Val

open Idealize.ShloMosaic Cert.KernelIdeal.Gen Cert.Row Cert.Spec Pipeline

/-- The block each window is on at each point. -/
theorem idxA : ∀ t : Fin cfg0.N, win0_0.index t = ![64 - t.val, 2] ∧ win0_1.index t = ![64 - t.val, 24] ∧ win0_2.index t = ![64 - t.val, 25]
    ∧ win0_3.index t = ![64 - t.val - 1, 24] ∧ win0_4.index t = ![64 - t.val - 1, 25] :=
  (by decide +kernel : ∀ t : Fin grid0.N, _)
theorem idxB : ∀ t : Fin cfg0.N, win0_5.index t = ![0, 24] ∧ win0_6.index t = ![0, 25] ∧ win0_7.index t = ![0, 0]
    ∧ win0_8.index t = ![min (64 - t.val) 2, 0, 0, 0] ∧ win0_9.index t = ![64 - t.val, 1] :=
  (by decide +kernel : ∀ t : Fin grid0.N, _)
theorem idxC : ∀ t : Fin cfg0.N, win0_10.index t = ![64 - t.val, 0] ∧ win0_11.index t = ![64 - t.val, 0] ∧ win0_12.index t = ![64 - t.val, 0]
    ∧ win0_13.index t = ![0, 0] ∧ (BitVec.ofNat 32 (grid0.coords t 0).val) = BitVec.ofNat 32 t.val :=
  (by decide +kernel : ∀ t : Fin grid0.N, _)

variable (m : (ℓ : Loc nD τ sig) → Buf (Elt Ideal) ℓ) (c : Dev nD) (t : Fin cfg0.N)

theorem blk1 (r l : Fin 128) : (iblk m c 1 t : Vec Ideal S128x128 .f32) (ix2 r l)
    = (V m c main_arg0 : Vec Ideal S8320x3328 .f32) (ix2 ⟨(64 - t.val) * 128 + r.val, by omega⟩ ⟨3072 + l.val, by omega⟩) := by
  have h := (idxA t).2.1
  blk_ext [iblk, h]

theorem blk0 (r : Fin 128) (l : Fin 1024) : (X0_0 m c t : Vec Ideal S128x1024 .f32) (ix2 r l)
    = (V m c main_arg0 : Vec Ideal S8320x3328 .f32) (ix2 ⟨(64 - t.val) * 128 + r.val, by omega⟩ ⟨2048 + l.val, by omega⟩) := by
  have h := (idxA t).1
  unfold X0_0 Pipeline.Window.fill
  rw [dif_pos (moved0_0 t _)]
  blk_ext [iblk, h]

theorem blk7 (l : Fin 128) : (iblk m c 7 t : Vec Ideal S1x128 .f32) (ix2 0 l) = (V m c main_v4 : Vec Ideal S1x128 .f32) (ix2 0 l) := by
  have h := (idxB t).2.2.1
  blk_ext [iblk, h]

theorem blk8 (w : Fin 4) (r : Fin 512) (k : Fin 384) : (iblk m c 8 t : Vec Ideal S1x4x512x384 .f32) (ix4 0 w r k)
    = (V m c main_v67 : Vec Ideal S3x4x512x384 .f32) (ix4 ⟨min (64 - t.val) 2, by omega⟩ w r k) := by
  have h := (idxB t).2.2.2.1
  blk_ext [iblk, h]

theorem blk2 (r : Fin 128) (l : Fin 128) : (iblk m c 2 t : Vec Ideal S128x128 .f32) (ix2 r l)
    = (V m c main_arg0 : Vec Ideal S8320x3328 .f32) (ix2 ⟨(64 - t.val) * 128 + r.val, by omega⟩ ⟨3200 + l.val, by omega⟩) := by
  have h := (idxA t).2.2.1
  blk_ext [iblk, h]

theorem blk3 (r : Fin 128) (l : Fin 128) : (iblk m c 3 t : Vec Ideal S128x128 .f32) (ix2 r l)
    = (V m c main_arg0 : Vec Ideal S8320x3328 .f32) (ix2 ⟨(64 - t.val - 1) * 128 + r.val, by omega⟩ ⟨3072 + l.val, by omega⟩) := by
  have h := (idxA t).2.2.2.1
  blk_ext [iblk, h]

theorem blk4 (r : Fin 128) (l : Fin 128) : (iblk m c 4 t : Vec Ideal S128x128 .f32) (ix2 r l)
    = (V m c main_arg0 : Vec Ideal S8320x3328 .f32) (ix2 ⟨(64 - t.val - 1) * 128 + r.val, by omega⟩ ⟨3200 + l.val, by omega⟩) := by
  have h := (idxA t).2.2.2.2
  blk_ext [iblk, h]

theorem blk5 (r : Fin 128) (l : Fin 128) : (iblk m c 5 t : Vec Ideal S128x128 .f32) (ix2 r l)
    = (V m c main_arg0 : Vec Ideal S8320x3328 .f32) (ix2 ⟨0 * 128 + r.val, by omega⟩ ⟨3072 + l.val, by omega⟩) := by
  have h := (idxB t).1
  blk_ext [iblk, h]

theorem blk6 (r : Fin 128) (l : Fin 128) : (iblk m c 6 t : Vec Ideal S128x128 .f32) (ix2 r l)
    = (V m c main_arg0 : Vec Ideal S8320x3328 .f32) (ix2 ⟨0 * 128 + r.val, by omega⟩ ⟨3200 + l.val, by omega⟩) := by
  have h := (idxB t).2.1
  blk_ext [iblk, h]

theorem blk9 (r : Fin 128) (l : Fin 1024) : (iblk m c 9 t : Vec Ideal S128x1024 .f32) (ix2 r l)
    = (V m c main_arg2 : Vec Ideal S8320x2048 .f32) (ix2 ⟨(64 - t.val) * 128 + r.val, by omega⟩ ⟨1024 + l.val, by omega⟩) := by
  have h := (idxB t).2.2.2.2
  blk_ext [iblk, h]

end Cert.KernelIdeal.Val
end
-- ==== Proof.KStore.lean ====
/- What one grid point of the kernel stores, entry by entry. -/
module

public import proofs.«01_k».proof.Proof.KPoint

@[expose] public section

set_option maxRecDepth 16384

noncomputable section

namespace Cert.KernelIdeal.Val

open Idealize.ShloMosaic Cert.KernelIdeal.Gen Cert.Row Cert.Spec

/-- What block `b` gives to head `h`'s sink. -/
def dsb (P D : ℕ → ℕ → ℝ) (σ : ℕ → ℝ) (b h : ℕ) : ℝ := -(∑ r : Fin 128, ps P σ b h r * δ P D σ b h r)

variable {P D : ℕ → ℕ → ℝ} {σ : ℕ → ℝ} {b : ℕ} {x0 : Vec Ideal S128x1024 .f32} {x1 x2 x3 x4 x5 x6 : Vec Ideal S128x128 .f32} {x7 : Vec Ideal S1x128 .f32}
  {x8 : Vec Ideal S1x4x512x384 .f32} {x9 : Vec Ideal S128x1024 .f32} (H : Ins P D σ b x0 x1 x2 x3 x4 x5 x6 x7 x8 x9)

theorem quarter_sum (F : ℕ → ℕ → ℝ) (g e i o h : ℕ) (ho : o = i * 128) (hh : h = 8 * g + 2 * i + e) :
    (∑ r : Fin 128, F (hd g e (o + r)) ((o + r) % 128)) = ∑ r : Fin 128, F h r := by
  subst ho hh
  refine Finset.sum_congr rfl fun r _ => ?_
  have := r.2
  unfold hd
  rw [show (i * 128 + r.val) / 128 = i by omega, show (i * 128 + r.val) % 128 = r by omega]

theorem quarter_zero (F : ℕ → ℕ → ℝ) (g e h : ℕ) (hh : h = 8 * g + e) :
    (∑ r : Fin 128, F (hd g e r) (r.val % 128)) = ∑ r : Fin 128, F h r := by
  have := quarter_sum F g e 0 0 h (by simp) (by omega)
  simpa using this

include H in
theorem heads00_read {A : FVec Ideal S1x128 .f32} {a : ℕ → ℝ} (hA : ∀ l : Fin 128, A (ix2 0 l) = ((a l : ℝ) : EReal)) (l : Fin 128) :
    addHeads A (Z00 x0 x1 x2 x3 x4 x5 x6 x7 x8 x9) 0#32 2#32 4#32 6#32 (ix2 0 l) =
      ((a l + (if l.val = 0 then dsb P D σ b 0 else 0) + (if l.val = 2 then dsb P D σ b 2 else 0) + (if l.val = 4 then dsb P D σ b 4 else 0) + (if l.val = 6 then dsb P D σ b 6 else 0) : ℝ) : EReal) := by
  have e := addHeads_read hA (Z00_read H) 0 2 4 6 l
  have q0 := quarter_zero (fun h r => ps P σ b h r * δ P D σ b h r) 0 0 0 (by norm_num)
  have q1 := quarter_sum (fun h r => ps P σ b h r * δ P D σ b h r) 0 0 1 128 2 (by norm_num) (by norm_num)
  have q2 := quarter_sum (fun h r => ps P σ b h r * δ P D σ b h r) 0 0 2 256 4 (by norm_num) (by norm_num)
  have q3 := quarter_sum (fun h r => ps P σ b h r * δ P D σ b h r) 0 0 3 384 6 (by norm_num) (by norm_num)
  beta_reduce at e q0 q1 q2 q3
  rw [q0, q1, q2, q3] at e
  exact e

include H in
theorem heads01_read {A : FVec Ideal S1x128 .f32} {a : ℕ → ℝ} (hA : ∀ l : Fin 128, A (ix2 0 l) = ((a l : ℝ) : EReal)) (l : Fin 128) :
    addHeads A (Z01 x0 x1 x2 x3 x4 x5 x6 x7 x8 x9) 1#32 3#32 5#32 7#32 (ix2 0 l) =
      ((a l + (if l.val = 1 then dsb P D σ b 1 else 0) + (if l.val = 3 then dsb P D σ b 3 else 0) + (if l.val = 5 then dsb P D σ b 5 else 0) + (if l.val = 7 then dsb P D σ b 7 else 0) : ℝ) : EReal) := by
  have e := addHeads_read hA (Z01_read H) 1 3 5 7 l
  have q0 := quarter_zero (fun h r => ps P σ b h r * δ P D σ b h r) 0 1 1 (by norm_num)
  have q1 := quarter_sum (fun h r => ps P σ b h r * δ P D σ b h r) 0 1 1 128 3 (by norm_num) (by norm_num)
  have q2 := quarter_sum (fun h r => ps P σ b h r * δ P D σ b h r) 0 1 2 256 5 (by norm_num) (by norm_num)
  have q3 := quarter_sum (fun h r => ps P σ b h r * δ P D σ b h r) 0 1 3 384 7 (by norm_num) (by norm_num)
  beta_reduce at e q0 q1 q2 q3
  rw [q0, q1, q2, q3] at e
  exact e

include H in
theorem heads10_read {A : FVec Ideal S1x128 .f32} {a : ℕ → ℝ} (hA : ∀ l : Fin 128, A (ix2 0 l) = ((a l : ℝ) : EReal)) (l : Fin 128) :
    addHeads A (Z10 x0 x1 x2 x3 x4 x5 x6 x7 x8 x9) 8#32 10#32 12#32 14#32 (ix2 0 l) =
      ((a l + (if l.val = 8 then dsb P D σ b 8 else 0) + (if l.val = 10 then dsb P D σ b 10 else 0) + (if l.val = 12 then dsb P D σ b 12 else 0) + (if l.val = 14 then dsb P D σ b 14 else 0) : ℝ) : EReal) := by
  have e := addHeads_read hA (Z10_read H) 8 10 12 14 l
  have q0 := quarter_zero (fun h r => ps P σ b h r * δ P D σ b h r) 1 0 8 (by norm_num)
  have q1 := quarter_sum (fun h r => ps P σ b h r * δ P D σ b h r) 1 0 1 128 10 (by norm_num) (by norm_num)
  have q2 := quarter_sum (fun h r => ps P σ b h r * δ P D σ b h r) 1 0 2 256 12 (by norm_num) (by norm_num)
  have q3 := quarter_sum (fun h r => ps P σ b h r * δ P D σ b h r) 1 0 3 384 14 (by norm_num) (by norm_num)
  beta_reduce at e q0 q1 q2 q3
  rw [q0, q1, q2, q3] at e
  exact e

include H in
theorem heads11_read {A : FVec Ideal S1x128 .f32} {a : ℕ → ℝ} (hA : ∀ l : Fin 128, A (ix2 0 l) = ((a l : ℝ) : EReal)) (l : Fin 128) :
    addHeads A (Z11 x0 x1 x2 x3 x4 x5 x6 x7 x8 x9) 9#32 11#32 13#32 15#32 (ix2 0 l) =
      ((a l + (if l.val = 9 then dsb P D σ b 9 else 0) + (if l.val = 11 then dsb P D σ b 11 else 0) + (if l.val = 13 then dsb P D σ b 13 else 0) + (if l.val = 15 then dsb P D σ b 15 else 0) : ℝ) : EReal) := by
  have e := addHeads_read hA (Z11_read H) 9 11 13 15 l
  have q0 := quarter_zero (fun h r => ps P σ b h r * δ P D σ b h r) 1 1 9 (by norm_num)
  have q1 := quarter_sum (fun h r => ps P σ b h r * δ P D σ b h r) 1 1 1 128 11 (by norm_num) (by norm_num)
  have q2 := quarter_sum (fun h r => ps P σ b h r * δ P D σ b h r) 1 1 2 256 13 (by norm_num) (by norm_num)
  have q3 := quarter_sum (fun h r => ps P σ b h r * δ P D σ b h r) 1 1 3 384 15 (by norm_num) (by norm_num)
  beta_reduce at e q0 q1 q2 q3
  rw [q0, q1, q2, q3] at e
  exact e

include H in
theorem DSK_read (l : Fin 128) : DSK x0 x1 x2 x3 x4 x5 x6 x7 x8 x9 (ix2 0 l) = ((if l.val < 16 then dsb P D σ b l else 0 : ℝ) : EReal) := by
  have z : ∀ l : Fin 128, (broadcast S1x128 (Scalar.ofBits .f32 0x00000000#32) : FVec Ideal S1x128 .f32) (ix2 0 l) = (((fun _ => 0 : ℕ → ℝ) l : ℝ) : EReal) :=
    fun l => Ideal.ofBits_zero_f32
  have e0 := heads00_read H (a := fun _ => 0) z
  have e1 := heads01_read H (a := fun n => 0 + (if n = 0 then dsb P D σ b 0 else 0) + (if n = 2 then dsb P D σ b 2 else 0) + (if n = 4 then dsb P D σ b 4 else 0) + (if n = 6 then dsb P D σ b 6 else 0)) e0
  have e2 := heads10_read H (a := fun n => 0 + (if n = 0 then dsb P D σ b 0 else 0) + (if n = 2 then dsb P D σ b 2 else 0) + (if n = 4 then dsb P D σ b 4 else 0) + (if n = 6 then dsb P D σ b 6 else 0) + (if n = 1 then dsb P D σ b 1 else 0) + (if n = 3 then dsb P D σ b 3 else 0) + (if n = 5 then dsb P D σ b 5 else 0) + (if n = 7 then dsb P D σ b 7 else 0)) e1
  refine (heads11_read H (a := fun n => 0 + (if n = 0 then dsb P D σ b 0 else 0) + (if n = 2 then dsb P D σ b 2 else 0) + (if n = 4 then dsb P D σ b 4 else 0) + (if n = 6 then dsb P D σ b 6 else 0) + (if n = 1 then dsb P D σ b 1 else 0) + (if n = 3 then dsb P D σ b 3 else 0) + (if n = 5 then dsb P D σ b 5 else 0) + (if n = 7 then dsb P D σ b 7 else 0) + (if n = 8 then dsb P D σ b 8 else 0) + (if n = 10 then dsb P D σ b 10 else 0) + (if n = 12 then dsb P D σ b 12 else 0) + (if n = 14 then dsb P D σ b 14 else 0)) e2 l).trans ?_
  congr 1
  obtain ⟨l, hl'⟩ := l
  simp only
  by_cases hl : l < 16
  · rw [if_pos hl]
    interval_cases l <;> simp
  · have hne : ∀ k : ℕ, k < 16 → l ≠ k := fun k hk => by omega
    rw [if_neg hl]
    simp [hne]

theorem pay118_read {T0 T1 : FVec Ideal S512x128 .f32} {f0 f1 : ℕ → ℕ → ℝ} (h0 : R2 T0 f0) (h1 : R2 T1 f1) :
    R2 (k0_pay118 k0_pay13 T0 T1) (fun r l => if l / 64 = 0 then f0 (0 + r) l else f1 (0 + r) l) := by
  intro r l
  have hr := r.2
  have e : k0_pay118 k0_pay13 T0 T1 (ix2 r l) = Scalar.select (IntOp.cmpi .slt (BitVec.ofNat 32 l.val) 64#32) (T0 (ix2 ⟨0 + r.val, by omega⟩ l)) (T1 (ix2 ⟨0 + r.val, by omega⟩ l)) := by
    pointwise [k0_pay118, k0_pay13]
  rw [e, low_lane, pick, h0, h1]
  show _ = (((if l.val / 64 = 0 then f0 (0 + r.val) l else f1 (0 + r.val) l : ℝ)) : EReal)
  split_ifs <;> rfl

theorem pay119_read {T0 T1 : FVec Ideal S512x128 .f32} {f0 f1 : ℕ → ℕ → ℝ} (h0 : R2 T0 f0) (h1 : R2 T1 f1) :
    R2 (k0_pay119 k0_pay13 T0 T1) (fun r l => if l / 64 = 0 then f0 (128 + r) l else f1 (128 + r) l) := by
  intro r l
  have hr := r.2
  have e : k0_pay119 k0_pay13 T0 T1 (ix2 r l) = Scalar.select (IntOp.cmpi .slt (BitVec.ofNat 32 l.val) 64#32) (T0 (ix2 ⟨128 + r.val, by omega⟩ l)) (T1 (ix2 ⟨128 + r.val, by omega⟩ l)) := by
    pointwise [k0_pay119, k0_pay13]
  rw [e, low_lane, pick, h0, h1]
  show _ = (((if l.val / 64 = 0 then f0 (128 + r.val) l else f1 (128 + r.val) l : ℝ)) : EReal)
  split_ifs <;> rfl

theorem pay120_read {T0 T1 : FVec Ideal S512x128 .f32} {f0 f1 : ℕ → ℕ → ℝ} (h0 : R2 T0 f0) (h1 : R2 T1 f1) :
    R2 (k0_pay120 k0_pay13 T0 T1) (fun r l => if l / 64 = 0 then f0 (256 + r) l else f1 (256 + r) l) := by
  intro r l
  have hr := r.2
  have e : k0_pay120 k0_pay13 T0 T1 (ix2 r l) = Scalar.select (IntOp.cmpi .slt (BitVec.ofNat 32 l.val) 64#32) (T0 (ix2 ⟨256 + r.val, by omega⟩ l)) (T1 (ix2 ⟨256 + r.val, by omega⟩ l)) := by
    pointwise [k0_pay120, k0_pay13]
  rw [e, low_lane, pick, h0, h1]
  show _ = (((if l.val / 64 = 0 then f0 (256 + r.val) l else f1 (256 + r.val) l : ℝ)) : EReal)
  split_ifs <;> rfl

theorem pay121_read {T0 T1 : FVec Ideal S512x128 .f32} {f0 f1 : ℕ → ℕ → ℝ} (h0 : R2 T0 f0) (h1 : R2 T1 f1) :
    R2 (k0_pay121 k0_pay13 T0 T1) (fun r l => if l / 64 = 0 then f0 (384 + r) l else f1 (384 + r) l) := by
  intro r l
  have hr := r.2
  have e : k0_pay121 k0_pay13 T0 T1 (ix2 r l) = Scalar.select (IntOp.cmpi .slt (BitVec.ofNat 32 l.val) 64#32) (T0 (ix2 ⟨384 + r.val, by omega⟩ l)) (T1 (ix2 ⟨384 + r.val, by omega⟩ l)) := by
    pointwise [k0_pay121, k0_pay13]
  rw [e, low_lane, pick, h0, h1]
  show _ = (((if l.val / 64 = 0 then f0 (384 + r.val) l else f1 (384 + r.val) l : ℝ)) : EReal)
  split_ifs <;> rfl

theorem pay122_read {T0 T1 : FVec Ideal S512x128 .f32} {f0 f1 : ℕ → ℕ → ℝ} (h0 : R2 T0 f0) (h1 : R2 T1 f1) :
    R2 (k0_pay122 k0_pay13 T0 T1) (fun r l => if l / 64 = 0 then f0 (0 + r) l else f1 (0 + r) l) := by
  intro r l
  have hr := r.2
  have e : k0_pay122 k0_pay13 T0 T1 (ix2 r l) = Scalar.select (IntOp.cmpi .slt (BitVec.ofNat 32 l.val) 64#32) (T0 (ix2 ⟨0 + r.val, by omega⟩ l)) (T1 (ix2 ⟨0 + r.val, by omega⟩ l)) := by
    pointwise [k0_pay122, k0_pay13]
  rw [e, low_lane, pick, h0, h1]
  show _ = (((if l.val / 64 = 0 then f0 (0 + r.val) l else f1 (0 + r.val) l : ℝ)) : EReal)
  split_ifs <;> rfl

theorem pay123_read {T0 T1 : FVec Ideal S512x128 .f32} {f0 f1 : ℕ → ℕ → ℝ} (h0 : R2 T0 f0) (h1 : R2 T1 f1) :
    R2 (k0_pay123 k0_pay13 T0 T1) (fun r l => if l / 64 = 0 then f0 (128 + r) l else f1 (128 + r) l) := by
  intro r l
  have hr := r.2
  have e : k0_pay123 k0_pay13 T0 T1 (ix2 r l) = Scalar.select (IntOp.cmpi .slt (BitVec.ofNat 32 l.val) 64#32) (T0 (ix2 ⟨128 + r.val, by omega⟩ l)) (T1 (ix2 ⟨128 + r.val, by omega⟩ l)) := by
    pointwise [k0_pay123, k0_pay13]
  rw [e, low_lane, pick, h0, h1]
  show _ = (((if l.val / 64 = 0 then f0 (128 + r.val) l else f1 (128 + r.val) l : ℝ)) : EReal)
  split_ifs <;> rfl

theorem pay124_read {T0 T1 : FVec Ideal S512x128 .f32} {f0 f1 : ℕ → ℕ → ℝ} (h0 : R2 T0 f0) (h1 : R2 T1 f1) :
    R2 (k0_pay124 k0_pay13 T0 T1) (fun r l => if l / 64 = 0 then f0 (256 + r) l else f1 (256 + r) l) := by
  intro r l
  have hr := r.2
  have e : k0_pay124 k0_pay13 T0 T1 (ix2 r l) = Scalar.select (IntOp.cmpi .slt (BitVec.ofNat 32 l.val) 64#32) (T0 (ix2 ⟨256 + r.val, by omega⟩ l)) (T1 (ix2 ⟨256 + r.val, by omega⟩ l)) := by
    pointwise [k0_pay124, k0_pay13]
  rw [e, low_lane, pick, h0, h1]
  show _ = (((if l.val / 64 = 0 then f0 (256 + r.val) l else f1 (256 + r.val) l : ℝ)) : EReal)
  split_ifs <;> rfl

theorem pay125_read {T0 T1 : FVec Ideal S512x128 .f32} {f0 f1 : ℕ → ℕ → ℝ} (h0 : R2 T0 f0) (h1 : R2 T1 f1) :
    R2 (k0_pay125 k0_pay13 T0 T1) (fun r l => if l / 64 = 0 then f0 (384 + r) l else f1 (384 + r) l) := by
  intro r l
  have hr := r.2
  have e : k0_pay125 k0_pay13 T0 T1 (ix2 r l) = Scalar.select (IntOp.cmpi .slt (BitVec.ofNat 32 l.val) 64#32) (T0 (ix2 ⟨384 + r.val, by omega⟩ l)) (T1 (ix2 ⟨384 + r.val, by omega⟩ l)) := by
    pointwise [k0_pay125, k0_pay13]
  rw [e, low_lane, pick, h0, h1]
  show _ = (((if l.val / 64 = 0 then f0 (384 + r.val) l else f1 (384 + r.val) l : ℝ)) : EReal)
  split_ifs <;> rfl

/-- The two stacks' rows of a tile are one head's gradient. -/
theorem dq_lane (P D : ℕ → ℕ → ℝ) (σ : ℕ → ℝ) (b g e i r l : ℕ) (hr : r < 128) (hi : i < 4) (hg : g < 2) (he : l / 64 = e) (hl : l < 128) (lane : ℕ)
    (hlane : lane = g * 64 + l % 64) :
    (∑ c : Fin 384, ds P D σ b (hd g e (i * 128 + r)) ((i * 128 + r) % 128) c * P (key b c) (3072 + lane)) =
      dq P D σ b r ((g * 512 + i * 128 + l) / 64) ((g * 512 + i * 128 + l) % 64) := by
  subst hlane
  unfold dq k hd
  refine Finset.sum_congr rfl fun c _ => ?_
  rw [show (i * 128 + r) % 128 = r by omega, show 8 * g + 2 * ((i * 128 + r) / 128) + e = (g * 512 + i * 128 + l) / 64 by omega,
    show (g * 512 + i * 128 + l) / 64 / 8 * 64 + (g * 512 + i * 128 + l) % 64 = g * 64 + l % 64 by omega]

/-- The queries' gradient at the point, as one function of the entry. -/
def dqG (P D : ℕ → ℕ → ℝ) (σ : ℕ → ℝ) (b : ℕ) : Vec Ideal S128x1024 .bf16 := fun y => ((dq P D σ b (y 0).val ((y 1).val / 64) ((y 1).val % 64) : ℝ) : EReal)

theorem piece_dq (P D : ℕ → ℕ → ℝ) (σ : ℕ → ℝ) (b o : ℕ) (inb : ∀ a, (![0, o] : Fin 2 → ℕ) a + S128x128.size a ≤ S128x1024.size a) (y : S128x128.Idx) :
    dqG P D σ b ((Rect.unit (s := S128x1024) ![0, o] ![128, 128] inb).emb y) = ((dq P D σ b (y 0).val ((o + (y 1).val) / 64) ((o + (y 1).val) % 64) : ℝ) : EReal) := by
  have a0 : ((Rect.unit (s := S128x1024) ![0, o] ![128, 128] inb).emb y 0).val = (y 0).val := by show 0 + 1 * (y 0).val = _; omega
  have a1 : ((Rect.unit (s := S128x1024) ![0, o] ![128, 128] inb).emb y 1).val = o + (y 1).val := by show o + 1 * (y 1).val = _; omega
  unfold dqG
  rw [a0, a1]

include H in
theorem piece118 (inb : ∀ a, (![0, 0] : Fin 2 → ℕ) a + S128x128.size a ≤ S128x1024.size a) (y : S128x128.Idx) : k0_pay118 k0_pay13 (T00 x0 x1 x2 x3 x4 x5 x6 x7 x8 x9) (T01 x0 x1 x2 x3 x4 x5 x6 x7 x8 x9) y = dqG P D σ b ((Rect.unit (s := S128x1024) ![0, 0] ![128, 128] inb).emb y) := by
  rw [piece_dq]
  have h0 : (y 0).val < 128 := (y 0).2
  have h1 : (y 1).val < 128 := (y 1).2
  have e := pay118_read (T00_read H) (T01_read H) (y 0) (y 1)
  rw [← eq_ix2 y] at e
  refine e.trans (congrArg _ ?_)
  by_cases hl : (y 1).val / 64 = 0
  · refine (if_pos hl).trans (dq_lane P D σ b 0 0 0 (y 0).val (y 1).val h0 (by norm_num) (by norm_num) hl h1 _ (by omega))
  · refine (if_neg hl).trans (dq_lane P D σ b 0 1 0 (y 0).val (y 1).val h0 (by norm_num) (by norm_num) (by omega) h1 _ (by omega))

include H in
theorem piece119 (inb : ∀ a, (![0, 128] : Fin 2 → ℕ) a + S128x128.size a ≤ S128x1024.size a) (y : S128x128.Idx) : k0_pay119 k0_pay13 (T00 x0 x1 x2 x3 x4 x5 x6 x7 x8 x9) (T01 x0 x1 x2 x3 x4 x5 x6 x7 x8 x9) y = dqG P D σ b ((Rect.unit (s := S128x1024) ![0, 128] ![128, 128] inb).emb y) := by
  rw [piece_dq]
  have h0 : (y 0).val < 128 := (y 0).2
  have h1 : (y 1).val < 128 := (y 1).2
  have e := pay119_read (T00_read H) (T01_read H) (y 0) (y 1)
  rw [← eq_ix2 y] at e
  refine e.trans (congrArg _ ?_)
  by_cases hl : (y 1).val / 64 = 0
  · refine (if_pos hl).trans (dq_lane P D σ b 0 0 1 (y 0).val (y 1).val h0 (by norm_num) (by norm_num) hl h1 _ (by omega))
  · refine (if_neg hl).trans (dq_lane P D σ b 0 1 1 (y 0).val (y 1).val h0 (by norm_num) (by norm_num) (by omega) h1 _ (by omega))

include H in
theorem piece120 (inb : ∀ a, (![0, 256] : Fin 2 → ℕ) a + S128x128.size a ≤ S128x1024.size a) (y : S128x128.Idx) : k0_pay120 k0_pay13 (T00 x0 x1 x2 x3 x4 x5 x6 x7 x8 x9) (T01 x0 x1 x2 x3 x4 x5 x6 x7 x8 x9) y = dqG P D σ b ((Rect.unit (s := S128x1024) ![0, 256] ![128, 128] inb).emb y) := by
  rw [piece_dq]
  have h0 : (y 0).val < 128 := (y 0).2
  have h1 : (y 1).val < 128 := (y 1).2
  have e := pay120_read (T00_read H) (T01_read H) (y 0) (y 1)
  rw [← eq_ix2 y] at e
  refine e.trans (congrArg _ ?_)
  by_cases hl : (y 1).val / 64 = 0
  · refine (if_pos hl).trans (dq_lane P D σ b 0 0 2 (y 0).val (y 1).val h0 (by norm_num) (by norm_num) hl h1 _ (by omega))
  · refine (if_neg hl).trans (dq_lane P D σ b 0 1 2 (y 0).val (y 1).val h0 (by norm_num) (by norm_num) (by omega) h1 _ (by omega))

include H in
theorem piece121 (inb : ∀ a, (![0, 384] : Fin 2 → ℕ) a + S128x128.size a ≤ S128x1024.size a) (y : S128x128.Idx) : k0_pay121 k0_pay13 (T00 x0 x1 x2 x3 x4 x5 x6 x7 x8 x9) (T01 x0 x1 x2 x3 x4 x5 x6 x7 x8 x9) y = dqG P D σ b ((Rect.unit (s := S128x1024) ![0, 384] ![128, 128] inb).emb y) := by
  rw [piece_dq]
  have h0 : (y 0).val < 128 := (y 0).2
  have h1 : (y 1).val < 128 := (y 1).2
  have e := pay121_read (T00_read H) (T01_read H) (y 0) (y 1)
  rw [← eq_ix2 y] at e
  refine e.trans (congrArg _ ?_)
  by_cases hl : (y 1).val / 64 = 0
  · refine (if_pos hl).trans (dq_lane P D σ b 0 0 3 (y 0).val (y 1).val h0 (by norm_num) (by norm_num) hl h1 _ (by omega))
  · refine (if_neg hl).trans (dq_lane P D σ b 0 1 3 (y 0).val (y 1).val h0 (by norm_num) (by norm_num) (by omega) h1 _ (by omega))

include H in
theorem piece122 (inb : ∀ a, (![0, 512] : Fin 2 → ℕ) a + S128x128.size a ≤ S128x1024.size a) (y : S128x128.Idx) : k0_pay122 k0_pay13 (T10 x0 x1 x2 x3 x4 x5 x6 x7 x8 x9) (T11 x0 x1 x2 x3 x4 x5 x6 x7 x8 x9) y = dqG P D σ b ((Rect.unit (s := S128x1024) ![0, 512] ![128, 128] inb).emb y) := by
  rw [piece_dq]
  have h0 : (y 0).val < 128 := (y 0).2
  have h1 : (y 1).val < 128 := (y 1).2
  have e := pay122_read (T10_read H) (T11_read H) (y 0) (y 1)
  rw [← eq_ix2 y] at e
  refine e.trans (congrArg _ ?_)
  by_cases hl : (y 1).val / 64 = 0
  · refine (if_pos hl).trans (dq_lane P D σ b 1 0 0 (y 0).val (y 1).val h0 (by norm_num) (by norm_num) hl h1 _ (by omega))
  · refine (if_neg hl).trans (dq_lane P D σ b 1 1 0 (y 0).val (y 1).val h0 (by norm_num) (by norm_num) (by omega) h1 _ (by omega))

include H in
theorem piece123 (inb : ∀ a, (![0, 640] : Fin 2 → ℕ) a + S128x128.size a ≤ S128x1024.size a) (y : S128x128.Idx) : k0_pay123 k0_pay13 (T10 x0 x1 x2 x3 x4 x5 x6 x7 x8 x9) (T11 x0 x1 x2 x3 x4 x5 x6 x7 x8 x9) y = dqG P D σ b ((Rect.unit (s := S128x1024) ![0, 640] ![128, 128] inb).emb y) := by
  rw [piece_dq]
  have h0 : (y 0).val < 128 := (y 0).2
  have h1 : (y 1).val < 128 := (y 1).2
  have e := pay123_read (T10_read H) (T11_read H) (y 0) (y 1)
  rw [← eq_ix2 y] at e
  refine e.trans (congrArg _ ?_)
  by_cases hl : (y 1).val / 64 = 0
  · refine (if_pos hl).trans (dq_lane P D σ b 1 0 1 (y 0).val (y 1).val h0 (by norm_num) (by norm_num) hl h1 _ (by omega))
  · refine (if_neg hl).trans (dq_lane P D σ b 1 1 1 (y 0).val (y 1).val h0 (by norm_num) (by norm_num) (by omega) h1 _ (by omega))

include H in
theorem piece124 (inb : ∀ a, (![0, 768] : Fin 2 → ℕ) a + S128x128.size a ≤ S128x1024.size a) (y : S128x128.Idx) : k0_pay124 k0_pay13 (T10 x0 x1 x2 x3 x4 x5 x6 x7 x8 x9) (T11 x0 x1 x2 x3 x4 x5 x6 x7 x8 x9) y = dqG P D σ b ((Rect.unit (s := S128x1024) ![0, 768] ![128, 128] inb).emb y) := by
  rw [piece_dq]
  have h0 : (y 0).val < 128 := (y 0).2
  have h1 : (y 1).val < 128 := (y 1).2
  have e := pay124_read (T10_read H) (T11_read H) (y 0) (y 1)
  rw [← eq_ix2 y] at e
  refine e.trans (congrArg _ ?_)
  by_cases hl : (y 1).val / 64 = 0
  · refine (if_pos hl).trans (dq_lane P D σ b 1 0 2 (y 0).val (y 1).val h0 (by norm_num) (by norm_num) hl h1 _ (by omega))
  · refine (if_neg hl).trans (dq_lane P D σ b 1 1 2 (y 0).val (y 1).val h0 (by norm_num) (by norm_num) (by omega) h1 _ (by omega))

include H in
theorem piece125 (inb : ∀ a, (![0, 896] : Fin 2 → ℕ) a + S128x128.size a ≤ S128x1024.size a) (y : S128x128.Idx) : k0_pay125 k0_pay13 (T10 x0 x1 x2 x3 x4 x5 x6 x7 x8 x9) (T11 x0 x1 x2 x3 x4 x5 x6 x7 x8 x9) y = dqG P D σ b ((Rect.unit (s := S128x1024) ![0, 896] ![128, 128] inb).emb y) := by
  rw [piece_dq]
  have h0 : (y 0).val < 128 := (y 0).2
  have h1 : (y 1).val < 128 := (y 1).2
  have e := pay125_read (T10_read H) (T11_read H) (y 0) (y 1)
  rw [← eq_ix2 y] at e
  refine e.trans (congrArg _ ?_)
  by_cases hl : (y 1).val / 64 = 0
  · refine (if_pos hl).trans (dq_lane P D σ b 1 0 3 (y 0).val (y 1).val h0 (by norm_num) (by norm_num) hl h1 _ (by omega))
  · refine (if_neg hl).trans (dq_lane P D σ b 1 1 3 (y 0).val (y 1).val h0 (by norm_num) (by norm_num) (by omega) h1 _ (by omega))

include H in
theorem DQ_read : DQ x0 x1 x2 x3 x4 x5 x6 x7 x8 x9 = dqG P D σ b := by
  funext y
  refine View.canon_apply_of_pieces (dqG P D σ b) _ ?_ y ?_
  · intro p hp x
    simp only [List.mem_cons, List.not_mem_nil, or_false] at hp
    rcases hp with rfl | rfl | rfl | rfl | rfl | rfl | rfl | rfl
    · exact piece125 H inb_S128x1024_S128x128_0_896 x
    · exact piece124 H inb_S128x1024_S128x128_0_768 x
    · exact piece123 H inb_S128x1024_S128x128_0_640 x
    · exact piece122 H inb_S128x1024_S128x128_0_512 x
    · exact piece121 H inb_S128x1024_S128x128_0_384 x
    · exact piece120 H inb_S128x1024_S128x128_0_256 x
    · exact piece119 H inb_S128x1024_S128x128_0_128 x
    · exact piece118 H inb_S128x1024_S128x128_0_0 x
  · have h0 : (y 0).val < 128 := (y 0).2
    have h1 : (y 1).val < 1024 := (y 1).2
    have mem : ∀ o : ℕ, ∀ inb, o ≤ (y 1).val → (y 1).val < o + 128 → y ∈ (Rect.unit (s := S128x1024) ![0, o] ![128, 128] inb).set := by
      intro o inb ha hb
      refine Rect.mem_set_unit.mpr fun a => ?_
      fin_cases a
      · exact ⟨Nat.zero_le _, by show (y 0).val < 0 + 128; omega⟩
      · exact ⟨ha, hb⟩
    by_cases c0 : (y 1).val < 128
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem 0 inb_S128x1024_S128x128_0_0 (by omega) (by omega)⟩
    by_cases c1 : (y 1).val < 256
    · exact ⟨_, (List.mem_cons_of_mem _ (List.mem_cons_of_mem _ (List.mem_cons_of_mem _ (List.mem_cons_of_mem _ (List.mem_cons_of_mem _ (List.mem_cons_of_mem _ List.mem_cons_self)))))), mem 128 inb_S128x1024_S128x128_0_128 (by omega) (by omega)⟩
    by_cases c2 : (y 1).val < 384
    · exact ⟨_, (List.mem_cons_of_mem _ (List.mem_cons_of_mem _ (List.mem_cons_of_mem _ (List.mem_cons_of_mem _ (List.mem_cons_of_mem _ List.mem_cons_self))))), mem 256 inb_S128x1024_S128x128_0_256 (by omega) (by omega)⟩
    by_cases c3 : (y 1).val < 512
    · exact ⟨_, (List.mem_cons_of_mem _ (List.mem_cons_of_mem _ (List.mem_cons_of_mem _ (List.mem_cons_of_mem _ List.mem_cons_self)))), mem 384 inb_S128x1024_S128x128_0_384 (by omega) (by omega)⟩
    by_cases c4 : (y 1).val < 640
    · exact ⟨_, (List.mem_cons_of_mem _ (List.mem_cons_of_mem _ (List.mem_cons_of_mem _ List.mem_cons_self))), mem 512 inb_S128x1024_S128x128_0_512 (by omega) (by omega)⟩
    by_cases c5 : (y 1).val < 768
    · exact ⟨_, (List.mem_cons_of_mem _ (List.mem_cons_of_mem _ List.mem_cons_self)), mem 640 inb_S128x1024_S128x128_0_640 (by omega) (by omega)⟩
    by_cases c6 : (y 1).val < 896
    · exact ⟨_, (List.mem_cons_of_mem _ List.mem_cons_self), mem 768 inb_S128x1024_S128x128_0_768 (by omega) (by omega)⟩
    exact ⟨_, List.mem_cons_self, mem 896 inb_S128x1024_S128x128_0_896 (by omega) (by omega)⟩

/-- The rows a point carries, adds up and stores. -/
theorem ckOut_read {A : FVec Ideal S384x128 .f32} {f : ℕ → ℕ → ℝ} (hA : R2 A f) : R2 (ckOut A) f := by
  intro r l
  have hr := r.2
  have e : ckOut A (ix2 r l) = A (ix2 ⟨r.val, by omega⟩ l) := by
    pointwise [ckOut, k0_pay2]
  rw [e, hA]

theorem mkOut_read {A : FVec Ideal S384x128 .f32} {f m : ℕ → ℕ → ℝ} {mk : Vec Ideal S128x128 .f32} (hA : R2 A f) (hm : R2 mk m) :
    R2 (mkOut A mk) (fun r l => m r l + f (256 + r) l) := by
  intro r l
  have hr := r.2
  have e : mkOut A mk (ix2 r l) = mk (ix2 r l) + A (ix2 ⟨256 + r.val, by omega⟩ l) := by
    pointwise [mkOut, k0_pay127]
  rw [e, hA, hm, ← EReal.coe_add]

theorem dkOut_read {A : FVec Ideal S384x128 .f32} {f ck mk : ℕ → ℕ → ℝ} {c m : Vec Ideal S128x128 .f32} (w : BitVec 32) (b : ℕ) (hw : (w = 0#32) = (b = 0))
    (hA : R2 A f) (hc : R2 c ck) (hm : R2 m mk) :
    R2 (dkOut w A c m) (fun r l => f (128 + r) l + ck r l + (if b = 0 then mk r l else 0)) := by
  intro r l
  have hr := r.2
  have e : dkOut w A c m (ix2 r l) = A (ix2 ⟨128 + r.val, by omega⟩ l) + c (ix2 r l) + (Scalar.select (Scalar.cmpi .eq w 0#32) m (broadcast S128x128 (Scalar.ofBits .f32 0x00000000#32) : FVec Ideal S128x128 .f32) : Vec Ideal S128x128 .f32) (ix2 r l) := by
    unfold dkOut k0_pay129
    generalize (Scalar.select (Scalar.cmpi .eq w 0#32) m (broadcast S128x128 (Scalar.ofBits .f32 0x00000000#32) : FVec Ideal S128x128 .f32) : Vec Ideal S128x128 .f32) = X
    pointwise []
  rw [e, hA, hc, ← EReal.coe_add]
  by_cases hb : b = 0
  · have h0 : w = 0#32 := by rw [hw]; exact hb
    have : (Scalar.cmpi .eq w 0#32) = 1#1 := by rw [h0]; rfl
    rw [this]
    show _ + m (ix2 r l) = (((f (128 + r.val) l + ck r l + (if b = 0 then mk r l else 0) : ℝ)) : EReal)
    rw [hm, ← EReal.coe_add, if_pos hb]
  · have h0 : ¬ w = 0#32 := by rw [hw]; exact hb
    have : (Scalar.cmpi .eq w 0#32) = 0#1 := by show BitVec.ofBool (w == 0#32) = 0#1; rw [beq_eq_false_iff_ne.mpr h0]; rfl
    rw [this]
    show _ + Ideal.ofBits FTy.f32 0x00000000#32 = (((f (128 + r.val) l + ck r l + (if b = 0 then mk r l else 0) : ℝ)) : EReal)
    rw [Ideal.ofBits_zero_f32, add_zero, if_neg hb, add_zero]

theorem skOut_read {A : FVec Ideal S1x128 .f32} {o : Vec Ideal S1x128 .f32} (l : Fin 128) : skOut A o (ix2 0 l) = o (ix2 0 l) + A (ix2 0 l) := by
  have key : ∀ q : Fin 1, skOut A o (ix2 q l) = o (ix2 q l) + A (ix2 q l) := by
    intro q
    pointwise [skOut, k0_pay126]
  exact key 0

theorem zero4 : R2 (k0_pay4 : FVec Ideal S128x128 .f32) (fun _ _ => 0) := by intro r l; pointwise [k0_pay4]; rfl
theorem zero5 : R2 (k0_pay5 : FVec Ideal S128x128 .f32) (fun _ _ => 0) := by intro r l; pointwise [k0_pay5]; rfl
theorem zero6 : R2 (k0_pay6 : FVec Ideal S128x128 .f32) (fun _ _ => 0) := by intro r l; pointwise [k0_pay6]; rfl
theorem zero7 : R2 (k0_pay7 : FVec Ideal S128x128 .f32) (fun _ _ => 0) := by intro r l; pointwise [k0_pay7]; rfl
theorem zero8 (l : Fin 128) : (k0_pay8 : FVec Ideal S1x128 .f32) (ix2 0 l) = 0 := Ideal.ofBits_zero_f32

end Cert.KernelIdeal.Val

end
-- ==== Proof.KIns.lean ====
/- At every grid point the windows hold what the specification of that point's block takes. -/
module

public import proofs.«01_k».proof.Proof.KWin
public import proofs.«01_k».proof.Proof.KStore
public import Idealize.ShloMosaic.Lib.Pointwise

@[expose] public section

set_option maxRecDepth 16384

noncomputable section

namespace Cert.KernelIdeal.Val

open Idealize.ShloMosaic Cert.KernelIdeal.Gen Cert.Row Cert.Spec

/-- The parts of the arguments that the kernel reads are the real numbers `P`, `σ` and `D`. -/
structure Args (m : (ℓ : Loc nD τ sig) → Buf (Elt Ideal) ℓ) (c : Dev nD) (P D : ℕ → ℕ → ℝ) (σ : ℕ → ℝ) : Prop where
  hP : ∀ (i : Fin 8320) (j : Fin 3328), 2048 ≤ j.val → (m (c.tc.loc main_arg0) : Vec Ideal S8320x3328 .f32) (ix2 i j) = ((P i j : ℝ) : EReal)
  hD : ∀ (i : Fin 8320) (j : Fin 2048), 1024 ≤ j.val → (m (c.tc.loc main_arg2) : Vec Ideal S8320x2048 .f32) (ix2 i j) = ((D i j : ℝ) : EReal)
  hσ : ∀ l : Fin 16, (m (c.tc.loc main_arg1) : Vec Ideal S16 .f32) (ix1 l) = ((σ l : ℝ) : EReal)

theorem bias0_at (x8 : Vec Ideal S1x4x512x384 .f32) (ρ : Fin 512) (k : Fin 384) : bias0 x8 (ix2 ρ k) = x8 (ix4 0 0 ρ k) := by
  pointwise [bias0, k0_pay40]

theorem bias1_at (x8 : Vec Ideal S1x4x512x384 .f32) (ρ : Fin 512) (k : Fin 384) : bias1 x8 (ix2 ρ k) = x8 (ix4 0 1 ρ k) := by
  pointwise [bias1, k0_pay40]

theorem bias2_at (x8 : Vec Ideal S1x4x512x384 .f32) (ρ : Fin 512) (k : Fin 384) : bias2 x8 (ix2 ρ k) = x8 (ix4 0 2 ρ k) := by
  pointwise [bias2, k0_pay40]

theorem bias3_at (x8 : Vec Ideal S1x4x512x384 .f32) (ρ : Fin 512) (k : Fin 384) : bias3 x8 (ix2 ρ k) = x8 (ix4 0 3 ρ k) := by
  pointwise [bias3, k0_pay40]

theorem key_prev (b r : ℕ) (hr : r < 128) : key b r = (b - 1) * 128 + r := by
  unfold key; rw [if_pos hr]

theorem key_cur (b r : ℕ) (hr : r < 128) : key b (128 + r) = b * 128 + r := by
  unfold key; rw [if_neg (by omega), if_pos (by omega), show 128 + r - 128 = r by omega]

theorem key_meta (b r : ℕ) : key b (256 + r) = r := by
  unfold key; rw [if_neg (by omega), if_neg (by omega), show 256 + r - 256 = r by omega]

theorem seen_min (b r c : ℕ) (hr : r < 128) (hc : c < 384) : seen (min b 2) r c ↔ seen b r c := by
  unfold seen
  rcases Nat.le_total b 2 with h | h
  · rw [min_eq_left h]
  · rw [min_eq_right h]; omega

theorem dist_min (b r c : ℕ) (hr : r < 128) (hc : c < 384) : Spec.dist (min b 2) r c = Spec.dist b r c := by
  unfold Spec.dist
  rcases Nat.le_total b 2 with h | h
  · rw [min_eq_left h]
  · rw [min_eq_right h]
    split_ifs with h'
    · rfl
    · omega

theorem sc_congr {p q : Prop} [Decidable p] [Decidable q] (h : p ↔ q) (x : ℝ) : sc p x = sc q x := by
  unfold sc
  by_cases hq : q
  · rw [if_pos hq, if_pos (h.mpr hq)]
  · rw [if_neg hq, if_neg fun k => hq (h.mp k)]

variable {m : (ℓ : Loc nD τ sig) → Buf (Elt Ideal) ℓ} {c : Dev nD} {P D : ℕ → ℕ → ℝ} {σ : ℕ → ℝ} (H : Args m c P D σ) (t : Fin cfg0.N)

include H in
theorem entryP (i j : ℕ) (hi : i < 8320) (hj : j < 3328) (h : 2048 ≤ j) :
    (V m c main_arg0 : Vec Ideal S8320x3328 .f32) (ix2 ⟨i, hi⟩ ⟨j, hj⟩) = ((P i j : ℝ) : EReal) :=
  (congrFun (V_main_arg0 m c) (ix2 (⟨i, hi⟩ : Fin 8320) (⟨j, hj⟩ : Fin 3328))).trans (H.hP ⟨i, hi⟩ ⟨j, hj⟩ h)

include H in
theorem entryD (i j : ℕ) (hi : i < 8320) (hj : j < 2048) (h : 1024 ≤ j) :
    (V m c main_arg2 : Vec Ideal S8320x2048 .f32) (ix2 ⟨i, hi⟩ ⟨j, hj⟩) = ((D i j : ℝ) : EReal) :=
  (congrFun (V_main_arg2 m c) (ix2 (⟨i, hi⟩ : Fin 8320) (⟨j, hj⟩ : Fin 2048))).trans (H.hD ⟨i, hi⟩ ⟨j, hj⟩ h)

/-- A row of the table at the point's block. -/
theorem bias_entry (w : Fin 4) (ρ : Fin 512) (k : Fin 384) :
    (iblk m c 8 t : Vec Ideal S1x4x512x384 .f32) (ix4 0 w ρ k)
      = sc (seen (64 - t.val) (ρ.val % 128) k) (-(Spec.slope (hd (w.val / 2) (w.val % 2) ρ) * Spec.dist (64 - t.val) (ρ.val % 128) k)) := by
  have hr := Nat.mod_lt ρ.val (show 0 < 128 by norm_num)
  rw [blk8, table_at, dist_min _ _ _ hr k.2]
  exact sc_congr (seen_min _ _ _ hr k.2) _

include H in
theorem ins : Ins P D σ (64 - t.val) (X0_0 m c t) (iblk m c 1 t) (iblk m c 2 t) (iblk m c 3 t) (iblk m c 4 t) (iblk m c 5 t) (iblk m c 6 t)
    (iblk m c 7 t) (iblk m c 8 t) (iblk m c 9 t) where
  h0 := fun r l => (blk0 m c t r l).trans (entryP H _ _ _ _ (by omega))
  hK := by
    refine kAll_read (f := fun k l => P (key (64 - t.val) k) (3072 + l)) (fun r l => ?_) (fun r l => ?_) (fun r l => ?_)
    · refine ((blk3 m c t r l).trans (entryP H _ _ _ _ (by omega))).trans ?_
      have hr := r.2
      beta_reduce
      rw [key_prev _ _ hr]
    · refine ((blk1 m c t r l).trans (entryP H _ _ _ _ (by omega))).trans ?_
      have hr := r.2
      beta_reduce
      rw [key_cur _ _ hr]
    · refine ((blk5 m c t r l).trans (entryP H _ _ _ _ (by omega))).trans ?_
      have hr := r.2
      beta_reduce
      rw [key_meta, Nat.zero_mul, Nat.zero_add]
  hV := by
    refine kAll_read (f := fun k l => P (key (64 - t.val) k) (3200 + l)) (fun r l => ?_) (fun r l => ?_) (fun r l => ?_)
    · refine ((blk4 m c t r l).trans (entryP H _ _ _ _ (by omega))).trans ?_
      have hr := r.2
      beta_reduce
      rw [key_prev _ _ hr]
    · refine ((blk2 m c t r l).trans (entryP H _ _ _ _ (by omega))).trans ?_
      have hr := r.2
      beta_reduce
      rw [key_cur _ _ hr]
    · refine ((blk6 m c t r l).trans (entryP H _ _ _ _ (by omega))).trans ?_
      have hr := r.2
      beta_reduce
      rw [key_meta, Nat.zero_mul, Nat.zero_add]
  h9 := fun r l => (blk9 m c t r l).trans (entryD H _ _ _ _ (by omega))
  h7 := fun l hl => (blk7 m c t l).trans ((sinks_at m c l hl).trans (H.hσ ⟨l.val, hl⟩))
  hb0 := fun ρ k => (bias0_at _ ρ k).trans (bias_entry t 0 ρ k)
  hb1 := fun ρ k => (bias1_at _ ρ k).trans (bias_entry t 1 ρ k)
  hb2 := fun ρ k => (bias2_at _ ρ k).trans (bias_entry t 2 ρ k)
  hb3 := fun ρ k => (bias3_at _ ρ k).trans (bias_entry t 3 ρ k)

end Cert.KernelIdeal.Val
end
-- ==== Proof.KBridge.lean ====
/- Every printed value of the body, in the vocabulary of KVal: each equation unfolds to the same operations. -/
module

public import proofs.«01_k».proof.Proof.KVal

@[expose] public section

noncomputable section

namespace Cert.KernelIdeal.Val

open Idealize.ShloMosaic Cert.KernelIdeal.Gen

variable {F : FTy → Type} [FloatOps F]

theorem br_q00 (a b c d : Vec F S128x128 .f32) :
    k0_pay19 k0_pay17 (k0_pay18 a) b (FloatOps.ofBits FTy.f32 0#32) c d = stackT sel0 a b c d := rfl
theorem br_q01 (a b c d : Vec F S128x128 .f32) :
    k0_pay20 k0_pay13 a b c d = stackT sel1 a b c d := rfl
theorem br_q10 (a b c d : Vec F S128x128 .f32) :
    k0_pay23 (k0_pay21 k0_pay13) (k0_pay22 k0_pay13 a) b c d = stackT sel0 a b c d := rfl
theorem br_q11 (a b c d : Vec F S128x128 .f32) :
    k0_pay24 k0_pay13 a b c d = stackT sel1 a b c d := rfl
theorem br_d00 (a b c d : Vec F S128x128 .f32) :
    k0_pay27 (k0_pay25 k0_pay13) (k0_pay26 k0_pay13 a) b c d = stackT sel0 a b c d := rfl
theorem br_d01 (a b c d : Vec F S128x128 .f32) :
    k0_pay28 k0_pay13 a b c d = stackT sel1 a b c d := rfl
theorem br_d10 (a b c d : Vec F S128x128 .f32) :
    k0_pay30 (k0_pay29 k0_pay13) a (FloatOps.ofBits FTy.f32 0#32) b c d = stackT sel0 a b c d := rfl
theorem br_d11 (a b c d : Vec F S128x128 .f32) :
    k0_pay31 k0_pay13 a b c d = stackT sel1 a b c d := rfl
theorem br_k9 (a b c : Vec F S128x128 .f32) :
    k0_pay9 a b c = kAll a b c := rfl
theorem br_k10 (a b c : Vec F S128x128 .f32) :
    k0_pay10 a b c = kAll a b c := rfl
theorem br_k11 (a b c : Vec F S128x128 .f32) :
    k0_pay11 a b c = rot (kAll a b c) := rfl
theorem br_k12 (a b c : Vec F S128x128 .f32) :
    k0_pay12 a b c = rot (kAll a b c) := rfl
theorem br_nt32 (K : FVec F S384x128 .f32) (Q : FVec F S512x128 .f32) :
    k0_pay32 K Q = dotNT Q K := rfl
theorem br_nt33 (K : FVec F S384x128 .f32) (Q : FVec F S512x128 .f32) :
    k0_pay33 K Q = dotNT Q K := rfl
theorem br_nt34 (K : FVec F S384x128 .f32) (Q : FVec F S512x128 .f32) :
    k0_pay34 K Q = dotNT Q K := rfl
theorem br_nt35 (K : FVec F S384x128 .f32) (Q : FVec F S512x128 .f32) :
    k0_pay35 K Q = dotNT Q K := rfl
theorem br_nt36 (K : FVec F S384x128 .f32) (Q : FVec F S512x128 .f32) :
    k0_pay36 K Q = dotNT Q K := rfl
theorem br_nt37 (K : FVec F S384x128 .f32) (Q : FVec F S512x128 .f32) :
    k0_pay37 K Q = dotNT Q K := rfl
theorem br_nt38 (K : FVec F S384x128 .f32) (Q : FVec F S512x128 .f32) :
    k0_pay38 K Q = dotNT Q K := rfl
theorem br_nt39 (K : FVec F S384x128 .f32) (Q : FVec F S512x128 .f32) :
    k0_pay39 K Q = dotNT Q K := rfl
theorem br_b58 (x : Vec F S1x1x512x384 .f32) :
    k0_pay58 x = k0_pay40 x := rfl
theorem br_b73 (x : Vec F S1x1x512x384 .f32) :
    k0_pay73 x = k0_pay40 x := rfl
theorem br_b89 (x : Vec F S1x1x512x384 .f32) :
    k0_pay89 x = k0_pay40 x := rfl
theorem br_s59 (X : Vec F S1x128 .f32) :
    k0_pay59 X = sinkS X 1#32 3#32 5#32 7#32 := rfl
theorem br_p50 (J : IVec S1x128 32) (hJ : J = (iota Kind.tc S1x128 32 [1] iota_S1x128_d1_w32)) (X : Vec F S1x128 .f32) (s b : FVec F S512x384 .f32) :
    k0_pay50 s b (k0_pay41 X) (k0_pay42 X) (k0_pay43 X) J 4#32 = pr s b (sinkS X 0#32 2#32 4#32 6#32) := by subst hJ; rfl
theorem br_p65 (s b : FVec F S512x384 .f32) (k : FVec F S512x1 .f32) :
    k0_pay65 s b k = pr s b k := rfl
theorem br_p82 (X : Vec F S1x128 .f32) (s b : FVec F S512x384 .f32) :
    k0_pay82 s b (k0_pay74 X) (k0_pay75 X) = pr s b (sinkS X 8#32 10#32 12#32 14#32) := rfl
theorem br_p100 (X : Vec F S1x128 .f32) (s b : FVec F S512x384 .f32) :
    k0_pay100 s b (k0_pay90 X) (k0_pay91 X) (k0_pay92 X) (k0_pay93 X) = pr s b (sinkS X 9#32 11#32 13#32 15#32) := rfl
theorem br_g52 (J : IVec S1x128 32) (hJ : J = (iota Kind.tc S1x128 32 [1] iota_S1x128_d1_w32)) (X : Vec F S1x128 .f32) (s d b : FVec F S512x384 .f32) :
    k0_pay52 s d b (k0_pay41 X) (k0_pay42 X) (k0_pay43 X) J 4#32 = dsc s d b (sinkS X 0#32 2#32 4#32 6#32) := by subst hJ; rfl
theorem br_g67 (s d b : FVec F S512x384 .f32) (k : FVec F S512x1 .f32) :
    k0_pay67 s d b k = dsc s d b k := rfl
theorem br_g85 (s d b : FVec F S512x384 .f32) (k : FVec F S512x1 .f32) :
    k0_pay85 d (pr s b k) = dsc s d b k := rfl
theorem br_g102 (X : Vec F S1x128 .f32) (s d b : FVec F S512x384 .f32) :
    k0_pay102 s d b (k0_pay90 X) (k0_pay91 X) (k0_pay92 X) (k0_pay93 X) = dsc s d b (sinkS X 9#32 11#32 13#32 15#32) := rfl
theorem br_z53 (J : IVec S1x128 32) (hJ : J = (iota Kind.tc S1x128 32 [1] iota_S1x128_d1_w32)) (X : Vec F S1x128 .f32) (s d b : FVec F S512x384 .f32) :
    k0_pay53 s d b (k0_pay41 X) (k0_pay42 X) (k0_pay43 X) J 4#32 = psd s d b (sinkS X 0#32 2#32 4#32 6#32) := by subst hJ; rfl
theorem br_z68 (s d b : FVec F S512x384 .f32) (k : FVec F S512x1 .f32) :
    k0_pay68 s d b k = psd s d b k := rfl
theorem br_z86 (X : Vec F S1x128 .f32) (s d b : FVec F S512x384 .f32) :
    k0_pay86 d (pr s b (sinkS X 8#32 10#32 12#32 14#32)) (k0_pay83 s b (k0_pay74 X) (k0_pay75 X)) = psd s d b (sinkS X 8#32 10#32 12#32 14#32) := rfl
theorem br_z103 (X : Vec F S1x128 .f32) (s d b : FVec F S512x384 .f32) :
    k0_pay103 s d b (k0_pay90 X) (k0_pay91 X) (k0_pay92 X) (k0_pay93 X) = psd s d b (sinkS X 9#32 11#32 13#32 15#32) := rfl
theorem br_h0 (J : IVec S1x128 32) (hJ : J = (iota Kind.tc S1x128 32 [1] iota_S1x128_d1_w32)) (P : FVec F S512x1 .f32) :
    k0_pay57 (k0_pay55 J k0_pay16 P (k0_pay54 J)) (k0_pay56 J P) = addHeads (broadcast S1x128 (Scalar.ofBits .f32 0x00000000#32)) P 0#32 2#32 4#32 6#32 := by subst hJ; rfl
theorem br_h1 (J : IVec S1x128 32) (hJ : J = (iota Kind.tc S1x128 32 [1] iota_S1x128_d1_w32)) (s d b : FVec F S512x384 .f32) (k : FVec F S512x1 .f32) (A : FVec F S1x128 .f32) :
    k0_pay72 J (psd s d b k) (k0_pay69 J s d A b k) (k0_pay70 J) (k0_pay71 s d b k) = addHeads A (psd s d b k) 1#32 3#32 5#32 7#32 := by subst hJ; rfl
theorem br_h2 (J : IVec S1x128 32) (hJ : J = (iota Kind.tc S1x128 32 [1] iota_S1x128_d1_w32)) (X : Vec F S1x128 .f32) (s d b : FVec F S512x384 .f32) (A : FVec F S1x128 .f32) :
    k0_pay88 J (psd s d b (sinkS X 8#32 10#32 12#32 14#32)) (k0_pay87 J d A (pr s b (sinkS X 8#32 10#32 12#32 14#32)) (k0_pay83 s b (k0_pay74 X) (k0_pay75 X))) 14#32 = addHeads A (psd s d b (sinkS X 8#32 10#32 12#32 14#32)) 8#32 10#32 12#32 14#32 := by subst hJ; rfl
theorem br_h3 (J : IVec S1x128 32) (hJ : J = (iota Kind.tc S1x128 32 [1] iota_S1x128_d1_w32)) (X : Vec F S1x128 .f32) (s d b : FVec F S512x384 .f32) (A : FVec F S1x128 .f32) :
    k0_pay106 J A (psd s d b (sinkS X 9#32 11#32 13#32 15#32)) (k0_pay104 J) (FloatOps.ofBits FTy.f32 0#32) (k0_pay105 s d b (k0_pay90 X) (k0_pay91 X) (k0_pay92 X) (k0_pay93 X)) = addHeads A (psd s d b (sinkS X 9#32 11#32 13#32 15#32)) 9#32 11#32 13#32 15#32 := by subst hJ; rfl
theorem br_n107 (K : FVec F S384x128 .f32) (A : FVec F S512x384 .f32) :
    k0_pay107 K A = dotN A K := rfl
theorem br_n108 (K : FVec F S384x128 .f32) (A : FVec F S512x384 .f32) :
    k0_pay108 K A = dotN A K := rfl
theorem br_n109 (K : FVec F S384x128 .f32) (A : FVec F S512x384 .f32) :
    k0_pay109 K A = dotN A K := rfl
theorem br_n110 (K : FVec F S384x128 .f32) (A : FVec F S512x384 .f32) :
    k0_pay110 K A = dotN A K := rfl
theorem br_a111 (Q00 Q01 Q10 Q11 : FVec F S512x128 .f32) (A00 A01 A10 A11 : FVec F S512x384 .f32) :
    k0_pay116 (k0_pay111 k0_pay14 Q00 Q01 Q10 A00 A01 A10) (k0_pay113 Q11 A11) = acc4 A00 A01 A10 A11 Q00 Q01 Q10 Q11 := rfl
theorem br_a112 (Q00 Q01 Q10 Q11 : FVec F S512x128 .f32) (A00 A01 A10 A11 : FVec F S512x384 .f32) :
    k0_pay117 (k0_pay112 k0_pay15 Q00 Q01 Q10 A00 A01 A10) (k0_pay114 A11) (k0_pay115 Q11) = acc4 A00 A01 A10 A11 Q00 Q01 Q10 Q11 := rfl
theorem br_o1 (b : BitVec 32) (A : FVec F S384x128 .f32) (ck mk : Vec F S128x128 .f32) :
    k0_pay1 (Scalar.cmpi .eq b 0#32) (k0_pay130 A) ck mk = dkOut b A ck mk := rfl
theorem br_o129 (b : BitVec 32) (A : FVec F S384x128 .f32) (ck mk : Vec F S128x128 .f32) :
    k0_pay129 b A ck mk = dkOut b A ck mk := rfl
theorem br_o2 (A : FVec F S384x128 .f32) :
    k0_pay2 A = ckOut A := rfl
theorem br_o3 (A : FVec F S384x128 .f32) :
    k0_pay3 A = ckOut A := rfl
theorem br_o127 (A : FVec F S384x128 .f32) (x : Vec F S128x128 .f32) :
    k0_pay127 A x = mkOut A x := rfl
theorem br_o128 (A : FVec F S384x128 .f32) (x : Vec F S128x128 .f32) :
    k0_pay128 A x = mkOut A x := rfl
theorem br_o126 (A : FVec F S1x128 .f32) (x : Vec F S1x128 .f32) :
    k0_pay126 A x = skOut A x := rfl

end Cert.KernelIdeal.Val

end
-- ==== Proof.KRunA.lean ====
/- What the body's stores leave in every output and scratch buffer, per case of its conditional, in the vocabulary of KVal. -/
module

public import proofs.«01_k».proof.Proof.KFrame
public import proofs.«01_k».proof.Proof.KBridge

@[expose] public section

set_option maxRecDepth 16384

noncomputable section

namespace Cert.KernelIdeal.Val

open Idealize.ShloMosaic Idealize.ShloMosaic.TcCoe Idealize.ShloMosaic.Tactic
open Idealize.ShloMosaic.Rounds Cert.KernelIdeal.Gen

variable {F : FTy → Type} [FloatOps F]

theorem z2 : (![0, 0] : Fin 2 → ℕ) = fun _ => 0 := by funext a; fin_cases a <;> rfl

/-- A load through the last store's own rectangle, whatever was stored before. -/
theorem readCov_two {Val : EltTy → Type} {S : Shape} {e : EltTy} [∀ e, Nonempty (Val e)] {sig : RefSig} {κ : Kind} {sp : Space}
    (v : View sig κ sp S e) {off : Fin S.rank → Nat} (inb : ∀ a, off a + S.size a ≤ S.size a) (w : S.Idx → Val e) (L : List (View.Piece Val S e)) :
    v.readCov ((⟨Rect.unit off S.size inb, w⟩ : View.Piece Val S e) :: L) (Rect.unit off S.size inb).toLoadRect = w :=
  View.readCov_cons_toLoadRect v (Rect.unit off S.size inb) w L

set_option maxHeartbeats 1000000 in
theorem sout0_A_0_eq (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 = ckOut (DK x0 x1 x2 x3 x4 x5 x6 x7 x8 x9) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S128x128) z2, View.ld_unit_zero (S := S1x128) z2,
    View.canon_cons_unit_zero (S := S128x128) z2, View.canon_cons_unit_zero (S := S1x128) z2, View.readCov_unit_zero (S := S128x128) _ z2, View.readCov_unit_zero (S := S1x128) _ z2, readCov_two (S := S128x128)]
  simp only [br_q00, br_q01, br_q10, br_q11, br_d00, br_d01, br_d10, br_d11, br_k9, br_k10, br_k11, br_k12, br_nt32, br_nt33, br_nt34, br_nt35, br_nt36, br_nt37, br_nt38, br_nt39, br_b58, br_b73, br_b89, br_s59, br_p50, br_p65, br_p82, br_p100, br_g52, br_g67, br_g85, br_g102, br_z53, br_z68, br_z86, br_z103, br_h0, br_h1, br_h2, br_h3, br_n107, br_n108, br_n109, br_n110, br_a111, br_a112, br_o1, br_o129, br_o2, br_o3, br_o127, br_o128, br_o126,
    DK, DV, DSK, DQ, G00, G01, G10, G11, Z00, Z01, Z10, Z11, T00, T01, T10, T11, P00, P01, P10, P11, S00, S01, S10, S11, D00, D01, D10, D11, K00, K01, K10, K11, st00, st01, st10, st11, bias0, bias1, bias2, bias3]

set_option maxHeartbeats 1000000 in
theorem sout0_A_1_eq (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 = ckOut (DV x0 x1 x3 x5 x7 x8 x9) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S128x128) z2, View.ld_unit_zero (S := S1x128) z2,
    View.canon_cons_unit_zero (S := S128x128) z2, View.canon_cons_unit_zero (S := S1x128) z2, View.readCov_unit_zero (S := S128x128) _ z2, View.readCov_unit_zero (S := S1x128) _ z2, readCov_two (S := S128x128)]
  simp only [br_q00, br_q01, br_q10, br_q11, br_d00, br_d01, br_d10, br_d11, br_k9, br_k10, br_k11, br_k12, br_nt32, br_nt33, br_nt34, br_nt35, br_nt36, br_nt37, br_nt38, br_nt39, br_b58, br_b73, br_b89, br_s59, br_p50, br_p65, br_p82, br_p100, br_g52, br_g67, br_g85, br_g102, br_z53, br_z68, br_z86, br_z103, br_h0, br_h1, br_h2, br_h3, br_n107, br_n108, br_n109, br_n110, br_a111, br_a112, br_o1, br_o129, br_o2, br_o3, br_o127, br_o128, br_o126,
    DK, DV, DSK, DQ, G00, G01, G10, G11, Z00, Z01, Z10, Z11, T00, T01, T10, T11, P00, P01, P10, P11, S00, S01, S10, S11, D00, D01, D10, D11, K00, K01, K10, K11, st00, st01, st10, st11, bias0, bias1, bias2, bias3]

set_option maxHeartbeats 1000000 in
theorem sout0_A_2_eq (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 = mkOut (DK x0 x1 x2 x3 x4 x5 x6 x7 x8 x9) k0_pay6 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S128x128) z2, View.ld_unit_zero (S := S1x128) z2,
    View.canon_cons_unit_zero (S := S128x128) z2, View.canon_cons_unit_zero (S := S1x128) z2, View.readCov_unit_zero (S := S128x128) _ z2, View.readCov_unit_zero (S := S1x128) _ z2, readCov_two (S := S128x128)]
  simp only [br_q00, br_q01, br_q10, br_q11, br_d00, br_d01, br_d10, br_d11, br_k9, br_k10, br_k11, br_k12, br_nt32, br_nt33, br_nt34, br_nt35, br_nt36, br_nt37, br_nt38, br_nt39, br_b58, br_b73, br_b89, br_s59, br_p50, br_p65, br_p82, br_p100, br_g52, br_g67, br_g85, br_g102, br_z53, br_z68, br_z86, br_z103, br_h0, br_h1, br_h2, br_h3, br_n107, br_n108, br_n109, br_n110, br_a111, br_a112, br_o1, br_o129, br_o2, br_o3, br_o127, br_o128, br_o126,
    DK, DV, DSK, DQ, G00, G01, G10, G11, Z00, Z01, Z10, Z11, T00, T01, T10, T11, P00, P01, P10, P11, S00, S01, S10, S11, D00, D01, D10, D11, K00, K01, K10, K11, st00, st01, st10, st11, bias0, bias1, bias2, bias3]

set_option maxHeartbeats 1000000 in
theorem sout0_A_3_eq (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) :
    sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 = mkOut (DV x0 x1 x3 x5 x7 x8 x9) k0_pay7 := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S128x128) z2, View.ld_unit_zero (S := S1x128) z2,
    View.canon_cons_unit_zero (S := S128x128) z2, View.canon_cons_unit_zero (S := S1x128) z2, View.readCov_unit_zero (S := S128x128) _ z2, View.readCov_unit_zero (S := S1x128) _ z2, readCov_two (S := S128x128)]
  simp only [br_q00, br_q01, br_q10, br_q11, br_d00, br_d01, br_d10, br_d11, br_k9, br_k10, br_k11, br_k12, br_nt32, br_nt33, br_nt34, br_nt35, br_nt36, br_nt37, br_nt38, br_nt39, br_b58, br_b73, br_b89, br_s59, br_p50, br_p65, br_p82, br_p100, br_g52, br_g67, br_g85, br_g102, br_z53, br_z68, br_z86, br_z103, br_h0, br_h1, br_h2, br_h3, br_n107, br_n108, br_n109, br_n110, br_a111, br_a112, br_o1, br_o129, br_o2, br_o3, br_o127, br_o128, br_o126,
    DK, DV, DSK, DQ, G00, G01, G10, G11, Z00, Z01, Z10, Z11, T00, T01, T10, T11, P00, P01, P10, P11, S00, S01, S10, S11, D00, D01, D10, D11, K00, K01, K10, K11, st00, st01, st10, st11, bias0, bias1, bias2, bias3]

set_option maxHeartbeats 1000000 in
theorem out0_A_10_eq (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 = DQ x0 x1 x2 x3 x4 x5 x6 x7 x8 x9 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S128x128) z2, View.ld_unit_zero (S := S1x128) z2,
    View.canon_cons_unit_zero (S := S128x128) z2, View.canon_cons_unit_zero (S := S1x128) z2, View.readCov_unit_zero (S := S128x128) _ z2, View.readCov_unit_zero (S := S1x128) _ z2, readCov_two (S := S128x128)]
  simp only [br_q00, br_q01, br_q10, br_q11, br_d00, br_d01, br_d10, br_d11, br_k9, br_k10, br_k11, br_k12, br_nt32, br_nt33, br_nt34, br_nt35, br_nt36, br_nt37, br_nt38, br_nt39, br_b58, br_b73, br_b89, br_s59, br_p50, br_p65, br_p82, br_p100, br_g52, br_g67, br_g85, br_g102, br_z53, br_z68, br_z86, br_z103, br_h0, br_h1, br_h2, br_h3, br_n107, br_n108, br_n109, br_n110, br_a111, br_a112, br_o1, br_o129, br_o2, br_o3, br_o127, br_o128, br_o126,
    DK, DV, DSK, DQ, G00, G01, G10, G11, Z00, Z01, Z10, Z11, T00, T01, T10, T11, P00, P01, P10, P11, S00, S01, S10, S11, D00, D01, D10, D11, K00, K01, K10, K11, st00, st01, st10, st11, bias0, bias1, bias2, bias3]

set_option maxHeartbeats 1000000 in
theorem out0_A_11_eq (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 = dkOut (Scalar.subi 64#32 (BitVec.ofNat 32 (i 0))) (DK x0 x1 x2 x3 x4 x5 x6 x7 x8 x9) k0_pay4 (mkOut (DK x0 x1 x2 x3 x4 x5 x6 x7 x8 x9) k0_pay6) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S128x128) z2, View.ld_unit_zero (S := S1x128) z2,
    View.canon_cons_unit_zero (S := S128x128) z2, View.canon_cons_unit_zero (S := S1x128) z2, View.readCov_unit_zero (S := S128x128) _ z2, View.readCov_unit_zero (S := S1x128) _ z2, readCov_two (S := S128x128)]
  simp only [br_q00, br_q01, br_q10, br_q11, br_d00, br_d01, br_d10, br_d11, br_k9, br_k10, br_k11, br_k12, br_nt32, br_nt33, br_nt34, br_nt35, br_nt36, br_nt37, br_nt38, br_nt39, br_b58, br_b73, br_b89, br_s59, br_p50, br_p65, br_p82, br_p100, br_g52, br_g67, br_g85, br_g102, br_z53, br_z68, br_z86, br_z103, br_h0, br_h1, br_h2, br_h3, br_n107, br_n108, br_n109, br_n110, br_a111, br_a112, br_o1, br_o129, br_o2, br_o3, br_o127, br_o128, br_o126,
    DK, DV, DSK, DQ, G00, G01, G10, G11, Z00, Z01, Z10, Z11, T00, T01, T10, T11, P00, P01, P10, P11, S00, S01, S10, S11, D00, D01, D10, D11, K00, K01, K10, K11, st00, st01, st10, st11, bias0, bias1, bias2, bias3]

set_option maxHeartbeats 1000000 in
theorem out0_A_12_eq (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 = dkOut (Scalar.subi 64#32 (BitVec.ofNat 32 (i 0))) (DV x0 x1 x3 x5 x7 x8 x9) k0_pay5 (mkOut (DV x0 x1 x3 x5 x7 x8 x9) k0_pay7) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S128x128) z2, View.ld_unit_zero (S := S1x128) z2,
    View.canon_cons_unit_zero (S := S128x128) z2, View.canon_cons_unit_zero (S := S1x128) z2, View.readCov_unit_zero (S := S128x128) _ z2, View.readCov_unit_zero (S := S1x128) _ z2, readCov_two (S := S128x128)]
  simp only [br_q00, br_q01, br_q10, br_q11, br_d00, br_d01, br_d10, br_d11, br_k9, br_k10, br_k11, br_k12, br_nt32, br_nt33, br_nt34, br_nt35, br_nt36, br_nt37, br_nt38, br_nt39, br_b58, br_b73, br_b89, br_s59, br_p50, br_p65, br_p82, br_p100, br_g52, br_g67, br_g85, br_g102, br_z53, br_z68, br_z86, br_z103, br_h0, br_h1, br_h2, br_h3, br_n107, br_n108, br_n109, br_n110, br_a111, br_a112, br_o1, br_o129, br_o2, br_o3, br_o127, br_o128, br_o126,
    DK, DV, DSK, DQ, G00, G01, G10, G11, Z00, Z01, Z10, Z11, T00, T01, T10, T11, P00, P01, P10, P11, S00, S01, S10, S11, D00, D01, D10, D11, K00, K01, K10, K11, st00, st01, st10, st11, bias0, bias1, bias2, bias3]

set_option maxHeartbeats 1000000 in
theorem out0_A_13_eq (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 = skOut (DSK x0 x1 x2 x3 x4 x5 x6 x7 x8 x9) k0_pay8 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S128x128) z2, View.ld_unit_zero (S := S1x128) z2,
    View.canon_cons_unit_zero (S := S128x128) z2, View.canon_cons_unit_zero (S := S1x128) z2, View.readCov_unit_zero (S := S128x128) _ z2, View.readCov_unit_zero (S := S1x128) _ z2, readCov_two (S := S128x128)]
  simp only [br_q00, br_q01, br_q10, br_q11, br_d00, br_d01, br_d10, br_d11, br_k9, br_k10, br_k11, br_k12, br_nt32, br_nt33, br_nt34, br_nt35, br_nt36, br_nt37, br_nt38, br_nt39, br_b58, br_b73, br_b89, br_s59, br_p50, br_p65, br_p82, br_p100, br_g52, br_g67, br_g85, br_g102, br_z53, br_z68, br_z86, br_z103, br_h0, br_h1, br_h2, br_h3, br_n107, br_n108, br_n109, br_n110, br_a111, br_a112, br_o1, br_o129, br_o2, br_o3, br_o127, br_o128, br_o126,
    DK, DV, DSK, DQ, G00, G01, G10, G11, Z00, Z01, Z10, Z11, T00, T01, T10, T11, P00, P01, P10, P11, S00, S01, S10, S11, D00, D01, D10, D11, K00, K01, K10, K11, st00, st01, st10, st11, bias0, bias1, bias2, bias3]

end Cert.KernelIdeal.Val

end
-- ==== Proof.KRunB.lean ====
/- What the body's stores leave in every output and scratch buffer, per case of its conditional, in the vocabulary of KVal. -/
module

public import proofs.«01_k».proof.Proof.KRunA
public import proofs.«01_k».proof.Proof.KBridge

@[expose] public section

set_option maxRecDepth 16384

noncomputable section

namespace Cert.KernelIdeal.Val

open Idealize.ShloMosaic Idealize.ShloMosaic.TcCoe Idealize.ShloMosaic.Tactic
open Idealize.ShloMosaic.Rounds Cert.KernelIdeal.Gen

variable {F : FTy → Type} [FloatOps F]

set_option maxHeartbeats 1000000 in
theorem sout0_B_0_eq (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) (xo13 : Vec F S1x128 .f32) (xs0 : Vec F S128x128 .f32) (xs1 : Vec F S128x128 .f32) (xs2 : Vec F S128x128 .f32) (xs3 : Vec F S128x128 .f32) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3 = ckOut (DK x0 x1 x2 x3 x4 x5 x6 x7 x8 x9) := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S128x128) z2, View.ld_unit_zero (S := S1x128) z2,
    View.canon_cons_unit_zero (S := S128x128) z2, View.canon_cons_unit_zero (S := S1x128) z2, View.readCov_unit_zero (S := S128x128) _ z2, View.readCov_unit_zero (S := S1x128) _ z2, readCov_two (S := S128x128)]
  simp only [br_q00, br_q01, br_q10, br_q11, br_d00, br_d01, br_d10, br_d11, br_k9, br_k10, br_k11, br_k12, br_nt32, br_nt33, br_nt34, br_nt35, br_nt36, br_nt37, br_nt38, br_nt39, br_b58, br_b73, br_b89, br_s59, br_p50, br_p65, br_p82, br_p100, br_g52, br_g67, br_g85, br_g102, br_z53, br_z68, br_z86, br_z103, br_h0, br_h1, br_h2, br_h3, br_n107, br_n108, br_n109, br_n110, br_a111, br_a112, br_o1, br_o129, br_o2, br_o3, br_o127, br_o128, br_o126,
    DK, DV, DSK, DQ, G00, G01, G10, G11, Z00, Z01, Z10, Z11, T00, T01, T10, T11, P00, P01, P10, P11, S00, S01, S10, S11, D00, D01, D10, D11, K00, K01, K10, K11, st00, st01, st10, st11, bias0, bias1, bias2, bias3]

set_option maxHeartbeats 1000000 in
theorem sout0_B_1_eq (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) (xo13 : Vec F S1x128 .f32) (xs0 : Vec F S128x128 .f32) (xs1 : Vec F S128x128 .f32) (xs2 : Vec F S128x128 .f32) (xs3 : Vec F S128x128 .f32) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3 = ckOut (DV x0 x1 x3 x5 x7 x8 x9) := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S128x128) z2, View.ld_unit_zero (S := S1x128) z2,
    View.canon_cons_unit_zero (S := S128x128) z2, View.canon_cons_unit_zero (S := S1x128) z2, View.readCov_unit_zero (S := S128x128) _ z2, View.readCov_unit_zero (S := S1x128) _ z2, readCov_two (S := S128x128)]
  simp only [br_q00, br_q01, br_q10, br_q11, br_d00, br_d01, br_d10, br_d11, br_k9, br_k10, br_k11, br_k12, br_nt32, br_nt33, br_nt34, br_nt35, br_nt36, br_nt37, br_nt38, br_nt39, br_b58, br_b73, br_b89, br_s59, br_p50, br_p65, br_p82, br_p100, br_g52, br_g67, br_g85, br_g102, br_z53, br_z68, br_z86, br_z103, br_h0, br_h1, br_h2, br_h3, br_n107, br_n108, br_n109, br_n110, br_a111, br_a112, br_o1, br_o129, br_o2, br_o3, br_o127, br_o128, br_o126,
    DK, DV, DSK, DQ, G00, G01, G10, G11, Z00, Z01, Z10, Z11, T00, T01, T10, T11, P00, P01, P10, P11, S00, S01, S10, S11, D00, D01, D10, D11, K00, K01, K10, K11, st00, st01, st10, st11, bias0, bias1, bias2, bias3]

set_option maxHeartbeats 1000000 in
theorem sout0_B_2_eq (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) (xo13 : Vec F S1x128 .f32) (xs0 : Vec F S128x128 .f32) (xs1 : Vec F S128x128 .f32) (xs2 : Vec F S128x128 .f32) (xs3 : Vec F S128x128 .f32) :
    sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3 = mkOut (DK x0 x1 x2 x3 x4 x5 x6 x7 x8 x9) xs2 := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S128x128) z2, View.ld_unit_zero (S := S1x128) z2,
    View.canon_cons_unit_zero (S := S128x128) z2, View.canon_cons_unit_zero (S := S1x128) z2, View.readCov_unit_zero (S := S128x128) _ z2, View.readCov_unit_zero (S := S1x128) _ z2, readCov_two (S := S128x128)]
  simp only [br_q00, br_q01, br_q10, br_q11, br_d00, br_d01, br_d10, br_d11, br_k9, br_k10, br_k11, br_k12, br_nt32, br_nt33, br_nt34, br_nt35, br_nt36, br_nt37, br_nt38, br_nt39, br_b58, br_b73, br_b89, br_s59, br_p50, br_p65, br_p82, br_p100, br_g52, br_g67, br_g85, br_g102, br_z53, br_z68, br_z86, br_z103, br_h0, br_h1, br_h2, br_h3, br_n107, br_n108, br_n109, br_n110, br_a111, br_a112, br_o1, br_o129, br_o2, br_o3, br_o127, br_o128, br_o126,
    DK, DV, DSK, DQ, G00, G01, G10, G11, Z00, Z01, Z10, Z11, T00, T01, T10, T11, P00, P01, P10, P11, S00, S01, S10, S11, D00, D01, D10, D11, K00, K01, K10, K11, st00, st01, st10, st11, bias0, bias1, bias2, bias3]

set_option maxHeartbeats 1000000 in
theorem sout0_B_3_eq (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) (xo13 : Vec F S1x128 .f32) (xs0 : Vec F S128x128 .f32) (xs1 : Vec F S128x128 .f32) (xs2 : Vec F S128x128 .f32) (xs3 : Vec F S128x128 .f32) :
    sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3 = mkOut (DV x0 x1 x3 x5 x7 x8 x9) xs3 := by
  unfold sout0_B_3
  rw [View.read_writes_eq_canon _ _ _ (scover0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S128x128) z2, View.ld_unit_zero (S := S1x128) z2,
    View.canon_cons_unit_zero (S := S128x128) z2, View.canon_cons_unit_zero (S := S1x128) z2, View.readCov_unit_zero (S := S128x128) _ z2, View.readCov_unit_zero (S := S1x128) _ z2, readCov_two (S := S128x128)]
  simp only [br_q00, br_q01, br_q10, br_q11, br_d00, br_d01, br_d10, br_d11, br_k9, br_k10, br_k11, br_k12, br_nt32, br_nt33, br_nt34, br_nt35, br_nt36, br_nt37, br_nt38, br_nt39, br_b58, br_b73, br_b89, br_s59, br_p50, br_p65, br_p82, br_p100, br_g52, br_g67, br_g85, br_g102, br_z53, br_z68, br_z86, br_z103, br_h0, br_h1, br_h2, br_h3, br_n107, br_n108, br_n109, br_n110, br_a111, br_a112, br_o1, br_o129, br_o2, br_o3, br_o127, br_o128, br_o126,
    DK, DV, DSK, DQ, G00, G01, G10, G11, Z00, Z01, Z10, Z11, T00, T01, T10, T11, P00, P01, P10, P11, S00, S01, S10, S11, D00, D01, D10, D11, K00, K01, K10, K11, st00, st01, st10, st11, bias0, bias1, bias2, bias3]

set_option maxHeartbeats 1000000 in
theorem out0_B_10_eq (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) (xo13 : Vec F S1x128 .f32) (xs0 : Vec F S128x128 .f32) (xs1 : Vec F S128x128 .f32) (xs2 : Vec F S128x128 .f32) (xs3 : Vec F S128x128 .f32) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3 = DQ x0 x1 x2 x3 x4 x5 x6 x7 x8 x9 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S128x128) z2, View.ld_unit_zero (S := S1x128) z2,
    View.canon_cons_unit_zero (S := S128x128) z2, View.canon_cons_unit_zero (S := S1x128) z2, View.readCov_unit_zero (S := S128x128) _ z2, View.readCov_unit_zero (S := S1x128) _ z2, readCov_two (S := S128x128)]
  simp only [br_q00, br_q01, br_q10, br_q11, br_d00, br_d01, br_d10, br_d11, br_k9, br_k10, br_k11, br_k12, br_nt32, br_nt33, br_nt34, br_nt35, br_nt36, br_nt37, br_nt38, br_nt39, br_b58, br_b73, br_b89, br_s59, br_p50, br_p65, br_p82, br_p100, br_g52, br_g67, br_g85, br_g102, br_z53, br_z68, br_z86, br_z103, br_h0, br_h1, br_h2, br_h3, br_n107, br_n108, br_n109, br_n110, br_a111, br_a112, br_o1, br_o129, br_o2, br_o3, br_o127, br_o128, br_o126,
    DK, DV, DSK, DQ, G00, G01, G10, G11, Z00, Z01, Z10, Z11, T00, T01, T10, T11, P00, P01, P10, P11, S00, S01, S10, S11, D00, D01, D10, D11, K00, K01, K10, K11, st00, st01, st10, st11, bias0, bias1, bias2, bias3]

set_option maxHeartbeats 1000000 in
theorem out0_B_11_eq (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) (xo13 : Vec F S1x128 .f32) (xs0 : Vec F S128x128 .f32) (xs1 : Vec F S128x128 .f32) (xs2 : Vec F S128x128 .f32) (xs3 : Vec F S128x128 .f32) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3 = dkOut (Scalar.subi 64#32 (BitVec.ofNat 32 (i 0))) (DK x0 x1 x2 x3 x4 x5 x6 x7 x8 x9) xs0 (mkOut (DK x0 x1 x2 x3 x4 x5 x6 x7 x8 x9) xs2) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S128x128) z2, View.ld_unit_zero (S := S1x128) z2,
    View.canon_cons_unit_zero (S := S128x128) z2, View.canon_cons_unit_zero (S := S1x128) z2, View.readCov_unit_zero (S := S128x128) _ z2, View.readCov_unit_zero (S := S1x128) _ z2, readCov_two (S := S128x128)]
  simp only [br_q00, br_q01, br_q10, br_q11, br_d00, br_d01, br_d10, br_d11, br_k9, br_k10, br_k11, br_k12, br_nt32, br_nt33, br_nt34, br_nt35, br_nt36, br_nt37, br_nt38, br_nt39, br_b58, br_b73, br_b89, br_s59, br_p50, br_p65, br_p82, br_p100, br_g52, br_g67, br_g85, br_g102, br_z53, br_z68, br_z86, br_z103, br_h0, br_h1, br_h2, br_h3, br_n107, br_n108, br_n109, br_n110, br_a111, br_a112, br_o1, br_o129, br_o2, br_o3, br_o127, br_o128, br_o126,
    DK, DV, DSK, DQ, G00, G01, G10, G11, Z00, Z01, Z10, Z11, T00, T01, T10, T11, P00, P01, P10, P11, S00, S01, S10, S11, D00, D01, D10, D11, K00, K01, K10, K11, st00, st01, st10, st11, bias0, bias1, bias2, bias3]

set_option maxHeartbeats 1000000 in
theorem out0_B_12_eq (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) (xo13 : Vec F S1x128 .f32) (xs0 : Vec F S128x128 .f32) (xs1 : Vec F S128x128 .f32) (xs2 : Vec F S128x128 .f32) (xs3 : Vec F S128x128 .f32) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3 = dkOut (Scalar.subi 64#32 (BitVec.ofNat 32 (i 0))) (DV x0 x1 x3 x5 x7 x8 x9) xs1 (mkOut (DV x0 x1 x3 x5 x7 x8 x9) xs3) := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S128x128) z2, View.ld_unit_zero (S := S1x128) z2,
    View.canon_cons_unit_zero (S := S128x128) z2, View.canon_cons_unit_zero (S := S1x128) z2, View.readCov_unit_zero (S := S128x128) _ z2, View.readCov_unit_zero (S := S1x128) _ z2, readCov_two (S := S128x128)]
  simp only [br_q00, br_q01, br_q10, br_q11, br_d00, br_d01, br_d10, br_d11, br_k9, br_k10, br_k11, br_k12, br_nt32, br_nt33, br_nt34, br_nt35, br_nt36, br_nt37, br_nt38, br_nt39, br_b58, br_b73, br_b89, br_s59, br_p50, br_p65, br_p82, br_p100, br_g52, br_g67, br_g85, br_g102, br_z53, br_z68, br_z86, br_z103, br_h0, br_h1, br_h2, br_h3, br_n107, br_n108, br_n109, br_n110, br_a111, br_a112, br_o1, br_o129, br_o2, br_o3, br_o127, br_o128, br_o126,
    DK, DV, DSK, DQ, G00, G01, G10, G11, Z00, Z01, Z10, Z11, T00, T01, T10, T11, P00, P01, P10, P11, S00, S01, S10, S11, D00, D01, D10, D11, K00, K01, K10, K11, st00, st01, st10, st11, bias0, bias1, bias2, bias3]

set_option maxHeartbeats 1000000 in
theorem out0_B_13_eq (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x4x512x384 .f32) (harg9 : arg9.IsWhole) (arg10 : Memref sig .tc .vmem S128x1024 .f32) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (hc0 : ¬cond0_0 i)
    (x0 : Vec F S128x1024 .f32) (x1 : Vec F S128x128 .f32) (x2 : Vec F S128x128 .f32) (x3 : Vec F S128x128 .f32) (x4 : Vec F S128x128 .f32) (x5 : Vec F S128x128 .f32) (x6 : Vec F S128x128 .f32) (x7 : Vec F S1x128 .f32) (x8 : Vec F S1x4x512x384 .f32) (x9 : Vec F S128x1024 .f32) (xo13 : Vec F S1x128 .f32) (xs0 : Vec F S128x128 .f32) (xs1 : Vec F S128x128 .f32) (xs2 : Vec F S128x128 .f32) (xs3 : Vec F S128x128 .f32) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3 = skOut (DSK x0 x1 x2 x3 x4 x5 x6 x7 x8 x9) xo13 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo13 xs0 xs1 xs2 xs3)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S128x128) z2, View.ld_unit_zero (S := S1x128) z2,
    View.canon_cons_unit_zero (S := S128x128) z2, View.canon_cons_unit_zero (S := S1x128) z2, View.readCov_unit_zero (S := S128x128) _ z2, View.readCov_unit_zero (S := S1x128) _ z2, readCov_two (S := S128x128)]
  simp only [br_q00, br_q01, br_q10, br_q11, br_d00, br_d01, br_d10, br_d11, br_k9, br_k10, br_k11, br_k12, br_nt32, br_nt33, br_nt34, br_nt35, br_nt36, br_nt37, br_nt38, br_nt39, br_b58, br_b73, br_b89, br_s59, br_p50, br_p65, br_p82, br_p100, br_g52, br_g67, br_g85, br_g102, br_z53, br_z68, br_z86, br_z103, br_h0, br_h1, br_h2, br_h3, br_n107, br_n108, br_n109, br_n110, br_a111, br_a112, br_o1, br_o129, br_o2, br_o3, br_o127, br_o128, br_o126,
    DK, DV, DSK, DQ, G00, G01, G10, G11, Z00, Z01, Z10, Z11, T00, T01, T10, T11, P00, P01, P10, P11, S00, S01, S10, S11, D00, D01, D10, D11, K00, K01, K10, K11, st00, st01, st10, st11, bias0, bias1, bias2, bias3]

end Cert.KernelIdeal.Val

end
-- ==== Proof.KOut.lean ====
/- The kernel's carried sums over the grid: what every point leaves in its windows and its scratch. -/
module

public import proofs.«01_k».proof.Proof.KIns
public import proofs.«01_k».proof.Proof.KRunB

@[expose] public section

set_option maxRecDepth 16384

noncomputable section

namespace Cert.KernelIdeal.Val

open Idealize.ShloMosaic Cert.KernelIdeal.Gen Cert.Row Cert.Spec

/-- The word of the point's block is zero at the last point only. -/
theorem word : ∀ t : Fin cfg0.N, (Scalar.subi 64#32 (BitVec.ofNat 32 (grid0.coords t 0)) = 0#32) = (64 - t.val = 0) :=
  fun t => propext ((by decide +kernel : ∀ t : Fin grid0.N, (Scalar.subi 64#32 (BitVec.ofNat 32 (grid0.coords t 0)) = 0#32) ↔ (64 - t.val = 0)) t)

/-- What point `n` writes for the keys (or the values) from the per-block sums `f`. -/
def part (f : ℕ → ℕ → ℕ → ℕ → ℝ) (n r l : ℕ) : ℝ :=
  f (64 - n) (l / 64) (128 + r) (l % 64) + (if n = 0 then 0 else f (64 - (n - 1)) (l / 64) r (l % 64))
    + (if 64 - n = 0 then ∑ j ∈ Finset.range (n + 1), f (64 - j) (l / 64) (256 + r) (l % 64) else 0)

variable (m : (ℓ : Loc nD τ sig) → Buf (Elt Ideal) ℓ) (c : Dev nD) (P D : ℕ → ℕ → ℝ) (σ : ℕ → ℝ)

/-- Everything a point leaves. -/
structure Left (n : ℕ) (hn : n < cfg0.N) : Prop where
  q : (outsAt0 m c n hn).1 = dqG P D σ (64 - n)
  k : R2 (outsAt0 m c n hn).2.1 (part (dkc P D σ) n)
  v : R2 (outsAt0 m c n hn).2.2.1 (part (dvc P D σ) n)
  s : ∀ l : Fin 128, (outsAt0 m c n hn).2.2.2.1 (ix2 0 l) = (((∑ j ∈ Finset.range (n + 1), if l.val < 16 then dsb P D σ (64 - j) l else 0 : ℝ)) : EReal)
  ck : R2 (outsAt0 m c n hn).2.2.2.2.1 (fun r l => dkc P D σ (64 - n) (l / 64) r (l % 64))
  cv : R2 (outsAt0 m c n hn).2.2.2.2.2.1 (fun r l => dvc P D σ (64 - n) (l / 64) r (l % 64))
  mk2 : R2 (outsAt0 m c n hn).2.2.2.2.2.2.1 (fun r l => ∑ j ∈ Finset.range (n + 1), dkc P D σ (64 - j) (l / 64) (256 + r) (l % 64))
  mv2 : R2 (outsAt0 m c n hn).2.2.2.2.2.2.2 (fun r l => ∑ j ∈ Finset.range (n + 1), dvc P D σ (64 - j) (l / 64) (256 + r) (l % 64))

variable {m c P D σ} (H : Args m c P D σ)

/-- One step of the sum over the points. -/
theorem sum_step (f : ℕ → ℝ) (n : ℕ) (hn : n ≠ 0) : (∑ j ∈ Finset.range (n - 1 + 1), f j) + f n = ∑ j ∈ Finset.range (n + 1), f j := by
  rw [Nat.sub_add_cancel (Nat.one_le_iff_ne_zero.mpr hn), Finset.sum_range_succ]

theorem leftA_10 (t : Fin cfg0.N) (h : t.val % 65 = 0) : (outsAt0 m c t.val t.isLt).1 = DQ (F := Ideal) (X0_0 m c t) (iblk m c 1 t) (iblk m c 2 t) (iblk m c 3 t) (iblk m c 4 t) (iblk m c 5 t) (iblk m c 6 t) (iblk m c 7 t) (iblk m c 8 t) (iblk m c 9 t) := by
  rw [outsAt0_A m c t h]
  dsimp only
  rw [out0_A_10_eq]

theorem leftA_11 (t : Fin cfg0.N) (h : t.val % 65 = 0) : (outsAt0 m c t.val t.isLt).2.1 = dkOut (F := Ideal) (Scalar.subi 64#32 (BitVec.ofNat 32 (grid0.coords t 0))) (DK (X0_0 m c t) (iblk m c 1 t) (iblk m c 2 t) (iblk m c 3 t) (iblk m c 4 t) (iblk m c 5 t) (iblk m c 6 t) (iblk m c 7 t) (iblk m c 8 t) (iblk m c 9 t)) (k0_pay4 (F := Ideal)) (mkOut (DK (X0_0 m c t) (iblk m c 1 t) (iblk m c 2 t) (iblk m c 3 t) (iblk m c 4 t) (iblk m c 5 t) (iblk m c 6 t) (iblk m c 7 t) (iblk m c 8 t) (iblk m c 9 t)) (k0_pay6 (F := Ideal))) := by
  rw [outsAt0_A m c t h]
  dsimp only
  rw [out0_A_11_eq]

theorem leftA_12 (t : Fin cfg0.N) (h : t.val % 65 = 0) : (outsAt0 m c t.val t.isLt).2.2.1 = dkOut (F := Ideal) (Scalar.subi 64#32 (BitVec.ofNat 32 (grid0.coords t 0))) (DV (X0_0 m c t) (iblk m c 1 t) (iblk m c 3 t) (iblk m c 5 t) (iblk m c 7 t) (iblk m c 8 t) (iblk m c 9 t)) (k0_pay5 (F := Ideal)) (mkOut (DV (X0_0 m c t) (iblk m c 1 t) (iblk m c 3 t) (iblk m c 5 t) (iblk m c 7 t) (iblk m c 8 t) (iblk m c 9 t)) (k0_pay7 (F := Ideal))) := by
  rw [outsAt0_A m c t h]
  dsimp only
  rw [out0_A_12_eq]

theorem leftA_13 (t : Fin cfg0.N) (h : t.val % 65 = 0) : (outsAt0 m c t.val t.isLt).2.2.2.1 = skOut (F := Ideal) (DSK (X0_0 m c t) (iblk m c 1 t) (iblk m c 2 t) (iblk m c 3 t) (iblk m c 4 t) (iblk m c 5 t) (iblk m c 6 t) (iblk m c 7 t) (iblk m c 8 t) (iblk m c 9 t)) (k0_pay8 (F := Ideal)) := by
  rw [outsAt0_A m c t h]
  dsimp only
  rw [out0_A_13_eq]

theorem leftA_s0 (t : Fin cfg0.N) (h : t.val % 65 = 0) : (outsAt0 m c t.val t.isLt).2.2.2.2.1 = ckOut (F := Ideal) (DK (X0_0 m c t) (iblk m c 1 t) (iblk m c 2 t) (iblk m c 3 t) (iblk m c 4 t) (iblk m c 5 t) (iblk m c 6 t) (iblk m c 7 t) (iblk m c 8 t) (iblk m c 9 t)) := by
  rw [outsAt0_A m c t h]
  dsimp only
  rw [sout0_A_0_eq]

theorem leftA_s1 (t : Fin cfg0.N) (h : t.val % 65 = 0) : (outsAt0 m c t.val t.isLt).2.2.2.2.2.1 = ckOut (F := Ideal) (DV (X0_0 m c t) (iblk m c 1 t) (iblk m c 3 t) (iblk m c 5 t) (iblk m c 7 t) (iblk m c 8 t) (iblk m c 9 t)) := by
  rw [outsAt0_A m c t h]
  dsimp only
  rw [sout0_A_1_eq]

theorem leftA_s2 (t : Fin cfg0.N) (h : t.val % 65 = 0) : (outsAt0 m c t.val t.isLt).2.2.2.2.2.2.1 = mkOut (F := Ideal) (DK (X0_0 m c t) (iblk m c 1 t) (iblk m c 2 t) (iblk m c 3 t) (iblk m c 4 t) (iblk m c 5 t) (iblk m c 6 t) (iblk m c 7 t) (iblk m c 8 t) (iblk m c 9 t)) (k0_pay6 (F := Ideal)) := by
  rw [outsAt0_A m c t h]
  dsimp only
  rw [sout0_A_2_eq]

theorem leftA_s3 (t : Fin cfg0.N) (h : t.val % 65 = 0) : (outsAt0 m c t.val t.isLt).2.2.2.2.2.2.2 = mkOut (F := Ideal) (DV (X0_0 m c t) (iblk m c 1 t) (iblk m c 3 t) (iblk m c 5 t) (iblk m c 7 t) (iblk m c 8 t) (iblk m c 9 t)) (k0_pay7 (F := Ideal)) := by
  rw [outsAt0_A m c t h]
  dsimp only
  rw [sout0_A_3_eq]

theorem leftB_10 (t : Fin cfg0.N) (h : ¬ t.val % 65 = 0) : (outsAt0 m c t.val t.isLt).1 = DQ (F := Ideal) (X0_0 m c t) (iblk m c 1 t) (iblk m c 2 t) (iblk m c 3 t) (iblk m c 4 t) (iblk m c 5 t) (iblk m c 6 t) (iblk m c 7 t) (iblk m c 8 t) (iblk m c 9 t) := by
  rw [outsAt0_B m c t h]
  dsimp only
  rw [out0_B_10_eq]

theorem leftB_11 (t : Fin cfg0.N) (h : ¬ t.val % 65 = 0) : (outsAt0 m c t.val t.isLt).2.1 = dkOut (F := Ideal) (Scalar.subi 64#32 (BitVec.ofNat 32 (grid0.coords t 0))) (DK (X0_0 m c t) (iblk m c 1 t) (iblk m c 2 t) (iblk m c 3 t) (iblk m c 4 t) (iblk m c 5 t) (iblk m c 6 t) (iblk m c 7 t) (iblk m c 8 t) (iblk m c 9 t)) (outsAt0 m c (t.val - 1) (Nat.lt_of_le_of_lt (Nat.sub_le _ _) t.isLt)).2.2.2.2.1 (mkOut (DK (X0_0 m c t) (iblk m c 1 t) (iblk m c 2 t) (iblk m c 3 t) (iblk m c 4 t) (iblk m c 5 t) (iblk m c 6 t) (iblk m c 7 t) (iblk m c 8 t) (iblk m c 9 t)) (outsAt0 m c (t.val - 1) (Nat.lt_of_le_of_lt (Nat.sub_le _ _) t.isLt)).2.2.2.2.2.2.1) := by
  rw [outsAt0_B m c t h]
  dsimp only
  rw [out0_B_11_eq]

theorem leftB_12 (t : Fin cfg0.N) (h : ¬ t.val % 65 = 0) : (outsAt0 m c t.val t.isLt).2.2.1 = dkOut (F := Ideal) (Scalar.subi 64#32 (BitVec.ofNat 32 (grid0.coords t 0))) (DV (X0_0 m c t) (iblk m c 1 t) (iblk m c 3 t) (iblk m c 5 t) (iblk m c 7 t) (iblk m c 8 t) (iblk m c 9 t)) (outsAt0 m c (t.val - 1) (Nat.lt_of_le_of_lt (Nat.sub_le _ _) t.isLt)).2.2.2.2.2.1 (mkOut (DV (X0_0 m c t) (iblk m c 1 t) (iblk m c 3 t) (iblk m c 5 t) (iblk m c 7 t) (iblk m c 8 t) (iblk m c 9 t)) (outsAt0 m c (t.val - 1) (Nat.lt_of_le_of_lt (Nat.sub_le _ _) t.isLt)).2.2.2.2.2.2.2) := by
  rw [outsAt0_B m c t h]
  dsimp only
  rw [out0_B_12_eq]

theorem leftB_13 (t : Fin cfg0.N) (h : ¬ t.val % 65 = 0) : (outsAt0 m c t.val t.isLt).2.2.2.1 = skOut (F := Ideal) (DSK (X0_0 m c t) (iblk m c 1 t) (iblk m c 2 t) (iblk m c 3 t) (iblk m c 4 t) (iblk m c 5 t) (iblk m c 6 t) (iblk m c 7 t) (iblk m c 8 t) (iblk m c 9 t)) (outsAt0 m c (t.val - 1) (Nat.lt_of_le_of_lt (Nat.sub_le _ _) t.isLt)).2.2.2.1 := by
  rw [outsAt0_B m c t h]
  dsimp only
  rw [out0_B_13_eq]

theorem leftB_s0 (t : Fin cfg0.N) (h : ¬ t.val % 65 = 0) : (outsAt0 m c t.val t.isLt).2.2.2.2.1 = ckOut (F := Ideal) (DK (X0_0 m c t) (iblk m c 1 t) (iblk m c 2 t) (iblk m c 3 t) (iblk m c 4 t) (iblk m c 5 t) (iblk m c 6 t) (iblk m c 7 t) (iblk m c 8 t) (iblk m c 9 t)) := by
  rw [outsAt0_B m c t h]
  dsimp only
  rw [sout0_B_0_eq]

theorem leftB_s1 (t : Fin cfg0.N) (h : ¬ t.val % 65 = 0) : (outsAt0 m c t.val t.isLt).2.2.2.2.2.1 = ckOut (F := Ideal) (DV (X0_0 m c t) (iblk m c 1 t) (iblk m c 3 t) (iblk m c 5 t) (iblk m c 7 t) (iblk m c 8 t) (iblk m c 9 t)) := by
  rw [outsAt0_B m c t h]
  dsimp only
  rw [sout0_B_1_eq]

theorem leftB_s2 (t : Fin cfg0.N) (h : ¬ t.val % 65 = 0) : (outsAt0 m c t.val t.isLt).2.2.2.2.2.2.1 = mkOut (F := Ideal) (DK (X0_0 m c t) (iblk m c 1 t) (iblk m c 2 t) (iblk m c 3 t) (iblk m c 4 t) (iblk m c 5 t) (iblk m c 6 t) (iblk m c 7 t) (iblk m c 8 t) (iblk m c 9 t)) (outsAt0 m c (t.val - 1) (Nat.lt_of_le_of_lt (Nat.sub_le _ _) t.isLt)).2.2.2.2.2.2.1 := by
  rw [outsAt0_B m c t h]
  dsimp only
  rw [sout0_B_2_eq]

theorem leftB_s3 (t : Fin cfg0.N) (h : ¬ t.val % 65 = 0) : (outsAt0 m c t.val t.isLt).2.2.2.2.2.2.2 = mkOut (F := Ideal) (DV (X0_0 m c t) (iblk m c 1 t) (iblk m c 3 t) (iblk m c 5 t) (iblk m c 7 t) (iblk m c 8 t) (iblk m c 9 t)) (outsAt0 m c (t.val - 1) (Nat.lt_of_le_of_lt (Nat.sub_le _ _) t.isLt)).2.2.2.2.2.2.2 := by
  rw [outsAt0_B m c t h]
  dsimp only
  rw [sout0_B_3_eq]

include H in
theorem left_first (t : Fin cfg0.N) (h : t.val % 65 = 0) (h0 : t.val = 0) : Left m c P D σ t.val t.isLt := by
  have E := ins H t
  constructor
  · rw [leftA_10 t h]; exact DQ_read E
  · rw [leftA_11 t h]
    refine (dkOut_read _ _ (word t) (DK_read E) zero4 (mkOut_read (DK_read E) zero6)).congr fun r _ l _ => ?_
    unfold part
    rw [h0]
    norm_num
  · rw [leftA_12 t h]
    refine (dkOut_read _ _ (word t) (DV_read E) zero5 (mkOut_read (DV_read E) zero7)).congr fun r _ l _ => ?_
    unfold part
    rw [h0]
    norm_num
  · intro l
    rw [leftA_13 t h, skOut_read, DSK_read E]
    refine (congrArg (· + _) (zero8 l)).trans ?_
    rw [zero_add, h0, Finset.sum_range_one]
  · rw [leftA_s0 t h]; exact ckOut_read (DK_read E)
  · rw [leftA_s1 t h]; exact ckOut_read (DV_read E)
  · rw [leftA_s2 t h]
    refine (mkOut_read (DK_read E) zero6).congr fun r _ l _ => ?_
    beta_reduce
    rw [h0]
    norm_num
  · rw [leftA_s3 t h]
    refine (mkOut_read (DV_read E) zero7).congr fun r _ l _ => ?_
    beta_reduce
    rw [h0]
    norm_num

include H in
theorem left_next (t : Fin cfg0.N) (h : ¬ t.val % 65 = 0)
    (I : Left m c P D σ (t.val - 1) (Nat.lt_of_le_of_lt (Nat.sub_le _ _) t.isLt)) : Left m c P D σ t.val t.isLt := by
  have E := ins H t
  have hz : t.val ≠ 0 := fun k => h (by rw [k])
  constructor
  · rw [leftB_10 t h]; exact DQ_read E
  · rw [leftB_11 t h]
    refine (dkOut_read _ _ (word t) (DK_read E) I.ck (mkOut_read (DK_read E) I.mk2)).congr fun r _ l _ => ?_
    unfold part
    beta_reduce
    rw [if_neg hz, sum_step (fun j => dkc P D σ (64 - j) (l / 64) (256 + r) (l % 64)) t.val hz]
  · rw [leftB_12 t h]
    refine (dkOut_read _ _ (word t) (DV_read E) I.cv (mkOut_read (DV_read E) I.mv2)).congr fun r _ l _ => ?_
    unfold part
    beta_reduce
    rw [if_neg hz, sum_step (fun j => dvc P D σ (64 - j) (l / 64) (256 + r) (l % 64)) t.val hz]
  · intro l
    rw [leftB_13 t h, skOut_read, DSK_read E]
    refine (congrArg (· + _) (I.s l)).trans ?_
    rw [← EReal.coe_add]
    exact congrArg _ (sum_step (fun j => if l.val < 16 then dsb P D σ (64 - j) l else 0) t.val hz)
  · rw [leftB_s0 t h]; exact ckOut_read (DK_read E)
  · rw [leftB_s1 t h]; exact ckOut_read (DV_read E)
  · rw [leftB_s2 t h]
    refine (mkOut_read (DK_read E) I.mk2).congr fun r _ l _ => ?_
    exact sum_step (fun j => dkc P D σ (64 - j) (l / 64) (256 + r) (l % 64)) t.val hz
  · rw [leftB_s3 t h]
    refine (mkOut_read (DV_read E) I.mv2).congr fun r _ l _ => ?_
    exact sum_step (fun j => dvc P D σ (64 - j) (l / 64) (256 + r) (l % 64)) t.val hz

include H in
/-- Every point leaves its block's gradients and the sums of the blocks before it. -/
theorem left_all : ∀ (n : ℕ) (hn : n < cfg0.N), Left m c P D σ n hn
  | 0, hn => left_first H ⟨0, hn⟩ rfl rfl
  | n + 1, hn => left_next H ⟨n + 1, hn⟩
      (by have h65 : n + 1 < 65 := hn
          show ¬ (n + 1) % 65 = 0
          omega) (left_all n (Nat.lt_of_succ_lt hn))

end Cert.KernelIdeal.Val
end
-- ==== Proof.KFinal.lean ====
/- The kernel's result arrays after the run: the four gradients, entry by entry. -/
module

public import proofs.«01_k».proof.Proof.KOut

@[expose] public section

set_option maxRecDepth 16384

noncomputable section

namespace Cert.KernelIdeal.Val

open Idealize.ShloMosaic Idealize.SL.Sem Cert.KernelIdeal.Gen Cert.Row Cert.Spec

/-- Summing over the points from the last block down is summing over the blocks. -/
theorem sum_points (f : ℕ → ℝ) : (∑ j ∈ Finset.range 65, f (64 - j)) = ∑ b : Fin 65, f b.val := by
  rw [Fin.sum_univ_eq_sum_range (fun b => f b) 65, ← Finset.sum_range_reflect f 65]

/-- What the point of block `64 - n` writes for the keys (or the values) is the gather of the spec. -/
theorem part_gather (f : ℕ → ℕ → ℕ → ℕ → ℝ) (n r l : ℕ) (hn : n < 65) :
    part f n r l = gather f (64 - n) r (l / 64) (l % 64) := by
  unfold part gather
  congr 1
  · congr 1
    by_cases h : n = 0
    · subst h; simp
    · rw [if_neg h, if_pos (by omega), show 64 - (n - 1) = 64 - n + 1 by omega]
  · by_cases h : 64 - n = 0
    · rw [if_pos h, if_pos h, show n + 1 = 65 by omega]
      exact sum_points fun b => f b (l / 64) (256 + r) (l % 64)
    · rw [if_neg h, if_neg h]

/-- The sums over the points of the sinks' gradients are the gradients. -/
theorem sink_sum (P D : ℕ → ℕ → ℝ) (σ : ℕ → ℝ) (l : ℕ) :
    (∑ j ∈ Finset.range 65, if l < 16 then dsb P D σ (64 - j) l else 0) = if l < 16 then dsink P D σ l else 0 := by
  by_cases h : l < 16
  · simp only [if_pos h]
    exact sum_points fun b => dsb P D σ b l
  · simp only [if_neg h, Finset.sum_const_zero]

variable {m : (ℓ : Loc nD τ sig) → Buf (Elt Ideal) ℓ} {c : Dev nD} {P D : ℕ → ℕ → ℝ} {σ : ℕ → ℝ}

/-- The gradient of the queries. -/
def outQ (P D : ℕ → ℕ → ℝ) (σ : ℕ → ℝ) : FVec Ideal S8320x1024 .bf16 := fun i =>
  ((dq P D σ ((i 0).val / 128) ((i 0).val % 128) ((i 1).val / 64) ((i 1).val % 64) : ℝ) : EReal)
/-- The gradient of the keys. -/
def outK (P D : ℕ → ℕ → ℝ) (σ : ℕ → ℝ) : FVec Ideal S8320x128 .bf16 := fun i =>
  ((dk P D σ ((i 0).val / 128) ((i 0).val % 128) ((i 1).val / 64) ((i 1).val % 64) : ℝ) : EReal)
/-- The gradient of the values. -/
def outV (P D : ℕ → ℕ → ℝ) (σ : ℕ → ℝ) : FVec Ideal S8320x128 .bf16 := fun i =>
  ((dv P D σ ((i 0).val / 128) ((i 0).val % 128) ((i 1).val / 64) ((i 1).val % 64) : ℝ) : EReal)
/-- The gradient of the sinks, in the first 16 lanes of a row of 128. -/
def outS (P D : ℕ → ℕ → ℝ) (σ : ℕ → ℝ) : FVec Ideal S1x128 .f32 := fun i =>
  ((if (i 1).val < 16 then dsink P D σ (i 1).val else 0 : ℝ) : EReal)

variable (H : Args m c P D σ)
include H

/-- The query gradient's array after the run. -/
theorem final_q : (dats m 0 c).arrAt 10 cfg0.N = outQ P D σ := by
  refine (dats m 0 c).arrAt_eq_of_covers 10 _ (by decide +kernel) fun t _ y => ?_
  have ht : t.val < 65 := t.isLt
  have hy : (y 0).val < 128 := (y 0).isLt
  have e0 : ((((cfg0.win 10).blk t).view.emb y) 0).val = (64 - t.val) * 128 + (y 0).val := by blk_simp [(idxC t).1]
  have e1 : ((((cfg0.win 10).blk t).view.emb y) 1).val = (y 1).val := by blk_simp [(idxC t).1]
  blk_simp
  rw [after0_10, (left_all H t.val t.isLt).q]
  unfold dqG outQ
  rw [e0, e1, show ((64 - t.val) * 128 + (y 0).val) / 128 = 64 - t.val by omega, show ((64 - t.val) * 128 + (y 0).val) % 128 = (y 0).val by omega]

/-- The key gradient's array after the run. -/
theorem final_k : (dats m 0 c).arrAt 11 cfg0.N = outK P D σ := by
  refine (dats m 0 c).arrAt_eq_of_covers 11 _ (by decide +kernel) fun t _ y => ?_
  have ht : t.val < 65 := t.isLt
  have hy : (y 0).val < 128 := (y 0).isLt
  have e0 : ((((cfg0.win 11).blk t).view.emb y) 0).val = (64 - t.val) * 128 + (y 0).val := by blk_simp [(idxC t).2.1]
  have e1 : ((((cfg0.win 11).blk t).view.emb y) 1).val = (y 1).val := by blk_simp [(idxC t).2.1]
  have R := (left_all H t.val t.isLt).k (y 0) (y 1)
  blk_simp
  rw [after0_11]
  unfold outK dk
  rw [e0, e1, show ((64 - t.val) * 128 + (y 0).val) / 128 = 64 - t.val by omega, show ((64 - t.val) * 128 + (y 0).val) % 128 = (y 0).val by omega,
    ← part_gather _ _ _ _ ht, ← R]
  exact congrArg (outsAt0 m c t.val t.isLt).2.1 (funext fun a => by fin_cases a <;> rfl)

/-- The value gradient's array after the run. -/
theorem final_v : (dats m 0 c).arrAt 12 cfg0.N = outV P D σ := by
  refine (dats m 0 c).arrAt_eq_of_covers 12 _ (by decide +kernel) fun t _ y => ?_
  have ht : t.val < 65 := t.isLt
  have hy : (y 0).val < 128 := (y 0).isLt
  have e0 : ((((cfg0.win 12).blk t).view.emb y) 0).val = (64 - t.val) * 128 + (y 0).val := by blk_simp [(idxC t).2.2.1]
  have e1 : ((((cfg0.win 12).blk t).view.emb y) 1).val = (y 1).val := by blk_simp [(idxC t).2.2.1]
  have R := (left_all H t.val t.isLt).v (y 0) (y 1)
  blk_simp
  rw [after0_12]
  unfold outV dv
  rw [e0, e1, show ((64 - t.val) * 128 + (y 0).val) / 128 = 64 - t.val by omega, show ((64 - t.val) * 128 + (y 0).val) % 128 = (y 0).val by omega,
    ← part_gather _ _ _ _ ht, ← R]
  exact congrArg (outsAt0 m c t.val t.isLt).2.2.1 (funext fun a => by fin_cases a <;> rfl)

/-- The sink gradient's array after the run: the last point alone writes it back. -/
theorem final_s : (dats m 0 c).arrAt 13 cfg0.N = outS P D σ := by
  refine (dats m 0 c).arrAt_eq_of_covers 13 _ (by decide +kernel) fun t hf y => ?_
  have ht : t.val < 65 := t.isLt
  have h64 : t.val = 64 := by
    have := (flush0_13 t).mp hf
    omega
  have e1 : ((((cfg0.win 13).blk t).view.emb y) 1).val = (y 1).val := by blk_simp [(idxC t).2.2.2.1]
  have R := (left_all H t.val t.isLt).s (y 1)
  blk_simp
  rw [after0_13]
  unfold outS
  rw [e1, ← sink_sum, show 65 = t.val + 1 by omega, ← R]
  exact congrArg (outsAt0 m c t.val t.isLt).2.2.2.1 (funext fun a => by
    fin_cases a
    · exact Subsingleton.elim (α := Fin 1) _ _
    · rfl)

omit H in
/-- Where the run leaves the four results. -/
theorem left_at {m : (ℓ : Loc nD τ sig) → Buf (Elt Ideal) ℓ} {r : PUnit × MemSt nD τ sig (Elt Ideal)} (h : Pipeline.FramePost cfgs (dats m) 0 (V m) r) (c : Dev nD) :
    r.2.mem ((c.tc : Thread nD τ).loc main_v68_0) = (dats m 0 c).arrAt 10 cfg0.N
      ∧ r.2.mem ((c.tc : Thread nD τ).loc main_v68_1) = (dats m 0 c).arrAt 11 cfg0.N
      ∧ r.2.mem ((c.tc : Thread nD τ).loc main_v68_2) = (dats m 0 c).arrAt 12 cfg0.N
      ∧ r.2.mem ((c.tc : Thread nD τ).loc main_v68_3) = (dats m 0 c).arrAt 13 cfg0.N :=
  have k := (h c).1
  ⟨k (10 : Fin 14), k (11 : Fin 14), k (12 : Fin 14), k (13 : Fin 14)⟩

omit H in
/-- The kernel's run: its four results are the gradients and its arguments end unchanged. -/
theorem results {m : (ℓ : Loc nD τ sig) → Buf (Elt Ideal) ℓ} (g : Dev nD → PrngReg) (P D : Dev nD → ℕ → ℕ → ℝ) (σ : Dev nD → ℕ → ℝ)
    (H : ∀ c, Args m c (P c) (D c) (σ c)) : θ_run defs (onTc (τ := τ) (main (F := Ideal))) ⟨m, fun _ => 0, g⟩ (fun r => ∀ c : Dev nD,
      r.2.mem ((c.tc : Thread nD τ).loc main_v68_0) = outQ (P c) (D c) (σ c)
      ∧ r.2.mem ((c.tc : Thread nD τ).loc main_v68_1) = outK (P c) (D c) (σ c)
      ∧ r.2.mem ((c.tc : Thread nD τ).loc main_v68_2) = outV (P c) (D c) (σ c)
      ∧ r.2.mem ((c.tc : Thread nD τ).loc main_v68_3) = outS (P c) (D c) (σ c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (θ_run_and (run_main m g) (unchanged m g))
  obtain ⟨h, u⟩ := h
  obtain ⟨k0, k1, k2, k3⟩ := left_at h c
  exact ⟨k0.trans (final_q (H c)), k1.trans (final_k (H c)), k2.trans (final_v (H c)), k3.trans (final_s (H c)), u c⟩

end Cert.KernelIdeal.Val

end
-- ==== Proof.RefIn.lean ====
/- The reference's queries, keys, values and masks, read at an index. The first 112 rows are zero there. -/
module

public import proofs.«01_k».proof.Proof.Gen.ReferenceIdeal.Read
public import proofs.«01_k».proof.Proof.KTable
public import proofs.«01_k».proof.Proof.Spec
public import Idealize.ShloMosaic.Lib.Pointwise
public import Idealize.ShloMosaic.Lib.KernelVsHost

@[expose] public section

set_option maxRecDepth 16384

noncomputable section

namespace Cert.ReferenceIdeal.Ref

open Idealize.ShloMosaic Cert.ReferenceIdeal Cert.ReferenceIdeal.Gen Cert.ReferenceIdeal.Read Cert.Row
open Cert.KernelIdeal.Val (ofInt_add ofInt_mul ofInt_sub toInt_small sge_small slt_small min_small and_bool select_bool sitofp_small b2 bm8 b16)

/-- The arrays' types. -/
abbrev A0 := (⟨S8320x3328, .f32⟩ : BufTy).Contents (Elt Ideal)
abbrev A1 := (⟨S16, .f32⟩ : BufTy).Contents (Elt Ideal)
abbrev A2 := (⟨S8320x2048, .f32⟩ : BufTy).Contents (Elt Ideal)

/-- The arguments hold real numbers where the call reads them. -/
structure Args (x0 : A0) (x1 : A1) (x2 : A2) (P D : ℕ → ℕ → ℝ) (σ : ℕ → ℝ) : Prop where
  hP : ∀ i, 2048 ≤ (i 1).val → x0 i = ((P (i 0).val (i 1).val : ℝ) : EReal)
  hD : ∀ i, 1024 ≤ (i 1).val → x2 i = ((D (i 0).val (i 1).val : ℝ) : EReal)
  hσ : ∀ i, x1 i = ((σ (i 0).val : ℝ) : EReal)

/-- The array with its first 112 rows zero. -/
def zr (P : ℕ → ℕ → ℝ) (i j : ℕ) : ℝ := if i < 112 then 0 else P i j

/-- The row of a block's column in the array with its first 112 rows zero; before the first block all is zero. -/
def kb (P : ℕ → ℕ → ℝ) (b c j : ℕ) : ℝ := if b = 0 ∧ c < 128 then 0 else zr P (Spec.key b c) j

theorem at2 (P : ℕ → ℕ → ℝ) {a a' b b' : ℕ} (h : a = a') (k : b = b') : ((P a b : ℝ) : EReal) = ((P a' b' : ℝ) : EReal) := by rw [h, k]

variable {x0 : A0} {x1 : A1} {x2 : A2} {P D : ℕ → ℕ → ℝ} {σ : ℕ → ℝ} (H : Args x0 x1 x2 P D σ)

include H

theorem r3 (i : S8208x16x64.Idx) : val_main_v3 (F := Ideal) x0 i = ((P (112 + (i 0).val) (2048 + ((i 1).val * 64 + (i 2).val)) : ℝ) : EReal) := by
  have h1 : (i 1).val < 16 := (i 1).isLt
  have h2 : (i 2).val < 64 := (i 2).isLt
  rw [val_main_v3_apply, val_main_v0_apply, H.hP _ (Nat.le_add_right 2048 _)]
  refine at2 P ?_ ?_
  · show 112 + (((i 0).val * 16 + (i 1).val) * 64 + (i 2).val) / 1024 = _
    omega
  · show 2048 + (((i 0).val * 16 + (i 1).val) * 64 + (i 2).val) % 1024 = _
    omega

theorem r4 (i : S8208x2x64.Idx) : val_main_v4 (F := Ideal) x0 i = ((P (112 + (i 0).val) (3072 + ((i 1).val * 64 + (i 2).val)) : ℝ) : EReal) := by
  have h1 : (i 1).val < 2 := (i 1).isLt
  have h2 : (i 2).val < 64 := (i 2).isLt
  rw [val_main_v4_apply, val_main_v1_apply, H.hP _ (le_trans (by norm_num) (Nat.le_add_right 3072 _))]
  refine at2 P ?_ ?_
  · show 112 + (((i 0).val * 2 + (i 1).val) * 64 + (i 2).val) / 128 = _
    omega
  · show 3072 + (((i 0).val * 2 + (i 1).val) * 64 + (i 2).val) % 128 = _
    omega

theorem r5 (i : S8208x2x64.Idx) : val_main_v5 (F := Ideal) x0 i = ((P (112 + (i 0).val) (3200 + ((i 1).val * 64 + (i 2).val)) : ℝ) : EReal) := by
  have h1 : (i 1).val < 2 := (i 1).isLt
  have h2 : (i 2).val < 64 := (i 2).isLt
  rw [val_main_v5_apply, val_main_v2_apply, H.hP _ (le_trans (by norm_num) (Nat.le_add_right 3200 _))]
  refine at2 P ?_ ?_
  · show 112 + (((i 0).val * 2 + (i 1).val) * 64 + (i 2).val) / 128 = _
    omega
  · show 3200 + (((i 0).val * 2 + (i 1).val) * 64 + (i 2).val) % 128 = _
    omega

theorem r7 (i : S8320x16x64.Idx) : val_main_v7 (F := Ideal) x0 i = ((zr P (i 0).val (2048 + ((i 1).val * 64 + (i 2).val)) : ℝ) : EReal) := by
  unfold val_main_v7 zr
  rw [concatenate_pair_apply]
  by_cases h : (i 0).val < 112
  · refine (dif_pos h).trans ?_
    rw [if_pos h, val_main_v6_apply, val_main_cst_apply]
    exact Ideal.ofBits_zero_f32
  · refine (dif_neg h).trans ((r3 H _).trans ?_)
    rw [if_neg h]
    refine at2 P ?_ ?_
    · show 112 + ((i 0).val - 112) = _
      omega
    · rfl

theorem r11 (i : S8320x2x64.Idx) : val_main_v11 (F := Ideal) x0 i = ((zr P (i 0).val (3072 + ((i 1).val * 64 + (i 2).val)) : ℝ) : EReal) := by
  unfold val_main_v11 zr
  rw [concatenate_pair_apply]
  by_cases h : (i 0).val < 112
  · refine (dif_pos h).trans ?_
    rw [if_pos h, val_main_v10_apply, val_main_cst_1_apply]
    exact Ideal.ofBits_zero_f32
  · refine (dif_neg h).trans ((r4 H _).trans ?_)
    rw [if_neg h]
    refine at2 P ?_ ?_
    · show 112 + ((i 0).val - 112) = _
      omega
    · rfl

theorem r15 (i : S8320x2x64.Idx) : val_main_v15 (F := Ideal) x0 i = ((zr P (i 0).val (3200 + ((i 1).val * 64 + (i 2).val)) : ℝ) : EReal) := by
  unfold val_main_v15 zr
  rw [concatenate_pair_apply]
  by_cases h : (i 0).val < 112
  · refine (dif_pos h).trans ?_
    rw [if_pos h, val_main_v14_apply, val_main_cst_3_apply]
    exact Ideal.ofBits_zero_f32
  · refine (dif_neg h).trans ((r5 H _).trans ?_)
    rw [if_neg h]
    refine at2 P ?_ ?_
    · show 112 + ((i 0).val - 112) = _
      omega
    · rfl

theorem r9 (i : S65x128x2x8x64.Idx) : val_main_v9 (F := Ideal) x0 i = ((zr P ((i 0).val * 128 + (i 1).val) (2048 + (((i 2).val * 8 + (i 3).val) * 64 + (i 4).val)) : ℝ) : EReal) := by
  have h1 : (i 1).val < 128 := (i 1).isLt
  have h2 : (i 2).val < 2 := (i 2).isLt
  have h3 : (i 3).val < 8 := (i 3).isLt
  have h4 : (i 4).val < 64 := (i 4).isLt
  rw [val_main_v9_apply, r7 H]
  refine at2 (zr P) ?_ ?_
  · show (((((i 0).val * 128 + (i 1).val) * 2 + (i 2).val) * 8 + (i 3).val) * 64 + (i 4).val) / 1024 = _
    omega
  · show 2048 + ((((((i 0).val * 128 + (i 1).val) * 2 + (i 2).val) * 8 + (i 3).val) * 64 + (i 4).val) / 64 % 16 * 64
      + (((((i 0).val * 128 + (i 1).val) * 2 + (i 2).val) * 8 + (i 3).val) * 64 + (i 4).val) % 64) = _
    omega

theorem r13 (i : S65x128x2x64.Idx) : val_main_v13 (F := Ideal) x0 i = ((zr P ((i 0).val * 128 + (i 1).val) (3072 + ((i 2).val * 64 + (i 3).val)) : ℝ) : EReal) := by
  have h1 : (i 1).val < 128 := (i 1).isLt
  have h2 : (i 2).val < 2 := (i 2).isLt
  have h3 : (i 3).val < 64 := (i 3).isLt
  rw [val_main_v13_apply, r11 H]
  refine at2 (zr P) ?_ ?_
  · show ((((i 0).val * 128 + (i 1).val) * 2 + (i 2).val) * 64 + (i 3).val) / 128 = _
    omega
  · show 3072 + (((((i 0).val * 128 + (i 1).val) * 2 + (i 2).val) * 64 + (i 3).val) / 64 % 2 * 64
      + ((((i 0).val * 128 + (i 1).val) * 2 + (i 2).val) * 64 + (i 3).val) % 64) = _
    omega

theorem r17 (i : S65x128x2x64.Idx) : val_main_v17 (F := Ideal) x0 i = ((zr P ((i 0).val * 128 + (i 1).val) (3200 + ((i 2).val * 64 + (i 3).val)) : ℝ) : EReal) := by
  have h1 : (i 1).val < 128 := (i 1).isLt
  have h2 : (i 2).val < 2 := (i 2).isLt
  have h3 : (i 3).val < 64 := (i 3).isLt
  rw [val_main_v17_apply, r15 H]
  refine at2 (zr P) ?_ ?_
  · show ((((i 0).val * 128 + (i 1).val) * 2 + (i 2).val) * 64 + (i 3).val) / 128 = _
    omega
  · show 3200 + (((((i 0).val * 128 + (i 1).val) * 2 + (i 2).val) * 64 + (i 3).val) / 64 % 2 * 64
      + ((((i 0).val * 128 + (i 1).val) * 2 + (i 2).val) * 64 + (i 3).val) % 64) = _
    omega

theorem r20 (i : S65x128x2x64.Idx) : val_main_v20 (F := Ideal) x0 i
    = (((if (i 0).val = 0 then 0 else zr P (((i 0).val - 1) * 128 + (i 1).val) (3072 + ((i 2).val * 64 + (i 3).val))) : ℝ) : EReal) := by
  unfold val_main_v20
  rw [concatenate_pair_apply]
  by_cases h : (i 0).val < 1
  · refine (dif_pos h).trans ?_
    rw [if_pos (Nat.lt_one_iff.mp h), val_main_v19_apply, val_main_cst_5_apply]
    exact Ideal.ofBits_zero_f32
  · refine (dif_neg h).trans ?_
    rw [if_neg (fun k => h (Nat.lt_one_iff.mpr k)), val_main_v18_apply, r13 H]
    rfl

theorem r25 (i : S65x128x2x64.Idx) : val_main_v25 (F := Ideal) x0 i
    = (((if (i 0).val = 0 then 0 else zr P (((i 0).val - 1) * 128 + (i 1).val) (3200 + ((i 2).val * 64 + (i 3).val))) : ℝ) : EReal) := by
  unfold val_main_v25
  rw [concatenate_pair_apply]
  by_cases h : (i 0).val < 1
  · refine (dif_pos h).trans ?_
    rw [if_pos (Nat.lt_one_iff.mp h), val_main_v24_apply, val_main_cst_7_apply]
    exact Ideal.ofBits_zero_f32
  · refine (dif_neg h).trans ?_
    rw [if_neg (fun k => h (Nat.lt_one_iff.mpr k)), val_main_v23_apply, r17 H]
    rfl

theorem r22 (i : S65x256x2x64.Idx) : val_main_v22 (F := Ideal) x0 i = ((kb P (i 0).val (i 1).val (3072 + ((i 2).val * 64 + (i 3).val)) : ℝ) : EReal) := by
  have h1 : (i 1).val < 256 := (i 1).isLt
  unfold val_main_v22 kb Spec.key
  rw [concatenate_pair_apply]
  by_cases h : (i 1).val < 128
  · refine (dif_pos h).trans ((r20 H _).trans ?_)
    rw [if_pos h]
    congr 1
    refine if_congr ⟨fun k => ⟨k, h⟩, fun k => k.1⟩ rfl rfl
  · refine (dif_neg h).trans ((r13 H _).trans ?_)
    rw [if_neg (fun k => h k.2), if_neg h, if_pos h1]
    rfl

theorem r27 (i : S65x256x2x64.Idx) : val_main_v27 (F := Ideal) x0 i = ((kb P (i 0).val (i 1).val (3200 + ((i 2).val * 64 + (i 3).val)) : ℝ) : EReal) := by
  have h1 : (i 1).val < 256 := (i 1).isLt
  unfold val_main_v27 kb Spec.key
  rw [concatenate_pair_apply]
  by_cases h : (i 1).val < 128
  · refine (dif_pos h).trans ((r25 H _).trans ?_)
    rw [if_pos h]
    congr 1
    refine if_congr ⟨fun k => ⟨k, h⟩, fun k => k.1⟩ rfl rfl
  · refine (dif_neg h).trans ((r17 H _).trans ?_)
    rw [if_neg (fun k => h k.2), if_neg h, if_pos h1]
    rfl

theorem r28 (i : S16x2x64.Idx) : val_main_v28 (F := Ideal) x0 i = ((P (112 + (i 0).val) (3072 + ((i 1).val * 64 + (i 2).val)) : ℝ) : EReal) := by
  rw [val_main_v28_apply, r4 H]
theorem r29 (i : S16x2x64.Idx) : val_main_v29 (F := Ideal) x0 i = ((P (112 + (i 0).val) (3200 + ((i 1).val * 64 + (i 2).val)) : ℝ) : EReal) := by
  rw [val_main_v29_apply, r5 H]

/-- The output's gradient, its first 112 rows zero. -/
theorem r202 (i : S65x128x2x8x64.Idx) : val_main_v202 (F := Ideal) x2 i = ((zr D ((i 0).val * 128 + (i 1).val) (1024 + (((i 2).val * 8 + (i 3).val) * 64 + (i 4).val)) : ℝ) : EReal) := by
  have h0 : (i 0).val < 65 := (i 0).isLt
  have h1 : (i 1).val < 128 := (i 1).isLt
  have h2 : (i 2).val < 2 := (i 2).isLt
  have h3 : (i 3).val < 8 := (i 3).isLt
  have h4 : (i 4).val < 64 := (i 4).isLt
  have e0 : (((((i 0).val * 128 + (i 1).val) * 2 + (i 2).val) * 8 + (i 3).val) * 64 + (i 4).val) / 1024 = (i 0).val * 128 + (i 1).val := by omega
  have e1 : (((((i 0).val * 128 + (i 1).val) * 2 + (i 2).val) * 8 + (i 3).val) * 64 + (i 4).val) % 1024 = ((i 2).val * 8 + (i 3).val) * 64 + (i 4).val := by omega
  rw [val_main_v202_apply]
  unfold val_main_v201 zr
  by_cases h : (i 0).val * 128 + (i 1).val < 112
  · rw [if_pos h, pad_apply_of_not_inside (a := 0)]
    · exact Ideal.ofBits_zero_f32
    · intro k
      have := k.1
      have e : (((((i 0).val * 128 + (i 1).val) * 2 + (i 2).val) * 8 + (i 3).val) * 64 + (i 4).val) / 1024 ≥ 112 := this
      omega
  · rw [if_neg h, pad_apply_of_inside (k := ValueIdx.ix2 ⟨(i 0).val * 128 + (i 1).val - 112, by omega⟩ ⟨((i 2).val * 8 + (i 3).val) * 64 + (i 4).val, by omega⟩)]
    · rw [val_main_v200_apply, H.hD _ (Nat.le_add_right 1024 _)]
      refine at2 D ?_ rfl
      show 112 + ((i 0).val * 128 + (i 1).val - 112) = _
      omega
    · intro a
      match a with
      | ⟨0, _⟩ =>
        show (((((i 0).val * 128 + (i 1).val) * 2 + (i 2).val) * 8 + (i 3).val) * 64 + (i 4).val) / 1024 = 112 + ((i 0).val * 128 + (i 1).val - 112) * 1
        omega
      | ⟨1, _⟩ =>
        show (((((i 0).val * 128 + (i 1).val) * 2 + (i 2).val) * 8 + (i 3).val) * 64 + (i 4).val) % 1024 = 0 + (((i 2).val * 8 + (i 3).val) * 64 + (i 4).val) * 1
        omega

end Cert.ReferenceIdeal.Ref
end
-- ==== Proof.RefMask.lean ====
/- The reference's masks, distances and slopes, read at an index. -/
module

public import proofs.«01_k».proof.Proof.RefIn

@[expose] public section

set_option maxRecDepth 16384

noncomputable section

namespace Cert.ReferenceIdeal.Ref

open Idealize.ShloMosaic Cert.ReferenceIdeal Cert.ReferenceIdeal.Gen Cert.ReferenceIdeal.Read Cert.Row Cert.Spec
open Cert.KernelIdeal.Val (ofInt_add ofInt_mul ofInt_sub toInt_small sge_small slt_small min_small and_bool select_bool sitofp_small b2 bm8 b16)

theorem o (x : ℕ) : BitVec.ofNat 32 x = BitVec.ofInt 32 (x : ℤ) := (BitVec.ofInt_natCast 32 x).symm

/-- A query's place in the sequence. -/
theorem t48 (i : S65x128.Idx) : val_main_v48 (F := Ideal) i = BitVec.ofInt 32 ((i 0).val * 128 + (i 1).val - 112 : ℤ) := by
  rw [val_main_v48_apply, val_main_v46_apply, val_main_v44_apply, val_main_v45_apply, val_main_v47_apply, val_main_v41_apply,
    val_main_v39_apply, val_main_v43_apply, val_main_v40_apply, val_main_v38_apply, val_main_v42_apply, val_main_c_apply, val_main_c_11_apply]
  show IntOp.subi (IntOp.addi (IntOp.muli (BitVec.ofNat 32 (i 0).val) (BitVec.ofInt 32 128)) (BitVec.ofNat 32 (i 1).val)) (BitVec.ofInt 32 112) = _
  rw [o, o, ofInt_mul, ofInt_add, ofInt_sub]

/-- A key's place in the sequence. -/
theorem t60 (i : S65x256.Idx) : val_main_v60 (F := Ideal) i = BitVec.ofInt 32 (((i 0).val - 1) * 128 + (i 1).val - 112 : ℤ) := by
  rw [val_main_v60_apply, val_main_v58_apply, val_main_v56_apply, val_main_v57_apply, val_main_v59_apply, val_main_v53_apply,
    val_main_v51_apply, val_main_v49_apply, val_main_v50_apply, val_main_v55_apply, val_main_v52_apply, val_main_v38_apply, val_main_v54_apply,
    val_main_c_12_apply, val_main_c_13_apply, val_main_c_14_apply]
  show IntOp.subi (IntOp.addi (IntOp.muli (IntOp.subi (BitVec.ofNat 32 (i 0).val) (BitVec.ofInt 32 1)) (BitVec.ofInt 32 128)) (BitVec.ofNat 32 (i 1).val)) (BitVec.ofInt 32 112) = _
  rw [o, o, ofInt_sub, ofInt_mul, ofInt_add, ofInt_sub]

theorem t65 (i : S65x128x256.Idx) : val_main_v65 (F := Ideal) i
    = BitVec.ofInt 32 (((i 0).val * 128 + (i 1).val - 112 : ℤ) - (((i 0).val - 1) * 128 + (i 2).val - 112 : ℤ)) := by
  rw [val_main_v65_apply, val_main_v63_apply, val_main_v64_apply, val_main_v61_apply, val_main_v62_apply, t48, t60, ofInt_sub]

theorem t81 (i : S65x128x16.Idx) : val_main_v81 (F := Ideal) i = BitVec.ofInt 32 (((i 0).val * 128 + (i 1).val - 112 : ℤ) - ((i 2).val : ℤ)) := by
  rw [val_main_v81_apply, val_main_v79_apply, val_main_v80_apply, val_main_v76_apply, val_main_v78_apply, val_main_v77_apply, t48]
  show IntOp.subi (BitVec.ofInt 32 _) (BitVec.ofNat 32 (i 2).val) = _
  rw [o, ofInt_sub]

theorem t75 (i : S65x128x256.Idx) : val_main_v75 (F := Ideal) i = BitVec.ofBool (decide (seen (i 0).val (i 1).val (i 2).val)) := by
  have h0 : (i 0).val < 65 := (i 0).isLt
  have h1 : (i 1).val < 128 := (i 1).isLt
  have h2 : (i 2).val < 256 := (i 2).isLt
  rw [val_main_v75_apply, val_main_v72_apply, val_main_v71_apply, val_main_v68_apply, val_main_v66_apply, val_main_v67_apply,
    val_main_v70_apply, val_main_v69_apply, val_main_v74_apply, val_main_v73_apply, t65, t60, val_main_c_15_apply, val_main_c_16_apply, val_main_c_17_apply]
  show IntOp.andi (IntOp.andi (IntOp.cmpi .sge (BitVec.ofInt 32 (((i 0).val - 1) * 128 + (i 2).val - 112 : ℤ)) (BitVec.ofInt 32 16))
    (IntOp.cmpi .sge _ (BitVec.ofInt 32 0))) (IntOp.cmpi .slt _ (BitVec.ofInt 32 128)) = _
  rw [sge_small _ 16 (by omega) (by omega) (by omega) (by omega), sge_small _ 0 (by omega) (by omega) (by omega) (by omega),
    slt_small _ 128 (by omega) (by omega) (by omega) (by omega), and_bool, and_bool]
  congr 1
  refine decide_eq_decide.mpr ?_
  unfold seen
  omega

theorem t83 (i : S65x128x16.Idx) : val_main_v83 (F := Ideal) i = BitVec.ofBool (decide (seen (i 0).val (i 1).val (368 + (i 2).val))) := by
  have h0 : (i 0).val < 65 := (i 0).isLt
  have h1 : (i 1).val < 128 := (i 1).isLt
  have h2 : (i 2).val < 16 := (i 2).isLt
  rw [val_main_v83_apply, val_main_v82_apply, t81, val_main_c_18_apply]
  show IntOp.cmpi .sge _ (BitVec.ofInt 32 0) = _
  rw [sge_small _ 0 (by omega) (by omega) (by omega) (by omega)]
  congr 1
  refine decide_eq_decide.mpr ?_
  unfold seen
  omega

theorem b1 : Ideal.ofBits FTy.f32 1065353216#32 = ((1 : ℝ) : EReal) := by simp [Ideal.ofBits, Ideal.ieee, -EReal.coe_mul]; norm_num
theorem beighth : Ideal.ofBits FTy.f32 0x3E000000#32 = ((1 / 8 : ℝ) : EReal) := by simp [Ideal.ofBits, Ideal.ieee, -EReal.coe_mul]; norm_num

/-- The slopes. -/
theorem t92 (i : S16.Idx) : val_main_v92 (F := Ideal) i = ((Spec.slope (i 0).val : ℝ) : EReal) := by
  have h0 : (i 0).val < 16 := (i 0).isLt
  rw [val_main_v92_apply, val_main_v91_apply, val_main_v90_apply, val_main_v88_apply, val_main_v89_apply, val_main_v87_apply, val_main_v86_apply,
    val_main_v85_apply, val_main_cst_22_apply, val_main_cst_21_apply, val_main_cst_20_apply, val_main_cst_19_apply]
  show Ideal.pow (Ideal.ofBits FTy.f32 1073741824#32) (Ideal.div (Ideal.ofBits FTy.f32 3238002688#32 * (Ideal.ofBits FTy.f32 1065353216#32
    + (FloatOps.sitofp .f32 (BitVec.ofNat 32 (i 0).val) : Ideal .f32))) (Ideal.ofBits FTy.f32 1098907648#32)) = _
  rw [o (i 0).val, sitofp_small _ (by omega) (by omega), b2, bm8, b1, b16, ← EReal.coe_add, ← EReal.coe_mul, div_real _ (by norm_num), Ideal.pow_coe_coe]
  unfold Spec.slope
  norm_cast

theorem t94 (i : S2x8x1x1.Idx) : val_main_v94 (F := Ideal) i = ((Spec.slope ((i 0).val * 8 + (i 1).val) : ℝ) : EReal) := by
  rw [val_main_v94_apply, val_main_v93_apply, t92]

/-- The penalties, where the key is seen. -/
theorem t100 (i : S65x2x8x128x256.Idx) (h : seen (i 0).val (i 3).val (i 4).val) : val_main_v100 (F := Ideal) i
    = ((Spec.slope ((i 1).val * 8 + (i 2).val) * Spec.dist (i 0).val (i 3).val (i 4).val : ℝ) : EReal) := by
  have h0 : (i 0).val < 65 := (i 0).isLt
  have h3 : (i 3).val < 128 := (i 3).isLt
  have h4 : (i 4).val < 256 := (i 4).isLt
  rw [val_main_v100_apply, val_main_v98_apply, val_main_v97_apply, val_main_v99_apply, val_main_v96_apply, val_main_v95_apply, t94, t65]
  show _ * (FloatOps.sitofp .f32 (BitVec.ofInt 32 (((i 0).val * 128 + (i 3).val - 112 : ℤ) - (((i 0).val - 1) * 128 + (i 4).val - 112 : ℤ))) : Ideal .f32) = _
  rw [sitofp_small _ (by omega) (by omega), EReal.coe_mul]
  have e : ((i 0).val * 128 + (i 3).val - 112 : ℤ) - (((i 0).val - 1) * 128 + (i 4).val - 112 : ℤ) = (Spec.dist (i 0).val (i 3).val (i 4).val : ℤ) := by
    unfold seen at h
    unfold Spec.dist
    rw [if_pos h4]
    omega
  rw [e]
  norm_cast

theorem t108 (i : S65x2x8x128x16.Idx) (h : seen (i 0).val (i 3).val (368 + (i 4).val)) : val_main_v108 (F := Ideal) i
    = ((Spec.slope ((i 1).val * 8 + (i 2).val) * Spec.dist (i 0).val (i 3).val (368 + (i 4).val) : ℝ) : EReal) := by
  have h0 : (i 0).val < 65 := (i 0).isLt
  have h3 : (i 3).val < 128 := (i 3).isLt
  have h4 : (i 4).val < 16 := (i 4).isLt
  rw [val_main_v108_apply, val_main_v106_apply, val_main_v105_apply, val_main_v107_apply, val_main_v104_apply, val_main_v103_apply, val_main_v102_apply,
    val_main_v101_apply, t94, t81, val_main_c_23_apply]
  show _ * (FloatOps.sitofp .f32 (IntOp.minsi (BitVec.ofInt 32 (((i 0).val * 128 + (i 3).val - 112 : ℤ) - ((i 4).val : ℤ))) (BitVec.ofInt 32 128)) : Ideal .f32) = _
  rw [min_small _ _ (by omega) (by omega) (by omega) (by omega), sitofp_small _ (by omega) (by omega), EReal.coe_mul]
  have e : min (((i 0).val * 128 + (i 3).val - 112 : ℤ) - ((i 4).val : ℤ)) 128 = (Spec.dist (i 0).val (i 3).val (368 + (i 4).val) : ℤ) := by
    unfold seen at h
    unfold Spec.dist
    rw [if_neg (by omega)]
    omega
  rw [e]
  norm_cast

end Cert.ReferenceIdeal.Ref
end
-- ==== Proof.RefSoft.lean ====
/- The reference's scores, their maxima and the probabilities. -/
module

public import proofs.«01_k».proof.Proof.RefMask
public import proofs.«01_k».proof.Proof.KRead

@[expose] public section

set_option maxRecDepth 16384

noncomputable section

namespace Cert.ReferenceIdeal.Ref

open Idealize.ShloMosaic Cert.ReferenceIdeal Cert.ReferenceIdeal.Gen Cert.ReferenceIdeal.Read Cert.Row Cert.Spec
open Cert.KernelIdeal.Val (select_bool neg_inf)

theorem real_eq {x y : ℝ} (h : x = y) : (x : EReal) = (y : EReal) := by rw [h]

/-- A seen key's row and its query's row are not among the first 112. -/
theorem kb_seen (P : ℕ → ℕ → ℝ) {b r c : ℕ} (h : seen b r c) (hc : c < 256) (j : ℕ) : kb P b c j = P (key b c) j := by
  unfold seen at h
  unfold kb zr key
  rw [if_neg (by omega), if_neg (by split_ifs <;> omega)]

theorem zr_seen (P : ℕ → ℕ → ℝ) {b r c : ℕ} (h : seen b r c) (j : ℕ) : zr P (b * 128 + r) j = P (b * 128 + r) j := by
  unfold seen at h
  unfold zr
  rw [if_neg (by omega)]

theorem head_kv (kv g : ℕ) (hg : g < 8) : (kv * 8 + g) / 8 = kv := by omega

/-- The sum over a block's columns is the one over the band and the one over the meta columns. -/
theorem sum384 (f : ℕ → ℝ) (h : ∀ c, 256 ≤ c → c < 368 → f c = 0) : ∑ c : Fin 384, f c = ∑ c : Fin 256, f c + ∑ m : Fin 16, f (368 + m) := by
  rw [Fin.sum_univ_eq_sum_range f 384, Fin.sum_univ_eq_sum_range f 256, Fin.sum_univ_eq_sum_range (fun m => f (368 + m)) 16,
    show (384 : ℕ) = 256 + 112 + 16 from rfl, Finset.sum_range_add, Finset.sum_range_add, Finset.sum_eq_zero (s := Finset.range 112), add_zero]
  intro x hx
  have := Finset.mem_range.mp hx
  exact h _ (by omega) (by omega)

theorem gap {b r c : ℕ} (h : 256 ≤ c) (h' : c < 368) : ¬ seen b r c := by unfold seen; omega

/-- A maximum over finitely many values is one of them. -/
theorem attained {n : ℕ} [NeZero n] (f : Fin n → EReal) : ∃ k, f k = Finset.univ.fold max ⊥ f := by
  obtain ⟨k, _, hk⟩ := Finset.exists_mem_eq_sup (Finset.univ : Finset (Fin n)) Finset.univ_nonempty f
  exact ⟨k, hk.symm⟩

/-- One where two values agree, zero elsewhere. -/
def hit (x y : Ideal .f32) : Ideal .f32 := FloatOps.uitofp .f32 (FloatOps.cmpf .oeq x y)

theorem hit_eq (x y : Ideal .f32) : hit x y = (FloatOps.uitofp .f32 (BitVec.ofBool (decide (x = y))) : Ideal .f32) := rfl

/-- The number of columns attaining a row's maximum is not zero. -/
theorem count_pos {n : ℕ} [NeZero n] (f : Fin n → EReal) : ∃ y : ℝ, y ≠ 0 ∧
    ∑ k, hit (f k) (Finset.univ.fold max ⊥ f) = (y : EReal) := by
  have e : ∀ k, hit (f k) (Finset.univ.fold max ⊥ f)
      = (((if f k = Finset.univ.fold max ⊥ f then 1 else 0 : ℝ)) : EReal) := by
    intro k
    rw [hit_eq]
    by_cases h : f k = Finset.univ.fold max ⊥ f
    · rw [if_pos h, decide_eq_true h]
      show (((BitVec.ofBool true).toNat : ℝ) : EReal) = _
      simp
    · rw [if_neg h, decide_eq_false h]
      show (((BitVec.ofBool false).toNat : ℝ) : EReal) = _
      simp
  refine ⟨∑ k, if f k = Finset.univ.fold max ⊥ f then 1 else 0, ?_, (Finset.sum_congr rfl fun k _ => e k).trans (coe_sum _ _)⟩
  obtain ⟨k, hk⟩ := attained f
  refine (Finset.sum_pos' (fun j _ => ?_) ⟨k, Finset.mem_univ _, ?_⟩).ne'
  · split <;> norm_num
  · rw [if_pos hk]; norm_num

variable {x0 : A0} {x1 : A1} {x2 : A2} {P D : ℕ → ℕ → ℝ} {σ : ℕ → ℝ} (H : Args x0 x1 x2 P D σ)

include H

theorem r33 (i : S65x2x8x128x256.Idx) : val_main_v33 (F := Ideal) x0 i
    = (((∑ d : Fin 64, kb P (i 0).val (i 4).val (3072 + ((i 1).val * 64 + d)) * zr P ((i 0).val * 128 + (i 3).val) (2048 + (((i 1).val * 8 + (i 2).val) * 64 + d))) * (1 / 8) : ℝ) : EReal) := by
  rw [val_main_v33_apply, val_main_v31_apply, val_main_v32_apply, val_main_cst_9_apply, val_main_v30_apply]
  refine (congrArg₂ (fun x y : EReal => x * y) ((Finset.sum_congr rfl fun d _ => ?_).trans (coe_sum _ _)) beighth).trans (EReal.coe_mul _ _).symm
  rw [r22 H, r9 H]
  exact (EReal.coe_mul _ _).symm

theorem r37 (i : S65x2x8x128x16.Idx) : val_main_v37 (F := Ideal) x0 i
    = (((∑ d : Fin 64, P (112 + (i 4).val) (3072 + ((i 1).val * 64 + d)) * zr P ((i 0).val * 128 + (i 3).val) (2048 + (((i 1).val * 8 + (i 2).val) * 64 + d))) * (1 / 8) : ℝ) : EReal) := by
  rw [val_main_v37_apply, val_main_v35_apply, val_main_v36_apply, val_main_cst_10_apply, val_main_v34_apply]
  refine (congrArg₂ (fun x y : EReal => x * y) ((Finset.sum_congr rfl fun d _ => ?_).trans (coe_sum _ _)) beighth).trans (EReal.coe_mul _ _).symm
  rw [r28 H, r9 H]
  exact (EReal.coe_mul _ _).symm

/-- The masked scores of the band. -/
theorem r111 (i : S65x2x8x128x256.Idx) : val_main_v111_0 (F := Ideal) x0 i
    = sc (seen (i 0).val (i 3).val (i 4).val) (s P (i 0).val ((i 1).val * 8 + (i 2).val) (i 3).val (i 4).val) := by
  have h2 : (i 2).val < 8 := (i 2).isLt
  have h4 : (i 4).val < 256 := (i 4).isLt
  rw [val_main_v111_0_apply, val_main_v111_1_apply, val_main_v109_apply, t75, val_main_call0_v2_apply, val_main_call0_v0_apply, val_main_cst_24_apply]
  refine (select_bool (seen (i 0).val (i 3).val (i 4).val) _ _).trans ?_
  unfold sc
  by_cases h : seen (i 0).val (i 3).val (i 4).val
  · rw [if_pos h, if_pos h, val_main_v110_apply, r33 H, t100 i h]
    refine (EReal.coe_sub _ _).symm.trans (real_eq ?_)
    unfold s Spec.q Spec.k
    rw [sub_eq_add_neg, head_kv _ _ h2]
    congr 2
    refine Finset.sum_congr rfl fun d _ => ?_
    rw [kb_seen P h h4, zr_seen P h, mul_comm]
  · rw [if_neg h, if_neg h]
    exact neg_inf

/-- The masked scores of the meta columns. -/
theorem r114 (i : S65x2x8x128x16.Idx) : val_main_v114_0 (F := Ideal) x0 i
    = sc (seen (i 0).val (i 3).val (368 + (i 4).val)) (s P (i 0).val ((i 1).val * 8 + (i 2).val) (i 3).val (368 + (i 4).val)) := by
  have h2 : (i 2).val < 8 := (i 2).isLt
  have h4 : (i 4).val < 16 := (i 4).isLt
  have e : key (i 0).val (368 + (i 4).val) = 112 + (i 4).val := by unfold key; rw [if_neg (by omega), if_neg (by omega)]; omega
  rw [val_main_v114_0_apply, val_main_v114_1_apply, val_main_v112_apply, t83, val_main_call1_v2_apply, val_main_call1_v0_apply, val_main_cst_25_apply]
  refine (select_bool (seen (i 0).val (i 3).val (368 + (i 4).val)) _ _).trans ?_
  unfold sc
  by_cases h : seen (i 0).val (i 3).val (368 + (i 4).val)
  · rw [if_pos h, if_pos h, val_main_v113_apply, r37 H, t108 i h]
    refine (EReal.coe_sub _ _).symm.trans (real_eq ?_)
    unfold s Spec.q Spec.k
    rw [sub_eq_add_neg, head_kv _ _ h2, e]
    congr 2
    refine Finset.sum_congr rfl fun d _ => ?_
    rw [zr_seen P h, mul_comm]
  · rw [if_neg h, if_neg h]
    exact neg_inf

/-- The largest score of a row over the band, and over the meta columns. -/
def Fb (P : ℕ → ℕ → ℝ) (b kv g r : ℕ) : EReal := Finset.univ.fold max ⊥ fun c : Fin 256 => sc (seen b r c) (s P b (kv * 8 + g) r c)
def Fm (P : ℕ → ℕ → ℝ) (b kv g r : ℕ) : EReal := Finset.univ.fold max ⊥ fun c : Fin 16 => sc (seen b r (368 + c)) (s P b (kv * 8 + g) r (368 + c))

theorem m117 (i : S65x2x8x128.Idx) : val_main_v117 (F := Ideal) x0 i = Fb P (i 0).val (i 1).val (i 2).val (i 3).val := by
  unfold val_main_v117 Fb
  show Host.reduce (max : EReal → EReal → EReal) _ _ _ _ _ = _
  rw [Host.reduce_eq_fold, Shape.ReducesTo.fold_fiber_r5_a4, val_main_cst_26_apply]
  refine (congrArg (fun z => Finset.fold max z _ _) neg_inf).trans (Finset.fold_congr fun k _ => ?_)
  rw [r111 H]
  rfl

theorem m124 (i : S65x2x8x128.Idx) : val_main_v124 (F := Ideal) x0 i = Fm P (i 0).val (i 1).val (i 2).val (i 3).val := by
  unfold val_main_v124 Fm
  show Host.reduce (max : EReal → EReal → EReal) _ _ _ _ _ = _
  rw [Host.reduce_eq_fold, Shape.ReducesTo.fold_fiber_r5_a4, val_main_cst_28_apply]
  refine (congrArg (fun z => Finset.fold max z _ _) neg_inf).trans (Finset.fold_congr fun k _ => ?_)
  rw [r114 H]
  rfl

theorem m147 (i : S65x2x8x128x1.Idx) : val_main_v147 (F := Ideal) x1 i = ((σ ((i 1).val * 8 + (i 2).val) : ℝ) : EReal) := by
  rw [val_main_v147_apply, val_main_v146_apply, val_main_v116_apply, val_main_v115_apply, H.hσ]

theorem m179 (i : S65x2x8x128x1.Idx) : val_main_v179 (F := Ideal) x1 i = ((σ ((i 1).val * 8 + (i 2).val) : ℝ) : EReal) := by
  rw [val_main_v179_apply, val_main_v178_apply, val_main_v116_apply, val_main_v115_apply, H.hσ]

/-- The shift of every row is a real number. -/
theorem shift : ∃ μ : ℕ → ℕ → ℕ → ℕ → ℝ, ∀ i : S65x2x8x128x1.Idx, val_main_v148 (F := Ideal) x0 x1 i = ((μ (i 0).val (i 1).val (i 2).val (i 3).val : ℝ) : EReal) := by
  have h : ∀ b kv g r : ℕ, ∃ M : ℝ, max (max (Fb P b kv g r) (Fm P b kv g r)) ((σ (kv * 8 + g) : ℝ) : EReal) = (M : EReal) := fun b kv g r =>
    max_real (Row.max_ne_top (fold_max_ne_top _ _ fun c => sc_ne_top _ _) (fold_max_ne_top _ _ fun c => sc_ne_top _ _)) _
  choose μ hμ using h
  refine ⟨μ, fun i => ?_⟩
  rw [val_main_v148_apply, val_main_v131_apply, val_main_v123_apply, val_main_v130_apply, m117 H, m124 H, m147 H]
  exact hμ _ _ _ _

theorem m119 (i : S65x2x8x128x256.Idx) : val_main_v119 (F := Ideal) x0 i = Fb P (i 0).val (i 1).val (i 2).val (i 3).val := by
  have h0 : (i 0).val < 65 := (i 0).isLt
  have h1 : (i 1).val < 2 := (i 1).isLt
  have h2 : (i 2).val < 8 := (i 2).isLt
  have h3 : (i 3).val < 128 := (i 3).isLt
  rw [val_main_v119_apply, val_main_v118_apply, m117 H]
  unfold Fb
  have e0 : (idx_main_v118 (idx_main_v119 i) 0).val = (i 0).val := by
    show (((((i 0).val * 2 + (i 1).val) * 8 + (i 2).val) * 128 + (i 3).val) * 1 + 0) / 2048 = _
    omega
  have e1 : (idx_main_v118 (idx_main_v119 i) 1).val = (i 1).val := by
    show (((((i 0).val * 2 + (i 1).val) * 8 + (i 2).val) * 128 + (i 3).val) * 1 + 0) / 1024 % 2 = _
    omega
  have e2 : (idx_main_v118 (idx_main_v119 i) 2).val = (i 2).val := by
    show (((((i 0).val * 2 + (i 1).val) * 8 + (i 2).val) * 128 + (i 3).val) * 1 + 0) / 128 % 8 = _
    omega
  have e3 : (idx_main_v118 (idx_main_v119 i) 3).val = (i 3).val := by
    show (((((i 0).val * 2 + (i 1).val) * 8 + (i 2).val) * 128 + (i 3).val) * 1 + 0) % 128 = _
    omega
  rw [e0, e1, e2, e3]

theorem r122 (i : S65x2x8x128.Idx) : ∃ y : ℝ, y ≠ 0 ∧ val_main_v122 (F := Ideal) x0 i = (y : EReal) := by
  obtain ⟨y, hy, e⟩ := count_pos fun c : Fin 256 => sc (seen (i 0).val (i 3).val c) (s P (i 0).val ((i 1).val * 8 + (i 2).val) (i 3).val c)
  refine ⟨y, hy, ?_⟩
  rw [val_main_v122_apply, val_main_cst_27_apply, ← e]
  refine (congrArg (· + _) Ideal.ofBits_zero_f32).trans ((zero_add _).trans (Finset.sum_congr rfl fun k _ => ?_))
  rw [val_main_v121_apply, val_main_v120_apply, m119 H, r111 H]
  exact (rfl : FloatOps.uitofp .f32 (FloatOps.cmpf .oeq _ _) = hit _ _)

theorem m126 (i : S65x2x8x128x16.Idx) : val_main_v126 (F := Ideal) x0 i = Fm P (i 0).val (i 1).val (i 2).val (i 3).val := by
  have h0 : (i 0).val < 65 := (i 0).isLt
  have h1 : (i 1).val < 2 := (i 1).isLt
  have h2 : (i 2).val < 8 := (i 2).isLt
  have h3 : (i 3).val < 128 := (i 3).isLt
  rw [val_main_v126_apply, val_main_v125_apply, m124 H]
  unfold Fm
  have e0 : (idx_main_v125 (idx_main_v126 i) 0).val = (i 0).val := by
    show (((((i 0).val * 2 + (i 1).val) * 8 + (i 2).val) * 128 + (i 3).val) * 1 + 0) / 2048 = _
    omega
  have e1 : (idx_main_v125 (idx_main_v126 i) 1).val = (i 1).val := by
    show (((((i 0).val * 2 + (i 1).val) * 8 + (i 2).val) * 128 + (i 3).val) * 1 + 0) / 1024 % 2 = _
    omega
  have e2 : (idx_main_v125 (idx_main_v126 i) 2).val = (i 2).val := by
    show (((((i 0).val * 2 + (i 1).val) * 8 + (i 2).val) * 128 + (i 3).val) * 1 + 0) / 128 % 8 = _
    omega
  have e3 : (idx_main_v125 (idx_main_v126 i) 3).val = (i 3).val := by
    show (((((i 0).val * 2 + (i 1).val) * 8 + (i 2).val) * 128 + (i 3).val) * 1 + 0) % 128 = _
    omega
  rw [e0, e1, e2, e3]

theorem r129 (i : S65x2x8x128.Idx) : ∃ y : ℝ, y ≠ 0 ∧ val_main_v129 (F := Ideal) x0 i = (y : EReal) := by
  obtain ⟨y, hy, e⟩ := count_pos fun c : Fin 16 => sc (seen (i 0).val (i 3).val (368 + c)) (s P (i 0).val ((i 1).val * 8 + (i 2).val) (i 3).val (368 + c))
  refine ⟨y, hy, ?_⟩
  rw [val_main_v129_apply, val_main_cst_29_apply, ← e]
  refine (congrArg (· + _) Ideal.ofBits_zero_f32).trans ((zero_add _).trans (Finset.sum_congr rfl fun k _ => ?_))
  rw [val_main_v128_apply, val_main_v127_apply, m126 H, r114 H]
  exact (rfl : FloatOps.uitofp .f32 (FloatOps.cmpf .oeq _ _) = hit _ _)

variable {μ : ℕ → ℕ → ℕ → ℕ → ℝ} (M : ∀ i : S65x2x8x128x1.Idx, val_main_v148 (F := Ideal) x0 x1 i = ((μ (i 0).val (i 1).val (i 2).val (i 3).val : ℝ) : EReal))

include M

/-- The exponentials, shifted. -/
theorem r169 (i : S65x2x8x128x256.Idx) : val_main_v169 (F := Ideal) x0 x1 i
    = ((E P (i 0).val ((i 1).val * 8 + (i 2).val) (i 3).val (i 4).val * Real.exp (-(μ (i 0).val (i 1).val (i 2).val (i 3).val)) : ℝ) : EReal) := by
  rw [val_main_v169_apply, val_main_v168_apply, val_main_v167_apply, r111 H, M]
  exact exp_sc _ _ _

theorem r172 (i : S65x2x8x128x16.Idx) : val_main_v172 (F := Ideal) x0 x1 i
    = ((E P (i 0).val ((i 1).val * 8 + (i 2).val) (i 3).val (368 + (i 4).val) * Real.exp (-(μ (i 0).val (i 1).val (i 2).val (i 3).val)) : ℝ) : EReal) := by
  rw [val_main_v172_apply, val_main_v171_apply, val_main_v170_apply, r114 H, M]
  exact exp_sc _ _ _

theorem r181 (i : S65x2x8x128x1.Idx) : val_main_v181 (F := Ideal) x0 x1 i
    = ((Real.exp (σ ((i 1).val * 8 + (i 2).val)) * Real.exp (-(μ (i 0).val (i 1).val (i 2).val (i 3).val)) : ℝ) : EReal) := by
  rw [val_main_v181_apply, val_main_v180_apply, m179 H, M]
  exact exp_shift _ _

/-- The rows' sums, shifted. -/
theorem r182 (i : S65x2x8x128x1.Idx) : val_main_v182 (F := Ideal) x0 x1 i
    = ((Z P σ (i 0).val ((i 1).val * 8 + (i 2).val) (i 3).val * Real.exp (-(μ (i 0).val (i 1).val (i 2).val (i 3).val)) : ℝ) : EReal) := by
  rw [val_main_v182_apply, val_main_v177_apply, val_main_v174_apply, val_main_v176_apply, val_main_v173_apply, val_main_v175_apply, val_main_cst_42_apply,
    val_main_cst_43_apply, r181 H M]
  refine (congrArg₂ (fun x y : EReal => x + y + _)
    ((congrArg₂ (fun x y : EReal => x + y) Ideal.ofBits_zero_f32 ((Finset.sum_congr rfl fun c _ => r169 H M _).trans (coe_sum _ _))).trans (zero_add _))
    ((congrArg₂ (fun x y : EReal => x + y) Ideal.ofBits_zero_f32 ((Finset.sum_congr rfl fun c _ => r172 H M _).trans (coe_sum _ _))).trans (zero_add _))).trans ?_
  rw [← EReal.coe_add, ← EReal.coe_add]
  refine real_eq ?_
  unfold Z
  rw [sum384 _ fun c h h' => E_unseen P _ (gap h h')]
  rw [add_mul, add_mul, Finset.sum_mul, Finset.sum_mul]

theorem Zw_ne (b h r : ℕ) (x : ℝ) : Z P σ b h r * Real.exp (-x) ≠ 0 := mul_ne_zero (Z_ne P σ b h r) (Real.exp_ne_zero _)

theorem r184 (i : S65x2x8x128x256.Idx) : val_main_v184 (F := Ideal) x0 x1 i = ((p P σ (i 0).val ((i 1).val * 8 + (i 2).val) (i 3).val (i 4).val : ℝ) : EReal) := by
  rw [val_main_v184_apply, val_main_v183_apply, r169 H M, r182 H M]
  refine (div_real _ (Zw_ne H M _ _ _ _)).trans (real_eq ?_)
  exact mul_div_mul_right _ _ (Real.exp_ne_zero _)

theorem r189 (i : S65x2x8x128x16.Idx) : val_main_v189 (F := Ideal) x0 x1 i = ((p P σ (i 0).val ((i 1).val * 8 + (i 2).val) (i 3).val (368 + (i 4).val) : ℝ) : EReal) := by
  rw [val_main_v189_apply, val_main_v188_apply, r172 H M, r182 H M]
  refine (div_real _ (Zw_ne H M _ _ _ _)).trans (real_eq ?_)
  exact mul_div_mul_right _ _ (Real.exp_ne_zero _)

theorem r187 (i : S65x2x8x128x1.Idx) : val_main_v187 (F := Ideal) x0 x1 i
    = ((1 / ((Z P σ (i 0).val ((i 1).val * 8 + (i 2).val) (i 3).val * Real.exp (-(μ (i 0).val (i 1).val (i 2).val (i 3).val)))
      * (Z P σ (i 0).val ((i 1).val * 8 + (i 2).val) (i 3).val * Real.exp (-(μ (i 0).val (i 1).val (i 2).val (i 3).val)))) : ℝ) : EReal) := by
  rw [val_main_v187_apply, val_main_v185_apply, val_main_v186_apply, val_main_cst_44_apply, r182 H M]
  refine (congrArg₂ Ideal.div b1 (EReal.coe_mul _ _).symm).trans (div_real _ (mul_ne_zero (Zw_ne H M _ _ _ _) (Zw_ne H M _ _ _ _)))

theorem r192 (i : S65x2x8x128x1.Idx) : val_main_v192 (F := Ideal) x0 x1 i
    = ((1 / ((Z P σ (i 0).val ((i 1).val * 8 + (i 2).val) (i 3).val * Real.exp (-(μ (i 0).val (i 1).val (i 2).val (i 3).val)))
      * (Z P σ (i 0).val ((i 1).val * 8 + (i 2).val) (i 3).val * Real.exp (-(μ (i 0).val (i 1).val (i 2).val (i 3).val)))) : ℝ) : EReal) := by
  rw [val_main_v192_apply, val_main_v190_apply, val_main_v191_apply, val_main_cst_45_apply, r182 H M]
  refine (congrArg₂ Ideal.div b1 (EReal.coe_mul _ _).symm).trans (div_real _ (mul_ne_zero (Zw_ne H M _ _ _ _) (Zw_ne H M _ _ _ _)))

end Cert.ReferenceIdeal.Ref
end
-- ==== Proof.RefGrad.lean ====
/- The reference's score gradients and the gradient of the sinks. -/
module

public import proofs.«01_k».proof.Proof.RefSoft

@[expose] public section

set_option maxRecDepth 16384

noncomputable section

namespace Cert.ReferenceIdeal.Ref

open Idealize.ShloMosaic Cert.ReferenceIdeal Cert.ReferenceIdeal.Gen Cert.ReferenceIdeal.Read Cert.Row Cert.Spec
open Cert.KernelIdeal.Val (select_bool neg_inf)

theorem mulR (x y : ℝ) : FloatOps.mulf (F := Ideal) (φ := .f32) (x : EReal) (y : EReal) = ((x * y : ℝ) : EReal) := (EReal.coe_mul _ _).symm
theorem addR (x y : ℝ) : FloatOps.addf (F := Ideal) (φ := .f32) (x : EReal) (y : EReal) = ((x + y : ℝ) : EReal) := (EReal.coe_add _ _).symm
theorem negR (x : ℝ) : FloatOps.hostNegf (F := Ideal) (φ := .f32) (x : EReal) = ((-x : ℝ) : EReal) := (EReal.coe_neg _).symm
theorem divR (x : ℝ) {y : ℝ} (h : y ≠ 0) : FloatOps.hostDivf (F := Ideal) (φ := .f32) (x : EReal) (y : EReal) = ((x / y : ℝ) : EReal) := div_real x h
theorem mul0 (y : Ideal .f32) : FloatOps.mulf (F := Ideal) (φ := .f32) (0 : EReal) y = (0 : EReal) := zero_mul (M₀ := EReal) y
theorem add0 (y : Ideal .f32) : FloatOps.addf (F := Ideal) (φ := .f32) y (0 : EReal) = y := add_zero (M := EReal) y

/-- A sum of real numbers from zero. -/
theorem sum0 {n : ℕ} {z : EReal} (hz : z = 0) {f : Fin n → EReal} {g : Fin n → ℝ} (h : ∀ k, f k = ((g k : ℝ) : EReal)) : z + ∑ k, f k = ((∑ k, g k : ℝ) : EReal) := by
  rw [hz, zero_add, Finset.sum_congr rfl fun k _ => h k, coe_sum]

/-- The products of the output's gradient with a value row, over the band and over the meta columns. -/
def dB (P D : ℕ → ℕ → ℝ) (b kv g r c : ℕ) : ℝ := ∑ d : Fin 64, zr D (b * 128 + r) (1024 + ((kv * 8 + g) * 64 + d)) * kb P b c (3200 + (kv * 64 + d))
def dM (P D : ℕ → ℕ → ℝ) (b kv g r m : ℕ) : ℝ := ∑ d : Fin 64, zr D (b * 128 + r) (1024 + ((kv * 8 + g) * 64 + d)) * P (112 + m) (3200 + (kv * 64 + d))

theorem dB_seen (P D : ℕ → ℕ → ℝ) {b kv g r c : ℕ} (hg : g < 8) (hc : c < 256) (h : seen b r c) : dB P D b kv g r c = dp P D b (kv * 8 + g) r c := by
  unfold dB dp Spec.o Spec.v
  rw [head_kv _ _ hg]
  refine Finset.sum_congr rfl fun d _ => ?_
  rw [zr_seen D h, kb_seen P h hc]

theorem dM_seen (P D : ℕ → ℕ → ℝ) {b kv g r m : ℕ} (hg : g < 8) (h : seen b r (368 + m)) : dM P D b kv g r m = dp P D b (kv * 8 + g) r (368 + m) := by
  have e : key b (368 + m) = 112 + m := by unfold key; rw [if_neg (by omega), if_neg (by omega)]; omega
  unfold dM dp Spec.o Spec.v
  rw [head_kv _ _ hg, e]
  refine Finset.sum_congr rfl fun d _ => ?_
  rw [zr_seen D h]

/-- Multiplied by an exponential (or a probability), they are the products of the unmasked arrays. -/
theorem dB_E (P D : ℕ → ℕ → ℝ) {b kv g r c : ℕ} (hg : g < 8) (hc : c < 256) : dB P D b kv g r c * E P b (kv * 8 + g) r c = dp P D b (kv * 8 + g) r c * E P b (kv * 8 + g) r c := by
  by_cases h : seen b r c
  · rw [dB_seen P D hg hc h]
  · rw [E_unseen P _ h, mul_zero, mul_zero]

theorem dM_E (P D : ℕ → ℕ → ℝ) {b kv g r m : ℕ} (hg : g < 8) : dM P D b kv g r m * E P b (kv * 8 + g) r (368 + m) = dp P D b (kv * 8 + g) r (368 + m) * E P b (kv * 8 + g) r (368 + m) := by
  by_cases h : seen b r (368 + m)
  · rw [dM_seen P D hg h]
  · rw [E_unseen P _ h, mul_zero, mul_zero]

/-- The probabilities of a row and its sink's sum to one. -/
theorem p_sum (P : ℕ → ℕ → ℝ) (σ : ℕ → ℝ) (b h r : ℕ) : ∑ c : Fin 384, p P σ b h r c + ps P σ b h r = 1 := by
  unfold p ps
  rw [← Finset.sum_div, ← add_div]
  exact div_self (Z_ne P σ b h r)

theorem δ_split (P D : ℕ → ℕ → ℝ) (σ : ℕ → ℝ) (b h r : ℕ) :
    δ P D σ b h r = ∑ c : Fin 256, p P σ b h r c * dp P D b h r c + ∑ m : Fin 16, p P σ b h r (368 + m) * dp P D b h r (368 + m) := by
  unfold δ
  exact sum384 (fun c => p P σ b h r c * dp P D b h r c) fun c h1 h2 => by rw [p_unseen P σ h (gap h1 h2), zero_mul]

theorem p_split (P : ℕ → ℕ → ℝ) (σ : ℕ → ℝ) (b h r : ℕ) :
    1 = ∑ c : Fin 256, p P σ b h r c + ∑ m : Fin 16, p P σ b h r (368 + m) + ps P σ b h r := by
  rw [← p_sum P σ b h r, sum384 (fun c => p P σ b h r c) fun c h1 h2 => p_unseen P σ h (gap h1 h2)]

/-- Dropping the last axis of extent one. -/
theorem sq (i : S65x2x8x128x1.Idx) : idx_main_v216 i = idx_main_v174 i := by
  have h0 : (i 0).val < 65 := (i 0).isLt
  have h1 : (i 1).val < 2 := (i 1).isLt
  have h2 : (i 2).val < 8 := (i 2).isLt
  have h3 : (i 3).val < 128 := (i 3).isLt
  have h4 : (i 4).val < 1 := (i 4).isLt
  funext a
  match a with
  | ⟨0, _⟩ => exact Fin.ext (by show (((((i 0).val * 2 + (i 1).val) * 8 + (i 2).val) * 128 + (i 3).val) * 1 + (i 4).val) / 2048 = (i 0).val; omega)
  | ⟨1, _⟩ => exact Fin.ext (by show (((((i 0).val * 2 + (i 1).val) * 8 + (i 2).val) * 128 + (i 3).val) * 1 + (i 4).val) / 1024 % 2 = (i 1).val; omega)
  | ⟨2, _⟩ => exact Fin.ext (by show (((((i 0).val * 2 + (i 1).val) * 8 + (i 2).val) * 128 + (i 3).val) * 1 + (i 4).val) / 128 % 8 = (i 2).val; omega)
  | ⟨3, _⟩ => exact Fin.ext (by show (((((i 0).val * 2 + (i 1).val) * 8 + (i 2).val) * 128 + (i 3).val) * 1 + (i 4).val) % 128 = (i 3).val; omega)

variable {x0 : A0} {x1 : A1} {x2 : A2} {P D : ℕ → ℕ → ℝ} {σ : ℕ → ℝ} (H : Args x0 x1 x2 P D σ)

include H

theorem r203 (i : S2x64x65x8x128.Idx) : val_main_v203 (F := Ideal) x2 i = ((zr D ((i 2).val * 128 + (i 4).val) (1024 + (((i 0).val * 8 + (i 3).val) * 64 + (i 1).val)) : ℝ) : EReal) := by
  rw [val_main_v203_apply, r202 H]

theorem r208 (i : S65x2x64x8x128.Idx) : val_main_v208 (F := Ideal) x2 i = ((zr D ((i 0).val * 128 + (i 4).val) (1024 + (((i 1).val * 8 + (i 3).val) * 64 + (i 2).val)) : ℝ) : EReal) := by
  rw [val_main_v208_apply, r202 H]

theorem r209 (i : S65x2x8x128x256.Idx) : val_main_v209 (F := Ideal) x0 x2 i = ((dB P D (i 0).val (i 1).val (i 2).val (i 3).val (i 4).val : ℝ) : EReal) := by
  rw [val_main_v209_apply]
  refine (Finset.sum_congr rfl fun d _ => ?_).trans (coe_sum _ _)
  rw [r208 H, r27 H]
  exact (EReal.coe_mul _ _).symm

theorem r205 (i : S65x2x8x128x16.Idx) : val_main_v205 (F := Ideal) x0 x2 i = ((dM P D (i 0).val (i 1).val (i 2).val (i 3).val (i 4).val : ℝ) : EReal) := by
  rw [val_main_v205_apply, val_main_v204_apply]
  refine (Finset.sum_congr rfl fun d _ => ?_).trans (coe_sum _ _)
  rw [r203 H, r29 H]
  exact (EReal.coe_mul _ _).symm

variable {μ : ℕ → ℕ → ℕ → ℕ → ℝ} (M : ∀ i : S65x2x8x128x1.Idx, val_main_v148 (F := Ideal) x0 x1 i = ((μ (i 0).val (i 1).val (i 2).val (i 3).val : ℝ) : EReal))

include M

theorem r222 (i : S65x2x8x128x256.Idx) : val_main_v222 (F := Ideal) x0 x1 x2 i
    = ((p P σ (i 0).val ((i 1).val * 8 + (i 2).val) (i 3).val (i 4).val * dp P D (i 0).val ((i 1).val * 8 + (i 2).val) (i 3).val (i 4).val / (Z P σ (i 0).val ((i 1).val * 8 + (i 2).val) (i 3).val * Real.exp (-(μ (i 0).val (i 1).val (i 2).val (i 3).val))) : ℝ) : EReal) := by
  have h2 : (i 2).val < 8 := (i 2).isLt
  have h4 : (i 4).val < 256 := (i 4).isLt
  rw [val_main_v222_apply, val_main_v221_apply, val_main_v220_apply, r209 H, r187 H M, r169 H M, mulR]
  refine (mulR _ _).trans (real_eq ?_)
  have hz := Z_ne P σ (i 0).val ((i 1).val * 8 + (i 2).val) (i 3).val
  have hw := Real.exp_ne_zero (-(μ (i 0).val (i 1).val (i 2).val (i 3).val))
  have e := dB_E P D (b := (i 0).val) (kv := (i 1).val) (r := (i 3).val) h2 h4
  unfold p
  show dB P D (i 0).val (i 1).val (i 2).val (i 3).val (i 4).val * (1 / ((Z P σ (i 0).val ((i 1).val * 8 + (i 2).val) (i 3).val * Real.exp (-(μ (i 0).val (i 1).val (i 2).val (i 3).val))) * (Z P σ (i 0).val ((i 1).val * 8 + (i 2).val) (i 3).val * Real.exp (-(μ (i 0).val (i 1).val (i 2).val (i 3).val))))) * (E P (i 0).val ((i 1).val * 8 + (i 2).val) (i 3).val (i 4).val * Real.exp (-(μ (i 0).val (i 1).val (i 2).val (i 3).val))) = _
  calc dB P D (i 0).val (i 1).val (i 2).val (i 3).val (i 4).val * (1 / ((Z P σ (i 0).val ((i 1).val * 8 + (i 2).val) (i 3).val * Real.exp (-(μ (i 0).val (i 1).val (i 2).val (i 3).val))) * (Z P σ (i 0).val ((i 1).val * 8 + (i 2).val) (i 3).val * Real.exp (-(μ (i 0).val (i 1).val (i 2).val (i 3).val))))) * (E P (i 0).val ((i 1).val * 8 + (i 2).val) (i 3).val (i 4).val * Real.exp (-(μ (i 0).val (i 1).val (i 2).val (i 3).val)))
      = (dB P D (i 0).val (i 1).val (i 2).val (i 3).val (i 4).val * E P (i 0).val ((i 1).val * 8 + (i 2).val) (i 3).val (i 4).val) * (Real.exp (-(μ (i 0).val (i 1).val (i 2).val (i 3).val)) / ((Z P σ (i 0).val ((i 1).val * 8 + (i 2).val) (i 3).val * Real.exp (-(μ (i 0).val (i 1).val (i 2).val (i 3).val))) * (Z P σ (i 0).val ((i 1).val * 8 + (i 2).val) (i 3).val * Real.exp (-(μ (i 0).val (i 1).val (i 2).val (i 3).val))))) := by ring
    _ = E P (i 0).val ((i 1).val * 8 + (i 2).val) (i 3).val (i 4).val / Z P σ (i 0).val ((i 1).val * 8 + (i 2).val) (i 3).val * dp P D (i 0).val ((i 1).val * 8 + (i 2).val) (i 3).val (i 4).val / (Z P σ (i 0).val ((i 1).val * 8 + (i 2).val) (i 3).val * Real.exp (-(μ (i 0).val (i 1).val (i 2).val (i 3).val))) := by rw [e]; field_simp

theorem r225 (i : S65x2x8x128x1.Idx) : val_main_v225 (F := Ideal) x0 x1 x2 i
    = ((-(∑ c : Fin 256, p P σ (i 0).val ((i 1).val * 8 + (i 2).val) (i 3).val c * dp P D (i 0).val ((i 1).val * 8 + (i 2).val) (i 3).val c / (Z P σ (i 0).val ((i 1).val * 8 + (i 2).val) (i 3).val * Real.exp (-(μ (i 0).val (i 1).val (i 2).val (i 3).val)))) : ℝ) : EReal) := by
  rw [val_main_v225_apply, val_main_v224_apply, show idx_main_v224 i = idx_main_v174 i from sq i, val_main_v223_apply, val_main_cst_48_apply]
  exact (congrArg (FloatOps.hostNegf (F := Ideal) (φ := .f32)) (sum0 Ideal.ofBits_zero_f32 fun k => r222 H M _)).trans (negR _)

theorem r214 (i : S65x2x8x128x16.Idx) : val_main_v214 (F := Ideal) x0 x1 x2 i
    = ((p P σ (i 0).val ((i 1).val * 8 + (i 2).val) (i 3).val (368 + (i 4).val) * dp P D (i 0).val ((i 1).val * 8 + (i 2).val) (i 3).val (368 + (i 4).val) / (Z P σ (i 0).val ((i 1).val * 8 + (i 2).val) (i 3).val * Real.exp (-(μ (i 0).val (i 1).val (i 2).val (i 3).val))) : ℝ) : EReal) := by
  have h2 : (i 2).val < 8 := (i 2).isLt
  have h4 : (i 4).val < 16 := (i 4).isLt
  rw [val_main_v214_apply, val_main_v213_apply, val_main_v212_apply, r205 H, r192 H M, r172 H M, mulR]
  refine (mulR _ _).trans (real_eq ?_)
  have hz := Z_ne P σ (i 0).val ((i 1).val * 8 + (i 2).val) (i 3).val
  have hw := Real.exp_ne_zero (-(μ (i 0).val (i 1).val (i 2).val (i 3).val))
  have e := dM_E P D (b := (i 0).val) (kv := (i 1).val) (r := (i 3).val) (m := (i 4).val) h2
  unfold p
  show dM P D (i 0).val (i 1).val (i 2).val (i 3).val (i 4).val * (1 / ((Z P σ (i 0).val ((i 1).val * 8 + (i 2).val) (i 3).val * Real.exp (-(μ (i 0).val (i 1).val (i 2).val (i 3).val))) * (Z P σ (i 0).val ((i 1).val * 8 + (i 2).val) (i 3).val * Real.exp (-(μ (i 0).val (i 1).val (i 2).val (i 3).val))))) * (E P (i 0).val ((i 1).val * 8 + (i 2).val) (i 3).val (368 + (i 4).val) * Real.exp (-(μ (i 0).val (i 1).val (i 2).val (i 3).val))) = _
  calc dM P D (i 0).val (i 1).val (i 2).val (i 3).val (i 4).val * (1 / ((Z P σ (i 0).val ((i 1).val * 8 + (i 2).val) (i 3).val * Real.exp (-(μ (i 0).val (i 1).val (i 2).val (i 3).val))) * (Z P σ (i 0).val ((i 1).val * 8 + (i 2).val) (i 3).val * Real.exp (-(μ (i 0).val (i 1).val (i 2).val (i 3).val))))) * (E P (i 0).val ((i 1).val * 8 + (i 2).val) (i 3).val (368 + (i 4).val) * Real.exp (-(μ (i 0).val (i 1).val (i 2).val (i 3).val)))
      = (dM P D (i 0).val (i 1).val (i 2).val (i 3).val (i 4).val * E P (i 0).val ((i 1).val * 8 + (i 2).val) (i 3).val (368 + (i 4).val)) * (Real.exp (-(μ (i 0).val (i 1).val (i 2).val (i 3).val)) / ((Z P σ (i 0).val ((i 1).val * 8 + (i 2).val) (i 3).val * Real.exp (-(μ (i 0).val (i 1).val (i 2).val (i 3).val))) * (Z P σ (i 0).val ((i 1).val * 8 + (i 2).val) (i 3).val * Real.exp (-(μ (i 0).val (i 1).val (i 2).val (i 3).val))))) := by ring
    _ = E P (i 0).val ((i 1).val * 8 + (i 2).val) (i 3).val (368 + (i 4).val) / Z P σ (i 0).val ((i 1).val * 8 + (i 2).val) (i 3).val * dp P D (i 0).val ((i 1).val * 8 + (i 2).val) (i 3).val (368 + (i 4).val) / (Z P σ (i 0).val ((i 1).val * 8 + (i 2).val) (i 3).val * Real.exp (-(μ (i 0).val (i 1).val (i 2).val (i 3).val))) := by rw [e]; field_simp

theorem r217 (i : S65x2x8x128x1.Idx) : val_main_v217 (F := Ideal) x0 x1 x2 i
    = ((-(∑ c : Fin 16, p P σ (i 0).val ((i 1).val * 8 + (i 2).val) (i 3).val (368 + c) * dp P D (i 0).val ((i 1).val * 8 + (i 2).val) (i 3).val (368 + c) / (Z P σ (i 0).val ((i 1).val * 8 + (i 2).val) (i 3).val * Real.exp (-(μ (i 0).val (i 1).val (i 2).val (i 3).val)))) : ℝ) : EReal) := by
  rw [val_main_v217_apply, val_main_v216_apply, show idx_main_v216 i = idx_main_v174 i from sq i, val_main_v215_apply, val_main_cst_47_apply]
  exact (congrArg (FloatOps.hostNegf (F := Ideal) (φ := .f32)) (sum0 Ideal.ofBits_zero_f32 fun k => r214 H M _)).trans (negR _)

/-- Minus a row's mean gradient, over its sum. -/
theorem r226 (i : S65x2x8x128x1.Idx) : val_main_v226 (F := Ideal) x0 x1 x2 i
    = ((-(δ P D σ (i 0).val ((i 1).val * 8 + (i 2).val) (i 3).val / (Z P σ (i 0).val ((i 1).val * 8 + (i 2).val) (i 3).val * Real.exp (-(μ (i 0).val (i 1).val (i 2).val (i 3).val)))) : ℝ) : EReal) := by
  rw [val_main_v226_apply, r217 H M, r225 H M]
  refine (addR _ _).trans (real_eq ?_)
  rw [← Finset.sum_div, ← Finset.sum_div, δ_split, add_div]
  ring

theorem r229 (i : S65x2x8x128x1.Idx) : val_main_v229 (F := Ideal) x0 x1 x2 i
    = ((-(ps P σ (i 0).val ((i 1).val * 8 + (i 2).val) (i 3).val * δ P D σ (i 0).val ((i 1).val * 8 + (i 2).val) (i 3).val) : ℝ) : EReal) := by
  rw [val_main_v229_apply, r226 H M, r181 H M]
  refine (mulR _ _).trans (real_eq ?_)
  have hz := Z_ne P σ (i 0).val ((i 1).val * 8 + (i 2).val) (i 3).val
  have hw := Real.exp_ne_zero (-(μ (i 0).val (i 1).val (i 2).val (i 3).val))
  unfold ps
  field_simp

theorem r246 (i : S65x2x8x128x256.Idx) : val_main_v246 (F := Ideal) x0 x1 x2 i
    = ((p P σ (i 0).val ((i 1).val * 8 + (i 2).val) (i 3).val (i 4).val * (dp P D (i 0).val ((i 1).val * 8 + (i 2).val) (i 3).val (i 4).val - δ P D σ (i 0).val ((i 1).val * 8 + (i 2).val) (i 3).val) : ℝ) : EReal) := by
  have h2 : (i 2).val < 8 := (i 2).isLt
  have h4 : (i 4).val < 256 := (i 4).isLt
  rw [val_main_v246_apply, val_main_v240_apply, val_main_v228_apply, val_main_v227_apply, val_main_v239_apply, val_main_v238_apply, val_main_cst_52_apply, r209 H, r182 H M, r169 H M,
    divR _ (Zw_ne H M _ _ _ _)]
  refine (congrArg (fun z => FloatOps.mulf (F := Ideal) (φ := .f32) (FloatOps.addf (F := Ideal) (φ := .f32) _ z) _) (sum0 Ideal.ofBits_zero_f32 fun k => r226 H M _)).trans ?_
  rw [addR]
  refine (mulR _ _).trans (real_eq ?_)
  rw [Fin.sum_univ_one]
  have hz := Z_ne P σ (i 0).val ((i 1).val * 8 + (i 2).val) (i 3).val
  have hw := Real.exp_ne_zero (-(μ (i 0).val (i 1).val (i 2).val (i 3).val))
  have e := dB_E P D (b := (i 0).val) (kv := (i 1).val) (r := (i 3).val) h2 h4
  unfold p
  show (dB P D (i 0).val (i 1).val (i 2).val (i 3).val (i 4).val / (Z P σ (i 0).val ((i 1).val * 8 + (i 2).val) (i 3).val * Real.exp (-(μ (i 0).val (i 1).val (i 2).val (i 3).val))) + -(δ P D σ (i 0).val ((i 1).val * 8 + (i 2).val) (i 3).val / (Z P σ (i 0).val ((i 1).val * 8 + (i 2).val) (i 3).val * Real.exp (-(μ (i 0).val (i 1).val (i 2).val (i 3).val))))) * (E P (i 0).val ((i 1).val * 8 + (i 2).val) (i 3).val (i 4).val * Real.exp (-(μ (i 0).val (i 1).val (i 2).val (i 3).val))) = _
  calc (dB P D (i 0).val (i 1).val (i 2).val (i 3).val (i 4).val / (Z P σ (i 0).val ((i 1).val * 8 + (i 2).val) (i 3).val * Real.exp (-(μ (i 0).val (i 1).val (i 2).val (i 3).val))) + -(δ P D σ (i 0).val ((i 1).val * 8 + (i 2).val) (i 3).val / (Z P σ (i 0).val ((i 1).val * 8 + (i 2).val) (i 3).val * Real.exp (-(μ (i 0).val (i 1).val (i 2).val (i 3).val))))) * (E P (i 0).val ((i 1).val * 8 + (i 2).val) (i 3).val (i 4).val * Real.exp (-(μ (i 0).val (i 1).val (i 2).val (i 3).val)))
      = (dB P D (i 0).val (i 1).val (i 2).val (i 3).val (i 4).val * E P (i 0).val ((i 1).val * 8 + (i 2).val) (i 3).val (i 4).val - δ P D σ (i 0).val ((i 1).val * 8 + (i 2).val) (i 3).val * E P (i 0).val ((i 1).val * 8 + (i 2).val) (i 3).val (i 4).val) * (Real.exp (-(μ (i 0).val (i 1).val (i 2).val (i 3).val)) / (Z P σ (i 0).val ((i 1).val * 8 + (i 2).val) (i 3).val * Real.exp (-(μ (i 0).val (i 1).val (i 2).val (i 3).val)))) := by ring
    _ = E P (i 0).val ((i 1).val * 8 + (i 2).val) (i 3).val (i 4).val / Z P σ (i 0).val ((i 1).val * 8 + (i 2).val) (i 3).val * (dp P D (i 0).val ((i 1).val * 8 + (i 2).val) (i 3).val (i 4).val - δ P D σ (i 0).val ((i 1).val * 8 + (i 2).val) (i 3).val) := by rw [e]; field_simp

theorem r249 (i : S65x2x8x128x1.Idx) : val_main_v249 (F := Ideal) x0 x1 x2 i
    = ((∑ c : Fin 256, -(p P σ (i 0).val ((i 1).val * 8 + (i 2).val) (i 3).val c * (dp P D (i 0).val ((i 1).val * 8 + (i 2).val) (i 3).val c - δ P D σ (i 0).val ((i 1).val * 8 + (i 2).val) (i 3).val)) : ℝ) : EReal) := by
  rw [val_main_v249_apply, show idx_main_v249 i = idx_main_v174 i from sq i, val_main_v248_apply, val_main_cst_54_apply]
  exact sum0 Ideal.ofBits_zero_f32 fun k => by
    rw [val_main_v247_apply, r246 H M]
    exact negR _

theorem r241 (i : S65x2x8x128x16.Idx) : val_main_v241 (F := Ideal) x0 x1 x2 i
    = ((p P σ (i 0).val ((i 1).val * 8 + (i 2).val) (i 3).val (368 + (i 4).val) * (dp P D (i 0).val ((i 1).val * 8 + (i 2).val) (i 3).val (368 + (i 4).val) - δ P D σ (i 0).val ((i 1).val * 8 + (i 2).val) (i 3).val) : ℝ) : EReal) := by
  have h2 : (i 2).val < 8 := (i 2).isLt
  have h4 : (i 4).val < 16 := (i 4).isLt
  rw [val_main_v241_apply, val_main_v237_apply, val_main_v219_apply, val_main_v218_apply, val_main_v236_apply, val_main_v235_apply, val_main_cst_51_apply, r205 H, r182 H M, r172 H M,
    divR _ (Zw_ne H M _ _ _ _)]
  refine (congrArg (fun z => FloatOps.mulf (F := Ideal) (φ := .f32) (FloatOps.addf (F := Ideal) (φ := .f32) _ z) _) (sum0 Ideal.ofBits_zero_f32 fun k => r226 H M _)).trans ?_
  rw [addR]
  refine (mulR _ _).trans (real_eq ?_)
  rw [Fin.sum_univ_one]
  have hz := Z_ne P σ (i 0).val ((i 1).val * 8 + (i 2).val) (i 3).val
  have hw := Real.exp_ne_zero (-(μ (i 0).val (i 1).val (i 2).val (i 3).val))
  have e := dM_E P D (b := (i 0).val) (kv := (i 1).val) (r := (i 3).val) (m := (i 4).val) h2
  unfold p
  show (dM P D (i 0).val (i 1).val (i 2).val (i 3).val (i 4).val / (Z P σ (i 0).val ((i 1).val * 8 + (i 2).val) (i 3).val * Real.exp (-(μ (i 0).val (i 1).val (i 2).val (i 3).val))) + -(δ P D σ (i 0).val ((i 1).val * 8 + (i 2).val) (i 3).val / (Z P σ (i 0).val ((i 1).val * 8 + (i 2).val) (i 3).val * Real.exp (-(μ (i 0).val (i 1).val (i 2).val (i 3).val))))) * (E P (i 0).val ((i 1).val * 8 + (i 2).val) (i 3).val (368 + (i 4).val) * Real.exp (-(μ (i 0).val (i 1).val (i 2).val (i 3).val))) = _
  calc (dM P D (i 0).val (i 1).val (i 2).val (i 3).val (i 4).val / (Z P σ (i 0).val ((i 1).val * 8 + (i 2).val) (i 3).val * Real.exp (-(μ (i 0).val (i 1).val (i 2).val (i 3).val))) + -(δ P D σ (i 0).val ((i 1).val * 8 + (i 2).val) (i 3).val / (Z P σ (i 0).val ((i 1).val * 8 + (i 2).val) (i 3).val * Real.exp (-(μ (i 0).val (i 1).val (i 2).val (i 3).val))))) * (E P (i 0).val ((i 1).val * 8 + (i 2).val) (i 3).val (368 + (i 4).val) * Real.exp (-(μ (i 0).val (i 1).val (i 2).val (i 3).val)))
      = (dM P D (i 0).val (i 1).val (i 2).val (i 3).val (i 4).val * E P (i 0).val ((i 1).val * 8 + (i 2).val) (i 3).val (368 + (i 4).val) - δ P D σ (i 0).val ((i 1).val * 8 + (i 2).val) (i 3).val * E P (i 0).val ((i 1).val * 8 + (i 2).val) (i 3).val (368 + (i 4).val)) * (Real.exp (-(μ (i 0).val (i 1).val (i 2).val (i 3).val)) / (Z P σ (i 0).val ((i 1).val * 8 + (i 2).val) (i 3).val * Real.exp (-(μ (i 0).val (i 1).val (i 2).val (i 3).val)))) := by ring
    _ = E P (i 0).val ((i 1).val * 8 + (i 2).val) (i 3).val (368 + (i 4).val) / Z P σ (i 0).val ((i 1).val * 8 + (i 2).val) (i 3).val * (dp P D (i 0).val ((i 1).val * 8 + (i 2).val) (i 3).val (368 + (i 4).val) - δ P D σ (i 0).val ((i 1).val * 8 + (i 2).val) (i 3).val) := by rw [e]; field_simp

theorem r244 (i : S65x2x8x128x1.Idx) : val_main_v244 (F := Ideal) x0 x1 x2 i
    = ((∑ c : Fin 16, -(p P σ (i 0).val ((i 1).val * 8 + (i 2).val) (i 3).val (368 + c) * (dp P D (i 0).val ((i 1).val * 8 + (i 2).val) (i 3).val (368 + c) - δ P D σ (i 0).val ((i 1).val * 8 + (i 2).val) (i 3).val)) : ℝ) : EReal) := by
  rw [val_main_v244_apply, show idx_main_v244 i = idx_main_v174 i from sq i, val_main_v243_apply, val_main_cst_53_apply]
  exact sum0 Ideal.ofBits_zero_f32 fun k => by
    rw [val_main_v242_apply, r241 H M]
    exact negR _

/-- The gradient through the shift is zero. -/
theorem r250 (i : S65x2x8x128x1.Idx) : val_main_v250 (F := Ideal) x0 x1 x2 i = (0 : EReal) := by
  rw [val_main_v250_apply, val_main_v245_apply, val_main_v232_apply, r229 H M, r244 H M, r249 H M, negR, addR]
  refine (addR _ _).trans ((real_eq ?_).trans EReal.coe_zero)
  have e1 := δ_split P D σ (i 0).val ((i 1).val * 8 + (i 2).val) (i 3).val
  have e2 := p_split P σ (i 0).val ((i 1).val * 8 + (i 2).val) (i 3).val
  simp only [mul_sub, neg_sub, Finset.sum_sub_distrib, ← Finset.sum_mul]
  linear_combination (-(δ P D σ (i 0).val ((i 1).val * 8 + (i 2).val) (i 3).val)) * e2 + e1

theorem r254 (i : S65x2x8x128x1.Idx) : val_main_v254 (F := Ideal) x0 x1 x2 i = (0 : EReal) := by
  rw [val_main_v254_apply, r250 H M]
  exact mul0 _

theorem r263 (i : S65x2x8x128x16.Idx) : val_main_v263 (F := Ideal) x0 x1 x2 i = (0 : EReal) := by
  have e : val_main_v261 (F := Ideal) x0 x1 x2 (idx_main_v262 i) = (0 : EReal) := by
    obtain ⟨y, hy, ey⟩ := r129 H (idx_main_v262 i)
    rw [val_main_v261_apply, val_main_v260_apply, val_main_cst_57_apply, ey]
    refine (congrArg (fun z => FloatOps.hostDivf (F := Ideal) (φ := .f32) z _) (sum0 (g := fun _ => 0) Ideal.ofBits_zero_f32 fun k => ?_)).trans ((divR _ hy).trans ?_)
    · rw [val_main_v258_apply, r254 H M]
      exact (mul0 _).trans EReal.coe_zero.symm
    · rw [Fin.sum_univ_one, zero_div, EReal.coe_zero]
  rw [val_main_v263_apply, val_main_v262_apply, e]
  exact mul0 _

theorem r268 (i : S65x2x8x128x256.Idx) : val_main_v268 (F := Ideal) x0 x1 x2 i = (0 : EReal) := by
  have e : val_main_v266 (F := Ideal) x0 x1 x2 (idx_main_v267 i) = (0 : EReal) := by
    obtain ⟨y, hy, ey⟩ := r122 H (idx_main_v267 i)
    rw [val_main_v266_apply, val_main_v265_apply, val_main_cst_58_apply, ey]
    refine (congrArg (fun z => FloatOps.hostDivf (F := Ideal) (φ := .f32) z _) (sum0 (g := fun _ => 0) Ideal.ofBits_zero_f32 fun k => ?_)).trans ((divR _ hy).trans ?_)
    · rw [val_main_v259_apply, r254 H M]
      exact (mul0 _).trans EReal.coe_zero.symm
    · rw [Fin.sum_univ_one, zero_div, EReal.coe_zero]
  rw [val_main_v268_apply, val_main_v267_apply, e]
  exact mul0 _

/-- The scores' gradient. -/
theorem r282 (i : S65x2x8x128x256.Idx) : val_main_v282 (F := Ideal) x0 x1 x2 i = ((ds P D σ (i 0).val ((i 1).val * 8 + (i 2).val) (i 3).val (i 4).val : ℝ) : EReal) := by
  rw [val_main_v282_apply, val_main_v273_apply, val_main_v111_1_apply, val_main_v109_apply, t75, val_main_v269_apply, r246 H M, r268 H M, add0, val_main_call3_v0_apply, val_main_call3_cst_apply,
    val_main_v281_apply, val_main_cst_61_apply]
  refine (congrArg₂ (FloatOps.mulf (F := Ideal) (φ := .f32)) (select_bool (seen (i 0).val (i 3).val (i 4).val) _ _) beighth).trans ?_
  by_cases hs : seen (i 0).val (i 3).val (i 4).val
  · rw [if_pos hs]
    exact mulR _ _
  · rw [if_neg hs, ds_unseen P D σ _ hs]
    exact (congrArg (fun z => FloatOps.mulf (F := Ideal) (φ := .f32) z _) Ideal.ofBits_zero_f32).trans ((mul0 _).trans EReal.coe_zero.symm)

/-- The scores' gradient. -/
theorem r275 (i : S65x2x8x128x16.Idx) : val_main_v275 (F := Ideal) x0 x1 x2 i = ((ds P D σ (i 0).val ((i 1).val * 8 + (i 2).val) (i 3).val (368 + (i 4).val) : ℝ) : EReal) := by
  rw [val_main_v275_apply, val_main_v272_apply, val_main_v114_1_apply, val_main_v112_apply, t83, val_main_v264_apply, r241 H M, r263 H M, add0, val_main_call2_v0_apply, val_main_call2_cst_apply,
    val_main_v274_apply, val_main_cst_60_apply]
  refine (congrArg₂ (FloatOps.mulf (F := Ideal) (φ := .f32)) (select_bool (seen (i 0).val (i 3).val (368 + (i 4).val)) _ _) beighth).trans ?_
  by_cases hs : seen (i 0).val (i 3).val (368 + (i 4).val)
  · rw [if_pos hs]
    exact mulR _ _
  · rw [if_neg hs, ds_unseen P D σ _ hs]
    exact (congrArg (fun z => FloatOps.mulf (F := Ideal) (φ := .f32) z _) Ideal.ofBits_zero_f32).trans ((mul0 _).trans EReal.coe_zero.symm)

end Cert.ReferenceIdeal.Ref
end
-- ==== Proof.RefOut.lean ====
/- The reference's four results. -/
module

public import proofs.«01_k».proof.Proof.RefGrad
public import Idealize.ShloMosaic.Lib.TwoAxisContraction

@[expose] public section

set_option maxRecDepth 16384

noncomputable section

namespace Cert.ReferenceIdeal.Ref

open Idealize.ShloMosaic Cert.ReferenceIdeal Cert.ReferenceIdeal.Gen Cert.ReferenceIdeal.Read Cert.Row Cert.Spec

/-! ## Contractions and sums over several axes -/

/-- The index of three contracted axes with given coordinates. -/
def at3 {sl sr so : Shape} (d : DotDims sl sr so) {n0 n1 n2 : ℕ} (hr : d.contr.rank = 3) (h0 : d.contr.size ⟨0, by omega⟩ = n0)
    (h1 : d.contr.size ⟨1, by omega⟩ = n1) (h2 : d.contr.size ⟨2, by omega⟩ = n2) (x : Fin n0 × Fin n1 × Fin n2) : d.contr.Idx := fun a =>
  if ha : a.val = 0 then ⟨x.1.val, by rw [show a = ⟨0, by omega⟩ from Fin.ext ha, h0]; exact x.1.isLt⟩
  else if hb : a.val = 1 then ⟨x.2.1.val, by rw [show a = ⟨1, by omega⟩ from Fin.ext hb, h1]; exact x.2.1.isLt⟩
  else ⟨x.2.2.val, by
    have := a.isLt
    rw [show a = ⟨2, by omega⟩ from Fin.ext (by show a.val = 2; omega), h2]
    exact x.2.2.isLt⟩

theorem sum_at3 {sl sr so : Shape} (d : DotDims sl sr so) {n0 n1 n2 : ℕ} (hr : d.contr.rank = 3) (h0 : d.contr.size ⟨0, by omega⟩ = n0)
    (h1 : d.contr.size ⟨1, by omega⟩ = n1) (h2 : d.contr.size ⟨2, by omega⟩ = n2) (f : d.contr.Idx → EReal) :
    ∑ k, f k = ∑ a : Fin n0, ∑ b : Fin n1, ∑ c : Fin n2, f (at3 d hr h0 h1 h2 (a, b, c)) := by
  have e : Function.Bijective (at3 d hr h0 h1 h2) := by
    constructor
    · intro x y h
      have e0 := congrArg Fin.val (congrFun h ⟨0, by omega⟩)
      have e1 := congrArg Fin.val (congrFun h ⟨1, by omega⟩)
      have e2 := congrArg Fin.val (congrFun h ⟨2, by omega⟩)
      exact Prod.ext (Fin.ext (by simpa [at3] using e0)) (Prod.ext (Fin.ext (by simpa [at3] using e1)) (Fin.ext (by simpa [at3] using e2)))
    · intro q
      refine ⟨(⟨(q ⟨0, by omega⟩).val, (q ⟨0, by omega⟩).isLt.trans_eq h0⟩, ⟨(q ⟨1, by omega⟩).val, (q ⟨1, by omega⟩).isLt.trans_eq h1⟩, ⟨(q ⟨2, by omega⟩).val, (q ⟨2, by omega⟩).isLt.trans_eq h2⟩), ?_⟩
      have p0 : 0 < d.contr.rank := by omega
      have p1 : 1 < d.contr.rank := by omega
      have p2 : 2 < d.contr.rank := by omega
      funext a
      unfold at3
      by_cases ha : a.val = 0
      · obtain rfl : a = ⟨0, p0⟩ := Fin.ext ha
        simp
      · by_cases hb : a.val = 1
        · obtain rfl : a = ⟨1, p1⟩ := Fin.ext hb
          simp
        · obtain rfl : a = ⟨2, p2⟩ := Fin.ext (by have := a.isLt; show a.val = 2; omega)
          simp
  rw [← (Equiv.ofBijective _ e).sum_comp f, Fintype.sum_prod_type]
  refine Finset.sum_congr rfl fun a _ => ?_
  rw [Fintype.sum_prod_type]
  rfl

/-- A host sum over several axes, by an injective numbering of the indices it adds. -/
theorem host_sum {s t : Shape} {axes : List (Fin s.rank)} (h : s.ReducesTo axes t) (x : s.Idx → EReal) (z : EReal) (j : t.Idx) {κ : Type} [Fintype κ] (e : κ → s.Idx)
    (inj : Function.Injective e) (he : ∀ k, h.drop (e k) = j) (hs : ∀ i, h.drop i = j → ∃ k, e k = i) : Ideal.hostReduceAdd h x z j = z + ∑ k, x (e k) := by
  classical
  unfold Ideal.hostReduceAdd
  rw [show Finset.univ.filter (fun i => h.drop i = j) = Finset.univ.image e from ?_, Finset.sum_image fun _ _ _ _ q => inj q]
  ext i
  simp only [Finset.mem_filter, Finset.mem_univ, true_and, Finset.mem_image]
  exact ⟨hs i, fun ⟨k, hk⟩ => hk ▸ he k⟩

theorem host_zero {s t : Shape} {axes : List (Fin s.rank)} (h : s.ReducesTo axes t) (x : s.Idx → EReal) (z : EReal) (j : t.Idx) (hz : z = 0) (hx : ∀ i, x i = 0) :
    Ideal.hostReduceAdd h x z j = 0 := by
  unfold Ideal.hostReduceAdd
  rw [hz, zero_add, Finset.sum_eq_zero fun i _ => hx i]

/-- What unseen columns give is zero. -/
theorem dkc_unseen (P D : ℕ → ℕ → ℝ) (σ : ℕ → ℝ) {b c : ℕ} (kv d : ℕ) (h : ∀ r, ¬ seen b r c) : dkc P D σ b kv c d = 0 := by
  unfold dkc
  exact Finset.sum_eq_zero fun g _ => Finset.sum_eq_zero fun r _ => by rw [ds_unseen P D σ _ (h r), zero_mul]

theorem dvc_unseen (P D : ℕ → ℕ → ℝ) (σ : ℕ → ℝ) {b c : ℕ} (kv d : ℕ) (h : ∀ r, ¬ seen b r c) : dvc P D σ b kv c d = 0 := by
  unfold dvc
  exact Finset.sum_eq_zero fun g _ => Finset.sum_eq_zero fun r _ => by rw [p_unseen P σ _ (h r), zero_mul]

/-- The empty rows get nothing. -/
theorem gather_empty (f : ℕ → ℕ → ℕ → ℕ → ℝ) (hf : ∀ b kv c d, (∀ r, ¬ seen b r c) → f b kv c d = 0) {r : ℕ} (hr : r < 112) (kv d : ℕ) : gather f 0 r kv d = 0 := by
  have e : ∑ b' : Fin 65, f b' kv (256 + r) d = 0 := Finset.sum_eq_zero fun b' _ => hf b' kv (256 + r) d fun r' => by unfold seen; omega
  unfold gather
  rw [e, hf 0 kv (128 + r) d fun r' => by unfold seen; omega, hf (0 + 1) kv r d fun r' => by unfold seen; omega]
  simp

variable {x0 : A0} {x1 : A1} {x2 : A2} {P D : ℕ → ℕ → ℝ} {σ : ℕ → ℝ} (H : Args x0 x1 x2 P D σ)
variable {μ : ℕ → ℕ → ℕ → ℕ → ℝ} (M : ∀ i : S65x2x8x128x1.Idx, val_main_v148 (F := Ideal) x0 x1 i = ((μ (i 0).val (i 1).val (i 2).val (i 3).val : ℝ) : EReal))

include H M

theorem r276 (i : S2x16x65x128x8.Idx) : val_main_v276 (F := Ideal) x0 x1 x2 i = ((ds P D σ (i 2).val ((i 0).val * 8 + (i 4).val) (i 3).val (368 + (i 1).val) : ℝ) : EReal) := by
  rw [val_main_v276_apply, r275 H M]

theorem r283 (i : S65x2x256x128x8.Idx) : val_main_v283 (F := Ideal) x0 x1 x2 i = ((ds P D σ (i 0).val ((i 1).val * 8 + (i 4).val) (i 3).val (i 2).val : ℝ) : EReal) := by
  rw [val_main_v283_apply, r282 H M]

theorem r206 (i : S2x64x16.Idx) : val_main_v206 (F := Ideal) x0 x1 x2 i = ((∑ b : Fin 65, dvc P D σ b (i 0).val (368 + (i 2).val) (i 1).val : ℝ) : EReal) := by
  unfold val_main_v206
  simp only [Host.dotGeneral]
  rw [Ideal.dotGeneral_apply, sum_at3 dot_S2x64x65x8x128_S65x2x8x128x16_S2x64x16_234_023_1_4_0_1 rfl rfl rfl rfl]
  have e : ∀ (k0 : Fin 65) (k1 : Fin 8) (k2 : Fin 128), val_main_v203 (F := Ideal) x2 (dot_S2x64x65x8x128_S65x2x8x128x16_S2x64x16_234_023_1_4_0_1.lhsIdx i (at3 dot_S2x64x65x8x128_S65x2x8x128x16_S2x64x16_234_023_1_4_0_1 rfl rfl rfl rfl (k0, k1, k2))) * val_main_v189 (F := Ideal) x0 x1 (dot_S2x64x65x8x128_S65x2x8x128x16_S2x64x16_234_023_1_4_0_1.rhsIdx i (at3 dot_S2x64x65x8x128_S65x2x8x128x16_S2x64x16_234_023_1_4_0_1 rfl rfl rfl rfl (k0, k1, k2))) = ((p P σ k0 (8 * (i 0).val + k1) k2 (368 + (i 2).val) * Spec.o D k0 (8 * (i 0).val + k1) k2 (i 1).val : ℝ) : EReal) := by
    intro k0 k1 k2
    have l0 : (dot_S2x64x65x8x128_S65x2x8x128x16_S2x64x16_234_023_1_4_0_1.lhsIdx i (at3 dot_S2x64x65x8x128_S65x2x8x128x16_S2x64x16_234_023_1_4_0_1 rfl rfl rfl rfl (k0, k1, k2)) 0).val = (i 0).val := rfl
    have l1 : (dot_S2x64x65x8x128_S65x2x8x128x16_S2x64x16_234_023_1_4_0_1.lhsIdx i (at3 dot_S2x64x65x8x128_S65x2x8x128x16_S2x64x16_234_023_1_4_0_1 rfl rfl rfl rfl (k0, k1, k2)) 1).val = (i 1).val := rfl
    have l2 : (dot_S2x64x65x8x128_S65x2x8x128x16_S2x64x16_234_023_1_4_0_1.lhsIdx i (at3 dot_S2x64x65x8x128_S65x2x8x128x16_S2x64x16_234_023_1_4_0_1 rfl rfl rfl rfl (k0, k1, k2)) 2).val = k0.val := rfl
    have l3 : (dot_S2x64x65x8x128_S65x2x8x128x16_S2x64x16_234_023_1_4_0_1.lhsIdx i (at3 dot_S2x64x65x8x128_S65x2x8x128x16_S2x64x16_234_023_1_4_0_1 rfl rfl rfl rfl (k0, k1, k2)) 3).val = k1.val := rfl
    have l4 : (dot_S2x64x65x8x128_S65x2x8x128x16_S2x64x16_234_023_1_4_0_1.lhsIdx i (at3 dot_S2x64x65x8x128_S65x2x8x128x16_S2x64x16_234_023_1_4_0_1 rfl rfl rfl rfl (k0, k1, k2)) 4).val = k2.val := rfl
    have r0 : (dot_S2x64x65x8x128_S65x2x8x128x16_S2x64x16_234_023_1_4_0_1.rhsIdx i (at3 dot_S2x64x65x8x128_S65x2x8x128x16_S2x64x16_234_023_1_4_0_1 rfl rfl rfl rfl (k0, k1, k2)) 0).val = k0.val := rfl
    have r1 : (dot_S2x64x65x8x128_S65x2x8x128x16_S2x64x16_234_023_1_4_0_1.rhsIdx i (at3 dot_S2x64x65x8x128_S65x2x8x128x16_S2x64x16_234_023_1_4_0_1 rfl rfl rfl rfl (k0, k1, k2)) 1).val = (i 0).val := rfl
    have r2 : (dot_S2x64x65x8x128_S65x2x8x128x16_S2x64x16_234_023_1_4_0_1.rhsIdx i (at3 dot_S2x64x65x8x128_S65x2x8x128x16_S2x64x16_234_023_1_4_0_1 rfl rfl rfl rfl (k0, k1, k2)) 2).val = k1.val := rfl
    have r3 : (dot_S2x64x65x8x128_S65x2x8x128x16_S2x64x16_234_023_1_4_0_1.rhsIdx i (at3 dot_S2x64x65x8x128_S65x2x8x128x16_S2x64x16_234_023_1_4_0_1 rfl rfl rfl rfl (k0, k1, k2)) 3).val = k2.val := rfl
    have r4 : (dot_S2x64x65x8x128_S65x2x8x128x16_S2x64x16_234_023_1_4_0_1.rhsIdx i (at3 dot_S2x64x65x8x128_S65x2x8x128x16_S2x64x16_234_023_1_4_0_1 rfl rfl rfl rfl (k0, k1, k2)) 4).val = (i 2).val := rfl
    refine (congrArg₂ (fun x y : EReal => x * y) (r203 H _) (r189 H M _)).trans ((EReal.coe_mul _ _).symm.trans (real_eq ?_))
    rw [l0, l1, l2, l3, l4, r0, r1, r2, r3, r4, mul_comm (i 0).val 8]
    unfold Spec.o
    by_cases hs : seen k0 k2 (368 + (i 2).val)
    · rw [zr_seen D hs, mul_comm]
    · rw [p_unseen P σ _ hs, zero_mul, mul_zero]
  refine (Finset.sum_congr rfl fun k0 _ => (Finset.sum_congr rfl fun k1 _ => (Finset.sum_congr rfl fun k2 _ => e k0 k1 k2).trans (coe_sum _ _)).trans (coe_sum _ _)).trans ((coe_sum _ _).trans (real_eq ?_))
  rfl

theorem r210 (i : S65x2x64x256.Idx) : val_main_v210 (F := Ideal) x0 x1 x2 i = ((dvc P D σ (i 0).val (i 1).val (i 3).val (i 2).val : ℝ) : EReal) := by
  unfold val_main_v210
  simp only [Host.dotGeneral]
  rw [Ideal.dotGeneral_apply, ValueIdx.sum_contr2 dot_S65x2x64x8x128_S65x2x8x128x256_S65x2x64x256_34_23_2_4_01_01 8 128 rfl rfl rfl]
  have e : ∀ (k0 : Fin 8) (k1 : Fin 128), val_main_v208 (F := Ideal) x2 (dot_S65x2x64x8x128_S65x2x8x128x256_S65x2x64x256_34_23_2_4_01_01.lhsIdx i ((ValueIdx.contrEquiv2 dot_S65x2x64x8x128_S65x2x8x128x256_S65x2x64x256_34_23_2_4_01_01 8 128 rfl rfl rfl).symm (k0, k1))) * val_main_v184 (F := Ideal) x0 x1 (dot_S65x2x64x8x128_S65x2x8x128x256_S65x2x64x256_34_23_2_4_01_01.rhsIdx i ((ValueIdx.contrEquiv2 dot_S65x2x64x8x128_S65x2x8x128x256_S65x2x64x256_34_23_2_4_01_01 8 128 rfl rfl rfl).symm (k0, k1))) = ((p P σ (i 0).val (8 * (i 1).val + k0) k1 (i 3).val * Spec.o D (i 0).val (8 * (i 1).val + k0) k1 (i 2).val : ℝ) : EReal) := by
    intro k0 k1
    have l0 : (dot_S65x2x64x8x128_S65x2x8x128x256_S65x2x64x256_34_23_2_4_01_01.lhsIdx i ((ValueIdx.contrEquiv2 dot_S65x2x64x8x128_S65x2x8x128x256_S65x2x64x256_34_23_2_4_01_01 8 128 rfl rfl rfl).symm (k0, k1)) 0).val = (i 0).val := rfl
    have l1 : (dot_S65x2x64x8x128_S65x2x8x128x256_S65x2x64x256_34_23_2_4_01_01.lhsIdx i ((ValueIdx.contrEquiv2 dot_S65x2x64x8x128_S65x2x8x128x256_S65x2x64x256_34_23_2_4_01_01 8 128 rfl rfl rfl).symm (k0, k1)) 1).val = (i 1).val := rfl
    have l2 : (dot_S65x2x64x8x128_S65x2x8x128x256_S65x2x64x256_34_23_2_4_01_01.lhsIdx i ((ValueIdx.contrEquiv2 dot_S65x2x64x8x128_S65x2x8x128x256_S65x2x64x256_34_23_2_4_01_01 8 128 rfl rfl rfl).symm (k0, k1)) 2).val = (i 2).val := rfl
    have l3 : (dot_S65x2x64x8x128_S65x2x8x128x256_S65x2x64x256_34_23_2_4_01_01.lhsIdx i ((ValueIdx.contrEquiv2 dot_S65x2x64x8x128_S65x2x8x128x256_S65x2x64x256_34_23_2_4_01_01 8 128 rfl rfl rfl).symm (k0, k1)) 3).val = k0.val := ValueIdx.contrEquiv2_symm_val0 dot_S65x2x64x8x128_S65x2x8x128x256_S65x2x64x256_34_23_2_4_01_01 8 128 rfl rfl rfl (k0, k1)
    have l4 : (dot_S65x2x64x8x128_S65x2x8x128x256_S65x2x64x256_34_23_2_4_01_01.lhsIdx i ((ValueIdx.contrEquiv2 dot_S65x2x64x8x128_S65x2x8x128x256_S65x2x64x256_34_23_2_4_01_01 8 128 rfl rfl rfl).symm (k0, k1)) 4).val = k1.val := ValueIdx.contrEquiv2_symm_val1 dot_S65x2x64x8x128_S65x2x8x128x256_S65x2x64x256_34_23_2_4_01_01 8 128 rfl rfl rfl (k0, k1)
    have r0 : (dot_S65x2x64x8x128_S65x2x8x128x256_S65x2x64x256_34_23_2_4_01_01.rhsIdx i ((ValueIdx.contrEquiv2 dot_S65x2x64x8x128_S65x2x8x128x256_S65x2x64x256_34_23_2_4_01_01 8 128 rfl rfl rfl).symm (k0, k1)) 0).val = (i 0).val := rfl
    have r1 : (dot_S65x2x64x8x128_S65x2x8x128x256_S65x2x64x256_34_23_2_4_01_01.rhsIdx i ((ValueIdx.contrEquiv2 dot_S65x2x64x8x128_S65x2x8x128x256_S65x2x64x256_34_23_2_4_01_01 8 128 rfl rfl rfl).symm (k0, k1)) 1).val = (i 1).val := rfl
    have r2 : (dot_S65x2x64x8x128_S65x2x8x128x256_S65x2x64x256_34_23_2_4_01_01.rhsIdx i ((ValueIdx.contrEquiv2 dot_S65x2x64x8x128_S65x2x8x128x256_S65x2x64x256_34_23_2_4_01_01 8 128 rfl rfl rfl).symm (k0, k1)) 2).val = k0.val := ValueIdx.contrEquiv2_symm_val0 dot_S65x2x64x8x128_S65x2x8x128x256_S65x2x64x256_34_23_2_4_01_01 8 128 rfl rfl rfl (k0, k1)
    have r3 : (dot_S65x2x64x8x128_S65x2x8x128x256_S65x2x64x256_34_23_2_4_01_01.rhsIdx i ((ValueIdx.contrEquiv2 dot_S65x2x64x8x128_S65x2x8x128x256_S65x2x64x256_34_23_2_4_01_01 8 128 rfl rfl rfl).symm (k0, k1)) 3).val = k1.val := ValueIdx.contrEquiv2_symm_val1 dot_S65x2x64x8x128_S65x2x8x128x256_S65x2x64x256_34_23_2_4_01_01 8 128 rfl rfl rfl (k0, k1)
    have r4 : (dot_S65x2x64x8x128_S65x2x8x128x256_S65x2x64x256_34_23_2_4_01_01.rhsIdx i ((ValueIdx.contrEquiv2 dot_S65x2x64x8x128_S65x2x8x128x256_S65x2x64x256_34_23_2_4_01_01 8 128 rfl rfl rfl).symm (k0, k1)) 4).val = (i 3).val := rfl
    refine (congrArg₂ (fun x y : EReal => x * y) (r208 H _) (r184 H M _)).trans ((EReal.coe_mul _ _).symm.trans (real_eq ?_))
    rw [l0, l1, l2, l3, l4, r0, r1, r2, r3, r4, mul_comm (i 1).val 8]
    unfold Spec.o
    by_cases hs : seen (i 0).val k1 (i 3).val
    · rw [zr_seen D hs, mul_comm]
    · rw [p_unseen P σ _ hs, zero_mul, mul_zero]
  refine (Finset.sum_congr rfl fun k0 _ => (Finset.sum_congr rfl fun k1 _ => e k0 k1).trans (coe_sum _ _)).trans ((coe_sum _ _).trans (real_eq ?_))
  rfl

theorem r279 (i : S2x16x64.Idx) : val_main_v279 (F := Ideal) x0 x1 x2 i = ((∑ b : Fin 65, dkc P D σ b (i 0).val (368 + (i 1).val) (i 2).val : ℝ) : EReal) := by
  unfold val_main_v279
  simp only [Host.dotGeneral]
  rw [Ideal.dotGeneral_apply, sum_at3 dot_S2x16x65x128x8_S65x128x2x8x64_S2x16x64_234_013_1_4_0_2 rfl rfl rfl rfl]
  have e : ∀ (k0 : Fin 65) (k1 : Fin 128) (k2 : Fin 8), val_main_v276 (F := Ideal) x0 x1 x2 (dot_S2x16x65x128x8_S65x128x2x8x64_S2x16x64_234_013_1_4_0_2.lhsIdx i (at3 dot_S2x16x65x128x8_S65x128x2x8x64_S2x16x64_234_013_1_4_0_2 rfl rfl rfl rfl (k0, k1, k2))) * val_main_v9 (F := Ideal) x0 (dot_S2x16x65x128x8_S65x128x2x8x64_S2x16x64_234_013_1_4_0_2.rhsIdx i (at3 dot_S2x16x65x128x8_S65x128x2x8x64_S2x16x64_234_013_1_4_0_2 rfl rfl rfl rfl (k0, k1, k2))) = ((ds P D σ k0 (8 * (i 0).val + k2) k1 (368 + (i 1).val) * Spec.q P k0 (8 * (i 0).val + k2) k1 (i 2).val : ℝ) : EReal) := by
    intro k0 k1 k2
    have l0 : (dot_S2x16x65x128x8_S65x128x2x8x64_S2x16x64_234_013_1_4_0_2.lhsIdx i (at3 dot_S2x16x65x128x8_S65x128x2x8x64_S2x16x64_234_013_1_4_0_2 rfl rfl rfl rfl (k0, k1, k2)) 0).val = (i 0).val := rfl
    have l1 : (dot_S2x16x65x128x8_S65x128x2x8x64_S2x16x64_234_013_1_4_0_2.lhsIdx i (at3 dot_S2x16x65x128x8_S65x128x2x8x64_S2x16x64_234_013_1_4_0_2 rfl rfl rfl rfl (k0, k1, k2)) 1).val = (i 1).val := rfl
    have l2 : (dot_S2x16x65x128x8_S65x128x2x8x64_S2x16x64_234_013_1_4_0_2.lhsIdx i (at3 dot_S2x16x65x128x8_S65x128x2x8x64_S2x16x64_234_013_1_4_0_2 rfl rfl rfl rfl (k0, k1, k2)) 2).val = k0.val := rfl
    have l3 : (dot_S2x16x65x128x8_S65x128x2x8x64_S2x16x64_234_013_1_4_0_2.lhsIdx i (at3 dot_S2x16x65x128x8_S65x128x2x8x64_S2x16x64_234_013_1_4_0_2 rfl rfl rfl rfl (k0, k1, k2)) 3).val = k1.val := rfl
    have l4 : (dot_S2x16x65x128x8_S65x128x2x8x64_S2x16x64_234_013_1_4_0_2.lhsIdx i (at3 dot_S2x16x65x128x8_S65x128x2x8x64_S2x16x64_234_013_1_4_0_2 rfl rfl rfl rfl (k0, k1, k2)) 4).val = k2.val := rfl
    have r0 : (dot_S2x16x65x128x8_S65x128x2x8x64_S2x16x64_234_013_1_4_0_2.rhsIdx i (at3 dot_S2x16x65x128x8_S65x128x2x8x64_S2x16x64_234_013_1_4_0_2 rfl rfl rfl rfl (k0, k1, k2)) 0).val = k0.val := rfl
    have r1 : (dot_S2x16x65x128x8_S65x128x2x8x64_S2x16x64_234_013_1_4_0_2.rhsIdx i (at3 dot_S2x16x65x128x8_S65x128x2x8x64_S2x16x64_234_013_1_4_0_2 rfl rfl rfl rfl (k0, k1, k2)) 1).val = k1.val := rfl
    have r2 : (dot_S2x16x65x128x8_S65x128x2x8x64_S2x16x64_234_013_1_4_0_2.rhsIdx i (at3 dot_S2x16x65x128x8_S65x128x2x8x64_S2x16x64_234_013_1_4_0_2 rfl rfl rfl rfl (k0, k1, k2)) 2).val = (i 0).val := rfl
    have r3 : (dot_S2x16x65x128x8_S65x128x2x8x64_S2x16x64_234_013_1_4_0_2.rhsIdx i (at3 dot_S2x16x65x128x8_S65x128x2x8x64_S2x16x64_234_013_1_4_0_2 rfl rfl rfl rfl (k0, k1, k2)) 3).val = k2.val := rfl
    have r4 : (dot_S2x16x65x128x8_S65x128x2x8x64_S2x16x64_234_013_1_4_0_2.rhsIdx i (at3 dot_S2x16x65x128x8_S65x128x2x8x64_S2x16x64_234_013_1_4_0_2 rfl rfl rfl rfl (k0, k1, k2)) 4).val = (i 2).val := rfl
    refine (congrArg₂ (fun x y : EReal => x * y) (r276 H M _) (r9 H _)).trans ((EReal.coe_mul _ _).symm.trans (real_eq ?_))
    rw [l0, l1, l2, l3, l4, r0, r1, r2, r3, r4, mul_comm (i 0).val 8]
    unfold Spec.q
    by_cases hs : seen k0 k1 (368 + (i 1).val)
    · rw [zr_seen P hs]
    · rw [ds_unseen P D σ _ hs, zero_mul, zero_mul]
  refine (Finset.sum_congr rfl fun k0 _ => (Finset.sum_congr rfl fun k1 _ => (Finset.sum_congr rfl fun k2 _ => e k0 k1 k2).trans (coe_sum _ _)).trans (coe_sum _ _)).trans ((coe_sum _ _).trans (real_eq ?_))
  refine Finset.sum_congr rfl fun b _ => ?_
  exact Finset.sum_comm

theorem r287 (i : S65x2x256x64.Idx) : val_main_v287 (F := Ideal) x0 x1 x2 i = ((dkc P D σ (i 0).val (i 1).val (i 2).val (i 3).val : ℝ) : EReal) := by
  unfold val_main_v287
  simp only [Host.dotGeneral]
  rw [Ideal.dotGeneral_apply, ValueIdx.sum_contr2 dot_S65x2x256x128x8_S65x128x2x8x64_S65x2x256x64_34_13_2_4_01_02 128 8 rfl rfl rfl]
  have e : ∀ (k0 : Fin 128) (k1 : Fin 8), val_main_v283 (F := Ideal) x0 x1 x2 (dot_S65x2x256x128x8_S65x128x2x8x64_S65x2x256x64_34_13_2_4_01_02.lhsIdx i ((ValueIdx.contrEquiv2 dot_S65x2x256x128x8_S65x128x2x8x64_S65x2x256x64_34_13_2_4_01_02 128 8 rfl rfl rfl).symm (k0, k1))) * val_main_v9 (F := Ideal) x0 (dot_S65x2x256x128x8_S65x128x2x8x64_S65x2x256x64_34_13_2_4_01_02.rhsIdx i ((ValueIdx.contrEquiv2 dot_S65x2x256x128x8_S65x128x2x8x64_S65x2x256x64_34_13_2_4_01_02 128 8 rfl rfl rfl).symm (k0, k1))) = ((ds P D σ (i 0).val (8 * (i 1).val + k1) k0 (i 2).val * Spec.q P (i 0).val (8 * (i 1).val + k1) k0 (i 3).val : ℝ) : EReal) := by
    intro k0 k1
    have l0 : (dot_S65x2x256x128x8_S65x128x2x8x64_S65x2x256x64_34_13_2_4_01_02.lhsIdx i ((ValueIdx.contrEquiv2 dot_S65x2x256x128x8_S65x128x2x8x64_S65x2x256x64_34_13_2_4_01_02 128 8 rfl rfl rfl).symm (k0, k1)) 0).val = (i 0).val := rfl
    have l1 : (dot_S65x2x256x128x8_S65x128x2x8x64_S65x2x256x64_34_13_2_4_01_02.lhsIdx i ((ValueIdx.contrEquiv2 dot_S65x2x256x128x8_S65x128x2x8x64_S65x2x256x64_34_13_2_4_01_02 128 8 rfl rfl rfl).symm (k0, k1)) 1).val = (i 1).val := rfl
    have l2 : (dot_S65x2x256x128x8_S65x128x2x8x64_S65x2x256x64_34_13_2_4_01_02.lhsIdx i ((ValueIdx.contrEquiv2 dot_S65x2x256x128x8_S65x128x2x8x64_S65x2x256x64_34_13_2_4_01_02 128 8 rfl rfl rfl).symm (k0, k1)) 2).val = (i 2).val := rfl
    have l3 : (dot_S65x2x256x128x8_S65x128x2x8x64_S65x2x256x64_34_13_2_4_01_02.lhsIdx i ((ValueIdx.contrEquiv2 dot_S65x2x256x128x8_S65x128x2x8x64_S65x2x256x64_34_13_2_4_01_02 128 8 rfl rfl rfl).symm (k0, k1)) 3).val = k0.val := ValueIdx.contrEquiv2_symm_val0 dot_S65x2x256x128x8_S65x128x2x8x64_S65x2x256x64_34_13_2_4_01_02 128 8 rfl rfl rfl (k0, k1)
    have l4 : (dot_S65x2x256x128x8_S65x128x2x8x64_S65x2x256x64_34_13_2_4_01_02.lhsIdx i ((ValueIdx.contrEquiv2 dot_S65x2x256x128x8_S65x128x2x8x64_S65x2x256x64_34_13_2_4_01_02 128 8 rfl rfl rfl).symm (k0, k1)) 4).val = k1.val := ValueIdx.contrEquiv2_symm_val1 dot_S65x2x256x128x8_S65x128x2x8x64_S65x2x256x64_34_13_2_4_01_02 128 8 rfl rfl rfl (k0, k1)
    have r0 : (dot_S65x2x256x128x8_S65x128x2x8x64_S65x2x256x64_34_13_2_4_01_02.rhsIdx i ((ValueIdx.contrEquiv2 dot_S65x2x256x128x8_S65x128x2x8x64_S65x2x256x64_34_13_2_4_01_02 128 8 rfl rfl rfl).symm (k0, k1)) 0).val = (i 0).val := rfl
    have r1 : (dot_S65x2x256x128x8_S65x128x2x8x64_S65x2x256x64_34_13_2_4_01_02.rhsIdx i ((ValueIdx.contrEquiv2 dot_S65x2x256x128x8_S65x128x2x8x64_S65x2x256x64_34_13_2_4_01_02 128 8 rfl rfl rfl).symm (k0, k1)) 1).val = k0.val := ValueIdx.contrEquiv2_symm_val0 dot_S65x2x256x128x8_S65x128x2x8x64_S65x2x256x64_34_13_2_4_01_02 128 8 rfl rfl rfl (k0, k1)
    have r2 : (dot_S65x2x256x128x8_S65x128x2x8x64_S65x2x256x64_34_13_2_4_01_02.rhsIdx i ((ValueIdx.contrEquiv2 dot_S65x2x256x128x8_S65x128x2x8x64_S65x2x256x64_34_13_2_4_01_02 128 8 rfl rfl rfl).symm (k0, k1)) 2).val = (i 1).val := rfl
    have r3 : (dot_S65x2x256x128x8_S65x128x2x8x64_S65x2x256x64_34_13_2_4_01_02.rhsIdx i ((ValueIdx.contrEquiv2 dot_S65x2x256x128x8_S65x128x2x8x64_S65x2x256x64_34_13_2_4_01_02 128 8 rfl rfl rfl).symm (k0, k1)) 3).val = k1.val := ValueIdx.contrEquiv2_symm_val1 dot_S65x2x256x128x8_S65x128x2x8x64_S65x2x256x64_34_13_2_4_01_02 128 8 rfl rfl rfl (k0, k1)
    have r4 : (dot_S65x2x256x128x8_S65x128x2x8x64_S65x2x256x64_34_13_2_4_01_02.rhsIdx i ((ValueIdx.contrEquiv2 dot_S65x2x256x128x8_S65x128x2x8x64_S65x2x256x64_34_13_2_4_01_02 128 8 rfl rfl rfl).symm (k0, k1)) 4).val = (i 3).val := rfl
    refine (congrArg₂ (fun x y : EReal => x * y) (r283 H M _) (r9 H _)).trans ((EReal.coe_mul _ _).symm.trans (real_eq ?_))
    rw [l0, l1, l2, l3, l4, r0, r1, r2, r3, r4, mul_comm (i 1).val 8]
    unfold Spec.q
    by_cases hs : seen (i 0).val k0 (i 2).val
    · rw [zr_seen P hs]
    · rw [ds_unseen P D σ _ hs, zero_mul, zero_mul]
  refine (Finset.sum_congr rfl fun k0 _ => (Finset.sum_congr rfl fun k1 _ => e k0 k1).trans (coe_sum _ _)).trans ((coe_sum _ _).trans (real_eq ?_))
  exact Finset.sum_comm

/-- The queries' gradient, by blocks. -/
theorem r286 (i : S65x128x2x8x64.Idx) : val_main_v286 (F := Ideal) x0 x1 x2 i = ((dq P D σ (i 0).val (i 1).val ((i 2).val * 8 + (i 3).val) (i 4).val : ℝ) : EReal) := by
  have h3 : (i 3).val < 8 := (i 3).isLt
  have e1 : val_main_v278 (F := Ideal) x0 x1 x2 i = ((∑ m : Fin 16, ds P D σ (i 0).val ((i 2).val * 8 + (i 3).val) (i 1).val (368 + m) * Spec.k P (key (i 0).val (368 + m)) (((i 2).val * 8 + (i 3).val) / 8) (i 4).val : ℝ) : EReal) := by
    rw [val_main_v278_apply, val_main_v277_apply]
    refine (Finset.sum_congr rfl fun m _ => ?_).trans (coe_sum _ _)
    refine (congrArg₂ (fun x y : EReal => x * y) (r276 H M _) (r28 H _)).trans ((EReal.coe_mul _ _).symm.trans (real_eq ?_))
    have e : key (i 0).val (368 + m.val) = 112 + m.val := by unfold key; rw [if_neg (by omega), if_neg (by omega)]; omega
    rw [head_kv _ _ h3, e]
    rfl
  have e2 : val_main_v285 (F := Ideal) x0 x1 x2 i = ((∑ c : Fin 256, ds P D σ (i 0).val ((i 2).val * 8 + (i 3).val) (i 1).val c * Spec.k P (key (i 0).val c) (((i 2).val * 8 + (i 3).val) / 8) (i 4).val : ℝ) : EReal) := by
    rw [val_main_v285_apply, val_main_v284_apply]
    refine (Finset.sum_congr rfl fun c _ => ?_).trans (coe_sum _ _)
    refine (congrArg₂ (fun x y : EReal => x * y) (r283 H M _) (r22 H _)).trans ((EReal.coe_mul _ _).symm.trans (real_eq ?_))
    rw [head_kv _ _ h3]
    show ds P D σ (i 0).val ((i 2).val * 8 + (i 3).val) (i 1).val c * kb P (i 0).val c (3072 + ((i 2).val * 64 + (i 4).val)) = _
    by_cases hs : seen (i 0).val (i 1).val c
    · rw [kb_seen P hs c.isLt]
      rfl
    · rw [ds_unseen P D σ _ hs, zero_mul, zero_mul]
  rw [val_main_v286_apply, e1, e2]
  refine (addR _ _).trans (real_eq ?_)
  unfold dq
  rw [sum384 (fun c => ds P D σ (i 0).val ((i 2).val * 8 + (i 3).val) (i 1).val c * Spec.k P (key (i 0).val c) (((i 2).val * 8 + (i 3).val) / 8) (i 4).val)
    fun c h1 h2 => by rw [ds_unseen P D σ _ (gap h1 h2), zero_mul], add_comm]

theorem r211 (i : S65x256x2x64.Idx) : val_main_v211 (F := Ideal) x0 x1 x2 i = ((dvc P D σ (i 0).val (i 2).val (i 1).val (i 3).val : ℝ) : EReal) := by
  rw [val_main_v211_apply, r210 H M]

theorem r295 (i : S65x128x2x64.Idx) : val_main_v295 (F := Ideal) x0 x1 x2 i
    = (((if (i 0).val < 64 then dvc P D σ ((i 0).val + 1) (i 2).val (i 1).val (i 3).val else 0) : ℝ) : EReal) := by
  unfold val_main_v295
  by_cases h : (i 0).val < 64
  · rw [if_pos h, pad_apply_of_inside (s := S64x128x2x64) (k := ValueIdx.ix4 ⟨(i 0).val, h⟩ (i 1) (i 2) (i 3))]
    · rw [val_main_v294_apply, val_main_v291_apply, r211 H M]
      refine real_eq ?_
      show dvc P D σ (1 + (i 0).val) (i 2).val (i 1).val (i 3).val = _
      rw [add_comm]
    · intro a
      match a with
      | ⟨0, _⟩ => show (i 0).val = 0 + (i 0).val * 1; omega
      | ⟨1, _⟩ => show (i 1).val = 0 + (i 1).val * 1; omega
      | ⟨2, _⟩ => show (i 2).val = 0 + (i 2).val * 1; omega
      | ⟨3, _⟩ => show (i 3).val = 0 + (i 3).val * 1; omega
  · rw [if_neg h]
    unfold pad
    refine (dif_neg fun hin => ?_).trans (Ideal.ofBits_zero_f32.trans EReal.coe_zero.symm)
    have h2 := (hin 0).2.2
    have h3 : ((i 0).val - 0) / 1 < 64 := h2
    omega

theorem r296 (i : S65x128x2x64.Idx) : val_main_v296 (F := Ideal) x0 x1 x2 i
    = ((dvc P D σ (i 0).val (i 2).val (128 + (i 1).val) (i 3).val + (if (i 0).val < 64 then dvc P D σ ((i 0).val + 1) (i 2).val (i 1).val (i 3).val else 0) : ℝ) : EReal) := by
  rw [val_main_v296_apply, val_main_v292_apply, r211 H M, r295 H M]
  exact addR _ _

theorem r289 (i : S8208x2x64.Idx) : val_main_v289 (F := Ideal) x0 x1 x2 i
    = (((if (i 0).val < 16 then ∑ b : Fin 65, dvc P D σ b (i 1).val (368 + (i 0).val) (i 2).val else 0) : ℝ) : EReal) := by
  unfold val_main_v289
  by_cases h : (i 0).val < 16
  · rw [if_pos h, pad_apply_of_inside (s := S16x2x64) (k := ValueIdx.ix3 ⟨(i 0).val, h⟩ (i 1) (i 2))]
    · rw [val_main_v207_apply, r206 H M]
    · intro a
      match a with
      | ⟨0, _⟩ => show (i 0).val = 0 + (i 0).val * 1; omega
      | ⟨1, _⟩ => show (i 1).val = 0 + (i 1).val * 1; omega
      | ⟨2, _⟩ => show (i 2).val = 0 + (i 2).val * 1; omega
  · rw [if_neg h]
    unfold pad
    refine (dif_neg fun hin => ?_).trans (Ideal.ofBits_zero_f32.trans EReal.coe_zero.symm)
    have h2 := (hin 0).2.2
    have h3 : ((i 0).val - 0) / 1 < 16 := h2
    omega

theorem r306 (i : S8208x2x64.Idx) : val_main_v306 (F := Ideal) x0 x1 x2 i
    = ((gather (dvc P D σ) ((112 + (i 0).val) / 128) ((112 + (i 0).val) % 128) (i 1).val (i 2).val : ℝ) : EReal) := by
  have h1 : (i 1).val < 2 := (i 1).isLt
  have h2 : (i 2).val < 64 := (i 2).isLt
  rw [val_main_v306_apply, val_main_v305_apply, val_main_v303_apply, r289 H M, r296 H M]
  have e0 : (idx_main_v303 (idx_main_v305 i) 0).val = (112 + (i 0).val) / 128 := by
    show (((112 + (i 0).val) * 2 + (i 1).val) * 64 + (i 2).val) / 16384 = _
    omega
  have e1 : (idx_main_v303 (idx_main_v305 i) 1).val = (112 + (i 0).val) % 128 := by
    show (((112 + (i 0).val) * 2 + (i 1).val) * 64 + (i 2).val) / 128 % 128 = _
    omega
  have e2 : (idx_main_v303 (idx_main_v305 i) 2).val = (i 1).val := by
    show (((112 + (i 0).val) * 2 + (i 1).val) * 64 + (i 2).val) / 64 % 2 = _
    omega
  have e3 : (idx_main_v303 (idx_main_v305 i) 3).val = (i 2).val := by
    show (((112 + (i 0).val) * 2 + (i 1).val) * 64 + (i 2).val) % 64 = _
    omega
  refine (addR _ _).trans (real_eq ?_)
  rw [e0, e1, e2, e3]
  unfold gather
  rw [add_comm]
  congr 1
  by_cases h : (i 0).val < 16
  · rw [if_pos h, if_pos (by omega), show 256 + (112 + (i 0).val) % 128 = 368 + (i 0).val by omega]
  · rw [if_neg h, if_neg (by omega)]

theorem r288 (i : S65x256x2x64.Idx) : val_main_v288 (F := Ideal) x0 x1 x2 i = ((dkc P D σ (i 0).val (i 2).val (i 1).val (i 3).val : ℝ) : EReal) := by
  rw [val_main_v288_apply, r287 H M]

theorem r301 (i : S65x128x2x64.Idx) : val_main_v301 (F := Ideal) x0 x1 x2 i
    = (((if (i 0).val < 64 then dkc P D σ ((i 0).val + 1) (i 2).val (i 1).val (i 3).val else 0) : ℝ) : EReal) := by
  unfold val_main_v301
  by_cases h : (i 0).val < 64
  · rw [if_pos h, pad_apply_of_inside (s := S64x128x2x64) (k := ValueIdx.ix4 ⟨(i 0).val, h⟩ (i 1) (i 2) (i 3))]
    · rw [val_main_v300_apply, val_main_v297_apply, r288 H M]
      refine real_eq ?_
      show dkc P D σ (1 + (i 0).val) (i 2).val (i 1).val (i 3).val = _
      rw [add_comm]
    · intro a
      match a with
      | ⟨0, _⟩ => show (i 0).val = 0 + (i 0).val * 1; omega
      | ⟨1, _⟩ => show (i 1).val = 0 + (i 1).val * 1; omega
      | ⟨2, _⟩ => show (i 2).val = 0 + (i 2).val * 1; omega
      | ⟨3, _⟩ => show (i 3).val = 0 + (i 3).val * 1; omega
  · rw [if_neg h]
    unfold pad
    refine (dif_neg fun hin => ?_).trans (Ideal.ofBits_zero_f32.trans EReal.coe_zero.symm)
    have h2 := (hin 0).2.2
    have h3 : ((i 0).val - 0) / 1 < 64 := h2
    omega

theorem r302 (i : S65x128x2x64.Idx) : val_main_v302 (F := Ideal) x0 x1 x2 i
    = ((dkc P D σ (i 0).val (i 2).val (128 + (i 1).val) (i 3).val + (if (i 0).val < 64 then dkc P D σ ((i 0).val + 1) (i 2).val (i 1).val (i 3).val else 0) : ℝ) : EReal) := by
  rw [val_main_v302_apply, val_main_v298_apply, r288 H M, r301 H M]
  exact addR _ _

theorem r290 (i : S8208x2x64.Idx) : val_main_v290 (F := Ideal) x0 x1 x2 i
    = (((if (i 0).val < 16 then ∑ b : Fin 65, dkc P D σ b (i 1).val (368 + (i 0).val) (i 2).val else 0) : ℝ) : EReal) := by
  unfold val_main_v290
  by_cases h : (i 0).val < 16
  · rw [if_pos h, pad_apply_of_inside (s := S16x2x64) (k := ValueIdx.ix3 ⟨(i 0).val, h⟩ (i 1) (i 2))]
    · rw [val_main_v280_apply, r279 H M]
    · intro a
      match a with
      | ⟨0, _⟩ => show (i 0).val = 0 + (i 0).val * 1; omega
      | ⟨1, _⟩ => show (i 1).val = 0 + (i 1).val * 1; omega
      | ⟨2, _⟩ => show (i 2).val = 0 + (i 2).val * 1; omega
  · rw [if_neg h]
    unfold pad
    refine (dif_neg fun hin => ?_).trans (Ideal.ofBits_zero_f32.trans EReal.coe_zero.symm)
    have h2 := (hin 0).2.2
    have h3 : ((i 0).val - 0) / 1 < 16 := h2
    omega

theorem r310 (i : S8208x2x64.Idx) : val_main_v310 (F := Ideal) x0 x1 x2 i
    = ((gather (dkc P D σ) ((112 + (i 0).val) / 128) ((112 + (i 0).val) % 128) (i 1).val (i 2).val : ℝ) : EReal) := by
  have h1 : (i 1).val < 2 := (i 1).isLt
  have h2 : (i 2).val < 64 := (i 2).isLt
  rw [val_main_v310_apply, val_main_v309_apply, val_main_v307_apply, r290 H M, r302 H M]
  have e0 : (idx_main_v307 (idx_main_v309 i) 0).val = (112 + (i 0).val) / 128 := by
    show (((112 + (i 0).val) * 2 + (i 1).val) * 64 + (i 2).val) / 16384 = _
    omega
  have e1 : (idx_main_v307 (idx_main_v309 i) 1).val = (112 + (i 0).val) % 128 := by
    show (((112 + (i 0).val) * 2 + (i 1).val) * 64 + (i 2).val) / 128 % 128 = _
    omega
  have e2 : (idx_main_v307 (idx_main_v309 i) 2).val = (i 1).val := by
    show (((112 + (i 0).val) * 2 + (i 1).val) * 64 + (i 2).val) / 64 % 2 = _
    omega
  have e3 : (idx_main_v307 (idx_main_v309 i) 3).val = (i 2).val := by
    show (((112 + (i 0).val) * 2 + (i 1).val) * 64 + (i 2).val) % 64 = _
    omega
  refine (addR _ _).trans (real_eq ?_)
  rw [e0, e1, e2, e3]
  unfold gather
  rw [add_comm]
  congr 1
  by_cases h : (i 0).val < 16
  · rw [if_pos h, if_pos (by omega), show 256 + (112 + (i 0).val) % 128 = 368 + (i 0).val by omega]
  · rw [if_neg h, if_neg (by omega)]

/-- The keys' gradient. -/
theorem r319 (i : S8320x128.Idx) : val_main_v319 (F := Ideal) x0 x1 x2 i = ((dk P D σ ((i 0).val / 128) ((i 0).val % 128) ((i 1).val / 64) ((i 1).val % 64) : ℝ) : EReal) := by
  have h0 : (i 0).val < 8320 := (i 0).isLt
  have h1 : (i 1).val < 128 := (i 1).isLt
  rw [val_main_v319_apply]
  show val_main_v318 (F := Ideal) x0 x1 x2 i = _
  unfold val_main_v318 dk
  by_cases h : (i 0).val < 112
  · rw [pad_apply_of_not_inside (a := 0)]
    · rw [show (i 0).val / 128 = 0 by omega, gather_empty _ (fun b kv c d hn => dkc_unseen P D σ kv d hn) (show (i 0).val % 128 < 112 by omega)]
      refine (?_ : ((((0 : BitVec 32).toInt : ℤ) : ℝ) : EReal) = _)
      simp
    · intro k
      have e : 112 ≤ (i 0).val := k.1
      omega
  · rw [pad_apply_of_inside (s := S8208x128) (k := ValueIdx.ix2 ⟨(i 0).val - 112, by omega⟩ ⟨(i 1).val, h1⟩)]
    · rw [val_main_v317_apply, r310 H M]
      refine real_eq ?_
      have e0 : (idx_main_v317 (ValueIdx.ix2 ⟨(i 0).val - 112, by omega⟩ ⟨(i 1).val, h1⟩) 0).val = (i 0).val - 112 := by
        show (((i 0).val - 112) * 128 + (i 1).val) / 128 = _
        omega
      have e1 : (idx_main_v317 (ValueIdx.ix2 ⟨(i 0).val - 112, by omega⟩ ⟨(i 1).val, h1⟩) 1).val = (i 1).val / 64 := by
        show (((i 0).val - 112) * 128 + (i 1).val) / 64 % 2 = _
        omega
      have e2 : (idx_main_v317 (ValueIdx.ix2 ⟨(i 0).val - 112, by omega⟩ ⟨(i 1).val, h1⟩) 2).val = (i 1).val % 64 := by
        show (((i 0).val - 112) * 128 + (i 1).val) % 64 = _
        omega
      rw [e0, e1, e2, show 112 + ((i 0).val - 112) = (i 0).val by omega]
    · intro a
      match a with
      | ⟨0, _⟩ => show (i 0).val = 112 + ((i 0).val - 112) * 1; omega
      | ⟨1, _⟩ => show (i 1).val = 0 + (i 1).val * 1; omega

/-- The values' gradient. -/
theorem r322 (i : S8320x128.Idx) : val_main_v322 (F := Ideal) x0 x1 x2 i = ((dv P D σ ((i 0).val / 128) ((i 0).val % 128) ((i 1).val / 64) ((i 1).val % 64) : ℝ) : EReal) := by
  have h0 : (i 0).val < 8320 := (i 0).isLt
  have h1 : (i 1).val < 128 := (i 1).isLt
  rw [val_main_v322_apply]
  show val_main_v321 (F := Ideal) x0 x1 x2 i = _
  unfold val_main_v321 dv
  by_cases h : (i 0).val < 112
  · rw [pad_apply_of_not_inside (a := 0)]
    · rw [show (i 0).val / 128 = 0 by omega, gather_empty _ (fun b kv c d hn => dvc_unseen P D σ kv d hn) (show (i 0).val % 128 < 112 by omega)]
      refine (?_ : ((((0 : BitVec 32).toInt : ℤ) : ℝ) : EReal) = _)
      simp
    · intro k
      have e : 112 ≤ (i 0).val := k.1
      omega
  · rw [pad_apply_of_inside (s := S8208x128) (k := ValueIdx.ix2 ⟨(i 0).val - 112, by omega⟩ ⟨(i 1).val, h1⟩)]
    · rw [val_main_v320_apply, r306 H M]
      refine real_eq ?_
      have e0 : (idx_main_v320 (ValueIdx.ix2 ⟨(i 0).val - 112, by omega⟩ ⟨(i 1).val, h1⟩) 0).val = (i 0).val - 112 := by
        show (((i 0).val - 112) * 128 + (i 1).val) / 128 = _
        omega
      have e1 : (idx_main_v320 (ValueIdx.ix2 ⟨(i 0).val - 112, by omega⟩ ⟨(i 1).val, h1⟩) 1).val = (i 1).val / 64 := by
        show (((i 0).val - 112) * 128 + (i 1).val) / 64 % 2 = _
        omega
      have e2 : (idx_main_v320 (ValueIdx.ix2 ⟨(i 0).val - 112, by omega⟩ ⟨(i 1).val, h1⟩) 2).val = (i 1).val % 64 := by
        show (((i 0).val - 112) * 128 + (i 1).val) % 64 = _
        omega
      rw [e0, e1, e2, show 112 + ((i 0).val - 112) = (i 0).val by omega]
    · intro a
      match a with
      | ⟨0, _⟩ => show (i 0).val = 112 + ((i 0).val - 112) * 1; omega
      | ⟨1, _⟩ => show (i 1).val = 0 + (i 1).val * 1; omega

/-- The queries' gradient. -/
theorem r316 (i : S8320x1024.Idx) : val_main_v316 (F := Ideal) x0 x1 x2 i = ((dq P D σ ((i 0).val / 128) ((i 0).val % 128) ((i 1).val / 64) ((i 1).val % 64) : ℝ) : EReal) := by
  have h0 : (i 0).val < 8320 := (i 0).isLt
  have h1 : (i 1).val < 1024 := (i 1).isLt
  rw [val_main_v316_apply]
  show val_main_v315 (F := Ideal) x0 x1 x2 i = _
  unfold val_main_v315
  by_cases h : (i 0).val < 112
  · rw [pad_apply_of_not_inside (a := 0)]
    · unfold dq
      rw [Finset.sum_eq_zero fun c _ => by rw [ds_unseen P D σ _ (show ¬ seen ((i 0).val / 128) ((i 0).val % 128) c by unfold seen; omega), zero_mul]]
      refine (?_ : ((((0 : BitVec 32).toInt : ℤ) : ℝ) : EReal) = _)
      simp
    · intro k
      have e : 112 ≤ (i 0).val := k.1
      omega
  · rw [pad_apply_of_inside (s := S8208x1024) (k := ValueIdx.ix2 ⟨(i 0).val - 112, by omega⟩ ⟨(i 1).val, h1⟩)]
    · rw [val_main_v314_apply, val_main_v313_apply, val_main_v311_apply, r286 H M]
      refine real_eq ?_
      have ea : (((i 0).val - 112) * 1024 + (i 1).val) / 1024 = (i 0).val - 112 := by omega
      have eb : (((i 0).val - 112) * 1024 + (i 1).val) / 64 % 16 = (i 1).val / 64 := by omega
      have ec : (((i 0).val - 112) * 1024 + (i 1).val) % 64 = (i 1).val % 64 := by omega
      have e0 : (idx_main_v311 (idx_main_v313 (idx_main_v314 (ValueIdx.ix2 ⟨(i 0).val - 112, by omega⟩ ⟨(i 1).val, h1⟩))) 0).val = (i 0).val / 128 := by
        show (((112 + (((i 0).val - 112) * 1024 + (i 1).val) / 1024) * 16 + (((i 0).val - 112) * 1024 + (i 1).val) / 64 % 16) * 64 + (((i 0).val - 112) * 1024 + (i 1).val) % 64) / 131072 = _
        rw [ea, eb, ec]
        omega
      have e1 : (idx_main_v311 (idx_main_v313 (idx_main_v314 (ValueIdx.ix2 ⟨(i 0).val - 112, by omega⟩ ⟨(i 1).val, h1⟩))) 1).val = (i 0).val % 128 := by
        show (((112 + (((i 0).val - 112) * 1024 + (i 1).val) / 1024) * 16 + (((i 0).val - 112) * 1024 + (i 1).val) / 64 % 16) * 64 + (((i 0).val - 112) * 1024 + (i 1).val) % 64) / 1024 % 128 = _
        rw [ea, eb, ec]
        omega
      have e2 : (idx_main_v311 (idx_main_v313 (idx_main_v314 (ValueIdx.ix2 ⟨(i 0).val - 112, by omega⟩ ⟨(i 1).val, h1⟩))) 2).val = (i 1).val / 512 := by
        show (((112 + (((i 0).val - 112) * 1024 + (i 1).val) / 1024) * 16 + (((i 0).val - 112) * 1024 + (i 1).val) / 64 % 16) * 64 + (((i 0).val - 112) * 1024 + (i 1).val) % 64) / 512 % 2 = _
        rw [ea, eb, ec]
        omega
      have e3 : (idx_main_v311 (idx_main_v313 (idx_main_v314 (ValueIdx.ix2 ⟨(i 0).val - 112, by omega⟩ ⟨(i 1).val, h1⟩))) 3).val = (i 1).val / 64 % 8 := by
        show (((112 + (((i 0).val - 112) * 1024 + (i 1).val) / 1024) * 16 + (((i 0).val - 112) * 1024 + (i 1).val) / 64 % 16) * 64 + (((i 0).val - 112) * 1024 + (i 1).val) % 64) / 64 % 8 = _
        rw [ea, eb, ec]
        omega
      have e4 : (idx_main_v311 (idx_main_v313 (idx_main_v314 (ValueIdx.ix2 ⟨(i 0).val - 112, by omega⟩ ⟨(i 1).val, h1⟩))) 4).val = (i 1).val % 64 := by
        show (((112 + (((i 0).val - 112) * 1024 + (i 1).val) / 1024) * 16 + (((i 0).val - 112) * 1024 + (i 1).val) / 64 % 16) * 64 + (((i 0).val - 112) * 1024 + (i 1).val) % 64) % 64 = _
        rw [ea, eb, ec]
        omega
      rw [e0, e1, e2, e3, e4, show (i 1).val / 512 * 8 + (i 1).val / 64 % 8 = (i 1).val / 64 by omega]
    · intro a
      match a with
      | ⟨0, _⟩ => show (i 0).val = 112 + ((i 0).val - 112) * 1; omega
      | ⟨1, _⟩ => show (i 1).val = 0 + (i 1).val * 1; omega

/-! ## The sinks -/

theorem r230 (i : S2x8x1.Idx) : val_main_v230 (F := Ideal) x0 x1 x2 i = ((dsink P D σ ((i 0).val * 8 + (i 1).val) : ℝ) : EReal) := by
  unfold val_main_v230
  show Ideal.hostReduceAdd _ _ _ _ = _
  rw [host_sum (s := S65x2x8x128x1) (κ := Fin 65 × Fin 128) (e := fun x => ValueIdx.ix5 x.1 (i 0) (i 1) x.2 (i 2))]
  · rw [val_main_cst_49_apply, Fintype.sum_prod_type]
    refine (congrArg (· + _) Ideal.ofBits_zero_f32).trans ((zero_add _).trans ?_)
    simp only [r229 H M]
    simp only [coe_sum]
    refine real_eq ?_
    unfold dsink
    refine Finset.sum_congr rfl fun b _ => ?_
    rw [Finset.sum_neg_distrib]
  · intro x y h
    exact Prod.ext (congrFun h 0) (congrFun h 3)
  · intro x
    funext a
    match a with
    | ⟨0, _⟩ => exact Fin.ext (Shape.ReducesTo.drop_apply_val_of_eq reducesTo_S65x2x8x128x1_S2x8x1_d0_3 _ 0 1)
    | ⟨1, _⟩ => exact Fin.ext (Shape.ReducesTo.drop_apply_val_of_eq reducesTo_S65x2x8x128x1_S2x8x1_d0_3 _ 1 2)
    | ⟨2, _⟩ => exact Fin.ext (Shape.ReducesTo.drop_apply_val_of_eq reducesTo_S65x2x8x128x1_S2x8x1_d0_3 _ 2 4)
  · intro y h
    refine ⟨(y 0, y 3), ?_⟩
    subst h
    funext a
    match a with
    | ⟨0, _⟩ => rfl
    | ⟨1, _⟩ => exact Fin.ext (Shape.ReducesTo.drop_apply_val_of_eq reducesTo_S65x2x8x128x1_S2x8x1_d0_3 _ 0 1)
    | ⟨2, _⟩ => exact Fin.ext (Shape.ReducesTo.drop_apply_val_of_eq reducesTo_S65x2x8x128x1_S2x8x1_d0_3 _ 1 2)
    | ⟨3, _⟩ => rfl
    | ⟨4, _⟩ => exact Fin.ext (Shape.ReducesTo.drop_apply_val_of_eq reducesTo_S65x2x8x128x1_S2x8x1_d0_3 _ 2 4)

theorem r233 (i : S2x8.Idx) : val_main_v233 (F := Ideal) x0 x1 x2 i = ((dsink P D σ ((i 0).val * 8 + (i 1).val) : ℝ) : EReal) := by
  have h0 : (i 0).val < 2 := (i 0).isLt
  have h1 : (i 1).val < 8 := (i 1).isLt
  unfold val_main_v233
  show Ideal.hostReduceAdd _ _ _ _ = _
  rw [host_sum (s := S1x2x8x1x1) (κ := Fin 1) (e := fun _ => ValueIdx.ix5 0 (i 0) (i 1) 0 0)]
  · rw [val_main_cst_50_apply, Fin.sum_univ_one, val_main_v231_apply, r230 H M]
    refine (congrArg (· + _) Ideal.ofBits_zero_f32).trans ((zero_add _).trans (real_eq (congrArg _ ?_)))
    show ((((0 * 2 + (i 0).val) * 8 + (i 1).val) * 1 + 0) * 1 + 0) / 8 * 8 + ((((0 * 2 + (i 0).val) * 8 + (i 1).val) * 1 + 0) * 1 + 0) / 1 % 8 = _
    omega
  · intro x y _
    exact Subsingleton.elim _ _
  · intro x
    funext a
    match a with
    | ⟨0, _⟩ => exact Fin.ext (Shape.ReducesTo.drop_apply_val_of_eq reducesTo_S1x2x8x1x1_S2x8_d0_3_4 _ 0 1)
    | ⟨1, _⟩ => exact Fin.ext (Shape.ReducesTo.drop_apply_val_of_eq reducesTo_S1x2x8x1x1_S2x8_d0_3_4 _ 1 2)
  · intro y h
    refine ⟨0, ?_⟩
    subst h
    funext a
    match a with
    | ⟨0, _⟩ => exact Subsingleton.elim (α := Fin 1) _ _
    | ⟨1, _⟩ => exact Fin.ext (Shape.ReducesTo.drop_apply_val_of_eq reducesTo_S1x2x8x1x1_S2x8_d0_3_4 _ 0 1)
    | ⟨2, _⟩ => exact Fin.ext (Shape.ReducesTo.drop_apply_val_of_eq reducesTo_S1x2x8x1x1_S2x8_d0_3_4 _ 1 2)
    | ⟨3, _⟩ => exact Subsingleton.elim (α := Fin 1) _ _
    | ⟨4, _⟩ => exact Subsingleton.elim (α := Fin 1) _ _

theorem r256 (i : S2x8x1x1.Idx) : val_main_v256 (F := Ideal) x0 x1 x2 i = (0 : EReal) := by
  rw [val_main_v256_apply]
  unfold val_main_v255
  refine host_zero _ _ _ _ Ideal.ofBits_zero_f32 fun j => ?_
  rw [val_main_v253_apply]
  unfold val_main_v252
  refine host_zero _ _ _ _ Ideal.ofBits_zero_f32 fun k => ?_
  rw [val_main_v251_apply, r250 H M]
  exact mul0 _

theorem r270 (i : S2x8.Idx) : val_main_v270 (F := Ideal) x0 x1 x2 i = ((dsink P D σ ((i 0).val * 8 + (i 1).val) : ℝ) : EReal) := by
  unfold val_main_v270
  show Ideal.hostReduceAdd _ _ _ _ = _
  rw [host_sum (s := S2x8x1x1) (κ := Fin 1) (e := fun _ => ValueIdx.ix4 (i 0) (i 1) 0 0)]
  · rw [val_main_cst_59_apply, Fin.sum_univ_one, val_main_v257_apply, r256 H M, add0, val_main_v234_apply, r233 H M]
    exact (congrArg (· + _) Ideal.ofBits_zero_f32).trans (zero_add _)
  · intro x y _
    exact Subsingleton.elim _ _
  · intro x
    funext a
    match a with
    | ⟨0, _⟩ => exact Fin.ext (Shape.ReducesTo.drop_apply_val_of_eq reducesTo_S2x8x1x1_S2x8_d2_3 _ 0 0)
    | ⟨1, _⟩ => exact Fin.ext (Shape.ReducesTo.drop_apply_val_of_eq reducesTo_S2x8x1x1_S2x8_d2_3 _ 1 1)
  · intro y h
    refine ⟨0, ?_⟩
    subst h
    funext a
    match a with
    | ⟨0, _⟩ => exact Fin.ext (Shape.ReducesTo.drop_apply_val_of_eq reducesTo_S2x8x1x1_S2x8_d2_3 _ 0 0)
    | ⟨1, _⟩ => exact Fin.ext (Shape.ReducesTo.drop_apply_val_of_eq reducesTo_S2x8x1x1_S2x8_d2_3 _ 1 1)
    | ⟨2, _⟩ => exact Subsingleton.elim (α := Fin 1) _ _
    | ⟨3, _⟩ => exact Subsingleton.elim (α := Fin 1) _ _

/-- The sinks' gradient: sixteen lanes, then zeros. -/
theorem r324 (i : S1x128.Idx) : val_main_v324 (F := Ideal) x0 x1 x2 i = (((if (i 1).val < 16 then dsink P D σ (i 1).val else 0) : ℝ) : EReal) := by
  have h0 : (i 0).val < 1 := (i 0).isLt
  rw [val_main_v324_apply]
  unfold val_main_v323
  by_cases h : (i 1).val < 16
  · rw [if_pos h, pad_apply_of_inside (s := S16) (k := ValueIdx.ix1 ⟨(i 1).val, h⟩)]
    · rw [val_main_v271_apply, r270 H M]
      refine real_eq (congrArg _ ?_)
      show (i 1).val / 8 * 8 + (i 1).val % 8 = _
      omega
    · intro a
      match a with
      | ⟨0, _⟩ => show (i 0).val * 128 + (i 1).val = 0 + (i 1).val * 1; omega
  · rw [if_neg h]
    unfold pad
    refine (dif_neg fun hin => ?_).trans (?_ : ((((0 : BitVec 32).toInt : ℤ) : ℝ) : EReal) = _)
    · have h2 := (hin 0).2.2
      have h3 : ((i 0).val * 128 + (i 1).val - 0) / 1 < 16 := h2
      omega
    · simp

end Cert.ReferenceIdeal.Ref
end
-- ==== Proof.RefFinal.lean ====
/- The reference's run: its four results are the gradients. -/
module

public import proofs.«01_k».proof.Proof.RefOut
public import proofs.«01_k».proof.Proof.Gen.ReferenceIdeal.Run
public import proofs.«01_k».proof.Proof.Gen.ReferenceIdeal.Read

@[expose] public section

set_option maxRecDepth 16384

noncomputable section

namespace Cert.ReferenceIdeal.Ref

open Idealize.ShloMosaic Idealize.SL.Sem Cert.ReferenceIdeal Cert.ReferenceIdeal.Gen Cert.ReferenceIdeal.Read Cert.Spec

/-- The gradient of the queries. -/
def outQ (P D : ℕ → ℕ → ℝ) (σ : ℕ → ℝ) : FVec Ideal S8320x1024 .bf16 := fun i =>
  ((dq P D σ ((i 0).val / 128) ((i 0).val % 128) ((i 1).val / 64) ((i 1).val % 64) : ℝ) : EReal)
/-- The gradient of the keys. -/
def outK (P D : ℕ → ℕ → ℝ) (σ : ℕ → ℝ) : FVec Ideal S8320x128 .bf16 := fun i =>
  ((dk P D σ ((i 0).val / 128) ((i 0).val % 128) ((i 1).val / 64) ((i 1).val % 64) : ℝ) : EReal)
/-- The gradient of the values. -/
def outV (P D : ℕ → ℕ → ℝ) (σ : ℕ → ℝ) : FVec Ideal S8320x128 .bf16 := fun i =>
  ((dv P D σ ((i 0).val / 128) ((i 0).val % 128) ((i 1).val / 64) ((i 1).val % 64) : ℝ) : EReal)
/-- The gradient of the sinks, in the first 16 lanes of a row of 128. -/
def outS (P D : ℕ → ℕ → ℝ) (σ : ℕ → ℝ) : FVec Ideal S1x128 .f32 := fun i =>
  ((if (i 1).val < 16 then dsink P D σ (i 1).val else 0 : ℝ) : EReal)

/-- The four results as arrays of the arguments. -/
theorem arrays {x0 : A0} {x1 : A1} {x2 : A2} {P D : ℕ → ℕ → ℝ} {σ : ℕ → ℝ} (H : Args x0 x1 x2 P D σ) :
    val_main_v316 (F := Ideal) x0 x1 x2 = outQ P D σ ∧ val_main_v319 (F := Ideal) x0 x1 x2 = outK P D σ
      ∧ val_main_v322 (F := Ideal) x0 x1 x2 = outV P D σ ∧ val_main_v324 (F := Ideal) x0 x1 x2 = outS P D σ := by
  obtain ⟨μ, M⟩ := shift H
  exact ⟨funext (r316 H M), funext (r319 H M), funext (r322 H M), funext (r324 H M)⟩

/-- The reference's run leaves its arguments unchanged and every counter at zero. -/
theorem frame {F : FTy → Type} [FloatOps F] [∀ e, Nonempty (Elt F e)] (m : (ℓ : Loc nD τ sig) → Buf (Elt F) ℓ) (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2.2.2.2, sem_eq_zero_of_no_sems (by decide) r.2⟩) (Value.run m g)

set_option maxHeartbeats 4000000 in
/-- The reference's run: its four results are the gradients and its arguments end unchanged. -/
theorem results {m : (ℓ : Loc nD τ sig) → Buf (Elt Ideal) ℓ} (g : Dev nD → PrngReg) (P D : Dev nD → ℕ → ℕ → ℝ) (σ : Dev nD → ℕ → ℝ)
    (H : ∀ c : Dev nD, Args (m ((c.tc : Thread nD τ).loc main_arg0)) (m ((c.tc : Thread nD τ).loc main_arg1)) (m ((c.tc : Thread nD τ).loc main_arg2)) (P c) (D c) (σ c)) :
    θ_run defs (onTc (τ := τ) (main (F := Ideal))) ⟨m, fun _ => 0, g⟩ (fun r => ∀ c : Dev nD,
      r.2.mem ((c.tc : Thread nD τ).loc main_v316) = outQ (P c) (D c) (σ c)
      ∧ r.2.mem ((c.tc : Thread nD τ).loc main_v319) = outK (P c) (D c) (σ c)
      ∧ r.2.mem ((c.tc : Thread nD τ).loc main_v322) = outV (P c) (D c) (σ c)
      ∧ r.2.mem ((c.tc : Thread nD τ).loc main_v324) = outS (P c) (D c) (σ c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (Value.run m g)
  obtain ⟨h0, h1, h2, h3, u⟩ := h c
  obtain ⟨a0, a1, a2, a3⟩ := arrays (H c)
  exact ⟨(h0.trans (val_main_v316_eq (StableHlo.launchContents m c))).trans a0, (h1.trans (val_main_v319_eq (StableHlo.launchContents m c))).trans a1,
    (h2.trans (val_main_v322_eq (StableHlo.launchContents m c))).trans a2, (h3.trans (val_main_v324_eq (StableHlo.launchContents m c))).trans a3, u⟩

end Cert.ReferenceIdeal.Ref

end
-- ==== Proof.Finite.lean ====
/- The precondition, read: every number the gradients depend on is a real number. -/
module

public import proofs.«01_k».proof.Defs
public import proofs.«01_k».proof.Proof.KIns
public import proofs.«01_k».proof.Proof.RefIn
public import Idealize.ShloMosaic.Lib.ReduceAll
public import Idealize.ShloMosaic.Lib.KernelVsHost

@[expose] public section

set_option maxRecDepth 16384

noncomputable section

namespace Cert.Finite

open Idealize.ShloMosaic Cert.Pre_finite

/-- The side conditions of the precondition's operations. -/
theorem facts : Cert.Pre_finite.Facts where
  slices_S8320x3328_S8320x1280_0_2048 := by decide
  bcast_S_S8320x1280 := by decide
  reducesTo_S8320x1280_S_d0_1 := by decide
  h_S_ := by decide
  bcast_S_S16 := by decide
  reducesTo_S16_S_d0 := by decide
  slices_S8320x2048_S8320x1024_0_1024 := by decide
  bcast_S_S8320x1024 := by decide
  reducesTo_S8320x1024_S_d0_1 := by decide

instance : Cert.Pre_finite.Facts := facts

/-- A bit that is the conjunction of two is one when both are. -/
theorem and_one : ∀ a b : BitVec 1, IntOp.andi a b = 1#1 → a = 1#1 ∧ b = 1#1 := by decide

/-- A number whose absolute value is below infinity is real. -/
theorem real_of_lt (x : EReal) (h : max x (-x) < ⊤) : x = ((x.toReal : ℝ) : EReal) := by
  refine (EReal.coe_toReal ?_ ?_).symm
  · rintro rfl
    simp at h
  · rintro rfl
    simp at h

/-- The comparison with infinity, at one entry. -/
theorem real_of_bit {s : Shape} (x y : FVec Ideal s .f32) (i : s.Idx) (hy : y i = (⊤ : EReal))
    (h : cmpf .olt (Host.absf x) y i = 1#1) : x i = (((x i : EReal).toReal : ℝ) : EReal) := by
  refine real_of_lt _ ?_
  have h' : BitVec.ofBool (decide (max (x i : EReal) (-(x i : EReal)) < (y i : EReal))) = 1#1 := h
  rw [hy] at h'
  by_contra hn
  rw [decide_eq_false hn] at h'
  exact absurd h' (by decide)

/-- The bits of infinity denote infinity. -/
theorem bits_top : (FloatOps.ofBits .f32 0x7F800000#32 : Ideal .f32) = (⊤ : EReal) :=
  show Ideal.ofBits .f32 0x7F800000#32 = ⊤ by simp [Ideal.ofBits, Ideal.ieee]

theorem splat_top {s : Shape} (h : S_.BroadcastsInDim s (![] : Fin 0 → Fin s.rank)) (i : s.Idx) :
    (broadcastInDim s ![] h (constant (F := Ideal) S_ .f32 0x7F800000#32) : FVec Ideal s .f32) i = (⊤ : EReal) := bits_top

theorem sub0 : Subsingleton S_.Idx := ⟨fun a b => funext fun k => k.elim0⟩

/-- What the precondition says, entry by entry. -/
theorem entries (x0 : FVec Ideal S8320x3328 .f32) (x1 : FVec Ideal S16 .f32) (x2 : FVec Ideal S8320x2048 .f32)
    (h : Cert.Pre_finite.fn x0 x1 x2 = fun _ => 1#1) :
    (∀ i : S8320x3328.Idx, 2048 ≤ (i 1).val → x0 i = (((x0 i : EReal).toReal : ℝ) : EReal))
      ∧ (∀ i : S16.Idx, x1 i = (((x1 i : EReal).toReal : ℝ) : EReal))
      ∧ (∀ i : S8320x2048.Idx, 1024 ≤ (i 1).val → x2 i = (((x2 i : EReal).toReal : ℝ) : EReal)) := by
  haveI := sub0
  have e := congrFun h (fun k => k.elim0)
  unfold Cert.Pre_finite.fn at e
  obtain ⟨e, e2⟩ := and_one _ _ e
  obtain ⟨e0, e1⟩ := and_one _ _ e
  refine ⟨fun i hi => ?_, fun i => ?_, fun i hi => ?_⟩
  · have b := Host.reduce_andi_all _ _ _ _ _ e0 (ValueIdx.ix2 (i 0) ⟨(i 1).val - 2048, by have := (i 1).isLt; change (i 1).val < 3328 at this; omega⟩)
    have r := real_of_bit _ _ _ (splat_top _ _) b
    have q : (extractStridedSlice S8320x1280 ![0, 2048] x0 Facts.slices_S8320x3328_S8320x1280_0_2048) (ValueIdx.ix2 (i 0) ⟨(i 1).val - 2048, by have := (i 1).isLt; change (i 1).val < 3328 at this; omega⟩) = x0 i := by
      refine congrArg x0 (funext fun a => ?_)
      fin_cases a
      · exact Fin.ext (by simp)
      · exact Fin.ext (by simp; omega)
    beta_reduce at r
    rw [q] at r
    exact r
  · exact real_of_bit _ _ _ (splat_top _ _) (Host.reduce_andi_all _ _ _ _ _ e1 i)
  · have b := Host.reduce_andi_all _ _ _ _ _ e2 (ValueIdx.ix2 (i 0) ⟨(i 1).val - 1024, by have := (i 1).isLt; change (i 1).val < 2048 at this; omega⟩)
    have r := real_of_bit _ _ _ (splat_top _ _) b
    have q : (extractStridedSlice S8320x1024 ![0, 1024] x2 Facts.slices_S8320x2048_S8320x1024_0_1024) (ValueIdx.ix2 (i 0) ⟨(i 1).val - 1024, by have := (i 1).isLt; change (i 1).val < 2048 at this; omega⟩) = x2 i := by
      refine congrArg x2 (funext fun a => ?_)
      fin_cases a
      · exact Fin.ext (by simp)
      · exact Fin.ext (by simp; omega)
    beta_reduce at r
    rw [q] at r
    exact r

/-- The real matrix of an array, zero outside it. -/
def mat {n m : ℕ} (x : (⟨2, ![n, m]⟩ : Shape).Idx → EReal) (i j : ℕ) : ℝ :=
  if h : i < n ∧ j < m then (x (ValueIdx.ix2 ⟨i, h.1⟩ ⟨j, h.2⟩)).toReal else 0

/-- The real vector of an array, zero outside it. -/
def vect {n : ℕ} (x : (⟨1, ![n]⟩ : Shape).Idx → EReal) (i : ℕ) : ℝ :=
  if h : i < n then (x (ValueIdx.ix1 ⟨i, h⟩)).toReal else 0

theorem mat_at {n m : ℕ} (x : (⟨2, ![n, m]⟩ : Shape).Idx → EReal) (i : (⟨2, ![n, m]⟩ : Shape).Idx) :
    mat x (i 0).val (i 1).val = (x i).toReal := by
  unfold mat
  rw [dif_pos ⟨(i 0).isLt, (i 1).isLt⟩]
  exact congrArg (fun z => (x z).toReal) (funext fun a => by fin_cases a <;> rfl)

theorem vect_at {n : ℕ} (x : (⟨1, ![n]⟩ : Shape).Idx → EReal) (i : (⟨1, ![n]⟩ : Shape).Idx) :
    vect x (i 0).val = (x i).toReal := by
  unfold vect
  have hi : (i 0).val < n := (i 0).isLt
  rw [dif_pos hi]
  exact congrArg (fun z => (x z).toReal) (funext fun a => by fin_cases a; rfl)

/-- Arrays that meet the precondition are the reference's real inputs. -/
theorem args (x0 : FVec Ideal S8320x3328 .f32) (x1 : FVec Ideal S16 .f32) (x2 : FVec Ideal S8320x2048 .f32)
    (h : Cert.Pre_finite.fn x0 x1 x2 = fun _ => 1#1) : Cert.ReferenceIdeal.Ref.Args x0 x1 x2 (mat x0) (mat x2) (vect x1) := by
  obtain ⟨h0, h1, h2⟩ := entries x0 x1 x2 h
  exact ⟨fun i hi => (h0 i hi).trans (congrArg _ (mat_at x0 i).symm), fun i hi => (h2 i hi).trans (congrArg _ (mat_at x2 i).symm),
    fun i => (h1 i).trans (congrArg _ (vect_at x1 i).symm)⟩

/-- The kernel's inputs are the same real numbers. -/
theorem kargs (m : (ℓ : Loc Cert.KernelIdeal.nD Cert.KernelIdeal.τ Cert.KernelIdeal.sig) → Buf (Elt Ideal) ℓ) (c : Dev Cert.KernelIdeal.nD) (P D : ℕ → ℕ → ℝ) (σ : ℕ → ℝ)
    (A : Cert.ReferenceIdeal.Ref.Args (m (c.tc.loc Cert.KernelIdeal.main_arg0)) (m (c.tc.loc Cert.KernelIdeal.main_arg1)) (m (c.tc.loc Cert.KernelIdeal.main_arg2)) P D σ) :
    Cert.KernelIdeal.Val.Args m c P D σ :=
  ⟨fun i j hj => A.hP (ValueIdx.ix2 i j) hj, fun i j hj => A.hD (ValueIdx.ix2 i j) hj, fun l => A.hσ (ValueIdx.ix1 l)⟩

end Cert.Finite

end
-- ==== Proof.Mul.lean ====
/- Matrices over the extended reals, read at pairs of natural numbers, and what a product of two of them is: the words in
   which the products of the feed-forward layers and of the projections are stated. -/
module

public import Idealize.ShloMosaic.Lib.MatmulPlain
public import Idealize.ShloMosaic.Lib.Pipeline.ValueKit
public import Mathlib.Algebra.BigOperators.Intervals

@[expose] public section

noncomputable section

namespace Cert.Mul

open Idealize.ShloMosaic hiding ix2
open Idealize.ShloMosaic.ValueIdx Idealize.SL.Sem

/-- The entry of a matrix at a pair of numbers, zero outside it. -/
def ent {n m : ℕ} (x : (⟨2, ![n, m]⟩ : Shape).Idx → EReal) (i j : ℕ) : EReal :=
  if h : i < n ∧ j < m then x (ix2 ⟨i, h.1⟩ ⟨j, h.2⟩) else 0

theorem ent_ix2 {n m : ℕ} (x : (⟨2, ![n, m]⟩ : Shape).Idx → EReal) (i j : ℕ) (hi : i < n) (hj : j < m) :
    ent x i j = x (ix2 ⟨i, hi⟩ ⟨j, hj⟩) := dif_pos ⟨hi, hj⟩

theorem ent_at {n m : ℕ} (x : (⟨2, ![n, m]⟩ : Shape).Idx → EReal) (i : (⟨2, ![n, m]⟩ : Shape).Idx) :
    x i = ent x (i 0).val (i 1).val :=
  Eq.trans (congrArg x (funext fun a => by fin_cases a <;> rfl)) (ent_ix2 x (i 0).val (i 1).val (i 0).isLt (i 1).isLt).symm

/-- The entry an array has at a place, when the array and the place's coordinates are known. -/
theorem entry {n m : ℕ} {x y : (⟨2, ![n, m]⟩ : Shape).Idx → EReal} (e : x = y) (i : (⟨2, ![n, m]⟩ : Shape).Idx) {a b : ℕ}
    (h0 : (i 0).val = a) (h1 : (i 1).val = b) : x i = ent y a b := by
  subst e h0 h1
  exact ent_at x i

/-- The product of two matrices at (r, c): the sum over the first K inner places. -/
def dot (A B : ℕ → ℕ → EReal) (K r c : ℕ) : EReal := ∑ k ∈ Finset.range K, A r k * B k c

/-- The product with the second matrix transposed. -/
def dotT (A B : ℕ → ℕ → EReal) (K r c : ℕ) : EReal := ∑ k ∈ Finset.range K, A r k * B c k

theorem dot_none (A B : ℕ → ℕ → EReal) (K r c : ℕ) (h : K = 0) : dot A B K r c = 0 := by
  subst h
  exact Finset.sum_range_zero _

/-- A further block of inner places adds its own product. -/
theorem dot_add (A B : ℕ → ℕ → EReal) (K L r c : ℕ) :
    dot A B (K + L) r c = dot A B K r c + ∑ k : Fin L, A r (K + k.val) * B (K + k.val) c := by
  unfold dot
  rw [Finset.sum_range_add, Fin.sum_univ_eq_sum_range (fun k => A r (K + k) * B (K + k) c) L]

theorem dot_fin (A B : ℕ → ℕ → EReal) (K r c : ℕ) : (∑ k : Fin K, A r k.val * B k.val c) = dot A B K r c :=
  Fin.sum_univ_eq_sum_range (fun k => A r k * B k c) K

theorem dotT_fin (A B : ℕ → ℕ → EReal) (K r c : ℕ) : (∑ k : Fin K, A r k.val * B c k.val) = dotT A B K r c :=
  Fin.sum_univ_eq_sum_range (fun k => A r k * B c k) K

/-- A block's product at point n of a grid of GJ columns of blocks and NK blocks of inner places: entry (r, k) of the block. -/
def part (A B : ℕ → ℕ → EReal) (NK GJ TM TN TK n r k : ℕ) : EReal :=
  ∑ q : Fin TK, A (n / NK / GJ * TM + r) (n % NK * TK + q.val) * B (n % NK * TK + q.val) (n / NK % GJ * TN + k)

/-- A sum that starts with the first block of inner places and adds each further one is, at the last, the whole product. -/
theorem sweep {A B : ℕ → ℕ → EReal} {N NK GJ TM TN TK : ℕ} {s o : ∀ n, n < N → Fin TM → Fin TN → EReal}
    (hK : 2 ≤ NK)
    (first : ∀ n h r k, n % NK = 0 → s n h r k = part A B NK GJ TM TN TK n r.val k.val)
    (more : ∀ n (h : n < N) r k, n % NK ≠ 0 → n % NK ≠ NK - 1 →
      s n h r k = s (n - 1) (Nat.lt_of_le_of_lt (Nat.sub_le _ _) h) r k + part A B NK GJ TM TN TK n r.val k.val)
    (last : ∀ n (h : n < N) r k, n % NK = NK - 1 →
      o n h r k = s (n - 1) (Nat.lt_of_le_of_lt (Nat.sub_le _ _) h) r k + part A B NK GJ TM TN TK n r.val k.val)
    (n : ℕ) (h : n < N) (r : Fin TM) (k : Fin TN) (e : n % NK = NK - 1) :
    o n h r k = dot A B (NK * TK) (n / NK / GJ * TM + r.val) (n / NK % GJ * TN + k.val) := by
  have step : ∀ n, (n + 1) % NK ≠ 0 → (n + 1) / NK = n / NK ∧ (n + 1) % NK = n % NK + 1 := by
    intro n h0
    have d : ¬NK ∣ n + 1 := fun d => h0 (Nat.mod_eq_zero_of_dvd d)
    have q : (n + 1) / NK = n / NK := by rw [Nat.succ_div, if_neg d, Nat.add_zero]
    have a := Nat.div_add_mod n NK
    have b := Nat.div_add_mod (n + 1) NK
    rw [q] at b
    exact ⟨q, by omega⟩
  have carried : ∀ n (h : n < N), n % NK ≠ NK - 1 → ∀ r k,
      s n h r k = dot A B (n % NK * TK + TK) (n / NK / GJ * TM + r.val) (n / NK % GJ * TN + k.val) := by
    intro n
    induction n with
    | zero =>
      intro h _ r k
      rw [first 0 h r k (Nat.zero_mod NK), dot_add, dot_none _ _ (0 % NK * TK) _ _ (by rw [Nat.zero_mod, Nat.zero_mul]), zero_add]
      rfl
    | succ n ih =>
      intro h hn r k
      by_cases h0 : (n + 1) % NK = 0
      · rw [first (n + 1) h r k h0, dot_add, dot_none _ _ ((n + 1) % NK * TK) _ _ (by rw [h0, Nat.zero_mul]), zero_add]
        rfl
      · obtain ⟨q, u⟩ := step n h0
        have b := Nat.mod_lt (n + 1) (show NK > 0 by omega)
        rw [more (n + 1) h r k h0 hn, dot_add]
        refine congrArg (· + _) ((ih (Nat.lt_of_succ_lt h) (fun x => by omega) r k).trans ?_)
        rw [q, u, Nat.add_mul, Nat.one_mul]
  cases n with
  | zero => rw [Nat.zero_mod] at e; omega
  | succ n =>
    obtain ⟨q, u⟩ := step n (by omega)
    rw [last (n + 1) h r k e, show NK * TK = (n + 1) % NK * TK + TK by rw [e, ← Nat.succ_mul]; congr 1; omega, dot_add]
    refine congrArg (· + _) ((carried n (Nat.lt_of_succ_lt h) (by omega) r k).trans ?_)
    rw [q, u, Nat.add_mul, Nat.one_mul]

/-- Matrices side by side, each with its number of columns. -/
def beside : List (ℕ × (ℕ → ℕ → EReal)) → ℕ → ℕ → EReal
  | [], _, _ => 0
  | (n, a) :: l, i, j => if j < n then a i j else beside l i (j - n)

/-- The product of matrices side by side is the sum of the products with the matching columns. -/
theorem dotT_beside (n : ℕ) (a : ℕ → ℕ → EReal) (l : List (ℕ × (ℕ → ℕ → EReal))) (W : ℕ → ℕ → EReal) (K r c : ℕ) :
    dotT (beside ((n, a) :: l)) W (n + K) r c = dotT a W n r c + dotT (beside l) (fun i k => W i (n + k)) K r c := by
  unfold dotT
  rw [Finset.sum_range_add]
  refine congrArg₂ (· + ·) (Finset.sum_congr rfl fun k hk => ?_) (Finset.sum_congr rfl fun k _ => ?_)
  · rw [beside, if_pos (Finset.mem_range.mp hk)]
  · rw [beside, if_neg (by omega), Nat.add_sub_cancel_left]

theorem dotT_one (n : ℕ) (a : ℕ → ℕ → EReal) (W : ℕ → ℕ → EReal) (r c : ℕ) : dotT (beside [(n, a)]) W n r c = dotT a W n r c :=
  Finset.sum_congr rfl fun k hk => by rw [beside, if_pos (Finset.mem_range.mp hk)]

/-- An array put together of arrays side by side, read at an entry: the first array or the others. -/
theorem side {T n N : ℕ} (x : (⟨2, ![T, n]⟩ : Shape).Idx → EReal) (q : (s : Shape) × (s.Idx → EReal)) (xs : List ((s : Shape) × (s.Idx → EReal)))
    (l : List (ℕ × (ℕ → ℕ → EReal))) (j : (⟨2, ![T, N]⟩ : Shape).Idx)
    (hs : ∀ s' ∈ ((⟨⟨2, ![T, n]⟩, x⟩ :: q :: xs : List ((s : Shape) × (s.Idx → EReal)))).map (·.1), s'.FitsOff ⟨2, ![T, N]⟩ 1) (k : ℕ)
    (hk : k < (axisSizes ⟨2, ![T, N]⟩ 1 (⟨⟨2, ![T, n]⟩, x⟩ :: q :: xs)).sum)
    (rest : ∀ k h, concatenateAt ⟨2, ![T, N]⟩ 1 j (q :: xs) (fun s' h => hs s' (List.mem_cons_of_mem _ h)) k h = beside l (j 0).val k) :
    concatenateAt ⟨2, ![T, N]⟩ 1 j (⟨⟨2, ![T, n]⟩, x⟩ :: q :: xs) hs k hk = beside ((n, ent x) :: l) (j 0).val k := by
  rw [concatenateAt_cons, beside]
  by_cases h : k < n
  · refine (dif_pos h).trans ?_
    rw [if_pos h]
    exact ent_at x _
  · refine (dif_neg h).trans ?_
    rw [if_neg h]
    exact rest _ _

theorem side_last {T n N : ℕ} (x : (⟨2, ![T, n]⟩ : Shape).Idx → EReal) (j : (⟨2, ![T, N]⟩ : Shape).Idx)
    (hs : ∀ s' ∈ ([⟨⟨2, ![T, n]⟩, x⟩] : List ((s : Shape) × (s.Idx → EReal))).map (·.1), s'.FitsOff ⟨2, ![T, N]⟩ 1) (k : ℕ)
    (hk : k < (axisSizes ⟨2, ![T, N]⟩ 1 [⟨⟨2, ![T, n]⟩, x⟩]).sum) :
    concatenateAt ⟨2, ![T, N]⟩ 1 j [⟨⟨2, ![T, n]⟩, x⟩] hs k hk = beside [(n, ent x)] (j 0).val k := by
  have h : k < n := by
    rw [axisSizes_cons _ _ _ _ (hs _ List.mem_cons_self)] at hk
    simpa using hk
  rw [concatenateAt_singleton, beside, if_pos h]
  exact ent_at x _

/-- A load of some columns of a block, or of some rows, read at an entry. -/
theorem ld_cols {n m m' : ℕ} (X : Vec Ideal ⟨2, ![n, m]⟩ .bf16) (p : ℕ)
    (inb : ∀ a, (![0, p] : Fin 2 → ℕ) a + (![n, m'] : Fin 2 → ℕ) a ≤ (⟨2, ![n, m]⟩ : Shape).size a) (a : Fin n) (b : Fin m') (h : p + b.val < m) :
    (View.ld X (Rect.unit (s := ⟨2, ![n, m]⟩) ![0, p] ![n, m'] inb) : Vec Ideal ⟨2, ![n, m']⟩ .bf16) (ix2 a b) = X (ix2 a ⟨p + b.val, h⟩) := by
  rw [View.ld_unit]
  exact congrArg X (funext fun k => by
    fin_cases k
    · exact Fin.ext (Nat.zero_add _)
    · rfl)

theorem ld_rows {n m n' : ℕ} (X : Vec Ideal ⟨2, ![n, m]⟩ .bf16) (p : ℕ)
    (inb : ∀ a, (![p, 0] : Fin 2 → ℕ) a + (![n', m] : Fin 2 → ℕ) a ≤ (⟨2, ![n, m]⟩ : Shape).size a) (a : Fin n') (b : Fin m) (h : p + a.val < n) :
    (View.ld X (Rect.unit (s := ⟨2, ![n, m]⟩) ![p, 0] ![n', m] inb) : Vec Ideal ⟨2, ![n', m]⟩ .bf16) (ix2 a b) = X (ix2 ⟨p + a.val, h⟩ b) := by
  rw [View.ld_unit]
  exact congrArg X (funext fun k => by
    fin_cases k
    · rfl
    · exact Fin.ext (Nat.zero_add _))

/-- Two places of a matrix are the same when their coordinates are. -/
theorem same {n m : ℕ} {i j : (⟨2, ![n, m]⟩ : Shape).Idx} (h0 : (i 0).val = (j 0).val) (h1 : (i 1).val = (j 1).val) : i = j :=
  funext fun a => by
    fin_cases a
    · exact Fin.ext h0
    · exact Fin.ext h1

/-- A block whose entries are known, read where it lies in the whole. -/
theorem tile {n m : ℕ} {x : (⟨2, ![n, m]⟩ : Shape).Idx → EReal} {f : ℕ → ℕ → EReal} {R C : ℕ} (w : ∀ (r : Fin n) (k : Fin m), x (ix2 r k) = f (R + r.val) (C + k.val))
    (y : (⟨2, ![n, m]⟩ : Shape).Idx) {a b : ℕ} (h0 : a = R + (y 0).val) (h1 : b = C + (y 1).val) : x y = f a b := by
  subst h0 h1
  exact (congrArg x (same (i := y) (j := ix2 (y 0) (y 1)) rfl rfl)).trans (w (y 0) (y 1))

/-- A run that ends with a result ends with whatever is equal to it. -/
theorem ends {nD : ℕ} {τ : Topo} {sig : RefSig} {Val : EltTy → Type} {Λ : Labels} {defs : Defs nD τ sig Val Λ}
    {p : (c : Thread nD τ) → Prog (TpuEff nD τ sig Val Λ c.2) PUnit} {s : MemSt nD τ sig Val} {β : Dev nD → Type} {g : PUnit × MemSt nD τ sig Val → (c : Dev nD) → β c}
    {v w : (c : Dev nD) → β c} {B : PUnit × MemSt nD τ sig Val → Dev nD → Prop} (h : θ_run defs p s fun r => ∀ c, g r c = v c ∧ B r c) (e : ∀ c, v c = w c) :
    θ_run defs p s fun r => ∀ c, g r c = w c ∧ B r c :=
  (θ_run _ _ _).mono (fun _ h c => ⟨(h c).1.trans (e c), (h c).2⟩) h

/-- The sum over the inner places, with entries as arrays have them. -/
theorem dot_of {M K N : ℕ} (x : (⟨2, ![M, K]⟩ : Shape).Idx → EReal) (y : (⟨2, ![K, N]⟩ : Shape).Idx → EReal) (i : (⟨2, ![M, N]⟩ : Shape).Idx) :
    (∑ k : Fin K, x (ix2 (i 0) k) * y (ix2 k (i 1))) = dot (ent x) (ent y) K (i 0).val (i 1).val := by
  rw [← dot_fin]
  exact Finset.sum_congr rfl fun k _ => congrArg₂ (fun x y : EReal => x * y) (ent_at x _) (ent_at y _)

theorem dotT_of {M K N : ℕ} (x : (⟨2, ![M, K]⟩ : Shape).Idx → EReal) (y : (⟨2, ![N, K]⟩ : Shape).Idx → EReal) (i : (⟨2, ![M, N]⟩ : Shape).Idx) :
    (∑ k : Fin K, x (ix2 (i 0) k) * y (ix2 (i 1) k)) = dotT (ent x) (ent y) K (i 0).val (i 1).val := by
  rw [← dotT_fin]
  exact Finset.sum_congr rfl fun k _ => congrArg₂ (fun x y : EReal => x * y) (ent_at x _) (ent_at y _)

/-- The zero that a product starts from. -/
theorem bits_zero : (FloatOps.ofBits .f32 0x00000000#32 : Ideal .f32) = (0 : EReal) :=
  show Ideal.ofBits .f32 0x00000000#32 = 0 by simp [Ideal.ofBits, Ideal.ieee]

/-- A product from zero, read at an entry. -/
theorem plain_apply {M K N : ℕ} (lhs : FVec Ideal ⟨2, ![M, K]⟩ .bf16) (rhs : FVec Ideal ⟨2, ![K, N]⟩ .bf16) (r : Fin M) (c : Fin N) :
    FloatOps.matmul (DotDims.plain M K N) none lhs rhs (constant (F := Ideal) ⟨2, ![M, N]⟩ .f32 0x00000000#32) (ix2 r c)
      = (∑ k : Fin K, lhs (ix2 r k) * rhs (ix2 k c) : EReal) := by
  rw [Ideal.matmul_plain_apply]
  exact (congrArg (· + _) bits_zero).trans (zero_add _)

/-- The same with the second operand transposed. -/
theorem transposed_apply {M K N : ℕ} (lhs : FVec Ideal ⟨2, ![M, K]⟩ .bf16) (rhs : FVec Ideal ⟨2, ![N, K]⟩ .bf16) (r : Fin M) (c : Fin N) :
    FloatOps.matmul (DotDims.transposedRhs M K N) none lhs rhs (constant (F := Ideal) ⟨2, ![M, N]⟩ .f32 0x00000000#32) (ix2 r c)
      = (∑ k : Fin K, lhs (ix2 r k) * rhs (ix2 c k) : EReal) := by
  rw [Ideal.matmul_transposedRhs_apply]
  exact (congrArg (· + _) bits_zero).trans (zero_add _)

theorem z2 : (![0, 0] : Fin 2 → ℕ) = fun _ => 0 := by funext a; fin_cases a <;> rfl

/-- What a whole block is after it has been stored, and when it is loaded. -/
theorem ld_all {n m : ℕ} {e : EltTy} (X : Vec Ideal ⟨2, ![n, m]⟩ e) (inb : ∀ a, (![0, 0] : Fin 2 → ℕ) a + (![n, m] : Fin 2 → ℕ) a ≤ (⟨2, ![n, m]⟩ : Shape).size a) :
    View.ld X (Rect.unit (s := ⟨2, ![n, m]⟩) ![0, 0] ![n, m] inb) = X := View.ld_unit_zero (S := ⟨2, ![n, m]⟩) z2 inb X

theorem canon_all {n m : ℕ} {e : EltTy} (X : Vec Ideal ⟨2, ![n, m]⟩ e) (inb : ∀ a, (![0, 0] : Fin 2 → ℕ) a + (![n, m] : Fin 2 → ℕ) a ≤ (⟨2, ![n, m]⟩ : Shape).size a)
    (L : List (View.Piece (Elt Ideal) ⟨2, ![n, m]⟩ e)) : View.canon (⟨Rect.unit (s := ⟨2, ![n, m]⟩) ![0, 0] ![n, m] inb, X⟩ :: L) = X :=
  View.canon_cons_unit_zero (S := ⟨2, ![n, m]⟩) z2 inb X L

theorem readCov_all {n m : ℕ} {e : EltTy} {sig : RefSig} {κ : Kind} {sp : Space} (v : View sig κ sp ⟨2, ![n, m]⟩ e) (X : Vec Ideal ⟨2, ![n, m]⟩ e)
    (inb : ∀ a, (![0, 0] : Fin 2 → ℕ) a + (![n, m] : Fin 2 → ℕ) a ≤ (⟨2, ![n, m]⟩ : Shape).size a) :
    v.readCov [(⟨Rect.unit (s := ⟨2, ![n, m]⟩) ![0, 0] ![n, m] inb, X⟩ : View.Piece (Elt Ideal) ⟨2, ![n, m]⟩ e)]
      (Rect.unit (s := ⟨2, ![n, m]⟩) ![0, 0] ![n, m] inb).toLoadRect = X := View.readCov_unit_zero (S := ⟨2, ![n, m]⟩) v z2 inb X

end Cert.Mul

end
-- ==== Proof.Mul2.lean ====
/- The gradient of one half of the gate and up weights: the kernel adds five blocks of a product, the reference is the product. -/
module

public import proofs.«01_k».proof.Defs
public import proofs.«01_k».proof.Proof.Mul
public import proofs.«01_k».proof.Proof.Gen.Kernel2.Frame
public import proofs.«01_k».proof.Proof.Gen.Kernel2Ideal.Value
public import proofs.«01_k».proof.Proof.Gen.Reference2Ideal.Read

@[expose] public section

set_option maxRecDepth 16384

noncomputable section

open Idealize.ShloMosaic hiding ix2
open Idealize.ShloMosaic.TcCoe Idealize.ShloMosaic.Tactic Idealize.ShloMosaic.ValueIdx Idealize.SL.Sem Cert.Mul

namespace Cert.Kernel2Ideal.Mul

open Cert.Kernel2Ideal.Gen Pipeline

variable {d : Dev nD} {i : grid0.Coords} {a3 : Memref sig .tc .vmem S1024x1664 .bf16} {h3 : a3.IsWhole} {a4 : Memref sig .tc .vmem S1664x1408 .bf16} {h4 : a4.IsWhole}
  {a5 a6 : Memref sig .tc .vmem S1024x1408 .f32} {h5 : a5.IsWhole} {h6 : a6.IsWhole} (x : Vec Ideal S1024x1664 .bf16) (y : Vec Ideal S1664x1408 .bf16) (s : Vec Ideal S1024x1408 .f32)

/-- A block's product, and the product added to what was there, at an entry. -/
theorem pay1_apply (r : Fin 1024) (k : Fin 1408) : (k0_pay1 x y : Vec Ideal S1024x1408 .f32) (ix2 r k) = (∑ q : Fin 1664, x (ix2 r q) * y (ix2 q k) : EReal) := by
  unfold k0_pay1
  rw [shapeCast_self]
  exact plain_apply (M := 1024) (K := 1664) (N := 1408) x y r k

theorem pay2_apply (r : Fin 1024) (k : Fin 1408) :
    (k0_pay2 s x y : Vec Ideal S1024x1408 .f32) (ix2 r k) = (s (ix2 r k) + ∑ q : Fin 1664, x (ix2 r q) * y (ix2 q k) : EReal) := by
  unfold k0_pay2
  rw [shapeCast_self]
  exact congrArg (s (ix2 r k) + ·) (plain_apply (M := 1024) (K := 1664) (N := 1408) x y r k)

/-- The first block of a row of blocks leaves its product in the scratch memory. -/
theorem left_first {hc0 : cond0_0 i} {hc1 : ¬cond0_1 i} {hc2 : ¬cond0_2 i} : sout0_A_0 d i a3 h3 a4 h4 a5 h5 a6 h6 hc0 hc1 hc2 x y = k0_pay1 x y := by
  unfold sout0_A_0
  rw [View.read_writes_eq_canon _ _ _ (scover0_A_0 d i a3 h3 a4 h4 a5 h5 a6 h6 hc0 hc1 hc2 x y)]
  unfold kernelRun0_A
  dsimp only
  sl_unfold_words
  simp only [View.readAt_eq_ld, h3.read_unread, h4.read_unread, h6.read_unread, ld_all, canon_all, readCov_all, shapeCast_self]

/-- A further block adds its product. -/
theorem left_more {hc0 : ¬cond0_0 i} {hc1 : cond0_1 i} {hc2 : ¬cond0_2 i} : sout0_B_0 d i a3 h3 a4 h4 a5 h5 a6 h6 hc0 hc1 hc2 x y s = k0_pay2 s x y := by
  unfold sout0_B_0
  rw [View.read_writes_eq_canon _ _ _ (scover0_B_0 d i a3 h3 a4 h4 a5 h5 a6 h6 hc0 hc1 hc2 x y s)]
  unfold kernelRun0_B
  dsimp only
  sl_unfold_words
  simp only [View.readAt_eq_ld, h3.read_unread, h4.read_unread, h6.read_unread, ld_all, canon_all, readCov_all, shapeCast_self]

/-- The last block adds its product, and the sum is written out. -/
theorem left_last {hc0 : ¬cond0_0 i} {hc1 : cond0_1 i} {hc2 : cond0_2 i} : out0_C_2 d i a3 h3 a4 h4 a5 h5 a6 h6 hc0 hc1 hc2 x y s = k0_pay2 s x y := by
  unfold out0_C_2
  rw [View.read_writes_eq_canon _ _ _ (cover0_C_2 d i a3 h3 a4 h4 a5 h5 a6 h6 hc0 hc1 hc2 x y s)]
  unfold kernelRun0_C
  dsimp only
  sl_unfold_words
  simp only [View.readAt_eq_ld, h3.read_unread, h4.read_unread, h6.read_unread, ld_all, canon_all, readCov_all, shapeCast_self]

/-- The block each window is on at each point. -/
theorem idx : ∀ t : Fin cfg0.N, win0_0.index t = ![t.val / 5 / 2, t.val % 5] ∧ win0_1.index t = ![t.val % 5, t.val / 5 % 2] ∧ win0_2.index t = ![t.val / 5 / 2, t.val / 5 % 2] :=
  (by decide +kernel : ∀ t : Fin grid0.N, _)

variable (m : (ℓ : Loc nD τ sig) → Buf (Elt Ideal) ℓ) (c : Dev nD)

/-- The operands' entries, and their blocks at a point. -/
def A : ℕ → ℕ → EReal := ent (n := 1024) (m := 8320) (m ((c.tc : Thread nD τ).loc main_arg0))
def B : ℕ → ℕ → EReal := ent (n := 8320) (m := 2816) (m ((c.tc : Thread nD τ).loc main_arg1))

theorem blkA (t : Fin cfg0.N) (r : Fin 1024) (q : Fin 1664) : (iblk m c 0 t : Vec Ideal S1024x1664 .bf16) (ix2 r q) = A m c (t.val / 5 / 2 * 1024 + r.val) (t.val % 5 * 1664 + q.val) := by
  refine entry (n := 1024) (m := 8320) (V_main_arg0 m c) (((cfg0.win 0).blk t).view.emb (ix2 r q)) ?_ ?_ <;> blk_simp [(idx t).1]

theorem blkB (t : Fin cfg0.N) (r : Fin 1664) (q : Fin 1408) : (iblk m c 1 t : Vec Ideal S1664x1408 .bf16) (ix2 r q) = B m c (t.val % 5 * 1664 + r.val) (t.val / 5 % 2 * 1408 + q.val) := by
  refine entry (n := 8320) (m := 2816) (V_main_arg1 m c) (((cfg0.win 1).blk t).view.emb (ix2 r q)) ?_ ?_ <;> blk_simp [(idx t).2.1]

/-- What the last point of a row of blocks writes out: the whole product. -/
theorem written (t : Fin cfg0.N) (h2 : t.val % 5 = 4) (r : Fin 1024) (k : Fin 1408) :
    (outsAt0 m c t.val t.isLt).1 (ix2 r k) = dot (A m c) (B m c) 8320 (t.val / 5 / 2 * 1024 + r.val) (t.val / 5 % 2 * 1408 + k.val) := by
  refine sweep (N := cfg0.N) (NK := 5) (GJ := 2) (TM := 1024) (TN := 1408) (TK := 1664) (A := A m c) (B := B m c)
    (s := fun n h r k => (outsAt0 m c n h).2 (ix2 r k)) (o := fun n h r k => (outsAt0 m c n h).1 (ix2 r k))
    (by decide) ?_ ?_ ?_ t.val t.isLt r k h2
  · intro n h r k e
    rw [show outsAt0 m c n h = _ from outsAt0_A m c ⟨n, h⟩ e (by dsimp only; omega) (by dsimp only; omega)]
    dsimp only
    rw [left_first, pay1_apply]
    simp only [blkA, blkB, part]
  · intro n h r k e0 e2
    rw [show outsAt0 m c n h = _ from outsAt0_B m c ⟨n, h⟩ e0 (by dsimp only; omega) e2]
    dsimp only
    rw [left_more, pay2_apply]
    simp only [blkA, blkB, part]
  · intro n h r k e2
    rw [show outsAt0 m c n h = _ from outsAt0_C m c ⟨n, h⟩ (by dsimp only; omega) (by dsimp only; omega) e2]
    dsimp only
    rw [left_last, pay2_apply]
    simp only [blkA, blkB, part]

/-- The result array after the run: the product. -/
def out : FVec Ideal S1024x2816 .f32 := fun i => dot (A m c) (B m c) 8320 (i 0).val (i 1).val

theorem final : (dats m 0 c).arrAt 2 cfg0.N = out m c := by
  refine (dats m 0 c).arrAt_eq_of_covers 2 _ (by decide +kernel) fun t hf y => ?_
  have e0 : ((((cfg0.win 2).blk t).view.emb y) 0).val = t.val / 5 / 2 * 1024 + (y 0).val := by blk_simp [(idx t).2.2]
  have e1 : ((((cfg0.win 2).blk t).view.emb y) 1).val = t.val / 5 % 2 * 1408 + (y 1).val := by blk_simp [(idx t).2.2]
  blk_simp
  rw [after0_2]
  exact tile (written m c t ((flush0_2 t).mp hf)) y e0 e1

end Cert.Kernel2Ideal.Mul

namespace Cert.Reference2Ideal.Mul

open Cert.Reference2Ideal.Read

/-- The reference's result: the same product. -/
theorem value (x0 : FVec Ideal S1024x8320 .bf16) (x1 : FVec Ideal S8320x2816 .bf16) :
    val_main_v6 (F := Ideal) x0 x1 = fun i : S1024x2816.Idx => dot (ent (n := 1024) (m := 8320) x0) (ent (n := 8320) (m := 2816) x1) 8320 (i 0).val (i 1).val := by
  funext i
  rw [val_main_v6_apply, val_main_v5_apply]
  refine (Finset.sum_congr rfl fun k _ => ?_).trans (dot_of (M := 1024) (K := 8320) (N := 2816) x0 x1 i)
  rw [val_main_v4_apply, val_main_v2_apply, val_main_v0_apply]
  exact (mul_comm _ _).trans (congrArg₂ (fun x y : EReal => x * y) (congrArg x0 (same rfl rfl)) (congrArg x1 (same rfl rfl)))

end Cert.Reference2Ideal.Mul

/-- Over the reals the kernel's result is the reference's. -/
theorem Cert.Mul2.values : Cert.algebraic_Kernel2Ideal_Reference2Ideal (hKernel2Ideal := Cert.Kernel2Ideal.Gen.facts)
    (hReference2Ideal := Cert.Reference2Ideal.Gen.facts) := by
  intro m g m' g' _ hagree
  refine ⟨_, ends (Kernel2Ideal.Value.run_blocks m g) (Kernel2Ideal.Mul.final m), ends (Reference2Ideal.Value.run m' g') fun c =>
    (Reference2Ideal.Read.val_main_v6_eq _ _).trans ((Reference2Ideal.Mul.value _ _).trans ?_)⟩
  rw [(hagree c).1, (hagree c).2]
  rfl

end
-- ==== Proof.Mul3.lean ====
/- The gradient of the down weights: the kernel adds five blocks of a product, the reference is the product. -/
module

public import proofs.«01_k».proof.Defs
public import proofs.«01_k».proof.Proof.Mul
public import proofs.«01_k».proof.Proof.Gen.Kernel3.Frame
public import proofs.«01_k».proof.Proof.Gen.Kernel3Ideal.Value
public import proofs.«01_k».proof.Proof.Gen.Reference3Ideal.Read

@[expose] public section

set_option maxRecDepth 16384

noncomputable section

open Idealize.ShloMosaic hiding ix2
open Idealize.ShloMosaic.TcCoe Idealize.ShloMosaic.Tactic Idealize.ShloMosaic.ValueIdx Idealize.SL.Sem Cert.Mul

namespace Cert.Kernel3Ideal.Mul

open Cert.Kernel3Ideal.Gen Pipeline

variable {d : Dev nD} {i : grid0.Coords} {a3 : Memref sig .tc .vmem S1408x1664 .bf16} {h3 : a3.IsWhole} {a4 : Memref sig .tc .vmem S1664x1024 .bf16} {h4 : a4.IsWhole}
  {a5 a6 : Memref sig .tc .vmem S1408x1024 .f32} {h5 : a5.IsWhole} {h6 : a6.IsWhole} (x : Vec Ideal S1408x1664 .bf16) (y : Vec Ideal S1664x1024 .bf16) (s : Vec Ideal S1408x1024 .f32)

/-- A block's product, and the product added to what was there, at an entry. -/
theorem pay1_apply (r : Fin 1408) (k : Fin 1024) : (k0_pay1 x y : Vec Ideal S1408x1024 .f32) (ix2 r k) = (∑ q : Fin 1664, x (ix2 r q) * y (ix2 q k) : EReal) := by
  unfold k0_pay1
  rw [shapeCast_self]
  exact plain_apply (M := 1408) (K := 1664) (N := 1024) x y r k

theorem pay2_apply (r : Fin 1408) (k : Fin 1024) :
    (k0_pay2 s x y : Vec Ideal S1408x1024 .f32) (ix2 r k) = (s (ix2 r k) + ∑ q : Fin 1664, x (ix2 r q) * y (ix2 q k) : EReal) := by
  unfold k0_pay2
  rw [shapeCast_self]
  exact congrArg (s (ix2 r k) + ·) (plain_apply (M := 1408) (K := 1664) (N := 1024) x y r k)

/-- The first block of a row of blocks leaves its product in the scratch memory. -/
theorem left_first {hc0 : cond0_0 i} {hc1 : ¬cond0_1 i} {hc2 : ¬cond0_2 i} : sout0_A_0 d i a3 h3 a4 h4 a5 h5 a6 h6 hc0 hc1 hc2 x y = k0_pay1 x y := by
  unfold sout0_A_0
  rw [View.read_writes_eq_canon _ _ _ (scover0_A_0 d i a3 h3 a4 h4 a5 h5 a6 h6 hc0 hc1 hc2 x y)]
  unfold kernelRun0_A
  dsimp only
  sl_unfold_words
  simp only [View.readAt_eq_ld, h3.read_unread, h4.read_unread, h6.read_unread, ld_all, canon_all, readCov_all, shapeCast_self]

/-- A further block adds its product. -/
theorem left_more {hc0 : ¬cond0_0 i} {hc1 : cond0_1 i} {hc2 : ¬cond0_2 i} : sout0_B_0 d i a3 h3 a4 h4 a5 h5 a6 h6 hc0 hc1 hc2 x y s = k0_pay2 s x y := by
  unfold sout0_B_0
  rw [View.read_writes_eq_canon _ _ _ (scover0_B_0 d i a3 h3 a4 h4 a5 h5 a6 h6 hc0 hc1 hc2 x y s)]
  unfold kernelRun0_B
  dsimp only
  sl_unfold_words
  simp only [View.readAt_eq_ld, h3.read_unread, h4.read_unread, h6.read_unread, ld_all, canon_all, readCov_all, shapeCast_self]

/-- The last block adds its product, and the sum is written out. -/
theorem left_last {hc0 : ¬cond0_0 i} {hc1 : cond0_1 i} {hc2 : cond0_2 i} : out0_C_2 d i a3 h3 a4 h4 a5 h5 a6 h6 hc0 hc1 hc2 x y s = k0_pay2 s x y := by
  unfold out0_C_2
  rw [View.read_writes_eq_canon _ _ _ (cover0_C_2 d i a3 h3 a4 h4 a5 h5 a6 h6 hc0 hc1 hc2 x y s)]
  unfold kernelRun0_C
  dsimp only
  sl_unfold_words
  simp only [View.readAt_eq_ld, h3.read_unread, h4.read_unread, h6.read_unread, ld_all, canon_all, readCov_all, shapeCast_self]

/-- The block each window is on at each point. -/
theorem idx : ∀ t : Fin cfg0.N, win0_0.index t = ![t.val / 5 / 1, t.val % 5] ∧ win0_1.index t = ![t.val % 5, t.val / 5 % 1] ∧ win0_2.index t = ![t.val / 5 / 1, t.val / 5 % 1] :=
  (by decide +kernel : ∀ t : Fin grid0.N, _)

variable (m : (ℓ : Loc nD τ sig) → Buf (Elt Ideal) ℓ) (c : Dev nD)

/-- The operands' entries, and their blocks at a point. -/
def A : ℕ → ℕ → EReal := ent (n := 2816) (m := 8320) (m ((c.tc : Thread nD τ).loc main_arg0))
def B : ℕ → ℕ → EReal := ent (n := 8320) (m := 1024) (m ((c.tc : Thread nD τ).loc main_arg1))

theorem blkA (t : Fin cfg0.N) (r : Fin 1408) (q : Fin 1664) : (iblk m c 0 t : Vec Ideal S1408x1664 .bf16) (ix2 r q) = A m c (t.val / 5 / 1 * 1408 + r.val) (t.val % 5 * 1664 + q.val) := by
  refine entry (n := 2816) (m := 8320) (V_main_arg0 m c) (((cfg0.win 0).blk t).view.emb (ix2 r q)) ?_ ?_ <;> blk_simp [(idx t).1]

theorem blkB (t : Fin cfg0.N) (r : Fin 1664) (q : Fin 1024) : (iblk m c 1 t : Vec Ideal S1664x1024 .bf16) (ix2 r q) = B m c (t.val % 5 * 1664 + r.val) (t.val / 5 % 1 * 1024 + q.val) := by
  refine entry (n := 8320) (m := 1024) (V_main_arg1 m c) (((cfg0.win 1).blk t).view.emb (ix2 r q)) ?_ ?_ <;> blk_simp [(idx t).2.1]

/-- What the last point of a row of blocks writes out: the whole product. -/
theorem written (t : Fin cfg0.N) (h2 : t.val % 5 = 4) (r : Fin 1408) (k : Fin 1024) :
    (outsAt0 m c t.val t.isLt).1 (ix2 r k) = dot (A m c) (B m c) 8320 (t.val / 5 / 1 * 1408 + r.val) (t.val / 5 % 1 * 1024 + k.val) := by
  refine sweep (N := cfg0.N) (NK := 5) (GJ := 1) (TM := 1408) (TN := 1024) (TK := 1664) (A := A m c) (B := B m c)
    (s := fun n h r k => (outsAt0 m c n h).2 (ix2 r k)) (o := fun n h r k => (outsAt0 m c n h).1 (ix2 r k))
    (by decide) ?_ ?_ ?_ t.val t.isLt r k h2
  · intro n h r k e
    rw [show outsAt0 m c n h = _ from outsAt0_A m c ⟨n, h⟩ e (by dsimp only; omega) (by dsimp only; omega)]
    dsimp only
    rw [left_first, pay1_apply]
    simp only [blkA, blkB, part]
  · intro n h r k e0 e2
    rw [show outsAt0 m c n h = _ from outsAt0_B m c ⟨n, h⟩ e0 (by dsimp only; omega) e2]
    dsimp only
    rw [left_more, pay2_apply]
    simp only [blkA, blkB, part]
  · intro n h r k e2
    rw [show outsAt0 m c n h = _ from outsAt0_C m c ⟨n, h⟩ (by dsimp only; omega) (by dsimp only; omega) e2]
    dsimp only
    rw [left_last, pay2_apply]
    simp only [blkA, blkB, part]

/-- The result array after the run: the product. -/
def out : FVec Ideal S2816x1024 .f32 := fun i => dot (A m c) (B m c) 8320 (i 0).val (i 1).val

theorem final : (dats m 0 c).arrAt 2 cfg0.N = out m c := by
  refine (dats m 0 c).arrAt_eq_of_covers 2 _ (by decide +kernel) fun t hf y => ?_
  have e0 : ((((cfg0.win 2).blk t).view.emb y) 0).val = t.val / 5 / 1 * 1408 + (y 0).val := by blk_simp [(idx t).2.2]
  have e1 : ((((cfg0.win 2).blk t).view.emb y) 1).val = t.val / 5 % 1 * 1024 + (y 1).val := by blk_simp [(idx t).2.2]
  blk_simp
  rw [after0_2]
  exact tile (written m c t ((flush0_2 t).mp hf)) y e0 e1

end Cert.Kernel3Ideal.Mul

namespace Cert.Reference3Ideal.Mul

open Cert.Reference3Ideal.Read

/-- The reference's result: the same product. -/
theorem value (x0 : FVec Ideal S2816x8320 .bf16) (x1 : FVec Ideal S8320x1024 .bf16) :
    val_main_v6 (F := Ideal) x0 x1 = fun i : S2816x1024.Idx => dot (ent (n := 2816) (m := 8320) x0) (ent (n := 8320) (m := 1024) x1) 8320 (i 0).val (i 1).val := by
  funext i
  rw [val_main_v6_apply, val_main_v5_apply]
  refine (Finset.sum_congr rfl fun k _ => ?_).trans (dot_of (M := 2816) (K := 8320) (N := 1024) x0 x1 i)
  rw [val_main_v4_apply, val_main_v2_apply, val_main_v0_apply]
  exact (mul_comm _ _).trans (congrArg₂ (fun x y : EReal => x * y) (congrArg x0 (same rfl rfl)) (congrArg x1 (same rfl rfl)))

end Cert.Reference3Ideal.Mul

/-- Over the reals the kernel's result is the reference's. -/
theorem Cert.Mul3.values : Cert.algebraic_Kernel3Ideal_Reference3Ideal (hKernel3Ideal := Cert.Kernel3Ideal.Gen.facts)
    (hReference3Ideal := Cert.Reference3Ideal.Gen.facts) := by
  intro m g m' g' _ hagree
  refine ⟨_, ends (Kernel3Ideal.Value.run_blocks m g) (Kernel3Ideal.Mul.final m), ends (Reference3Ideal.Value.run m' g') fun c =>
    (Reference3Ideal.Read.val_main_v6_eq _ _).trans ((Reference3Ideal.Mul.value _ _).trans ?_)⟩
  rw [(hagree c).1, (hagree c).2]
  rfl

end
-- ==== Proof.Mul4.lean ====
/- The gradient of the gated activations: the kernel writes blocks of a product, the reference is the product. -/
module

public import proofs.«01_k».proof.Defs
public import proofs.«01_k».proof.Proof.Mul
public import proofs.«01_k».proof.Proof.Gen.Kernel4.Frame
public import proofs.«01_k».proof.Proof.Gen.Kernel4Ideal.Value
public import proofs.«01_k».proof.Proof.Gen.Reference4Ideal.Read

@[expose] public section

set_option maxRecDepth 16384

noncomputable section

open Idealize.ShloMosaic hiding ix2
open Idealize.ShloMosaic.TcCoe Idealize.ShloMosaic.Tactic Idealize.ShloMosaic.ValueIdx Idealize.SL.Sem Cert.Mul

namespace Cert.Kernel4Ideal.Mul

open Cert.Kernel4Ideal.Gen Pipeline

/-- The block each window is on at each point. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

variable (m : (ℓ : Loc nD τ sig) → Buf (Elt Ideal) ℓ) (c : Dev nD)

/-- The operands' entries, and their blocks at a point. -/
def A : ℕ → ℕ → EReal := ent (n := 8320) (m := 1024) (m ((c.tc : Thread nD τ).loc main_arg0))
def B : ℕ → ℕ → EReal := ent (n := 2816) (m := 1024) (m ((c.tc : Thread nD τ).loc main_arg1))

theorem blkA (t : Fin cfg0.N) (r : Fin 1664) (q : Fin 1024) : (iblk m c 0 t : Vec Ideal S1664x1024 .bf16) (ix2 r q) = A m c (t.val / 2 * 1664 + r.val) (q.val) := by
  refine entry (n := 8320) (m := 1024) (V_main_arg0 m c) (((cfg0.win 0).blk t).view.emb (ix2 r q)) ?_ ?_ <;> blk_simp [(idx t).1]

theorem blkB (t : Fin cfg0.N) (r : Fin 1408) (q : Fin 1024) : (iblk m c 1 t : Vec Ideal S1408x1024 .bf16) (ix2 r q) = B m c (t.val % 2 * 1408 + r.val) (q.val) := by
  refine entry (n := 2816) (m := 1024) (V_main_arg1 m c) (((cfg0.win 1).blk t).view.emb (ix2 r q)) ?_ ?_ <;> blk_simp [(idx t).2.1]

/-- What a point writes out: a block of the product. -/
theorem written (t : Fin cfg0.N) (r : Fin 1664) (k : Fin 1408) :
    (out0_2 (iblk m c 0 t) (iblk m c 1 t) : Vec Ideal S1664x1408 .f32) (ix2 r k) = dotT (A m c) (B m c) 1024 (t.val / 2 * 1664 + r.val) (t.val % 2 * 1408 + k.val) := by
  unfold out0_2
  rw [canon_all, ld_all, ld_all, show (k0_pay1 (iblk m c 0 t) (iblk m c 1 t) : Vec Ideal S1664x1408 .f32) (ix2 r k) = _ from transposed_apply (M := 1664) (K := 1024) (N := 1408) _ _ r k, ← dotT_fin]
  simp only [blkA, blkB]

/-- The result array after the run: the product. -/
def out : FVec Ideal S8320x2816 .f32 := fun i => dotT (A m c) (B m c) 1024 (i 0).val (i 1).val

theorem final : (dats m 0 c).arrAt 2 cfg0.N = out m c := by
  refine (dats m 0 c).arrAt_eq_of_covers 2 _ (by decide +kernel) fun t _ y => ?_
  have e0 : ((((cfg0.win 2).blk t).view.emb y) 0).val = t.val / 2 * 1664 + (y 0).val := by blk_simp [(idx t).2.2]
  have e1 : ((((cfg0.win 2).blk t).view.emb y) 1).val = t.val % 2 * 1408 + (y 1).val := by blk_simp [(idx t).2.2]
  blk_simp
  rw [after0_2]
  exact tile (written m c t) y e0 e1

end Cert.Kernel4Ideal.Mul

namespace Cert.Reference4Ideal.Mul

open Cert.Reference4Ideal.Read

/-- The reference's result: the same product. -/
theorem value (x0 : FVec Ideal S8320x1024 .bf16) (x1 : FVec Ideal S2816x1024 .bf16) :
    val_main_v4 (F := Ideal) x0 x1 = fun i : S8320x2816.Idx => dotT (ent (n := 8320) (m := 1024) x0) (ent (n := 2816) (m := 1024) x1) 1024 (i 0).val (i 1).val := by
  funext i
  rw [val_main_v4_apply]
  refine (Finset.sum_congr rfl fun k _ => ?_).trans (dotT_of (M := 8320) (K := 1024) (N := 2816) x0 x1 i)
  rw [val_main_v3_apply, val_main_v1_apply]
  exact congrArg₂ (fun x y : EReal => x * y) (congrArg x0 (same rfl rfl)) (congrArg x1 (same rfl rfl))

end Cert.Reference4Ideal.Mul

/-- Over the reals the kernel's result is the reference's. -/
theorem Cert.Mul4.values : Cert.algebraic_Kernel4Ideal_Reference4Ideal (hKernel4Ideal := Cert.Kernel4Ideal.Gen.facts)
    (hReference4Ideal := Cert.Reference4Ideal.Gen.facts) := by
  intro m g m' g' _ hagree
  refine ⟨_, ends (Kernel4Ideal.Value.run_blocks m g) (Kernel4Ideal.Mul.final m), ends (Reference4Ideal.Value.run m' g') fun c =>
    (Reference4Ideal.Read.val_main_v4_eq _ _).trans ((Reference4Ideal.Mul.value _ _).trans ?_)⟩
  rw [(hagree c).1, (hagree c).2]
  rfl

end
-- ==== Proof.Mul5.lean ====
/- The gradient of the feed-forward layer's input: the kernel adds the products with the two halves of the weights, the reference is the product. -/
module

public import proofs.«01_k».proof.Defs
public import proofs.«01_k».proof.Proof.Mul
public import proofs.«01_k».proof.Proof.Gen.Kernel5.Frame
public import proofs.«01_k».proof.Proof.Gen.Kernel5Ideal.Value
public import proofs.«01_k».proof.Proof.Gen.Reference5Ideal.Read

@[expose] public section

set_option maxRecDepth 16384

noncomputable section

open Idealize.ShloMosaic hiding ix2
open Idealize.ShloMosaic.TcCoe Idealize.ShloMosaic.Tactic Idealize.ShloMosaic.ValueIdx Idealize.SL.Sem Cert.Mul

namespace Cert.Kernel5Ideal.Mul

open Cert.Kernel5Ideal.Gen Pipeline

/-- The block each window is on at each point. -/
theorem idx : ∀ t : Fin cfg0.N, win0_0.index t = ![t.val / 2, 0] ∧ win0_1.index t = ![t.val / 2, 0] ∧ win0_2.index t = ![t.val % 2, 0] ∧ win0_3.index t = ![t.val / 2, t.val % 2] :=
  (by decide +kernel : ∀ t : Fin grid0.N, _)

variable (m : (ℓ : Loc nD τ sig) → Buf (Elt Ideal) ℓ) (c : Dev nD)

/-- The operands' entries, and their blocks at a point. -/
def A0 : ℕ → ℕ → EReal := ent (n := 8320) (m := 2816) (m ((c.tc : Thread nD τ).loc main_arg0))
def A1 : ℕ → ℕ → EReal := ent (n := 8320) (m := 2816) (m ((c.tc : Thread nD τ).loc main_arg1))
def B : ℕ → ℕ → EReal := ent (n := 1024) (m := 5632) (m ((c.tc : Thread nD τ).loc main_arg2))

theorem blkA0 (t : Fin cfg0.N) (r : Fin 640) (q : Fin 2816) : (View.ld (iblk m c 0 t : Vec Ideal S640x2816 .bf16) r0_0 : Vec Ideal S640x2816 .bf16) (ix2 r q) = A0 m c (t.val / 2 * 640 + r.val) (q.val) := by
  refine (congrFun (ld_all (n := 640) (m := 2816) _ _) _).trans <| entry (n := 8320) (m := 2816) (V_main_arg0 m c) (((cfg0.win 0).blk t).view.emb (ix2 r q)) ?_ ?_ <;> blk_simp [(idx t).1]

theorem blkA1 (t : Fin cfg0.N) (r : Fin 640) (q : Fin 2816) : (View.ld (iblk m c 1 t : Vec Ideal S640x2816 .bf16) r0_0 : Vec Ideal S640x2816 .bf16) (ix2 r q) = A1 m c (t.val / 2 * 640 + r.val) (q.val) := by
  refine (congrFun (ld_all (n := 640) (m := 2816) _ _) _).trans <| entry (n := 8320) (m := 2816) (V_main_arg1 m c) (((cfg0.win 1).blk t).view.emb (ix2 r q)) ?_ ?_ <;> blk_simp [(idx t).2.1]

theorem blkB (t : Fin cfg0.N) (r : Fin 512) (q : Fin 5632) : (iblk m c 2 t : Vec Ideal S512x5632 .bf16) (ix2 r q) = B m c (t.val % 2 * 512 + r.val) (q.val) := by
  refine entry (n := 1024) (m := 5632) (V_main_arg2 m c) (((cfg0.win 2).blk t).view.emb (ix2 r q)) ?_ ?_ <;> blk_simp [(idx t).2.2.1]

/-- The parts of the second operand's block that the sums read. -/
theorem col0 (t : Fin cfg0.N) (k : Fin 512) (q : Fin 2816) : (View.ld (iblk m c 2 t : Vec Ideal S512x5632 .bf16) r0_1 : Vec Ideal S512x2816 .bf16) (ix2 k q) = B m c (t.val % 2 * 512 + k.val) (0 + q.val) :=
  (ld_cols (n := 512) (m := 5632) _ 0 _ k q (by omega)).trans (blkB m c t k ⟨0 + q.val, by omega⟩)

theorem col1 (t : Fin cfg0.N) (k : Fin 512) (q : Fin 2816) : (View.ld (iblk m c 2 t : Vec Ideal S512x5632 .bf16) r0_2 : Vec Ideal S512x2816 .bf16) (ix2 k q) = B m c (t.val % 2 * 512 + k.val) (2816 + q.val) :=
  (ld_cols (n := 512) (m := 5632) _ 2816 _ k q (by omega)).trans (blkB m c t k ⟨2816 + q.val, by omega⟩)

/-- What is stored, at an entry: the sum of the products. -/
theorem pay_apply (x0 : Vec Ideal S640x2816 .bf16) (y0 : Vec Ideal S512x2816 .bf16) (x1 : Vec Ideal S640x2816 .bf16) (y1 : Vec Ideal S512x2816 .bf16) (r : Fin 640) (k : Fin 512) :
    (k0_pay1 x0 y0 x1 y1 : Vec Ideal S640x512 .f32) (ix2 r k) = ((∑ q : Fin 2816, x0 (ix2 r q) * y0 (ix2 k q)) + (∑ q : Fin 2816, x1 (ix2 r q) * y1 (ix2 k q)) : EReal) := by
  unfold k0_pay1
  exact congrArg₂ (fun x y : EReal => x + y) (transposed_apply (M := 640) (K := 2816) (N := 512) _ _ r k) (transposed_apply (M := 640) (K := 2816) (N := 512) _ _ r k)

/-- What a point writes out: a block of the product. -/
theorem written (t : Fin cfg0.N) (r : Fin 640) (k : Fin 512) :
    (out0_3 (iblk m c 0 t) (iblk m c 1 t) (iblk m c 2 t) : Vec Ideal S640x512 .f32) (ix2 r k) = dotT (beside [(2816, A0 m c), (2816, A1 m c)]) (B m c) 5632 (t.val / 2 * 640 + r.val) (t.val % 2 * 512 + k.val) := by
  unfold out0_3
  rw [canon_all, pay_apply]
  refine Eq.trans ?_ ((dotT_beside 2816 _ _ _ 2816 _ _).trans (congrArg (_ + ·) (dotT_one _ _ _ _ _))).symm
  simp only [blkA0, blkA1, col0, col1, add_assoc (G := EReal), ← Nat.add_assoc, Nat.reduceAdd, Nat.zero_add, dotT, ← Fin.sum_univ_eq_sum_range]

/-- The result array after the run: the product. -/
def out : FVec Ideal S8320x1024 .f32 := fun i => dotT (beside [(2816, A0 m c), (2816, A1 m c)]) (B m c) 5632 (i 0).val (i 1).val

theorem final : (dats m 0 c).arrAt 3 cfg0.N = out m c := by
  refine (dats m 0 c).arrAt_eq_of_covers 3 _ (by decide +kernel) fun t _ y => ?_
  have e0 : ((((cfg0.win 3).blk t).view.emb y) 0).val = t.val / 2 * 640 + (y 0).val := by blk_simp [(idx t).2.2.2]
  have e1 : ((((cfg0.win 3).blk t).view.emb y) 1).val = t.val % 2 * 512 + (y 1).val := by blk_simp [(idx t).2.2.2]
  blk_simp
  rw [after0_3]
  exact tile (written m c t) y e0 e1

end Cert.Kernel5Ideal.Mul

namespace Cert.Reference5Ideal.Mul

open Cert.Reference5Ideal.Read

/-- The arrays side by side, at an entry. -/
theorem together (x0 : FVec Ideal S8320x2816 .bf16) (x1 : FVec Ideal S8320x2816 .bf16) (i : S8320x5632.Idx) : val_main_v0 (F := Ideal) x0 x1 i = beside [(2816, ent (n := 8320) (m := 2816) x0), (2816, ent (n := 8320) (m := 2816) x1)] (i 0).val (i 1).val := by
  unfold val_main_v0
  exact (concatenate_cons_apply _ _ _ _ _ _ _).trans (side (T := 8320) (n := 2816) (N := 5632) _ _ _ _ _ _ _ _ fun _ _ => side_last (T := 8320) (n := 2816) (N := 5632) _ _ _ _ _)

/-- The reference's result: the same product. -/
theorem value (x0 : FVec Ideal S8320x2816 .bf16) (x1 : FVec Ideal S8320x2816 .bf16) (x2 : FVec Ideal S1024x5632 .bf16) : val_main_v5 (F := Ideal) x0 x1 x2 = fun i : S8320x1024.Idx => dotT (beside [(2816, ent (n := 8320) (m := 2816) x0), (2816, ent (n := 8320) (m := 2816) x1)]) (ent (n := 1024) (m := 5632) x2) 5632 (i 0).val (i 1).val := by
  funext i
  rw [val_main_v5_apply, ← dotT_fin]
  refine Finset.sum_congr rfl fun k _ => congrArg₂ (fun x y : EReal => x * y) ?_ (ent_at (n := 1024) (m := 5632) x2 _)
  exact together x0 x1 _

end Cert.Reference5Ideal.Mul

/-- Over the reals the kernel's result is the reference's. -/
theorem Cert.Mul5.values : Cert.algebraic_Kernel5Ideal_Reference5Ideal (hKernel5Ideal := Cert.Kernel5Ideal.Gen.facts)
    (hReference5Ideal := Cert.Reference5Ideal.Gen.facts) := by
  intro m g m' g' _ hagree
  refine ⟨_, ends (Kernel5Ideal.Value.run_blocks m g) (Kernel5Ideal.Mul.final m), ends (Reference5Ideal.Value.run m' g') fun c =>
    (Reference5Ideal.Read.val_main_v5_eq _ _ _).trans ((Reference5Ideal.Mul.value _ _ _).trans ?_)⟩
  rw [(hagree c).1, (hagree c).2.1, (hagree c).2.2]
  rfl

end
-- ==== Proof.Mul6.lean ====
/- The gradient of the input of the projection of layer 1: the kernel adds three products, the reference is the product. -/
module

public import proofs.«01_k».proof.Defs
public import proofs.«01_k».proof.Proof.Mul
public import proofs.«01_k».proof.Proof.Gen.Kernel6.Frame
public import proofs.«01_k».proof.Proof.Gen.Kernel6Ideal.Value
public import proofs.«01_k».proof.Proof.Gen.Reference6Ideal.Read

@[expose] public section

set_option maxRecDepth 16384

noncomputable section

open Idealize.ShloMosaic hiding ix2
open Idealize.ShloMosaic.TcCoe Idealize.ShloMosaic.Tactic Idealize.ShloMosaic.ValueIdx Idealize.SL.Sem Cert.Mul

namespace Cert.Kernel6Ideal.Mul

open Cert.Kernel6Ideal.Gen Pipeline

/-- The block each window is on at each point. -/
theorem idx : ∀ t : Fin cfg0.N, win0_0.index t = ![t.val / 2, 0] ∧ win0_1.index t = ![t.val / 2, 0] ∧ win0_2.index t = ![t.val / 2, 0] ∧ win0_3.index t = ![t.val % 2, 0] ∧ win0_4.index t = ![t.val / 2, t.val % 2] :=
  (by decide +kernel : ∀ t : Fin grid0.N, _)

variable (m : (ℓ : Loc nD τ sig) → Buf (Elt Ideal) ℓ) (c : Dev nD)

/-- The operands' entries, and their blocks at a point. -/
def A0 : ℕ → ℕ → EReal := ent (n := 8320) (m := 2048) (m ((c.tc : Thread nD τ).loc main_arg0))
def A1 : ℕ → ℕ → EReal := ent (n := 8320) (m := 4096) (m ((c.tc : Thread nD τ).loc main_arg1))
def A2 : ℕ → ℕ → EReal := ent (n := 8320) (m := 128) (m ((c.tc : Thread nD τ).loc main_arg2))
def B : ℕ → ℕ → EReal := ent (n := 1024) (m := 6272) (m ((c.tc : Thread nD τ).loc main_arg3))

theorem blkA0 (t : Fin cfg0.N) (r : Fin 640) (q : Fin 2048) : (View.ld (iblk m c 0 t : Vec Ideal S640x2048 .bf16) r0_0 : Vec Ideal S640x2048 .bf16) (ix2 r q) = A0 m c (t.val / 2 * 640 + r.val) (q.val) := by
  refine (congrFun (ld_all (n := 640) (m := 2048) _ _) _).trans <| entry (n := 8320) (m := 2048) (V_main_arg0 m c) (((cfg0.win 0).blk t).view.emb (ix2 r q)) ?_ ?_ <;> blk_simp [(idx t).1]

theorem blkA1 (t : Fin cfg0.N) (r : Fin 640) (q : Fin 4096) : (View.ld (iblk m c 1 t : Vec Ideal S640x4096 .bf16) r0_2 : Vec Ideal S640x4096 .bf16) (ix2 r q) = A1 m c (t.val / 2 * 640 + r.val) (q.val) := by
  refine (congrFun (ld_all (n := 640) (m := 4096) _ _) _).trans <| entry (n := 8320) (m := 4096) (V_main_arg1 m c) (((cfg0.win 1).blk t).view.emb (ix2 r q)) ?_ ?_ <;> blk_simp [(idx t).2.1]

theorem blkA2 (t : Fin cfg0.N) (r : Fin 640) (q : Fin 128) : (View.ld (iblk m c 2 t : Vec Ideal S640x128 .bf16) r0_4 : Vec Ideal S640x128 .bf16) (ix2 r q) = A2 m c (t.val / 2 * 640 + r.val) (q.val) := by
  refine (congrFun (ld_all (n := 640) (m := 128) _ _) _).trans <| entry (n := 8320) (m := 128) (V_main_arg2 m c) (((cfg0.win 2).blk t).view.emb (ix2 r q)) ?_ ?_ <;> blk_simp [(idx t).2.2.1]

theorem blkB (t : Fin cfg0.N) (r : Fin 512) (q : Fin 6272) : (iblk m c 3 t : Vec Ideal S512x6272 .bf16) (ix2 r q) = B m c (t.val % 2 * 512 + r.val) (q.val) := by
  refine entry (n := 1024) (m := 6272) (V_main_arg3 m c) (((cfg0.win 3).blk t).view.emb (ix2 r q)) ?_ ?_ <;> blk_simp [(idx t).2.2.2.1]

/-- The parts of the second operand's block that the sums read. -/
theorem col0 (t : Fin cfg0.N) (k : Fin 512) (q : Fin 2048) : (View.ld (iblk m c 3 t : Vec Ideal S512x6272 .bf16) r0_1 : Vec Ideal S512x2048 .bf16) (ix2 k q) = B m c (t.val % 2 * 512 + k.val) (0 + q.val) :=
  (ld_cols (n := 512) (m := 6272) _ 0 _ k q (by omega)).trans (blkB m c t k ⟨0 + q.val, by omega⟩)

theorem col1 (t : Fin cfg0.N) (k : Fin 512) (q : Fin 4096) : (View.ld (iblk m c 3 t : Vec Ideal S512x6272 .bf16) r0_3 : Vec Ideal S512x4096 .bf16) (ix2 k q) = B m c (t.val % 2 * 512 + k.val) (2048 + q.val) :=
  (ld_cols (n := 512) (m := 6272) _ 2048 _ k q (by omega)).trans (blkB m c t k ⟨2048 + q.val, by omega⟩)

theorem col2 (t : Fin cfg0.N) (k : Fin 512) (q : Fin 128) : (View.ld (iblk m c 3 t : Vec Ideal S512x6272 .bf16) r0_5 : Vec Ideal S512x128 .bf16) (ix2 k q) = B m c (t.val % 2 * 512 + k.val) (6144 + q.val) :=
  (ld_cols (n := 512) (m := 6272) _ 6144 _ k q (by omega)).trans (blkB m c t k ⟨6144 + q.val, by omega⟩)

/-- What is stored, at an entry: the sum of the products. -/
theorem pay_apply (x0 : Vec Ideal S640x2048 .bf16) (y0 : Vec Ideal S512x2048 .bf16) (x1 : Vec Ideal S640x4096 .bf16) (y1 : Vec Ideal S512x4096 .bf16) (x2 : Vec Ideal S640x128 .bf16) (y2 : Vec Ideal S512x128 .bf16) (r : Fin 640) (k : Fin 512) :
    (k0_pay1 x0 y0 x1 y1 x2 y2 : Vec Ideal S640x512 .f32) (ix2 r k) = ((∑ q : Fin 2048, x0 (ix2 r q) * y0 (ix2 k q)) + (∑ q : Fin 4096, x1 (ix2 r q) * y1 (ix2 k q)) + (∑ q : Fin 128, x2 (ix2 r q) * y2 (ix2 k q)) : EReal) := by
  unfold k0_pay1
  exact congrArg₂ (fun x y : EReal => x + y) (congrArg₂ (fun x y : EReal => x + y) (transposed_apply (M := 640) (K := 2048) (N := 512) _ _ r k) (transposed_apply (M := 640) (K := 4096) (N := 512) _ _ r k)) (transposed_apply (M := 640) (K := 128) (N := 512) _ _ r k)

/-- What a point writes out: a block of the product. -/
theorem written (t : Fin cfg0.N) (r : Fin 640) (k : Fin 512) :
    (out0_4 (iblk m c 0 t) (iblk m c 1 t) (iblk m c 2 t) (iblk m c 3 t) : Vec Ideal S640x512 .f32) (ix2 r k) = dotT (beside [(2048, A0 m c), (4096, A1 m c), (128, A2 m c)]) (B m c) 6272 (t.val / 2 * 640 + r.val) (t.val % 2 * 512 + k.val) := by
  unfold out0_4
  rw [canon_all, pay_apply]
  refine Eq.trans ?_ ((dotT_beside 2048 _ _ _ 4224 _ _).trans (congrArg (_ + ·) ((dotT_beside 4096 _ _ _ 128 _ _).trans (congrArg (_ + ·) (dotT_one _ _ _ _ _))))).symm
  simp only [blkA0, blkA1, blkA2, col0, col1, col2, add_assoc (G := EReal), ← Nat.add_assoc, Nat.reduceAdd, Nat.zero_add, dotT, ← Fin.sum_univ_eq_sum_range]

/-- The result array after the run: the product. -/
def out : FVec Ideal S8320x1024 .f32 := fun i => dotT (beside [(2048, A0 m c), (4096, A1 m c), (128, A2 m c)]) (B m c) 6272 (i 0).val (i 1).val

theorem final : (dats m 0 c).arrAt 4 cfg0.N = out m c := by
  refine (dats m 0 c).arrAt_eq_of_covers 4 _ (by decide +kernel) fun t _ y => ?_
  have e0 : ((((cfg0.win 4).blk t).view.emb y) 0).val = t.val / 2 * 640 + (y 0).val := by blk_simp [(idx t).2.2.2.2]
  have e1 : ((((cfg0.win 4).blk t).view.emb y) 1).val = t.val % 2 * 512 + (y 1).val := by blk_simp [(idx t).2.2.2.2]
  blk_simp
  rw [after0_4]
  exact tile (written m c t) y e0 e1

end Cert.Kernel6Ideal.Mul

namespace Cert.Reference6Ideal.Mul

open Cert.Reference6Ideal.Read

/-- The arrays side by side, at an entry. -/
theorem together (x0 : FVec Ideal S8320x2048 .bf16) (x1 : FVec Ideal S8320x4096 .bf16) (x2 : FVec Ideal S8320x128 .bf16) (i : S8320x6272.Idx) : val_main_v0 (F := Ideal) x0 x1 x2 i = beside [(2048, ent (n := 8320) (m := 2048) x0), (4096, ent (n := 8320) (m := 4096) x1), (128, ent (n := 8320) (m := 128) x2)] (i 0).val (i 1).val := by
  unfold val_main_v0
  exact (concatenate_cons_apply _ _ _ _ _ _ _).trans (side (T := 8320) (n := 2048) (N := 6272) _ _ _ _ _ _ _ _ fun _ _ => side (T := 8320) (n := 4096) (N := 6272) _ _ _ _ _ _ _ _ fun _ _ => side_last (T := 8320) (n := 128) (N := 6272) _ _ _ _ _)

/-- The reference's result: the same product. -/
theorem value (x0 : FVec Ideal S8320x2048 .bf16) (x1 : FVec Ideal S8320x4096 .bf16) (x2 : FVec Ideal S8320x128 .bf16) (x3 : FVec Ideal S1024x6272 .bf16) : val_main_v5 (F := Ideal) x0 x1 x2 x3 = fun i : S8320x1024.Idx => dotT (beside [(2048, ent (n := 8320) (m := 2048) x0), (4096, ent (n := 8320) (m := 4096) x1), (128, ent (n := 8320) (m := 128) x2)]) (ent (n := 1024) (m := 6272) x3) 6272 (i 0).val (i 1).val := by
  funext i
  rw [val_main_v5_apply, ← dotT_fin]
  refine Finset.sum_congr rfl fun k _ => congrArg₂ (fun x y : EReal => x * y) ?_ (ent_at (n := 1024) (m := 6272) x3 _)
  exact together x0 x1 x2 _

end Cert.Reference6Ideal.Mul

/-- Over the reals the kernel's result is the reference's. -/
theorem Cert.Mul6.values : Cert.algebraic_Kernel6Ideal_Reference6Ideal (hKernel6Ideal := Cert.Kernel6Ideal.Gen.facts)
    (hReference6Ideal := Cert.Reference6Ideal.Gen.facts) := by
  intro m g m' g' _ hagree
  refine ⟨_, ends (Kernel6Ideal.Value.run_blocks m g) (Kernel6Ideal.Mul.final m), ends (Reference6Ideal.Value.run m' g') fun c =>
    (Reference6Ideal.Read.val_main_v5_eq _ _ _ _).trans ((Reference6Ideal.Mul.value _ _ _ _).trans ?_)⟩
  rw [(hagree c).1, (hagree c).2.1, (hagree c).2.2.1, (hagree c).2.2.2]
  rfl

end
-- ==== Proof.Mul7.lean ====
/- The gradient of the columns of the input weights of layer 1 that the convolution reads: the kernel adds five blocks of a product, the reference is the product. -/
module

public import proofs.«01_k».proof.Defs
public import proofs.«01_k».proof.Proof.Mul
public import proofs.«01_k».proof.Proof.Gen.Kernel7.Frame
public import proofs.«01_k».proof.Proof.Gen.Kernel7Ideal.Value
public import proofs.«01_k».proof.Proof.Gen.Reference7Ideal.Read

@[expose] public section

set_option maxRecDepth 16384

noncomputable section

open Idealize.ShloMosaic hiding ix2
open Idealize.ShloMosaic.TcCoe Idealize.ShloMosaic.Tactic Idealize.ShloMosaic.ValueIdx Idealize.SL.Sem Cert.Mul

namespace Cert.Kernel7Ideal.Mul

open Cert.Kernel7Ideal.Gen Pipeline

variable {d : Dev nD} {i : grid0.Coords} {a3 : Memref sig .tc .vmem S1024x1664 .bf16} {h3 : a3.IsWhole} {a4 : Memref sig .tc .vmem S1664x1024 .bf16} {h4 : a4.IsWhole}
  {a5 a6 : Memref sig .tc .vmem S1024x1024 .f32} {h5 : a5.IsWhole} {h6 : a6.IsWhole} (x : Vec Ideal S1024x1664 .bf16) (y : Vec Ideal S1664x1024 .bf16) (s : Vec Ideal S1024x1024 .f32)

/-- A block's product, and the product added to what was there, at an entry. -/
theorem pay1_apply (r : Fin 1024) (k : Fin 1024) : (k0_pay1 x y : Vec Ideal S1024x1024 .f32) (ix2 r k) = (∑ q : Fin 1664, x (ix2 r q) * y (ix2 q k) : EReal) := by
  unfold k0_pay1
  rw [shapeCast_self]
  exact plain_apply (M := 1024) (K := 1664) (N := 1024) x y r k

theorem pay2_apply (r : Fin 1024) (k : Fin 1024) :
    (k0_pay2 s x y : Vec Ideal S1024x1024 .f32) (ix2 r k) = (s (ix2 r k) + ∑ q : Fin 1664, x (ix2 r q) * y (ix2 q k) : EReal) := by
  unfold k0_pay2
  rw [shapeCast_self]
  exact congrArg (s (ix2 r k) + ·) (plain_apply (M := 1024) (K := 1664) (N := 1024) x y r k)

/-- The first block of a row of blocks leaves its product in the scratch memory. -/
theorem left_first {hc0 : cond0_0 i} {hc1 : ¬cond0_1 i} {hc2 : ¬cond0_2 i} : sout0_A_0 d i a3 h3 a4 h4 a5 h5 a6 h6 hc0 hc1 hc2 x y = k0_pay1 x y := by
  unfold sout0_A_0
  rw [View.read_writes_eq_canon _ _ _ (scover0_A_0 d i a3 h3 a4 h4 a5 h5 a6 h6 hc0 hc1 hc2 x y)]
  unfold kernelRun0_A
  dsimp only
  sl_unfold_words
  simp only [View.readAt_eq_ld, h3.read_unread, h4.read_unread, h6.read_unread, ld_all, canon_all, readCov_all, shapeCast_self]

/-- A further block adds its product. -/
theorem left_more {hc0 : ¬cond0_0 i} {hc1 : cond0_1 i} {hc2 : ¬cond0_2 i} : sout0_B_0 d i a3 h3 a4 h4 a5 h5 a6 h6 hc0 hc1 hc2 x y s = k0_pay2 s x y := by
  unfold sout0_B_0
  rw [View.read_writes_eq_canon _ _ _ (scover0_B_0 d i a3 h3 a4 h4 a5 h5 a6 h6 hc0 hc1 hc2 x y s)]
  unfold kernelRun0_B
  dsimp only
  sl_unfold_words
  simp only [View.readAt_eq_ld, h3.read_unread, h4.read_unread, h6.read_unread, ld_all, canon_all, readCov_all, shapeCast_self]

/-- The last block adds its product, and the sum is written out. -/
theorem left_last {hc0 : ¬cond0_0 i} {hc1 : cond0_1 i} {hc2 : cond0_2 i} : out0_C_2 d i a3 h3 a4 h4 a5 h5 a6 h6 hc0 hc1 hc2 x y s = k0_pay2 s x y := by
  unfold out0_C_2
  rw [View.read_writes_eq_canon _ _ _ (cover0_C_2 d i a3 h3 a4 h4 a5 h5 a6 h6 hc0 hc1 hc2 x y s)]
  unfold kernelRun0_C
  dsimp only
  sl_unfold_words
  simp only [View.readAt_eq_ld, h3.read_unread, h4.read_unread, h6.read_unread, ld_all, canon_all, readCov_all, shapeCast_self]

/-- The block each window is on at each point. -/
theorem idx : ∀ t : Fin cfg0.N, win0_0.index t = ![t.val / 5 / 4, t.val % 5] ∧ win0_1.index t = ![t.val % 5, t.val / 5 % 4] ∧ win0_2.index t = ![t.val / 5 / 4, t.val / 5 % 4] :=
  (by decide +kernel : ∀ t : Fin grid0.N, _)

variable (m : (ℓ : Loc nD τ sig) → Buf (Elt Ideal) ℓ) (c : Dev nD)

/-- The operands' entries, and their blocks at a point. -/
def A : ℕ → ℕ → EReal := ent (n := 1024) (m := 8320) (m ((c.tc : Thread nD τ).loc main_arg0))
def B : ℕ → ℕ → EReal := ent (n := 8320) (m := 4096) (m ((c.tc : Thread nD τ).loc main_arg1))

theorem blkA (t : Fin cfg0.N) (r : Fin 1024) (q : Fin 1664) : (iblk m c 0 t : Vec Ideal S1024x1664 .bf16) (ix2 r q) = A m c (t.val / 5 / 4 * 1024 + r.val) (t.val % 5 * 1664 + q.val) := by
  refine entry (n := 1024) (m := 8320) (V_main_arg0 m c) (((cfg0.win 0).blk t).view.emb (ix2 r q)) ?_ ?_ <;> blk_simp [(idx t).1]

theorem blkB (t : Fin cfg0.N) (r : Fin 1664) (q : Fin 1024) : (iblk m c 1 t : Vec Ideal S1664x1024 .bf16) (ix2 r q) = B m c (t.val % 5 * 1664 + r.val) (t.val / 5 % 4 * 1024 + q.val) := by
  refine entry (n := 8320) (m := 4096) (V_main_arg1 m c) (((cfg0.win 1).blk t).view.emb (ix2 r q)) ?_ ?_ <;> blk_simp [(idx t).2.1]

/-- What the last point of a row of blocks writes out: the whole product. -/
theorem written (t : Fin cfg0.N) (h2 : t.val % 5 = 4) (r : Fin 1024) (k : Fin 1024) :
    (outsAt0 m c t.val t.isLt).1 (ix2 r k) = dot (A m c) (B m c) 8320 (t.val / 5 / 4 * 1024 + r.val) (t.val / 5 % 4 * 1024 + k.val) := by
  refine sweep (N := cfg0.N) (NK := 5) (GJ := 4) (TM := 1024) (TN := 1024) (TK := 1664) (A := A m c) (B := B m c)
    (s := fun n h r k => (outsAt0 m c n h).2 (ix2 r k)) (o := fun n h r k => (outsAt0 m c n h).1 (ix2 r k))
    (by decide) ?_ ?_ ?_ t.val t.isLt r k h2
  · intro n h r k e
    rw [show outsAt0 m c n h = _ from outsAt0_A m c ⟨n, h⟩ e (by dsimp only; omega) (by dsimp only; omega)]
    dsimp only
    rw [left_first, pay1_apply]
    simp only [blkA, blkB, part]
  · intro n h r k e0 e2
    rw [show outsAt0 m c n h = _ from outsAt0_B m c ⟨n, h⟩ e0 (by dsimp only; omega) e2]
    dsimp only
    rw [left_more, pay2_apply]
    simp only [blkA, blkB, part]
  · intro n h r k e2
    rw [show outsAt0 m c n h = _ from outsAt0_C m c ⟨n, h⟩ (by dsimp only; omega) (by dsimp only; omega) e2]
    dsimp only
    rw [left_last, pay2_apply]
    simp only [blkA, blkB, part]

/-- The result array after the run: the product. -/
def out : FVec Ideal S1024x4096 .f32 := fun i => dot (A m c) (B m c) 8320 (i 0).val (i 1).val

theorem final : (dats m 0 c).arrAt 2 cfg0.N = out m c := by
  refine (dats m 0 c).arrAt_eq_of_covers 2 _ (by decide +kernel) fun t hf y => ?_
  have e0 : ((((cfg0.win 2).blk t).view.emb y) 0).val = t.val / 5 / 4 * 1024 + (y 0).val := by blk_simp [(idx t).2.2]
  have e1 : ((((cfg0.win 2).blk t).view.emb y) 1).val = t.val / 5 % 4 * 1024 + (y 1).val := by blk_simp [(idx t).2.2]
  blk_simp
  rw [after0_2]
  exact tile (written m c t ((flush0_2 t).mp hf)) y e0 e1

end Cert.Kernel7Ideal.Mul

namespace Cert.Reference7Ideal.Mul

open Cert.Reference7Ideal.Read

/-- The reference's result: the same product. -/
theorem value (x0 : FVec Ideal S1024x8320 .bf16) (x1 : FVec Ideal S8320x4096 .bf16) :
    val_main_v6 (F := Ideal) x0 x1 = fun i : S1024x4096.Idx => dot (ent (n := 1024) (m := 8320) x0) (ent (n := 8320) (m := 4096) x1) 8320 (i 0).val (i 1).val := by
  funext i
  rw [val_main_v6_apply, val_main_v5_apply]
  refine (Finset.sum_congr rfl fun k _ => ?_).trans (dot_of (M := 1024) (K := 8320) (N := 4096) x0 x1 i)
  rw [val_main_v4_apply, val_main_v2_apply, val_main_v0_apply]
  exact (mul_comm _ _).trans (congrArg₂ (fun x y : EReal => x * y) (congrArg x0 (same rfl rfl)) (congrArg x1 (same rfl rfl)))

end Cert.Reference7Ideal.Mul

/-- Over the reals the kernel's result is the reference's. -/
theorem Cert.Mul7.values : Cert.algebraic_Kernel7Ideal_Reference7Ideal (hKernel7Ideal := Cert.Kernel7Ideal.Gen.facts)
    (hReference7Ideal := Cert.Reference7Ideal.Gen.facts) := by
  intro m g m' g' _ hagree
  refine ⟨_, ends (Kernel7Ideal.Value.run_blocks m g) (Kernel7Ideal.Mul.final m), ends (Reference7Ideal.Value.run m' g') fun c =>
    (Reference7Ideal.Read.val_main_v6_eq _ _).trans ((Reference7Ideal.Mul.value _ _).trans ?_)⟩
  rw [(hagree c).1, (hagree c).2]
  rfl

end
-- ==== Proof.Mul8.lean ====
/- The gradient of the gate's columns of the input weights of layer 1: the kernel adds five blocks of a product, the reference is the product. -/
module

public import proofs.«01_k».proof.Defs
public import proofs.«01_k».proof.Proof.Mul
public import proofs.«01_k».proof.Proof.Gen.Kernel8.Frame
public import proofs.«01_k».proof.Proof.Gen.Kernel8Ideal.Value
public import proofs.«01_k».proof.Proof.Gen.Reference8Ideal.Read

@[expose] public section

set_option maxRecDepth 16384

noncomputable section

open Idealize.ShloMosaic hiding ix2
open Idealize.ShloMosaic.TcCoe Idealize.ShloMosaic.Tactic Idealize.ShloMosaic.ValueIdx Idealize.SL.Sem Cert.Mul

namespace Cert.Kernel8Ideal.Mul

open Cert.Kernel8Ideal.Gen Pipeline

variable {d : Dev nD} {i : grid0.Coords} {a3 : Memref sig .tc .vmem S1024x1664 .bf16} {h3 : a3.IsWhole} {a4 : Memref sig .tc .vmem S1664x1024 .bf16} {h4 : a4.IsWhole}
  {a5 a6 : Memref sig .tc .vmem S1024x1024 .f32} {h5 : a5.IsWhole} {h6 : a6.IsWhole} (x : Vec Ideal S1024x1664 .bf16) (y : Vec Ideal S1664x1024 .bf16) (s : Vec Ideal S1024x1024 .f32)

/-- A block's product, and the product added to what was there, at an entry. -/
theorem pay1_apply (r : Fin 1024) (k : Fin 1024) : (k0_pay1 x y : Vec Ideal S1024x1024 .f32) (ix2 r k) = (∑ q : Fin 1664, x (ix2 r q) * y (ix2 q k) : EReal) := by
  unfold k0_pay1
  rw [shapeCast_self]
  exact plain_apply (M := 1024) (K := 1664) (N := 1024) x y r k

theorem pay2_apply (r : Fin 1024) (k : Fin 1024) :
    (k0_pay2 s x y : Vec Ideal S1024x1024 .f32) (ix2 r k) = (s (ix2 r k) + ∑ q : Fin 1664, x (ix2 r q) * y (ix2 q k) : EReal) := by
  unfold k0_pay2
  rw [shapeCast_self]
  exact congrArg (s (ix2 r k) + ·) (plain_apply (M := 1024) (K := 1664) (N := 1024) x y r k)

/-- The first block of a row of blocks leaves its product in the scratch memory. -/
theorem left_first {hc0 : cond0_0 i} {hc1 : ¬cond0_1 i} {hc2 : ¬cond0_2 i} : sout0_A_0 d i a3 h3 a4 h4 a5 h5 a6 h6 hc0 hc1 hc2 x y = k0_pay1 x y := by
  unfold sout0_A_0
  rw [View.read_writes_eq_canon _ _ _ (scover0_A_0 d i a3 h3 a4 h4 a5 h5 a6 h6 hc0 hc1 hc2 x y)]
  unfold kernelRun0_A
  dsimp only
  sl_unfold_words
  simp only [View.readAt_eq_ld, h3.read_unread, h4.read_unread, h6.read_unread, ld_all, canon_all, readCov_all, shapeCast_self]

/-- A further block adds its product. -/
theorem left_more {hc0 : ¬cond0_0 i} {hc1 : cond0_1 i} {hc2 : ¬cond0_2 i} : sout0_B_0 d i a3 h3 a4 h4 a5 h5 a6 h6 hc0 hc1 hc2 x y s = k0_pay2 s x y := by
  unfold sout0_B_0
  rw [View.read_writes_eq_canon _ _ _ (scover0_B_0 d i a3 h3 a4 h4 a5 h5 a6 h6 hc0 hc1 hc2 x y s)]
  unfold kernelRun0_B
  dsimp only
  sl_unfold_words
  simp only [View.readAt_eq_ld, h3.read_unread, h4.read_unread, h6.read_unread, ld_all, canon_all, readCov_all, shapeCast_self]

/-- The last block adds its product, and the sum is written out. -/
theorem left_last {hc0 : ¬cond0_0 i} {hc1 : cond0_1 i} {hc2 : cond0_2 i} : out0_C_2 d i a3 h3 a4 h4 a5 h5 a6 h6 hc0 hc1 hc2 x y s = k0_pay2 s x y := by
  unfold out0_C_2
  rw [View.read_writes_eq_canon _ _ _ (cover0_C_2 d i a3 h3 a4 h4 a5 h5 a6 h6 hc0 hc1 hc2 x y s)]
  unfold kernelRun0_C
  dsimp only
  sl_unfold_words
  simp only [View.readAt_eq_ld, h3.read_unread, h4.read_unread, h6.read_unread, ld_all, canon_all, readCov_all, shapeCast_self]

/-- The block each window is on at each point. -/
theorem idx : ∀ t : Fin cfg0.N, win0_0.index t = ![t.val / 5 / 2, t.val % 5] ∧ win0_1.index t = ![t.val % 5, t.val / 5 % 2] ∧ win0_2.index t = ![t.val / 5 / 2, t.val / 5 % 2] :=
  (by decide +kernel : ∀ t : Fin grid0.N, _)

variable (m : (ℓ : Loc nD τ sig) → Buf (Elt Ideal) ℓ) (c : Dev nD)

/-- The operands' entries, and their blocks at a point. -/
def A : ℕ → ℕ → EReal := ent (n := 1024) (m := 8320) (m ((c.tc : Thread nD τ).loc main_arg0))
def B : ℕ → ℕ → EReal := ent (n := 8320) (m := 2048) (m ((c.tc : Thread nD τ).loc main_arg1))

theorem blkA (t : Fin cfg0.N) (r : Fin 1024) (q : Fin 1664) : (iblk m c 0 t : Vec Ideal S1024x1664 .bf16) (ix2 r q) = A m c (t.val / 5 / 2 * 1024 + r.val) (t.val % 5 * 1664 + q.val) := by
  refine entry (n := 1024) (m := 8320) (V_main_arg0 m c) (((cfg0.win 0).blk t).view.emb (ix2 r q)) ?_ ?_ <;> blk_simp [(idx t).1]

theorem blkB (t : Fin cfg0.N) (r : Fin 1664) (q : Fin 1024) : (iblk m c 1 t : Vec Ideal S1664x1024 .bf16) (ix2 r q) = B m c (t.val % 5 * 1664 + r.val) (t.val / 5 % 2 * 1024 + q.val) := by
  refine entry (n := 8320) (m := 2048) (V_main_arg1 m c) (((cfg0.win 1).blk t).view.emb (ix2 r q)) ?_ ?_ <;> blk_simp [(idx t).2.1]

/-- What the last point of a row of blocks writes out: the whole product. -/
theorem written (t : Fin cfg0.N) (h2 : t.val % 5 = 4) (r : Fin 1024) (k : Fin 1024) :
    (outsAt0 m c t.val t.isLt).1 (ix2 r k) = dot (A m c) (B m c) 8320 (t.val / 5 / 2 * 1024 + r.val) (t.val / 5 % 2 * 1024 + k.val) := by
  refine sweep (N := cfg0.N) (NK := 5) (GJ := 2) (TM := 1024) (TN := 1024) (TK := 1664) (A := A m c) (B := B m c)
    (s := fun n h r k => (outsAt0 m c n h).2 (ix2 r k)) (o := fun n h r k => (outsAt0 m c n h).1 (ix2 r k))
    (by decide) ?_ ?_ ?_ t.val t.isLt r k h2
  · intro n h r k e
    rw [show outsAt0 m c n h = _ from outsAt0_A m c ⟨n, h⟩ e (by dsimp only; omega) (by dsimp only; omega)]
    dsimp only
    rw [left_first, pay1_apply]
    simp only [blkA, blkB, part]
  · intro n h r k e0 e2
    rw [show outsAt0 m c n h = _ from outsAt0_B m c ⟨n, h⟩ e0 (by dsimp only; omega) e2]
    dsimp only
    rw [left_more, pay2_apply]
    simp only [blkA, blkB, part]
  · intro n h r k e2
    rw [show outsAt0 m c n h = _ from outsAt0_C m c ⟨n, h⟩ (by dsimp only; omega) (by dsimp only; omega) e2]
    dsimp only
    rw [left_last, pay2_apply]
    simp only [blkA, blkB, part]

/-- The result array after the run: the product. -/
def out : FVec Ideal S1024x2048 .f32 := fun i => dot (A m c) (B m c) 8320 (i 0).val (i 1).val

theorem final : (dats m 0 c).arrAt 2 cfg0.N = out m c := by
  refine (dats m 0 c).arrAt_eq_of_covers 2 _ (by decide +kernel) fun t hf y => ?_
  have e0 : ((((cfg0.win 2).blk t).view.emb y) 0).val = t.val / 5 / 2 * 1024 + (y 0).val := by blk_simp [(idx t).2.2]
  have e1 : ((((cfg0.win 2).blk t).view.emb y) 1).val = t.val / 5 % 2 * 1024 + (y 1).val := by blk_simp [(idx t).2.2]
  blk_simp
  rw [after0_2]
  exact tile (written m c t ((flush0_2 t).mp hf)) y e0 e1

end Cert.Kernel8Ideal.Mul

namespace Cert.Reference8Ideal.Mul

open Cert.Reference8Ideal.Read

/-- The reference's result: the same product. -/
theorem value (x0 : FVec Ideal S1024x8320 .bf16) (x1 : FVec Ideal S8320x2048 .bf16) :
    val_main_v6 (F := Ideal) x0 x1 = fun i : S1024x2048.Idx => dot (ent (n := 1024) (m := 8320) x0) (ent (n := 8320) (m := 2048) x1) 8320 (i 0).val (i 1).val := by
  funext i
  rw [val_main_v6_apply, val_main_v5_apply]
  refine (Finset.sum_congr rfl fun k _ => ?_).trans (dot_of (M := 1024) (K := 8320) (N := 2048) x0 x1 i)
  rw [val_main_v4_apply, val_main_v2_apply, val_main_v0_apply]
  exact (mul_comm _ _).trans (congrArg₂ (fun x y : EReal => x * y) (congrArg x0 (same rfl rfl)) (congrArg x1 (same rfl rfl)))

end Cert.Reference8Ideal.Mul

/-- Over the reals the kernel's result is the reference's. -/
theorem Cert.Mul8.values : Cert.algebraic_Kernel8Ideal_Reference8Ideal (hKernel8Ideal := Cert.Kernel8Ideal.Gen.facts)
    (hReference8Ideal := Cert.Reference8Ideal.Gen.facts) := by
  intro m g m' g' _ hagree
  refine ⟨_, ends (Kernel8Ideal.Value.run_blocks m g) (Kernel8Ideal.Mul.final m), ends (Reference8Ideal.Value.run m' g') fun c =>
    (Reference8Ideal.Read.val_main_v6_eq _ _).trans ((Reference8Ideal.Mul.value _ _).trans ?_)⟩
  rw [(hagree c).1, (hagree c).2]
  rfl

end
-- ==== Proof.Mul9.lean ====
/- The gradient of 128 columns of the input weights: the kernel adds five blocks of a product, the reference is the product. -/
module

public import proofs.«01_k».proof.Defs
public import proofs.«01_k».proof.Proof.Mul
public import proofs.«01_k».proof.Proof.Gen.Kernel9.Frame
public import proofs.«01_k».proof.Proof.Gen.Kernel9Ideal.Value
public import proofs.«01_k».proof.Proof.Gen.Reference9Ideal.Read

@[expose] public section

set_option maxRecDepth 16384

noncomputable section

open Idealize.ShloMosaic hiding ix2
open Idealize.ShloMosaic.TcCoe Idealize.ShloMosaic.Tactic Idealize.ShloMosaic.ValueIdx Idealize.SL.Sem Cert.Mul

namespace Cert.Kernel9Ideal.Mul

open Cert.Kernel9Ideal.Gen Pipeline

variable {d : Dev nD} {i : grid0.Coords} {a3 : Memref sig .tc .vmem S1024x1664 .bf16} {h3 : a3.IsWhole} {a4 : Memref sig .tc .vmem S1664x128 .bf16} {h4 : a4.IsWhole}
  {a5 a6 : Memref sig .tc .vmem S1024x128 .f32} {h5 : a5.IsWhole} {h6 : a6.IsWhole} (x : Vec Ideal S1024x1664 .bf16) (y : Vec Ideal S1664x128 .bf16) (s : Vec Ideal S1024x128 .f32)

/-- A block's product, and the product added to what was there, at an entry. -/
theorem pay1_apply (r : Fin 1024) (k : Fin 128) : (k0_pay1 x y : Vec Ideal S1024x128 .f32) (ix2 r k) = (∑ q : Fin 1664, x (ix2 r q) * y (ix2 q k) : EReal) := by
  unfold k0_pay1
  rw [shapeCast_self]
  exact plain_apply (M := 1024) (K := 1664) (N := 128) x y r k

theorem pay2_apply (r : Fin 1024) (k : Fin 128) :
    (k0_pay2 s x y : Vec Ideal S1024x128 .f32) (ix2 r k) = (s (ix2 r k) + ∑ q : Fin 1664, x (ix2 r q) * y (ix2 q k) : EReal) := by
  unfold k0_pay2
  rw [shapeCast_self]
  exact congrArg (s (ix2 r k) + ·) (plain_apply (M := 1024) (K := 1664) (N := 128) x y r k)

/-- The first block of a row of blocks leaves its product in the scratch memory. -/
theorem left_first {hc0 : cond0_0 i} {hc1 : ¬cond0_1 i} {hc2 : ¬cond0_2 i} : sout0_A_0 d i a3 h3 a4 h4 a5 h5 a6 h6 hc0 hc1 hc2 x y = k0_pay1 x y := by
  unfold sout0_A_0
  rw [View.read_writes_eq_canon _ _ _ (scover0_A_0 d i a3 h3 a4 h4 a5 h5 a6 h6 hc0 hc1 hc2 x y)]
  unfold kernelRun0_A
  dsimp only
  sl_unfold_words
  simp only [View.readAt_eq_ld, h3.read_unread, h4.read_unread, h6.read_unread, ld_all, canon_all, readCov_all, shapeCast_self]

/-- A further block adds its product. -/
theorem left_more {hc0 : ¬cond0_0 i} {hc1 : cond0_1 i} {hc2 : ¬cond0_2 i} : sout0_B_0 d i a3 h3 a4 h4 a5 h5 a6 h6 hc0 hc1 hc2 x y s = k0_pay2 s x y := by
  unfold sout0_B_0
  rw [View.read_writes_eq_canon _ _ _ (scover0_B_0 d i a3 h3 a4 h4 a5 h5 a6 h6 hc0 hc1 hc2 x y s)]
  unfold kernelRun0_B
  dsimp only
  sl_unfold_words
  simp only [View.readAt_eq_ld, h3.read_unread, h4.read_unread, h6.read_unread, ld_all, canon_all, readCov_all, shapeCast_self]

/-- The last block adds its product, and the sum is written out. -/
theorem left_last {hc0 : ¬cond0_0 i} {hc1 : cond0_1 i} {hc2 : cond0_2 i} : out0_C_2 d i a3 h3 a4 h4 a5 h5 a6 h6 hc0 hc1 hc2 x y s = k0_pay2 s x y := by
  unfold out0_C_2
  rw [View.read_writes_eq_canon _ _ _ (cover0_C_2 d i a3 h3 a4 h4 a5 h5 a6 h6 hc0 hc1 hc2 x y s)]
  unfold kernelRun0_C
  dsimp only
  sl_unfold_words
  simp only [View.readAt_eq_ld, h3.read_unread, h4.read_unread, h6.read_unread, ld_all, canon_all, readCov_all, shapeCast_self]

/-- The block each window is on at each point. -/
theorem idx : ∀ t : Fin cfg0.N, win0_0.index t = ![t.val / 5 / 1, t.val % 5] ∧ win0_1.index t = ![t.val % 5, t.val / 5 % 1] ∧ win0_2.index t = ![t.val / 5 / 1, t.val / 5 % 1] :=
  (by decide +kernel : ∀ t : Fin grid0.N, _)

variable (m : (ℓ : Loc nD τ sig) → Buf (Elt Ideal) ℓ) (c : Dev nD)

/-- The operands' entries, and their blocks at a point. -/
def A : ℕ → ℕ → EReal := ent (n := 1024) (m := 8320) (m ((c.tc : Thread nD τ).loc main_arg0))
def B : ℕ → ℕ → EReal := ent (n := 8320) (m := 128) (m ((c.tc : Thread nD τ).loc main_arg1))

theorem blkA (t : Fin cfg0.N) (r : Fin 1024) (q : Fin 1664) : (iblk m c 0 t : Vec Ideal S1024x1664 .bf16) (ix2 r q) = A m c (t.val / 5 / 1 * 1024 + r.val) (t.val % 5 * 1664 + q.val) := by
  refine entry (n := 1024) (m := 8320) (V_main_arg0 m c) (((cfg0.win 0).blk t).view.emb (ix2 r q)) ?_ ?_ <;> blk_simp [(idx t).1]

theorem blkB (t : Fin cfg0.N) (r : Fin 1664) (q : Fin 128) : (iblk m c 1 t : Vec Ideal S1664x128 .bf16) (ix2 r q) = B m c (t.val % 5 * 1664 + r.val) (t.val / 5 % 1 * 128 + q.val) := by
  refine entry (n := 8320) (m := 128) (V_main_arg1 m c) (((cfg0.win 1).blk t).view.emb (ix2 r q)) ?_ ?_ <;> blk_simp [(idx t).2.1]

/-- What the last point of a row of blocks writes out: the whole product. -/
theorem written (t : Fin cfg0.N) (h2 : t.val % 5 = 4) (r : Fin 1024) (k : Fin 128) :
    (outsAt0 m c t.val t.isLt).1 (ix2 r k) = dot (A m c) (B m c) 8320 (t.val / 5 / 1 * 1024 + r.val) (t.val / 5 % 1 * 128 + k.val) := by
  refine sweep (N := cfg0.N) (NK := 5) (GJ := 1) (TM := 1024) (TN := 128) (TK := 1664) (A := A m c) (B := B m c)
    (s := fun n h r k => (outsAt0 m c n h).2 (ix2 r k)) (o := fun n h r k => (outsAt0 m c n h).1 (ix2 r k))
    (by decide) ?_ ?_ ?_ t.val t.isLt r k h2
  · intro n h r k e
    rw [show outsAt0 m c n h = _ from outsAt0_A m c ⟨n, h⟩ e (by have := lt_of_lt_of_eq h N_0; dsimp only; omega) (by dsimp only; omega)]
    dsimp only
    rw [left_first, pay1_apply]
    simp only [blkA, blkB, part]
  · intro n h r k e0 e2
    rw [show outsAt0 m c n h = _ from outsAt0_B m c ⟨n, h⟩ e0 (by dsimp only; omega) e2]
    dsimp only
    rw [left_more, pay2_apply]
    simp only [blkA, blkB, part]
  · intro n h r k e2
    rw [show outsAt0 m c n h = _ from outsAt0_C m c ⟨n, h⟩ (by dsimp only; omega) (by dsimp only; omega) e2]
    dsimp only
    rw [left_last, pay2_apply]
    simp only [blkA, blkB, part]

/-- The result array after the run: the product. -/
def out : FVec Ideal S1024x128 .f32 := fun i => dot (A m c) (B m c) 8320 (i 0).val (i 1).val

theorem final : (dats m 0 c).arrAt 2 cfg0.N = out m c := by
  refine (dats m 0 c).arrAt_eq_of_covers 2 _ (by decide +kernel) fun t hf y => ?_
  have e0 : ((((cfg0.win 2).blk t).view.emb y) 0).val = t.val / 5 / 1 * 1024 + (y 0).val := by blk_simp [(idx t).2.2]
  have e1 : ((((cfg0.win 2).blk t).view.emb y) 1).val = t.val / 5 % 1 * 128 + (y 1).val := by blk_simp [(idx t).2.2]
  blk_simp
  rw [after0_2]
  exact tile (written m c t ((flush0_2 t).mp hf)) y e0 e1

end Cert.Kernel9Ideal.Mul

namespace Cert.Reference9Ideal.Mul

open Cert.Reference9Ideal.Read

/-- The reference's result: the same product. -/
theorem value (x0 : FVec Ideal S1024x8320 .bf16) (x1 : FVec Ideal S8320x128 .bf16) :
    val_main_v6 (F := Ideal) x0 x1 = fun i : S1024x128.Idx => dot (ent (n := 1024) (m := 8320) x0) (ent (n := 8320) (m := 128) x1) 8320 (i 0).val (i 1).val := by
  funext i
  rw [val_main_v6_apply, val_main_v5_apply]
  refine (Finset.sum_congr rfl fun k _ => ?_).trans (dot_of (M := 1024) (K := 8320) (N := 128) x0 x1 i)
  rw [val_main_v4_apply, val_main_v2_apply, val_main_v0_apply]
  exact (mul_comm _ _).trans (congrArg₂ (fun x y : EReal => x * y) (congrArg x0 (same rfl rfl)) (congrArg x1 (same rfl rfl)))

end Cert.Reference9Ideal.Mul

/-- Over the reals the kernel's result is the reference's. -/
theorem Cert.Mul9.values : Cert.algebraic_Kernel9Ideal_Reference9Ideal (hKernel9Ideal := Cert.Kernel9Ideal.Gen.facts)
    (hReference9Ideal := Cert.Reference9Ideal.Gen.facts) := by
  intro m g m' g' _ hagree
  refine ⟨_, ends (Kernel9Ideal.Value.run_blocks m g) (Kernel9Ideal.Mul.final m), ends (Reference9Ideal.Value.run m' g') fun c =>
    (Reference9Ideal.Read.val_main_v6_eq _ _).trans ((Reference9Ideal.Mul.value _ _).trans ?_)⟩
  rw [(hagree c).1, (hagree c).2]
  rfl

end
-- ==== Proof.Mul10.lean ====
/- The gradient of the mixer's output in layer 1: the kernel writes blocks of a product, the reference is the product. -/
module

public import proofs.«01_k».proof.Defs
public import proofs.«01_k».proof.Proof.Mul
public import proofs.«01_k».proof.Proof.Gen.Kernel10.Frame
public import proofs.«01_k».proof.Proof.Gen.Kernel10Ideal.Value
public import proofs.«01_k».proof.Proof.Gen.Reference10Ideal.Read

@[expose] public section

set_option maxRecDepth 16384

noncomputable section

open Idealize.ShloMosaic hiding ix2
open Idealize.ShloMosaic.TcCoe Idealize.ShloMosaic.Tactic Idealize.ShloMosaic.ValueIdx Idealize.SL.Sem Cert.Mul

namespace Cert.Kernel10Ideal.Mul

open Cert.Kernel10Ideal.Gen Pipeline

/-- The block each window is on at each point. -/
theorem idx : ∀ t : Fin cfg0.N, win0_0.index t = ![t.val / 1, 0] ∧ win0_1.index t = ![t.val % 1, 0] ∧ win0_2.index t = ![t.val / 1, t.val % 1] :=
  (by decide +kernel : ∀ t : Fin grid0.N, _)

variable (m : (ℓ : Loc nD τ sig) → Buf (Elt Ideal) ℓ) (c : Dev nD)

/-- The operands' entries, and their blocks at a point. -/
def A : ℕ → ℕ → EReal := ent (n := 8320) (m := 1024) (m ((c.tc : Thread nD τ).loc main_arg0))
def B : ℕ → ℕ → EReal := ent (n := 2048) (m := 1024) (m ((c.tc : Thread nD τ).loc main_arg1))

theorem blkA (t : Fin cfg0.N) (r : Fin 1040) (q : Fin 1024) : (iblk m c 0 t : Vec Ideal S1040x1024 .bf16) (ix2 r q) = A m c (t.val / 1 * 1040 + r.val) (q.val) := by
  refine entry (n := 8320) (m := 1024) (V_main_arg0 m c) (((cfg0.win 0).blk t).view.emb (ix2 r q)) ?_ ?_ <;> blk_simp [(idx t).1]

theorem blkB (t : Fin cfg0.N) (r : Fin 2048) (q : Fin 1024) : (iblk m c 1 t : Vec Ideal S2048x1024 .bf16) (ix2 r q) = B m c (t.val % 1 * 2048 + r.val) (q.val) := by
  refine entry (n := 2048) (m := 1024) (V_main_arg1 m c) (((cfg0.win 1).blk t).view.emb (ix2 r q)) ?_ ?_ <;> blk_simp [(idx t).2.1]

/-- What a point writes out: a block of the product. -/
theorem written (t : Fin cfg0.N) (r : Fin 1040) (k : Fin 2048) :
    (out0_2 (iblk m c 0 t) (iblk m c 1 t) : Vec Ideal S1040x2048 .f32) (ix2 r k) = dotT (A m c) (B m c) 1024 (t.val / 1 * 1040 + r.val) (t.val % 1 * 2048 + k.val) := by
  unfold out0_2
  rw [canon_all, ld_all, ld_all, show (k0_pay1 (iblk m c 0 t) (iblk m c 1 t) : Vec Ideal S1040x2048 .f32) (ix2 r k) = _ from transposed_apply (M := 1040) (K := 1024) (N := 2048) _ _ r k, ← dotT_fin]
  simp only [blkA, blkB]

/-- The result array after the run: the product. -/
def out : FVec Ideal S8320x2048 .f32 := fun i => dotT (A m c) (B m c) 1024 (i 0).val (i 1).val

theorem final : (dats m 0 c).arrAt 2 cfg0.N = out m c := by
  refine (dats m 0 c).arrAt_eq_of_covers 2 _ (by decide +kernel) fun t _ y => ?_
  have e0 : ((((cfg0.win 2).blk t).view.emb y) 0).val = t.val / 1 * 1040 + (y 0).val := by blk_simp [(idx t).2.2]
  have e1 : ((((cfg0.win 2).blk t).view.emb y) 1).val = t.val % 1 * 2048 + (y 1).val := by blk_simp [(idx t).2.2]
  blk_simp
  rw [after0_2]
  exact tile (written m c t) y e0 e1

end Cert.Kernel10Ideal.Mul

namespace Cert.Reference10Ideal.Mul

open Cert.Reference10Ideal.Read

/-- The reference's result: the same product. -/
theorem value (x0 : FVec Ideal S8320x1024 .bf16) (x1 : FVec Ideal S2048x1024 .bf16) :
    val_main_v4 (F := Ideal) x0 x1 = fun i : S8320x2048.Idx => dotT (ent (n := 8320) (m := 1024) x0) (ent (n := 2048) (m := 1024) x1) 1024 (i 0).val (i 1).val := by
  funext i
  rw [val_main_v4_apply]
  refine (Finset.sum_congr rfl fun k _ => ?_).trans (dotT_of (M := 8320) (K := 1024) (N := 2048) x0 x1 i)
  rw [val_main_v3_apply, val_main_v1_apply]
  exact congrArg₂ (fun x y : EReal => x * y) (congrArg x0 (same rfl rfl)) (congrArg x1 (same rfl rfl))

end Cert.Reference10Ideal.Mul

/-- Over the reals the kernel's result is the reference's. -/
theorem Cert.Mul10.values : Cert.algebraic_Kernel10Ideal_Reference10Ideal (hKernel10Ideal := Cert.Kernel10Ideal.Gen.facts)
    (hReference10Ideal := Cert.Reference10Ideal.Gen.facts) := by
  intro m g m' g' _ hagree
  refine ⟨_, ends (Kernel10Ideal.Value.run_blocks m g) (Kernel10Ideal.Mul.final m), ends (Reference10Ideal.Value.run m' g') fun c =>
    (Reference10Ideal.Read.val_main_v4_eq _ _).trans ((Reference10Ideal.Mul.value _ _).trans ?_)⟩
  rw [(hagree c).1, (hagree c).2]
  rfl

end
-- ==== Proof.Mul11.lean ====
/- The gradient of the output weights of layer 1: the kernel adds five blocks of a product, the reference is the product. -/
module

public import proofs.«01_k».proof.Defs
public import proofs.«01_k».proof.Proof.Mul
public import proofs.«01_k».proof.Proof.Gen.Kernel11.Frame
public import proofs.«01_k».proof.Proof.Gen.Kernel11Ideal.Value
public import proofs.«01_k».proof.Proof.Gen.Reference11Ideal.Read

@[expose] public section

set_option maxRecDepth 16384

noncomputable section

open Idealize.ShloMosaic hiding ix2
open Idealize.ShloMosaic.TcCoe Idealize.ShloMosaic.Tactic Idealize.ShloMosaic.ValueIdx Idealize.SL.Sem Cert.Mul

namespace Cert.Kernel11Ideal.Mul

open Cert.Kernel11Ideal.Gen Pipeline

variable {d : Dev nD} {i : grid0.Coords} {a3 : Memref sig .tc .vmem S1024x1664 .bf16} {h3 : a3.IsWhole} {a4 : Memref sig .tc .vmem S1664x1024 .bf16} {h4 : a4.IsWhole}
  {a5 a6 : Memref sig .tc .vmem S1024x1024 .f32} {h5 : a5.IsWhole} {h6 : a6.IsWhole} (x : Vec Ideal S1024x1664 .bf16) (y : Vec Ideal S1664x1024 .bf16) (s : Vec Ideal S1024x1024 .f32)

/-- A block's product, and the product added to what was there, at an entry. -/
theorem pay1_apply (r : Fin 1024) (k : Fin 1024) : (k0_pay1 x y : Vec Ideal S1024x1024 .f32) (ix2 r k) = (∑ q : Fin 1664, x (ix2 r q) * y (ix2 q k) : EReal) := by
  unfold k0_pay1
  rw [shapeCast_self]
  exact plain_apply (M := 1024) (K := 1664) (N := 1024) x y r k

theorem pay2_apply (r : Fin 1024) (k : Fin 1024) :
    (k0_pay2 s x y : Vec Ideal S1024x1024 .f32) (ix2 r k) = (s (ix2 r k) + ∑ q : Fin 1664, x (ix2 r q) * y (ix2 q k) : EReal) := by
  unfold k0_pay2
  rw [shapeCast_self]
  exact congrArg (s (ix2 r k) + ·) (plain_apply (M := 1024) (K := 1664) (N := 1024) x y r k)

/-- The first block of a row of blocks leaves its product in the scratch memory. -/
theorem left_first {hc0 : cond0_0 i} {hc1 : ¬cond0_1 i} {hc2 : ¬cond0_2 i} : sout0_A_0 d i a3 h3 a4 h4 a5 h5 a6 h6 hc0 hc1 hc2 x y = k0_pay1 x y := by
  unfold sout0_A_0
  rw [View.read_writes_eq_canon _ _ _ (scover0_A_0 d i a3 h3 a4 h4 a5 h5 a6 h6 hc0 hc1 hc2 x y)]
  unfold kernelRun0_A
  dsimp only
  sl_unfold_words
  simp only [View.readAt_eq_ld, h3.read_unread, h4.read_unread, h6.read_unread, ld_all, canon_all, readCov_all, shapeCast_self]

/-- A further block adds its product. -/
theorem left_more {hc0 : ¬cond0_0 i} {hc1 : cond0_1 i} {hc2 : ¬cond0_2 i} : sout0_B_0 d i a3 h3 a4 h4 a5 h5 a6 h6 hc0 hc1 hc2 x y s = k0_pay2 s x y := by
  unfold sout0_B_0
  rw [View.read_writes_eq_canon _ _ _ (scover0_B_0 d i a3 h3 a4 h4 a5 h5 a6 h6 hc0 hc1 hc2 x y s)]
  unfold kernelRun0_B
  dsimp only
  sl_unfold_words
  simp only [View.readAt_eq_ld, h3.read_unread, h4.read_unread, h6.read_unread, ld_all, canon_all, readCov_all, shapeCast_self]

/-- The last block adds its product, and the sum is written out. -/
theorem left_last {hc0 : ¬cond0_0 i} {hc1 : cond0_1 i} {hc2 : cond0_2 i} : out0_C_2 d i a3 h3 a4 h4 a5 h5 a6 h6 hc0 hc1 hc2 x y s = k0_pay2 s x y := by
  unfold out0_C_2
  rw [View.read_writes_eq_canon _ _ _ (cover0_C_2 d i a3 h3 a4 h4 a5 h5 a6 h6 hc0 hc1 hc2 x y s)]
  unfold kernelRun0_C
  dsimp only
  sl_unfold_words
  simp only [View.readAt_eq_ld, h3.read_unread, h4.read_unread, h6.read_unread, ld_all, canon_all, readCov_all, shapeCast_self]

/-- The block each window is on at each point. -/
theorem idx : ∀ t : Fin cfg0.N, win0_0.index t = ![t.val / 5 / 1, t.val % 5] ∧ win0_1.index t = ![t.val % 5, t.val / 5 % 1] ∧ win0_2.index t = ![t.val / 5 / 1, t.val / 5 % 1] :=
  (by decide +kernel : ∀ t : Fin grid0.N, _)

variable (m : (ℓ : Loc nD τ sig) → Buf (Elt Ideal) ℓ) (c : Dev nD)

/-- The operands' entries, and their blocks at a point. -/
def A : ℕ → ℕ → EReal := ent (n := 2048) (m := 8320) (m ((c.tc : Thread nD τ).loc main_arg0))
def B : ℕ → ℕ → EReal := ent (n := 8320) (m := 1024) (m ((c.tc : Thread nD τ).loc main_arg1))

theorem blkA (t : Fin cfg0.N) (r : Fin 1024) (q : Fin 1664) : (iblk m c 0 t : Vec Ideal S1024x1664 .bf16) (ix2 r q) = A m c (t.val / 5 / 1 * 1024 + r.val) (t.val % 5 * 1664 + q.val) := by
  refine entry (n := 2048) (m := 8320) (V_main_arg0 m c) (((cfg0.win 0).blk t).view.emb (ix2 r q)) ?_ ?_ <;> blk_simp [(idx t).1]

theorem blkB (t : Fin cfg0.N) (r : Fin 1664) (q : Fin 1024) : (iblk m c 1 t : Vec Ideal S1664x1024 .bf16) (ix2 r q) = B m c (t.val % 5 * 1664 + r.val) (t.val / 5 % 1 * 1024 + q.val) := by
  refine entry (n := 8320) (m := 1024) (V_main_arg1 m c) (((cfg0.win 1).blk t).view.emb (ix2 r q)) ?_ ?_ <;> blk_simp [(idx t).2.1]

/-- What the last point of a row of blocks writes out: the whole product. -/
theorem written (t : Fin cfg0.N) (h2 : t.val % 5 = 4) (r : Fin 1024) (k : Fin 1024) :
    (outsAt0 m c t.val t.isLt).1 (ix2 r k) = dot (A m c) (B m c) 8320 (t.val / 5 / 1 * 1024 + r.val) (t.val / 5 % 1 * 1024 + k.val) := by
  refine sweep (N := cfg0.N) (NK := 5) (GJ := 1) (TM := 1024) (TN := 1024) (TK := 1664) (A := A m c) (B := B m c)
    (s := fun n h r k => (outsAt0 m c n h).2 (ix2 r k)) (o := fun n h r k => (outsAt0 m c n h).1 (ix2 r k))
    (by decide) ?_ ?_ ?_ t.val t.isLt r k h2
  · intro n h r k e
    rw [show outsAt0 m c n h = _ from outsAt0_A m c ⟨n, h⟩ e (by dsimp only; omega) (by dsimp only; omega)]
    dsimp only
    rw [left_first, pay1_apply]
    simp only [blkA, blkB, part]
  · intro n h r k e0 e2
    rw [show outsAt0 m c n h = _ from outsAt0_B m c ⟨n, h⟩ e0 (by dsimp only; omega) e2]
    dsimp only
    rw [left_more, pay2_apply]
    simp only [blkA, blkB, part]
  · intro n h r k e2
    rw [show outsAt0 m c n h = _ from outsAt0_C m c ⟨n, h⟩ (by dsimp only; omega) (by dsimp only; omega) e2]
    dsimp only
    rw [left_last, pay2_apply]
    simp only [blkA, blkB, part]

/-- The result array after the run: the product. -/
def out : FVec Ideal S2048x1024 .f32 := fun i => dot (A m c) (B m c) 8320 (i 0).val (i 1).val

theorem final : (dats m 0 c).arrAt 2 cfg0.N = out m c := by
  refine (dats m 0 c).arrAt_eq_of_covers 2 _ (by decide +kernel) fun t hf y => ?_
  have e0 : ((((cfg0.win 2).blk t).view.emb y) 0).val = t.val / 5 / 1 * 1024 + (y 0).val := by blk_simp [(idx t).2.2]
  have e1 : ((((cfg0.win 2).blk t).view.emb y) 1).val = t.val / 5 % 1 * 1024 + (y 1).val := by blk_simp [(idx t).2.2]
  blk_simp
  rw [after0_2]
  exact tile (written m c t ((flush0_2 t).mp hf)) y e0 e1

end Cert.Kernel11Ideal.Mul

namespace Cert.Reference11Ideal.Mul

open Cert.Reference11Ideal.Read

/-- The reference's result: the same product. -/
theorem value (x0 : FVec Ideal S2048x8320 .bf16) (x1 : FVec Ideal S8320x1024 .bf16) :
    val_main_v6 (F := Ideal) x0 x1 = fun i : S2048x1024.Idx => dot (ent (n := 2048) (m := 8320) x0) (ent (n := 8320) (m := 1024) x1) 8320 (i 0).val (i 1).val := by
  funext i
  rw [val_main_v6_apply, val_main_v5_apply]
  refine (Finset.sum_congr rfl fun k _ => ?_).trans (dot_of (M := 2048) (K := 8320) (N := 1024) x0 x1 i)
  rw [val_main_v4_apply, val_main_v2_apply, val_main_v0_apply]
  exact (mul_comm _ _).trans (congrArg₂ (fun x y : EReal => x * y) (congrArg x0 (same rfl rfl)) (congrArg x1 (same rfl rfl)))

end Cert.Reference11Ideal.Mul

/-- Over the reals the kernel's result is the reference's. -/
theorem Cert.Mul11.values : Cert.algebraic_Kernel11Ideal_Reference11Ideal (hKernel11Ideal := Cert.Kernel11Ideal.Gen.facts)
    (hReference11Ideal := Cert.Reference11Ideal.Gen.facts) := by
  intro m g m' g' _ hagree
  refine ⟨_, ends (Kernel11Ideal.Value.run_blocks m g) (Kernel11Ideal.Mul.final m), ends (Reference11Ideal.Value.run m' g') fun c =>
    (Reference11Ideal.Read.val_main_v6_eq _ _).trans ((Reference11Ideal.Mul.value _ _).trans ?_)⟩
  rw [(hagree c).1, (hagree c).2]
  rfl

end
-- ==== Proof.Mul12.lean ====
/- The gradient of the input of the projection of layer 0: the kernel adds five products, the reference is the product. -/
module

public import proofs.«01_k».proof.Defs
public import proofs.«01_k».proof.Proof.Mul
public import proofs.«01_k».proof.Proof.Gen.Kernel12.Frame
public import proofs.«01_k».proof.Proof.Gen.Kernel12Ideal.Value
public import proofs.«01_k».proof.Proof.Gen.Reference12Ideal.Read

@[expose] public section

set_option maxRecDepth 16384

noncomputable section

open Idealize.ShloMosaic hiding ix2
open Idealize.ShloMosaic.TcCoe Idealize.ShloMosaic.Tactic Idealize.ShloMosaic.ValueIdx Idealize.SL.Sem Cert.Mul

namespace Cert.Kernel12Ideal.Mul

open Cert.Kernel12Ideal.Gen Pipeline

/-- The block each window is on at each point. -/
theorem idx : ∀ t : Fin cfg0.N, win0_0.index t = ![t.val / 2, 0] ∧ win0_1.index t = ![t.val / 2, 0] ∧ win0_2.index t = ![t.val / 2, 0] ∧ win0_3.index t = ![t.val / 2, 0] ∧ win0_4.index t = ![t.val / 2, 0] ∧ win0_5.index t = ![t.val % 2, 0] ∧ win0_6.index t = ![t.val / 2, t.val % 2] :=
  (by decide +kernel : ∀ t : Fin grid0.N, _)

variable (m : (ℓ : Loc nD τ sig) → Buf (Elt Ideal) ℓ) (c : Dev nD)

/-- The operands' entries, and their blocks at a point. -/
def A0 : ℕ → ℕ → EReal := ent (n := 8320) (m := 1024) (m ((c.tc : Thread nD τ).loc main_arg0))
def A1 : ℕ → ℕ → EReal := ent (n := 8320) (m := 1024) (m ((c.tc : Thread nD τ).loc main_arg1))
def A2 : ℕ → ℕ → EReal := ent (n := 8320) (m := 1024) (m ((c.tc : Thread nD τ).loc main_arg2))
def A3 : ℕ → ℕ → EReal := ent (n := 8320) (m := 128) (m ((c.tc : Thread nD τ).loc main_arg3))
def A4 : ℕ → ℕ → EReal := ent (n := 8320) (m := 128) (m ((c.tc : Thread nD τ).loc main_arg4))
def B : ℕ → ℕ → EReal := ent (n := 1024) (m := 3328) (m ((c.tc : Thread nD τ).loc main_arg5))

theorem blkA0 (t : Fin cfg0.N) (r : Fin 1040) (q : Fin 1024) : (View.ld (iblk m c 0 t : Vec Ideal S1040x1024 .bf16) r0_0 : Vec Ideal S1040x1024 .bf16) (ix2 r q) = A0 m c (t.val / 2 * 1040 + r.val) (q.val) := by
  refine (congrFun (ld_all (n := 1040) (m := 1024) _ _) _).trans <| entry (n := 8320) (m := 1024) (V_main_arg0 m c) (((cfg0.win 0).blk t).view.emb (ix2 r q)) ?_ ?_ <;> blk_simp [(idx t).1]

theorem blkA1 (t : Fin cfg0.N) (r : Fin 1040) (q : Fin 1024) : (View.ld (iblk m c 1 t : Vec Ideal S1040x1024 .bf16) r0_0 : Vec Ideal S1040x1024 .bf16) (ix2 r q) = A1 m c (t.val / 2 * 1040 + r.val) (q.val) := by
  refine (congrFun (ld_all (n := 1040) (m := 1024) _ _) _).trans <| entry (n := 8320) (m := 1024) (V_main_arg1 m c) (((cfg0.win 1).blk t).view.emb (ix2 r q)) ?_ ?_ <;> blk_simp [(idx t).2.1]

theorem blkA2 (t : Fin cfg0.N) (r : Fin 1040) (q : Fin 1024) : (View.ld (iblk m c 2 t : Vec Ideal S1040x1024 .bf16) r0_0 : Vec Ideal S1040x1024 .bf16) (ix2 r q) = A2 m c (t.val / 2 * 1040 + r.val) (q.val) := by
  refine (congrFun (ld_all (n := 1040) (m := 1024) _ _) _).trans <| entry (n := 8320) (m := 1024) (V_main_arg2 m c) (((cfg0.win 2).blk t).view.emb (ix2 r q)) ?_ ?_ <;> blk_simp [(idx t).2.2.1]

theorem blkA3 (t : Fin cfg0.N) (r : Fin 1040) (q : Fin 128) : (View.ld (iblk m c 3 t : Vec Ideal S1040x128 .bf16) r0_4 : Vec Ideal S1040x128 .bf16) (ix2 r q) = A3 m c (t.val / 2 * 1040 + r.val) (q.val) := by
  refine (congrFun (ld_all (n := 1040) (m := 128) _ _) _).trans <| entry (n := 8320) (m := 128) (V_main_arg3 m c) (((cfg0.win 3).blk t).view.emb (ix2 r q)) ?_ ?_ <;> blk_simp [(idx t).2.2.2.1]

theorem blkA4 (t : Fin cfg0.N) (r : Fin 1040) (q : Fin 128) : (View.ld (iblk m c 4 t : Vec Ideal S1040x128 .bf16) r0_4 : Vec Ideal S1040x128 .bf16) (ix2 r q) = A4 m c (t.val / 2 * 1040 + r.val) (q.val) := by
  refine (congrFun (ld_all (n := 1040) (m := 128) _ _) _).trans <| entry (n := 8320) (m := 128) (V_main_arg4 m c) (((cfg0.win 4).blk t).view.emb (ix2 r q)) ?_ ?_ <;> blk_simp [(idx t).2.2.2.2.1]

theorem blkB (t : Fin cfg0.N) (r : Fin 512) (q : Fin 3328) : (iblk m c 5 t : Vec Ideal S512x3328 .bf16) (ix2 r q) = B m c (t.val % 2 * 512 + r.val) (q.val) := by
  refine entry (n := 1024) (m := 3328) (V_main_arg5 m c) (((cfg0.win 5).blk t).view.emb (ix2 r q)) ?_ ?_ <;> blk_simp [(idx t).2.2.2.2.2.1]

/-- The parts of the second operand's block that the sums read. -/
theorem col0 (t : Fin cfg0.N) (k : Fin 512) (q : Fin 1024) : (View.ld (iblk m c 5 t : Vec Ideal S512x3328 .bf16) r0_1 : Vec Ideal S512x1024 .bf16) (ix2 k q) = B m c (t.val % 2 * 512 + k.val) (0 + q.val) :=
  (ld_cols (n := 512) (m := 3328) _ 0 _ k q (by omega)).trans (blkB m c t k ⟨0 + q.val, by omega⟩)

theorem col1 (t : Fin cfg0.N) (k : Fin 512) (q : Fin 1024) : (View.ld (iblk m c 5 t : Vec Ideal S512x3328 .bf16) r0_2 : Vec Ideal S512x1024 .bf16) (ix2 k q) = B m c (t.val % 2 * 512 + k.val) (1024 + q.val) :=
  (ld_cols (n := 512) (m := 3328) _ 1024 _ k q (by omega)).trans (blkB m c t k ⟨1024 + q.val, by omega⟩)

theorem col2 (t : Fin cfg0.N) (k : Fin 512) (q : Fin 1024) : (View.ld (iblk m c 5 t : Vec Ideal S512x3328 .bf16) r0_3 : Vec Ideal S512x1024 .bf16) (ix2 k q) = B m c (t.val % 2 * 512 + k.val) (2048 + q.val) :=
  (ld_cols (n := 512) (m := 3328) _ 2048 _ k q (by omega)).trans (blkB m c t k ⟨2048 + q.val, by omega⟩)

theorem col3 (t : Fin cfg0.N) (k : Fin 512) (q : Fin 128) : (View.ld (iblk m c 5 t : Vec Ideal S512x3328 .bf16) r0_5 : Vec Ideal S512x128 .bf16) (ix2 k q) = B m c (t.val % 2 * 512 + k.val) (3072 + q.val) :=
  (ld_cols (n := 512) (m := 3328) _ 3072 _ k q (by omega)).trans (blkB m c t k ⟨3072 + q.val, by omega⟩)

theorem col4 (t : Fin cfg0.N) (k : Fin 512) (q : Fin 128) : (View.ld (iblk m c 5 t : Vec Ideal S512x3328 .bf16) r0_6 : Vec Ideal S512x128 .bf16) (ix2 k q) = B m c (t.val % 2 * 512 + k.val) (3200 + q.val) :=
  (ld_cols (n := 512) (m := 3328) _ 3200 _ k q (by omega)).trans (blkB m c t k ⟨3200 + q.val, by omega⟩)

/-- What is stored, at an entry: the sum of the products. -/
theorem pay_apply (x0 : Vec Ideal S1040x1024 .bf16) (y0 : Vec Ideal S512x1024 .bf16) (x1 : Vec Ideal S1040x1024 .bf16) (y1 : Vec Ideal S512x1024 .bf16) (x2 : Vec Ideal S1040x1024 .bf16) (y2 : Vec Ideal S512x1024 .bf16) (x3 : Vec Ideal S1040x128 .bf16) (y3 : Vec Ideal S512x128 .bf16) (x4 : Vec Ideal S1040x128 .bf16) (y4 : Vec Ideal S512x128 .bf16) (r : Fin 1040) (k : Fin 512) :
    (k0_pay1 x0 y0 x1 y1 x2 y2 x3 y3 x4 y4 : Vec Ideal S1040x512 .f32) (ix2 r k) = ((∑ q : Fin 1024, x0 (ix2 r q) * y0 (ix2 k q)) + (∑ q : Fin 1024, x1 (ix2 r q) * y1 (ix2 k q)) + (∑ q : Fin 1024, x2 (ix2 r q) * y2 (ix2 k q)) + (∑ q : Fin 128, x3 (ix2 r q) * y3 (ix2 k q)) + (∑ q : Fin 128, x4 (ix2 r q) * y4 (ix2 k q)) : EReal) := by
  unfold k0_pay1
  exact congrArg₂ (fun x y : EReal => x + y) (congrArg₂ (fun x y : EReal => x + y) (congrArg₂ (fun x y : EReal => x + y) (congrArg₂ (fun x y : EReal => x + y) (transposed_apply (M := 1040) (K := 1024) (N := 512) _ _ r k) (transposed_apply (M := 1040) (K := 1024) (N := 512) _ _ r k)) (transposed_apply (M := 1040) (K := 1024) (N := 512) _ _ r k)) (transposed_apply (M := 1040) (K := 128) (N := 512) _ _ r k)) (transposed_apply (M := 1040) (K := 128) (N := 512) _ _ r k)

/-- What a point writes out: a block of the product. -/
theorem written (t : Fin cfg0.N) (r : Fin 1040) (k : Fin 512) :
    (out0_6 (iblk m c 0 t) (iblk m c 1 t) (iblk m c 2 t) (iblk m c 3 t) (iblk m c 4 t) (iblk m c 5 t) : Vec Ideal S1040x512 .f32) (ix2 r k) = dotT (beside [(1024, A0 m c), (1024, A1 m c), (1024, A2 m c), (128, A3 m c), (128, A4 m c)]) (B m c) 3328 (t.val / 2 * 1040 + r.val) (t.val % 2 * 512 + k.val) := by
  unfold out0_6
  rw [canon_all, pay_apply]
  refine Eq.trans ?_ ((dotT_beside 1024 _ _ _ 2304 _ _).trans (congrArg (_ + ·) ((dotT_beside 1024 _ _ _ 1280 _ _).trans (congrArg (_ + ·) ((dotT_beside 1024 _ _ _ 256 _ _).trans (congrArg (_ + ·) ((dotT_beside 128 _ _ _ 128 _ _).trans (congrArg (_ + ·) (dotT_one _ _ _ _ _))))))))).symm
  simp only [blkA0, blkA1, blkA2, blkA3, blkA4, col0, col1, col2, col3, col4, add_assoc (G := EReal), ← Nat.add_assoc, Nat.reduceAdd, Nat.zero_add, dotT, ← Fin.sum_univ_eq_sum_range]

/-- The result array after the run: the product. -/
def out : FVec Ideal S8320x1024 .f32 := fun i => dotT (beside [(1024, A0 m c), (1024, A1 m c), (1024, A2 m c), (128, A3 m c), (128, A4 m c)]) (B m c) 3328 (i 0).val (i 1).val

theorem final : (dats m 0 c).arrAt 6 cfg0.N = out m c := by
  refine (dats m 0 c).arrAt_eq_of_covers 6 _ (by decide +kernel) fun t _ y => ?_
  have e0 : ((((cfg0.win 6).blk t).view.emb y) 0).val = t.val / 2 * 1040 + (y 0).val := by blk_simp [(idx t).2.2.2.2.2.2]
  have e1 : ((((cfg0.win 6).blk t).view.emb y) 1).val = t.val % 2 * 512 + (y 1).val := by blk_simp [(idx t).2.2.2.2.2.2]
  blk_simp
  rw [after0_6]
  exact tile (written m c t) y e0 e1

end Cert.Kernel12Ideal.Mul

namespace Cert.Reference12Ideal.Mul

open Cert.Reference12Ideal.Read

/-- The arrays side by side, at an entry. -/
theorem together (x0 : FVec Ideal S8320x1024 .bf16) (x1 : FVec Ideal S8320x1024 .bf16) (x2 : FVec Ideal S8320x1024 .bf16) (x3 : FVec Ideal S8320x128 .bf16) (x4 : FVec Ideal S8320x128 .bf16) (i : S8320x3328.Idx) : val_main_v0 (F := Ideal) x0 x1 x2 x3 x4 i = beside [(1024, ent (n := 8320) (m := 1024) x0), (1024, ent (n := 8320) (m := 1024) x1), (1024, ent (n := 8320) (m := 1024) x2), (128, ent (n := 8320) (m := 128) x3), (128, ent (n := 8320) (m := 128) x4)] (i 0).val (i 1).val := by
  unfold val_main_v0
  exact (concatenate_cons_apply _ _ _ _ _ _ _).trans (side (T := 8320) (n := 1024) (N := 3328) _ _ _ _ _ _ _ _ fun _ _ => side (T := 8320) (n := 1024) (N := 3328) _ _ _ _ _ _ _ _ fun _ _ => side (T := 8320) (n := 1024) (N := 3328) _ _ _ _ _ _ _ _ fun _ _ => side (T := 8320) (n := 128) (N := 3328) _ _ _ _ _ _ _ _ fun _ _ => side_last (T := 8320) (n := 128) (N := 3328) _ _ _ _ _)

/-- The reference's result: the same product. -/
theorem value (x0 : FVec Ideal S8320x1024 .bf16) (x1 : FVec Ideal S8320x1024 .bf16) (x2 : FVec Ideal S8320x1024 .bf16) (x3 : FVec Ideal S8320x128 .bf16) (x4 : FVec Ideal S8320x128 .bf16) (x5 : FVec Ideal S1024x3328 .bf16) : val_main_v5 (F := Ideal) x0 x1 x2 x3 x4 x5 = fun i : S8320x1024.Idx => dotT (beside [(1024, ent (n := 8320) (m := 1024) x0), (1024, ent (n := 8320) (m := 1024) x1), (1024, ent (n := 8320) (m := 1024) x2), (128, ent (n := 8320) (m := 128) x3), (128, ent (n := 8320) (m := 128) x4)]) (ent (n := 1024) (m := 3328) x5) 3328 (i 0).val (i 1).val := by
  funext i
  rw [val_main_v5_apply, ← dotT_fin]
  refine Finset.sum_congr rfl fun k _ => congrArg₂ (fun x y : EReal => x * y) ?_ (ent_at (n := 1024) (m := 3328) x5 _)
  exact together x0 x1 x2 x3 x4 _

end Cert.Reference12Ideal.Mul

/-- Over the reals the kernel's result is the reference's. -/
theorem Cert.Mul12.values : Cert.algebraic_Kernel12Ideal_Reference12Ideal (hKernel12Ideal := Cert.Kernel12Ideal.Gen.facts)
    (hReference12Ideal := Cert.Reference12Ideal.Gen.facts) := by
  intro m g m' g' _ hagree
  refine ⟨_, ends (Kernel12Ideal.Value.run_blocks m g) (Kernel12Ideal.Mul.final m), ends (Reference12Ideal.Value.run m' g') fun c =>
    (Reference12Ideal.Read.val_main_v5_eq _ _ _ _ _ _).trans ((Reference12Ideal.Mul.value _ _ _ _ _ _).trans ?_)⟩
  rw [(hagree c).1, (hagree c).2.1, (hagree c).2.2.1, (hagree c).2.2.2.1, (hagree c).2.2.2.2.1, (hagree c).2.2.2.2.2]
  rfl

end
-- ==== Proof.Mul13.lean ====
/- The gradient of 1024 columns of the input weights, or rows of the output weights, of layer 0: the kernel adds five blocks of a product, the reference is the product. -/
module

public import proofs.«01_k».proof.Defs
public import proofs.«01_k».proof.Proof.Mul
public import proofs.«01_k».proof.Proof.Gen.Kernel13.Frame
public import proofs.«01_k».proof.Proof.Gen.Kernel13Ideal.Value
public import proofs.«01_k».proof.Proof.Gen.Reference13Ideal.Read

@[expose] public section

set_option maxRecDepth 16384

noncomputable section

open Idealize.ShloMosaic hiding ix2
open Idealize.ShloMosaic.TcCoe Idealize.ShloMosaic.Tactic Idealize.ShloMosaic.ValueIdx Idealize.SL.Sem Cert.Mul

namespace Cert.Kernel13Ideal.Mul

open Cert.Kernel13Ideal.Gen Pipeline

variable {d : Dev nD} {i : grid0.Coords} {a3 : Memref sig .tc .vmem S1024x1664 .bf16} {h3 : a3.IsWhole} {a4 : Memref sig .tc .vmem S1664x1024 .bf16} {h4 : a4.IsWhole}
  {a5 a6 : Memref sig .tc .vmem S1024x1024 .f32} {h5 : a5.IsWhole} {h6 : a6.IsWhole} (x : Vec Ideal S1024x1664 .bf16) (y : Vec Ideal S1664x1024 .bf16) (s : Vec Ideal S1024x1024 .f32)

/-- A block's product, and the product added to what was there, at an entry. -/
theorem pay1_apply (r : Fin 1024) (k : Fin 1024) : (k0_pay1 x y : Vec Ideal S1024x1024 .f32) (ix2 r k) = (∑ q : Fin 1664, x (ix2 r q) * y (ix2 q k) : EReal) := by
  unfold k0_pay1
  rw [shapeCast_self]
  exact plain_apply (M := 1024) (K := 1664) (N := 1024) x y r k

theorem pay2_apply (r : Fin 1024) (k : Fin 1024) :
    (k0_pay2 s x y : Vec Ideal S1024x1024 .f32) (ix2 r k) = (s (ix2 r k) + ∑ q : Fin 1664, x (ix2 r q) * y (ix2 q k) : EReal) := by
  unfold k0_pay2
  rw [shapeCast_self]
  exact congrArg (s (ix2 r k) + ·) (plain_apply (M := 1024) (K := 1664) (N := 1024) x y r k)

/-- The first block of a row of blocks leaves its product in the scratch memory. -/
theorem left_first {hc0 : cond0_0 i} {hc1 : ¬cond0_1 i} {hc2 : ¬cond0_2 i} : sout0_A_0 d i a3 h3 a4 h4 a5 h5 a6 h6 hc0 hc1 hc2 x y = k0_pay1 x y := by
  unfold sout0_A_0
  rw [View.read_writes_eq_canon _ _ _ (scover0_A_0 d i a3 h3 a4 h4 a5 h5 a6 h6 hc0 hc1 hc2 x y)]
  unfold kernelRun0_A
  dsimp only
  sl_unfold_words
  simp only [View.readAt_eq_ld, h3.read_unread, h4.read_unread, h6.read_unread, ld_all, canon_all, readCov_all, shapeCast_self]

/-- A further block adds its product. -/
theorem left_more {hc0 : ¬cond0_0 i} {hc1 : cond0_1 i} {hc2 : ¬cond0_2 i} : sout0_B_0 d i a3 h3 a4 h4 a5 h5 a6 h6 hc0 hc1 hc2 x y s = k0_pay2 s x y := by
  unfold sout0_B_0
  rw [View.read_writes_eq_canon _ _ _ (scover0_B_0 d i a3 h3 a4 h4 a5 h5 a6 h6 hc0 hc1 hc2 x y s)]
  unfold kernelRun0_B
  dsimp only
  sl_unfold_words
  simp only [View.readAt_eq_ld, h3.read_unread, h4.read_unread, h6.read_unread, ld_all, canon_all, readCov_all, shapeCast_self]

/-- The last block adds its product, and the sum is written out. -/
theorem left_last {hc0 : ¬cond0_0 i} {hc1 : cond0_1 i} {hc2 : cond0_2 i} : out0_C_2 d i a3 h3 a4 h4 a5 h5 a6 h6 hc0 hc1 hc2 x y s = k0_pay2 s x y := by
  unfold out0_C_2
  rw [View.read_writes_eq_canon _ _ _ (cover0_C_2 d i a3 h3 a4 h4 a5 h5 a6 h6 hc0 hc1 hc2 x y s)]
  unfold kernelRun0_C
  dsimp only
  sl_unfold_words
  simp only [View.readAt_eq_ld, h3.read_unread, h4.read_unread, h6.read_unread, ld_all, canon_all, readCov_all, shapeCast_self]

/-- The block each window is on at each point. -/
theorem idx : ∀ t : Fin cfg0.N, win0_0.index t = ![t.val / 5 / 1, t.val % 5] ∧ win0_1.index t = ![t.val % 5, t.val / 5 % 1] ∧ win0_2.index t = ![t.val / 5 / 1, t.val / 5 % 1] :=
  (by decide +kernel : ∀ t : Fin grid0.N, _)

variable (m : (ℓ : Loc nD τ sig) → Buf (Elt Ideal) ℓ) (c : Dev nD)

/-- The operands' entries, and their blocks at a point. -/
def A : ℕ → ℕ → EReal := ent (n := 1024) (m := 8320) (m ((c.tc : Thread nD τ).loc main_arg0))
def B : ℕ → ℕ → EReal := ent (n := 8320) (m := 1024) (m ((c.tc : Thread nD τ).loc main_arg1))

theorem blkA (t : Fin cfg0.N) (r : Fin 1024) (q : Fin 1664) : (iblk m c 0 t : Vec Ideal S1024x1664 .bf16) (ix2 r q) = A m c (t.val / 5 / 1 * 1024 + r.val) (t.val % 5 * 1664 + q.val) := by
  refine entry (n := 1024) (m := 8320) (V_main_arg0 m c) (((cfg0.win 0).blk t).view.emb (ix2 r q)) ?_ ?_ <;> blk_simp [(idx t).1]

theorem blkB (t : Fin cfg0.N) (r : Fin 1664) (q : Fin 1024) : (iblk m c 1 t : Vec Ideal S1664x1024 .bf16) (ix2 r q) = B m c (t.val % 5 * 1664 + r.val) (t.val / 5 % 1 * 1024 + q.val) := by
  refine entry (n := 8320) (m := 1024) (V_main_arg1 m c) (((cfg0.win 1).blk t).view.emb (ix2 r q)) ?_ ?_ <;> blk_simp [(idx t).2.1]

/-- What the last point of a row of blocks writes out: the whole product. -/
theorem written (t : Fin cfg0.N) (h2 : t.val % 5 = 4) (r : Fin 1024) (k : Fin 1024) :
    (outsAt0 m c t.val t.isLt).1 (ix2 r k) = dot (A m c) (B m c) 8320 (t.val / 5 / 1 * 1024 + r.val) (t.val / 5 % 1 * 1024 + k.val) := by
  refine sweep (N := cfg0.N) (NK := 5) (GJ := 1) (TM := 1024) (TN := 1024) (TK := 1664) (A := A m c) (B := B m c)
    (s := fun n h r k => (outsAt0 m c n h).2 (ix2 r k)) (o := fun n h r k => (outsAt0 m c n h).1 (ix2 r k))
    (by decide) ?_ ?_ ?_ t.val t.isLt r k h2
  · intro n h r k e
    rw [show outsAt0 m c n h = _ from outsAt0_A m c ⟨n, h⟩ e (by have := lt_of_lt_of_eq h N_0; dsimp only; omega) (by dsimp only; omega)]
    dsimp only
    rw [left_first, pay1_apply]
    simp only [blkA, blkB, part]
  · intro n h r k e0 e2
    rw [show outsAt0 m c n h = _ from outsAt0_B m c ⟨n, h⟩ e0 (by dsimp only; omega) e2]
    dsimp only
    rw [left_more, pay2_apply]
    simp only [blkA, blkB, part]
  · intro n h r k e2
    rw [show outsAt0 m c n h = _ from outsAt0_C m c ⟨n, h⟩ (by dsimp only; omega) (by dsimp only; omega) e2]
    dsimp only
    rw [left_last, pay2_apply]
    simp only [blkA, blkB, part]

/-- The result array after the run: the product. -/
def out : FVec Ideal S1024x1024 .f32 := fun i => dot (A m c) (B m c) 8320 (i 0).val (i 1).val

theorem final : (dats m 0 c).arrAt 2 cfg0.N = out m c := by
  refine (dats m 0 c).arrAt_eq_of_covers 2 _ (by decide +kernel) fun t hf y => ?_
  have e0 : ((((cfg0.win 2).blk t).view.emb y) 0).val = t.val / 5 / 1 * 1024 + (y 0).val := by blk_simp [(idx t).2.2]
  have e1 : ((((cfg0.win 2).blk t).view.emb y) 1).val = t.val / 5 % 1 * 1024 + (y 1).val := by blk_simp [(idx t).2.2]
  blk_simp
  rw [after0_2]
  exact tile (written m c t ((flush0_2 t).mp hf)) y e0 e1

end Cert.Kernel13Ideal.Mul

namespace Cert.Reference13Ideal.Mul

open Cert.Reference13Ideal.Read

/-- The reference's result: the same product. -/
theorem value (x0 : FVec Ideal S1024x8320 .bf16) (x1 : FVec Ideal S8320x1024 .bf16) :
    val_main_v6 (F := Ideal) x0 x1 = fun i : S1024x1024.Idx => dot (ent (n := 1024) (m := 8320) x0) (ent (n := 8320) (m := 1024) x1) 8320 (i 0).val (i 1).val := by
  funext i
  rw [val_main_v6_apply, val_main_v5_apply]
  refine (Finset.sum_congr rfl fun k _ => ?_).trans (dot_of (M := 1024) (K := 8320) (N := 1024) x0 x1 i)
  rw [val_main_v4_apply, val_main_v2_apply, val_main_v0_apply]
  exact (mul_comm _ _).trans (congrArg₂ (fun x y : EReal => x * y) (congrArg x0 (same rfl rfl)) (congrArg x1 (same rfl rfl)))

end Cert.Reference13Ideal.Mul

/-- Over the reals the kernel's result is the reference's. -/
theorem Cert.Mul13.values : Cert.algebraic_Kernel13Ideal_Reference13Ideal (hKernel13Ideal := Cert.Kernel13Ideal.Gen.facts)
    (hReference13Ideal := Cert.Reference13Ideal.Gen.facts) := by
  intro m g m' g' _ hagree
  refine ⟨_, ends (Kernel13Ideal.Value.run_blocks m g) (Kernel13Ideal.Mul.final m), ends (Reference13Ideal.Value.run m' g') fun c =>
    (Reference13Ideal.Read.val_main_v6_eq _ _).trans ((Reference13Ideal.Mul.value _ _).trans ?_)⟩
  rw [(hagree c).1, (hagree c).2]
  rfl

end
-- ==== Proof.Mul14.lean ====
/- The gradient of the mixer's output in layer 0: the kernel writes blocks of a product, the reference is the product. -/
module

public import proofs.«01_k».proof.Defs
public import proofs.«01_k».proof.Proof.Mul
public import proofs.«01_k».proof.Proof.Gen.Kernel14.Frame
public import proofs.«01_k».proof.Proof.Gen.Kernel14Ideal.Value
public import proofs.«01_k».proof.Proof.Gen.Reference14Ideal.Read

@[expose] public section

set_option maxRecDepth 16384

noncomputable section

open Idealize.ShloMosaic hiding ix2
open Idealize.ShloMosaic.TcCoe Idealize.ShloMosaic.Tactic Idealize.ShloMosaic.ValueIdx Idealize.SL.Sem Cert.Mul

namespace Cert.Kernel14Ideal.Mul

open Cert.Kernel14Ideal.Gen Pipeline

/-- The block each window is on at each point. -/
theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

variable (m : (ℓ : Loc nD τ sig) → Buf (Elt Ideal) ℓ) (c : Dev nD)

/-- The operands' entries, and their blocks at a point. -/
def A0 : ℕ → ℕ → EReal := ent (n := 8320) (m := 1024) (m ((c.tc : Thread nD τ).loc main_arg0))
def B : ℕ → ℕ → EReal := ent (n := 2048) (m := 1024) (m ((c.tc : Thread nD τ).loc main_arg1))

theorem blkA0 (t : Fin cfg0.N) (r : Fin 1664) (q : Fin 1024) : (View.ld (iblk m c 0 t : Vec Ideal S1664x1024 .bf16) r0_0 : Vec Ideal S1664x1024 .bf16) (ix2 r q) = A0 m c (t.val / 4 * 1664 + r.val) (q.val) := by
  refine (congrFun (ld_all (n := 1664) (m := 1024) _ _) _).trans <| entry (n := 8320) (m := 1024) (V_main_arg0 m c) (((cfg0.win 0).blk t).view.emb (ix2 r q)) ?_ ?_ <;> blk_simp [(idx t).1]

theorem blkB (t : Fin cfg0.N) (r : Fin 512) (q : Fin 1024) : (View.ld (iblk m c 1 t : Vec Ideal S512x1024 .bf16) r0_1 : Vec Ideal S512x1024 .bf16) (ix2 r q) = B m c (t.val % 4 * 512 + r.val) (q.val) := by
  refine (congrFun (ld_all (n := 512) (m := 1024) _ _) _).trans <| entry (n := 2048) (m := 1024) (V_main_arg1 m c) (((cfg0.win 1).blk t).view.emb (ix2 r q)) ?_ ?_ <;> blk_simp [(idx t).2.1]

/-- What is stored, at an entry: the sum of the products. -/
theorem pay_apply (x0 : Vec Ideal S1664x1024 .bf16) (y0 : Vec Ideal S512x1024 .bf16) (r : Fin 1664) (k : Fin 512) :
    (k0_pay1 x0 y0 : Vec Ideal S1664x512 .f32) (ix2 r k) = ((∑ q : Fin 1024, x0 (ix2 r q) * y0 (ix2 k q)) : EReal) := by
  unfold k0_pay1
  exact transposed_apply (M := 1664) (K := 1024) (N := 512) _ _ r k

/-- What a point writes out: a block of the product. -/
theorem written (t : Fin cfg0.N) (r : Fin 1664) (k : Fin 512) :
    (out0_2 (iblk m c 0 t) (iblk m c 1 t) : Vec Ideal S1664x512 .f32) (ix2 r k) = dotT (beside [(1024, A0 m c)]) (B m c) 1024 (t.val / 4 * 1664 + r.val) (t.val % 4 * 512 + k.val) := by
  unfold out0_2
  rw [canon_all, pay_apply]
  refine Eq.trans ?_ (dotT_one _ _ _ _ _).symm
  simp only [blkA0, blkB, add_assoc (G := EReal), ← Nat.add_assoc, Nat.reduceAdd, Nat.zero_add, dotT, ← Fin.sum_univ_eq_sum_range]

/-- The result array after the run: the product. -/
def out : FVec Ideal S8320x2048 .f32 := fun i => dotT (beside [(1024, A0 m c)]) (B m c) 1024 (i 0).val (i 1).val

theorem final : (dats m 0 c).arrAt 2 cfg0.N = out m c := by
  refine (dats m 0 c).arrAt_eq_of_covers 2 _ (by decide +kernel) fun t _ y => ?_
  have e0 : ((((cfg0.win 2).blk t).view.emb y) 0).val = t.val / 4 * 1664 + (y 0).val := by blk_simp [(idx t).2.2]
  have e1 : ((((cfg0.win 2).blk t).view.emb y) 1).val = t.val % 4 * 512 + (y 1).val := by blk_simp [(idx t).2.2]
  blk_simp
  rw [after0_2]
  exact tile (written m c t) y e0 e1

end Cert.Kernel14Ideal.Mul

namespace Cert.Reference14Ideal.Mul

open Cert.Reference14Ideal.Read

/-- The reference's result: the same product. -/
theorem value (x0 : FVec Ideal S8320x1024 .bf16) (x1 : FVec Ideal S2048x1024 .bf16) : val_main_v4 (F := Ideal) x0 x1 = fun i : S8320x2048.Idx => dotT (beside [(1024, ent (n := 8320) (m := 1024) x0)]) (ent (n := 2048) (m := 1024) x1) 1024 (i 0).val (i 1).val := by
  funext i
  rw [val_main_v4_apply, ← dotT_fin]
  refine Finset.sum_congr rfl fun k _ => congrArg₂ (fun x y : EReal => x * y) ?_ (ent_at (n := 2048) (m := 1024) x1 _)
  rw [beside, if_pos k.isLt]; exact ent_at (n := 8320) (m := 1024) x0 _

end Cert.Reference14Ideal.Mul

/-- Over the reals the kernel's result is the reference's. -/
theorem Cert.Mul14.values : Cert.algebraic_Kernel14Ideal_Reference14Ideal (hKernel14Ideal := Cert.Kernel14Ideal.Gen.facts)
    (hReference14Ideal := Cert.Reference14Ideal.Gen.facts) := by
  intro m g m' g' _ hagree
  refine ⟨_, ends (Kernel14Ideal.Value.run_blocks m g) (Kernel14Ideal.Mul.final m), ends (Reference14Ideal.Value.run m' g') fun c =>
    (Reference14Ideal.Read.val_main_v4_eq _ _).trans ((Reference14Ideal.Mul.value _ _).trans ?_)⟩
  rw [(hagree c).1, (hagree c).2]
  rfl

end
-- ==== Proof.Mul15.lean ====
/- The gate and up product: the kernel writes blocks of a product, the reference is the product. -/
module

public import proofs.«01_k».proof.Defs
public import proofs.«01_k».proof.Proof.Mul
public import proofs.«01_k».proof.Proof.Gen.Kernel15.Frame
public import proofs.«01_k».proof.Proof.Gen.Kernel15Ideal.Value
public import proofs.«01_k».proof.Proof.Gen.Reference15Ideal.Read

@[expose] public section

set_option maxRecDepth 16384

noncomputable section

open Idealize.ShloMosaic hiding ix2
open Idealize.ShloMosaic.TcCoe Idealize.ShloMosaic.Tactic Idealize.ShloMosaic.ValueIdx Idealize.SL.Sem Cert.Mul

namespace Cert.Kernel15Ideal.Mul

open Cert.Kernel15Ideal.Gen Pipeline

/-- The block each window is on at each point. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

variable (m : (ℓ : Loc nD τ sig) → Buf (Elt Ideal) ℓ) (c : Dev nD)

/-- The operands' entries, and their blocks at a point. -/
def A : ℕ → ℕ → EReal := ent (n := 8320) (m := 1024) (m ((c.tc : Thread nD τ).loc main_arg0))
def B : ℕ → ℕ → EReal := ent (n := 1024) (m := 5632) (m ((c.tc : Thread nD τ).loc main_arg1))

theorem blkA (t : Fin cfg0.N) (r : Fin 1664) (q : Fin 1024) : (iblk m c 0 t : Vec Ideal S1664x1024 .bf16) (ix2 r q) = A m c (t.val / 4 * 1664 + r.val) (q.val) := by
  refine entry (n := 8320) (m := 1024) (V_main_arg0 m c) (((cfg0.win 0).blk t).view.emb (ix2 r q)) ?_ ?_ <;> blk_simp [(idx t).1]

theorem blkB (t : Fin cfg0.N) (r : Fin 1024) (q : Fin 1408) : (iblk m c 1 t : Vec Ideal S1024x1408 .bf16) (ix2 r q) = B m c (r.val) (t.val % 4 * 1408 + q.val) := by
  refine entry (n := 1024) (m := 5632) (V_main_arg1 m c) (((cfg0.win 1).blk t).view.emb (ix2 r q)) ?_ ?_ <;> blk_simp [(idx t).2.1]

/-- What a point writes out: a block of the product. -/
theorem written (t : Fin cfg0.N) (r : Fin 1664) (k : Fin 1408) :
    (out0_2 (iblk m c 0 t) (iblk m c 1 t) : Vec Ideal S1664x1408 .f32) (ix2 r k) = dot (A m c) (B m c) 1024 (t.val / 4 * 1664 + r.val) (t.val % 4 * 1408 + k.val) := by
  unfold out0_2
  rw [canon_all, ld_all, ld_all, show (k0_pay1 (iblk m c 0 t) (iblk m c 1 t) : Vec Ideal S1664x1408 .f32) (ix2 r k) = _ from plain_apply (M := 1664) (K := 1024) (N := 1408) _ _ r k, ← dot_fin]
  simp only [blkA, blkB]

/-- The result array after the run: the product. -/
def out : FVec Ideal S8320x5632 .f32 := fun i => dot (A m c) (B m c) 1024 (i 0).val (i 1).val

theorem final : (dats m 0 c).arrAt 2 cfg0.N = out m c := by
  refine (dats m 0 c).arrAt_eq_of_covers 2 _ (by decide +kernel) fun t _ y => ?_
  have e0 : ((((cfg0.win 2).blk t).view.emb y) 0).val = t.val / 4 * 1664 + (y 0).val := by blk_simp [(idx t).2.2]
  have e1 : ((((cfg0.win 2).blk t).view.emb y) 1).val = t.val % 4 * 1408 + (y 1).val := by blk_simp [(idx t).2.2]
  blk_simp
  rw [after0_2]
  exact tile (written m c t) y e0 e1

end Cert.Kernel15Ideal.Mul

namespace Cert.Reference15Ideal.Mul

open Cert.Reference15Ideal.Read

/-- The reference's result: the same product. -/
theorem value (x0 : FVec Ideal S8320x1024 .bf16) (x1 : FVec Ideal S1024x5632 .bf16) :
    val_main_v2 (F := Ideal) x0 x1 = fun i : S8320x5632.Idx => dot (ent (n := 8320) (m := 1024) x0) (ent (n := 1024) (m := 5632) x1) 1024 (i 0).val (i 1).val := by
  funext i
  rw [val_main_v2_apply]
  refine (Finset.sum_congr rfl fun k _ => ?_).trans (dot_of (M := 8320) (K := 1024) (N := 5632) x0 x1 i)
  rw [val_main_v0_apply, val_main_v1_apply]
  exact congrArg₂ (fun x y : EReal => x * y) (congrArg x0 (same rfl rfl)) (congrArg x1 (same rfl rfl))

end Cert.Reference15Ideal.Mul

/-- Over the reals the kernel's result is the reference's. -/
theorem Cert.Mul15.values : Cert.algebraic_Kernel15Ideal_Reference15Ideal (hKernel15Ideal := Cert.Kernel15Ideal.Gen.facts)
    (hReference15Ideal := Cert.Reference15Ideal.Gen.facts) := by
  intro m g m' g' _ hagree
  refine ⟨_, ends (Kernel15Ideal.Value.run_blocks m g) (Kernel15Ideal.Mul.final m), ends (Reference15Ideal.Value.run m' g') fun c =>
    (Reference15Ideal.Read.val_main_v2_eq _ _).trans ((Reference15Ideal.Mul.value _ _).trans ?_)⟩
  rw [(hagree c).1, (hagree c).2]
  rfl

end
-- ==== Proof.Mul16.lean ====
/- The down product: the kernel adds two blocks of a product, the reference is the product. -/
module

public import proofs.«01_k».proof.Defs
public import proofs.«01_k».proof.Proof.Mul
public import proofs.«01_k».proof.Proof.Gen.Kernel16.Frame
public import proofs.«01_k».proof.Proof.Gen.Kernel16Ideal.Value
public import proofs.«01_k».proof.Proof.Gen.Reference16Ideal.Read

@[expose] public section

set_option maxRecDepth 16384

noncomputable section

open Idealize.ShloMosaic hiding ix2
open Idealize.ShloMosaic.TcCoe Idealize.ShloMosaic.Tactic Idealize.ShloMosaic.ValueIdx Idealize.SL.Sem Cert.Mul

namespace Cert.Kernel16Ideal.Mul

open Cert.Kernel16Ideal.Gen Pipeline

variable {d : Dev nD} {i : grid0.Coords} {a3 : Memref sig .tc .vmem S1664x1408 .bf16} {h3 : a3.IsWhole} {a4 : Memref sig .tc .vmem S1408x1024 .bf16} {h4 : a4.IsWhole}
  {a5 a6 : Memref sig .tc .vmem S1664x1024 .f32} {h5 : a5.IsWhole} {h6 : a6.IsWhole} (x : Vec Ideal S1664x1408 .bf16) (y : Vec Ideal S1408x1024 .bf16) (s : Vec Ideal S1664x1024 .f32)

/-- A block's product, and the product added to what was there, at an entry. -/
theorem pay1_apply (r : Fin 1664) (k : Fin 1024) : (k0_pay1 x y : Vec Ideal S1664x1024 .f32) (ix2 r k) = (∑ q : Fin 1408, x (ix2 r q) * y (ix2 q k) : EReal) := by
  unfold k0_pay1
  rw [shapeCast_self]
  exact plain_apply (M := 1664) (K := 1408) (N := 1024) x y r k

theorem pay2_apply (r : Fin 1664) (k : Fin 1024) :
    (k0_pay2 s x y : Vec Ideal S1664x1024 .f32) (ix2 r k) = (s (ix2 r k) + ∑ q : Fin 1408, x (ix2 r q) * y (ix2 q k) : EReal) := by
  unfold k0_pay2
  rw [shapeCast_self]
  exact congrArg (s (ix2 r k) + ·) (plain_apply (M := 1664) (K := 1408) (N := 1024) x y r k)

/-- The first block of a row of blocks leaves its product in the scratch memory. -/
theorem left_first {hc0 : cond0_0 i} {hc1 : ¬cond0_1 i} {hc2 : ¬cond0_2 i} : sout0_A_0 d i a3 h3 a4 h4 a5 h5 a6 h6 hc0 hc1 hc2 x y = k0_pay1 x y := by
  unfold sout0_A_0
  rw [View.read_writes_eq_canon _ _ _ (scover0_A_0 d i a3 h3 a4 h4 a5 h5 a6 h6 hc0 hc1 hc2 x y)]
  unfold kernelRun0_A
  dsimp only
  sl_unfold_words
  simp only [View.readAt_eq_ld, h3.read_unread, h4.read_unread, h6.read_unread, ld_all, canon_all, readCov_all, shapeCast_self]

/-- The last block adds its product, and the sum is written out. -/
theorem left_last {hc0 : ¬cond0_0 i} {hc1 : cond0_1 i} {hc2 : cond0_2 i} : out0_B_2 d i a3 h3 a4 h4 a5 h5 a6 h6 hc0 hc1 hc2 x y s = k0_pay2 s x y := by
  unfold out0_B_2
  rw [View.read_writes_eq_canon _ _ _ (cover0_B_2 d i a3 h3 a4 h4 a5 h5 a6 h6 hc0 hc1 hc2 x y s)]
  unfold kernelRun0_B
  dsimp only
  sl_unfold_words
  simp only [View.readAt_eq_ld, h3.read_unread, h4.read_unread, h6.read_unread, ld_all, canon_all, readCov_all, shapeCast_self]

/-- The block each window is on at each point. -/
theorem idx : ∀ t : Fin cfg0.N, win0_0.index t = ![t.val / 2 / 1, t.val % 2] ∧ win0_1.index t = ![t.val % 2, t.val / 2 % 1] ∧ win0_2.index t = ![t.val / 2 / 1, t.val / 2 % 1] :=
  (by decide +kernel : ∀ t : Fin grid0.N, _)

variable (m : (ℓ : Loc nD τ sig) → Buf (Elt Ideal) ℓ) (c : Dev nD)

/-- The operands' entries, and their blocks at a point. -/
def A : ℕ → ℕ → EReal := ent (n := 8320) (m := 2816) (m ((c.tc : Thread nD τ).loc main_arg0))
def B : ℕ → ℕ → EReal := ent (n := 2816) (m := 1024) (m ((c.tc : Thread nD τ).loc main_arg1))

theorem blkA (t : Fin cfg0.N) (r : Fin 1664) (q : Fin 1408) : (iblk m c 0 t : Vec Ideal S1664x1408 .bf16) (ix2 r q) = A m c (t.val / 2 / 1 * 1664 + r.val) (t.val % 2 * 1408 + q.val) := by
  refine entry (n := 8320) (m := 2816) (V_main_arg0 m c) (((cfg0.win 0).blk t).view.emb (ix2 r q)) ?_ ?_ <;> blk_simp [(idx t).1]

theorem blkB (t : Fin cfg0.N) (r : Fin 1408) (q : Fin 1024) : (iblk m c 1 t : Vec Ideal S1408x1024 .bf16) (ix2 r q) = B m c (t.val % 2 * 1408 + r.val) (t.val / 2 % 1 * 1024 + q.val) := by
  refine entry (n := 2816) (m := 1024) (V_main_arg1 m c) (((cfg0.win 1).blk t).view.emb (ix2 r q)) ?_ ?_ <;> blk_simp [(idx t).2.1]

/-- What the last point of a row of blocks writes out: the whole product. -/
theorem written (t : Fin cfg0.N) (h2 : t.val % 2 = 1) (r : Fin 1664) (k : Fin 1024) :
    (outsAt0 m c t.val t.isLt).1 (ix2 r k) = dot (A m c) (B m c) 2816 (t.val / 2 / 1 * 1664 + r.val) (t.val / 2 % 1 * 1024 + k.val) := by
  refine sweep (N := cfg0.N) (NK := 2) (GJ := 1) (TM := 1664) (TN := 1024) (TK := 1408) (A := A m c) (B := B m c)
    (s := fun n h r k => (outsAt0 m c n h).2 (ix2 r k)) (o := fun n h r k => (outsAt0 m c n h).1 (ix2 r k))
    (by decide) ?_ ?_ ?_ t.val t.isLt r k h2
  · intro n h r k e
    rw [show outsAt0 m c n h = _ from outsAt0_A m c ⟨n, h⟩ e (by dsimp only; omega) (by dsimp only; omega)]
    dsimp only
    rw [left_first, pay1_apply]
    simp only [blkA, blkB, part]
  · intro n h r k e0 e2
    omega
  · intro n h r k e2
    rw [show outsAt0 m c n h = _ from outsAt0_B m c ⟨n, h⟩ (by dsimp only; omega) (by dsimp only; omega) e2]
    dsimp only
    rw [left_last, pay2_apply]
    simp only [blkA, blkB, part]

/-- The result array after the run: the product. -/
def out : FVec Ideal S8320x1024 .f32 := fun i => dot (A m c) (B m c) 2816 (i 0).val (i 1).val

theorem final : (dats m 0 c).arrAt 2 cfg0.N = out m c := by
  refine (dats m 0 c).arrAt_eq_of_covers 2 _ (by decide +kernel) fun t hf y => ?_
  have e0 : ((((cfg0.win 2).blk t).view.emb y) 0).val = t.val / 2 / 1 * 1664 + (y 0).val := by blk_simp [(idx t).2.2]
  have e1 : ((((cfg0.win 2).blk t).view.emb y) 1).val = t.val / 2 % 1 * 1024 + (y 1).val := by blk_simp [(idx t).2.2]
  blk_simp
  rw [after0_2]
  exact tile (written m c t ((flush0_2 t).mp hf)) y e0 e1

end Cert.Kernel16Ideal.Mul

namespace Cert.Reference16Ideal.Mul

open Cert.Reference16Ideal.Read

/-- The reference's result: the same product. -/
theorem value (x0 : FVec Ideal S8320x2816 .bf16) (x1 : FVec Ideal S2816x1024 .bf16) :
    val_main_v2 (F := Ideal) x0 x1 = fun i : S8320x1024.Idx => dot (ent (n := 8320) (m := 2816) x0) (ent (n := 2816) (m := 1024) x1) 2816 (i 0).val (i 1).val := by
  funext i
  rw [val_main_v2_apply]
  refine (Finset.sum_congr rfl fun k _ => ?_).trans (dot_of (M := 8320) (K := 2816) (N := 1024) x0 x1 i)
  rw [val_main_v0_apply, val_main_v1_apply]
  exact congrArg₂ (fun x y : EReal => x * y) (congrArg x0 (same rfl rfl)) (congrArg x1 (same rfl rfl))

end Cert.Reference16Ideal.Mul

/-- Over the reals the kernel's result is the reference's. -/
theorem Cert.Mul16.values : Cert.algebraic_Kernel16Ideal_Reference16Ideal (hKernel16Ideal := Cert.Kernel16Ideal.Gen.facts)
    (hReference16Ideal := Cert.Reference16Ideal.Gen.facts) := by
  intro m g m' g' _ hagree
  refine ⟨_, ends (Kernel16Ideal.Value.run_blocks m g) (Kernel16Ideal.Mul.final m), ends (Reference16Ideal.Value.run m' g') fun c =>
    (Reference16Ideal.Read.val_main_v2_eq _ _).trans ((Reference16Ideal.Mul.value _ _).trans ?_)⟩
  rw [(hagree c).1, (hagree c).2]
  rfl

end
-- ==== Proof.Mul17.lean ====
/- The input projection of layer 1: the kernel writes blocks of a product, the reference is the product. -/
module

public import proofs.«01_k».proof.Defs
public import proofs.«01_k».proof.Proof.Mul
public import proofs.«01_k».proof.Proof.Gen.Kernel17.Frame
public import proofs.«01_k».proof.Proof.Gen.Kernel17Ideal.Value
public import proofs.«01_k».proof.Proof.Gen.Reference17Ideal.Read

@[expose] public section

set_option maxRecDepth 16384

noncomputable section

open Idealize.ShloMosaic hiding ix2
open Idealize.ShloMosaic.TcCoe Idealize.ShloMosaic.Tactic Idealize.ShloMosaic.ValueIdx Idealize.SL.Sem Cert.Mul

namespace Cert.Kernel17Ideal.Mul

open Cert.Kernel17Ideal.Gen Pipeline

/-- The block each window is on at each point. -/
theorem idx : ∀ t : Fin cfg0.N, win0_0.index t = ![t.val / 7, 0] ∧ win0_1.index t = ![0, t.val % 7] ∧ win0_2.index t = ![t.val / 7, t.val % 7] :=
  (by decide +kernel : ∀ t : Fin grid0.N, _)

variable (m : (ℓ : Loc nD τ sig) → Buf (Elt Ideal) ℓ) (c : Dev nD)

/-- The operands' entries, and their blocks at a point. -/
def A : ℕ → ℕ → EReal := ent (n := 8320) (m := 1024) (m ((c.tc : Thread nD τ).loc main_arg0))
def B : ℕ → ℕ → EReal := ent (n := 1024) (m := 6272) (m ((c.tc : Thread nD τ).loc main_arg1))

theorem blkA (t : Fin cfg0.N) (r : Fin 1664) (q : Fin 1024) : (iblk m c 0 t : Vec Ideal S1664x1024 .bf16) (ix2 r q) = A m c (t.val / 7 * 1664 + r.val) (q.val) := by
  refine entry (n := 8320) (m := 1024) (V_main_arg0 m c) (((cfg0.win 0).blk t).view.emb (ix2 r q)) ?_ ?_ <;> blk_simp [(idx t).1]

theorem blkB (t : Fin cfg0.N) (r : Fin 1024) (q : Fin 896) : (iblk m c 1 t : Vec Ideal S1024x896 .bf16) (ix2 r q) = B m c (r.val) (t.val % 7 * 896 + q.val) := by
  refine entry (n := 1024) (m := 6272) (V_main_arg1 m c) (((cfg0.win 1).blk t).view.emb (ix2 r q)) ?_ ?_ <;> blk_simp [(idx t).2.1]

/-- What a point writes out: a block of the product. -/
theorem written (t : Fin cfg0.N) (r : Fin 1664) (k : Fin 896) :
    (out0_2 (iblk m c 0 t) (iblk m c 1 t) : Vec Ideal S1664x896 .f32) (ix2 r k) = dot (A m c) (B m c) 1024 (t.val / 7 * 1664 + r.val) (t.val % 7 * 896 + k.val) := by
  unfold out0_2
  rw [canon_all, ld_all, ld_all, show (k0_pay1 (iblk m c 0 t) (iblk m c 1 t) : Vec Ideal S1664x896 .f32) (ix2 r k) = _ from plain_apply (M := 1664) (K := 1024) (N := 896) _ _ r k, ← dot_fin]
  simp only [blkA, blkB]

/-- The result array after the run: the product. -/
def out : FVec Ideal S8320x6272 .f32 := fun i => dot (A m c) (B m c) 1024 (i 0).val (i 1).val

theorem final : (dats m 0 c).arrAt 2 cfg0.N = out m c := by
  refine (dats m 0 c).arrAt_eq_of_covers 2 _ (by decide +kernel) fun t _ y => ?_
  have e0 : ((((cfg0.win 2).blk t).view.emb y) 0).val = t.val / 7 * 1664 + (y 0).val := by blk_simp [(idx t).2.2]
  have e1 : ((((cfg0.win 2).blk t).view.emb y) 1).val = t.val % 7 * 896 + (y 1).val := by blk_simp [(idx t).2.2]
  blk_simp
  rw [after0_2]
  exact tile (written m c t) y e0 e1

end Cert.Kernel17Ideal.Mul

namespace Cert.Reference17Ideal.Mul

open Cert.Reference17Ideal.Read

/-- The reference's result: the same product. -/
theorem value (x0 : FVec Ideal S8320x1024 .bf16) (x1 : FVec Ideal S1024x6272 .bf16) :
    val_main_v2 (F := Ideal) x0 x1 = fun i : S8320x6272.Idx => dot (ent (n := 8320) (m := 1024) x0) (ent (n := 1024) (m := 6272) x1) 1024 (i 0).val (i 1).val := by
  funext i
  rw [val_main_v2_apply]
  refine (Finset.sum_congr rfl fun k _ => ?_).trans (dot_of (M := 8320) (K := 1024) (N := 6272) x0 x1 i)
  rw [val_main_v0_apply, val_main_v1_apply]
  exact congrArg₂ (fun x y : EReal => x * y) (congrArg x0 (same rfl rfl)) (congrArg x1 (same rfl rfl))

end Cert.Reference17Ideal.Mul

/-- Over the reals the kernel's result is the reference's. -/
theorem Cert.Mul17.values : Cert.algebraic_Kernel17Ideal_Reference17Ideal (hKernel17Ideal := Cert.Kernel17Ideal.Gen.facts)
    (hReference17Ideal := Cert.Reference17Ideal.Gen.facts) := by
  intro m g m' g' _ hagree
  refine ⟨_, ends (Kernel17Ideal.Value.run_blocks m g) (Kernel17Ideal.Mul.final m), ends (Reference17Ideal.Value.run m' g') fun c =>
    (Reference17Ideal.Read.val_main_v2_eq _ _).trans ((Reference17Ideal.Mul.value _ _).trans ?_)⟩
  rw [(hagree c).1, (hagree c).2]
  rfl

end
-- ==== Proof.Mul18.lean ====
/- The output projection of layer 1: the kernel writes blocks of a product, the reference is the product. -/
module

public import proofs.«01_k».proof.Defs
public import proofs.«01_k».proof.Proof.Mul
public import proofs.«01_k».proof.Proof.Gen.Kernel18.Frame
public import proofs.«01_k».proof.Proof.Gen.Kernel18Ideal.Value
public import proofs.«01_k».proof.Proof.Gen.Reference18Ideal.Read

@[expose] public section

set_option maxRecDepth 16384

noncomputable section

open Idealize.ShloMosaic hiding ix2
open Idealize.ShloMosaic.TcCoe Idealize.ShloMosaic.Tactic Idealize.ShloMosaic.ValueIdx Idealize.SL.Sem Cert.Mul

namespace Cert.Kernel18Ideal.Mul

open Cert.Kernel18Ideal.Gen Pipeline

/-- The block each window is on at each point. -/
theorem idx : ∀ t : Fin cfg0.N, win0_0.index t = ![t.val / 1, 0] ∧ win0_1.index t = ![0, t.val % 1] ∧ win0_2.index t = ![t.val / 1, t.val % 1] :=
  (by decide +kernel : ∀ t : Fin grid0.N, _)

variable (m : (ℓ : Loc nD τ sig) → Buf (Elt Ideal) ℓ) (c : Dev nD)

/-- The operands' entries, and their blocks at a point. -/
def A : ℕ → ℕ → EReal := ent (n := 8320) (m := 2048) (m ((c.tc : Thread nD τ).loc main_arg0))
def B : ℕ → ℕ → EReal := ent (n := 2048) (m := 1024) (m ((c.tc : Thread nD τ).loc main_arg1))

theorem blkA (t : Fin cfg0.N) (r : Fin 1664) (q : Fin 2048) : (iblk m c 0 t : Vec Ideal S1664x2048 .bf16) (ix2 r q) = A m c (t.val / 1 * 1664 + r.val) (q.val) := by
  refine entry (n := 8320) (m := 2048) (V_main_arg0 m c) (((cfg0.win 0).blk t).view.emb (ix2 r q)) ?_ ?_ <;> blk_simp [(idx t).1]

theorem blkB (t : Fin cfg0.N) (r : Fin 2048) (q : Fin 1024) : (iblk m c 1 t : Vec Ideal S2048x1024 .bf16) (ix2 r q) = B m c (r.val) (t.val % 1 * 1024 + q.val) := by
  refine entry (n := 2048) (m := 1024) (V_main_arg1 m c) (((cfg0.win 1).blk t).view.emb (ix2 r q)) ?_ ?_ <;> blk_simp [(idx t).2.1]

/-- What a point writes out: a block of the product. -/
theorem written (t : Fin cfg0.N) (r : Fin 1664) (k : Fin 1024) :
    (out0_2 (iblk m c 0 t) (iblk m c 1 t) : Vec Ideal S1664x1024 .f32) (ix2 r k) = dot (A m c) (B m c) 2048 (t.val / 1 * 1664 + r.val) (t.val % 1 * 1024 + k.val) := by
  unfold out0_2
  rw [canon_all, ld_all, ld_all, show (k0_pay1 (iblk m c 0 t) (iblk m c 1 t) : Vec Ideal S1664x1024 .f32) (ix2 r k) = _ from plain_apply (M := 1664) (K := 2048) (N := 1024) _ _ r k, ← dot_fin]
  simp only [blkA, blkB]

/-- The result array after the run: the product. -/
def out : FVec Ideal S8320x1024 .f32 := fun i => dot (A m c) (B m c) 2048 (i 0).val (i 1).val

theorem final : (dats m 0 c).arrAt 2 cfg0.N = out m c := by
  refine (dats m 0 c).arrAt_eq_of_covers 2 _ (by decide +kernel) fun t _ y => ?_
  have e0 : ((((cfg0.win 2).blk t).view.emb y) 0).val = t.val / 1 * 1664 + (y 0).val := by blk_simp [(idx t).2.2]
  have e1 : ((((cfg0.win 2).blk t).view.emb y) 1).val = t.val % 1 * 1024 + (y 1).val := by blk_simp [(idx t).2.2]
  blk_simp
  rw [after0_2]
  exact tile (written m c t) y e0 e1

end Cert.Kernel18Ideal.Mul

namespace Cert.Reference18Ideal.Mul

open Cert.Reference18Ideal.Read

/-- The reference's result: the same product. -/
theorem value (x0 : FVec Ideal S8320x2048 .bf16) (x1 : FVec Ideal S2048x1024 .bf16) :
    val_main_v2 (F := Ideal) x0 x1 = fun i : S8320x1024.Idx => dot (ent (n := 8320) (m := 2048) x0) (ent (n := 2048) (m := 1024) x1) 2048 (i 0).val (i 1).val := by
  funext i
  rw [val_main_v2_apply]
  refine (Finset.sum_congr rfl fun k _ => ?_).trans (dot_of (M := 8320) (K := 2048) (N := 1024) x0 x1 i)
  rw [val_main_v0_apply, val_main_v1_apply]
  exact congrArg₂ (fun x y : EReal => x * y) (congrArg x0 (same rfl rfl)) (congrArg x1 (same rfl rfl))

end Cert.Reference18Ideal.Mul

/-- Over the reals the kernel's result is the reference's. -/
theorem Cert.Mul18.values : Cert.algebraic_Kernel18Ideal_Reference18Ideal (hKernel18Ideal := Cert.Kernel18Ideal.Gen.facts)
    (hReference18Ideal := Cert.Reference18Ideal.Gen.facts) := by
  intro m g m' g' _ hagree
  refine ⟨_, ends (Kernel18Ideal.Value.run_blocks m g) (Kernel18Ideal.Mul.final m), ends (Reference18Ideal.Value.run m' g') fun c =>
    (Reference18Ideal.Read.val_main_v2_eq _ _).trans ((Reference18Ideal.Mul.value _ _).trans ?_)⟩
  rw [(hagree c).1, (hagree c).2]
  rfl

end
-- ==== Proof.Mul19.lean ====
/- The input projection of layer 0: the kernel writes blocks of a product, the reference is the product. -/
module

public import proofs.«01_k».proof.Defs
public import proofs.«01_k».proof.Proof.Mul
public import proofs.«01_k».proof.Proof.Gen.Kernel19.Frame
public import proofs.«01_k».proof.Proof.Gen.Kernel19Ideal.Value
public import proofs.«01_k».proof.Proof.Gen.Reference19Ideal.Read

@[expose] public section

set_option maxRecDepth 16384

noncomputable section

open Idealize.ShloMosaic hiding ix2
open Idealize.ShloMosaic.TcCoe Idealize.ShloMosaic.Tactic Idealize.ShloMosaic.ValueIdx Idealize.SL.Sem Cert.Mul

namespace Cert.Kernel19Ideal.Mul

open Cert.Kernel19Ideal.Gen Pipeline

/-- The block each window is on at each point. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

variable (m : (ℓ : Loc nD τ sig) → Buf (Elt Ideal) ℓ) (c : Dev nD)

/-- The operands' entries, and their blocks at a point. -/
def A : ℕ → ℕ → EReal := ent (n := 8320) (m := 1024) (m ((c.tc : Thread nD τ).loc main_arg0))
def B : ℕ → ℕ → EReal := ent (n := 1024) (m := 3328) (m ((c.tc : Thread nD τ).loc main_arg1))

theorem blkA (t : Fin cfg0.N) (r : Fin 1664) (q : Fin 1024) : (iblk m c 0 t : Vec Ideal S1664x1024 .bf16) (ix2 r q) = A m c (t.val / 2 * 1664 + r.val) (q.val) := by
  refine entry (n := 8320) (m := 1024) (V_main_arg0 m c) (((cfg0.win 0).blk t).view.emb (ix2 r q)) ?_ ?_ <;> blk_simp [(idx t).1]

theorem blkB (t : Fin cfg0.N) (r : Fin 1024) (q : Fin 1664) : (iblk m c 1 t : Vec Ideal S1024x1664 .bf16) (ix2 r q) = B m c (r.val) (t.val % 2 * 1664 + q.val) := by
  refine entry (n := 1024) (m := 3328) (V_main_arg1 m c) (((cfg0.win 1).blk t).view.emb (ix2 r q)) ?_ ?_ <;> blk_simp [(idx t).2.1]

/-- What a point writes out: a block of the product. -/
theorem written (t : Fin cfg0.N) (r : Fin 1664) (k : Fin 1664) :
    (out0_2 (iblk m c 0 t) (iblk m c 1 t) : Vec Ideal S1664x1664 .f32) (ix2 r k) = dot (A m c) (B m c) 1024 (t.val / 2 * 1664 + r.val) (t.val % 2 * 1664 + k.val) := by
  unfold out0_2
  rw [canon_all, ld_all, ld_all, show (k0_pay1 (iblk m c 0 t) (iblk m c 1 t) : Vec Ideal S1664x1664 .f32) (ix2 r k) = _ from plain_apply (M := 1664) (K := 1024) (N := 1664) _ _ r k, ← dot_fin]
  simp only [blkA, blkB]

/-- The result array after the run: the product. -/
def out : FVec Ideal S8320x3328 .f32 := fun i => dot (A m c) (B m c) 1024 (i 0).val (i 1).val

theorem final : (dats m 0 c).arrAt 2 cfg0.N = out m c := by
  refine (dats m 0 c).arrAt_eq_of_covers 2 _ (by decide +kernel) fun t _ y => ?_
  have e0 : ((((cfg0.win 2).blk t).view.emb y) 0).val = t.val / 2 * 1664 + (y 0).val := by blk_simp [(idx t).2.2]
  have e1 : ((((cfg0.win 2).blk t).view.emb y) 1).val = t.val % 2 * 1664 + (y 1).val := by blk_simp [(idx t).2.2]
  blk_simp
  rw [after0_2]
  exact tile (written m c t) y e0 e1

end Cert.Kernel19Ideal.Mul

namespace Cert.Reference19Ideal.Mul

open Cert.Reference19Ideal.Read

/-- The reference's result: the same product. -/
theorem value (x0 : FVec Ideal S8320x1024 .bf16) (x1 : FVec Ideal S1024x3328 .bf16) :
    val_main_v2 (F := Ideal) x0 x1 = fun i : S8320x3328.Idx => dot (ent (n := 8320) (m := 1024) x0) (ent (n := 1024) (m := 3328) x1) 1024 (i 0).val (i 1).val := by
  funext i
  rw [val_main_v2_apply]
  refine (Finset.sum_congr rfl fun k _ => ?_).trans (dot_of (M := 8320) (K := 1024) (N := 3328) x0 x1 i)
  rw [val_main_v0_apply, val_main_v1_apply]
  exact congrArg₂ (fun x y : EReal => x * y) (congrArg x0 (same rfl rfl)) (congrArg x1 (same rfl rfl))

end Cert.Reference19Ideal.Mul

/-- Over the reals the kernel's result is the reference's. -/
theorem Cert.Mul19.values : Cert.algebraic_Kernel19Ideal_Reference19Ideal (hKernel19Ideal := Cert.Kernel19Ideal.Gen.facts)
    (hReference19Ideal := Cert.Reference19Ideal.Gen.facts) := by
  intro m g m' g' _ hagree
  refine ⟨_, ends (Kernel19Ideal.Value.run_blocks m g) (Kernel19Ideal.Mul.final m), ends (Reference19Ideal.Value.run m' g') fun c =>
    (Reference19Ideal.Read.val_main_v2_eq _ _).trans ((Reference19Ideal.Mul.value _ _).trans ?_)⟩
  rw [(hagree c).1, (hagree c).2]
  rfl

end
-- ==== Proof.Mul20.lean ====
/- The output projection of layer 0: the kernel adds two products, the reference is the product. -/
module

public import proofs.«01_k».proof.Defs
public import proofs.«01_k».proof.Proof.Mul
public import proofs.«01_k».proof.Proof.Gen.Kernel20.Frame
public import proofs.«01_k».proof.Proof.Gen.Kernel20Ideal.Value
public import proofs.«01_k».proof.Proof.Gen.Reference20Ideal.Read

@[expose] public section

set_option maxRecDepth 16384

noncomputable section

open Idealize.ShloMosaic hiding ix2
open Idealize.ShloMosaic.TcCoe Idealize.ShloMosaic.Tactic Idealize.ShloMosaic.ValueIdx Idealize.SL.Sem Cert.Mul

namespace Cert.Kernel20Ideal.Mul

open Cert.Kernel20Ideal.Gen Pipeline

/-- The block each window is on at each point. -/
theorem idx : ∀ t : Fin cfg0.N, win0_0.index t = ![t.val / 2, 0] ∧ win0_1.index t = ![t.val / 2, 0] ∧ win0_2.index t = ![0, t.val % 2] ∧ win0_3.index t = ![t.val / 2, t.val % 2] :=
  (by decide +kernel : ∀ t : Fin grid0.N, _)

variable (m : (ℓ : Loc nD τ sig) → Buf (Elt Ideal) ℓ) (c : Dev nD)

/-- The operands' entries, and their blocks at a point. -/
def A0 : ℕ → ℕ → EReal := ent (n := 8320) (m := 1024) (m ((c.tc : Thread nD τ).loc main_arg0))
def A1 : ℕ → ℕ → EReal := ent (n := 8320) (m := 1024) (m ((c.tc : Thread nD τ).loc main_arg1))
def B : ℕ → ℕ → EReal := ent (n := 2048) (m := 1024) (m ((c.tc : Thread nD τ).loc main_arg2))

theorem blkA0 (t : Fin cfg0.N) (r : Fin 1664) (q : Fin 1024) : (View.ld (iblk m c 0 t : Vec Ideal S1664x1024 .bf16) r0_0 : Vec Ideal S1664x1024 .bf16) (ix2 r q) = A0 m c (t.val / 2 * 1664 + r.val) (q.val) := by
  refine (congrFun (ld_all (n := 1664) (m := 1024) _ _) _).trans <| entry (n := 8320) (m := 1024) (V_main_arg0 m c) (((cfg0.win 0).blk t).view.emb (ix2 r q)) ?_ ?_ <;> blk_simp [(idx t).1]

theorem blkA1 (t : Fin cfg0.N) (r : Fin 1664) (q : Fin 1024) : (View.ld (iblk m c 1 t : Vec Ideal S1664x1024 .bf16) r0_0 : Vec Ideal S1664x1024 .bf16) (ix2 r q) = A1 m c (t.val / 2 * 1664 + r.val) (q.val) := by
  refine (congrFun (ld_all (n := 1664) (m := 1024) _ _) _).trans <| entry (n := 8320) (m := 1024) (V_main_arg1 m c) (((cfg0.win 1).blk t).view.emb (ix2 r q)) ?_ ?_ <;> blk_simp [(idx t).2.1]

theorem blkB (t : Fin cfg0.N) (r : Fin 2048) (q : Fin 512) : (iblk m c 2 t : Vec Ideal S2048x512 .bf16) (ix2 r q) = B m c (r.val) (t.val % 2 * 512 + q.val) := by
  refine entry (n := 2048) (m := 1024) (V_main_arg2 m c) (((cfg0.win 2).blk t).view.emb (ix2 r q)) ?_ ?_ <;> blk_simp [(idx t).2.2.1]

/-- The parts of the second operand's block that the sums read. -/
theorem col0 (t : Fin cfg0.N) (q : Fin 1024) (k : Fin 512) : (View.ld (iblk m c 2 t : Vec Ideal S2048x512 .bf16) r0_1 : Vec Ideal S1024x512 .bf16) (ix2 q k) = B m c (0 + q.val) (t.val % 2 * 512 + k.val) :=
  (ld_rows (n := 2048) (m := 512) _ 0 _ q k (by omega)).trans (blkB m c t ⟨0 + q.val, by omega⟩ k)

theorem col1 (t : Fin cfg0.N) (q : Fin 1024) (k : Fin 512) : (View.ld (iblk m c 2 t : Vec Ideal S2048x512 .bf16) r0_2 : Vec Ideal S1024x512 .bf16) (ix2 q k) = B m c (1024 + q.val) (t.val % 2 * 512 + k.val) :=
  (ld_rows (n := 2048) (m := 512) _ 1024 _ q k (by omega)).trans (blkB m c t ⟨1024 + q.val, by omega⟩ k)

/-- What is stored, at an entry: the sum of the products. -/
theorem pay_apply (x0 : Vec Ideal S1664x1024 .bf16) (y0 : Vec Ideal S1024x512 .bf16) (x1 : Vec Ideal S1664x1024 .bf16) (y1 : Vec Ideal S1024x512 .bf16) (r : Fin 1664) (k : Fin 512) :
    (k0_pay1 x0 y0 x1 y1 : Vec Ideal S1664x512 .f32) (ix2 r k) = ((∑ q : Fin 1024, x0 (ix2 r q) * y0 (ix2 q k)) + (∑ q : Fin 1024, x1 (ix2 r q) * y1 (ix2 q k)) : EReal) := by
  unfold k0_pay1
  exact congrArg₂ (fun x y : EReal => x + y) (plain_apply (M := 1664) (K := 1024) (N := 512) _ _ r k) (plain_apply (M := 1664) (K := 1024) (N := 512) _ _ r k)

/-- What a point writes out: a block of the product. -/
theorem written (t : Fin cfg0.N) (r : Fin 1664) (k : Fin 512) :
    (out0_3 (iblk m c 0 t) (iblk m c 1 t) (iblk m c 2 t) : Vec Ideal S1664x512 .f32) (ix2 r k) = dotT (beside [(1024, A0 m c), (1024, A1 m c)]) (fun i k => B m c k i) 2048 (t.val / 2 * 1664 + r.val) (t.val % 2 * 512 + k.val) := by
  unfold out0_3
  rw [canon_all, pay_apply]
  refine Eq.trans ?_ ((dotT_beside 1024 _ _ _ 1024 _ _).trans (congrArg (_ + ·) (dotT_one _ _ _ _ _))).symm
  simp only [blkA0, blkA1, col0, col1, add_assoc (G := EReal), ← Nat.add_assoc, Nat.reduceAdd, Nat.zero_add, dotT, ← Fin.sum_univ_eq_sum_range]

/-- The result array after the run: the product. -/
def out : FVec Ideal S8320x1024 .f32 := fun i => dotT (beside [(1024, A0 m c), (1024, A1 m c)]) (fun i k => B m c k i) 2048 (i 0).val (i 1).val

theorem final : (dats m 0 c).arrAt 3 cfg0.N = out m c := by
  refine (dats m 0 c).arrAt_eq_of_covers 3 _ (by decide +kernel) fun t _ y => ?_
  have e0 : ((((cfg0.win 3).blk t).view.emb y) 0).val = t.val / 2 * 1664 + (y 0).val := by blk_simp [(idx t).2.2.2]
  have e1 : ((((cfg0.win 3).blk t).view.emb y) 1).val = t.val % 2 * 512 + (y 1).val := by blk_simp [(idx t).2.2.2]
  blk_simp
  rw [after0_3]
  exact tile (written m c t) y e0 e1

end Cert.Kernel20Ideal.Mul

namespace Cert.Reference20Ideal.Mul

open Cert.Reference20Ideal.Read

/-- The arrays side by side, at an entry. -/
theorem together (x0 : FVec Ideal S8320x1024 .bf16) (x1 : FVec Ideal S8320x1024 .bf16) (i : S8320x2048.Idx) : val_main_v0 (F := Ideal) x0 x1 i = beside [(1024, ent (n := 8320) (m := 1024) x0), (1024, ent (n := 8320) (m := 1024) x1)] (i 0).val (i 1).val := by
  unfold val_main_v0
  exact (concatenate_cons_apply _ _ _ _ _ _ _).trans (side (T := 8320) (n := 1024) (N := 2048) _ _ _ _ _ _ _ _ fun _ _ => side_last (T := 8320) (n := 1024) (N := 2048) _ _ _ _ _)

/-- The reference's result: the same product. -/
theorem value (x0 : FVec Ideal S8320x1024 .bf16) (x1 : FVec Ideal S8320x1024 .bf16) (x2 : FVec Ideal S2048x1024 .bf16) : val_main_v3 (F := Ideal) x0 x1 x2 = fun i : S8320x1024.Idx => dotT (beside [(1024, ent (n := 8320) (m := 1024) x0), (1024, ent (n := 8320) (m := 1024) x1)]) (fun i k => ent (n := 2048) (m := 1024) x2 k i) 2048 (i 0).val (i 1).val := by
  funext i
  rw [val_main_v3_apply, ← dotT_fin]
  refine Finset.sum_congr rfl fun k _ => congrArg₂ (fun x y : EReal => x * y) ?_ (ent_at (n := 2048) (m := 1024) x2 _)
  exact together x0 x1 _

end Cert.Reference20Ideal.Mul

/-- Over the reals the kernel's result is the reference's. -/
theorem Cert.Mul20.values : Cert.algebraic_Kernel20Ideal_Reference20Ideal (hKernel20Ideal := Cert.Kernel20Ideal.Gen.facts)
    (hReference20Ideal := Cert.Reference20Ideal.Gen.facts) := by
  intro m g m' g' _ hagree
  refine ⟨_, ends (Kernel20Ideal.Value.run_blocks m g) (Kernel20Ideal.Mul.final m), ends (Reference20Ideal.Value.run m' g') fun c =>
    (Reference20Ideal.Read.val_main_v3_eq _ _ _).trans ((Reference20Ideal.Mul.value _ _ _).trans ?_)⟩
  rw [(hagree c).1, (hagree c).2.1, (hagree c).2.2]
  rfl

end
-- ==== Proof.Adam.lean ====
/- One step of AdamW over the extended reals, entry by entry, and the sum of four parts of a gradient: the words in which
   the optimiser's calls are stated. -/
module

public import proofs.«01_k».proof.Proof.Mul
public import Idealize.ShloMosaic.Lib.Pipeline.Value
public import Idealize.ShloMosaic.PureOps.Ideal.Laws

@[expose] public section

noncomputable section

namespace Cert.Adam

open Idealize.ShloMosaic hiding ix2 ix3
open Idealize.ShloMosaic.ValueIdx Idealize.SL.Sem
open Cert.Mul hiding ends

/-- The new first moment, from the old one and the gradient. -/
def first (m g : Ideal .f32) : Ideal .f32 :=
  FloatOps.addf (FloatOps.mulf (FloatOps.ofBits .f32 0x3F666666#32) m) (FloatOps.mulf (FloatOps.ofBits .f32 0x3DCCCCCD#32) g)

/-- The new second moment. -/
def second (v g : Ideal .f32) : Ideal .f32 :=
  FloatOps.addf (FloatOps.mulf (FloatOps.ofBits .f32 0x3F7FBE77#32) v) (FloatOps.mulf (FloatOps.ofBits .f32 0x3A83126F#32) (FloatOps.mulf g g))

/-- What is added to the weight, from the weight and the new moments. -/
def change (w m v : Ideal .f32) : Ideal .f32 :=
  FloatOps.mulf (FloatOps.ofBits .f32 0xBA83126F#32) (FloatOps.addf
    (FloatOps.divf (FloatOps.divf m (FloatOps.ofBits .f32 0x3F26BD02#32))
      (FloatOps.addf (FloatOps.sqrt (FloatOps.divf v (FloatOps.ofBits .f32 0x3C231ACC#32))) (FloatOps.ofBits .f32 0x322BCC77#32)))
    (FloatOps.mulf (FloatOps.ofBits .f32 0x3C23D70A#32) w))

variable {R C : ℕ}

/-- The sum of the parts, and the four results, as arrays. -/
def grad (p : FVec Ideal ⟨3, ![4, R, C]⟩ .bf16) : FVec Ideal ⟨2, ![R, C]⟩ .f32 := fun i => (∑ j : Fin 4, p (ix3 j (i 0) (i 1)) : EReal)
def firsts (p : FVec Ideal ⟨3, ![4, R, C]⟩ .bf16) (m : FVec Ideal ⟨2, ![R, C]⟩ .f32) : FVec Ideal ⟨2, ![R, C]⟩ .f32 := fun i => first (m i) (grad p i)
def seconds (p : FVec Ideal ⟨3, ![4, R, C]⟩ .bf16) (v : FVec Ideal ⟨2, ![R, C]⟩ .f32) : FVec Ideal ⟨2, ![R, C]⟩ .f32 := fun i => second (v i) (grad p i)
def changes (p : FVec Ideal ⟨3, ![4, R, C]⟩ .bf16) (w m v : FVec Ideal ⟨2, ![R, C]⟩ .f32) : FVec Ideal ⟨2, ![R, C]⟩ .f32 :=
  fun i => change (w i) (firsts p m i) (seconds p v i)

/-- One of the four parts of a block, loaded and read at an entry. -/
theorem slab (x : Vec Ideal ⟨3, ![4, R, C]⟩ .bf16) (j : Fin 4)
    (inb : ∀ a, (![j.val, 0, 0] : Fin 3 → ℕ) a + (⟨3, ![1, R, C]⟩ : Shape).size a ≤ (⟨3, ![4, R, C]⟩ : Shape).size a)
    (h : (⟨3, ![1, R, C]⟩ : Shape).ShapeCasts ⟨2, ![R, C]⟩) (y : (⟨2, ![R, C]⟩ : Shape).Idx) :
    shapeCast ⟨2, ![R, C]⟩ (View.ld x (Rect.unit (s := ⟨3, ![4, R, C]⟩) ![j.val, 0, 0] (⟨3, ![1, R, C]⟩ : Shape).size inb) : Vec Ideal ⟨3, ![1, R, C]⟩ .bf16) h y = x (ix3 j (y 0) (y 1)) := by
  refine (shapeCast_apply _ _ y (ix3 (0 : Fin 1) (y 0) (y 1)) ?_).trans ?_
  · rw [Shape.rowMajor_val_three, Shape.rowMajor_val_two]
    show (0 * R + (y 0).val) * C + (y 1).val = (y 0).val * C + (y 1).val
    rw [Nat.zero_mul, Nat.zero_add]
  · rw [View.ld_unit]
    exact congrArg x (funext fun a => by
      fin_cases a
      · exact Fin.ext (Nat.add_zero _)
      · exact Fin.ext (Nat.zero_add _)
      · exact Fin.ext (Nat.zero_add _))

/-- That part, as a summand. -/
abbrev loaded (x : Vec Ideal ⟨3, ![4, R, C]⟩ .bf16) (j : ℕ) (b : FTy.bits .bf16 < FTy.bits .f32)
    (inb : ∀ a, (![j, 0, 0] : Fin 3 → ℕ) a + (⟨3, ![1, R, C]⟩ : Shape).size a ≤ (⟨3, ![4, R, C]⟩ : Shape).size a)
    (h : (⟨3, ![1, R, C]⟩ : Shape).ShapeCasts ⟨2, ![R, C]⟩) : FVec Ideal ⟨2, ![R, C]⟩ .f32 :=
  extf .f32 (shapeCast ⟨2, ![R, C]⟩ (View.ld x (Rect.unit (s := ⟨3, ![4, R, C]⟩) ![j, 0, 0] (⟨3, ![1, R, C]⟩ : Shape).size inb) : Vec Ideal ⟨3, ![1, R, C]⟩ .bf16) h) b

/-- The parts of a block, added one after the other, are their sum. -/
theorem added (x : Vec Ideal ⟨3, ![4, R, C]⟩ .bf16) (b i0 i1 i2 i3 h) :
    addf (addf (addf (loaded x 0 b i0 h) (loaded x 1 b i1 h)) (loaded x 2 b i2 h)) (loaded x 3 b i3 h) = grad x := by
  funext y
  refine Eq.trans ?_ (Fin.sum_univ_four _).symm
  exact congrArg₂ (fun x y : EReal => x + y) (congrArg₂ (fun x y : EReal => x + y) (congrArg₂ (fun x y : EReal => x + y)
    (slab x 0 i0 h y) (slab x 1 i1 h y)) (slab x 2 i2 h y)) (slab x 3 i3 h y)

/-- The same entries of a block and of the whole give the same entries of the results. -/
theorem carried {T : ℕ} {p : FVec Ideal ⟨3, ![4, R, C]⟩ .bf16} {P : FVec Ideal ⟨3, ![4, T, C]⟩ .bf16} {w m v : FVec Ideal ⟨2, ![R, C]⟩ .f32} {W M V : FVec Ideal ⟨2, ![T, C]⟩ .f32}
    {i : (⟨2, ![R, C]⟩ : Shape).Idx} {y : (⟨2, ![T, C]⟩ : Shape).Idx} (hp : ∀ j, P (ix3 j (y 0) (y 1)) = p (ix3 j (i 0) (i 1)))
    (hw : W y = w i) (hm : M y = m i) (hv : V y = v i) :
    grad P y = grad p i ∧ changes P W M V y = changes p w m v i ∧ firsts P M y = firsts p m i ∧ seconds P V y = seconds p v i := by
  have g : grad P y = grad p i := Finset.sum_congr rfl fun j _ => hp j
  have f : firsts P M y = firsts p m i := congrArg₂ first hm g
  have s : seconds P V y = seconds p v i := congrArg₂ second hv g
  exact ⟨g, (congrArg₂ (change (W y)) f s).trans (congrArg (change · _ _) hw), f, s⟩

/-- A part's entry lies where the results' does. -/
theorem place {k T : ℕ} {j : Fin 4} (z : (⟨3, ![4, R, C]⟩ : Shape).Idx) (i : (⟨2, ![R, C]⟩ : Shape).Idx) (r q : ℕ) (h0 : (z 0).val = j.val) (h1 : (z 1).val = k * T + r)
    (h2 : (z 2).val = q) (e0 : (i 0).val = k * T + r) (e1 : (i 1).val = q) : z = ix3 j (i 0) (i 1) := by
  funext a
  fin_cases a
  · exact Fin.ext h0
  · exact Fin.ext (h1.trans e0.symm)
  · exact Fin.ext (h2.trans e1.symm)

/-- A run that ends with four results ends with what they are. -/
theorem ends {nD : ℕ} {τ : Topo} {sig : RefSig} {Val : EltTy → Type} {Λ : Labels} {defs : Defs nD τ sig Val Λ}
    {p : (c : Thread nD τ) → Prog (TpuEff nD τ sig Val Λ c.2) PUnit} {s : MemSt nD τ sig Val} {X0 X1 X2 X3 : Dev nD → Type} {B : PUnit × MemSt nD τ sig Val → Dev nD → Prop}
    {g0 : PUnit × MemSt nD τ sig Val → (c : Dev nD) → X0 c} {g1 : PUnit × MemSt nD τ sig Val → (c : Dev nD) → X1 c}
    {g2 : PUnit × MemSt nD τ sig Val → (c : Dev nD) → X2 c} {g3 : PUnit × MemSt nD τ sig Val → (c : Dev nD) → X3 c}
    {v0 w0 : (c : Dev nD) → X0 c} {v1 w1 : (c : Dev nD) → X1 c} {v2 w2 : (c : Dev nD) → X2 c} {v3 w3 : (c : Dev nD) → X3 c}
    (h : θ_run defs p s fun r => ∀ c, g0 r c = v0 c ∧ g1 r c = v1 c ∧ g2 r c = v2 c ∧ g3 r c = v3 c ∧ B r c)
    (e : ∀ c, v0 c = w0 c ∧ v1 c = w1 c ∧ v2 c = w2 c ∧ v3 c = w3 c) :
    θ_run defs p s fun r => ∀ c, g0 r c = w0 c ∧ g1 r c = w1 c ∧ g2 r c = w2 c ∧ g3 r c = w3 c ∧ B r c :=
  (θ_run _ _ _).mono (fun r h c => ⟨(h c).1.trans (e c).1, (h c).2.1.trans (e c).2.1, (h c).2.2.1.trans (e c).2.2.1, (h c).2.2.2.1.trans (e c).2.2.2, (h c).2.2.2.2⟩) h

end Cert.Adam

end
-- ==== Proof.Adam21.lean ====
/- AdamW for the input weights of layer 0: the kernel's blocks are those of the sum of the parts and of the step. -/
module

public import proofs.«01_k».proof.Defs
public import proofs.«01_k».proof.Proof.Adam
public import proofs.«01_k».proof.Proof.Gen.Kernel21.Frame
public import proofs.«01_k».proof.Proof.Gen.Kernel21Ideal.Value
public import proofs.«01_k».proof.Proof.Gen.Reference21Ideal.Read

@[expose] public section

set_option maxRecDepth 16384

noncomputable section

open Idealize.ShloMosaic hiding ix2 ix3
open Idealize.ShloMosaic.TcCoe Idealize.ShloMosaic.Tactic Idealize.ShloMosaic.ValueIdx Idealize.SL.Sem
open Cert.Mul hiding ends
open Cert.Adam Cert.Kernel21Ideal.Gen Pipeline

namespace Cert.Kernel21Ideal.Step

/-- What a point writes out, from its blocks. -/
theorem outs (p : Vec Ideal S4x512x416 .bf16) (w m v : Vec Ideal S512x416 .f32) :
    out0_4 p w m v = grad p ∧ out0_5 p w m v = changes p w m v ∧ out0_6 p w m v = firsts p m ∧ out0_7 p w m v = seconds p v := by
  have g : k0_pay2 (F := Ideal) (View.ld p r0_0) (View.ld p r0_1) (View.ld p r0_2) (View.ld p r0_3) = grad p := added p _ _ _ _ _ _
  unfold out0_4 out0_5 out0_6 out0_7 k0_pay5 k0_pay6 k0_pay3 k0_pay4
  rw [canon_all, canon_all, canon_all, canon_all, ld_all, ld_all, ld_all, g]
  exact ⟨rfl, rfl, rfl, rfl⟩

theorem idx : ∀ t : Fin cfg0.N, win0_0.index t = ![0, t.val, 0] ∧ win0_4.index t = ![t.val, 0] :=
  (by decide +kernel : ∀ t : Fin grid0.N, _)

variable (m : (ℓ : Loc nD τ sig) → Buf (Elt Ideal) ℓ) (c : Dev nD)

abbrev p : FVec Ideal S4x1024x416 .bf16 := m ((c.tc : Thread nD τ).loc main_arg0)
abbrev w : FVec Ideal S1024x416 .f32 := m ((c.tc : Thread nD τ).loc main_arg1)
abbrev a : FVec Ideal S1024x416 .f32 := m ((c.tc : Thread nD τ).loc main_arg2)
abbrev b : FVec Ideal S1024x416 .f32 := m ((c.tc : Thread nD τ).loc main_arg3)

/-- The result arrays after the run. -/
theorem final : (dats m 0 c).arrAt 4 cfg0.N = grad (p m c) ∧ (dats m 0 c).arrAt 5 cfg0.N = changes (p m c) (w m c) (a m c) (b m c)
    ∧ (dats m 0 c).arrAt 6 cfg0.N = firsts (p m c) (a m c) ∧ (dats m 0 c).arrAt 7 cfg0.N = seconds (p m c) (b m c) := by
  have s (t : Fin cfg0.N) (y : S512x416.Idx) := carried (p := p m c) (P := iblk m c 0 t) (w := w m c) (W := iblk m c 1 t) (m := a m c) (M := iblk m c 2 t) (v := b m c) (V := iblk m c 3 t)
    (i := ((cfg0.win 4).blk t).view.emb y) (y := y) (fun j => congrArg (p m c) (place (k := t.val) (T := 512) _ _ (y 0).val (y 1).val
      (by blk_simp [(idx t).1]) (by blk_simp [(idx t).1]) (by blk_simp [(idx t).1]) (by blk_simp [(idx t).2]) (by blk_simp [(idx t).2]))) rfl rfl rfl
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩ <;> blk_simp
  · exact (congrFun ((after0_4 m c t).trans (outs _ _ _ _).1) y).trans (s t y).1
  · exact (congrFun ((after0_5 m c t).trans (outs _ _ _ _).2.1) y).trans (s t y).2.1
  · exact (congrFun ((after0_6 m c t).trans (outs _ _ _ _).2.2.1) y).trans (s t y).2.2.1
  · exact (congrFun ((after0_7 m c t).trans (outs _ _ _ _).2.2.2) y).trans (s t y).2.2.2

end Cert.Kernel21Ideal.Step

open Cert.Reference21Ideal Read in
/-- The reference's results. -/
theorem Cert.Adam21.reference {p p' : FVec Ideal S4x1024x416 .bf16} {w w' m m' v v' : FVec Ideal S1024x416 .f32} (e : p' = p ∧ w' = w ∧ m' = m ∧ v' = v) :
    val_main_v1 (F := Ideal) p' = grad p ∧ val_main_v25 (F := Ideal) p' w' m' v' = changes p w m v ∧ val_main_v6 (F := Ideal) p' m' = firsts p m ∧ val_main_v12 (F := Ideal) p' v' = seconds p v := by
  obtain ⟨rfl, rfl, rfl, rfl⟩ := e
  have g : val_main_v1 (F := Ideal) p' = grad p' := funext fun i => by
    rw [val_main_v1_apply]
    exact (congrArg (· + _) bits_zero).trans ((zero_add _).trans (Finset.sum_congr rfl fun j _ => congrArg p' (funext fun a => by fin_cases a <;> rfl)))
  unfold val_main_v25 val_main_v23 val_main_v20 val_main_v19 val_main_v17 val_main_v16 val_main_v14 val_main_v6 val_main_v5 val_main_v12 val_main_v11 val_main_v9
  rw [g]
  exact ⟨rfl, rfl, rfl, rfl⟩

/-- Over the reals the kernel's results are the reference's. -/
theorem Cert.Adam21.values : Cert.algebraic_Kernel21Ideal_Reference21Ideal (hKernel21Ideal := Cert.Kernel21Ideal.Gen.facts)
    (hReference21Ideal := Cert.Reference21Ideal.Gen.facts) := fun m g m' g' _ e =>
  ⟨_, _, _, _, ends (Kernel21Ideal.Value.run_blocks m g) (Kernel21Ideal.Step.final m), ends (Reference21Ideal.Value.run m' g') fun c => reference (e c)⟩

end
-- ==== Proof.Adam22.lean ====
/- AdamW for the output weights of a mixer: the kernel's blocks are those of the sum of the parts and of the step. -/
module

public import proofs.«01_k».proof.Defs
public import proofs.«01_k».proof.Proof.Adam
public import proofs.«01_k».proof.Proof.Gen.Kernel22.Frame
public import proofs.«01_k».proof.Proof.Gen.Kernel22Ideal.Value
public import proofs.«01_k».proof.Proof.Gen.Reference22Ideal.Read

@[expose] public section

set_option maxRecDepth 16384

noncomputable section

open Idealize.ShloMosaic hiding ix2 ix3
open Idealize.ShloMosaic.TcCoe Idealize.ShloMosaic.Tactic Idealize.ShloMosaic.ValueIdx Idealize.SL.Sem
open Cert.Mul hiding ends
open Cert.Adam Cert.Kernel22Ideal.Gen Pipeline

namespace Cert.Kernel22Ideal.Step

/-- What a point writes out, from its blocks. -/
theorem outs (p : Vec Ideal S4x256x1024 .bf16) (w m v : Vec Ideal S256x1024 .f32) :
    out0_4 p w m v = grad p ∧ out0_5 p w m v = changes p w m v ∧ out0_6 p w m v = firsts p m ∧ out0_7 p w m v = seconds p v := by
  have g : k0_pay2 (F := Ideal) (View.ld p r0_0) (View.ld p r0_1) (View.ld p r0_2) (View.ld p r0_3) = grad p := added p _ _ _ _ _ _
  unfold out0_4 out0_5 out0_6 out0_7 k0_pay5 k0_pay6 k0_pay3 k0_pay4
  rw [canon_all, canon_all, canon_all, canon_all, ld_all, ld_all, ld_all, g]
  exact ⟨rfl, rfl, rfl, rfl⟩

theorem idx : ∀ t : Fin cfg0.N, win0_0.index t = ![0, 0, 0] ∧ win0_4.index t = ![0, 0] :=
  (by decide +kernel : ∀ t : Fin grid0.N, _)

variable (m : (ℓ : Loc nD τ sig) → Buf (Elt Ideal) ℓ) (c : Dev nD)

abbrev p : FVec Ideal S4x256x1024 .bf16 := m ((c.tc : Thread nD τ).loc main_arg0)
abbrev w : FVec Ideal S256x1024 .f32 := m ((c.tc : Thread nD τ).loc main_arg1)
abbrev a : FVec Ideal S256x1024 .f32 := m ((c.tc : Thread nD τ).loc main_arg2)
abbrev b : FVec Ideal S256x1024 .f32 := m ((c.tc : Thread nD τ).loc main_arg3)

/-- The result arrays after the run. -/
theorem final : (dats m 0 c).arrAt 4 cfg0.N = grad (p m c) ∧ (dats m 0 c).arrAt 5 cfg0.N = changes (p m c) (w m c) (a m c) (b m c)
    ∧ (dats m 0 c).arrAt 6 cfg0.N = firsts (p m c) (a m c) ∧ (dats m 0 c).arrAt 7 cfg0.N = seconds (p m c) (b m c) := by
  have s (t : Fin cfg0.N) (y : S256x1024.Idx) := carried (p := p m c) (P := iblk m c 0 t) (w := w m c) (W := iblk m c 1 t) (m := a m c) (M := iblk m c 2 t) (v := b m c) (V := iblk m c 3 t)
    (i := ((cfg0.win 4).blk t).view.emb y) (y := y) (fun j => congrArg (p m c) (place (k := 0) (T := 256) _ _ (y 0).val (y 1).val
      (by blk_simp [(idx t).1]) (by blk_simp [(idx t).1]) (by blk_simp [(idx t).1]) (by blk_simp [(idx t).2]) (by blk_simp [(idx t).2]))) rfl rfl rfl
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩ <;> blk_simp
  · exact (congrFun ((after0_4 m c t).trans (outs _ _ _ _).1) y).trans (s t y).1
  · exact (congrFun ((after0_5 m c t).trans (outs _ _ _ _).2.1) y).trans (s t y).2.1
  · exact (congrFun ((after0_6 m c t).trans (outs _ _ _ _).2.2.1) y).trans (s t y).2.2.1
  · exact (congrFun ((after0_7 m c t).trans (outs _ _ _ _).2.2.2) y).trans (s t y).2.2.2

end Cert.Kernel22Ideal.Step

open Cert.Reference22Ideal Read in
/-- The reference's results. -/
theorem Cert.Adam22.reference {p p' : FVec Ideal S4x256x1024 .bf16} {w w' m m' v v' : FVec Ideal S256x1024 .f32} (e : p' = p ∧ w' = w ∧ m' = m ∧ v' = v) :
    val_main_v1 (F := Ideal) p' = grad p ∧ val_main_v25 (F := Ideal) p' w' m' v' = changes p w m v ∧ val_main_v6 (F := Ideal) p' m' = firsts p m ∧ val_main_v12 (F := Ideal) p' v' = seconds p v := by
  obtain ⟨rfl, rfl, rfl, rfl⟩ := e
  have g : val_main_v1 (F := Ideal) p' = grad p' := funext fun i => by
    rw [val_main_v1_apply]
    exact (congrArg (· + _) bits_zero).trans ((zero_add _).trans (Finset.sum_congr rfl fun j _ => congrArg p' (funext fun a => by fin_cases a <;> rfl)))
  unfold val_main_v25 val_main_v23 val_main_v20 val_main_v19 val_main_v17 val_main_v16 val_main_v14 val_main_v6 val_main_v5 val_main_v12 val_main_v11 val_main_v9
  rw [g]
  exact ⟨rfl, rfl, rfl, rfl⟩

/-- Over the reals the kernel's results are the reference's. -/
theorem Cert.Adam22.values : Cert.algebraic_Kernel22Ideal_Reference22Ideal (hKernel22Ideal := Cert.Kernel22Ideal.Gen.facts)
    (hReference22Ideal := Cert.Reference22Ideal.Gen.facts) := fun m g m' g' _ e =>
  ⟨_, _, _, _, ends (Kernel22Ideal.Value.run_blocks m g) (Kernel22Ideal.Step.final m), ends (Reference22Ideal.Value.run m' g') fun c => reference (e c)⟩

end
-- ==== Proof.Adam23.lean ====
/- AdamW for the gate and up weights: the kernel's blocks are those of the sum of the parts and of the step. -/
module

public import proofs.«01_k».proof.Defs
public import proofs.«01_k».proof.Proof.Adam
public import proofs.«01_k».proof.Proof.Gen.Kernel23.Frame
public import proofs.«01_k».proof.Proof.Gen.Kernel23Ideal.Value
public import proofs.«01_k».proof.Proof.Gen.Reference23Ideal.Read

@[expose] public section

set_option maxRecDepth 16384

noncomputable section

open Idealize.ShloMosaic hiding ix2 ix3
open Idealize.ShloMosaic.TcCoe Idealize.ShloMosaic.Tactic Idealize.ShloMosaic.ValueIdx Idealize.SL.Sem
open Cert.Mul hiding ends
open Cert.Adam Cert.Kernel23Ideal.Gen Pipeline

namespace Cert.Kernel23Ideal.Step

/-- What a point writes out, from its blocks. -/
theorem outs (p : Vec Ideal S4x256x704 .bf16) (w m v : Vec Ideal S256x704 .f32) :
    out0_4 p w m v = grad p ∧ out0_5 p w m v = changes p w m v ∧ out0_6 p w m v = firsts p m ∧ out0_7 p w m v = seconds p v := by
  have g : k0_pay2 (F := Ideal) (View.ld p r0_0) (View.ld p r0_1) (View.ld p r0_2) (View.ld p r0_3) = grad p := added p _ _ _ _ _ _
  unfold out0_4 out0_5 out0_6 out0_7 k0_pay5 k0_pay6 k0_pay3 k0_pay4
  rw [canon_all, canon_all, canon_all, canon_all, ld_all, ld_all, ld_all, g]
  exact ⟨rfl, rfl, rfl, rfl⟩

theorem idx : ∀ t : Fin cfg0.N, win0_0.index t = ![0, t.val, 0] ∧ win0_4.index t = ![t.val, 0] :=
  (by decide +kernel : ∀ t : Fin grid0.N, _)

variable (m : (ℓ : Loc nD τ sig) → Buf (Elt Ideal) ℓ) (c : Dev nD)

abbrev p : FVec Ideal S4x1024x704 .bf16 := m ((c.tc : Thread nD τ).loc main_arg0)
abbrev w : FVec Ideal S1024x704 .f32 := m ((c.tc : Thread nD τ).loc main_arg1)
abbrev a : FVec Ideal S1024x704 .f32 := m ((c.tc : Thread nD τ).loc main_arg2)
abbrev b : FVec Ideal S1024x704 .f32 := m ((c.tc : Thread nD τ).loc main_arg3)

/-- The result arrays after the run. -/
theorem final : (dats m 0 c).arrAt 4 cfg0.N = grad (p m c) ∧ (dats m 0 c).arrAt 5 cfg0.N = changes (p m c) (w m c) (a m c) (b m c)
    ∧ (dats m 0 c).arrAt 6 cfg0.N = firsts (p m c) (a m c) ∧ (dats m 0 c).arrAt 7 cfg0.N = seconds (p m c) (b m c) := by
  have s (t : Fin cfg0.N) (y : S256x704.Idx) := carried (p := p m c) (P := iblk m c 0 t) (w := w m c) (W := iblk m c 1 t) (m := a m c) (M := iblk m c 2 t) (v := b m c) (V := iblk m c 3 t)
    (i := ((cfg0.win 4).blk t).view.emb y) (y := y) (fun j => congrArg (p m c) (place (k := t.val) (T := 256) _ _ (y 0).val (y 1).val
      (by blk_simp [(idx t).1]) (by blk_simp [(idx t).1]) (by blk_simp [(idx t).1]) (by blk_simp [(idx t).2]) (by blk_simp [(idx t).2]))) rfl rfl rfl
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩ <;> blk_simp
  · exact (congrFun ((after0_4 m c t).trans (outs _ _ _ _).1) y).trans (s t y).1
  · exact (congrFun ((after0_5 m c t).trans (outs _ _ _ _).2.1) y).trans (s t y).2.1
  · exact (congrFun ((after0_6 m c t).trans (outs _ _ _ _).2.2.1) y).trans (s t y).2.2.1
  · exact (congrFun ((after0_7 m c t).trans (outs _ _ _ _).2.2.2) y).trans (s t y).2.2.2

end Cert.Kernel23Ideal.Step

open Cert.Reference23Ideal Read in
/-- The reference's results. -/
theorem Cert.Adam23.reference {p p' : FVec Ideal S4x1024x704 .bf16} {w w' m m' v v' : FVec Ideal S1024x704 .f32} (e : p' = p ∧ w' = w ∧ m' = m ∧ v' = v) :
    val_main_v1 (F := Ideal) p' = grad p ∧ val_main_v25 (F := Ideal) p' w' m' v' = changes p w m v ∧ val_main_v6 (F := Ideal) p' m' = firsts p m ∧ val_main_v12 (F := Ideal) p' v' = seconds p v := by
  obtain ⟨rfl, rfl, rfl, rfl⟩ := e
  have g : val_main_v1 (F := Ideal) p' = grad p' := funext fun i => by
    rw [val_main_v1_apply]
    exact (congrArg (· + _) bits_zero).trans ((zero_add _).trans (Finset.sum_congr rfl fun j _ => congrArg p' (funext fun a => by fin_cases a <;> rfl)))
  unfold val_main_v25 val_main_v23 val_main_v20 val_main_v19 val_main_v17 val_main_v16 val_main_v14 val_main_v6 val_main_v5 val_main_v12 val_main_v11 val_main_v9
  rw [g]
  exact ⟨rfl, rfl, rfl, rfl⟩

/-- Over the reals the kernel's results are the reference's. -/
theorem Cert.Adam23.values : Cert.algebraic_Kernel23Ideal_Reference23Ideal (hKernel23Ideal := Cert.Kernel23Ideal.Gen.facts)
    (hReference23Ideal := Cert.Reference23Ideal.Gen.facts) := fun m g m' g' _ e =>
  ⟨_, _, _, _, ends (Kernel23Ideal.Value.run_blocks m g) (Kernel23Ideal.Step.final m), ends (Reference23Ideal.Value.run m' g') fun c => reference (e c)⟩

end
-- ==== Proof.Adam24.lean ====
/- AdamW for the down weights: the kernel's blocks are those of the sum of the parts and of the step. -/
module

public import proofs.«01_k».proof.Defs
public import proofs.«01_k».proof.Proof.Adam
public import proofs.«01_k».proof.Proof.Gen.Kernel24.Frame
public import proofs.«01_k».proof.Proof.Gen.Kernel24Ideal.Value
public import proofs.«01_k».proof.Proof.Gen.Reference24Ideal.Read

@[expose] public section

set_option maxRecDepth 16384

noncomputable section

open Idealize.ShloMosaic hiding ix2 ix3
open Idealize.ShloMosaic.TcCoe Idealize.ShloMosaic.Tactic Idealize.ShloMosaic.ValueIdx Idealize.SL.Sem
open Cert.Mul hiding ends
open Cert.Adam Cert.Kernel24Ideal.Gen Pipeline

namespace Cert.Kernel24Ideal.Step

/-- What a point writes out, from its blocks. -/
theorem outs (p : Vec Ideal S4x176x1024 .bf16) (w m v : Vec Ideal S176x1024 .f32) :
    out0_4 p w m v = grad p ∧ out0_5 p w m v = changes p w m v ∧ out0_6 p w m v = firsts p m ∧ out0_7 p w m v = seconds p v := by
  have g : k0_pay2 (F := Ideal) (View.ld p r0_0) (View.ld p r0_1) (View.ld p r0_2) (View.ld p r0_3) = grad p := added p _ _ _ _ _ _
  unfold out0_4 out0_5 out0_6 out0_7 k0_pay5 k0_pay6 k0_pay3 k0_pay4
  rw [canon_all, canon_all, canon_all, canon_all, ld_all, ld_all, ld_all, g]
  exact ⟨rfl, rfl, rfl, rfl⟩

theorem idx : ∀ t : Fin cfg0.N, win0_0.index t = ![0, t.val, 0] ∧ win0_4.index t = ![t.val, 0] :=
  (by decide +kernel : ∀ t : Fin grid0.N, _)

variable (m : (ℓ : Loc nD τ sig) → Buf (Elt Ideal) ℓ) (c : Dev nD)

abbrev p : FVec Ideal S4x352x1024 .bf16 := m ((c.tc : Thread nD τ).loc main_arg0)
abbrev w : FVec Ideal S352x1024 .f32 := m ((c.tc : Thread nD τ).loc main_arg1)
abbrev a : FVec Ideal S352x1024 .f32 := m ((c.tc : Thread nD τ).loc main_arg2)
abbrev b : FVec Ideal S352x1024 .f32 := m ((c.tc : Thread nD τ).loc main_arg3)

/-- The result arrays after the run. -/
theorem final : (dats m 0 c).arrAt 4 cfg0.N = grad (p m c) ∧ (dats m 0 c).arrAt 5 cfg0.N = changes (p m c) (w m c) (a m c) (b m c)
    ∧ (dats m 0 c).arrAt 6 cfg0.N = firsts (p m c) (a m c) ∧ (dats m 0 c).arrAt 7 cfg0.N = seconds (p m c) (b m c) := by
  have s (t : Fin cfg0.N) (y : S176x1024.Idx) := carried (p := p m c) (P := iblk m c 0 t) (w := w m c) (W := iblk m c 1 t) (m := a m c) (M := iblk m c 2 t) (v := b m c) (V := iblk m c 3 t)
    (i := ((cfg0.win 4).blk t).view.emb y) (y := y) (fun j => congrArg (p m c) (place (k := t.val) (T := 176) _ _ (y 0).val (y 1).val
      (by blk_simp [(idx t).1]) (by blk_simp [(idx t).1]) (by blk_simp [(idx t).1]) (by blk_simp [(idx t).2]) (by blk_simp [(idx t).2]))) rfl rfl rfl
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩ <;> blk_simp
  · exact (congrFun ((after0_4 m c t).trans (outs _ _ _ _).1) y).trans (s t y).1
  · exact (congrFun ((after0_5 m c t).trans (outs _ _ _ _).2.1) y).trans (s t y).2.1
  · exact (congrFun ((after0_6 m c t).trans (outs _ _ _ _).2.2.1) y).trans (s t y).2.2.1
  · exact (congrFun ((after0_7 m c t).trans (outs _ _ _ _).2.2.2) y).trans (s t y).2.2.2

end Cert.Kernel24Ideal.Step

open Cert.Reference24Ideal Read in
/-- The reference's results. -/
theorem Cert.Adam24.reference {p p' : FVec Ideal S4x352x1024 .bf16} {w w' m m' v v' : FVec Ideal S352x1024 .f32} (e : p' = p ∧ w' = w ∧ m' = m ∧ v' = v) :
    val_main_v1 (F := Ideal) p' = grad p ∧ val_main_v25 (F := Ideal) p' w' m' v' = changes p w m v ∧ val_main_v6 (F := Ideal) p' m' = firsts p m ∧ val_main_v12 (F := Ideal) p' v' = seconds p v := by
  obtain ⟨rfl, rfl, rfl, rfl⟩ := e
  have g : val_main_v1 (F := Ideal) p' = grad p' := funext fun i => by
    rw [val_main_v1_apply]
    exact (congrArg (· + _) bits_zero).trans ((zero_add _).trans (Finset.sum_congr rfl fun j _ => congrArg p' (funext fun a => by fin_cases a <;> rfl)))
  unfold val_main_v25 val_main_v23 val_main_v20 val_main_v19 val_main_v17 val_main_v16 val_main_v14 val_main_v6 val_main_v5 val_main_v12 val_main_v11 val_main_v9
  rw [g]
  exact ⟨rfl, rfl, rfl, rfl⟩

/-- Over the reals the kernel's results are the reference's. -/
theorem Cert.Adam24.values : Cert.algebraic_Kernel24Ideal_Reference24Ideal (hKernel24Ideal := Cert.Kernel24Ideal.Gen.facts)
    (hReference24Ideal := Cert.Reference24Ideal.Gen.facts) := fun m g m' g' _ e =>
  ⟨_, _, _, _, ends (Kernel24Ideal.Value.run_blocks m g) (Kernel24Ideal.Step.final m), ends (Reference24Ideal.Value.run m' g') fun c => reference (e c)⟩

end
-- ==== Proof.Adam25.lean ====
/- AdamW for the input weights of layer 1: the kernel's blocks are those of the sum of the parts and of the step. -/
module

public import proofs.«01_k».proof.Defs
public import proofs.«01_k».proof.Proof.Adam
public import proofs.«01_k».proof.Proof.Gen.Kernel25.Frame
public import proofs.«01_k».proof.Proof.Gen.Kernel25Ideal.Value
public import proofs.«01_k».proof.Proof.Gen.Reference25Ideal.Read

@[expose] public section

set_option maxRecDepth 16384

noncomputable section

open Idealize.ShloMosaic hiding ix2 ix3
open Idealize.ShloMosaic.TcCoe Idealize.ShloMosaic.Tactic Idealize.ShloMosaic.ValueIdx Idealize.SL.Sem
open Cert.Mul hiding ends
open Cert.Adam Cert.Kernel25Ideal.Gen Pipeline

namespace Cert.Kernel25Ideal.Step

/-- What a point writes out, from its blocks. -/
theorem outs (p : Vec Ideal S4x256x772 .bf16) (w m v : Vec Ideal S256x772 .f32) :
    out0_4 p w m v = grad p ∧ out0_5 p w m v = changes p w m v ∧ out0_6 p w m v = firsts p m ∧ out0_7 p w m v = seconds p v := by
  have g : k0_pay2 (F := Ideal) (View.ld p r0_0) (View.ld p r0_1) (View.ld p r0_2) (View.ld p r0_3) = grad p := added p _ _ _ _ _ _
  unfold out0_4 out0_5 out0_6 out0_7 k0_pay5 k0_pay6 k0_pay3 k0_pay4
  rw [canon_all, canon_all, canon_all, canon_all, ld_all, ld_all, ld_all, g]
  exact ⟨rfl, rfl, rfl, rfl⟩

theorem idx : ∀ t : Fin cfg0.N, win0_0.index t = ![0, t.val, 0] ∧ win0_4.index t = ![t.val, 0] :=
  (by decide +kernel : ∀ t : Fin grid0.N, _)

variable (m : (ℓ : Loc nD τ sig) → Buf (Elt Ideal) ℓ) (c : Dev nD)

abbrev p : FVec Ideal S4x1024x772 .bf16 := m ((c.tc : Thread nD τ).loc main_arg0)
abbrev w : FVec Ideal S1024x772 .f32 := m ((c.tc : Thread nD τ).loc main_arg1)
abbrev a : FVec Ideal S1024x772 .f32 := m ((c.tc : Thread nD τ).loc main_arg2)
abbrev b : FVec Ideal S1024x772 .f32 := m ((c.tc : Thread nD τ).loc main_arg3)

/-- The result arrays after the run. -/
theorem final : (dats m 0 c).arrAt 4 cfg0.N = grad (p m c) ∧ (dats m 0 c).arrAt 5 cfg0.N = changes (p m c) (w m c) (a m c) (b m c)
    ∧ (dats m 0 c).arrAt 6 cfg0.N = firsts (p m c) (a m c) ∧ (dats m 0 c).arrAt 7 cfg0.N = seconds (p m c) (b m c) := by
  have s (t : Fin cfg0.N) (y : S256x772.Idx) := carried (p := p m c) (P := iblk m c 0 t) (w := w m c) (W := iblk m c 1 t) (m := a m c) (M := iblk m c 2 t) (v := b m c) (V := iblk m c 3 t)
    (i := ((cfg0.win 4).blk t).view.emb y) (y := y) (fun j => congrArg (p m c) (place (k := t.val) (T := 256) _ _ (y 0).val (y 1).val
      (by blk_simp [(idx t).1]) (by blk_simp [(idx t).1]) (by blk_simp [(idx t).1]) (by blk_simp [(idx t).2]) (by blk_simp [(idx t).2]))) rfl rfl rfl
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩ <;> blk_simp
  · exact (congrFun ((after0_4 m c t).trans (outs _ _ _ _).1) y).trans (s t y).1
  · exact (congrFun ((after0_5 m c t).trans (outs _ _ _ _).2.1) y).trans (s t y).2.1
  · exact (congrFun ((after0_6 m c t).trans (outs _ _ _ _).2.2.1) y).trans (s t y).2.2.1
  · exact (congrFun ((after0_7 m c t).trans (outs _ _ _ _).2.2.2) y).trans (s t y).2.2.2

end Cert.Kernel25Ideal.Step

open Cert.Reference25Ideal Read in
/-- The reference's results. -/
theorem Cert.Adam25.reference {p p' : FVec Ideal S4x1024x772 .bf16} {w w' m m' v v' : FVec Ideal S1024x772 .f32} (e : p' = p ∧ w' = w ∧ m' = m ∧ v' = v) :
    val_main_v1 (F := Ideal) p' = grad p ∧ val_main_v25 (F := Ideal) p' w' m' v' = changes p w m v ∧ val_main_v6 (F := Ideal) p' m' = firsts p m ∧ val_main_v12 (F := Ideal) p' v' = seconds p v := by
  obtain ⟨rfl, rfl, rfl, rfl⟩ := e
  have g : val_main_v1 (F := Ideal) p' = grad p' := funext fun i => by
    rw [val_main_v1_apply]
    exact (congrArg (· + _) bits_zero).trans ((zero_add _).trans (Finset.sum_congr rfl fun j _ => congrArg p' (funext fun a => by fin_cases a <;> rfl)))
  unfold val_main_v25 val_main_v23 val_main_v20 val_main_v19 val_main_v17 val_main_v16 val_main_v14 val_main_v6 val_main_v5 val_main_v12 val_main_v11 val_main_v9
  rw [g]
  exact ⟨rfl, rfl, rfl, rfl⟩

/-- Over the reals the kernel's results are the reference's. -/
theorem Cert.Adam25.values : Cert.algebraic_Kernel25Ideal_Reference25Ideal (hKernel25Ideal := Cert.Kernel25Ideal.Gen.facts)
    (hReference25Ideal := Cert.Reference25Ideal.Gen.facts) := fun m g m' g' _ e =>
  ⟨_, _, _, _, ends (Kernel25Ideal.Value.run_blocks m g) (Kernel25Ideal.Step.final m), ends (Reference25Ideal.Value.run m' g') fun c => reference (e c)⟩

end
-- ==== Proof.Adam26.lean ====
/- AdamW for the meta tokens: the kernel's blocks are those of the sum of the parts and of the step. -/
module

public import proofs.«01_k».proof.Defs
public import proofs.«01_k».proof.Proof.Adam
public import proofs.«01_k».proof.Proof.Gen.Kernel26.Frame
public import proofs.«01_k».proof.Proof.Gen.Kernel26Ideal.Value
public import proofs.«01_k».proof.Proof.Gen.Reference26Ideal.Read

@[expose] public section

set_option maxRecDepth 16384

noncomputable section

open Idealize.ShloMosaic hiding ix2 ix3
open Idealize.ShloMosaic.TcCoe Idealize.ShloMosaic.Tactic Idealize.ShloMosaic.ValueIdx Idealize.SL.Sem
open Cert.Mul hiding ends
open Cert.Adam Cert.Kernel26Ideal.Gen Pipeline

namespace Cert.Kernel26Ideal.Step

/-- What a point writes out, from its blocks. -/
theorem outs (p : Vec Ideal S4x16x128 .bf16) (w m v : Vec Ideal S16x128 .f32) :
    out0_4 p w m v = grad p ∧ out0_5 p w m v = changes p w m v ∧ out0_6 p w m v = firsts p m ∧ out0_7 p w m v = seconds p v := by
  have g : k0_pay2 (F := Ideal) (View.ld p r0_0) (View.ld p r0_1) (View.ld p r0_2) (View.ld p r0_3) = grad p := added p _ _ _ _ _ _
  unfold out0_4 out0_5 out0_6 out0_7 k0_pay5 k0_pay6 k0_pay3 k0_pay4
  rw [canon_all, canon_all, canon_all, canon_all, ld_all, ld_all, ld_all, g]
  exact ⟨rfl, rfl, rfl, rfl⟩

theorem idx : ∀ t : Fin cfg0.N, win0_0.index t = ![0, 0, 0] ∧ win0_4.index t = ![0, 0] :=
  (by decide +kernel : ∀ t : Fin grid0.N, _)

variable (m : (ℓ : Loc nD τ sig) → Buf (Elt Ideal) ℓ) (c : Dev nD)

abbrev p : FVec Ideal S4x16x128 .bf16 := m ((c.tc : Thread nD τ).loc main_arg0)
abbrev w : FVec Ideal S16x128 .f32 := m ((c.tc : Thread nD τ).loc main_arg1)
abbrev a : FVec Ideal S16x128 .f32 := m ((c.tc : Thread nD τ).loc main_arg2)
abbrev b : FVec Ideal S16x128 .f32 := m ((c.tc : Thread nD τ).loc main_arg3)

/-- The result arrays after the run. -/
theorem final : (dats m 0 c).arrAt 4 cfg0.N = grad (p m c) ∧ (dats m 0 c).arrAt 5 cfg0.N = changes (p m c) (w m c) (a m c) (b m c)
    ∧ (dats m 0 c).arrAt 6 cfg0.N = firsts (p m c) (a m c) ∧ (dats m 0 c).arrAt 7 cfg0.N = seconds (p m c) (b m c) := by
  have s (t : Fin cfg0.N) (y : S16x128.Idx) := carried (p := p m c) (P := iblk m c 0 t) (w := w m c) (W := iblk m c 1 t) (m := a m c) (M := iblk m c 2 t) (v := b m c) (V := iblk m c 3 t)
    (i := ((cfg0.win 4).blk t).view.emb y) (y := y) (fun j => congrArg (p m c) (place (k := 0) (T := 16) _ _ (y 0).val (y 1).val
      (by blk_simp [(idx t).1]) (by blk_simp [(idx t).1]) (by blk_simp [(idx t).1]) (by blk_simp [(idx t).2]) (by blk_simp [(idx t).2]))) rfl rfl rfl
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩ <;> blk_simp
  · exact (congrFun ((after0_4 m c t).trans (outs _ _ _ _).1) y).trans (s t y).1
  · exact (congrFun ((after0_5 m c t).trans (outs _ _ _ _).2.1) y).trans (s t y).2.1
  · exact (congrFun ((after0_6 m c t).trans (outs _ _ _ _).2.2.1) y).trans (s t y).2.2.1
  · exact (congrFun ((after0_7 m c t).trans (outs _ _ _ _).2.2.2) y).trans (s t y).2.2.2

end Cert.Kernel26Ideal.Step

open Cert.Reference26Ideal Read in
/-- The reference's results. -/
theorem Cert.Adam26.reference {p p' : FVec Ideal S4x16x128 .bf16} {w w' m m' v v' : FVec Ideal S16x128 .f32} (e : p' = p ∧ w' = w ∧ m' = m ∧ v' = v) :
    val_main_v1 (F := Ideal) p' = grad p ∧ val_main_v25 (F := Ideal) p' w' m' v' = changes p w m v ∧ val_main_v6 (F := Ideal) p' m' = firsts p m ∧ val_main_v12 (F := Ideal) p' v' = seconds p v := by
  obtain ⟨rfl, rfl, rfl, rfl⟩ := e
  have g : val_main_v1 (F := Ideal) p' = grad p' := funext fun i => by
    rw [val_main_v1_apply]
    exact (congrArg (· + _) bits_zero).trans ((zero_add _).trans (Finset.sum_congr rfl fun j _ => congrArg p' (funext fun a => by fin_cases a <;> rfl)))
  unfold val_main_v25 val_main_v23 val_main_v20 val_main_v19 val_main_v17 val_main_v16 val_main_v14 val_main_v6 val_main_v5 val_main_v12 val_main_v11 val_main_v9
  rw [g]
  exact ⟨rfl, rfl, rfl, rfl⟩

/-- Over the reals the kernel's results are the reference's. -/
theorem Cert.Adam26.values : Cert.algebraic_Kernel26Ideal_Reference26Ideal (hKernel26Ideal := Cert.Kernel26Ideal.Gen.facts)
    (hReference26Ideal := Cert.Reference26Ideal.Gen.facts) := fun m g m' g' _ e =>
  ⟨_, _, _, _, ends (Kernel26Ideal.Value.run_blocks m g) (Kernel26Ideal.Step.final m), ends (Reference26Ideal.Value.run m' g') fun c => reference (e c)⟩

end
-- ==== Proof.Adam27.lean ====
/- AdamW for the convolution weights of the RG-LRU: the kernel's blocks are those of the sum of the parts and of the step. -/
module

public import proofs.«01_k».proof.Defs
public import proofs.«01_k».proof.Proof.Adam
public import proofs.«01_k».proof.Proof.Gen.Kernel27.Frame
public import proofs.«01_k».proof.Proof.Gen.Kernel27Ideal.Value
public import proofs.«01_k».proof.Proof.Gen.Reference27Ideal.Read

@[expose] public section

set_option maxRecDepth 16384

noncomputable section

open Idealize.ShloMosaic hiding ix2 ix3
open Idealize.ShloMosaic.TcCoe Idealize.ShloMosaic.Tactic Idealize.ShloMosaic.ValueIdx Idealize.SL.Sem
open Cert.Mul hiding ends
open Cert.Adam Cert.Kernel27Ideal.Gen Pipeline

namespace Cert.Kernel27Ideal.Step

/-- What a point writes out, from its blocks. -/
theorem outs (p : Vec Ideal S4x4x128 .bf16) (w m v : Vec Ideal S4x128 .f32) :
    out0_4 p w m v = grad p ∧ out0_5 p w m v = changes p w m v ∧ out0_6 p w m v = firsts p m ∧ out0_7 p w m v = seconds p v := by
  have g : k0_pay2 (F := Ideal) (View.ld p r0_0) (View.ld p r0_1) (View.ld p r0_2) (View.ld p r0_3) = grad p := added p _ _ _ _ _ _
  unfold out0_4 out0_5 out0_6 out0_7 k0_pay5 k0_pay6 k0_pay3 k0_pay4
  rw [canon_all, canon_all, canon_all, canon_all, ld_all, ld_all, ld_all, g]
  exact ⟨rfl, rfl, rfl, rfl⟩

theorem idx : ∀ t : Fin cfg0.N, win0_0.index t = ![0, 0, 0] ∧ win0_4.index t = ![0, 0] :=
  (by decide +kernel : ∀ t : Fin grid0.N, _)

variable (m : (ℓ : Loc nD τ sig) → Buf (Elt Ideal) ℓ) (c : Dev nD)

abbrev p : FVec Ideal S4x4x128 .bf16 := m ((c.tc : Thread nD τ).loc main_arg0)
abbrev w : FVec Ideal S4x128 .f32 := m ((c.tc : Thread nD τ).loc main_arg1)
abbrev a : FVec Ideal S4x128 .f32 := m ((c.tc : Thread nD τ).loc main_arg2)
abbrev b : FVec Ideal S4x128 .f32 := m ((c.tc : Thread nD τ).loc main_arg3)

/-- The result arrays after the run. -/
theorem final : (dats m 0 c).arrAt 4 cfg0.N = grad (p m c) ∧ (dats m 0 c).arrAt 5 cfg0.N = changes (p m c) (w m c) (a m c) (b m c)
    ∧ (dats m 0 c).arrAt 6 cfg0.N = firsts (p m c) (a m c) ∧ (dats m 0 c).arrAt 7 cfg0.N = seconds (p m c) (b m c) := by
  have s (t : Fin cfg0.N) (y : S4x128.Idx) := carried (p := p m c) (P := iblk m c 0 t) (w := w m c) (W := iblk m c 1 t) (m := a m c) (M := iblk m c 2 t) (v := b m c) (V := iblk m c 3 t)
    (i := ((cfg0.win 4).blk t).view.emb y) (y := y) (fun j => congrArg (p m c) (place (k := 0) (T := 4) _ _ (y 0).val (y 1).val
      (by blk_simp [(idx t).1]) (by blk_simp [(idx t).1]) (by blk_simp [(idx t).1]) (by blk_simp [(idx t).2]) (by blk_simp [(idx t).2]))) rfl rfl rfl
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩ <;> blk_simp
  · exact (congrFun ((after0_4 m c t).trans (outs _ _ _ _).1) y).trans (s t y).1
  · exact (congrFun ((after0_5 m c t).trans (outs _ _ _ _).2.1) y).trans (s t y).2.1
  · exact (congrFun ((after0_6 m c t).trans (outs _ _ _ _).2.2.1) y).trans (s t y).2.2.1
  · exact (congrFun ((after0_7 m c t).trans (outs _ _ _ _).2.2.2) y).trans (s t y).2.2.2

end Cert.Kernel27Ideal.Step

open Cert.Reference27Ideal Read in
/-- The reference's results. -/
theorem Cert.Adam27.reference {p p' : FVec Ideal S4x4x128 .bf16} {w w' m m' v v' : FVec Ideal S4x128 .f32} (e : p' = p ∧ w' = w ∧ m' = m ∧ v' = v) :
    val_main_v1 (F := Ideal) p' = grad p ∧ val_main_v25 (F := Ideal) p' w' m' v' = changes p w m v ∧ val_main_v6 (F := Ideal) p' m' = firsts p m ∧ val_main_v12 (F := Ideal) p' v' = seconds p v := by
  obtain ⟨rfl, rfl, rfl, rfl⟩ := e
  have g : val_main_v1 (F := Ideal) p' = grad p' := funext fun i => by
    rw [val_main_v1_apply]
    exact (congrArg (· + _) bits_zero).trans ((zero_add _).trans (Finset.sum_congr rfl fun j _ => congrArg p' (funext fun a => by fin_cases a <;> rfl)))
  unfold val_main_v25 val_main_v23 val_main_v20 val_main_v19 val_main_v17 val_main_v16 val_main_v14 val_main_v6 val_main_v5 val_main_v12 val_main_v11 val_main_v9
  rw [g]
  exact ⟨rfl, rfl, rfl, rfl⟩

/-- Over the reals the kernel's results are the reference's. -/
theorem Cert.Adam27.values : Cert.algebraic_Kernel27Ideal_Reference27Ideal (hKernel27Ideal := Cert.Kernel27Ideal.Gen.facts)
    (hReference27Ideal := Cert.Reference27Ideal.Gen.facts) := fun m g m' g' _ e =>
  ⟨_, _, _, _, ends (Kernel27Ideal.Value.run_blocks m g) (Kernel27Ideal.Step.final m), ends (Reference27Ideal.Value.run m' g') fun c => reference (e c)⟩

end
-- ==== Proof.Adam28.lean ====
/- AdamW for the convolution weights of a feed-forward layer: the kernel's blocks are those of the sum of the parts and of the step. -/
module

public import proofs.«01_k».proof.Defs
public import proofs.«01_k».proof.Proof.Adam
public import proofs.«01_k».proof.Proof.Gen.Kernel28.Frame
public import proofs.«01_k».proof.Proof.Gen.Kernel28Ideal.Value
public import proofs.«01_k».proof.Proof.Gen.Reference28Ideal.Read

@[expose] public section

set_option maxRecDepth 16384

noncomputable section

open Idealize.ShloMosaic hiding ix2 ix3
open Idealize.ShloMosaic.TcCoe Idealize.ShloMosaic.Tactic Idealize.ShloMosaic.ValueIdx Idealize.SL.Sem
open Cert.Mul hiding ends
open Cert.Adam Cert.Kernel28Ideal.Gen Pipeline

namespace Cert.Kernel28Ideal.Step

/-- What a point writes out, from its blocks. -/
theorem outs (p : Vec Ideal S4x3x704 .bf16) (w m v : Vec Ideal S3x704 .f32) :
    out0_4 p w m v = grad p ∧ out0_5 p w m v = changes p w m v ∧ out0_6 p w m v = firsts p m ∧ out0_7 p w m v = seconds p v := by
  have g : k0_pay2 (F := Ideal) (View.ld p r0_0) (View.ld p r0_1) (View.ld p r0_2) (View.ld p r0_3) = grad p := added p _ _ _ _ _ _
  unfold out0_4 out0_5 out0_6 out0_7 k0_pay5 k0_pay6 k0_pay3 k0_pay4
  rw [canon_all, canon_all, canon_all, canon_all, ld_all, ld_all, ld_all, g]
  exact ⟨rfl, rfl, rfl, rfl⟩

theorem idx : ∀ t : Fin cfg0.N, win0_0.index t = ![0, 0, 0] ∧ win0_4.index t = ![0, 0] :=
  (by decide +kernel : ∀ t : Fin grid0.N, _)

variable (m : (ℓ : Loc nD τ sig) → Buf (Elt Ideal) ℓ) (c : Dev nD)

abbrev p : FVec Ideal S4x3x704 .bf16 := m ((c.tc : Thread nD τ).loc main_arg0)
abbrev w : FVec Ideal S3x704 .f32 := m ((c.tc : Thread nD τ).loc main_arg1)
abbrev a : FVec Ideal S3x704 .f32 := m ((c.tc : Thread nD τ).loc main_arg2)
abbrev b : FVec Ideal S3x704 .f32 := m ((c.tc : Thread nD τ).loc main_arg3)

/-- The result arrays after the run. -/
theorem final : (dats m 0 c).arrAt 4 cfg0.N = grad (p m c) ∧ (dats m 0 c).arrAt 5 cfg0.N = changes (p m c) (w m c) (a m c) (b m c)
    ∧ (dats m 0 c).arrAt 6 cfg0.N = firsts (p m c) (a m c) ∧ (dats m 0 c).arrAt 7 cfg0.N = seconds (p m c) (b m c) := by
  have s (t : Fin cfg0.N) (y : S3x704.Idx) := carried (p := p m c) (P := iblk m c 0 t) (w := w m c) (W := iblk m c 1 t) (m := a m c) (M := iblk m c 2 t) (v := b m c) (V := iblk m c 3 t)
    (i := ((cfg0.win 4).blk t).view.emb y) (y := y) (fun j => congrArg (p m c) (place (k := 0) (T := 3) _ _ (y 0).val (y 1).val
      (by blk_simp [(idx t).1]) (by blk_simp [(idx t).1]) (by blk_simp [(idx t).1]) (by blk_simp [(idx t).2]) (by blk_simp [(idx t).2]))) rfl rfl rfl
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩ <;> blk_simp
  · exact (congrFun ((after0_4 m c t).trans (outs _ _ _ _).1) y).trans (s t y).1
  · exact (congrFun ((after0_5 m c t).trans (outs _ _ _ _).2.1) y).trans (s t y).2.1
  · exact (congrFun ((after0_6 m c t).trans (outs _ _ _ _).2.2.1) y).trans (s t y).2.2.1
  · exact (congrFun ((after0_7 m c t).trans (outs _ _ _ _).2.2.2) y).trans (s t y).2.2.2

end Cert.Kernel28Ideal.Step

open Cert.Reference28Ideal Read in
/-- The reference's results. -/
theorem Cert.Adam28.reference {p p' : FVec Ideal S4x3x704 .bf16} {w w' m m' v v' : FVec Ideal S3x704 .f32} (e : p' = p ∧ w' = w ∧ m' = m ∧ v' = v) :
    val_main_v1 (F := Ideal) p' = grad p ∧ val_main_v25 (F := Ideal) p' w' m' v' = changes p w m v ∧ val_main_v6 (F := Ideal) p' m' = firsts p m ∧ val_main_v12 (F := Ideal) p' v' = seconds p v := by
  obtain ⟨rfl, rfl, rfl, rfl⟩ := e
  have g : val_main_v1 (F := Ideal) p' = grad p' := funext fun i => by
    rw [val_main_v1_apply]
    exact (congrArg (· + _) bits_zero).trans ((zero_add _).trans (Finset.sum_congr rfl fun j _ => congrArg p' (funext fun a => by fin_cases a <;> rfl)))
  unfold val_main_v25 val_main_v23 val_main_v20 val_main_v19 val_main_v17 val_main_v16 val_main_v14 val_main_v6 val_main_v5 val_main_v12 val_main_v11 val_main_v9
  rw [g]
  exact ⟨rfl, rfl, rfl, rfl⟩

/-- Over the reals the kernel's results are the reference's. -/
theorem Cert.Adam28.values : Cert.algebraic_Kernel28Ideal_Reference28Ideal (hKernel28Ideal := Cert.Kernel28Ideal.Gen.facts)
    (hReference28Ideal := Cert.Reference28Ideal.Gen.facts) := fun m g m' g' _ e =>
  ⟨_, _, _, _, ends (Kernel28Ideal.Value.run_blocks m g) (Kernel28Ideal.Step.final m), ends (Reference28Ideal.Value.run m' g') fun c => reference (e c)⟩

end
-- ==== Proof.Adam29.lean ====
/- AdamW for the convolution weights of the SSD: the kernel's blocks are those of the sum of the parts and of the step. -/
module

public import proofs.«01_k».proof.Defs
public import proofs.«01_k».proof.Proof.Adam
public import proofs.«01_k».proof.Proof.Gen.Kernel29.Frame
public import proofs.«01_k».proof.Proof.Gen.Kernel29Ideal.Value
public import proofs.«01_k».proof.Proof.Gen.Reference29Ideal.Read

@[expose] public section

set_option maxRecDepth 16384

noncomputable section

open Idealize.ShloMosaic hiding ix2 ix3
open Idealize.ShloMosaic.TcCoe Idealize.ShloMosaic.Tactic Idealize.ShloMosaic.ValueIdx Idealize.SL.Sem
open Cert.Mul hiding ends
open Cert.Adam Cert.Kernel29Ideal.Gen Pipeline

namespace Cert.Kernel29Ideal.Step

/-- What a point writes out, from its blocks. -/
theorem outs (p : Vec Ideal S4x4x512 .bf16) (w m v : Vec Ideal S4x512 .f32) :
    out0_4 p w m v = grad p ∧ out0_5 p w m v = changes p w m v ∧ out0_6 p w m v = firsts p m ∧ out0_7 p w m v = seconds p v := by
  have g : k0_pay2 (F := Ideal) (View.ld p r0_0) (View.ld p r0_1) (View.ld p r0_2) (View.ld p r0_3) = grad p := added p _ _ _ _ _ _
  unfold out0_4 out0_5 out0_6 out0_7 k0_pay5 k0_pay6 k0_pay3 k0_pay4
  rw [canon_all, canon_all, canon_all, canon_all, ld_all, ld_all, ld_all, g]
  exact ⟨rfl, rfl, rfl, rfl⟩

theorem idx : ∀ t : Fin cfg0.N, win0_0.index t = ![0, 0, 0] ∧ win0_4.index t = ![0, 0] :=
  (by decide +kernel : ∀ t : Fin grid0.N, _)

variable (m : (ℓ : Loc nD τ sig) → Buf (Elt Ideal) ℓ) (c : Dev nD)

abbrev p : FVec Ideal S4x4x512 .bf16 := m ((c.tc : Thread nD τ).loc main_arg0)
abbrev w : FVec Ideal S4x512 .f32 := m ((c.tc : Thread nD τ).loc main_arg1)
abbrev a : FVec Ideal S4x512 .f32 := m ((c.tc : Thread nD τ).loc main_arg2)
abbrev b : FVec Ideal S4x512 .f32 := m ((c.tc : Thread nD τ).loc main_arg3)

/-- The result arrays after the run. -/
theorem final : (dats m 0 c).arrAt 4 cfg0.N = grad (p m c) ∧ (dats m 0 c).arrAt 5 cfg0.N = changes (p m c) (w m c) (a m c) (b m c)
    ∧ (dats m 0 c).arrAt 6 cfg0.N = firsts (p m c) (a m c) ∧ (dats m 0 c).arrAt 7 cfg0.N = seconds (p m c) (b m c) := by
  have s (t : Fin cfg0.N) (y : S4x512.Idx) := carried (p := p m c) (P := iblk m c 0 t) (w := w m c) (W := iblk m c 1 t) (m := a m c) (M := iblk m c 2 t) (v := b m c) (V := iblk m c 3 t)
    (i := ((cfg0.win 4).blk t).view.emb y) (y := y) (fun j => congrArg (p m c) (place (k := 0) (T := 4) _ _ (y 0).val (y 1).val
      (by blk_simp [(idx t).1]) (by blk_simp [(idx t).1]) (by blk_simp [(idx t).1]) (by blk_simp [(idx t).2]) (by blk_simp [(idx t).2]))) rfl rfl rfl
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩ <;> blk_simp
  · exact (congrFun ((after0_4 m c t).trans (outs _ _ _ _).1) y).trans (s t y).1
  · exact (congrFun ((after0_5 m c t).trans (outs _ _ _ _).2.1) y).trans (s t y).2.1
  · exact (congrFun ((after0_6 m c t).trans (outs _ _ _ _).2.2.1) y).trans (s t y).2.2.1
  · exact (congrFun ((after0_7 m c t).trans (outs _ _ _ _).2.2.2) y).trans (s t y).2.2.2

end Cert.Kernel29Ideal.Step

open Cert.Reference29Ideal Read in
/-- The reference's results. -/
theorem Cert.Adam29.reference {p p' : FVec Ideal S4x4x512 .bf16} {w w' m m' v v' : FVec Ideal S4x512 .f32} (e : p' = p ∧ w' = w ∧ m' = m ∧ v' = v) :
    val_main_v1 (F := Ideal) p' = grad p ∧ val_main_v25 (F := Ideal) p' w' m' v' = changes p w m v ∧ val_main_v6 (F := Ideal) p' m' = firsts p m ∧ val_main_v12 (F := Ideal) p' v' = seconds p v := by
  obtain ⟨rfl, rfl, rfl, rfl⟩ := e
  have g : val_main_v1 (F := Ideal) p' = grad p' := funext fun i => by
    rw [val_main_v1_apply]
    exact (congrArg (· + _) bits_zero).trans ((zero_add _).trans (Finset.sum_congr rfl fun j _ => congrArg p' (funext fun a => by fin_cases a <;> rfl)))
  unfold val_main_v25 val_main_v23 val_main_v20 val_main_v19 val_main_v17 val_main_v16 val_main_v14 val_main_v6 val_main_v5 val_main_v12 val_main_v11 val_main_v9
  rw [g]
  exact ⟨rfl, rfl, rfl, rfl⟩

/-- Over the reals the kernel's results are the reference's. -/
theorem Cert.Adam29.values : Cert.algebraic_Kernel29Ideal_Reference29Ideal (hKernel29Ideal := Cert.Kernel29Ideal.Gen.facts)
    (hReference29Ideal := Cert.Reference29Ideal.Gen.facts) := fun m g m' g' _ e =>
  ⟨_, _, _, _, ends (Kernel29Ideal.Value.run_blocks m g) (Kernel29Ideal.Step.final m), ends (Reference29Ideal.Value.run m' g') fun c => reference (e c)⟩

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.KernelFrame
public import proofs.«01_k».proof.Proof.KFrame
public import proofs.«01_k».proof.Proof.KFinal
public import proofs.«01_k».proof.Proof.RefFinal
public import proofs.«01_k».proof.Proof.Finite
public import proofs.«01_k».proof.Proof.Gen.ReferenceIdeal.Run
public import proofs.«01_k».proof.Proof.Gen.ReferenceIdeal.Read
public import proofs.«01_k».proof.Proof.Mul2
public import proofs.«01_k».proof.Proof.Mul3
public import proofs.«01_k».proof.Proof.Mul4
public import proofs.«01_k».proof.Proof.Mul5
public import proofs.«01_k».proof.Proof.Mul6
public import proofs.«01_k».proof.Proof.Mul7
public import proofs.«01_k».proof.Proof.Mul8
public import proofs.«01_k».proof.Proof.Mul9
public import proofs.«01_k».proof.Proof.Mul10
public import proofs.«01_k».proof.Proof.Mul11
public import proofs.«01_k».proof.Proof.Mul12
public import proofs.«01_k».proof.Proof.Mul13
public import proofs.«01_k».proof.Proof.Mul14
public import proofs.«01_k».proof.Proof.Mul15
public import proofs.«01_k».proof.Proof.Mul16
public import proofs.«01_k».proof.Proof.Mul17
public import proofs.«01_k».proof.Proof.Mul18
public import proofs.«01_k».proof.Proof.Mul19
public import proofs.«01_k».proof.Proof.Mul20
public import proofs.«01_k».proof.Proof.Adam21
public import proofs.«01_k».proof.Proof.Adam22
public import proofs.«01_k».proof.Proof.Adam23
public import proofs.«01_k».proof.Proof.Adam24
public import proofs.«01_k».proof.Proof.Adam25
public import proofs.«01_k».proof.Proof.Adam26
public import proofs.«01_k».proof.Proof.Adam27
public import proofs.«01_k».proof.Proof.Adam28
public import proofs.«01_k».proof.Proof.Adam29
public import Idealize.ShloMosaic.Adequacy
public import Idealize.ShloMosaic.Init

@[expose] public section

noncomputable section

namespace Cert.Proof

open Idealize.ShloMosaic Idealize.SL.Sem Cert.Finite

/-- `Cert.algebraic_KernelIdeal_ReferenceIdeal_pre_finite`: both runs end with the gradients' arrays. -/
theorem values : Cert.algebraic_KernelIdeal_ReferenceIdeal_pre_finite (hKernelIdeal := Cert.KernelIdeal.Gen.facts)
    (hReferenceIdeal := Cert.ReferenceIdeal.Gen.facts) (hPre_finite := Cert.Finite.facts) := by
  intro m g m' g' hpre hagree
  have A := fun c : Dev Cert.KernelIdeal.nD => Cert.Finite.args _ _ _ (hpre c)
  have K := Cert.KernelIdeal.Val.results g _ _ _ fun c => Cert.Finite.kargs m c _ _ _ (A c)
  have R := Cert.ReferenceIdeal.Ref.results (m := m') g' (fun c => Cert.Finite.mat (m ((c.tc : Thread Cert.KernelIdeal.nD Cert.KernelIdeal.τ).loc Cert.KernelIdeal.main_arg0)))
    (fun c => Cert.Finite.mat (m ((c.tc : Thread Cert.KernelIdeal.nD Cert.KernelIdeal.τ).loc Cert.KernelIdeal.main_arg2)))
    (fun c => Cert.Finite.vect (m ((c.tc : Thread Cert.KernelIdeal.nD Cert.KernelIdeal.τ).loc Cert.KernelIdeal.main_arg1))) fun c => by
      rw [(hagree c).1, (hagree c).2.1, (hagree c).2.2]
      exact A c
  exact ⟨_, _, _, _, K, R⟩

/-- A run that ends with the results and the arguments unchanged, in a program without semaphores, is a frame. -/
theorem host {nD : ℕ} {τ : Topo} {sig : RefSig} {Val : EltTy → Type} {Λ : Labels} {defs : Defs nD τ sig Val Λ}
    {p : (c : Thread nD τ) → Prog (TpuEff nD τ sig Val Λ c.2) PUnit} {s : MemSt nD τ sig Val} {A B : PUnit × MemSt nD τ sig Val → Dev nD → Prop}
    (z : sig.nSem + sig.nDmaSem = 0) (h : θ_run defs p s fun r => ∀ c, A r c) (f : ∀ r c, A r c → B r c) : θ_run defs p s fun r => (∀ c, B r c) ∧ r.2.sem = fun _ => 0 :=
  (θ_run _ _ _).mono (fun r h => ⟨fun c => f r c (h c), sem_eq_zero_of_no_sems z r.2⟩) h

/-- Everything claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Finite.facts,
    fun m ρ _ => Cert.Kernel.frame m ρ, fun m ρ _ => Cert.KernelIdeal.Gen.frame m ρ, fun m ρ _ => Cert.KernelIdeal.Gen.frame m ρ,
    fun m ρ _ => Cert.ReferenceIdeal.Ref.frame m ρ, fun m ρ _ => Cert.ReferenceIdeal.Ref.frame m ρ,
    fun m ρ _ => Cert.Kernel2.Gen.frame m ρ, fun m ρ _ => Cert.Kernel2Ideal.Gen.frame m ρ, fun m ρ _ => host (by decide) (Cert.Reference2Ideal.Value.run m ρ) fun _ _ h => h.2,
    fun m ρ _ => Cert.Kernel3.Gen.frame m ρ, fun m ρ _ => Cert.Kernel3Ideal.Gen.frame m ρ, fun m ρ _ => host (by decide) (Cert.Reference3Ideal.Value.run m ρ) fun _ _ h => h.2,
    fun m ρ _ => Cert.Kernel4.Gen.frame m ρ, fun m ρ _ => Cert.Kernel4Ideal.Gen.frame m ρ, fun m ρ _ => host (by decide) (Cert.Reference4Ideal.Value.run m ρ) fun _ _ h => h.2,
    fun m ρ _ => Cert.Kernel5.Gen.frame m ρ, fun m ρ _ => Cert.Kernel5Ideal.Gen.frame m ρ, fun m ρ _ => host (by decide) (Cert.Reference5Ideal.Value.run m ρ) fun _ _ h => h.2,
    fun m ρ _ => Cert.Kernel6.Gen.frame m ρ, fun m ρ _ => Cert.Kernel6Ideal.Gen.frame m ρ, fun m ρ _ => host (by decide) (Cert.Reference6Ideal.Value.run m ρ) fun _ _ h => h.2,
    fun m ρ _ => Cert.Kernel7.Gen.frame m ρ, fun m ρ _ => Cert.Kernel7Ideal.Gen.frame m ρ, fun m ρ _ => host (by decide) (Cert.Reference7Ideal.Value.run m ρ) fun _ _ h => h.2,
    fun m ρ _ => Cert.Kernel8.Gen.frame m ρ, fun m ρ _ => Cert.Kernel8Ideal.Gen.frame m ρ, fun m ρ _ => host (by decide) (Cert.Reference8Ideal.Value.run m ρ) fun _ _ h => h.2,
    fun m ρ _ => Cert.Kernel9.Gen.frame m ρ, fun m ρ _ => Cert.Kernel9Ideal.Gen.frame m ρ, fun m ρ _ => host (by decide) (Cert.Reference9Ideal.Value.run m ρ) fun _ _ h => h.2,
    fun m ρ _ => Cert.Kernel10.Gen.frame m ρ, fun m ρ _ => Cert.Kernel10Ideal.Gen.frame m ρ, fun m ρ _ => host (by decide) (Cert.Reference10Ideal.Value.run m ρ) fun _ _ h => h.2,
    fun m ρ _ => Cert.Kernel11.Gen.frame m ρ, fun m ρ _ => Cert.Kernel11Ideal.Gen.frame m ρ, fun m ρ _ => host (by decide) (Cert.Reference11Ideal.Value.run m ρ) fun _ _ h => h.2,
    fun m ρ _ => Cert.Kernel12.Gen.frame m ρ, fun m ρ _ => Cert.Kernel12Ideal.Gen.frame m ρ, fun m ρ _ => host (by decide) (Cert.Reference12Ideal.Value.run m ρ) fun _ _ h => h.2,
    fun m ρ _ => Cert.Kernel13.Gen.frame m ρ, fun m ρ _ => Cert.Kernel13Ideal.Gen.frame m ρ, fun m ρ _ => host (by decide) (Cert.Reference13Ideal.Value.run m ρ) fun _ _ h => h.2,
    fun m ρ _ => Cert.Kernel14.Gen.frame m ρ, fun m ρ _ => Cert.Kernel14Ideal.Gen.frame m ρ, fun m ρ _ => host (by decide) (Cert.Reference14Ideal.Value.run m ρ) fun _ _ h => h.2,
    fun m ρ _ => Cert.Kernel15.Gen.frame m ρ, fun m ρ _ => Cert.Kernel15Ideal.Gen.frame m ρ, fun m ρ _ => host (by decide) (Cert.Reference15Ideal.Value.run m ρ) fun _ _ h => h.2,
    fun m ρ _ => Cert.Kernel16.Gen.frame m ρ, fun m ρ _ => Cert.Kernel16Ideal.Gen.frame m ρ, fun m ρ _ => host (by decide) (Cert.Reference16Ideal.Value.run m ρ) fun _ _ h => h.2,
    fun m ρ _ => Cert.Kernel17.Gen.frame m ρ, fun m ρ _ => Cert.Kernel17Ideal.Gen.frame m ρ, fun m ρ _ => host (by decide) (Cert.Reference17Ideal.Value.run m ρ) fun _ _ h => h.2,
    fun m ρ _ => Cert.Kernel18.Gen.frame m ρ, fun m ρ _ => Cert.Kernel18Ideal.Gen.frame m ρ, fun m ρ _ => host (by decide) (Cert.Reference18Ideal.Value.run m ρ) fun _ _ h => h.2,
    fun m ρ _ => Cert.Kernel19.Gen.frame m ρ, fun m ρ _ => Cert.Kernel19Ideal.Gen.frame m ρ, fun m ρ _ => host (by decide) (Cert.Reference19Ideal.Value.run m ρ) fun _ _ h => h.2,
    fun m ρ _ => Cert.Kernel20.Gen.frame m ρ, fun m ρ _ => Cert.Kernel20Ideal.Gen.frame m ρ, fun m ρ _ => host (by decide) (Cert.Reference20Ideal.Value.run m ρ) fun _ _ h => h.2,
    fun m ρ _ => Cert.Kernel21.Gen.frame m ρ, fun m ρ _ => Cert.Kernel21Ideal.Gen.frame m ρ, fun m ρ _ => host (by decide) (Cert.Reference21Ideal.Value.run m ρ) fun _ _ h => h.2.2.2.2,
    fun m ρ _ => Cert.Kernel22.Gen.frame m ρ, fun m ρ _ => Cert.Kernel22Ideal.Gen.frame m ρ, fun m ρ _ => host (by decide) (Cert.Reference22Ideal.Value.run m ρ) fun _ _ h => h.2.2.2.2,
    fun m ρ _ => Cert.Kernel23.Gen.frame m ρ, fun m ρ _ => Cert.Kernel23Ideal.Gen.frame m ρ, fun m ρ _ => host (by decide) (Cert.Reference23Ideal.Value.run m ρ) fun _ _ h => h.2.2.2.2,
    fun m ρ _ => Cert.Kernel24.Gen.frame m ρ, fun m ρ _ => Cert.Kernel24Ideal.Gen.frame m ρ, fun m ρ _ => host (by decide) (Cert.Reference24Ideal.Value.run m ρ) fun _ _ h => h.2.2.2.2,
    fun m ρ _ => Cert.Kernel25.Gen.frame m ρ, fun m ρ _ => Cert.Kernel25Ideal.Gen.frame m ρ, fun m ρ _ => host (by decide) (Cert.Reference25Ideal.Value.run m ρ) fun _ _ h => h.2.2.2.2,
    fun m ρ _ => Cert.Kernel26.Gen.frame m ρ, fun m ρ _ => Cert.Kernel26Ideal.Gen.frame m ρ, fun m ρ _ => host (by decide) (Cert.Reference26Ideal.Value.run m ρ) fun _ _ h => h.2.2.2.2,
    fun m ρ _ => Cert.Kernel27.Gen.frame m ρ, fun m ρ _ => Cert.Kernel27Ideal.Gen.frame m ρ, fun m ρ _ => host (by decide) (Cert.Reference27Ideal.Value.run m ρ) fun _ _ h => h.2.2.2.2,
    fun m ρ _ => Cert.Kernel28.Gen.frame m ρ, fun m ρ _ => Cert.Kernel28Ideal.Gen.frame m ρ, fun m ρ _ => host (by decide) (Cert.Reference28Ideal.Value.run m ρ) fun _ _ h => h.2.2.2.2,
    fun m ρ _ => Cert.Kernel29.Gen.frame m ρ, fun m ρ _ => Cert.Kernel29Ideal.Gen.frame m ρ, fun m ρ _ => host (by decide) (Cert.Reference29Ideal.Value.run m ρ) fun _ _ h => h.2.2.2.2,
    trivial, values,
    trivial, Cert.Mul2.values, trivial, Cert.Mul3.values, trivial, Cert.Mul4.values, trivial, Cert.Mul5.values, trivial, Cert.Mul6.values,
    trivial, Cert.Mul7.values, trivial, Cert.Mul8.values, trivial, Cert.Mul9.values, trivial, Cert.Mul10.values, trivial, Cert.Mul11.values,
    trivial, Cert.Mul12.values, trivial, Cert.Mul13.values, trivial, Cert.Mul14.values, trivial, Cert.Mul15.values, trivial, Cert.Mul16.values,
    trivial, Cert.Mul17.values, trivial, Cert.Mul18.values, trivial, Cert.Mul19.values, trivial, Cert.Mul20.values,
    trivial, Cert.Adam21.values, trivial, Cert.Adam22.values, trivial, Cert.Adam23.values, trivial, Cert.Adam24.values, trivial, Cert.Adam25.values,
    trivial, Cert.Adam26.values, trivial, Cert.Adam27.values, trivial, Cert.Adam28.values, trivial, Cert.Adam29.values⟩

end Cert.Proof

end
